-- ==== Defs.lean ====
def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_attn_finite [hPre_attn_finite : Cert.Pre_attn_finite.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))) = (fun _ => 1#1)

def Pre_AttnBwdRefIdeal (m : (ℓ : Loc Cert.AttnBwdRefIdeal.nD Cert.AttnBwdRefIdeal.τ Cert.AttnBwdRefIdeal.sig) → Buf (Elt Ideal) ℓ) : Prop :=
  True

def Pre_AttnBwdRefIdeal_attn_finite [hPre_attn_finite : Cert.Pre_attn_finite.Facts] (m : (ℓ : Loc Cert.AttnBwdRefIdeal.nD Cert.AttnBwdRefIdeal.τ Cert.AttnBwdRefIdeal.sig) → Buf (Elt Ideal) ℓ) : Prop :=
  ∀ c : Dev Cert.AttnBwdRefIdeal.nD,
    (Cert.Pre_attn_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3))) = (fun _ => 1#1)

def Pre_LnSilu (m : (ℓ : Loc Cert.LnSilu.nD Cert.LnSilu.τ Cert.LnSilu.sig) → Buf (Elt Bits) ℓ) : Prop :=
  True

def Pre_LnSiluIdeal (m : (ℓ : Loc Cert.LnSiluIdeal.nD Cert.LnSiluIdeal.τ Cert.LnSiluIdeal.sig) → Buf (Elt Ideal) ℓ) : Prop :=
  True

def Pre_LnSiluIdeal_ln_silu_finite [hPre_ln_silu_finite : Cert.Pre_ln_silu_finite.Facts] (m : (ℓ : Loc Cert.LnSiluIdeal.nD Cert.LnSiluIdeal.τ Cert.LnSiluIdeal.sig) → Buf (Elt Ideal) ℓ) : Prop :=
  ∀ c : Dev Cert.LnSiluIdeal.nD,
    (Cert.Pre_ln_silu_finite.fn (F := Ideal) (m ((c.tc : Thread Cert.LnSiluIdeal.nD Cert.LnSiluIdeal.τ).loc Cert.LnSiluIdeal.main_arg0)) (m ((c.tc : Thread Cert.LnSiluIdeal.nD Cert.LnSiluIdeal.τ).loc Cert.LnSiluIdeal.main_arg1)) (m ((c.tc : Thread Cert.LnSiluIdeal.nD Cert.LnSiluIdeal.τ).loc Cert.LnSiluIdeal.main_arg2)) (m ((c.tc : Thread Cert.LnSiluIdeal.nD Cert.LnSiluIdeal.τ).loc Cert.LnSiluIdeal.main_arg3))) = (fun _ => 1#1)

def Pre_LnSiluRefIdeal (m : (ℓ : Loc Cert.LnSiluRefIdeal.nD Cert.LnSiluRefIdeal.τ Cert.LnSiluRefIdeal.sig) → Buf (Elt Ideal) ℓ) : Prop :=
  True

def Pre_LnSiluRefIdeal_ln_silu_finite [hPre_ln_silu_finite : Cert.Pre_ln_silu_finite.Facts] (m : (ℓ : Loc Cert.LnSiluRefIdeal.nD Cert.LnSiluRefIdeal.τ Cert.LnSiluRefIdeal.sig) → Buf (Elt Ideal) ℓ) : Prop :=
  ∀ c : Dev Cert.LnSiluRefIdeal.nD,
    (Cert.Pre_ln_silu_finite.fn (F := Ideal) (m ((c.tc : Thread Cert.LnSiluRefIdeal.nD Cert.LnSiluRefIdeal.τ).loc Cert.LnSiluRefIdeal.main_arg0)) (m ((c.tc : Thread Cert.LnSiluRefIdeal.nD Cert.LnSiluRefIdeal.τ).loc Cert.LnSiluRefIdeal.main_arg1)) (m ((c.tc : Thread Cert.LnSiluRefIdeal.nD Cert.LnSiluRefIdeal.τ).loc Cert.LnSiluRefIdeal.main_arg2)) (m ((c.tc : Thread Cert.LnSiluRefIdeal.nD Cert.LnSiluRefIdeal.τ).loc Cert.LnSiluRefIdeal.main_arg3))) = (fun _ => 1#1)

def Pre_Rms2 (m : (ℓ : Loc Cert.Rms2.nD Cert.Rms2.τ Cert.Rms2.sig) → Buf (Elt Bits) ℓ) : Prop :=
  True

def Pre_Rms2Ideal (m : (ℓ : Loc Cert.Rms2Ideal.nD Cert.Rms2Ideal.τ Cert.Rms2Ideal.sig) → Buf (Elt Ideal) ℓ) : Prop :=
  True

def Pre_Rms2Ideal_rms2_finite [hPre_rms2_finite : Cert.Pre_rms2_finite.Facts] (m : (ℓ : Loc Cert.Rms2Ideal.nD Cert.Rms2Ideal.τ Cert.Rms2Ideal.sig) → Buf (Elt Ideal) ℓ) : Prop :=
  ∀ c : Dev Cert.Rms2Ideal.nD,
    (Cert.Pre_rms2_finite.fn (F := Ideal) (m ((c.tc : Thread Cert.Rms2Ideal.nD Cert.Rms2Ideal.τ).loc Cert.Rms2Ideal.main_arg0)) (m ((c.tc : Thread Cert.Rms2Ideal.nD Cert.Rms2Ideal.τ).loc Cert.Rms2Ideal.main_arg1)) (m ((c.tc : Thread Cert.Rms2Ideal.nD Cert.Rms2Ideal.τ).loc Cert.Rms2Ideal.main_arg2)) (m ((c.tc : Thread Cert.Rms2Ideal.nD Cert.Rms2Ideal.τ).loc Cert.Rms2Ideal.main_arg3)) (m ((c.tc : Thread Cert.Rms2Ideal.nD Cert.Rms2Ideal.τ).loc Cert.Rms2Ideal.main_arg4)) (m ((c.tc : Thread Cert.Rms2Ideal.nD Cert.Rms2Ideal.τ).loc Cert.Rms2Ideal.main_arg5))) = (fun _ => 1#1)

def Pre_Rms2RefIdeal (m : (ℓ : Loc Cert.Rms2RefIdeal.nD Cert.Rms2RefIdeal.τ Cert.Rms2RefIdeal.sig) → Buf (Elt Ideal) ℓ) : Prop :=
  True

def Pre_Rms2RefIdeal_rms2_finite [hPre_rms2_finite : Cert.Pre_rms2_finite.Facts] (m : (ℓ : Loc Cert.Rms2RefIdeal.nD Cert.Rms2RefIdeal.τ Cert.Rms2RefIdeal.sig) → Buf (Elt Ideal) ℓ) : Prop :=
  ∀ c : Dev Cert.Rms2RefIdeal.nD,
    (Cert.Pre_rms2_finite.fn (F := Ideal) (m ((c.tc : Thread Cert.Rms2RefIdeal.nD Cert.Rms2RefIdeal.τ).loc Cert.Rms2RefIdeal.main_arg0)) (m ((c.tc : Thread Cert.Rms2RefIdeal.nD Cert.Rms2RefIdeal.τ).loc Cert.Rms2RefIdeal.main_arg1)) (m ((c.tc : Thread Cert.Rms2RefIdeal.nD Cert.Rms2RefIdeal.τ).loc Cert.Rms2RefIdeal.main_arg2)) (m ((c.tc : Thread Cert.Rms2RefIdeal.nD Cert.Rms2RefIdeal.τ).loc Cert.Rms2RefIdeal.main_arg3)) (m ((c.tc : Thread Cert.Rms2RefIdeal.nD Cert.Rms2RefIdeal.τ).loc Cert.Rms2RefIdeal.main_arg4)) (m ((c.tc : Thread Cert.Rms2RefIdeal.nD Cert.Rms2RefIdeal.τ).loc Cert.Rms2RefIdeal.main_arg5))) = (fun _ => 1#1)

def Pre_Rms5 (m : (ℓ : Loc Cert.Rms5.nD Cert.Rms5.τ Cert.Rms5.sig) → Buf (Elt Bits) ℓ) : Prop :=
  True

def Pre_Rms5Ideal (m : (ℓ : Loc Cert.Rms5Ideal.nD Cert.Rms5Ideal.τ Cert.Rms5Ideal.sig) → Buf (Elt Ideal) ℓ) : Prop :=
  True

def Pre_Rms5Ideal_rms5_finite [hPre_rms5_finite : Cert.Pre_rms5_finite.Facts] (m : (ℓ : Loc Cert.Rms5Ideal.nD Cert.Rms5Ideal.τ Cert.Rms5Ideal.sig) → Buf (Elt Ideal) ℓ) : Prop :=
  ∀ c : Dev Cert.Rms5Ideal.nD,
    (Cert.Pre_rms5_finite.fn (F := Ideal) (m ((c.tc : Thread Cert.Rms5Ideal.nD Cert.Rms5Ideal.τ).loc Cert.Rms5Ideal.main_arg0)) (m ((c.tc : Thread Cert.Rms5Ideal.nD Cert.Rms5Ideal.τ).loc Cert.Rms5Ideal.main_arg1)) (m ((c.tc : Thread Cert.Rms5Ideal.nD Cert.Rms5Ideal.τ).loc Cert.Rms5Ideal.main_arg2)) (m ((c.tc : Thread Cert.Rms5Ideal.nD Cert.Rms5Ideal.τ).loc Cert.Rms5Ideal.main_arg3)) (m ((c.tc : Thread Cert.Rms5Ideal.nD Cert.Rms5Ideal.τ).loc Cert.Rms5Ideal.main_arg4)) (m ((c.tc : Thread Cert.Rms5Ideal.nD Cert.Rms5Ideal.τ).loc Cert.Rms5Ideal.main_arg5)) (m ((c.tc : Thread Cert.Rms5Ideal.nD Cert.Rms5Ideal.τ).loc Cert.Rms5Ideal.main_arg6)) (m ((c.tc : Thread Cert.Rms5Ideal.nD Cert.Rms5Ideal.τ).loc Cert.Rms5Ideal.main_arg7)) (m ((c.tc : Thread Cert.Rms5Ideal.nD Cert.Rms5Ideal.τ).loc Cert.Rms5Ideal.main_arg8))) = (fun _ => 1#1)

def Pre_Rms5RefIdeal (m : (ℓ : Loc Cert.Rms5RefIdeal.nD Cert.Rms5RefIdeal.τ Cert.Rms5RefIdeal.sig) → Buf (Elt Ideal) ℓ) : Prop :=
  True

def Pre_Rms5RefIdeal_rms5_finite [hPre_rms5_finite : Cert.Pre_rms5_finite.Facts] (m : (ℓ : Loc Cert.Rms5RefIdeal.nD Cert.Rms5RefIdeal.τ Cert.Rms5RefIdeal.sig) → Buf (Elt Ideal) ℓ) : Prop :=
  ∀ c : Dev Cert.Rms5RefIdeal.nD,
    (Cert.Pre_rms5_finite.fn (F := Ideal) (m ((c.tc : Thread Cert.Rms5RefIdeal.nD Cert.Rms5RefIdeal.τ).loc Cert.Rms5RefIdeal.main_arg0)) (m ((c.tc : Thread Cert.Rms5RefIdeal.nD Cert.Rms5RefIdeal.τ).loc Cert.Rms5RefIdeal.main_arg1)) (m ((c.tc : Thread Cert.Rms5RefIdeal.nD Cert.Rms5RefIdeal.τ).loc Cert.Rms5RefIdeal.main_arg2)) (m ((c.tc : Thread Cert.Rms5RefIdeal.nD Cert.Rms5RefIdeal.τ).loc Cert.Rms5RefIdeal.main_arg3)) (m ((c.tc : Thread Cert.Rms5RefIdeal.nD Cert.Rms5RefIdeal.τ).loc Cert.Rms5RefIdeal.main_arg4)) (m ((c.tc : Thread Cert.Rms5RefIdeal.nD Cert.Rms5RefIdeal.τ).loc Cert.Rms5RefIdeal.main_arg5)) (m ((c.tc : Thread Cert.Rms5RefIdeal.nD Cert.Rms5RefIdeal.τ).loc Cert.Rms5RefIdeal.main_arg6)) (m ((c.tc : Thread Cert.Rms5RefIdeal.nD Cert.Rms5RefIdeal.τ).loc Cert.Rms5RefIdeal.main_arg7)) (m ((c.tc : Thread Cert.Rms5RefIdeal.nD Cert.Rms5RefIdeal.τ).loc Cert.Rms5RefIdeal.main_arg8))) = (fun _ => 1#1)

def Pre_LossGrad (m : (ℓ : Loc Cert.LossGrad.nD Cert.LossGrad.τ Cert.LossGrad.sig) → Buf (Elt Bits) ℓ) : Prop :=
  True

def Pre_LossGradIdeal (m : (ℓ : Loc Cert.LossGradIdeal.nD Cert.LossGradIdeal.τ Cert.LossGradIdeal.sig) → Buf (Elt Ideal) ℓ) : Prop :=
  True

def Pre_LossGradRefIdeal (m : (ℓ : Loc Cert.LossGradRefIdeal.nD Cert.LossGradRefIdeal.τ Cert.LossGradRefIdeal.sig) → Buf (Elt Ideal) ℓ) : Prop :=
  True

def Pre_FfnAct (m : (ℓ : Loc Cert.FfnAct.nD Cert.FfnAct.τ Cert.FfnAct.sig) → Buf (Elt Bits) ℓ) : Prop :=
  True

def Pre_FfnActIdeal (m : (ℓ : Loc Cert.FfnActIdeal.nD Cert.FfnActIdeal.τ Cert.FfnActIdeal.sig) → Buf (Elt Ideal) ℓ) : Prop :=
  True

def Pre_FfnActIdeal_ffn_finite [hPre_ffn_finite : Cert.Pre_ffn_finite.Facts] (m : (ℓ : Loc Cert.FfnActIdeal.nD Cert.FfnActIdeal.τ Cert.FfnActIdeal.sig) → Buf (Elt Ideal) ℓ) : Prop :=
  ∀ c : Dev Cert.FfnActIdeal.nD,
    (Cert.Pre_ffn_finite.fn (F := Ideal) (m ((c.tc : Thread Cert.FfnActIdeal.nD Cert.FfnActIdeal.τ).loc Cert.FfnActIdeal.main_arg0)) (m ((c.tc : Thread Cert.FfnActIdeal.nD Cert.FfnActIdeal.τ).loc Cert.FfnActIdeal.main_arg1)) (m ((c.tc : Thread Cert.FfnActIdeal.nD Cert.FfnActIdeal.τ).loc Cert.FfnActIdeal.main_arg2)) (m ((c.tc : Thread Cert.FfnActIdeal.nD Cert.FfnActIdeal.τ).loc Cert.FfnActIdeal.main_arg3))) = (fun _ => 1#1)

def Pre_FfnActRefIdeal (m : (ℓ : Loc Cert.FfnActRefIdeal.nD Cert.FfnActRefIdeal.τ Cert.FfnActRefIdeal.sig) → Buf (Elt Ideal) ℓ) : Prop :=
  True

def Pre_FfnActRefIdeal_ffn_finite [hPre_ffn_finite : Cert.Pre_ffn_finite.Facts] (m : (ℓ : Loc Cert.FfnActRefIdeal.nD Cert.FfnActRefIdeal.τ Cert.FfnActRefIdeal.sig) → Buf (Elt Ideal) ℓ) : Prop :=
  ∀ c : Dev Cert.FfnActRefIdeal.nD,
    (Cert.Pre_ffn_finite.fn (F := Ideal) (m ((c.tc : Thread Cert.FfnActRefIdeal.nD Cert.FfnActRefIdeal.τ).loc Cert.FfnActRefIdeal.main_arg0)) (m ((c.tc : Thread Cert.FfnActRefIdeal.nD Cert.FfnActRefIdeal.τ).loc Cert.FfnActRefIdeal.main_arg1)) (m ((c.tc : Thread Cert.FfnActRefIdeal.nD Cert.FfnActRefIdeal.τ).loc Cert.FfnActRefIdeal.main_arg2)) (m ((c.tc : Thread Cert.FfnActRefIdeal.nD Cert.FfnActRefIdeal.τ).loc Cert.FfnActRefIdeal.main_arg3))) = (fun _ => 1#1)

def Pre_GluConv (m : (ℓ : Loc Cert.GluConv.nD Cert.GluConv.τ Cert.GluConv.sig) → Buf (Elt Bits) ℓ) : Prop :=
  True

def Pre_GluConvIdeal (m : (ℓ : Loc Cert.GluConvIdeal.nD Cert.GluConvIdeal.τ Cert.GluConvIdeal.sig) → Buf (Elt Ideal) ℓ) : Prop :=
  True

def Pre_GluConvRefIdeal (m : (ℓ : Loc Cert.GluConvRefIdeal.nD Cert.GluConvRefIdeal.τ Cert.GluConvRefIdeal.sig) → Buf (Elt Ideal) ℓ) : Prop :=
  True

def Pre_LnFwd (m : (ℓ : Loc Cert.LnFwd.nD Cert.LnFwd.τ Cert.LnFwd.sig) → Buf (Elt Bits) ℓ) : Prop :=
  True

def Pre_LnFwdIdeal (m : (ℓ : Loc Cert.LnFwdIdeal.nD Cert.LnFwdIdeal.τ Cert.LnFwdIdeal.sig) → Buf (Elt Ideal) ℓ) : Prop :=
  True

def Pre_LnFwdRefIdeal (m : (ℓ : Loc Cert.LnFwdRefIdeal.nD Cert.LnFwdRefIdeal.τ Cert.LnFwdRefIdeal.sig) → Buf (Elt Ideal) ℓ) : Prop :=
  True

def Pre_NormUp (m : (ℓ : Loc Cert.NormUp.nD Cert.NormUp.τ Cert.NormUp.sig) → Buf (Elt Bits) ℓ) : Prop :=
  True

def Pre_NormUpIdeal (m : (ℓ : Loc Cert.NormUpIdeal.nD Cert.NormUpIdeal.τ Cert.NormUpIdeal.sig) → Buf (Elt Ideal) ℓ) : Prop :=
  True

def Pre_NormUpRefIdeal (m : (ℓ : Loc Cert.NormUpRefIdeal.nD Cert.NormUpRefIdeal.τ Cert.NormUpRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_GluFwd (m : (ℓ : Loc Cert.GluFwd.nD Cert.GluFwd.τ Cert.GluFwd.sig) → Buf (Elt Bits) ℓ) : Prop :=
  True

def Pre_GluFwdIdeal (m : (ℓ : Loc Cert.GluFwdIdeal.nD Cert.GluFwdIdeal.τ Cert.GluFwdIdeal.sig) → Buf (Elt Ideal) ℓ) : Prop :=
  True

def Pre_GluFwdRefIdeal (m : (ℓ : Loc Cert.GluFwdRefIdeal.nD Cert.GluFwdRefIdeal.τ Cert.GluFwdRefIdeal.sig) → Buf (Elt Ideal) ℓ) : Prop :=
  True

def Pre_MatRes (m : (ℓ : Loc Cert.MatRes.nD Cert.MatRes.τ Cert.MatRes.sig) → Buf (Elt Bits) ℓ) : Prop :=
  True

def Pre_MatResIdeal (m : (ℓ : Loc Cert.MatResIdeal.nD Cert.MatResIdeal.τ Cert.MatResIdeal.sig) → Buf (Elt Ideal) ℓ) : Prop :=
  True

def Pre_MatResRefIdeal (m : (ℓ : Loc Cert.MatResRefIdeal.nD Cert.MatResRefIdeal.τ Cert.MatResRefIdeal.sig) → Buf (Elt Ideal) ℓ) : Prop :=
  True

def Pre_MatNt (m : (ℓ : Loc Cert.MatNt.nD Cert.MatNt.τ Cert.MatNt.sig) → Buf (Elt Bits) ℓ) : Prop :=
  True

def Pre_MatNtIdeal (m : (ℓ : Loc Cert.MatNtIdeal.nD Cert.MatNtIdeal.τ Cert.MatNtIdeal.sig) → Buf (Elt Ideal) ℓ) : Prop :=
  True

def Pre_MatNtRefIdeal (m : (ℓ : Loc Cert.MatNtRefIdeal.nD Cert.MatNtRefIdeal.τ Cert.MatNtRefIdeal.sig) → Buf (Elt Ideal) ℓ) : Prop :=
  True

def Pre_AdamW (m : (ℓ : Loc Cert.AdamW.nD Cert.AdamW.τ Cert.AdamW.sig) → Buf (Elt Bits) ℓ) : Prop :=
  True

def Pre_AdamWIdeal (m : (ℓ : Loc Cert.AdamWIdeal.nD Cert.AdamWIdeal.τ Cert.AdamWIdeal.sig) → Buf (Elt Ideal) ℓ) : Prop :=
  True

def Pre_AdamWRefIdeal (m : (ℓ : Loc Cert.AdamWRefIdeal.nD Cert.AdamWRefIdeal.τ Cert.AdamWRefIdeal.sig) → Buf (Elt Ideal) ℓ) : Prop :=
  True

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnBwdIdeal_pre_attn_finite [hAttnBwdIdeal : Cert.AttnBwdIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_attn_finite m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3))
      ∧ r.2.sem = fun _ => 0)

def quiescent_AttnBwdRefIdeal_pre_attn_finite [hAttnBwdRefIdeal : Cert.AttnBwdRefIdeal.Facts] [hPre_attn_finite : Cert.Pre_attn_finite.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal_attn_finite m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3))
      ∧ r.2.sem = fun _ => 0)

def quiescent_LnSilu [hLnSilu : Cert.LnSilu.Facts] : Prop :=
  ∀ (m : (ℓ : Loc Cert.LnSilu.nD Cert.LnSilu.τ Cert.LnSilu.sig) → Buf (Elt Bits) ℓ) (g : Dev Cert.LnSilu.nD → PrngReg), Pre_LnSilu m →
    θ_run (Cert.LnSilu.defs (F := Bits)) (onTc (τ := Cert.LnSilu.τ) (Cert.LnSilu.main (F := Bits))) ⟨m, fun _ => 0, g⟩ (fun r => (∀ c : Dev Cert.LnSilu.nD,
      r.2.mem ((c.tc : Thread Cert.LnSilu.nD Cert.LnSilu.τ).loc Cert.LnSilu.main_arg0) = m ((c.tc : Thread Cert.LnSilu.nD Cert.LnSilu.τ).loc Cert.LnSilu.main_arg0)
      ∧ r.2.mem ((c.tc : Thread Cert.LnSilu.nD Cert.LnSilu.τ).loc Cert.LnSilu.main_arg1) = m ((c.tc : Thread Cert.LnSilu.nD Cert.LnSilu.τ).loc Cert.LnSilu.main_arg1)
      ∧ r.2.mem ((c.tc : Thread Cert.LnSilu.nD Cert.LnSilu.τ).loc Cert.LnSilu.main_arg2) = m ((c.tc : Thread Cert.LnSilu.nD Cert.LnSilu.τ).loc Cert.LnSilu.main_arg2)
      ∧ r.2.mem ((c.tc : Thread Cert.LnSilu.nD Cert.LnSilu.τ).loc Cert.LnSilu.main_arg3) = m ((c.tc : Thread Cert.LnSilu.nD Cert.LnSilu.τ).loc Cert.LnSilu.main_arg3))
      ∧ r.2.sem = fun _ => 0)

def quiescent_LnSiluIdeal [hLnSiluIdeal : Cert.LnSiluIdeal.Facts] : Prop :=
  ∀ (m : (ℓ : Loc Cert.LnSiluIdeal.nD Cert.LnSiluIdeal.τ Cert.LnSiluIdeal.sig) → Buf (Elt Ideal) ℓ) (g : Dev Cert.LnSiluIdeal.nD → PrngReg), Pre_LnSiluIdeal m →
    θ_run (Cert.LnSiluIdeal.defs (F := Ideal)) (onTc (τ := Cert.LnSiluIdeal.τ) (Cert.LnSiluIdeal.main (F := Ideal))) ⟨m, fun _ => 0, g⟩ (fun r => (∀ c : Dev Cert.LnSiluIdeal.nD,
      r.2.mem ((c.tc : Thread Cert.LnSiluIdeal.nD Cert.LnSiluIdeal.τ).loc Cert.LnSiluIdeal.main_arg0) = m ((c.tc : Thread Cert.LnSiluIdeal.nD Cert.LnSiluIdeal.τ).loc Cert.LnSiluIdeal.main_arg0)
      ∧ r.2.mem ((c.tc : Thread Cert.LnSiluIdeal.nD Cert.LnSiluIdeal.τ).loc Cert.LnSiluIdeal.main_arg1) = m ((c.tc : Thread Cert.LnSiluIdeal.nD Cert.LnSiluIdeal.τ).loc Cert.LnSiluIdeal.main_arg1)
      ∧ r.2.mem ((c.tc : Thread Cert.LnSiluIdeal.nD Cert.LnSiluIdeal.τ).loc Cert.LnSiluIdeal.main_arg2) = m ((c.tc : Thread Cert.LnSiluIdeal.nD Cert.LnSiluIdeal.τ).loc Cert.LnSiluIdeal.main_arg2)
      ∧ r.2.mem ((c.tc : Thread Cert.LnSiluIdeal.nD Cert.LnSiluIdeal.τ).loc Cert.LnSiluIdeal.main_arg3) = m ((c.tc : Thread Cert.LnSiluIdeal.nD Cert.LnSiluIdeal.τ).loc Cert.LnSiluIdeal.main_arg3))
      ∧ r.2.sem = fun _ => 0)

def quiescent_LnSiluIdeal_pre_ln_silu_finite [hLnSiluIdeal : Cert.LnSiluIdeal.Facts] [hPre_ln_silu_finite : Cert.Pre_ln_silu_finite.Facts] : Prop :=
  ∀ (m : (ℓ : Loc Cert.LnSiluIdeal.nD Cert.LnSiluIdeal.τ Cert.LnSiluIdeal.sig) → Buf (Elt Ideal) ℓ) (g : Dev Cert.LnSiluIdeal.nD → PrngReg), Pre_LnSiluIdeal_ln_silu_finite m →
    θ_run (Cert.LnSiluIdeal.defs (F := Ideal)) (onTc (τ := Cert.LnSiluIdeal.τ) (Cert.LnSiluIdeal.main (F := Ideal))) ⟨m, fun _ => 0, g⟩ (fun r => (∀ c : Dev Cert.LnSiluIdeal.nD,
      r.2.mem ((c.tc : Thread Cert.LnSiluIdeal.nD Cert.LnSiluIdeal.τ).loc Cert.LnSiluIdeal.main_arg0) = m ((c.tc : Thread Cert.LnSiluIdeal.nD Cert.LnSiluIdeal.τ).loc Cert.LnSiluIdeal.main_arg0)
      ∧ r.2.mem ((c.tc : Thread Cert.LnSiluIdeal.nD Cert.LnSiluIdeal.τ).loc Cert.LnSiluIdeal.main_arg1) = m ((c.tc : Thread Cert.LnSiluIdeal.nD Cert.LnSiluIdeal.τ).loc Cert.LnSiluIdeal.main_arg1)
      ∧ r.2.mem ((c.tc : Thread Cert.LnSiluIdeal.nD Cert.LnSiluIdeal.τ).loc Cert.LnSiluIdeal.main_arg2) = m ((c.tc : Thread Cert.LnSiluIdeal.nD Cert.LnSiluIdeal.τ).loc Cert.LnSiluIdeal.main_arg2)
      ∧ r.2.mem ((c.tc : Thread Cert.LnSiluIdeal.nD Cert.LnSiluIdeal.τ).loc Cert.LnSiluIdeal.main_arg3) = m ((c.tc : Thread Cert.LnSiluIdeal.nD Cert.LnSiluIdeal.τ).loc Cert.LnSiluIdeal.main_arg3))
      ∧ r.2.sem = fun _ => 0)

def quiescent_LnSiluRefIdeal [hLnSiluRefIdeal : Cert.LnSiluRefIdeal.Facts] : Prop :=
  ∀ (m : (ℓ : Loc Cert.LnSiluRefIdeal.nD Cert.LnSiluRefIdeal.τ Cert.LnSiluRefIdeal.sig) → Buf (Elt Ideal) ℓ) (g : Dev Cert.LnSiluRefIdeal.nD → PrngReg), Pre_LnSiluRefIdeal m →
    θ_run (Cert.LnSiluRefIdeal.defs (F := Ideal)) (onTc (τ := Cert.LnSiluRefIdeal.τ) (Cert.LnSiluRefIdeal.main (F := Ideal))) ⟨m, fun _ => 0, g⟩ (fun r => (∀ c : Dev Cert.LnSiluRefIdeal.nD,
      r.2.mem ((c.tc : Thread Cert.LnSiluRefIdeal.nD Cert.LnSiluRefIdeal.τ).loc Cert.LnSiluRefIdeal.main_arg0) = m ((c.tc : Thread Cert.LnSiluRefIdeal.nD Cert.LnSiluRefIdeal.τ).loc Cert.LnSiluRefIdeal.main_arg0)
      ∧ r.2.mem ((c.tc : Thread Cert.LnSiluRefIdeal.nD Cert.LnSiluRefIdeal.τ).loc Cert.LnSiluRefIdeal.main_arg1) = m ((c.tc : Thread Cert.LnSiluRefIdeal.nD Cert.LnSiluRefIdeal.τ).loc Cert.LnSiluRefIdeal.main_arg1)
      ∧ r.2.mem ((c.tc : Thread Cert.LnSiluRefIdeal.nD Cert.LnSiluRefIdeal.τ).loc Cert.LnSiluRefIdeal.main_arg2) = m ((c.tc : Thread Cert.LnSiluRefIdeal.nD Cert.LnSiluRefIdeal.τ).loc Cert.LnSiluRefIdeal.main_arg2)
      ∧ r.2.mem ((c.tc : Thread Cert.LnSiluRefIdeal.nD Cert.LnSiluRefIdeal.τ).loc Cert.LnSiluRefIdeal.main_arg3) = m ((c.tc : Thread Cert.LnSiluRefIdeal.nD Cert.LnSiluRefIdeal.τ).loc Cert.LnSiluRefIdeal.main_arg3))
      ∧ r.2.sem = fun _ => 0)

def quiescent_LnSiluRefIdeal_pre_ln_silu_finite [hLnSiluRefIdeal : Cert.LnSiluRefIdeal.Facts] [hPre_ln_silu_finite : Cert.Pre_ln_silu_finite.Facts] : Prop :=
  ∀ (m : (ℓ : Loc Cert.LnSiluRefIdeal.nD Cert.LnSiluRefIdeal.τ Cert.LnSiluRefIdeal.sig) → Buf (Elt Ideal) ℓ) (g : Dev Cert.LnSiluRefIdeal.nD → PrngReg), Pre_LnSiluRefIdeal_ln_silu_finite m →
    θ_run (Cert.LnSiluRefIdeal.defs (F := Ideal)) (onTc (τ := Cert.LnSiluRefIdeal.τ) (Cert.LnSiluRefIdeal.main (F := Ideal))) ⟨m, fun _ => 0, g⟩ (fun r => (∀ c : Dev Cert.LnSiluRefIdeal.nD,
      r.2.mem ((c.tc : Thread Cert.LnSiluRefIdeal.nD Cert.LnSiluRefIdeal.τ).loc Cert.LnSiluRefIdeal.main_arg0) = m ((c.tc : Thread Cert.LnSiluRefIdeal.nD Cert.LnSiluRefIdeal.τ).loc Cert.LnSiluRefIdeal.main_arg0)
      ∧ r.2.mem ((c.tc : Thread Cert.LnSiluRefIdeal.nD Cert.LnSiluRefIdeal.τ).loc Cert.LnSiluRefIdeal.main_arg1) = m ((c.tc : Thread Cert.LnSiluRefIdeal.nD Cert.LnSiluRefIdeal.τ).loc Cert.LnSiluRefIdeal.main_arg1)
      ∧ r.2.mem ((c.tc : Thread Cert.LnSiluRefIdeal.nD Cert.LnSiluRefIdeal.τ).loc Cert.LnSiluRefIdeal.main_arg2) = m ((c.tc : Thread Cert.LnSiluRefIdeal.nD Cert.LnSiluRefIdeal.τ).loc Cert.LnSiluRefIdeal.main_arg2)
      ∧ r.2.mem ((c.tc : Thread Cert.LnSiluRefIdeal.nD Cert.LnSiluRefIdeal.τ).loc Cert.LnSiluRefIdeal.main_arg3) = m ((c.tc : Thread Cert.LnSiluRefIdeal.nD Cert.LnSiluRefIdeal.τ).loc Cert.LnSiluRefIdeal.main_arg3))
      ∧ r.2.sem = fun _ => 0)

def quiescent_Rms2 [hRms2 : Cert.Rms2.Facts] : Prop :=
  ∀ (m : (ℓ : Loc Cert.Rms2.nD Cert.Rms2.τ Cert.Rms2.sig) → Buf (Elt Bits) ℓ) (g : Dev Cert.Rms2.nD → PrngReg), Pre_Rms2 m →
    θ_run (Cert.Rms2.defs (F := Bits)) (onTc (τ := Cert.Rms2.τ) (Cert.Rms2.main (F := Bits))) ⟨m, fun _ => 0, g⟩ (fun r => (∀ c : Dev Cert.Rms2.nD,
      r.2.mem ((c.tc : Thread Cert.Rms2.nD Cert.Rms2.τ).loc Cert.Rms2.main_arg0) = m ((c.tc : Thread Cert.Rms2.nD Cert.Rms2.τ).loc Cert.Rms2.main_arg0)
      ∧ r.2.mem ((c.tc : Thread Cert.Rms2.nD Cert.Rms2.τ).loc Cert.Rms2.main_arg1) = m ((c.tc : Thread Cert.Rms2.nD Cert.Rms2.τ).loc Cert.Rms2.main_arg1)
      ∧ r.2.mem ((c.tc : Thread Cert.Rms2.nD Cert.Rms2.τ).loc Cert.Rms2.main_arg2) = m ((c.tc : Thread Cert.Rms2.nD Cert.Rms2.τ).loc Cert.Rms2.main_arg2)
      ∧ r.2.mem ((c.tc : Thread Cert.Rms2.nD Cert.Rms2.τ).loc Cert.Rms2.main_arg3) = m ((c.tc : Thread Cert.Rms2.nD Cert.Rms2.τ).loc Cert.Rms2.main_arg3)
      ∧ r.2.mem ((c.tc : Thread Cert.Rms2.nD Cert.Rms2.τ).loc Cert.Rms2.main_arg4) = m ((c.tc : Thread Cert.Rms2.nD Cert.Rms2.τ).loc Cert.Rms2.main_arg4)
      ∧ r.2.mem ((c.tc : Thread Cert.Rms2.nD Cert.Rms2.τ).loc Cert.Rms2.main_arg5) = m ((c.tc : Thread Cert.Rms2.nD Cert.Rms2.τ).loc Cert.Rms2.main_arg5))
      ∧ r.2.sem = fun _ => 0)

def quiescent_Rms2Ideal [hRms2Ideal : Cert.Rms2Ideal.Facts] : Prop :=
  ∀ (m : (ℓ : Loc Cert.Rms2Ideal.nD Cert.Rms2Ideal.τ Cert.Rms2Ideal.sig) → Buf (Elt Ideal) ℓ) (g : Dev Cert.Rms2Ideal.nD → PrngReg), Pre_Rms2Ideal m →
    θ_run (Cert.Rms2Ideal.defs (F := Ideal)) (onTc (τ := Cert.Rms2Ideal.τ) (Cert.Rms2Ideal.main (F := Ideal))) ⟨m, fun _ => 0, g⟩ (fun r => (∀ c : Dev Cert.Rms2Ideal.nD,
      r.2.mem ((c.tc : Thread Cert.Rms2Ideal.nD Cert.Rms2Ideal.τ).loc Cert.Rms2Ideal.main_arg0) = m ((c.tc : Thread Cert.Rms2Ideal.nD Cert.Rms2Ideal.τ).loc Cert.Rms2Ideal.main_arg0)
      ∧ r.2.mem ((c.tc : Thread Cert.Rms2Ideal.nD Cert.Rms2Ideal.τ).loc Cert.Rms2Ideal.main_arg1) = m ((c.tc : Thread Cert.Rms2Ideal.nD Cert.Rms2Ideal.τ).loc Cert.Rms2Ideal.main_arg1)
      ∧ r.2.mem ((c.tc : Thread Cert.Rms2Ideal.nD Cert.Rms2Ideal.τ).loc Cert.Rms2Ideal.main_arg2) = m ((c.tc : Thread Cert.Rms2Ideal.nD Cert.Rms2Ideal.τ).loc Cert.Rms2Ideal.main_arg2)
      ∧ r.2.mem ((c.tc : Thread Cert.Rms2Ideal.nD Cert.Rms2Ideal.τ).loc Cert.Rms2Ideal.main_arg3) = m ((c.tc : Thread Cert.Rms2Ideal.nD Cert.Rms2Ideal.τ).loc Cert.Rms2Ideal.main_arg3)
      ∧ r.2.mem ((c.tc : Thread Cert.Rms2Ideal.nD Cert.Rms2Ideal.τ).loc Cert.Rms2Ideal.main_arg4) = m ((c.tc : Thread Cert.Rms2Ideal.nD Cert.Rms2Ideal.τ).loc Cert.Rms2Ideal.main_arg4)
      ∧ r.2.mem ((c.tc : Thread Cert.Rms2Ideal.nD Cert.Rms2Ideal.τ).loc Cert.Rms2Ideal.main_arg5) = m ((c.tc : Thread Cert.Rms2Ideal.nD Cert.Rms2Ideal.τ).loc Cert.Rms2Ideal.main_arg5))
      ∧ r.2.sem = fun _ => 0)

def quiescent_Rms2Ideal_pre_rms2_finite [hRms2Ideal : Cert.Rms2Ideal.Facts] [hPre_rms2_finite : Cert.Pre_rms2_finite.Facts] : Prop :=
  ∀ (m : (ℓ : Loc Cert.Rms2Ideal.nD Cert.Rms2Ideal.τ Cert.Rms2Ideal.sig) → Buf (Elt Ideal) ℓ) (g : Dev Cert.Rms2Ideal.nD → PrngReg), Pre_Rms2Ideal_rms2_finite m →
    θ_run (Cert.Rms2Ideal.defs (F := Ideal)) (onTc (τ := Cert.Rms2Ideal.τ) (Cert.Rms2Ideal.main (F := Ideal))) ⟨m, fun _ => 0, g⟩ (fun r => (∀ c : Dev Cert.Rms2Ideal.nD,
      r.2.mem ((c.tc : Thread Cert.Rms2Ideal.nD Cert.Rms2Ideal.τ).loc Cert.Rms2Ideal.main_arg0) = m ((c.tc : Thread Cert.Rms2Ideal.nD Cert.Rms2Ideal.τ).loc Cert.Rms2Ideal.main_arg0)
      ∧ r.2.mem ((c.tc : Thread Cert.Rms2Ideal.nD Cert.Rms2Ideal.τ).loc Cert.Rms2Ideal.main_arg1) = m ((c.tc : Thread Cert.Rms2Ideal.nD Cert.Rms2Ideal.τ).loc Cert.Rms2Ideal.main_arg1)
      ∧ r.2.mem ((c.tc : Thread Cert.Rms2Ideal.nD Cert.Rms2Ideal.τ).loc Cert.Rms2Ideal.main_arg2) = m ((c.tc : Thread Cert.Rms2Ideal.nD Cert.Rms2Ideal.τ).loc Cert.Rms2Ideal.main_arg2)
      ∧ r.2.mem ((c.tc : Thread Cert.Rms2Ideal.nD Cert.Rms2Ideal.τ).loc Cert.Rms2Ideal.main_arg3) = m ((c.tc : Thread Cert.Rms2Ideal.nD Cert.Rms2Ideal.τ).loc Cert.Rms2Ideal.main_arg3)
      ∧ r.2.mem ((c.tc : Thread Cert.Rms2Ideal.nD Cert.Rms2Ideal.τ).loc Cert.Rms2Ideal.main_arg4) = m ((c.tc : Thread Cert.Rms2Ideal.nD Cert.Rms2Ideal.τ).loc Cert.Rms2Ideal.main_arg4)
      ∧ r.2.mem ((c.tc : Thread Cert.Rms2Ideal.nD Cert.Rms2Ideal.τ).loc Cert.Rms2Ideal.main_arg5) = m ((c.tc : Thread Cert.Rms2Ideal.nD Cert.Rms2Ideal.τ).loc Cert.Rms2Ideal.main_arg5))
      ∧ r.2.sem = fun _ => 0)

def quiescent_Rms2RefIdeal [hRms2RefIdeal : Cert.Rms2RefIdeal.Facts] : Prop :=
  ∀ (m : (ℓ : Loc Cert.Rms2RefIdeal.nD Cert.Rms2RefIdeal.τ Cert.Rms2RefIdeal.sig) → Buf (Elt Ideal) ℓ) (g : Dev Cert.Rms2RefIdeal.nD → PrngReg), Pre_Rms2RefIdeal m →
    θ_run (Cert.Rms2RefIdeal.defs (F := Ideal)) (onTc (τ := Cert.Rms2RefIdeal.τ) (Cert.Rms2RefIdeal.main (F := Ideal))) ⟨m, fun _ => 0, g⟩ (fun r => (∀ c : Dev Cert.Rms2RefIdeal.nD,
      r.2.mem ((c.tc : Thread Cert.Rms2RefIdeal.nD Cert.Rms2RefIdeal.τ).loc Cert.Rms2RefIdeal.main_arg0) = m ((c.tc : Thread Cert.Rms2RefIdeal.nD Cert.Rms2RefIdeal.τ).loc Cert.Rms2RefIdeal.main_arg0)
      ∧ r.2.mem ((c.tc : Thread Cert.Rms2RefIdeal.nD Cert.Rms2RefIdeal.τ).loc Cert.Rms2RefIdeal.main_arg1) = m ((c.tc : Thread Cert.Rms2RefIdeal.nD Cert.Rms2RefIdeal.τ).loc Cert.Rms2RefIdeal.main_arg1)
      ∧ r.2.mem ((c.tc : Thread Cert.Rms2RefIdeal.nD Cert.Rms2RefIdeal.τ).loc Cert.Rms2RefIdeal.main_arg2) = m ((c.tc : Thread Cert.Rms2RefIdeal.nD Cert.Rms2RefIdeal.τ).loc Cert.Rms2RefIdeal.main_arg2)
      ∧ r.2.mem ((c.tc : Thread Cert.Rms2RefIdeal.nD Cert.Rms2RefIdeal.τ).loc Cert.Rms2RefIdeal.main_arg3) = m ((c.tc : Thread Cert.Rms2RefIdeal.nD Cert.Rms2RefIdeal.τ).loc Cert.Rms2RefIdeal.main_arg3)
      ∧ r.2.mem ((c.tc : Thread Cert.Rms2RefIdeal.nD Cert.Rms2RefIdeal.τ).loc Cert.Rms2RefIdeal.main_arg4) = m ((c.tc : Thread Cert.Rms2RefIdeal.nD Cert.Rms2RefIdeal.τ).loc Cert.Rms2RefIdeal.main_arg4)
      ∧ r.2.mem ((c.tc : Thread Cert.Rms2RefIdeal.nD Cert.Rms2RefIdeal.τ).loc Cert.Rms2RefIdeal.main_arg5) = m ((c.tc : Thread Cert.Rms2RefIdeal.nD Cert.Rms2RefIdeal.τ).loc Cert.Rms2RefIdeal.main_arg5))
      ∧ r.2.sem = fun _ => 0)

def quiescent_Rms2RefIdeal_pre_rms2_finite [hRms2RefIdeal : Cert.Rms2RefIdeal.Facts] [hPre_rms2_finite : Cert.Pre_rms2_finite.Facts] : Prop :=
  ∀ (m : (ℓ : Loc Cert.Rms2RefIdeal.nD Cert.Rms2RefIdeal.τ Cert.Rms2RefIdeal.sig) → Buf (Elt Ideal) ℓ) (g : Dev Cert.Rms2RefIdeal.nD → PrngReg), Pre_Rms2RefIdeal_rms2_finite m →
    θ_run (Cert.Rms2RefIdeal.defs (F := Ideal)) (onTc (τ := Cert.Rms2RefIdeal.τ) (Cert.Rms2RefIdeal.main (F := Ideal))) ⟨m, fun _ => 0, g⟩ (fun r => (∀ c : Dev Cert.Rms2RefIdeal.nD,
      r.2.mem ((c.tc : Thread Cert.Rms2RefIdeal.nD Cert.Rms2RefIdeal.τ).loc Cert.Rms2RefIdeal.main_arg0) = m ((c.tc : Thread Cert.Rms2RefIdeal.nD Cert.Rms2RefIdeal.τ).loc Cert.Rms2RefIdeal.main_arg0)
      ∧ r.2.mem ((c.tc : Thread Cert.Rms2RefIdeal.nD Cert.Rms2RefIdeal.τ).loc Cert.Rms2RefIdeal.main_arg1) = m ((c.tc : Thread Cert.Rms2RefIdeal.nD Cert.Rms2RefIdeal.τ).loc Cert.Rms2RefIdeal.main_arg1)
      ∧ r.2.mem ((c.tc : Thread Cert.Rms2RefIdeal.nD Cert.Rms2RefIdeal.τ).loc Cert.Rms2RefIdeal.main_arg2) = m ((c.tc : Thread Cert.Rms2RefIdeal.nD Cert.Rms2RefIdeal.τ).loc Cert.Rms2RefIdeal.main_arg2)
      ∧ r.2.mem ((c.tc : Thread Cert.Rms2RefIdeal.nD Cert.Rms2RefIdeal.τ).loc Cert.Rms2RefIdeal.main_arg3) = m ((c.tc : Thread Cert.Rms2RefIdeal.nD Cert.Rms2RefIdeal.τ).loc Cert.Rms2RefIdeal.main_arg3)
      ∧ r.2.mem ((c.tc : Thread Cert.Rms2RefIdeal.nD Cert.Rms2RefIdeal.τ).loc Cert.Rms2RefIdeal.main_arg4) = m ((c.tc : Thread Cert.Rms2RefIdeal.nD Cert.Rms2RefIdeal.τ).loc Cert.Rms2RefIdeal.main_arg4)
      ∧ r.2.mem ((c.tc : Thread Cert.Rms2RefIdeal.nD Cert.Rms2RefIdeal.τ).loc Cert.Rms2RefIdeal.main_arg5) = m ((c.tc : Thread Cert.Rms2RefIdeal.nD Cert.Rms2RefIdeal.τ).loc Cert.Rms2RefIdeal.main_arg5))
      ∧ r.2.sem = fun _ => 0)

def quiescent_Rms5 [hRms5 : Cert.Rms5.Facts] : Prop :=
  ∀ (m : (ℓ : Loc Cert.Rms5.nD Cert.Rms5.τ Cert.Rms5.sig) → Buf (Elt Bits) ℓ) (g : Dev Cert.Rms5.nD → PrngReg), Pre_Rms5 m →
    θ_run (Cert.Rms5.defs (F := Bits)) (onTc (τ := Cert.Rms5.τ) (Cert.Rms5.main (F := Bits))) ⟨m, fun _ => 0, g⟩ (fun r => (∀ c : Dev Cert.Rms5.nD,
      r.2.mem ((c.tc : Thread Cert.Rms5.nD Cert.Rms5.τ).loc Cert.Rms5.main_arg0) = m ((c.tc : Thread Cert.Rms5.nD Cert.Rms5.τ).loc Cert.Rms5.main_arg0)
      ∧ r.2.mem ((c.tc : Thread Cert.Rms5.nD Cert.Rms5.τ).loc Cert.Rms5.main_arg1) = m ((c.tc : Thread Cert.Rms5.nD Cert.Rms5.τ).loc Cert.Rms5.main_arg1)
      ∧ r.2.mem ((c.tc : Thread Cert.Rms5.nD Cert.Rms5.τ).loc Cert.Rms5.main_arg2) = m ((c.tc : Thread Cert.Rms5.nD Cert.Rms5.τ).loc Cert.Rms5.main_arg2)
      ∧ r.2.mem ((c.tc : Thread Cert.Rms5.nD Cert.Rms5.τ).loc Cert.Rms5.main_arg3) = m ((c.tc : Thread Cert.Rms5.nD Cert.Rms5.τ).loc Cert.Rms5.main_arg3)
      ∧ r.2.mem ((c.tc : Thread Cert.Rms5.nD Cert.Rms5.τ).loc Cert.Rms5.main_arg4) = m ((c.tc : Thread Cert.Rms5.nD Cert.Rms5.τ).loc Cert.Rms5.main_arg4)
      ∧ r.2.mem ((c.tc : Thread Cert.Rms5.nD Cert.Rms5.τ).loc Cert.Rms5.main_arg5) = m ((c.tc : Thread Cert.Rms5.nD Cert.Rms5.τ).loc Cert.Rms5.main_arg5)
      ∧ r.2.mem ((c.tc : Thread Cert.Rms5.nD Cert.Rms5.τ).loc Cert.Rms5.main_arg6) = m ((c.tc : Thread Cert.Rms5.nD Cert.Rms5.τ).loc Cert.Rms5.main_arg6)
      ∧ r.2.mem ((c.tc : Thread Cert.Rms5.nD Cert.Rms5.τ).loc Cert.Rms5.main_arg7) = m ((c.tc : Thread Cert.Rms5.nD Cert.Rms5.τ).loc Cert.Rms5.main_arg7)
      ∧ r.2.mem ((c.tc : Thread Cert.Rms5.nD Cert.Rms5.τ).loc Cert.Rms5.main_arg8) = m ((c.tc : Thread Cert.Rms5.nD Cert.Rms5.τ).loc Cert.Rms5.main_arg8))
      ∧ r.2.sem = fun _ => 0)

def quiescent_Rms5Ideal [hRms5Ideal : Cert.Rms5Ideal.Facts] : Prop :=
  ∀ (m : (ℓ : Loc Cert.Rms5Ideal.nD Cert.Rms5Ideal.τ Cert.Rms5Ideal.sig) → Buf (Elt Ideal) ℓ) (g : Dev Cert.Rms5Ideal.nD → PrngReg), Pre_Rms5Ideal m →
    θ_run (Cert.Rms5Ideal.defs (F := Ideal)) (onTc (τ := Cert.Rms5Ideal.τ) (Cert.Rms5Ideal.main (F := Ideal))) ⟨m, fun _ => 0, g⟩ (fun r => (∀ c : Dev Cert.Rms5Ideal.nD,
      r.2.mem ((c.tc : Thread Cert.Rms5Ideal.nD Cert.Rms5Ideal.τ).loc Cert.Rms5Ideal.main_arg0) = m ((c.tc : Thread Cert.Rms5Ideal.nD Cert.Rms5Ideal.τ).loc Cert.Rms5Ideal.main_arg0)
      ∧ r.2.mem ((c.tc : Thread Cert.Rms5Ideal.nD Cert.Rms5Ideal.τ).loc Cert.Rms5Ideal.main_arg1) = m ((c.tc : Thread Cert.Rms5Ideal.nD Cert.Rms5Ideal.τ).loc Cert.Rms5Ideal.main_arg1)
      ∧ r.2.mem ((c.tc : Thread Cert.Rms5Ideal.nD Cert.Rms5Ideal.τ).loc Cert.Rms5Ideal.main_arg2) = m ((c.tc : Thread Cert.Rms5Ideal.nD Cert.Rms5Ideal.τ).loc Cert.Rms5Ideal.main_arg2)
      ∧ r.2.mem ((c.tc : Thread Cert.Rms5Ideal.nD Cert.Rms5Ideal.τ).loc Cert.Rms5Ideal.main_arg3) = m ((c.tc : Thread Cert.Rms5Ideal.nD Cert.Rms5Ideal.τ).loc Cert.Rms5Ideal.main_arg3)
      ∧ r.2.mem ((c.tc : Thread Cert.Rms5Ideal.nD Cert.Rms5Ideal.τ).loc Cert.Rms5Ideal.main_arg4) = m ((c.tc : Thread Cert.Rms5Ideal.nD Cert.Rms5Ideal.τ).loc Cert.Rms5Ideal.main_arg4)
      ∧ r.2.mem ((c.tc : Thread Cert.Rms5Ideal.nD Cert.Rms5Ideal.τ).loc Cert.Rms5Ideal.main_arg5) = m ((c.tc : Thread Cert.Rms5Ideal.nD Cert.Rms5Ideal.τ).loc Cert.Rms5Ideal.main_arg5)
      ∧ r.2.mem ((c.tc : Thread Cert.Rms5Ideal.nD Cert.Rms5Ideal.τ).loc Cert.Rms5Ideal.main_arg6) = m ((c.tc : Thread Cert.Rms5Ideal.nD Cert.Rms5Ideal.τ).loc Cert.Rms5Ideal.main_arg6)
      ∧ r.2.mem ((c.tc : Thread Cert.Rms5Ideal.nD Cert.Rms5Ideal.τ).loc Cert.Rms5Ideal.main_arg7) = m ((c.tc : Thread Cert.Rms5Ideal.nD Cert.Rms5Ideal.τ).loc Cert.Rms5Ideal.main_arg7)
      ∧ r.2.mem ((c.tc : Thread Cert.Rms5Ideal.nD Cert.Rms5Ideal.τ).loc Cert.Rms5Ideal.main_arg8) = m ((c.tc : Thread Cert.Rms5Ideal.nD Cert.Rms5Ideal.τ).loc Cert.Rms5Ideal.main_arg8))
      ∧ r.2.sem = fun _ => 0)

def quiescent_Rms5Ideal_pre_rms5_finite [hRms5Ideal : Cert.Rms5Ideal.Facts] [hPre_rms5_finite : Cert.Pre_rms5_finite.Facts] : Prop :=
  ∀ (m : (ℓ : Loc Cert.Rms5Ideal.nD Cert.Rms5Ideal.τ Cert.Rms5Ideal.sig) → Buf (Elt Ideal) ℓ) (g : Dev Cert.Rms5Ideal.nD → PrngReg), Pre_Rms5Ideal_rms5_finite m →
    θ_run (Cert.Rms5Ideal.defs (F := Ideal)) (onTc (τ := Cert.Rms5Ideal.τ) (Cert.Rms5Ideal.main (F := Ideal))) ⟨m, fun _ => 0, g⟩ (fun r => (∀ c : Dev Cert.Rms5Ideal.nD,
      r.2.mem ((c.tc : Thread Cert.Rms5Ideal.nD Cert.Rms5Ideal.τ).loc Cert.Rms5Ideal.main_arg0) = m ((c.tc : Thread Cert.Rms5Ideal.nD Cert.Rms5Ideal.τ).loc Cert.Rms5Ideal.main_arg0)
      ∧ r.2.mem ((c.tc : Thread Cert.Rms5Ideal.nD Cert.Rms5Ideal.τ).loc Cert.Rms5Ideal.main_arg1) = m ((c.tc : Thread Cert.Rms5Ideal.nD Cert.Rms5Ideal.τ).loc Cert.Rms5Ideal.main_arg1)
      ∧ r.2.mem ((c.tc : Thread Cert.Rms5Ideal.nD Cert.Rms5Ideal.τ).loc Cert.Rms5Ideal.main_arg2) = m ((c.tc : Thread Cert.Rms5Ideal.nD Cert.Rms5Ideal.τ).loc Cert.Rms5Ideal.main_arg2)
      ∧ r.2.mem ((c.tc : Thread Cert.Rms5Ideal.nD Cert.Rms5Ideal.τ).loc Cert.Rms5Ideal.main_arg3) = m ((c.tc : Thread Cert.Rms5Ideal.nD Cert.Rms5Ideal.τ).loc Cert.Rms5Ideal.main_arg3)
      ∧ r.2.mem ((c.tc : Thread Cert.Rms5Ideal.nD Cert.Rms5Ideal.τ).loc Cert.Rms5Ideal.main_arg4) = m ((c.tc : Thread Cert.Rms5Ideal.nD Cert.Rms5Ideal.τ).loc Cert.Rms5Ideal.main_arg4)
      ∧ r.2.mem ((c.tc : Thread Cert.Rms5Ideal.nD Cert.Rms5Ideal.τ).loc Cert.Rms5Ideal.main_arg5) = m ((c.tc : Thread Cert.Rms5Ideal.nD Cert.Rms5Ideal.τ).loc Cert.Rms5Ideal.main_arg5)
      ∧ r.2.mem ((c.tc : Thread Cert.Rms5Ideal.nD Cert.Rms5Ideal.τ).loc Cert.Rms5Ideal.main_arg6) = m ((c.tc : Thread Cert.Rms5Ideal.nD Cert.Rms5Ideal.τ).loc Cert.Rms5Ideal.main_arg6)
      ∧ r.2.mem ((c.tc : Thread Cert.Rms5Ideal.nD Cert.Rms5Ideal.τ).loc Cert.Rms5Ideal.main_arg7) = m ((c.tc : Thread Cert.Rms5Ideal.nD Cert.Rms5Ideal.τ).loc Cert.Rms5Ideal.main_arg7)
      ∧ r.2.mem ((c.tc : Thread Cert.Rms5Ideal.nD Cert.Rms5Ideal.τ).loc Cert.Rms5Ideal.main_arg8) = m ((c.tc : Thread Cert.Rms5Ideal.nD Cert.Rms5Ideal.τ).loc Cert.Rms5Ideal.main_arg8))
      ∧ r.2.sem = fun _ => 0)

def quiescent_Rms5RefIdeal [hRms5RefIdeal : Cert.Rms5RefIdeal.Facts] : Prop :=
  ∀ (m : (ℓ : Loc Cert.Rms5RefIdeal.nD Cert.Rms5RefIdeal.τ Cert.Rms5RefIdeal.sig) → Buf (Elt Ideal) ℓ) (g : Dev Cert.Rms5RefIdeal.nD → PrngReg), Pre_Rms5RefIdeal m →
    θ_run (Cert.Rms5RefIdeal.defs (F := Ideal)) (onTc (τ := Cert.Rms5RefIdeal.τ) (Cert.Rms5RefIdeal.main (F := Ideal))) ⟨m, fun _ => 0, g⟩ (fun r => (∀ c : Dev Cert.Rms5RefIdeal.nD,
      r.2.mem ((c.tc : Thread Cert.Rms5RefIdeal.nD Cert.Rms5RefIdeal.τ).loc Cert.Rms5RefIdeal.main_arg0) = m ((c.tc : Thread Cert.Rms5RefIdeal.nD Cert.Rms5RefIdeal.τ).loc Cert.Rms5RefIdeal.main_arg0)
      ∧ r.2.mem ((c.tc : Thread Cert.Rms5RefIdeal.nD Cert.Rms5RefIdeal.τ).loc Cert.Rms5RefIdeal.main_arg1) = m ((c.tc : Thread Cert.Rms5RefIdeal.nD Cert.Rms5RefIdeal.τ).loc Cert.Rms5RefIdeal.main_arg1)
      ∧ r.2.mem ((c.tc : Thread Cert.Rms5RefIdeal.nD Cert.Rms5RefIdeal.τ).loc Cert.Rms5RefIdeal.main_arg2) = m ((c.tc : Thread Cert.Rms5RefIdeal.nD Cert.Rms5RefIdeal.τ).loc Cert.Rms5RefIdeal.main_arg2)
      ∧ r.2.mem ((c.tc : Thread Cert.Rms5RefIdeal.nD Cert.Rms5RefIdeal.τ).loc Cert.Rms5RefIdeal.main_arg3) = m ((c.tc : Thread Cert.Rms5RefIdeal.nD Cert.Rms5RefIdeal.τ).loc Cert.Rms5RefIdeal.main_arg3)
      ∧ r.2.mem ((c.tc : Thread Cert.Rms5RefIdeal.nD Cert.Rms5RefIdeal.τ).loc Cert.Rms5RefIdeal.main_arg4) = m ((c.tc : Thread Cert.Rms5RefIdeal.nD Cert.Rms5RefIdeal.τ).loc Cert.Rms5RefIdeal.main_arg4)
      ∧ r.2.mem ((c.tc : Thread Cert.Rms5RefIdeal.nD Cert.Rms5RefIdeal.τ).loc Cert.Rms5RefIdeal.main_arg5) = m ((c.tc : Thread Cert.Rms5RefIdeal.nD Cert.Rms5RefIdeal.τ).loc Cert.Rms5RefIdeal.main_arg5)
      ∧ r.2.mem ((c.tc : Thread Cert.Rms5RefIdeal.nD Cert.Rms5RefIdeal.τ).loc Cert.Rms5RefIdeal.main_arg6) = m ((c.tc : Thread Cert.Rms5RefIdeal.nD Cert.Rms5RefIdeal.τ).loc Cert.Rms5RefIdeal.main_arg6)
      ∧ r.2.mem ((c.tc : Thread Cert.Rms5RefIdeal.nD Cert.Rms5RefIdeal.τ).loc Cert.Rms5RefIdeal.main_arg7) = m ((c.tc : Thread Cert.Rms5RefIdeal.nD Cert.Rms5RefIdeal.τ).loc Cert.Rms5RefIdeal.main_arg7)
      ∧ r.2.mem ((c.tc : Thread Cert.Rms5RefIdeal.nD Cert.Rms5RefIdeal.τ).loc Cert.Rms5RefIdeal.main_arg8) = m ((c.tc : Thread Cert.Rms5RefIdeal.nD Cert.Rms5RefIdeal.τ).loc Cert.Rms5RefIdeal.main_arg8))
      ∧ r.2.sem = fun _ => 0)

def quiescent_Rms5RefIdeal_pre_rms5_finite [hRms5RefIdeal : Cert.Rms5RefIdeal.Facts] [hPre_rms5_finite : Cert.Pre_rms5_finite.Facts] : Prop :=
  ∀ (m : (ℓ : Loc Cert.Rms5RefIdeal.nD Cert.Rms5RefIdeal.τ Cert.Rms5RefIdeal.sig) → Buf (Elt Ideal) ℓ) (g : Dev Cert.Rms5RefIdeal.nD → PrngReg), Pre_Rms5RefIdeal_rms5_finite m →
    θ_run (Cert.Rms5RefIdeal.defs (F := Ideal)) (onTc (τ := Cert.Rms5RefIdeal.τ) (Cert.Rms5RefIdeal.main (F := Ideal))) ⟨m, fun _ => 0, g⟩ (fun r => (∀ c : Dev Cert.Rms5RefIdeal.nD,
      r.2.mem ((c.tc : Thread Cert.Rms5RefIdeal.nD Cert.Rms5RefIdeal.τ).loc Cert.Rms5RefIdeal.main_arg0) = m ((c.tc : Thread Cert.Rms5RefIdeal.nD Cert.Rms5RefIdeal.τ).loc Cert.Rms5RefIdeal.main_arg0)
      ∧ r.2.mem ((c.tc : Thread Cert.Rms5RefIdeal.nD Cert.Rms5RefIdeal.τ).loc Cert.Rms5RefIdeal.main_arg1) = m ((c.tc : Thread Cert.Rms5RefIdeal.nD Cert.Rms5RefIdeal.τ).loc Cert.Rms5RefIdeal.main_arg1)
      ∧ r.2.mem ((c.tc : Thread Cert.Rms5RefIdeal.nD Cert.Rms5RefIdeal.τ).loc Cert.Rms5RefIdeal.main_arg2) = m ((c.tc : Thread Cert.Rms5RefIdeal.nD Cert.Rms5RefIdeal.τ).loc Cert.Rms5RefIdeal.main_arg2)
      ∧ r.2.mem ((c.tc : Thread Cert.Rms5RefIdeal.nD Cert.Rms5RefIdeal.τ).loc Cert.Rms5RefIdeal.main_arg3) = m ((c.tc : Thread Cert.Rms5RefIdeal.nD Cert.Rms5RefIdeal.τ).loc Cert.Rms5RefIdeal.main_arg3)
      ∧ r.2.mem ((c.tc : Thread Cert.Rms5RefIdeal.nD Cert.Rms5RefIdeal.τ).loc Cert.Rms5RefIdeal.main_arg4) = m ((c.tc : Thread Cert.Rms5RefIdeal.nD Cert.Rms5RefIdeal.τ).loc Cert.Rms5RefIdeal.main_arg4)
      ∧ r.2.mem ((c.tc : Thread Cert.Rms5RefIdeal.nD Cert.Rms5RefIdeal.τ).loc Cert.Rms5RefIdeal.main_arg5) = m ((c.tc : Thread Cert.Rms5RefIdeal.nD Cert.Rms5RefIdeal.τ).loc Cert.Rms5RefIdeal.main_arg5)
      ∧ r.2.mem ((c.tc : Thread Cert.Rms5RefIdeal.nD Cert.Rms5RefIdeal.τ).loc Cert.Rms5RefIdeal.main_arg6) = m ((c.tc : Thread Cert.Rms5RefIdeal.nD Cert.Rms5RefIdeal.τ).loc Cert.Rms5RefIdeal.main_arg6)
      ∧ r.2.mem ((c.tc : Thread Cert.Rms5RefIdeal.nD Cert.Rms5RefIdeal.τ).loc Cert.Rms5RefIdeal.main_arg7) = m ((c.tc : Thread Cert.Rms5RefIdeal.nD Cert.Rms5RefIdeal.τ).loc Cert.Rms5RefIdeal.main_arg7)
      ∧ r.2.mem ((c.tc : Thread Cert.Rms5RefIdeal.nD Cert.Rms5RefIdeal.τ).loc Cert.Rms5RefIdeal.main_arg8) = m ((c.tc : Thread Cert.Rms5RefIdeal.nD Cert.Rms5RefIdeal.τ).loc Cert.Rms5RefIdeal.main_arg8))
      ∧ r.2.sem = fun _ => 0)

def quiescent_LossGrad [hLossGrad : Cert.LossGrad.Facts] : Prop :=
  ∀ (m : (ℓ : Loc Cert.LossGrad.nD Cert.LossGrad.τ Cert.LossGrad.sig) → Buf (Elt Bits) ℓ) (g : Dev Cert.LossGrad.nD → PrngReg), Pre_LossGrad m →
    θ_run (Cert.LossGrad.defs (F := Bits)) (onTc (τ := Cert.LossGrad.τ) (Cert.LossGrad.main (F := Bits))) ⟨m, fun _ => 0, g⟩ (fun r => (∀ c : Dev Cert.LossGrad.nD,
      r.2.mem ((c.tc : Thread Cert.LossGrad.nD Cert.LossGrad.τ).loc Cert.LossGrad.main_arg0) = m ((c.tc : Thread Cert.LossGrad.nD Cert.LossGrad.τ).loc Cert.LossGrad.main_arg0)
      ∧ r.2.mem ((c.tc : Thread Cert.LossGrad.nD Cert.LossGrad.τ).loc Cert.LossGrad.main_arg1) = m ((c.tc : Thread Cert.LossGrad.nD Cert.LossGrad.τ).loc Cert.LossGrad.main_arg1))
      ∧ r.2.sem = fun _ => 0)

def quiescent_LossGradIdeal [hLossGradIdeal : Cert.LossGradIdeal.Facts] : Prop :=
  ∀ (m : (ℓ : Loc Cert.LossGradIdeal.nD Cert.LossGradIdeal.τ Cert.LossGradIdeal.sig) → Buf (Elt Ideal) ℓ) (g : Dev Cert.LossGradIdeal.nD → PrngReg), Pre_LossGradIdeal m →
    θ_run (Cert.LossGradIdeal.defs (F := Ideal)) (onTc (τ := Cert.LossGradIdeal.τ) (Cert.LossGradIdeal.main (F := Ideal))) ⟨m, fun _ => 0, g⟩ (fun r => (∀ c : Dev Cert.LossGradIdeal.nD,
      r.2.mem ((c.tc : Thread Cert.LossGradIdeal.nD Cert.LossGradIdeal.τ).loc Cert.LossGradIdeal.main_arg0) = m ((c.tc : Thread Cert.LossGradIdeal.nD Cert.LossGradIdeal.τ).loc Cert.LossGradIdeal.main_arg0)
      ∧ r.2.mem ((c.tc : Thread Cert.LossGradIdeal.nD Cert.LossGradIdeal.τ).loc Cert.LossGradIdeal.main_arg1) = m ((c.tc : Thread Cert.LossGradIdeal.nD Cert.LossGradIdeal.τ).loc Cert.LossGradIdeal.main_arg1))
      ∧ r.2.sem = fun _ => 0)

def quiescent_LossGradRefIdeal [hLossGradRefIdeal : Cert.LossGradRefIdeal.Facts] : Prop :=
  ∀ (m : (ℓ : Loc Cert.LossGradRefIdeal.nD Cert.LossGradRefIdeal.τ Cert.LossGradRefIdeal.sig) → Buf (Elt Ideal) ℓ) (g : Dev Cert.LossGradRefIdeal.nD → PrngReg), Pre_LossGradRefIdeal m →
    θ_run (Cert.LossGradRefIdeal.defs (F := Ideal)) (onTc (τ := Cert.LossGradRefIdeal.τ) (Cert.LossGradRefIdeal.main (F := Ideal))) ⟨m, fun _ => 0, g⟩ (fun r => (∀ c : Dev Cert.LossGradRefIdeal.nD,
      r.2.mem ((c.tc : Thread Cert.LossGradRefIdeal.nD Cert.LossGradRefIdeal.τ).loc Cert.LossGradRefIdeal.main_arg0) = m ((c.tc : Thread Cert.LossGradRefIdeal.nD Cert.LossGradRefIdeal.τ).loc Cert.LossGradRefIdeal.main_arg0)
      ∧ r.2.mem ((c.tc : Thread Cert.LossGradRefIdeal.nD Cert.LossGradRefIdeal.τ).loc Cert.LossGradRefIdeal.main_arg1) = m ((c.tc : Thread Cert.LossGradRefIdeal.nD Cert.LossGradRefIdeal.τ).loc Cert.LossGradRefIdeal.main_arg1))
      ∧ r.2.sem = fun _ => 0)

def quiescent_FfnAct [hFfnAct : Cert.FfnAct.Facts] : Prop :=
  ∀ (m : (ℓ : Loc Cert.FfnAct.nD Cert.FfnAct.τ Cert.FfnAct.sig) → Buf (Elt Bits) ℓ) (g : Dev Cert.FfnAct.nD → PrngReg), Pre_FfnAct m →
    θ_run (Cert.FfnAct.defs (F := Bits)) (onTc (τ := Cert.FfnAct.τ) (Cert.FfnAct.main (F := Bits))) ⟨m, fun _ => 0, g⟩ (fun r => (∀ c : Dev Cert.FfnAct.nD,
      r.2.mem ((c.tc : Thread Cert.FfnAct.nD Cert.FfnAct.τ).loc Cert.FfnAct.main_arg0) = m ((c.tc : Thread Cert.FfnAct.nD Cert.FfnAct.τ).loc Cert.FfnAct.main_arg0)
      ∧ r.2.mem ((c.tc : Thread Cert.FfnAct.nD Cert.FfnAct.τ).loc Cert.FfnAct.main_arg1) = m ((c.tc : Thread Cert.FfnAct.nD Cert.FfnAct.τ).loc Cert.FfnAct.main_arg1)
      ∧ r.2.mem ((c.tc : Thread Cert.FfnAct.nD Cert.FfnAct.τ).loc Cert.FfnAct.main_arg2) = m ((c.tc : Thread Cert.FfnAct.nD Cert.FfnAct.τ).loc Cert.FfnAct.main_arg2)
      ∧ r.2.mem ((c.tc : Thread Cert.FfnAct.nD Cert.FfnAct.τ).loc Cert.FfnAct.main_arg3) = m ((c.tc : Thread Cert.FfnAct.nD Cert.FfnAct.τ).loc Cert.FfnAct.main_arg3))
      ∧ r.2.sem = fun _ => 0)

def quiescent_FfnActIdeal [hFfnActIdeal : Cert.FfnActIdeal.Facts] : Prop :=
  ∀ (m : (ℓ : Loc Cert.FfnActIdeal.nD Cert.FfnActIdeal.τ Cert.FfnActIdeal.sig) → Buf (Elt Ideal) ℓ) (g : Dev Cert.FfnActIdeal.nD → PrngReg), Pre_FfnActIdeal m →
    θ_run (Cert.FfnActIdeal.defs (F := Ideal)) (onTc (τ := Cert.FfnActIdeal.τ) (Cert.FfnActIdeal.main (F := Ideal))) ⟨m, fun _ => 0, g⟩ (fun r => (∀ c : Dev Cert.FfnActIdeal.nD,
      r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
      ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
      ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2)
      ∧ r.2.mem ((c.tc : Thread Cert.FfnActIdeal.nD Cert.FfnActIdeal.τ).loc Cert.FfnActIdeal.main_arg3) = m ((c.tc : Thread Cert.FfnActIdeal.nD Cert.FfnActIdeal.τ).loc Cert.FfnActIdeal.main_arg3))
      ∧ r.2.sem = fun _ => 0)

def quiescent_FfnActIdeal_pre_ffn_finite [hFfnActIdeal : Cert.FfnActIdeal.Facts] [hPre_ffn_finite : Cert.Pre_ffn_finite.Facts] : Prop :=
  ∀ (m : (ℓ : Loc Cert.FfnActIdeal.nD Cert.FfnActIdeal.τ Cert.FfnActIdeal.sig) → Buf (Elt Ideal) ℓ) (g : Dev Cert.FfnActIdeal.nD → PrngReg), Pre_FfnActIdeal_ffn_finite m →
    θ_run (Cert.FfnActIdeal.defs (F := Ideal)) (onTc (τ := Cert.FfnActIdeal.τ) (Cert.FfnActIdeal.main (F := Ideal))) ⟨m, fun _ => 0, g⟩ (fun r => (∀ c : Dev Cert.FfnActIdeal.nD,
      r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
      ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
      ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2)
      ∧ r.2.mem ((c.tc : Thread Cert.FfnActIdeal.nD Cert.FfnActIdeal.τ).loc Cert.FfnActIdeal.main_arg3) = m ((c.tc : Thread Cert.FfnActIdeal.nD Cert.FfnActIdeal.τ).loc Cert.FfnActIdeal.main_arg3))
      ∧ r.2.sem = fun _ => 0)

def quiescent_FfnActRefIdeal [hFfnActRefIdeal : Cert.FfnActRefIdeal.Facts] : Prop :=
  ∀ (m : (ℓ : Loc Cert.FfnActRefIdeal.nD Cert.FfnActRefIdeal.τ Cert.FfnActRefIdeal.sig) → Buf (Elt Ideal) ℓ) (g : Dev Cert.FfnActRefIdeal.nD → PrngReg), Pre_FfnActRefIdeal m →
    θ_run (Cert.FfnActRefIdeal.defs (F := Ideal)) (onTc (τ := Cert.FfnActRefIdeal.τ) (Cert.FfnActRefIdeal.main (F := Ideal))) ⟨m, fun _ => 0, g⟩ (fun r => (∀ c : Dev Cert.FfnActRefIdeal.nD,
      r.2.mem ((c.tc : Thread Cert.FfnActRefIdeal.nD Cert.FfnActRefIdeal.τ).loc Cert.FfnActRefIdeal.main_arg0) = m ((c.tc : Thread Cert.FfnActRefIdeal.nD Cert.FfnActRefIdeal.τ).loc Cert.FfnActRefIdeal.main_arg0)
      ∧ r.2.mem ((c.tc : Thread Cert.FfnActRefIdeal.nD Cert.FfnActRefIdeal.τ).loc Cert.FfnActRefIdeal.main_arg1) = m ((c.tc : Thread Cert.FfnActRefIdeal.nD Cert.FfnActRefIdeal.τ).loc Cert.FfnActRefIdeal.main_arg1)
      ∧ r.2.mem ((c.tc : Thread Cert.FfnActRefIdeal.nD Cert.FfnActRefIdeal.τ).loc Cert.FfnActRefIdeal.main_arg2) = m ((c.tc : Thread Cert.FfnActRefIdeal.nD Cert.FfnActRefIdeal.τ).loc Cert.FfnActRefIdeal.main_arg2)
      ∧ r.2.mem ((c.tc : Thread Cert.FfnActRefIdeal.nD Cert.FfnActRefIdeal.τ).loc Cert.FfnActRefIdeal.main_arg3) = m ((c.tc : Thread Cert.FfnActRefIdeal.nD Cert.FfnActRefIdeal.τ).loc Cert.FfnActRefIdeal.main_arg3))
      ∧ r.2.sem = fun _ => 0)

def quiescent_FfnActRefIdeal_pre_ffn_finite [hFfnActRefIdeal : Cert.FfnActRefIdeal.Facts] [hPre_ffn_finite : Cert.Pre_ffn_finite.Facts] : Prop :=
  ∀ (m : (ℓ : Loc Cert.FfnActRefIdeal.nD Cert.FfnActRefIdeal.τ Cert.FfnActRefIdeal.sig) → Buf (Elt Ideal) ℓ) (g : Dev Cert.FfnActRefIdeal.nD → PrngReg), Pre_FfnActRefIdeal_ffn_finite m →
    θ_run (Cert.FfnActRefIdeal.defs (F := Ideal)) (onTc (τ := Cert.FfnActRefIdeal.τ) (Cert.FfnActRefIdeal.main (F := Ideal))) ⟨m, fun _ => 0, g⟩ (fun r => (∀ c : Dev Cert.FfnActRefIdeal.nD,
      r.2.mem ((c.tc : Thread Cert.FfnActRefIdeal.nD Cert.FfnActRefIdeal.τ).loc Cert.FfnActRefIdeal.main_arg0) = m ((c.tc : Thread Cert.FfnActRefIdeal.nD Cert.FfnActRefIdeal.τ).loc Cert.FfnActRefIdeal.main_arg0)
      ∧ r.2.mem ((c.tc : Thread Cert.FfnActRefIdeal.nD Cert.FfnActRefIdeal.τ).loc Cert.FfnActRefIdeal.main_arg1) = m ((c.tc : Thread Cert.FfnActRefIdeal.nD Cert.FfnActRefIdeal.τ).loc Cert.FfnActRefIdeal.main_arg1)
      ∧ r.2.mem ((c.tc : Thread Cert.FfnActRefIdeal.nD Cert.FfnActRefIdeal.τ).loc Cert.FfnActRefIdeal.main_arg2) = m ((c.tc : Thread Cert.FfnActRefIdeal.nD Cert.FfnActRefIdeal.τ).loc Cert.FfnActRefIdeal.main_arg2)
      ∧ r.2.mem ((c.tc : Thread Cert.FfnActRefIdeal.nD Cert.FfnActRefIdeal.τ).loc Cert.FfnActRefIdeal.main_arg3) = m ((c.tc : Thread Cert.FfnActRefIdeal.nD Cert.FfnActRefIdeal.τ).loc Cert.FfnActRefIdeal.main_arg3))
      ∧ r.2.sem = fun _ => 0)

def quiescent_GluConv [hGluConv : Cert.GluConv.Facts] : Prop :=
  ∀ (m : (ℓ : Loc Cert.GluConv.nD Cert.GluConv.τ Cert.GluConv.sig) → Buf (Elt Bits) ℓ) (g : Dev Cert.GluConv.nD → PrngReg), Pre_GluConv m →
    θ_run (Cert.GluConv.defs (F := Bits)) (onTc (τ := Cert.GluConv.τ) (Cert.GluConv.main (F := Bits))) ⟨m, fun _ => 0, g⟩ (fun r => (∀ c : Dev Cert.GluConv.nD,
      r.2.mem ((c.tc : Thread Cert.GluConv.nD Cert.GluConv.τ).loc Cert.GluConv.main_arg0) = m ((c.tc : Thread Cert.GluConv.nD Cert.GluConv.τ).loc Cert.GluConv.main_arg0)
      ∧ r.2.mem ((c.tc : Thread Cert.GluConv.nD Cert.GluConv.τ).loc Cert.GluConv.main_arg1) = m ((c.tc : Thread Cert.GluConv.nD Cert.GluConv.τ).loc Cert.GluConv.main_arg1)
      ∧ r.2.mem ((c.tc : Thread Cert.GluConv.nD Cert.GluConv.τ).loc Cert.GluConv.main_arg2) = m ((c.tc : Thread Cert.GluConv.nD Cert.GluConv.τ).loc Cert.GluConv.main_arg2))
      ∧ r.2.sem = fun _ => 0)

def quiescent_GluConvIdeal [hGluConvIdeal : Cert.GluConvIdeal.Facts] : Prop :=
  ∀ (m : (ℓ : Loc Cert.GluConvIdeal.nD Cert.GluConvIdeal.τ Cert.GluConvIdeal.sig) → Buf (Elt Ideal) ℓ) (g : Dev Cert.GluConvIdeal.nD → PrngReg), Pre_GluConvIdeal m →
    θ_run (Cert.GluConvIdeal.defs (F := Ideal)) (onTc (τ := Cert.GluConvIdeal.τ) (Cert.GluConvIdeal.main (F := Ideal))) ⟨m, fun _ => 0, g⟩ (fun r => (∀ c : Dev Cert.GluConvIdeal.nD,
      r.2.mem ((c.tc : Thread Cert.GluConvIdeal.nD Cert.GluConvIdeal.τ).loc Cert.GluConvIdeal.main_arg0) = m ((c.tc : Thread Cert.GluConvIdeal.nD Cert.GluConvIdeal.τ).loc Cert.GluConvIdeal.main_arg0)
      ∧ r.2.mem ((c.tc : Thread Cert.GluConvIdeal.nD Cert.GluConvIdeal.τ).loc Cert.GluConvIdeal.main_arg1) = m ((c.tc : Thread Cert.GluConvIdeal.nD Cert.GluConvIdeal.τ).loc Cert.GluConvIdeal.main_arg1)
      ∧ r.2.mem ((c.tc : Thread Cert.GluConvIdeal.nD Cert.GluConvIdeal.τ).loc Cert.GluConvIdeal.main_arg2) = m ((c.tc : Thread Cert.GluConvIdeal.nD Cert.GluConvIdeal.τ).loc Cert.GluConvIdeal.main_arg2))
      ∧ r.2.sem = fun _ => 0)

def quiescent_GluConvRefIdeal [hGluConvRefIdeal : Cert.GluConvRefIdeal.Facts] : Prop :=
  ∀ (m : (ℓ : Loc Cert.GluConvRefIdeal.nD Cert.GluConvRefIdeal.τ Cert.GluConvRefIdeal.sig) → Buf (Elt Ideal) ℓ) (g : Dev Cert.GluConvRefIdeal.nD → PrngReg), Pre_GluConvRefIdeal m →
    θ_run (Cert.GluConvRefIdeal.defs (F := Ideal)) (onTc (τ := Cert.GluConvRefIdeal.τ) (Cert.GluConvRefIdeal.main (F := Ideal))) ⟨m, fun _ => 0, g⟩ (fun r => (∀ c : Dev Cert.GluConvRefIdeal.nD,
      r.2.mem ((c.tc : Thread Cert.GluConvRefIdeal.nD Cert.GluConvRefIdeal.τ).loc Cert.GluConvRefIdeal.main_arg0) = m ((c.tc : Thread Cert.GluConvRefIdeal.nD Cert.GluConvRefIdeal.τ).loc Cert.GluConvRefIdeal.main_arg0)
      ∧ r.2.mem ((c.tc : Thread Cert.GluConvRefIdeal.nD Cert.GluConvRefIdeal.τ).loc Cert.GluConvRefIdeal.main_arg1) = m ((c.tc : Thread Cert.GluConvRefIdeal.nD Cert.GluConvRefIdeal.τ).loc Cert.GluConvRefIdeal.main_arg1)
      ∧ r.2.mem ((c.tc : Thread Cert.GluConvRefIdeal.nD Cert.GluConvRefIdeal.τ).loc Cert.GluConvRefIdeal.main_arg2) = m ((c.tc : Thread Cert.GluConvRefIdeal.nD Cert.GluConvRefIdeal.τ).loc Cert.GluConvRefIdeal.main_arg2))
      ∧ r.2.sem = fun _ => 0)

def quiescent_LnFwd [hLnFwd : Cert.LnFwd.Facts] : Prop :=
  ∀ (m : (ℓ : Loc Cert.LnFwd.nD Cert.LnFwd.τ Cert.LnFwd.sig) → Buf (Elt Bits) ℓ) (g : Dev Cert.LnFwd.nD → PrngReg), Pre_LnFwd m →
    θ_run (Cert.LnFwd.defs (F := Bits)) (onTc (τ := Cert.LnFwd.τ) (Cert.LnFwd.main (F := Bits))) ⟨m, fun _ => 0, g⟩ (fun r => (∀ c : Dev Cert.LnFwd.nD,
      r.2.mem ((c.tc : Thread Cert.LnFwd.nD Cert.LnFwd.τ).loc Cert.LnFwd.main_arg0) = m ((c.tc : Thread Cert.LnFwd.nD Cert.LnFwd.τ).loc Cert.LnFwd.main_arg0)
      ∧ r.2.mem ((c.tc : Thread Cert.LnFwd.nD Cert.LnFwd.τ).loc Cert.LnFwd.main_arg1) = m ((c.tc : Thread Cert.LnFwd.nD Cert.LnFwd.τ).loc Cert.LnFwd.main_arg1)
      ∧ r.2.mem ((c.tc : Thread Cert.LnFwd.nD Cert.LnFwd.τ).loc Cert.LnFwd.main_arg2) = m ((c.tc : Thread Cert.LnFwd.nD Cert.LnFwd.τ).loc Cert.LnFwd.main_arg2))
      ∧ r.2.sem = fun _ => 0)

def quiescent_LnFwdIdeal [hLnFwdIdeal : Cert.LnFwdIdeal.Facts] : Prop :=
  ∀ (m : (ℓ : Loc Cert.LnFwdIdeal.nD Cert.LnFwdIdeal.τ Cert.LnFwdIdeal.sig) → Buf (Elt Ideal) ℓ) (g : Dev Cert.LnFwdIdeal.nD → PrngReg), Pre_LnFwdIdeal m →
    θ_run (Cert.LnFwdIdeal.defs (F := Ideal)) (onTc (τ := Cert.LnFwdIdeal.τ) (Cert.LnFwdIdeal.main (F := Ideal))) ⟨m, fun _ => 0, g⟩ (fun r => (∀ c : Dev Cert.LnFwdIdeal.nD,
      r.2.mem ((c.tc : Thread Cert.LnFwdIdeal.nD Cert.LnFwdIdeal.τ).loc Cert.LnFwdIdeal.main_arg0) = m ((c.tc : Thread Cert.LnFwdIdeal.nD Cert.LnFwdIdeal.τ).loc Cert.LnFwdIdeal.main_arg0)
      ∧ r.2.mem ((c.tc : Thread Cert.LnFwdIdeal.nD Cert.LnFwdIdeal.τ).loc Cert.LnFwdIdeal.main_arg1) = m ((c.tc : Thread Cert.LnFwdIdeal.nD Cert.LnFwdIdeal.τ).loc Cert.LnFwdIdeal.main_arg1)
      ∧ r.2.mem ((c.tc : Thread Cert.LnFwdIdeal.nD Cert.LnFwdIdeal.τ).loc Cert.LnFwdIdeal.main_arg2) = m ((c.tc : Thread Cert.LnFwdIdeal.nD Cert.LnFwdIdeal.τ).loc Cert.LnFwdIdeal.main_arg2))
      ∧ r.2.sem = fun _ => 0)

def quiescent_LnFwdRefIdeal [hLnFwdRefIdeal : Cert.LnFwdRefIdeal.Facts] : Prop :=
  ∀ (m : (ℓ : Loc Cert.LnFwdRefIdeal.nD Cert.LnFwdRefIdeal.τ Cert.LnFwdRefIdeal.sig) → Buf (Elt Ideal) ℓ) (g : Dev Cert.LnFwdRefIdeal.nD → PrngReg), Pre_LnFwdRefIdeal m →
    θ_run (Cert.LnFwdRefIdeal.defs (F := Ideal)) (onTc (τ := Cert.LnFwdRefIdeal.τ) (Cert.LnFwdRefIdeal.main (F := Ideal))) ⟨m, fun _ => 0, g⟩ (fun r => (∀ c : Dev Cert.LnFwdRefIdeal.nD,
      r.2.mem ((c.tc : Thread Cert.LnFwdRefIdeal.nD Cert.LnFwdRefIdeal.τ).loc Cert.LnFwdRefIdeal.main_arg0) = m ((c.tc : Thread Cert.LnFwdRefIdeal.nD Cert.LnFwdRefIdeal.τ).loc Cert.LnFwdRefIdeal.main_arg0)
      ∧ r.2.mem ((c.tc : Thread Cert.LnFwdRefIdeal.nD Cert.LnFwdRefIdeal.τ).loc Cert.LnFwdRefIdeal.main_arg1) = m ((c.tc : Thread Cert.LnFwdRefIdeal.nD Cert.LnFwdRefIdeal.τ).loc Cert.LnFwdRefIdeal.main_arg1)
      ∧ r.2.mem ((c.tc : Thread Cert.LnFwdRefIdeal.nD Cert.LnFwdRefIdeal.τ).loc Cert.LnFwdRefIdeal.main_arg2) = m ((c.tc : Thread Cert.LnFwdRefIdeal.nD Cert.LnFwdRefIdeal.τ).loc Cert.LnFwdRefIdeal.main_arg2))
      ∧ r.2.sem = fun _ => 0)

def quiescent_NormUp [hNormUp : Cert.NormUp.Facts] : Prop :=
  ∀ (m : (ℓ : Loc Cert.NormUp.nD Cert.NormUp.τ Cert.NormUp.sig) → Buf (Elt Bits) ℓ) (g : Dev Cert.NormUp.nD → PrngReg), Pre_NormUp m →
    θ_run (Cert.NormUp.defs (F := Bits)) (onTc (τ := Cert.NormUp.τ) (Cert.NormUp.main (F := Bits))) ⟨m, fun _ => 0, g⟩ (fun r => (∀ c : Dev Cert.NormUp.nD,
      r.2.mem ((c.tc : Thread Cert.NormUp.nD Cert.NormUp.τ).loc Cert.NormUp.main_arg0) = m ((c.tc : Thread Cert.NormUp.nD Cert.NormUp.τ).loc Cert.NormUp.main_arg0)
      ∧ r.2.mem ((c.tc : Thread Cert.NormUp.nD Cert.NormUp.τ).loc Cert.NormUp.main_arg1) = m ((c.tc : Thread Cert.NormUp.nD Cert.NormUp.τ).loc Cert.NormUp.main_arg1)
      ∧ r.2.mem ((c.tc : Thread Cert.NormUp.nD Cert.NormUp.τ).loc Cert.NormUp.main_arg2) = m ((c.tc : Thread Cert.NormUp.nD Cert.NormUp.τ).loc Cert.NormUp.main_arg2))
      ∧ r.2.sem = fun _ => 0)

def quiescent_NormUpIdeal [hNormUpIdeal : Cert.NormUpIdeal.Facts] : Prop :=
  ∀ (m : (ℓ : Loc Cert.NormUpIdeal.nD Cert.NormUpIdeal.τ Cert.NormUpIdeal.sig) → Buf (Elt Ideal) ℓ) (g : Dev Cert.NormUpIdeal.nD → PrngReg), Pre_NormUpIdeal m →
    θ_run (Cert.NormUpIdeal.defs (F := Ideal)) (onTc (τ := Cert.NormUpIdeal.τ) (Cert.NormUpIdeal.main (F := Ideal))) ⟨m, fun _ => 0, g⟩ (fun r => (∀ c : Dev Cert.NormUpIdeal.nD,
      r.2.mem ((c.tc : Thread Cert.NormUpIdeal.nD Cert.NormUpIdeal.τ).loc Cert.NormUpIdeal.main_arg0) = m ((c.tc : Thread Cert.NormUpIdeal.nD Cert.NormUpIdeal.τ).loc Cert.NormUpIdeal.main_arg0)
      ∧ r.2.mem ((c.tc : Thread Cert.NormUpIdeal.nD Cert.NormUpIdeal.τ).loc Cert.NormUpIdeal.main_arg1) = m ((c.tc : Thread Cert.NormUpIdeal.nD Cert.NormUpIdeal.τ).loc Cert.NormUpIdeal.main_arg1)
      ∧ r.2.mem ((c.tc : Thread Cert.NormUpIdeal.nD Cert.NormUpIdeal.τ).loc Cert.NormUpIdeal.main_arg2) = m ((c.tc : Thread Cert.NormUpIdeal.nD Cert.NormUpIdeal.τ).loc Cert.NormUpIdeal.main_arg2))
      ∧ r.2.sem = fun _ => 0)

def quiescent_NormUpRefIdeal [hNormUpRefIdeal : Cert.NormUpRefIdeal.Facts] : Prop :=
  ∀ (m : (ℓ : Loc Cert.NormUpRefIdeal.nD Cert.NormUpRefIdeal.τ Cert.NormUpRefIdeal.sig) → Buf (Elt Ideal) ℓ) (g : Dev Cert.NormUpRefIdeal.nD → PrngReg), Pre_NormUpRefIdeal m →
    θ_run (Cert.NormUpRefIdeal.defs (F := Ideal)) (onTc (τ := Cert.NormUpRefIdeal.τ) (Cert.NormUpRefIdeal.main (F := Ideal))) ⟨m, fun _ => 0, g⟩ (fun r => (∀ c : Dev Cert.NormUpRefIdeal.nD,
      r.2.mem ((c.tc : Thread Cert.NormUpRefIdeal.nD Cert.NormUpRefIdeal.τ).loc Cert.NormUpRefIdeal.main_arg0) = m ((c.tc : Thread Cert.NormUpRefIdeal.nD Cert.NormUpRefIdeal.τ).loc Cert.NormUpRefIdeal.main_arg0)
      ∧ r.2.mem ((c.tc : Thread Cert.NormUpRefIdeal.nD Cert.NormUpRefIdeal.τ).loc Cert.NormUpRefIdeal.main_arg1) = m ((c.tc : Thread Cert.NormUpRefIdeal.nD Cert.NormUpRefIdeal.τ).loc Cert.NormUpRefIdeal.main_arg1)
      ∧ r.2.mem ((c.tc : Thread Cert.NormUpRefIdeal.nD Cert.NormUpRefIdeal.τ).loc Cert.NormUpRefIdeal.main_arg2) = m ((c.tc : Thread Cert.NormUpRefIdeal.nD Cert.NormUpRefIdeal.τ).loc Cert.NormUpRefIdeal.main_arg2))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2))
      ∧ r.2.sem = fun _ => 0)

def quiescent_GluFwd [hGluFwd : Cert.GluFwd.Facts] : Prop :=
  ∀ (m : (ℓ : Loc Cert.GluFwd.nD Cert.GluFwd.τ Cert.GluFwd.sig) → Buf (Elt Bits) ℓ) (g : Dev Cert.GluFwd.nD → PrngReg), Pre_GluFwd m →
    θ_run (Cert.GluFwd.defs (F := Bits)) (onTc (τ := Cert.GluFwd.τ) (Cert.GluFwd.main (F := Bits))) ⟨m, fun _ => 0, g⟩ (fun r => (∀ c : Dev Cert.GluFwd.nD,
      r.2.mem ((c.tc : Thread Cert.GluFwd.nD Cert.GluFwd.τ).loc Cert.GluFwd.main_arg0) = m ((c.tc : Thread Cert.GluFwd.nD Cert.GluFwd.τ).loc Cert.GluFwd.main_arg0)
      ∧ r.2.mem ((c.tc : Thread Cert.GluFwd.nD Cert.GluFwd.τ).loc Cert.GluFwd.main_arg1) = m ((c.tc : Thread Cert.GluFwd.nD Cert.GluFwd.τ).loc Cert.GluFwd.main_arg1)
      ∧ r.2.mem ((c.tc : Thread Cert.GluFwd.nD Cert.GluFwd.τ).loc Cert.GluFwd.main_arg2) = m ((c.tc : Thread Cert.GluFwd.nD Cert.GluFwd.τ).loc Cert.GluFwd.main_arg2))
      ∧ r.2.sem = fun _ => 0)

def quiescent_GluFwdIdeal [hGluFwdIdeal : Cert.GluFwdIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg), Pre_GluFwdIdeal m →
    θ_run (Cert.GluFwdIdeal.defs (F := Ideal)) (onTc (τ := Cert.GluFwdIdeal.τ) (Cert.GluFwdIdeal.main (F := Ideal))) ⟨m, fun _ => 0, g⟩ (fun r => (∀ c : Dev Cert.GluFwdIdeal.nD,
      r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
      ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1)
      ∧ r.2.mem ((c.tc : Thread Cert.GluFwdIdeal.nD Cert.GluFwdIdeal.τ).loc Cert.GluFwdIdeal.main_arg2) = m ((c.tc : Thread Cert.GluFwdIdeal.nD Cert.GluFwdIdeal.τ).loc Cert.GluFwdIdeal.main_arg2))
      ∧ r.2.sem = fun _ => 0)

def quiescent_GluFwdRefIdeal [hGluFwdRefIdeal : Cert.GluFwdRefIdeal.Facts] : Prop :=
  ∀ (m : (ℓ : Loc Cert.GluFwdRefIdeal.nD Cert.GluFwdRefIdeal.τ Cert.GluFwdRefIdeal.sig) → Buf (Elt Ideal) ℓ) (g : Dev Cert.GluFwdRefIdeal.nD → PrngReg), Pre_GluFwdRefIdeal m →
    θ_run (Cert.GluFwdRefIdeal.defs (F := Ideal)) (onTc (τ := Cert.GluFwdRefIdeal.τ) (Cert.GluFwdRefIdeal.main (F := Ideal))) ⟨m, fun _ => 0, g⟩ (fun r => (∀ c : Dev Cert.GluFwdRefIdeal.nD,
      r.2.mem ((c.tc : Thread Cert.GluFwdRefIdeal.nD Cert.GluFwdRefIdeal.τ).loc Cert.GluFwdRefIdeal.main_arg0) = m ((c.tc : Thread Cert.GluFwdRefIdeal.nD Cert.GluFwdRefIdeal.τ).loc Cert.GluFwdRefIdeal.main_arg0)
      ∧ r.2.mem ((c.tc : Thread Cert.GluFwdRefIdeal.nD Cert.GluFwdRefIdeal.τ).loc Cert.GluFwdRefIdeal.main_arg1) = m ((c.tc : Thread Cert.GluFwdRefIdeal.nD Cert.GluFwdRefIdeal.τ).loc Cert.GluFwdRefIdeal.main_arg1)
      ∧ r.2.mem ((c.tc : Thread Cert.GluFwdRefIdeal.nD Cert.GluFwdRefIdeal.τ).loc Cert.GluFwdRefIdeal.main_arg2) = m ((c.tc : Thread Cert.GluFwdRefIdeal.nD Cert.GluFwdRefIdeal.τ).loc Cert.GluFwdRefIdeal.main_arg2))
      ∧ r.2.sem = fun _ => 0)

def quiescent_MatRes [hMatRes : Cert.MatRes.Facts] : Prop :=
  ∀ (m : (ℓ : Loc Cert.MatRes.nD Cert.MatRes.τ Cert.MatRes.sig) → Buf (Elt Bits) ℓ) (g : Dev Cert.MatRes.nD → PrngReg), Pre_MatRes m →
    θ_run (Cert.MatRes.defs (F := Bits)) (onTc (τ := Cert.MatRes.τ) (Cert.MatRes.main (F := Bits))) ⟨m, fun _ => 0, g⟩ (fun r => (∀ c : Dev Cert.MatRes.nD,
      r.2.mem ((c.tc : Thread Cert.MatRes.nD Cert.MatRes.τ).loc Cert.MatRes.main_arg0) = m ((c.tc : Thread Cert.MatRes.nD Cert.MatRes.τ).loc Cert.MatRes.main_arg0)
      ∧ r.2.mem ((c.tc : Thread Cert.MatRes.nD Cert.MatRes.τ).loc Cert.MatRes.main_arg1) = m ((c.tc : Thread Cert.MatRes.nD Cert.MatRes.τ).loc Cert.MatRes.main_arg1)
      ∧ r.2.mem ((c.tc : Thread Cert.MatRes.nD Cert.MatRes.τ).loc Cert.MatRes.main_arg2) = m ((c.tc : Thread Cert.MatRes.nD Cert.MatRes.τ).loc Cert.MatRes.main_arg2))
      ∧ r.2.sem = fun _ => 0)

def quiescent_MatResIdeal [hMatResIdeal : Cert.MatResIdeal.Facts] : Prop :=
  ∀ (m : (ℓ : Loc Cert.MatResIdeal.nD Cert.MatResIdeal.τ Cert.MatResIdeal.sig) → Buf (Elt Ideal) ℓ) (g : Dev Cert.MatResIdeal.nD → PrngReg), Pre_MatResIdeal m →
    θ_run (Cert.MatResIdeal.defs (F := Ideal)) (onTc (τ := Cert.MatResIdeal.τ) (Cert.MatResIdeal.main (F := Ideal))) ⟨m, fun _ => 0, g⟩ (fun r => (∀ c : Dev Cert.MatResIdeal.nD,
      r.2.mem ((c.tc : Thread Cert.MatResIdeal.nD Cert.MatResIdeal.τ).loc Cert.MatResIdeal.main_arg0) = m ((c.tc : Thread Cert.MatResIdeal.nD Cert.MatResIdeal.τ).loc Cert.MatResIdeal.main_arg0)
      ∧ r.2.mem ((c.tc : Thread Cert.MatResIdeal.nD Cert.MatResIdeal.τ).loc Cert.MatResIdeal.main_arg1) = m ((c.tc : Thread Cert.MatResIdeal.nD Cert.MatResIdeal.τ).loc Cert.MatResIdeal.main_arg1)
      ∧ r.2.mem ((c.tc : Thread Cert.MatResIdeal.nD Cert.MatResIdeal.τ).loc Cert.MatResIdeal.main_arg2) = m ((c.tc : Thread Cert.MatResIdeal.nD Cert.MatResIdeal.τ).loc Cert.MatResIdeal.main_arg2))
      ∧ r.2.sem = fun _ => 0)

def quiescent_MatResRefIdeal [hMatResRefIdeal : Cert.MatResRefIdeal.Facts] : Prop :=
  ∀ (m : (ℓ : Loc Cert.MatResRefIdeal.nD Cert.MatResRefIdeal.τ Cert.MatResRefIdeal.sig) → Buf (Elt Ideal) ℓ) (g : Dev Cert.MatResRefIdeal.nD → PrngReg), Pre_MatResRefIdeal m →
    θ_run (Cert.MatResRefIdeal.defs (F := Ideal)) (onTc (τ := Cert.MatResRefIdeal.τ) (Cert.MatResRefIdeal.main (F := Ideal))) ⟨m, fun _ => 0, g⟩ (fun r => (∀ c : Dev Cert.MatResRefIdeal.nD,
      r.2.mem ((c.tc : Thread Cert.MatResRefIdeal.nD Cert.MatResRefIdeal.τ).loc Cert.MatResRefIdeal.main_arg0) = m ((c.tc : Thread Cert.MatResRefIdeal.nD Cert.MatResRefIdeal.τ).loc Cert.MatResRefIdeal.main_arg0)
      ∧ r.2.mem ((c.tc : Thread Cert.MatResRefIdeal.nD Cert.MatResRefIdeal.τ).loc Cert.MatResRefIdeal.main_arg1) = m ((c.tc : Thread Cert.MatResRefIdeal.nD Cert.MatResRefIdeal.τ).loc Cert.MatResRefIdeal.main_arg1)
      ∧ r.2.mem ((c.tc : Thread Cert.MatResRefIdeal.nD Cert.MatResRefIdeal.τ).loc Cert.MatResRefIdeal.main_arg2) = m ((c.tc : Thread Cert.MatResRefIdeal.nD Cert.MatResRefIdeal.τ).loc Cert.MatResRefIdeal.main_arg2))
      ∧ r.2.sem = fun _ => 0)

def quiescent_MatNt [hMatNt : Cert.MatNt.Facts] : Prop :=
  ∀ (m : (ℓ : Loc Cert.MatNt.nD Cert.MatNt.τ Cert.MatNt.sig) → Buf (Elt Bits) ℓ) (g : Dev Cert.MatNt.nD → PrngReg), Pre_MatNt m →
    θ_run (Cert.MatNt.defs (F := Bits)) (onTc (τ := Cert.MatNt.τ) (Cert.MatNt.main (F := Bits))) ⟨m, fun _ => 0, g⟩ (fun r => (∀ c : Dev Cert.MatNt.nD,
      r.2.mem ((c.tc : Thread Cert.MatNt.nD Cert.MatNt.τ).loc Cert.MatNt.main_arg0) = m ((c.tc : Thread Cert.MatNt.nD Cert.MatNt.τ).loc Cert.MatNt.main_arg0)
      ∧ r.2.mem ((c.tc : Thread Cert.MatNt.nD Cert.MatNt.τ).loc Cert.MatNt.main_arg1) = m ((c.tc : Thread Cert.MatNt.nD Cert.MatNt.τ).loc Cert.MatNt.main_arg1))
      ∧ r.2.sem = fun _ => 0)

def quiescent_MatNtIdeal [hMatNtIdeal : Cert.MatNtIdeal.Facts] : Prop :=
  ∀ (m : (ℓ : Loc Cert.MatNtIdeal.nD Cert.MatNtIdeal.τ Cert.MatNtIdeal.sig) → Buf (Elt Ideal) ℓ) (g : Dev Cert.MatNtIdeal.nD → PrngReg), Pre_MatNtIdeal m →
    θ_run (Cert.MatNtIdeal.defs (F := Ideal)) (onTc (τ := Cert.MatNtIdeal.τ) (Cert.MatNtIdeal.main (F := Ideal))) ⟨m, fun _ => 0, g⟩ (fun r => (∀ c : Dev Cert.MatNtIdeal.nD,
      r.2.mem ((c.tc : Thread Cert.MatNtIdeal.nD Cert.MatNtIdeal.τ).loc Cert.MatNtIdeal.main_arg0) = m ((c.tc : Thread Cert.MatNtIdeal.nD Cert.MatNtIdeal.τ).loc Cert.MatNtIdeal.main_arg0)
      ∧ r.2.mem ((c.tc : Thread Cert.MatNtIdeal.nD Cert.MatNtIdeal.τ).loc Cert.MatNtIdeal.main_arg1) = m ((c.tc : Thread Cert.MatNtIdeal.nD Cert.MatNtIdeal.τ).loc Cert.MatNtIdeal.main_arg1))
      ∧ r.2.sem = fun _ => 0)

def quiescent_MatNtRefIdeal [hMatNtRefIdeal : Cert.MatNtRefIdeal.Facts] : Prop :=
  ∀ (m : (ℓ : Loc Cert.MatNtRefIdeal.nD Cert.MatNtRefIdeal.τ Cert.MatNtRefIdeal.sig) → Buf (Elt Ideal) ℓ) (g : Dev Cert.MatNtRefIdeal.nD → PrngReg), Pre_MatNtRefIdeal m →
    θ_run (Cert.MatNtRefIdeal.defs (F := Ideal)) (onTc (τ := Cert.MatNtRefIdeal.τ) (Cert.MatNtRefIdeal.main (F := Ideal))) ⟨m, fun _ => 0, g⟩ (fun r => (∀ c : Dev Cert.MatNtRefIdeal.nD,
      r.2.mem ((c.tc : Thread Cert.MatNtRefIdeal.nD Cert.MatNtRefIdeal.τ).loc Cert.MatNtRefIdeal.main_arg0) = m ((c.tc : Thread Cert.MatNtRefIdeal.nD Cert.MatNtRefIdeal.τ).loc Cert.MatNtRefIdeal.main_arg0)
      ∧ r.2.mem ((c.tc : Thread Cert.MatNtRefIdeal.nD Cert.MatNtRefIdeal.τ).loc Cert.MatNtRefIdeal.main_arg1) = m ((c.tc : Thread Cert.MatNtRefIdeal.nD Cert.MatNtRefIdeal.τ).loc Cert.MatNtRefIdeal.main_arg1))
      ∧ r.2.sem = fun _ => 0)

def quiescent_AdamW [hAdamW : Cert.AdamW.Facts] : Prop :=
  ∀ (m : (ℓ : Loc Cert.AdamW.nD Cert.AdamW.τ Cert.AdamW.sig) → Buf (Elt Bits) ℓ) (g : Dev Cert.AdamW.nD → PrngReg), Pre_AdamW m →
    θ_run (Cert.AdamW.defs (F := Bits)) (onTc (τ := Cert.AdamW.τ) (Cert.AdamW.main (F := Bits))) ⟨m, fun _ => 0, g⟩ (fun r => (∀ c : Dev Cert.AdamW.nD,
      r.2.mem ((c.tc : Thread Cert.AdamW.nD Cert.AdamW.τ).loc Cert.AdamW.main_arg0) = m ((c.tc : Thread Cert.AdamW.nD Cert.AdamW.τ).loc Cert.AdamW.main_arg0)
      ∧ r.2.mem ((c.tc : Thread Cert.AdamW.nD Cert.AdamW.τ).loc Cert.AdamW.main_arg1) = m ((c.tc : Thread Cert.AdamW.nD Cert.AdamW.τ).loc Cert.AdamW.main_arg1)
      ∧ r.2.mem ((c.tc : Thread Cert.AdamW.nD Cert.AdamW.τ).loc Cert.AdamW.main_arg2) = m ((c.tc : Thread Cert.AdamW.nD Cert.AdamW.τ).loc Cert.AdamW.main_arg2)
      ∧ r.2.mem ((c.tc : Thread Cert.AdamW.nD Cert.AdamW.τ).loc Cert.AdamW.main_arg3) = m ((c.tc : Thread Cert.AdamW.nD Cert.AdamW.τ).loc Cert.AdamW.main_arg3))
      ∧ r.2.sem = fun _ => 0)

def quiescent_AdamWIdeal [hAdamWIdeal : Cert.AdamWIdeal.Facts] : Prop :=
  ∀ (m : (ℓ : Loc Cert.AdamWIdeal.nD Cert.AdamWIdeal.τ Cert.AdamWIdeal.sig) → Buf (Elt Ideal) ℓ) (g : Dev Cert.AdamWIdeal.nD → PrngReg), Pre_AdamWIdeal m →
    θ_run (Cert.AdamWIdeal.defs (F := Ideal)) (onTc (τ := Cert.AdamWIdeal.τ) (Cert.AdamWIdeal.main (F := Ideal))) ⟨m, fun _ => 0, g⟩ (fun r => (∀ c : Dev Cert.AdamWIdeal.nD,
      r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
      ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
      ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
      ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ r.2.sem = fun _ => 0)

def quiescent_AdamWRefIdeal [hAdamWRefIdeal : Cert.AdamWRefIdeal.Facts] : Prop :=
  ∀ (m : (ℓ : Loc Cert.AdamWRefIdeal.nD Cert.AdamWRefIdeal.τ Cert.AdamWRefIdeal.sig) → Buf (Elt Ideal) ℓ) (g : Dev Cert.AdamWRefIdeal.nD → PrngReg), Pre_AdamWRefIdeal m →
    θ_run (Cert.AdamWRefIdeal.defs (F := Ideal)) (onTc (τ := Cert.AdamWRefIdeal.τ) (Cert.AdamWRefIdeal.main (F := Ideal))) ⟨m, fun _ => 0, g⟩ (fun r => (∀ c : Dev Cert.AdamWRefIdeal.nD,
      r.2.mem ((c.tc : Thread Cert.AdamWRefIdeal.nD Cert.AdamWRefIdeal.τ).loc Cert.AdamWRefIdeal.main_arg0) = m ((c.tc : Thread Cert.AdamWRefIdeal.nD Cert.AdamWRefIdeal.τ).loc Cert.AdamWRefIdeal.main_arg0)
      ∧ r.2.mem ((c.tc : Thread Cert.AdamWRefIdeal.nD Cert.AdamWRefIdeal.τ).loc Cert.AdamWRefIdeal.main_arg1) = m ((c.tc : Thread Cert.AdamWRefIdeal.nD Cert.AdamWRefIdeal.τ).loc Cert.AdamWRefIdeal.main_arg1)
      ∧ r.2.mem ((c.tc : Thread Cert.AdamWRefIdeal.nD Cert.AdamWRefIdeal.τ).loc Cert.AdamWRefIdeal.main_arg2) = m ((c.tc : Thread Cert.AdamWRefIdeal.nD Cert.AdamWRefIdeal.τ).loc Cert.AdamWRefIdeal.main_arg2)
      ∧ r.2.mem ((c.tc : Thread Cert.AdamWRefIdeal.nD Cert.AdamWRefIdeal.τ).loc Cert.AdamWRefIdeal.main_arg3) = m ((c.tc : Thread Cert.AdamWRefIdeal.nD Cert.AdamWRefIdeal.τ).loc Cert.AdamWRefIdeal.main_arg3))
      ∧ r.2.sem = fun _ => 0)

def preserves_AttnBwd_AttnBwdIdeal : Prop :=
  True

def algebraic_AttnBwdIdeal_AttnBwdRefIdeal_pre_attn_finite [hAttnBwdIdeal : Cert.AttnBwdIdeal.Facts] [hAttnBwdRefIdeal : Cert.AttnBwdRefIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnBwdRefIdeal.nD Cert.AttnBwdRefIdeal.τ Cert.AttnBwdRefIdeal.sig) → Buf (Elt Ideal) ℓ) (g' : Dev Cert.AttnBwdRefIdeal.nD → PrngReg), Pre_AttnBwdIdeal_attn_finite m →
    (∀ c : Dev Cert.AttnBwdIdeal.nD,
      m' ((c.tc : Thread Cert.AttnBwdRefIdeal.nD Cert.AttnBwdRefIdeal.τ).loc Cert.AttnBwdRefIdeal.main_arg0) = m ((c.tc : Thread Cert.AttnBwdIdeal.nD Cert.AttnBwdIdeal.τ).loc Cert.AttnBwdIdeal.main_arg0)
      ∧ m' ((c.tc : Thread Cert.AttnBwdRefIdeal.nD Cert.AttnBwdRefIdeal.τ).loc Cert.AttnBwdRefIdeal.main_arg1) = m ((c.tc : Thread Cert.AttnBwdIdeal.nD Cert.AttnBwdIdeal.τ).loc Cert.AttnBwdIdeal.main_arg1)
      ∧ m' ((c.tc : Thread Cert.AttnBwdRefIdeal.nD Cert.AttnBwdRefIdeal.τ).loc Cert.AttnBwdRefIdeal.main_arg2) = m ((c.tc : Thread Cert.AttnBwdIdeal.nD Cert.AttnBwdIdeal.τ).loc Cert.AttnBwdIdeal.main_arg2)
      ∧ m' ((c.tc : Thread Cert.AttnBwdRefIdeal.nD Cert.AttnBwdRefIdeal.τ).loc Cert.AttnBwdRefIdeal.main_arg3) = m ((c.tc : Thread Cert.AttnBwdIdeal.nD Cert.AttnBwdIdeal.τ).loc Cert.AttnBwdIdeal.main_arg3)) →
    ∃ (v0 : (c : Dev Cert.AttnBwdIdeal.nD) → Buf (Elt Ideal) ((c.tc : Thread Cert.AttnBwdIdeal.nD Cert.AttnBwdIdeal.τ).loc Cert.AttnBwdIdeal.main_v79_0)) (v1 : (c : Dev Cert.AttnBwdIdeal.nD) → Buf (Elt Ideal) ((c.tc : Thread Cert.AttnBwdIdeal.nD Cert.AttnBwdIdeal.τ).loc Cert.AttnBwdIdeal.main_v79_1)) (v2 : (c : Dev Cert.AttnBwdIdeal.nD) → Buf (Elt Ideal) ((c.tc : Thread Cert.AttnBwdIdeal.nD Cert.AttnBwdIdeal.τ).loc Cert.AttnBwdIdeal.main_v79_2)) (v3 : (c : Dev Cert.AttnBwdIdeal.nD) → Buf (Elt Ideal) ((c.tc : Thread Cert.AttnBwdIdeal.nD Cert.AttnBwdIdeal.τ).loc Cert.AttnBwdIdeal.main_v79_3)) (v4 : (c : Dev Cert.AttnBwdIdeal.nD) → Buf (Elt Ideal) ((c.tc : Thread Cert.AttnBwdIdeal.nD Cert.AttnBwdIdeal.τ).loc Cert.AttnBwdIdeal.main_v79_4)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v79_0) = v0 c
          ∧ r.2.mem ((c.tc : Thread Cert.AttnBwdIdeal.nD Cert.AttnBwdIdeal.τ).loc Cert.AttnBwdIdeal.main_v79_1) = v1 c
          ∧ r.2.mem ((c.tc : Thread Cert.AttnBwdIdeal.nD Cert.AttnBwdIdeal.τ).loc Cert.AttnBwdIdeal.main_v79_2) = v2 c
          ∧ r.2.mem ((c.tc : Thread Cert.AttnBwdIdeal.nD Cert.AttnBwdIdeal.τ).loc Cert.AttnBwdIdeal.main_v79_3) = v3 c
          ∧ r.2.mem ((c.tc : Thread Cert.AttnBwdIdeal.nD Cert.AttnBwdIdeal.τ).loc Cert.AttnBwdIdeal.main_v79_4) = v4 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ θ_run (Cert.AttnBwdRefIdeal.defs (F := Ideal)) (onTc (τ := Cert.AttnBwdRefIdeal.τ) (Cert.AttnBwdRefIdeal.main (F := Ideal))) ⟨m', fun _ => 0, g'⟩ (fun r => ∀ c : Dev Cert.AttnBwdRefIdeal.nD,
          r.2.mem ((c.tc : Thread Cert.AttnBwdRefIdeal.nD Cert.AttnBwdRefIdeal.τ).loc Cert.AttnBwdRefIdeal.main_v127) = v0 c
          ∧ r.2.mem ((c.tc : Thread Cert.AttnBwdRefIdeal.nD Cert.AttnBwdRefIdeal.τ).loc Cert.AttnBwdRefIdeal.main_v128) = v1 c
          ∧ r.2.mem ((c.tc : Thread Cert.AttnBwdRefIdeal.nD Cert.AttnBwdRefIdeal.τ).loc Cert.AttnBwdRefIdeal.main_v129) = v2 c
          ∧ r.2.mem ((c.tc : Thread Cert.AttnBwdRefIdeal.nD Cert.AttnBwdRefIdeal.τ).loc Cert.AttnBwdRefIdeal.main_v111) = v3 c
          ∧ r.2.mem ((c.tc : Thread Cert.AttnBwdRefIdeal.nD Cert.AttnBwdRefIdeal.τ).loc Cert.AttnBwdRefIdeal.main_v89) = v4 c
          ∧ r.2.mem ((c.tc : Thread Cert.AttnBwdRefIdeal.nD Cert.AttnBwdRefIdeal.τ).loc Cert.AttnBwdRefIdeal.main_arg0) = m' ((c.tc : Thread Cert.AttnBwdRefIdeal.nD Cert.AttnBwdRefIdeal.τ).loc Cert.AttnBwdRefIdeal.main_arg0)
          ∧ r.2.mem ((c.tc : Thread Cert.AttnBwdRefIdeal.nD Cert.AttnBwdRefIdeal.τ).loc Cert.AttnBwdRefIdeal.main_arg1) = m' ((c.tc : Thread Cert.AttnBwdRefIdeal.nD Cert.AttnBwdRefIdeal.τ).loc Cert.AttnBwdRefIdeal.main_arg1)
          ∧ r.2.mem ((c.tc : Thread Cert.AttnBwdRefIdeal.nD Cert.AttnBwdRefIdeal.τ).loc Cert.AttnBwdRefIdeal.main_arg2) = m' ((c.tc : Thread Cert.AttnBwdRefIdeal.nD Cert.AttnBwdRefIdeal.τ).loc Cert.AttnBwdRefIdeal.main_arg2)
          ∧ r.2.mem ((c.tc : Thread Cert.AttnBwdRefIdeal.nD Cert.AttnBwdRefIdeal.τ).loc Cert.AttnBwdRefIdeal.main_arg3) = m' ((c.tc : Thread Cert.AttnBwdRefIdeal.nD Cert.AttnBwdRefIdeal.τ).loc Cert.AttnBwdRefIdeal.main_arg3))

def preserves_LnSilu_LnSiluIdeal : Prop :=
  True

def algebraic_LnSiluIdeal_LnSiluRefIdeal_pre_ln_silu_finite [hLnSiluIdeal : Cert.LnSiluIdeal.Facts] [hLnSiluRefIdeal : Cert.LnSiluRefIdeal.Facts] [hPre_ln_silu_finite : Cert.Pre_ln_silu_finite.Facts] : Prop :=
  ∀ (m : (ℓ : Loc Cert.LnSiluIdeal.nD Cert.LnSiluIdeal.τ Cert.LnSiluIdeal.sig) → Buf (Elt Ideal) ℓ) (g : Dev Cert.LnSiluIdeal.nD → PrngReg)
    (m' : (ℓ : Loc Cert.LnSiluRefIdeal.nD Cert.LnSiluRefIdeal.τ Cert.LnSiluRefIdeal.sig) → Buf (Elt Ideal) ℓ) (g' : Dev Cert.LnSiluRefIdeal.nD → PrngReg), Pre_LnSiluIdeal_ln_silu_finite m →
    (∀ c : Dev Cert.LnSiluIdeal.nD,
      m' ((c.tc : Thread Cert.LnSiluRefIdeal.nD Cert.LnSiluRefIdeal.τ).loc Cert.LnSiluRefIdeal.main_arg0) = m ((c.tc : Thread Cert.LnSiluIdeal.nD Cert.LnSiluIdeal.τ).loc Cert.LnSiluIdeal.main_arg0)
      ∧ m' ((c.tc : Thread Cert.LnSiluRefIdeal.nD Cert.LnSiluRefIdeal.τ).loc Cert.LnSiluRefIdeal.main_arg1) = m ((c.tc : Thread Cert.LnSiluIdeal.nD Cert.LnSiluIdeal.τ).loc Cert.LnSiluIdeal.main_arg1)
      ∧ m' ((c.tc : Thread Cert.LnSiluRefIdeal.nD Cert.LnSiluRefIdeal.τ).loc Cert.LnSiluRefIdeal.main_arg2) = m ((c.tc : Thread Cert.LnSiluIdeal.nD Cert.LnSiluIdeal.τ).loc Cert.LnSiluIdeal.main_arg2)
      ∧ m' ((c.tc : Thread Cert.LnSiluRefIdeal.nD Cert.LnSiluRefIdeal.τ).loc Cert.LnSiluRefIdeal.main_arg3) = m ((c.tc : Thread Cert.LnSiluIdeal.nD Cert.LnSiluIdeal.τ).loc Cert.LnSiluIdeal.main_arg3)) →
    ∃ (v0 : (c : Dev Cert.LnSiluIdeal.nD) → Buf (Elt Ideal) ((c.tc : Thread Cert.LnSiluIdeal.nD Cert.LnSiluIdeal.τ).loc Cert.LnSiluIdeal.main_v0_0)) (v1 : (c : Dev Cert.LnSiluIdeal.nD) → Buf (Elt Ideal) ((c.tc : Thread Cert.LnSiluIdeal.nD Cert.LnSiluIdeal.τ).loc Cert.LnSiluIdeal.main_v0_1)) (v2 : (c : Dev Cert.LnSiluIdeal.nD) → Buf (Elt Ideal) ((c.tc : Thread Cert.LnSiluIdeal.nD Cert.LnSiluIdeal.τ).loc Cert.LnSiluIdeal.main_v0_2)),
      θ_run (Cert.LnSiluIdeal.defs (F := Ideal)) (onTc (τ := Cert.LnSiluIdeal.τ) (Cert.LnSiluIdeal.main (F := Ideal))) ⟨m, fun _ => 0, g⟩ (fun r => ∀ c : Dev Cert.LnSiluIdeal.nD,
          r.2.mem ((c.tc : Thread Cert.LnSiluIdeal.nD Cert.LnSiluIdeal.τ).loc Cert.LnSiluIdeal.main_v0_0) = v0 c
          ∧ r.2.mem ((c.tc : Thread Cert.LnSiluIdeal.nD Cert.LnSiluIdeal.τ).loc Cert.LnSiluIdeal.main_v0_1) = v1 c
          ∧ r.2.mem ((c.tc : Thread Cert.LnSiluIdeal.nD Cert.LnSiluIdeal.τ).loc Cert.LnSiluIdeal.main_v0_2) = v2 c
          ∧ r.2.mem ((c.tc : Thread Cert.LnSiluIdeal.nD Cert.LnSiluIdeal.τ).loc Cert.LnSiluIdeal.main_arg0) = m ((c.tc : Thread Cert.LnSiluIdeal.nD Cert.LnSiluIdeal.τ).loc Cert.LnSiluIdeal.main_arg0)
          ∧ r.2.mem ((c.tc : Thread Cert.LnSiluIdeal.nD Cert.LnSiluIdeal.τ).loc Cert.LnSiluIdeal.main_arg1) = m ((c.tc : Thread Cert.LnSiluIdeal.nD Cert.LnSiluIdeal.τ).loc Cert.LnSiluIdeal.main_arg1)
          ∧ r.2.mem ((c.tc : Thread Cert.LnSiluIdeal.nD Cert.LnSiluIdeal.τ).loc Cert.LnSiluIdeal.main_arg2) = m ((c.tc : Thread Cert.LnSiluIdeal.nD Cert.LnSiluIdeal.τ).loc Cert.LnSiluIdeal.main_arg2)
          ∧ r.2.mem ((c.tc : Thread Cert.LnSiluIdeal.nD Cert.LnSiluIdeal.τ).loc Cert.LnSiluIdeal.main_arg3) = m ((c.tc : Thread Cert.LnSiluIdeal.nD Cert.LnSiluIdeal.τ).loc Cert.LnSiluIdeal.main_arg3))
      ∧ θ_run (Cert.LnSiluRefIdeal.defs (F := Ideal)) (onTc (τ := Cert.LnSiluRefIdeal.τ) (Cert.LnSiluRefIdeal.main (F := Ideal))) ⟨m', fun _ => 0, g'⟩ (fun r => ∀ c : Dev Cert.LnSiluRefIdeal.nD,
          r.2.mem ((c.tc : Thread Cert.LnSiluRefIdeal.nD Cert.LnSiluRefIdeal.τ).loc Cert.LnSiluRefIdeal.main_v54) = v0 c
          ∧ r.2.mem ((c.tc : Thread Cert.LnSiluRefIdeal.nD Cert.LnSiluRefIdeal.τ).loc Cert.LnSiluRefIdeal.main_v30) = v1 c
          ∧ r.2.mem ((c.tc : Thread Cert.LnSiluRefIdeal.nD Cert.LnSiluRefIdeal.τ).loc Cert.LnSiluRefIdeal.main_v27) = v2 c
          ∧ r.2.mem ((c.tc : Thread Cert.LnSiluRefIdeal.nD Cert.LnSiluRefIdeal.τ).loc Cert.LnSiluRefIdeal.main_arg0) = m' ((c.tc : Thread Cert.LnSiluRefIdeal.nD Cert.LnSiluRefIdeal.τ).loc Cert.LnSiluRefIdeal.main_arg0)
          ∧ r.2.mem ((c.tc : Thread Cert.LnSiluRefIdeal.nD Cert.LnSiluRefIdeal.τ).loc Cert.LnSiluRefIdeal.main_arg1) = m' ((c.tc : Thread Cert.LnSiluRefIdeal.nD Cert.LnSiluRefIdeal.τ).loc Cert.LnSiluRefIdeal.main_arg1)
          ∧ r.2.mem ((c.tc : Thread Cert.LnSiluRefIdeal.nD Cert.LnSiluRefIdeal.τ).loc Cert.LnSiluRefIdeal.main_arg2) = m' ((c.tc : Thread Cert.LnSiluRefIdeal.nD Cert.LnSiluRefIdeal.τ).loc Cert.LnSiluRefIdeal.main_arg2)
          ∧ r.2.mem ((c.tc : Thread Cert.LnSiluRefIdeal.nD Cert.LnSiluRefIdeal.τ).loc Cert.LnSiluRefIdeal.main_arg3) = m' ((c.tc : Thread Cert.LnSiluRefIdeal.nD Cert.LnSiluRefIdeal.τ).loc Cert.LnSiluRefIdeal.main_arg3))

def preserves_Rms2_Rms2Ideal : Prop :=
  True

def algebraic_Rms2Ideal_Rms2RefIdeal_pre_rms2_finite [hRms2Ideal : Cert.Rms2Ideal.Facts] [hRms2RefIdeal : Cert.Rms2RefIdeal.Facts] [hPre_rms2_finite : Cert.Pre_rms2_finite.Facts] : Prop :=
  ∀ (m : (ℓ : Loc Cert.Rms2Ideal.nD Cert.Rms2Ideal.τ Cert.Rms2Ideal.sig) → Buf (Elt Ideal) ℓ) (g : Dev Cert.Rms2Ideal.nD → PrngReg)
    (m' : (ℓ : Loc Cert.Rms2RefIdeal.nD Cert.Rms2RefIdeal.τ Cert.Rms2RefIdeal.sig) → Buf (Elt Ideal) ℓ) (g' : Dev Cert.Rms2RefIdeal.nD → PrngReg), Pre_Rms2Ideal_rms2_finite m →
    (∀ c : Dev Cert.Rms2Ideal.nD,
      m' ((c.tc : Thread Cert.Rms2RefIdeal.nD Cert.Rms2RefIdeal.τ).loc Cert.Rms2RefIdeal.main_arg0) = m ((c.tc : Thread Cert.Rms2Ideal.nD Cert.Rms2Ideal.τ).loc Cert.Rms2Ideal.main_arg0)
      ∧ m' ((c.tc : Thread Cert.Rms2RefIdeal.nD Cert.Rms2RefIdeal.τ).loc Cert.Rms2RefIdeal.main_arg1) = m ((c.tc : Thread Cert.Rms2Ideal.nD Cert.Rms2Ideal.τ).loc Cert.Rms2Ideal.main_arg1)
      ∧ m' ((c.tc : Thread Cert.Rms2RefIdeal.nD Cert.Rms2RefIdeal.τ).loc Cert.Rms2RefIdeal.main_arg2) = m ((c.tc : Thread Cert.Rms2Ideal.nD Cert.Rms2Ideal.τ).loc Cert.Rms2Ideal.main_arg2)
      ∧ m' ((c.tc : Thread Cert.Rms2RefIdeal.nD Cert.Rms2RefIdeal.τ).loc Cert.Rms2RefIdeal.main_arg3) = m ((c.tc : Thread Cert.Rms2Ideal.nD Cert.Rms2Ideal.τ).loc Cert.Rms2Ideal.main_arg3)
      ∧ m' ((c.tc : Thread Cert.Rms2RefIdeal.nD Cert.Rms2RefIdeal.τ).loc Cert.Rms2RefIdeal.main_arg4) = m ((c.tc : Thread Cert.Rms2Ideal.nD Cert.Rms2Ideal.τ).loc Cert.Rms2Ideal.main_arg4)
      ∧ m' ((c.tc : Thread Cert.Rms2RefIdeal.nD Cert.Rms2RefIdeal.τ).loc Cert.Rms2RefIdeal.main_arg5) = m ((c.tc : Thread Cert.Rms2Ideal.nD Cert.Rms2Ideal.τ).loc Cert.Rms2Ideal.main_arg5)) →
    ∃ (v0 : (c : Dev Cert.Rms2Ideal.nD) → Buf (Elt Ideal) ((c.tc : Thread Cert.Rms2Ideal.nD Cert.Rms2Ideal.τ).loc Cert.Rms2Ideal.main_v0_0)) (v1 : (c : Dev Cert.Rms2Ideal.nD) → Buf (Elt Ideal) ((c.tc : Thread Cert.Rms2Ideal.nD Cert.Rms2Ideal.τ).loc Cert.Rms2Ideal.main_v0_1)),
      θ_run (Cert.Rms2Ideal.defs (F := Ideal)) (onTc (τ := Cert.Rms2Ideal.τ) (Cert.Rms2Ideal.main (F := Ideal))) ⟨m, fun _ => 0, g⟩ (fun r => ∀ c : Dev Cert.Rms2Ideal.nD,
          r.2.mem ((c.tc : Thread Cert.Rms2Ideal.nD Cert.Rms2Ideal.τ).loc Cert.Rms2Ideal.main_v0_0) = v0 c
          ∧ r.2.mem ((c.tc : Thread Cert.Rms2Ideal.nD Cert.Rms2Ideal.τ).loc Cert.Rms2Ideal.main_v0_1) = v1 c
          ∧ r.2.mem ((c.tc : Thread Cert.Rms2Ideal.nD Cert.Rms2Ideal.τ).loc Cert.Rms2Ideal.main_arg0) = m ((c.tc : Thread Cert.Rms2Ideal.nD Cert.Rms2Ideal.τ).loc Cert.Rms2Ideal.main_arg0)
          ∧ r.2.mem ((c.tc : Thread Cert.Rms2Ideal.nD Cert.Rms2Ideal.τ).loc Cert.Rms2Ideal.main_arg1) = m ((c.tc : Thread Cert.Rms2Ideal.nD Cert.Rms2Ideal.τ).loc Cert.Rms2Ideal.main_arg1)
          ∧ r.2.mem ((c.tc : Thread Cert.Rms2Ideal.nD Cert.Rms2Ideal.τ).loc Cert.Rms2Ideal.main_arg2) = m ((c.tc : Thread Cert.Rms2Ideal.nD Cert.Rms2Ideal.τ).loc Cert.Rms2Ideal.main_arg2)
          ∧ r.2.mem ((c.tc : Thread Cert.Rms2Ideal.nD Cert.Rms2Ideal.τ).loc Cert.Rms2Ideal.main_arg3) = m ((c.tc : Thread Cert.Rms2Ideal.nD Cert.Rms2Ideal.τ).loc Cert.Rms2Ideal.main_arg3)
          ∧ r.2.mem ((c.tc : Thread Cert.Rms2Ideal.nD Cert.Rms2Ideal.τ).loc Cert.Rms2Ideal.main_arg4) = m ((c.tc : Thread Cert.Rms2Ideal.nD Cert.Rms2Ideal.τ).loc Cert.Rms2Ideal.main_arg4)
          ∧ r.2.mem ((c.tc : Thread Cert.Rms2Ideal.nD Cert.Rms2Ideal.τ).loc Cert.Rms2Ideal.main_arg5) = m ((c.tc : Thread Cert.Rms2Ideal.nD Cert.Rms2Ideal.τ).loc Cert.Rms2Ideal.main_arg5))
      ∧ θ_run (Cert.Rms2RefIdeal.defs (F := Ideal)) (onTc (τ := Cert.Rms2RefIdeal.τ) (Cert.Rms2RefIdeal.main (F := Ideal))) ⟨m', fun _ => 0, g'⟩ (fun r => ∀ c : Dev Cert.Rms2RefIdeal.nD,
          r.2.mem ((c.tc : Thread Cert.Rms2RefIdeal.nD Cert.Rms2RefIdeal.τ).loc Cert.Rms2RefIdeal.main_v39) = v0 c
          ∧ r.2.mem ((c.tc : Thread Cert.Rms2RefIdeal.nD Cert.Rms2RefIdeal.τ).loc Cert.Rms2RefIdeal.main_v22) = v1 c
          ∧ r.2.mem ((c.tc : Thread Cert.Rms2RefIdeal.nD Cert.Rms2RefIdeal.τ).loc Cert.Rms2RefIdeal.main_arg0) = m' ((c.tc : Thread Cert.Rms2RefIdeal.nD Cert.Rms2RefIdeal.τ).loc Cert.Rms2RefIdeal.main_arg0)
          ∧ r.2.mem ((c.tc : Thread Cert.Rms2RefIdeal.nD Cert.Rms2RefIdeal.τ).loc Cert.Rms2RefIdeal.main_arg1) = m' ((c.tc : Thread Cert.Rms2RefIdeal.nD Cert.Rms2RefIdeal.τ).loc Cert.Rms2RefIdeal.main_arg1)
          ∧ r.2.mem ((c.tc : Thread Cert.Rms2RefIdeal.nD Cert.Rms2RefIdeal.τ).loc Cert.Rms2RefIdeal.main_arg2) = m' ((c.tc : Thread Cert.Rms2RefIdeal.nD Cert.Rms2RefIdeal.τ).loc Cert.Rms2RefIdeal.main_arg2)
          ∧ r.2.mem ((c.tc : Thread Cert.Rms2RefIdeal.nD Cert.Rms2RefIdeal.τ).loc Cert.Rms2RefIdeal.main_arg3) = m' ((c.tc : Thread Cert.Rms2RefIdeal.nD Cert.Rms2RefIdeal.τ).loc Cert.Rms2RefIdeal.main_arg3)
          ∧ r.2.mem ((c.tc : Thread Cert.Rms2RefIdeal.nD Cert.Rms2RefIdeal.τ).loc Cert.Rms2RefIdeal.main_arg4) = m' ((c.tc : Thread Cert.Rms2RefIdeal.nD Cert.Rms2RefIdeal.τ).loc Cert.Rms2RefIdeal.main_arg4)
          ∧ r.2.mem ((c.tc : Thread Cert.Rms2RefIdeal.nD Cert.Rms2RefIdeal.τ).loc Cert.Rms2RefIdeal.main_arg5) = m' ((c.tc : Thread Cert.Rms2RefIdeal.nD Cert.Rms2RefIdeal.τ).loc Cert.Rms2RefIdeal.main_arg5))

def preserves_Rms5_Rms5Ideal : Prop :=
  True

def algebraic_Rms5Ideal_Rms5RefIdeal_pre_rms5_finite [hRms5Ideal : Cert.Rms5Ideal.Facts] [hRms5RefIdeal : Cert.Rms5RefIdeal.Facts] [hPre_rms5_finite : Cert.Pre_rms5_finite.Facts] : Prop :=
  ∀ (m : (ℓ : Loc Cert.Rms5Ideal.nD Cert.Rms5Ideal.τ Cert.Rms5Ideal.sig) → Buf (Elt Ideal) ℓ) (g : Dev Cert.Rms5Ideal.nD → PrngReg)
    (m' : (ℓ : Loc Cert.Rms5RefIdeal.nD Cert.Rms5RefIdeal.τ Cert.Rms5RefIdeal.sig) → Buf (Elt Ideal) ℓ) (g' : Dev Cert.Rms5RefIdeal.nD → PrngReg), Pre_Rms5Ideal_rms5_finite m →
    (∀ c : Dev Cert.Rms5Ideal.nD,
      m' ((c.tc : Thread Cert.Rms5RefIdeal.nD Cert.Rms5RefIdeal.τ).loc Cert.Rms5RefIdeal.main_arg0) = m ((c.tc : Thread Cert.Rms5Ideal.nD Cert.Rms5Ideal.τ).loc Cert.Rms5Ideal.main_arg0)
      ∧ m' ((c.tc : Thread Cert.Rms5RefIdeal.nD Cert.Rms5RefIdeal.τ).loc Cert.Rms5RefIdeal.main_arg1) = m ((c.tc : Thread Cert.Rms5Ideal.nD Cert.Rms5Ideal.τ).loc Cert.Rms5Ideal.main_arg1)
      ∧ m' ((c.tc : Thread Cert.Rms5RefIdeal.nD Cert.Rms5RefIdeal.τ).loc Cert.Rms5RefIdeal.main_arg2) = m ((c.tc : Thread Cert.Rms5Ideal.nD Cert.Rms5Ideal.τ).loc Cert.Rms5Ideal.main_arg2)
      ∧ m' ((c.tc : Thread Cert.Rms5RefIdeal.nD Cert.Rms5RefIdeal.τ).loc Cert.Rms5RefIdeal.main_arg3) = m ((c.tc : Thread Cert.Rms5Ideal.nD Cert.Rms5Ideal.τ).loc Cert.Rms5Ideal.main_arg3)
      ∧ m' ((c.tc : Thread Cert.Rms5RefIdeal.nD Cert.Rms5RefIdeal.τ).loc Cert.Rms5RefIdeal.main_arg4) = m ((c.tc : Thread Cert.Rms5Ideal.nD Cert.Rms5Ideal.τ).loc Cert.Rms5Ideal.main_arg4)
      ∧ m' ((c.tc : Thread Cert.Rms5RefIdeal.nD Cert.Rms5RefIdeal.τ).loc Cert.Rms5RefIdeal.main_arg5) = m ((c.tc : Thread Cert.Rms5Ideal.nD Cert.Rms5Ideal.τ).loc Cert.Rms5Ideal.main_arg5)
      ∧ m' ((c.tc : Thread Cert.Rms5RefIdeal.nD Cert.Rms5RefIdeal.τ).loc Cert.Rms5RefIdeal.main_arg6) = m ((c.tc : Thread Cert.Rms5Ideal.nD Cert.Rms5Ideal.τ).loc Cert.Rms5Ideal.main_arg6)
      ∧ m' ((c.tc : Thread Cert.Rms5RefIdeal.nD Cert.Rms5RefIdeal.τ).loc Cert.Rms5RefIdeal.main_arg7) = m ((c.tc : Thread Cert.Rms5Ideal.nD Cert.Rms5Ideal.τ).loc Cert.Rms5Ideal.main_arg7)
      ∧ m' ((c.tc : Thread Cert.Rms5RefIdeal.nD Cert.Rms5RefIdeal.τ).loc Cert.Rms5RefIdeal.main_arg8) = m ((c.tc : Thread Cert.Rms5Ideal.nD Cert.Rms5Ideal.τ).loc Cert.Rms5Ideal.main_arg8)) →
    ∃ (v0 : (c : Dev Cert.Rms5Ideal.nD) → Buf (Elt Ideal) ((c.tc : Thread Cert.Rms5Ideal.nD Cert.Rms5Ideal.τ).loc Cert.Rms5Ideal.main_v0_0)) (v1 : (c : Dev Cert.Rms5Ideal.nD) → Buf (Elt Ideal) ((c.tc : Thread Cert.Rms5Ideal.nD Cert.Rms5Ideal.τ).loc Cert.Rms5Ideal.main_v0_1)),
      θ_run (Cert.Rms5Ideal.defs (F := Ideal)) (onTc (τ := Cert.Rms5Ideal.τ) (Cert.Rms5Ideal.main (F := Ideal))) ⟨m, fun _ => 0, g⟩ (fun r => ∀ c : Dev Cert.Rms5Ideal.nD,
          r.2.mem ((c.tc : Thread Cert.Rms5Ideal.nD Cert.Rms5Ideal.τ).loc Cert.Rms5Ideal.main_v0_0) = v0 c
          ∧ r.2.mem ((c.tc : Thread Cert.Rms5Ideal.nD Cert.Rms5Ideal.τ).loc Cert.Rms5Ideal.main_v0_1) = v1 c
          ∧ r.2.mem ((c.tc : Thread Cert.Rms5Ideal.nD Cert.Rms5Ideal.τ).loc Cert.Rms5Ideal.main_arg0) = m ((c.tc : Thread Cert.Rms5Ideal.nD Cert.Rms5Ideal.τ).loc Cert.Rms5Ideal.main_arg0)
          ∧ r.2.mem ((c.tc : Thread Cert.Rms5Ideal.nD Cert.Rms5Ideal.τ).loc Cert.Rms5Ideal.main_arg1) = m ((c.tc : Thread Cert.Rms5Ideal.nD Cert.Rms5Ideal.τ).loc Cert.Rms5Ideal.main_arg1)
          ∧ r.2.mem ((c.tc : Thread Cert.Rms5Ideal.nD Cert.Rms5Ideal.τ).loc Cert.Rms5Ideal.main_arg2) = m ((c.tc : Thread Cert.Rms5Ideal.nD Cert.Rms5Ideal.τ).loc Cert.Rms5Ideal.main_arg2)
          ∧ r.2.mem ((c.tc : Thread Cert.Rms5Ideal.nD Cert.Rms5Ideal.τ).loc Cert.Rms5Ideal.main_arg3) = m ((c.tc : Thread Cert.Rms5Ideal.nD Cert.Rms5Ideal.τ).loc Cert.Rms5Ideal.main_arg3)
          ∧ r.2.mem ((c.tc : Thread Cert.Rms5Ideal.nD Cert.Rms5Ideal.τ).loc Cert.Rms5Ideal.main_arg4) = m ((c.tc : Thread Cert.Rms5Ideal.nD Cert.Rms5Ideal.τ).loc Cert.Rms5Ideal.main_arg4)
          ∧ r.2.mem ((c.tc : Thread Cert.Rms5Ideal.nD Cert.Rms5Ideal.τ).loc Cert.Rms5Ideal.main_arg5) = m ((c.tc : Thread Cert.Rms5Ideal.nD Cert.Rms5Ideal.τ).loc Cert.Rms5Ideal.main_arg5)
          ∧ r.2.mem ((c.tc : Thread Cert.Rms5Ideal.nD Cert.Rms5Ideal.τ).loc Cert.Rms5Ideal.main_arg6) = m ((c.tc : Thread Cert.Rms5Ideal.nD Cert.Rms5Ideal.τ).loc Cert.Rms5Ideal.main_arg6)
          ∧ r.2.mem ((c.tc : Thread Cert.Rms5Ideal.nD Cert.Rms5Ideal.τ).loc Cert.Rms5Ideal.main_arg7) = m ((c.tc : Thread Cert.Rms5Ideal.nD Cert.Rms5Ideal.τ).loc Cert.Rms5Ideal.main_arg7)
          ∧ r.2.mem ((c.tc : Thread Cert.Rms5Ideal.nD Cert.Rms5Ideal.τ).loc Cert.Rms5Ideal.main_arg8) = m ((c.tc : Thread Cert.Rms5Ideal.nD Cert.Rms5Ideal.τ).loc Cert.Rms5Ideal.main_arg8))
      ∧ θ_run (Cert.Rms5RefIdeal.defs (F := Ideal)) (onTc (τ := Cert.Rms5RefIdeal.τ) (Cert.Rms5RefIdeal.main (F := Ideal))) ⟨m', fun _ => 0, g'⟩ (fun r => ∀ c : Dev Cert.Rms5RefIdeal.nD,
          r.2.mem ((c.tc : Thread Cert.Rms5RefIdeal.nD Cert.Rms5RefIdeal.τ).loc Cert.Rms5RefIdeal.main_v39) = v0 c
          ∧ r.2.mem ((c.tc : Thread Cert.Rms5RefIdeal.nD Cert.Rms5RefIdeal.τ).loc Cert.Rms5RefIdeal.main_v22) = v1 c
          ∧ r.2.mem ((c.tc : Thread Cert.Rms5RefIdeal.nD Cert.Rms5RefIdeal.τ).loc Cert.Rms5RefIdeal.main_arg0) = m' ((c.tc : Thread Cert.Rms5RefIdeal.nD Cert.Rms5RefIdeal.τ).loc Cert.Rms5RefIdeal.main_arg0)
          ∧ r.2.mem ((c.tc : Thread Cert.Rms5RefIdeal.nD Cert.Rms5RefIdeal.τ).loc Cert.Rms5RefIdeal.main_arg1) = m' ((c.tc : Thread Cert.Rms5RefIdeal.nD Cert.Rms5RefIdeal.τ).loc Cert.Rms5RefIdeal.main_arg1)
          ∧ r.2.mem ((c.tc : Thread Cert.Rms5RefIdeal.nD Cert.Rms5RefIdeal.τ).loc Cert.Rms5RefIdeal.main_arg2) = m' ((c.tc : Thread Cert.Rms5RefIdeal.nD Cert.Rms5RefIdeal.τ).loc Cert.Rms5RefIdeal.main_arg2)
          ∧ r.2.mem ((c.tc : Thread Cert.Rms5RefIdeal.nD Cert.Rms5RefIdeal.τ).loc Cert.Rms5RefIdeal.main_arg3) = m' ((c.tc : Thread Cert.Rms5RefIdeal.nD Cert.Rms5RefIdeal.τ).loc Cert.Rms5RefIdeal.main_arg3)
          ∧ r.2.mem ((c.tc : Thread Cert.Rms5RefIdeal.nD Cert.Rms5RefIdeal.τ).loc Cert.Rms5RefIdeal.main_arg4) = m' ((c.tc : Thread Cert.Rms5RefIdeal.nD Cert.Rms5RefIdeal.τ).loc Cert.Rms5RefIdeal.main_arg4)
          ∧ r.2.mem ((c.tc : Thread Cert.Rms5RefIdeal.nD Cert.Rms5RefIdeal.τ).loc Cert.Rms5RefIdeal.main_arg5) = m' ((c.tc : Thread Cert.Rms5RefIdeal.nD Cert.Rms5RefIdeal.τ).loc Cert.Rms5RefIdeal.main_arg5)
          ∧ r.2.mem ((c.tc : Thread Cert.Rms5RefIdeal.nD Cert.Rms5RefIdeal.τ).loc Cert.Rms5RefIdeal.main_arg6) = m' ((c.tc : Thread Cert.Rms5RefIdeal.nD Cert.Rms5RefIdeal.τ).loc Cert.Rms5RefIdeal.main_arg6)
          ∧ r.2.mem ((c.tc : Thread Cert.Rms5RefIdeal.nD Cert.Rms5RefIdeal.τ).loc Cert.Rms5RefIdeal.main_arg7) = m' ((c.tc : Thread Cert.Rms5RefIdeal.nD Cert.Rms5RefIdeal.τ).loc Cert.Rms5RefIdeal.main_arg7)
          ∧ r.2.mem ((c.tc : Thread Cert.Rms5RefIdeal.nD Cert.Rms5RefIdeal.τ).loc Cert.Rms5RefIdeal.main_arg8) = m' ((c.tc : Thread Cert.Rms5RefIdeal.nD Cert.Rms5RefIdeal.τ).loc Cert.Rms5RefIdeal.main_arg8))

def preserves_LossGrad_LossGradIdeal : Prop :=
  True

def algebraic_LossGradIdeal_LossGradRefIdeal [hLossGradIdeal : Cert.LossGradIdeal.Facts] [hLossGradRefIdeal : Cert.LossGradRefIdeal.Facts] : Prop :=
  ∀ (m : (ℓ : Loc Cert.LossGradIdeal.nD Cert.LossGradIdeal.τ Cert.LossGradIdeal.sig) → Buf (Elt Ideal) ℓ) (g : Dev Cert.LossGradIdeal.nD → PrngReg)
    (m' : (ℓ : Loc Cert.LossGradRefIdeal.nD Cert.LossGradRefIdeal.τ Cert.LossGradRefIdeal.sig) → Buf (Elt Ideal) ℓ) (g' : Dev Cert.LossGradRefIdeal.nD → PrngReg), Pre_LossGradIdeal m →
    (∀ c : Dev Cert.LossGradIdeal.nD,
      m' ((c.tc : Thread Cert.LossGradRefIdeal.nD Cert.LossGradRefIdeal.τ).loc Cert.LossGradRefIdeal.main_arg0) = m ((c.tc : Thread Cert.LossGradIdeal.nD Cert.LossGradIdeal.τ).loc Cert.LossGradIdeal.main_arg0)
      ∧ m' ((c.tc : Thread Cert.LossGradRefIdeal.nD Cert.LossGradRefIdeal.τ).loc Cert.LossGradRefIdeal.main_arg1) = m ((c.tc : Thread Cert.LossGradIdeal.nD Cert.LossGradIdeal.τ).loc Cert.LossGradIdeal.main_arg1)) →
    ∃ (v0 : (c : Dev Cert.LossGradIdeal.nD) → Buf (Elt Ideal) ((c.tc : Thread Cert.LossGradIdeal.nD Cert.LossGradIdeal.τ).loc Cert.LossGradIdeal.main_v0_0)) (v1 : (c : Dev Cert.LossGradIdeal.nD) → Buf (Elt Ideal) ((c.tc : Thread Cert.LossGradIdeal.nD Cert.LossGradIdeal.τ).loc Cert.LossGradIdeal.main_v0_1)),
      θ_run (Cert.LossGradIdeal.defs (F := Ideal)) (onTc (τ := Cert.LossGradIdeal.τ) (Cert.LossGradIdeal.main (F := Ideal))) ⟨m, fun _ => 0, g⟩ (fun r => ∀ c : Dev Cert.LossGradIdeal.nD,
          r.2.mem ((c.tc : Thread Cert.LossGradIdeal.nD Cert.LossGradIdeal.τ).loc Cert.LossGradIdeal.main_v0_0) = v0 c
          ∧ r.2.mem ((c.tc : Thread Cert.LossGradIdeal.nD Cert.LossGradIdeal.τ).loc Cert.LossGradIdeal.main_v0_1) = v1 c
          ∧ r.2.mem ((c.tc : Thread Cert.LossGradIdeal.nD Cert.LossGradIdeal.τ).loc Cert.LossGradIdeal.main_arg0) = m ((c.tc : Thread Cert.LossGradIdeal.nD Cert.LossGradIdeal.τ).loc Cert.LossGradIdeal.main_arg0)
          ∧ r.2.mem ((c.tc : Thread Cert.LossGradIdeal.nD Cert.LossGradIdeal.τ).loc Cert.LossGradIdeal.main_arg1) = m ((c.tc : Thread Cert.LossGradIdeal.nD Cert.LossGradIdeal.τ).loc Cert.LossGradIdeal.main_arg1))
      ∧ θ_run (Cert.LossGradRefIdeal.defs (F := Ideal)) (onTc (τ := Cert.LossGradRefIdeal.τ) (Cert.LossGradRefIdeal.main (F := Ideal))) ⟨m', fun _ => 0, g'⟩ (fun r => ∀ c : Dev Cert.LossGradRefIdeal.nD,
          r.2.mem ((c.tc : Thread Cert.LossGradRefIdeal.nD Cert.LossGradRefIdeal.τ).loc Cert.LossGradRefIdeal.main_v14) = v0 c
          ∧ r.2.mem ((c.tc : Thread Cert.LossGradRefIdeal.nD Cert.LossGradRefIdeal.τ).loc Cert.LossGradRefIdeal.main_v15) = v1 c
          ∧ r.2.mem ((c.tc : Thread Cert.LossGradRefIdeal.nD Cert.LossGradRefIdeal.τ).loc Cert.LossGradRefIdeal.main_arg0) = m' ((c.tc : Thread Cert.LossGradRefIdeal.nD Cert.LossGradRefIdeal.τ).loc Cert.LossGradRefIdeal.main_arg0)
          ∧ r.2.mem ((c.tc : Thread Cert.LossGradRefIdeal.nD Cert.LossGradRefIdeal.τ).loc Cert.LossGradRefIdeal.main_arg1) = m' ((c.tc : Thread Cert.LossGradRefIdeal.nD Cert.LossGradRefIdeal.τ).loc Cert.LossGradRefIdeal.main_arg1))

def preserves_FfnAct_FfnActIdeal : Prop :=
  True

def algebraic_FfnActIdeal_FfnActRefIdeal_pre_ffn_finite [hFfnActIdeal : Cert.FfnActIdeal.Facts] [hFfnActRefIdeal : Cert.FfnActRefIdeal.Facts] [hPre_ffn_finite : Cert.Pre_ffn_finite.Facts] : Prop :=
  ∀ (m : (ℓ : Loc Cert.FfnActIdeal.nD Cert.FfnActIdeal.τ Cert.FfnActIdeal.sig) → Buf (Elt Ideal) ℓ) (g : Dev Cert.FfnActIdeal.nD → PrngReg)
    (m' : (ℓ : Loc Cert.FfnActRefIdeal.nD Cert.FfnActRefIdeal.τ Cert.FfnActRefIdeal.sig) → Buf (Elt Ideal) ℓ) (g' : Dev Cert.FfnActRefIdeal.nD → PrngReg), Pre_FfnActIdeal_ffn_finite m →
    (∀ c : Dev Cert.FfnActIdeal.nD,
      m' ((c.tc : Thread Cert.FfnActRefIdeal.nD Cert.FfnActRefIdeal.τ).loc Cert.FfnActRefIdeal.main_arg0) = m ((c.tc : Thread Cert.FfnActIdeal.nD Cert.FfnActIdeal.τ).loc Cert.FfnActIdeal.main_arg0)
      ∧ m' ((c.tc : Thread Cert.FfnActRefIdeal.nD Cert.FfnActRefIdeal.τ).loc Cert.FfnActRefIdeal.main_arg1) = m ((c.tc : Thread Cert.FfnActIdeal.nD Cert.FfnActIdeal.τ).loc Cert.FfnActIdeal.main_arg1)
      ∧ m' ((c.tc : Thread Cert.FfnActRefIdeal.nD Cert.FfnActRefIdeal.τ).loc Cert.FfnActRefIdeal.main_arg2) = m ((c.tc : Thread Cert.FfnActIdeal.nD Cert.FfnActIdeal.τ).loc Cert.FfnActIdeal.main_arg2)
      ∧ m' ((c.tc : Thread Cert.FfnActRefIdeal.nD Cert.FfnActRefIdeal.τ).loc Cert.FfnActRefIdeal.main_arg3) = m ((c.tc : Thread Cert.FfnActIdeal.nD Cert.FfnActIdeal.τ).loc Cert.FfnActIdeal.main_arg3)) →
    ∃ (v0 : (c : Dev Cert.FfnActIdeal.nD) → Buf (Elt Ideal) ((c.tc : Thread Cert.FfnActIdeal.nD Cert.FfnActIdeal.τ).loc Cert.FfnActIdeal.main_v0_0)) (v1 : (c : Dev Cert.FfnActIdeal.nD) → Buf (Elt Ideal) ((c.tc : Thread Cert.FfnActIdeal.nD Cert.FfnActIdeal.τ).loc Cert.FfnActIdeal.main_v0_1)) (v2 : (c : Dev Cert.FfnActIdeal.nD) → Buf (Elt Ideal) ((c.tc : Thread Cert.FfnActIdeal.nD Cert.FfnActIdeal.τ).loc Cert.FfnActIdeal.main_v0_2)) (v3 : (c : Dev Cert.FfnActIdeal.nD) → Buf (Elt Ideal) ((c.tc : Thread Cert.FfnActIdeal.nD Cert.FfnActIdeal.τ).loc Cert.FfnActIdeal.main_v0_3)),
      θ_run (Cert.FfnActIdeal.defs (F := Ideal)) (onTc (τ := Cert.FfnActIdeal.τ) (Cert.FfnActIdeal.main (F := Ideal))) ⟨m, fun _ => 0, g⟩ (fun r => ∀ c : Dev Cert.FfnActIdeal.nD,
          r.2.mem ((c.tc : Thread Cert.FfnActIdeal.nD Cert.FfnActIdeal.τ).loc Cert.FfnActIdeal.main_v0_0) = v0 c
          ∧ r.2.mem ((c.tc : Thread Cert.FfnActIdeal.nD Cert.FfnActIdeal.τ).loc Cert.FfnActIdeal.main_v0_1) = v1 c
          ∧ r.2.mem ((c.tc : Thread Cert.FfnActIdeal.nD Cert.FfnActIdeal.τ).loc Cert.FfnActIdeal.main_v0_2) = v2 c
          ∧ r.2.mem ((c.tc : Thread Cert.FfnActIdeal.nD Cert.FfnActIdeal.τ).loc Cert.FfnActIdeal.main_v0_3) = v3 c
          ∧ r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
          ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
          ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2)
          ∧ r.2.mem ((c.tc : Thread Cert.FfnActIdeal.nD Cert.FfnActIdeal.τ).loc Cert.FfnActIdeal.main_arg3) = m ((c.tc : Thread Cert.FfnActIdeal.nD Cert.FfnActIdeal.τ).loc Cert.FfnActIdeal.main_arg3))
      ∧ θ_run (Cert.FfnActRefIdeal.defs (F := Ideal)) (onTc (τ := Cert.FfnActRefIdeal.τ) (Cert.FfnActRefIdeal.main (F := Ideal))) ⟨m', fun _ => 0, g'⟩ (fun r => ∀ c : Dev Cert.FfnActRefIdeal.nD,
          r.2.mem ((c.tc : Thread Cert.FfnActRefIdeal.nD Cert.FfnActRefIdeal.τ).loc Cert.FfnActRefIdeal.main_v58) = v0 c
          ∧ r.2.mem ((c.tc : Thread Cert.FfnActRefIdeal.nD Cert.FfnActRefIdeal.τ).loc Cert.FfnActRefIdeal.main_v59) = v1 c
          ∧ r.2.mem ((c.tc : Thread Cert.FfnActRefIdeal.nD Cert.FfnActRefIdeal.τ).loc Cert.FfnActRefIdeal.main_v53) = v2 c
          ∧ r.2.mem ((c.tc : Thread Cert.FfnActRefIdeal.nD Cert.FfnActRefIdeal.τ).loc Cert.FfnActRefIdeal.main_v30) = v3 c
          ∧ r.2.mem ((c.tc : Thread Cert.FfnActRefIdeal.nD Cert.FfnActRefIdeal.τ).loc Cert.FfnActRefIdeal.main_arg0) = m' ((c.tc : Thread Cert.FfnActRefIdeal.nD Cert.FfnActRefIdeal.τ).loc Cert.FfnActRefIdeal.main_arg0)
          ∧ r.2.mem ((c.tc : Thread Cert.FfnActRefIdeal.nD Cert.FfnActRefIdeal.τ).loc Cert.FfnActRefIdeal.main_arg1) = m' ((c.tc : Thread Cert.FfnActRefIdeal.nD Cert.FfnActRefIdeal.τ).loc Cert.FfnActRefIdeal.main_arg1)
          ∧ r.2.mem ((c.tc : Thread Cert.FfnActRefIdeal.nD Cert.FfnActRefIdeal.τ).loc Cert.FfnActRefIdeal.main_arg2) = m' ((c.tc : Thread Cert.FfnActRefIdeal.nD Cert.FfnActRefIdeal.τ).loc Cert.FfnActRefIdeal.main_arg2)
          ∧ r.2.mem ((c.tc : Thread Cert.FfnActRefIdeal.nD Cert.FfnActRefIdeal.τ).loc Cert.FfnActRefIdeal.main_arg3) = m' ((c.tc : Thread Cert.FfnActRefIdeal.nD Cert.FfnActRefIdeal.τ).loc Cert.FfnActRefIdeal.main_arg3))

def preserves_GluConv_GluConvIdeal : Prop :=
  True

def algebraic_GluConvIdeal_GluConvRefIdeal [hGluConvIdeal : Cert.GluConvIdeal.Facts] [hGluConvRefIdeal : Cert.GluConvRefIdeal.Facts] : Prop :=
  ∀ (m : (ℓ : Loc Cert.GluConvIdeal.nD Cert.GluConvIdeal.τ Cert.GluConvIdeal.sig) → Buf (Elt Ideal) ℓ) (g : Dev Cert.GluConvIdeal.nD → PrngReg)
    (m' : (ℓ : Loc Cert.GluConvRefIdeal.nD Cert.GluConvRefIdeal.τ Cert.GluConvRefIdeal.sig) → Buf (Elt Ideal) ℓ) (g' : Dev Cert.GluConvRefIdeal.nD → PrngReg), Pre_GluConvIdeal m →
    (∀ c : Dev Cert.GluConvIdeal.nD,
      m' ((c.tc : Thread Cert.GluConvRefIdeal.nD Cert.GluConvRefIdeal.τ).loc Cert.GluConvRefIdeal.main_arg0) = m ((c.tc : Thread Cert.GluConvIdeal.nD Cert.GluConvIdeal.τ).loc Cert.GluConvIdeal.main_arg0)
      ∧ m' ((c.tc : Thread Cert.GluConvRefIdeal.nD Cert.GluConvRefIdeal.τ).loc Cert.GluConvRefIdeal.main_arg1) = m ((c.tc : Thread Cert.GluConvIdeal.nD Cert.GluConvIdeal.τ).loc Cert.GluConvIdeal.main_arg1)
      ∧ m' ((c.tc : Thread Cert.GluConvRefIdeal.nD Cert.GluConvRefIdeal.τ).loc Cert.GluConvRefIdeal.main_arg2) = m ((c.tc : Thread Cert.GluConvIdeal.nD Cert.GluConvIdeal.τ).loc Cert.GluConvIdeal.main_arg2)) →
    ∃ (v0 : (c : Dev Cert.GluConvIdeal.nD) → Buf (Elt Ideal) ((c.tc : Thread Cert.GluConvIdeal.nD Cert.GluConvIdeal.τ).loc Cert.GluConvIdeal.main_v0_0)) (v1 : (c : Dev Cert.GluConvIdeal.nD) → Buf (Elt Ideal) ((c.tc : Thread Cert.GluConvIdeal.nD Cert.GluConvIdeal.τ).loc Cert.GluConvIdeal.main_v0_1)) (v2 : (c : Dev Cert.GluConvIdeal.nD) → Buf (Elt Ideal) ((c.tc : Thread Cert.GluConvIdeal.nD Cert.GluConvIdeal.τ).loc Cert.GluConvIdeal.main_v0_2)) (v3 : (c : Dev Cert.GluConvIdeal.nD) → Buf (Elt Ideal) ((c.tc : Thread Cert.GluConvIdeal.nD Cert.GluConvIdeal.τ).loc Cert.GluConvIdeal.main_v0_3)),
      θ_run (Cert.GluConvIdeal.defs (F := Ideal)) (onTc (τ := Cert.GluConvIdeal.τ) (Cert.GluConvIdeal.main (F := Ideal))) ⟨m, fun _ => 0, g⟩ (fun r => ∀ c : Dev Cert.GluConvIdeal.nD,
          r.2.mem ((c.tc : Thread Cert.GluConvIdeal.nD Cert.GluConvIdeal.τ).loc Cert.GluConvIdeal.main_v0_0) = v0 c
          ∧ r.2.mem ((c.tc : Thread Cert.GluConvIdeal.nD Cert.GluConvIdeal.τ).loc Cert.GluConvIdeal.main_v0_1) = v1 c
          ∧ r.2.mem ((c.tc : Thread Cert.GluConvIdeal.nD Cert.GluConvIdeal.τ).loc Cert.GluConvIdeal.main_v0_2) = v2 c
          ∧ r.2.mem ((c.tc : Thread Cert.GluConvIdeal.nD Cert.GluConvIdeal.τ).loc Cert.GluConvIdeal.main_v0_3) = v3 c
          ∧ r.2.mem ((c.tc : Thread Cert.GluConvIdeal.nD Cert.GluConvIdeal.τ).loc Cert.GluConvIdeal.main_arg0) = m ((c.tc : Thread Cert.GluConvIdeal.nD Cert.GluConvIdeal.τ).loc Cert.GluConvIdeal.main_arg0)
          ∧ r.2.mem ((c.tc : Thread Cert.GluConvIdeal.nD Cert.GluConvIdeal.τ).loc Cert.GluConvIdeal.main_arg1) = m ((c.tc : Thread Cert.GluConvIdeal.nD Cert.GluConvIdeal.τ).loc Cert.GluConvIdeal.main_arg1)
          ∧ r.2.mem ((c.tc : Thread Cert.GluConvIdeal.nD Cert.GluConvIdeal.τ).loc Cert.GluConvIdeal.main_arg2) = m ((c.tc : Thread Cert.GluConvIdeal.nD Cert.GluConvIdeal.τ).loc Cert.GluConvIdeal.main_arg2))
      ∧ θ_run (Cert.GluConvRefIdeal.defs (F := Ideal)) (onTc (τ := Cert.GluConvRefIdeal.τ) (Cert.GluConvRefIdeal.main (F := Ideal))) ⟨m', fun _ => 0, g'⟩ (fun r => ∀ c : Dev Cert.GluConvRefIdeal.nD,
          r.2.mem ((c.tc : Thread Cert.GluConvRefIdeal.nD Cert.GluConvRefIdeal.τ).loc Cert.GluConvRefIdeal.main_v459) = v0 c
          ∧ r.2.mem ((c.tc : Thread Cert.GluConvRefIdeal.nD Cert.GluConvRefIdeal.τ).loc Cert.GluConvRefIdeal.main_v460) = v1 c
          ∧ r.2.mem ((c.tc : Thread Cert.GluConvRefIdeal.nD Cert.GluConvRefIdeal.τ).loc Cert.GluConvRefIdeal.main_v451) = v2 c
          ∧ r.2.mem ((c.tc : Thread Cert.GluConvRefIdeal.nD Cert.GluConvRefIdeal.τ).loc Cert.GluConvRefIdeal.main_v176) = v3 c
          ∧ r.2.mem ((c.tc : Thread Cert.GluConvRefIdeal.nD Cert.GluConvRefIdeal.τ).loc Cert.GluConvRefIdeal.main_arg0) = m' ((c.tc : Thread Cert.GluConvRefIdeal.nD Cert.GluConvRefIdeal.τ).loc Cert.GluConvRefIdeal.main_arg0)
          ∧ r.2.mem ((c.tc : Thread Cert.GluConvRefIdeal.nD Cert.GluConvRefIdeal.τ).loc Cert.GluConvRefIdeal.main_arg1) = m' ((c.tc : Thread Cert.GluConvRefIdeal.nD Cert.GluConvRefIdeal.τ).loc Cert.GluConvRefIdeal.main_arg1)
          ∧ r.2.mem ((c.tc : Thread Cert.GluConvRefIdeal.nD Cert.GluConvRefIdeal.τ).loc Cert.GluConvRefIdeal.main_arg2) = m' ((c.tc : Thread Cert.GluConvRefIdeal.nD Cert.GluConvRefIdeal.τ).loc Cert.GluConvRefIdeal.main_arg2))

def preserves_LnFwd_LnFwdIdeal : Prop :=
  True

def algebraic_LnFwdIdeal_LnFwdRefIdeal [hLnFwdIdeal : Cert.LnFwdIdeal.Facts] [hLnFwdRefIdeal : Cert.LnFwdRefIdeal.Facts] : Prop :=
  ∀ (m : (ℓ : Loc Cert.LnFwdIdeal.nD Cert.LnFwdIdeal.τ Cert.LnFwdIdeal.sig) → Buf (Elt Ideal) ℓ) (g : Dev Cert.LnFwdIdeal.nD → PrngReg)
    (m' : (ℓ : Loc Cert.LnFwdRefIdeal.nD Cert.LnFwdRefIdeal.τ Cert.LnFwdRefIdeal.sig) → Buf (Elt Ideal) ℓ) (g' : Dev Cert.LnFwdRefIdeal.nD → PrngReg), Pre_LnFwdIdeal m →
    (∀ c : Dev Cert.LnFwdIdeal.nD,
      m' ((c.tc : Thread Cert.LnFwdRefIdeal.nD Cert.LnFwdRefIdeal.τ).loc Cert.LnFwdRefIdeal.main_arg0) = m ((c.tc : Thread Cert.LnFwdIdeal.nD Cert.LnFwdIdeal.τ).loc Cert.LnFwdIdeal.main_arg0)
      ∧ m' ((c.tc : Thread Cert.LnFwdRefIdeal.nD Cert.LnFwdRefIdeal.τ).loc Cert.LnFwdRefIdeal.main_arg1) = m ((c.tc : Thread Cert.LnFwdIdeal.nD Cert.LnFwdIdeal.τ).loc Cert.LnFwdIdeal.main_arg1)
      ∧ m' ((c.tc : Thread Cert.LnFwdRefIdeal.nD Cert.LnFwdRefIdeal.τ).loc Cert.LnFwdRefIdeal.main_arg2) = m ((c.tc : Thread Cert.LnFwdIdeal.nD Cert.LnFwdIdeal.τ).loc Cert.LnFwdIdeal.main_arg2)) →
    ∃ (v0 : (c : Dev Cert.LnFwdIdeal.nD) → Buf (Elt Ideal) ((c.tc : Thread Cert.LnFwdIdeal.nD Cert.LnFwdIdeal.τ).loc Cert.LnFwdIdeal.main_v0_0)) (v1 : (c : Dev Cert.LnFwdIdeal.nD) → Buf (Elt Ideal) ((c.tc : Thread Cert.LnFwdIdeal.nD Cert.LnFwdIdeal.τ).loc Cert.LnFwdIdeal.main_v0_1)),
      θ_run (Cert.LnFwdIdeal.defs (F := Ideal)) (onTc (τ := Cert.LnFwdIdeal.τ) (Cert.LnFwdIdeal.main (F := Ideal))) ⟨m, fun _ => 0, g⟩ (fun r => ∀ c : Dev Cert.LnFwdIdeal.nD,
          r.2.mem ((c.tc : Thread Cert.LnFwdIdeal.nD Cert.LnFwdIdeal.τ).loc Cert.LnFwdIdeal.main_v0_0) = v0 c
          ∧ r.2.mem ((c.tc : Thread Cert.LnFwdIdeal.nD Cert.LnFwdIdeal.τ).loc Cert.LnFwdIdeal.main_v0_1) = v1 c
          ∧ r.2.mem ((c.tc : Thread Cert.LnFwdIdeal.nD Cert.LnFwdIdeal.τ).loc Cert.LnFwdIdeal.main_arg0) = m ((c.tc : Thread Cert.LnFwdIdeal.nD Cert.LnFwdIdeal.τ).loc Cert.LnFwdIdeal.main_arg0)
          ∧ r.2.mem ((c.tc : Thread Cert.LnFwdIdeal.nD Cert.LnFwdIdeal.τ).loc Cert.LnFwdIdeal.main_arg1) = m ((c.tc : Thread Cert.LnFwdIdeal.nD Cert.LnFwdIdeal.τ).loc Cert.LnFwdIdeal.main_arg1)
          ∧ r.2.mem ((c.tc : Thread Cert.LnFwdIdeal.nD Cert.LnFwdIdeal.τ).loc Cert.LnFwdIdeal.main_arg2) = m ((c.tc : Thread Cert.LnFwdIdeal.nD Cert.LnFwdIdeal.τ).loc Cert.LnFwdIdeal.main_arg2))
      ∧ θ_run (Cert.LnFwdRefIdeal.defs (F := Ideal)) (onTc (τ := Cert.LnFwdRefIdeal.τ) (Cert.LnFwdRefIdeal.main (F := Ideal))) ⟨m', fun _ => 0, g'⟩ (fun r => ∀ c : Dev Cert.LnFwdRefIdeal.nD,
          r.2.mem ((c.tc : Thread Cert.LnFwdRefIdeal.nD Cert.LnFwdRefIdeal.τ).loc Cert.LnFwdRefIdeal.main_v21) = v0 c
          ∧ r.2.mem ((c.tc : Thread Cert.LnFwdRefIdeal.nD Cert.LnFwdRefIdeal.τ).loc Cert.LnFwdRefIdeal.main_v22) = v1 c
          ∧ r.2.mem ((c.tc : Thread Cert.LnFwdRefIdeal.nD Cert.LnFwdRefIdeal.τ).loc Cert.LnFwdRefIdeal.main_arg0) = m' ((c.tc : Thread Cert.LnFwdRefIdeal.nD Cert.LnFwdRefIdeal.τ).loc Cert.LnFwdRefIdeal.main_arg0)
          ∧ r.2.mem ((c.tc : Thread Cert.LnFwdRefIdeal.nD Cert.LnFwdRefIdeal.τ).loc Cert.LnFwdRefIdeal.main_arg1) = m' ((c.tc : Thread Cert.LnFwdRefIdeal.nD Cert.LnFwdRefIdeal.τ).loc Cert.LnFwdRefIdeal.main_arg1)
          ∧ r.2.mem ((c.tc : Thread Cert.LnFwdRefIdeal.nD Cert.LnFwdRefIdeal.τ).loc Cert.LnFwdRefIdeal.main_arg2) = m' ((c.tc : Thread Cert.LnFwdRefIdeal.nD Cert.LnFwdRefIdeal.τ).loc Cert.LnFwdRefIdeal.main_arg2))

def preserves_NormUp_NormUpIdeal : Prop :=
  True

def algebraic_NormUpIdeal_NormUpRefIdeal [hNormUpIdeal : Cert.NormUpIdeal.Facts] [hNormUpRefIdeal : Cert.NormUpRefIdeal.Facts] : Prop :=
  ∀ (m : (ℓ : Loc Cert.NormUpIdeal.nD Cert.NormUpIdeal.τ Cert.NormUpIdeal.sig) → Buf (Elt Ideal) ℓ) (g : Dev Cert.NormUpIdeal.nD → PrngReg)
    (m' : (ℓ : Loc Cert.NormUpRefIdeal.nD Cert.NormUpRefIdeal.τ Cert.NormUpRefIdeal.sig) → Buf (Elt Ideal) ℓ) (g' : Dev Cert.NormUpRefIdeal.nD → PrngReg), Pre_NormUpIdeal m →
    (∀ c : Dev Cert.NormUpIdeal.nD,
      m' ((c.tc : Thread Cert.NormUpRefIdeal.nD Cert.NormUpRefIdeal.τ).loc Cert.NormUpRefIdeal.main_arg0) = m ((c.tc : Thread Cert.NormUpIdeal.nD Cert.NormUpIdeal.τ).loc Cert.NormUpIdeal.main_arg0)
      ∧ m' ((c.tc : Thread Cert.NormUpRefIdeal.nD Cert.NormUpRefIdeal.τ).loc Cert.NormUpRefIdeal.main_arg1) = m ((c.tc : Thread Cert.NormUpIdeal.nD Cert.NormUpIdeal.τ).loc Cert.NormUpIdeal.main_arg1)
      ∧ m' ((c.tc : Thread Cert.NormUpRefIdeal.nD Cert.NormUpRefIdeal.τ).loc Cert.NormUpRefIdeal.main_arg2) = m ((c.tc : Thread Cert.NormUpIdeal.nD Cert.NormUpIdeal.τ).loc Cert.NormUpIdeal.main_arg2)) →
    ∃ (v0 : (c : Dev Cert.NormUpIdeal.nD) → Buf (Elt Ideal) ((c.tc : Thread Cert.NormUpIdeal.nD Cert.NormUpIdeal.τ).loc Cert.NormUpIdeal.main_v0_0)) (v1 : (c : Dev Cert.NormUpIdeal.nD) → Buf (Elt Ideal) ((c.tc : Thread Cert.NormUpIdeal.nD Cert.NormUpIdeal.τ).loc Cert.NormUpIdeal.main_v0_1)),
      θ_run (Cert.NormUpIdeal.defs (F := Ideal)) (onTc (τ := Cert.NormUpIdeal.τ) (Cert.NormUpIdeal.main (F := Ideal))) ⟨m, fun _ => 0, g⟩ (fun r => ∀ c : Dev Cert.NormUpIdeal.nD,
          r.2.mem ((c.tc : Thread Cert.NormUpIdeal.nD Cert.NormUpIdeal.τ).loc Cert.NormUpIdeal.main_v0_0) = v0 c
          ∧ r.2.mem ((c.tc : Thread Cert.NormUpIdeal.nD Cert.NormUpIdeal.τ).loc Cert.NormUpIdeal.main_v0_1) = v1 c
          ∧ r.2.mem ((c.tc : Thread Cert.NormUpIdeal.nD Cert.NormUpIdeal.τ).loc Cert.NormUpIdeal.main_arg0) = m ((c.tc : Thread Cert.NormUpIdeal.nD Cert.NormUpIdeal.τ).loc Cert.NormUpIdeal.main_arg0)
          ∧ r.2.mem ((c.tc : Thread Cert.NormUpIdeal.nD Cert.NormUpIdeal.τ).loc Cert.NormUpIdeal.main_arg1) = m ((c.tc : Thread Cert.NormUpIdeal.nD Cert.NormUpIdeal.τ).loc Cert.NormUpIdeal.main_arg1)
          ∧ r.2.mem ((c.tc : Thread Cert.NormUpIdeal.nD Cert.NormUpIdeal.τ).loc Cert.NormUpIdeal.main_arg2) = m ((c.tc : Thread Cert.NormUpIdeal.nD Cert.NormUpIdeal.τ).loc Cert.NormUpIdeal.main_arg2))
      ∧ θ_run (Cert.NormUpRefIdeal.defs (F := Ideal)) (onTc (τ := Cert.NormUpRefIdeal.τ) (Cert.NormUpRefIdeal.main (F := Ideal))) ⟨m', fun _ => 0, g'⟩ (fun r => ∀ c : Dev Cert.NormUpRefIdeal.nD,
          r.2.mem ((c.tc : Thread Cert.NormUpRefIdeal.nD Cert.NormUpRefIdeal.τ).loc Cert.NormUpRefIdeal.main_v13) = v0 c
          ∧ r.2.mem ((c.tc : Thread Cert.NormUpRefIdeal.nD Cert.NormUpRefIdeal.τ).loc Cert.NormUpRefIdeal.main_v27) = v1 c
          ∧ r.2.mem ((c.tc : Thread Cert.NormUpRefIdeal.nD Cert.NormUpRefIdeal.τ).loc Cert.NormUpRefIdeal.main_arg0) = m' ((c.tc : Thread Cert.NormUpRefIdeal.nD Cert.NormUpRefIdeal.τ).loc Cert.NormUpRefIdeal.main_arg0)
          ∧ r.2.mem ((c.tc : Thread Cert.NormUpRefIdeal.nD Cert.NormUpRefIdeal.τ).loc Cert.NormUpRefIdeal.main_arg1) = m' ((c.tc : Thread Cert.NormUpRefIdeal.nD Cert.NormUpRefIdeal.τ).loc Cert.NormUpRefIdeal.main_arg1)
          ∧ r.2.mem ((c.tc : Thread Cert.NormUpRefIdeal.nD Cert.NormUpRefIdeal.τ).loc Cert.NormUpRefIdeal.main_arg2) = m' ((c.tc : Thread Cert.NormUpRefIdeal.nD Cert.NormUpRefIdeal.τ).loc Cert.NormUpRefIdeal.main_arg2))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)) →
    ∃ (v0 : (c : Dev Cert.FfnFwdIdeal.nD) → Buf (Elt Ideal) ((c.tc : Thread Cert.FfnFwdIdeal.nD Cert.FfnFwdIdeal.τ).loc Cert.FfnFwdIdeal.main_v0)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v0) = v0 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v24) = v0 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2))

def preserves_GluFwd_GluFwdIdeal : Prop :=
  True

def algebraic_GluFwdIdeal_GluFwdRefIdeal [hGluFwdIdeal : Cert.GluFwdIdeal.Facts] [hGluFwdRefIdeal : Cert.GluFwdRefIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg)
    (m' : (ℓ : Loc Cert.GluFwdRefIdeal.nD Cert.GluFwdRefIdeal.τ Cert.GluFwdRefIdeal.sig) → Buf (Elt Ideal) ℓ) (g' : Dev Cert.GluFwdRefIdeal.nD → PrngReg), Pre_GluFwdIdeal m →
    (∀ c : Dev Cert.GluFwdIdeal.nD,
      m' ((c.tc : Thread Cert.GluFwdRefIdeal.nD Cert.GluFwdRefIdeal.τ).loc Cert.GluFwdRefIdeal.main_arg0) = m ((c.tc : Thread Cert.GluFwdIdeal.nD Cert.GluFwdIdeal.τ).loc Cert.GluFwdIdeal.main_arg0)
      ∧ m' ((c.tc : Thread Cert.GluFwdRefIdeal.nD Cert.GluFwdRefIdeal.τ).loc Cert.GluFwdRefIdeal.main_arg1) = m ((c.tc : Thread Cert.GluFwdIdeal.nD Cert.GluFwdIdeal.τ).loc Cert.GluFwdIdeal.main_arg1)
      ∧ m' ((c.tc : Thread Cert.GluFwdRefIdeal.nD Cert.GluFwdRefIdeal.τ).loc Cert.GluFwdRefIdeal.main_arg2) = m ((c.tc : Thread Cert.GluFwdIdeal.nD Cert.GluFwdIdeal.τ).loc Cert.GluFwdIdeal.main_arg2)) →
    ∃ (v0 : (c : Dev Cert.GluFwdIdeal.nD) → Buf (Elt Ideal) ((c.tc : Thread Cert.GluFwdIdeal.nD Cert.GluFwdIdeal.τ).loc Cert.GluFwdIdeal.main_v0)),
      θ_run (Cert.GluFwdIdeal.defs (F := Ideal)) (onTc (τ := Cert.GluFwdIdeal.τ) (Cert.GluFwdIdeal.main (F := Ideal))) ⟨m, fun _ => 0, g⟩ (fun r => ∀ c : Dev Cert.GluFwdIdeal.nD,
          r.2.mem ((c.tc : Thread Cert.GluFwdIdeal.nD Cert.GluFwdIdeal.τ).loc Cert.GluFwdIdeal.main_v0) = v0 c
          ∧ r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
          ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1)
          ∧ r.2.mem ((c.tc : Thread Cert.GluFwdIdeal.nD Cert.GluFwdIdeal.τ).loc Cert.GluFwdIdeal.main_arg2) = m ((c.tc : Thread Cert.GluFwdIdeal.nD Cert.GluFwdIdeal.τ).loc Cert.GluFwdIdeal.main_arg2))
      ∧ θ_run (Cert.GluFwdRefIdeal.defs (F := Ideal)) (onTc (τ := Cert.GluFwdRefIdeal.τ) (Cert.GluFwdRefIdeal.main (F := Ideal))) ⟨m', fun _ => 0, g'⟩ (fun r => ∀ c : Dev Cert.GluFwdRefIdeal.nD,
          r.2.mem ((c.tc : Thread Cert.GluFwdRefIdeal.nD Cert.GluFwdRefIdeal.τ).loc Cert.GluFwdRefIdeal.main_v230) = v0 c
          ∧ r.2.mem ((c.tc : Thread Cert.GluFwdRefIdeal.nD Cert.GluFwdRefIdeal.τ).loc Cert.GluFwdRefIdeal.main_arg0) = m' ((c.tc : Thread Cert.GluFwdRefIdeal.nD Cert.GluFwdRefIdeal.τ).loc Cert.GluFwdRefIdeal.main_arg0)
          ∧ r.2.mem ((c.tc : Thread Cert.GluFwdRefIdeal.nD Cert.GluFwdRefIdeal.τ).loc Cert.GluFwdRefIdeal.main_arg1) = m' ((c.tc : Thread Cert.GluFwdRefIdeal.nD Cert.GluFwdRefIdeal.τ).loc Cert.GluFwdRefIdeal.main_arg1)
          ∧ r.2.mem ((c.tc : Thread Cert.GluFwdRefIdeal.nD Cert.GluFwdRefIdeal.τ).loc Cert.GluFwdRefIdeal.main_arg2) = m' ((c.tc : Thread Cert.GluFwdRefIdeal.nD Cert.GluFwdRefIdeal.τ).loc Cert.GluFwdRefIdeal.main_arg2))

def preserves_MatRes_MatResIdeal : Prop :=
  True

def algebraic_MatResIdeal_MatResRefIdeal [hMatResIdeal : Cert.MatResIdeal.Facts] [hMatResRefIdeal : Cert.MatResRefIdeal.Facts] : Prop :=
  ∀ (m : (ℓ : Loc Cert.MatResIdeal.nD Cert.MatResIdeal.τ Cert.MatResIdeal.sig) → Buf (Elt Ideal) ℓ) (g : Dev Cert.MatResIdeal.nD → PrngReg)
    (m' : (ℓ : Loc Cert.MatResRefIdeal.nD Cert.MatResRefIdeal.τ Cert.MatResRefIdeal.sig) → Buf (Elt Ideal) ℓ) (g' : Dev Cert.MatResRefIdeal.nD → PrngReg), Pre_MatResIdeal m →
    (∀ c : Dev Cert.MatResIdeal.nD,
      m' ((c.tc : Thread Cert.MatResRefIdeal.nD Cert.MatResRefIdeal.τ).loc Cert.MatResRefIdeal.main_arg0) = m ((c.tc : Thread Cert.MatResIdeal.nD Cert.MatResIdeal.τ).loc Cert.MatResIdeal.main_arg0)
      ∧ m' ((c.tc : Thread Cert.MatResRefIdeal.nD Cert.MatResRefIdeal.τ).loc Cert.MatResRefIdeal.main_arg1) = m ((c.tc : Thread Cert.MatResIdeal.nD Cert.MatResIdeal.τ).loc Cert.MatResIdeal.main_arg1)
      ∧ m' ((c.tc : Thread Cert.MatResRefIdeal.nD Cert.MatResRefIdeal.τ).loc Cert.MatResRefIdeal.main_arg2) = m ((c.tc : Thread Cert.MatResIdeal.nD Cert.MatResIdeal.τ).loc Cert.MatResIdeal.main_arg2)) →
    ∃ (v0 : (c : Dev Cert.MatResIdeal.nD) → Buf (Elt Ideal) ((c.tc : Thread Cert.MatResIdeal.nD Cert.MatResIdeal.τ).loc Cert.MatResIdeal.main_v0)),
      θ_run (Cert.MatResIdeal.defs (F := Ideal)) (onTc (τ := Cert.MatResIdeal.τ) (Cert.MatResIdeal.main (F := Ideal))) ⟨m, fun _ => 0, g⟩ (fun r => ∀ c : Dev Cert.MatResIdeal.nD,
          r.2.mem ((c.tc : Thread Cert.MatResIdeal.nD Cert.MatResIdeal.τ).loc Cert.MatResIdeal.main_v0) = v0 c
          ∧ r.2.mem ((c.tc : Thread Cert.MatResIdeal.nD Cert.MatResIdeal.τ).loc Cert.MatResIdeal.main_arg0) = m ((c.tc : Thread Cert.MatResIdeal.nD Cert.MatResIdeal.τ).loc Cert.MatResIdeal.main_arg0)
          ∧ r.2.mem ((c.tc : Thread Cert.MatResIdeal.nD Cert.MatResIdeal.τ).loc Cert.MatResIdeal.main_arg1) = m ((c.tc : Thread Cert.MatResIdeal.nD Cert.MatResIdeal.τ).loc Cert.MatResIdeal.main_arg1)
          ∧ r.2.mem ((c.tc : Thread Cert.MatResIdeal.nD Cert.MatResIdeal.τ).loc Cert.MatResIdeal.main_arg2) = m ((c.tc : Thread Cert.MatResIdeal.nD Cert.MatResIdeal.τ).loc Cert.MatResIdeal.main_arg2))
      ∧ θ_run (Cert.MatResRefIdeal.defs (F := Ideal)) (onTc (τ := Cert.MatResRefIdeal.τ) (Cert.MatResRefIdeal.main (F := Ideal))) ⟨m', fun _ => 0, g'⟩ (fun r => ∀ c : Dev Cert.MatResRefIdeal.nD,
          r.2.mem ((c.tc : Thread Cert.MatResRefIdeal.nD Cert.MatResRefIdeal.τ).loc Cert.MatResRefIdeal.main_v3) = v0 c
          ∧ r.2.mem ((c.tc : Thread Cert.MatResRefIdeal.nD Cert.MatResRefIdeal.τ).loc Cert.MatResRefIdeal.main_arg0) = m' ((c.tc : Thread Cert.MatResRefIdeal.nD Cert.MatResRefIdeal.τ).loc Cert.MatResRefIdeal.main_arg0)
          ∧ r.2.mem ((c.tc : Thread Cert.MatResRefIdeal.nD Cert.MatResRefIdeal.τ).loc Cert.MatResRefIdeal.main_arg1) = m' ((c.tc : Thread Cert.MatResRefIdeal.nD Cert.MatResRefIdeal.τ).loc Cert.MatResRefIdeal.main_arg1)
          ∧ r.2.mem ((c.tc : Thread Cert.MatResRefIdeal.nD Cert.MatResRefIdeal.τ).loc Cert.MatResRefIdeal.main_arg2) = m' ((c.tc : Thread Cert.MatResRefIdeal.nD Cert.MatResRefIdeal.τ).loc Cert.MatResRefIdeal.main_arg2))

def preserves_MatNt_MatNtIdeal : Prop :=
  True

def algebraic_MatNtIdeal_MatNtRefIdeal [hMatNtIdeal : Cert.MatNtIdeal.Facts] [hMatNtRefIdeal : Cert.MatNtRefIdeal.Facts] : Prop :=
  ∀ (m : (ℓ : Loc Cert.MatNtIdeal.nD Cert.MatNtIdeal.τ Cert.MatNtIdeal.sig) → Buf (Elt Ideal) ℓ) (g : Dev Cert.MatNtIdeal.nD → PrngReg)
    (m' : (ℓ : Loc Cert.MatNtRefIdeal.nD Cert.MatNtRefIdeal.τ Cert.MatNtRefIdeal.sig) → Buf (Elt Ideal) ℓ) (g' : Dev Cert.MatNtRefIdeal.nD → PrngReg), Pre_MatNtIdeal m →
    (∀ c : Dev Cert.MatNtIdeal.nD,
      m' ((c.tc : Thread Cert.MatNtRefIdeal.nD Cert.MatNtRefIdeal.τ).loc Cert.MatNtRefIdeal.main_arg0) = m ((c.tc : Thread Cert.MatNtIdeal.nD Cert.MatNtIdeal.τ).loc Cert.MatNtIdeal.main_arg0)
      ∧ m' ((c.tc : Thread Cert.MatNtRefIdeal.nD Cert.MatNtRefIdeal.τ).loc Cert.MatNtRefIdeal.main_arg1) = m ((c.tc : Thread Cert.MatNtIdeal.nD Cert.MatNtIdeal.τ).loc Cert.MatNtIdeal.main_arg1)) →
    ∃ (v0 : (c : Dev Cert.MatNtIdeal.nD) → Buf (Elt Ideal) ((c.tc : Thread Cert.MatNtIdeal.nD Cert.MatNtIdeal.τ).loc Cert.MatNtIdeal.main_v0)),
      θ_run (Cert.MatNtIdeal.defs (F := Ideal)) (onTc (τ := Cert.MatNtIdeal.τ) (Cert.MatNtIdeal.main (F := Ideal))) ⟨m, fun _ => 0, g⟩ (fun r => ∀ c : Dev Cert.MatNtIdeal.nD,
          r.2.mem ((c.tc : Thread Cert.MatNtIdeal.nD Cert.MatNtIdeal.τ).loc Cert.MatNtIdeal.main_v0) = v0 c
          ∧ r.2.mem ((c.tc : Thread Cert.MatNtIdeal.nD Cert.MatNtIdeal.τ).loc Cert.MatNtIdeal.main_arg0) = m ((c.tc : Thread Cert.MatNtIdeal.nD Cert.MatNtIdeal.τ).loc Cert.MatNtIdeal.main_arg0)
          ∧ r.2.mem ((c.tc : Thread Cert.MatNtIdeal.nD Cert.MatNtIdeal.τ).loc Cert.MatNtIdeal.main_arg1) = m ((c.tc : Thread Cert.MatNtIdeal.nD Cert.MatNtIdeal.τ).loc Cert.MatNtIdeal.main_arg1))
      ∧ θ_run (Cert.MatNtRefIdeal.defs (F := Ideal)) (onTc (τ := Cert.MatNtRefIdeal.τ) (Cert.MatNtRefIdeal.main (F := Ideal))) ⟨m', fun _ => 0, g'⟩ (fun r => ∀ c : Dev Cert.MatNtRefIdeal.nD,
          r.2.mem ((c.tc : Thread Cert.MatNtRefIdeal.nD Cert.MatNtRefIdeal.τ).loc Cert.MatNtRefIdeal.main_v3) = v0 c
          ∧ r.2.mem ((c.tc : Thread Cert.MatNtRefIdeal.nD Cert.MatNtRefIdeal.τ).loc Cert.MatNtRefIdeal.main_arg0) = m' ((c.tc : Thread Cert.MatNtRefIdeal.nD Cert.MatNtRefIdeal.τ).loc Cert.MatNtRefIdeal.main_arg0)
          ∧ r.2.mem ((c.tc : Thread Cert.MatNtRefIdeal.nD Cert.MatNtRefIdeal.τ).loc Cert.MatNtRefIdeal.main_arg1) = m' ((c.tc : Thread Cert.MatNtRefIdeal.nD Cert.MatNtRefIdeal.τ).loc Cert.MatNtRefIdeal.main_arg1))

def preserves_AdamW_AdamWIdeal : Prop :=
  True

def algebraic_AdamWIdeal_AdamWRefIdeal [hAdamWIdeal : Cert.AdamWIdeal.Facts] [hAdamWRefIdeal : Cert.AdamWRefIdeal.Facts] : Prop :=
  ∀ (m : (ℓ : Loc Cert.AdamWIdeal.nD Cert.AdamWIdeal.τ Cert.AdamWIdeal.sig) → Buf (Elt Ideal) ℓ) (g : Dev Cert.AdamWIdeal.nD → PrngReg)
    (m' : (ℓ : Loc Cert.AdamWRefIdeal.nD Cert.AdamWRefIdeal.τ Cert.AdamWRefIdeal.sig) → Buf (Elt Ideal) ℓ) (g' : Dev Cert.AdamWRefIdeal.nD → PrngReg), Pre_AdamWIdeal m →
    (∀ c : Dev Cert.AdamWIdeal.nD,
      m' ((c.tc : Thread Cert.AdamWRefIdeal.nD Cert.AdamWRefIdeal.τ).loc Cert.AdamWRefIdeal.main_arg0) = m ((c.tc : Thread Cert.AdamWIdeal.nD Cert.AdamWIdeal.τ).loc Cert.AdamWIdeal.main_arg0)
      ∧ m' ((c.tc : Thread Cert.AdamWRefIdeal.nD Cert.AdamWRefIdeal.τ).loc Cert.AdamWRefIdeal.main_arg1) = m ((c.tc : Thread Cert.AdamWIdeal.nD Cert.AdamWIdeal.τ).loc Cert.AdamWIdeal.main_arg1)
      ∧ m' ((c.tc : Thread Cert.AdamWRefIdeal.nD Cert.AdamWRefIdeal.τ).loc Cert.AdamWRefIdeal.main_arg2) = m ((c.tc : Thread Cert.AdamWIdeal.nD Cert.AdamWIdeal.τ).loc Cert.AdamWIdeal.main_arg2)
      ∧ m' ((c.tc : Thread Cert.AdamWRefIdeal.nD Cert.AdamWRefIdeal.τ).loc Cert.AdamWRefIdeal.main_arg3) = m ((c.tc : Thread Cert.AdamWIdeal.nD Cert.AdamWIdeal.τ).loc Cert.AdamWIdeal.main_arg3)) →
    ∃ (v0 : (c : Dev Cert.AdamWIdeal.nD) → Buf (Elt Ideal) ((c.tc : Thread Cert.AdamWIdeal.nD Cert.AdamWIdeal.τ).loc Cert.AdamWIdeal.main_v0_0)) (v1 : (c : Dev Cert.AdamWIdeal.nD) → Buf (Elt Ideal) ((c.tc : Thread Cert.AdamWIdeal.nD Cert.AdamWIdeal.τ).loc Cert.AdamWIdeal.main_v0_1)) (v2 : (c : Dev Cert.AdamWIdeal.nD) → Buf (Elt Ideal) ((c.tc : Thread Cert.AdamWIdeal.nD Cert.AdamWIdeal.τ).loc Cert.AdamWIdeal.main_v0_2)),
      θ_run (Cert.AdamWIdeal.defs (F := Ideal)) (onTc (τ := Cert.AdamWIdeal.τ) (Cert.AdamWIdeal.main (F := Ideal))) ⟨m, fun _ => 0, g⟩ (fun r => ∀ c : Dev Cert.AdamWIdeal.nD,
          r.2.mem ((c.tc : Thread Cert.AdamWIdeal.nD Cert.AdamWIdeal.τ).loc Cert.AdamWIdeal.main_v0_0) = v0 c
          ∧ r.2.mem ((c.tc : Thread Cert.AdamWIdeal.nD Cert.AdamWIdeal.τ).loc Cert.AdamWIdeal.main_v0_1) = v1 c
          ∧ r.2.mem ((c.tc : Thread Cert.AdamWIdeal.nD Cert.AdamWIdeal.τ).loc Cert.AdamWIdeal.main_v0_2) = v2 c
          ∧ r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
          ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
          ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
          ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ θ_run (Cert.AdamWRefIdeal.defs (F := Ideal)) (onTc (τ := Cert.AdamWRefIdeal.τ) (Cert.AdamWRefIdeal.main (F := Ideal))) ⟨m', fun _ => 0, g'⟩ (fun r => ∀ c : Dev Cert.AdamWRefIdeal.nD,
          r.2.mem ((c.tc : Thread Cert.AdamWRefIdeal.nD Cert.AdamWRefIdeal.τ).loc Cert.AdamWRefIdeal.main_v23) = v0 c
          ∧ r.2.mem ((c.tc : Thread Cert.AdamWRefIdeal.nD Cert.AdamWRefIdeal.τ).loc Cert.AdamWRefIdeal.main_v4) = v1 c
          ∧ r.2.mem ((c.tc : Thread Cert.AdamWRefIdeal.nD Cert.AdamWRefIdeal.τ).loc Cert.AdamWRefIdeal.main_v10) = v2 c
          ∧ r.2.mem ((c.tc : Thread Cert.AdamWRefIdeal.nD Cert.AdamWRefIdeal.τ).loc Cert.AdamWRefIdeal.main_arg0) = m' ((c.tc : Thread Cert.AdamWRefIdeal.nD Cert.AdamWRefIdeal.τ).loc Cert.AdamWRefIdeal.main_arg0)
          ∧ r.2.mem ((c.tc : Thread Cert.AdamWRefIdeal.nD Cert.AdamWRefIdeal.τ).loc Cert.AdamWRefIdeal.main_arg1) = m' ((c.tc : Thread Cert.AdamWRefIdeal.nD Cert.AdamWRefIdeal.τ).loc Cert.AdamWRefIdeal.main_arg1)
          ∧ r.2.mem ((c.tc : Thread Cert.AdamWRefIdeal.nD Cert.AdamWRefIdeal.τ).loc Cert.AdamWRefIdeal.main_arg2) = m' ((c.tc : Thread Cert.AdamWRefIdeal.nD Cert.AdamWRefIdeal.τ).loc Cert.AdamWRefIdeal.main_arg2)
          ∧ r.2.mem ((c.tc : Thread Cert.AdamWRefIdeal.nD Cert.AdamWRefIdeal.τ).loc Cert.AdamWRefIdeal.main_arg3) = m' ((c.tc : Thread Cert.AdamWRefIdeal.nD Cert.AdamWRefIdeal.τ).loc Cert.AdamWRefIdeal.main_arg3))

def Claim : Prop :=
  ∃ (hAttnBwd : Cert.AttnBwd.Facts) (hAttnBwdIdeal : Cert.AttnBwdIdeal.Facts) (hAttnBwdRefIdeal : Cert.AttnBwdRefIdeal.Facts) (hLnSilu : Cert.LnSilu.Facts) (hLnSiluIdeal : Cert.LnSiluIdeal.Facts) (hLnSiluRefIdeal : Cert.LnSiluRefIdeal.Facts) (hRms2 : Cert.Rms2.Facts) (hRms2Ideal : Cert.Rms2Ideal.Facts) (hRms2RefIdeal : Cert.Rms2RefIdeal.Facts) (hRms5 : Cert.Rms5.Facts) (hRms5Ideal : Cert.Rms5Ideal.Facts) (hRms5RefIdeal : Cert.Rms5RefIdeal.Facts) (hLossGrad : Cert.LossGrad.Facts) (hLossGradIdeal : Cert.LossGradIdeal.Facts) (hLossGradRefIdeal : Cert.LossGradRefIdeal.Facts) (hFfnAct : Cert.FfnAct.Facts) (hFfnActIdeal : Cert.FfnActIdeal.Facts) (hFfnActRefIdeal : Cert.FfnActRefIdeal.Facts) (hGluConv : Cert.GluConv.Facts) (hGluConvIdeal : Cert.GluConvIdeal.Facts) (hGluConvRefIdeal : Cert.GluConvRefIdeal.Facts) (hLnFwd : Cert.LnFwd.Facts) (hLnFwdIdeal : Cert.LnFwdIdeal.Facts) (hLnFwdRefIdeal : Cert.LnFwdRefIdeal.Facts) (hNormUp : Cert.NormUp.Facts) (hNormUpIdeal : Cert.NormUpIdeal.Facts) (hNormUpRefIdeal : Cert.NormUpRefIdeal.Facts) (hFfnFwd : Cert.FfnFwd.Facts) (hFfnFwdIdeal : Cert.FfnFwdIdeal.Facts) (hFfnFwdRefIdeal : Cert.FfnFwdRefIdeal.Facts) (hGluFwd : Cert.GluFwd.Facts) (hGluFwdIdeal : Cert.GluFwdIdeal.Facts) (hGluFwdRefIdeal : Cert.GluFwdRefIdeal.Facts) (hMatRes : Cert.MatRes.Facts) (hMatResIdeal : Cert.MatResIdeal.Facts) (hMatResRefIdeal : Cert.MatResRefIdeal.Facts) (hMatNt : Cert.MatNt.Facts) (hMatNtIdeal : Cert.MatNtIdeal.Facts) (hMatNtRefIdeal : Cert.MatNtRefIdeal.Facts) (hAdamW : Cert.AdamW.Facts) (hAdamWIdeal : Cert.AdamWIdeal.Facts) (hAdamWRefIdeal : Cert.AdamWRefIdeal.Facts) (hPre_attn_finite : Cert.Pre_attn_finite.Facts) (hPre_ln_silu_finite : Cert.Pre_ln_silu_finite.Facts) (hPre_rms2_finite : Cert.Pre_rms2_finite.Facts) (hPre_rms5_finite : Cert.Pre_rms5_finite.Facts) (hPre_ffn_finite : Cert.Pre_ffn_finite.Facts),
    quiescent_AttnBwd (hAttnBwd := hAttnBwd)
    ∧ quiescent_AttnBwdIdeal (hAttnBwdIdeal := hAttnBwdIdeal)
    ∧ quiescent_AttnBwdIdeal_pre_attn_finite (hAttnBwdIdeal := hAttnBwdIdeal) (hPre_attn_finite := hPre_attn_finite)
    ∧ quiescent_AttnBwdRefIdeal (hAttnBwdRefIdeal := hAttnBwdRefIdeal)
    ∧ quiescent_AttnBwdRefIdeal_pre_attn_finite (hAttnBwdRefIdeal := hAttnBwdRefIdeal) (hPre_attn_finite := hPre_attn_finite)
    ∧ quiescent_LnSilu (hLnSilu := hLnSilu)
    ∧ quiescent_LnSiluIdeal (hLnSiluIdeal := hLnSiluIdeal)
    ∧ quiescent_LnSiluIdeal_pre_ln_silu_finite (hLnSiluIdeal := hLnSiluIdeal) (hPre_ln_silu_finite := hPre_ln_silu_finite)
    ∧ quiescent_LnSiluRefIdeal (hLnSiluRefIdeal := hLnSiluRefIdeal)
    ∧ quiescent_LnSiluRefIdeal_pre_ln_silu_finite (hLnSiluRefIdeal := hLnSiluRefIdeal) (hPre_ln_silu_finite := hPre_ln_silu_finite)
    ∧ quiescent_Rms2 (hRms2 := hRms2)
    ∧ quiescent_Rms2Ideal (hRms2Ideal := hRms2Ideal)
    ∧ quiescent_Rms2Ideal_pre_rms2_finite (hRms2Ideal := hRms2Ideal) (hPre_rms2_finite := hPre_rms2_finite)
    ∧ quiescent_Rms2RefIdeal (hRms2RefIdeal := hRms2RefIdeal)
    ∧ quiescent_Rms2RefIdeal_pre_rms2_finite (hRms2RefIdeal := hRms2RefIdeal) (hPre_rms2_finite := hPre_rms2_finite)
    ∧ quiescent_Rms5 (hRms5 := hRms5)
    ∧ quiescent_Rms5Ideal (hRms5Ideal := hRms5Ideal)
    ∧ quiescent_Rms5Ideal_pre_rms5_finite (hRms5Ideal := hRms5Ideal) (hPre_rms5_finite := hPre_rms5_finite)
    ∧ quiescent_Rms5RefIdeal (hRms5RefIdeal := hRms5RefIdeal)
    ∧ quiescent_Rms5RefIdeal_pre_rms5_finite (hRms5RefIdeal := hRms5RefIdeal) (hPre_rms5_finite := hPre_rms5_finite)
    ∧ quiescent_LossGrad (hLossGrad := hLossGrad)
    ∧ quiescent_LossGradIdeal (hLossGradIdeal := hLossGradIdeal)
    ∧ quiescent_LossGradRefIdeal (hLossGradRefIdeal := hLossGradRefIdeal)
    ∧ quiescent_FfnAct (hFfnAct := hFfnAct)
    ∧ quiescent_FfnActIdeal (hFfnActIdeal := hFfnActIdeal)
    ∧ quiescent_FfnActIdeal_pre_ffn_finite (hFfnActIdeal := hFfnActIdeal) (hPre_ffn_finite := hPre_ffn_finite)
    ∧ quiescent_FfnActRefIdeal (hFfnActRefIdeal := hFfnActRefIdeal)
    ∧ quiescent_FfnActRefIdeal_pre_ffn_finite (hFfnActRefIdeal := hFfnActRefIdeal) (hPre_ffn_finite := hPre_ffn_finite)
    ∧ quiescent_GluConv (hGluConv := hGluConv)
    ∧ quiescent_GluConvIdeal (hGluConvIdeal := hGluConvIdeal)
    ∧ quiescent_GluConvRefIdeal (hGluConvRefIdeal := hGluConvRefIdeal)
    ∧ quiescent_LnFwd (hLnFwd := hLnFwd)
    ∧ quiescent_LnFwdIdeal (hLnFwdIdeal := hLnFwdIdeal)
    ∧ quiescent_LnFwdRefIdeal (hLnFwdRefIdeal := hLnFwdRefIdeal)
    ∧ quiescent_NormUp (hNormUp := hNormUp)
    ∧ quiescent_NormUpIdeal (hNormUpIdeal := hNormUpIdeal)
    ∧ quiescent_NormUpRefIdeal (hNormUpRefIdeal := hNormUpRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_GluFwd (hGluFwd := hGluFwd)
    ∧ quiescent_GluFwdIdeal (hGluFwdIdeal := hGluFwdIdeal)
    ∧ quiescent_GluFwdRefIdeal (hGluFwdRefIdeal := hGluFwdRefIdeal)
    ∧ quiescent_MatRes (hMatRes := hMatRes)
    ∧ quiescent_MatResIdeal (hMatResIdeal := hMatResIdeal)
    ∧ quiescent_MatResRefIdeal (hMatResRefIdeal := hMatResRefIdeal)
    ∧ quiescent_MatNt (hMatNt := hMatNt)
    ∧ quiescent_MatNtIdeal (hMatNtIdeal := hMatNtIdeal)
    ∧ quiescent_MatNtRefIdeal (hMatNtRefIdeal := hMatNtRefIdeal)
    ∧ quiescent_AdamW (hAdamW := hAdamW)
    ∧ quiescent_AdamWIdeal (hAdamWIdeal := hAdamWIdeal)
    ∧ quiescent_AdamWRefIdeal (hAdamWRefIdeal := hAdamWRefIdeal)
    ∧ preserves_AttnBwd_AttnBwdIdeal
    ∧ algebraic_AttnBwdIdeal_AttnBwdRefIdeal_pre_attn_finite (hAttnBwdIdeal := hAttnBwdIdeal) (hAttnBwdRefIdeal := hAttnBwdRefIdeal) (hPre_attn_finite := hPre_attn_finite)
    ∧ preserves_LnSilu_LnSiluIdeal
    ∧ algebraic_LnSiluIdeal_LnSiluRefIdeal_pre_ln_silu_finite (hLnSiluIdeal := hLnSiluIdeal) (hLnSiluRefIdeal := hLnSiluRefIdeal) (hPre_ln_silu_finite := hPre_ln_silu_finite)
    ∧ preserves_Rms2_Rms2Ideal
    ∧ algebraic_Rms2Ideal_Rms2RefIdeal_pre_rms2_finite (hRms2Ideal := hRms2Ideal) (hRms2RefIdeal := hRms2RefIdeal) (hPre_rms2_finite := hPre_rms2_finite)
    ∧ preserves_Rms5_Rms5Ideal
    ∧ algebraic_Rms5Ideal_Rms5RefIdeal_pre_rms5_finite (hRms5Ideal := hRms5Ideal) (hRms5RefIdeal := hRms5RefIdeal) (hPre_rms5_finite := hPre_rms5_finite)
    ∧ preserves_LossGrad_LossGradIdeal
    ∧ algebraic_LossGradIdeal_LossGradRefIdeal (hLossGradIdeal := hLossGradIdeal) (hLossGradRefIdeal := hLossGradRefIdeal)
    ∧ preserves_FfnAct_FfnActIdeal
    ∧ algebraic_FfnActIdeal_FfnActRefIdeal_pre_ffn_finite (hFfnActIdeal := hFfnActIdeal) (hFfnActRefIdeal := hFfnActRefIdeal) (hPre_ffn_finite := hPre_ffn_finite)
    ∧ preserves_GluConv_GluConvIdeal
    ∧ algebraic_GluConvIdeal_GluConvRefIdeal (hGluConvIdeal := hGluConvIdeal) (hGluConvRefIdeal := hGluConvRefIdeal)
    ∧ preserves_LnFwd_LnFwdIdeal
    ∧ algebraic_LnFwdIdeal_LnFwdRefIdeal (hLnFwdIdeal := hLnFwdIdeal) (hLnFwdRefIdeal := hLnFwdRefIdeal)
    ∧ preserves_NormUp_NormUpIdeal
    ∧ algebraic_NormUpIdeal_NormUpRefIdeal (hNormUpIdeal := hNormUpIdeal) (hNormUpRefIdeal := hNormUpRefIdeal)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_GluFwd_GluFwdIdeal
    ∧ algebraic_GluFwdIdeal_GluFwdRefIdeal (hGluFwdIdeal := hGluFwdIdeal) (hGluFwdRefIdeal := hGluFwdRefIdeal)
    ∧ preserves_MatRes_MatResIdeal
    ∧ algebraic_MatResIdeal_MatResRefIdeal (hMatResIdeal := hMatResIdeal) (hMatResRefIdeal := hMatResRefIdeal)
    ∧ preserves_MatNt_MatNtIdeal
    ∧ algebraic_MatNtIdeal_MatNtRefIdeal (hMatNtIdeal := hMatNtIdeal) (hMatNtRefIdeal := hMatNtRefIdeal)
    ∧ preserves_AdamW_AdamWIdeal
    ∧ algebraic_AdamWIdeal_AdamWRefIdeal (hAdamWIdeal := hAdamWIdeal) (hAdamWRefIdeal := hAdamWRefIdeal)
-- ==== Pre_attn_finite.lean ====
abbrev S2048x2560 : Shape := ⟨2, ![2048, 2560]⟩
abbrev S1x64 : Shape := ⟨2, ![1, 64]⟩
abbrev S2048x1024 : Shape := ⟨2, ![2048, 1024]⟩
abbrev S2048x512 : Shape := ⟨2, ![2048, 512]⟩
abbrev S2048x8x64 : Shape := ⟨3, ![2048, 8, 64]⟩
abbrev S_ : Shape := ⟨0, ![]⟩
abbrev S1x1x64 : Shape := ⟨3, ![1, 1, 64]⟩

class Facts : Prop where
  slices_S2048x2560_S2048x512_0_0 : S2048x2560.Slices ![0, 0] S2048x512
  slices_S2048x2560_S2048x512_0_512 : S2048x2560.Slices ![0, 512] S2048x512
  slices_S2048x2560_S2048x512_0_1024 : S2048x2560.Slices ![0, 1024] S2048x512
  slices_S2048x1024_S2048x512_0_0 : S2048x1024.Slices ![0, 0] S2048x512
  shapeCasts_S2048x512_S2048x8x64 : S2048x512.ShapeCasts S2048x8x64
  bcast_S_S2048x8x64 : S_.BroadcastsInDim S2048x8x64 (![] : Fin 0 → Fin S2048x8x64.rank)
  bcast_S_S1x64 : S_.BroadcastsInDim S1x64 (![] : Fin 0 → Fin S1x64.rank)
  bcast_S1x64_S1x1x64_1_2 : S1x64.BroadcastsInDim S1x1x64 (![1, 2] : Fin 2 → Fin S1x1x64.rank)
  bcast_S1x1x64_S2048x8x64_0_1_2 : S1x1x64.BroadcastsInDim S2048x8x64 (![0, 1, 2] : Fin 3 → Fin S2048x8x64.rank)

variable [Facts]

def fn_part1 {F : FTy → Type} [FloatOps F] (main_arg1 : FVec F S1x64 .f32) (main_arg2 : FVec F S1x64 .f32) (main_v7 : IVec S2048x8x64 1) (main_v11 : IVec S2048x8x64 1) (main_v15 : IVec S2048x8x64 1) (main_v19 : IVec S2048x8x64 1) : IVec S2048x8x64 1 :=
  let main_v20 : IVec S2048x8x64 1 := andi main_v7 main_v11
  let main_v21 : IVec S2048x8x64 1 := andi main_v20 main_v15
  let main_v22 : IVec S2048x8x64 1 := andi main_v21 main_v19
  let main_v23 : FVec F S1x64 .f32 := Host.absf main_arg1
  let main_cst_3 : FVec F S_ .f32 := constant S_ .f32 0x7F800000#32
  let main_v24 : FVec F S1x64 .f32 := broadcastInDim S1x64 ![] bcast_S_S1x64 main_cst_3
  let main_v25 : IVec S1x64 1 := cmpf .olt main_v23 main_v24
  let main_v26 : IVec S1x1x64 1 := broadcastInDim S1x1x64 ![1, 2] bcast_S1x64_S1x1x64_1_2 main_v25
  let main_v27 : IVec S2048x8x64 1 := broadcastInDim S2048x8x64 ![0, 1, 2] bcast_S1x1x64_S2048x8x64_0_1_2 main_v26
  let main_v28 : IVec S2048x8x64 1 := andi main_v22 main_v27
  let main_v29 : FVec F S1x64 .f32 := Host.absf main_arg2
  let main_cst_4 : FVec F S_ .f32 := constant S_ .f32 0x7F800000#32
  let main_v30 : FVec F S1x64 .f32 := broadcastInDim S1x64 ![] bcast_S_S1x64 main_cst_4
  let main_v31 : IVec S1x64 1 := cmpf .olt main_v29 main_v30
  let main_v32 : IVec S1x1x64 1 := broadcastInDim S1x1x64 ![1, 2] bcast_S1x64_S1x1x64_1_2 main_v31
  let main_v33 : IVec S2048x8x64 1 := broadcastInDim S2048x8x64 ![0, 1, 2] bcast_S1x1x64_S2048x8x64_0_1_2 main_v32
  let main_v34 : IVec S2048x8x64 1 := andi main_v28 main_v33
  main_v34

def fn {F : FTy → Type} [FloatOps F] (main_arg0 : FVec F S2048x2560 .f32) (main_arg1 : FVec F S1x64 .f32) (main_arg2 : FVec F S1x64 .f32) (main_arg3 : FVec F S2048x1024 .f32) : IVec S2048x8x64 1 :=
  let main_v0 : FVec F S2048x512 .f32 := (extractStridedSlice S2048x512 ![0, 0] · slices_S2048x2560_S2048x512_0_0) main_arg0
  let main_v1 : FVec F S2048x512 .f32 := (extractStridedSlice S2048x512 ![0, 512] · slices_S2048x2560_S2048x512_0_512) main_arg0
  let main_v2 : FVec F S2048x512 .f32 := (extractStridedSlice S2048x512 ![0, 1024] · slices_S2048x2560_S2048x512_0_1024) main_arg0
  let main_v3 : FVec F S2048x512 .f32 := (extractStridedSlice S2048x512 ![0, 0] · slices_S2048x1024_S2048x512_0_0) main_arg3
  let main_v4 : FVec F S2048x512 .f32 := Host.absf main_v0
  let main_v5 : FVec F S2048x8x64 .f32 := shapeCast S2048x8x64 main_v4 shapeCasts_S2048x512_S2048x8x64
  let main_cst : FVec F S_ .f32 := constant S_ .f32 0x7F800000#32
  let main_v6 : FVec F S2048x8x64 .f32 := broadcastInDim S2048x8x64 ![] bcast_S_S2048x8x64 main_cst
  let main_v7 : IVec S2048x8x64 1 := cmpf .olt main_v5 main_v6
  let main_v8 : FVec F S2048x512 .f32 := Host.absf main_v1
  let main_v9 : FVec F S2048x8x64 .f32 := shapeCast S2048x8x64 main_v8 shapeCasts_S2048x512_S2048x8x64
  let main_cst_0 : FVec F S_ .f32 := constant S_ .f32 0x7F800000#32
  let main_v10 : FVec F S2048x8x64 .f32 := broadcastInDim S2048x8x64 ![] bcast_S_S2048x8x64 main_cst_0
  let main_v11 : IVec S2048x8x64 1 := cmpf .olt main_v9 main_v10
  let main_v12 : FVec F S2048x512 .f32 := Host.absf main_v2
  let main_v13 : FVec F S2048x8x64 .f32 := shapeCast S2048x8x64 main_v12 shapeCasts_S2048x512_S2048x8x64
  let main_cst_1 : FVec F S_ .f32 := constant S_ .f32 0x7F800000#32
  let main_v14 : FVec F S2048x8x64 .f32 := broadcastInDim S2048x8x64 ![] bcast_S_S2048x8x64 main_cst_1
  let main_v15 : IVec S2048x8x64 1 := cmpf .olt main_v13 main_v14
  let main_v16 : FVec F S2048x512 .f32 := Host.absf main_v3
  let main_v17 : FVec F S2048x8x64 .f32 := shapeCast S2048x8x64 main_v16 shapeCasts_S2048x512_S2048x8x64
  let main_cst_2 : FVec F S_ .f32 := constant S_ .f32 0x7F800000#32
  let main_v18 : FVec F S2048x8x64 .f32 := broadcastInDim S2048x8x64 ![] bcast_S_S2048x8x64 main_cst_2
  let main_v19 : IVec S2048x8x64 1 := cmpf .olt main_v17 main_v18
  fn_part1 (F := F) main_arg1 main_arg2 main_v7 main_v11 main_v15 main_v19
-- ==== Pre_ffn_finite.lean ====
abbrev S2048x5632 : Shape := ⟨2, ![2048, 5632]⟩
abbrev S3x2816 : Shape := ⟨2, ![3, 2816]⟩
abbrev S1x2816 : Shape := ⟨2, ![1, 2816]⟩
abbrev S2048x2816 : Shape := ⟨2, ![2048, 2816]⟩
abbrev S_ : Shape := ⟨0, ![]⟩

class Facts : Prop where
  slices_S2048x5632_S2048x2816_0_2816 : S2048x5632.Slices ![0, 2816] S2048x2816
  bcast_S_S2048x2816 : S_.BroadcastsInDim S2048x2816 (![] : Fin 0 → Fin S2048x2816.rank)
  bitsLt_bf16_f32 : FTy.bits .bf16 < FTy.bits .f32

variable [Facts]

def fn {F : FTy → Type} [FloatOps F] (main_arg0 : FVec F S2048x5632 .f32) (main_arg1 : FVec F S3x2816 .f32) (main_arg2 : FVec F S1x2816 .f32) (main_arg3 : FVec F S2048x2816 .bf16) : IVec S2048x2816 1 :=
  let main_v0 : FVec F S2048x2816 .f32 := (extractStridedSlice S2048x2816 ![0, 2816] · slices_S2048x5632_S2048x2816_0_2816) main_arg0
  let main_v1 : FVec F S2048x2816 .f32 := Host.absf main_v0
  let main_cst : FVec F S_ .f32 := constant S_ .f32 0x7F800000#32
  let main_v2 : FVec F S2048x2816 .f32 := broadcastInDim S2048x2816 ![] bcast_S_S2048x2816 main_cst
  let main_v3 : IVec S2048x2816 1 := cmpf .olt main_v1 main_v2
  let main_v4 : FVec F S2048x2816 .f32 := (extf .f32 · bitsLt_bf16_f32) main_arg3
  let main_v5 : FVec F S2048x2816 .f32 := Host.absf main_v4
  let main_cst_0 : FVec F S_ .f32 := constant S_ .f32 0x7F800000#32
  let main_v6 : FVec F S2048x2816 .f32 := broadcastInDim S2048x2816 ![] bcast_S_S2048x2816 main_cst_0
  let main_v7 : IVec S2048x2816 1 := cmpf .olt main_v5 main_v6
  let main_v8 : IVec S2048x2816 1 := andi main_v3 main_v7
  main_v8
-- ==== Pre_ln_silu_finite.lean ====
abbrev S2048x512 : Shape := ⟨2, ![2048, 512]⟩
abbrev S1x512 : Shape := ⟨2, ![1, 512]⟩
abbrev S2048x1024 : Shape := ⟨2, ![2048, 1024]⟩
abbrev S_ : Shape := ⟨0, ![]⟩

class Facts : Prop where
  bcast_S_S2048x512 : S_.BroadcastsInDim S2048x512 (![] : Fin 0 → Fin S2048x512.rank)
  bcast_S_S1x512 : S_.BroadcastsInDim S1x512 (![] : Fin 0 → Fin S1x512.rank)
  bcast_S1x512_S2048x512_0_1 : S1x512.BroadcastsInDim S2048x512 (![0, 1] : Fin 2 → Fin S2048x512.rank)
  slices_S2048x1024_S2048x512_0_512 : S2048x1024.Slices ![0, 512] S2048x512

variable [Facts]

def fn {F : FTy → Type} [FloatOps F] (main_arg0 : FVec F S2048x512 .f32) (main_arg1 : FVec F S1x512 .f32) (main_arg2 : FVec F S1x512 .f32) (main_arg3 : FVec F S2048x1024 .f32) : IVec S2048x512 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_v3 : FVec F S1x512 .f32 := Host.absf main_arg1
  let main_cst_0 : FVec F S_ .f32 := constant S_ .f32 0x7F800000#32
  let main_v4 : FVec F S1x512 .f32 := broadcastInDim S1x512 ![] bcast_S_S1x512 main_cst_0
  let main_v5 : IVec S1x512 1 := cmpf .olt main_v3 main_v4
  let main_v6 : IVec S2048x512 1 := broadcastInDim S2048x512 ![0, 1] bcast_S1x512_S2048x512_0_1 main_v5
  let main_v7 : IVec S2048x512 1 := andi main_v2 main_v6
  let main_v8 : FVec F S2048x512 .f32 := (extractStridedSlice S2048x512 ![0, 512] · slices_S2048x1024_S2048x512_0_512) main_arg3
  let main_v9 : FVec F S2048x512 .f32 := Host.absf main_v8
  let main_cst_1 : FVec F S_ .f32 := constant S_ .f32 0x7F800000#32
  let main_v10 : FVec F S2048x512 .f32 := broadcastInDim S2048x512 ![] bcast_S_S2048x512 main_cst_1
  let main_v11 : IVec S2048x512 1 := cmpf .olt main_v9 main_v10
  let main_v12 : IVec S2048x512 1 := andi main_v7 main_v11
  main_v12
-- ==== Pre_rms2_finite.lean ====
abbrev S2048x2816 : Shape := ⟨2, ![2048, 2816]⟩
abbrev S1024x5632 : Shape := ⟨2, ![1024, 5632]⟩
abbrev S2048x1024 : Shape := ⟨2, ![2048, 1024]⟩
abbrev S1x1024 : Shape := ⟨2, ![1, 1024]⟩
abbrev S2048x8448 : Shape := ⟨2, ![2048, 8448]⟩
abbrev S2048x10496 : Shape := ⟨2, ![2048, 10496]⟩
abbrev S_ : Shape := ⟨0, ![]⟩

class Facts : Prop where
  shapeCasts_S1024x5632_S2048x2816 : S1024x5632.ShapeCasts S2048x2816
  concatenates_S2048x2816_S2048x2816_S2048x2816_S2048x8448_d1 : Shape.Concatenates [S2048x2816, S2048x2816, S2048x2816] S2048x8448 1
  bitsLt_bf16_f32 : FTy.bits .bf16 < FTy.bits .f32
  bcast_S1x1024_S2048x1024_0_1 : S1x1024.BroadcastsInDim S2048x1024 (![0, 1] : Fin 2 → Fin S2048x1024.rank)
  concatenates_S2048x8448_S2048x1024_S2048x1024_S2048x10496_d1 : Shape.Concatenates [S2048x8448, S2048x1024, S2048x1024] S2048x10496 1
  bcast_S_S2048x10496 : S_.BroadcastsInDim S2048x10496 (![] : Fin 0 → Fin S2048x10496.rank)

variable [Facts]

def fn {F : FTy → Type} [FloatOps F] (main_arg0 : FVec F S2048x2816 .bf16) (main_arg1 : FVec F S2048x2816 .bf16) (main_arg2 : FVec F S1024x5632 .bf16) (main_arg3 : FVec F S2048x1024 .f32) (main_arg4 : FVec F S1x1024 .f32) (main_arg5 : FVec F S2048x1024 .f32) : IVec S2048x10496 1 :=
  let main_v0 : FVec F S2048x2816 .bf16 := shapeCast S2048x2816 main_arg2 shapeCasts_S1024x5632_S2048x2816
  let main_v1 : FVec F S2048x8448 .bf16 := concatenate S2048x8448 1 [⟨S2048x2816, main_arg0⟩, ⟨S2048x2816, main_arg1⟩, ⟨S2048x2816, main_v0⟩] concatenates_S2048x2816_S2048x2816_S2048x2816_S2048x8448_d1
  let main_v2 : FVec F S2048x8448 .f32 := (extf .f32 · bitsLt_bf16_f32) main_v1
  let main_v3 : FVec F S2048x1024 .f32 := broadcastInDim S2048x1024 ![0, 1] bcast_S1x1024_S2048x1024_0_1 main_arg4
  let main_v4 : FVec F S2048x10496 .f32 := concatenate S2048x10496 1 [⟨S2048x8448, main_v2⟩, ⟨S2048x1024, main_arg3⟩, ⟨S2048x1024, main_v3⟩] concatenates_S2048x8448_S2048x1024_S2048x1024_S2048x10496_d1
  let main_v5 : FVec F S2048x10496 .f32 := Host.absf main_v4
  let main_cst : FVec F S_ .f32 := constant S_ .f32 0x7F800000#32
  let main_v6 : FVec F S2048x10496 .f32 := broadcastInDim S2048x10496 ![] bcast_S_S2048x10496 main_cst
  let main_v7 : IVec S2048x10496 1 := cmpf .olt main_v5 main_v6
  main_v7
-- ==== Pre_rms5_finite.lean ====
abbrev S2048x512 : Shape := ⟨2, ![2048, 512]⟩
abbrev S1024x2560 : Shape := ⟨2, ![1024, 2560]⟩
abbrev S2048x1024 : Shape := ⟨2, ![2048, 1024]⟩
abbrev S1x1024 : Shape := ⟨2, ![1, 1024]⟩
abbrev S2048x1280 : Shape := ⟨2, ![2048, 1280]⟩
abbrev S2048x3840 : Shape := ⟨2, ![2048, 3840]⟩
abbrev S2048x5888 : Shape := ⟨2, ![2048, 5888]⟩
abbrev S_ : Shape := ⟨0, ![]⟩

class Facts : Prop where
  shapeCasts_S1024x2560_S2048x1280 : S1024x2560.ShapeCasts S2048x1280
  concatenates_S2048x512_S2048x512_S2048x512_S2048x512_S2048x512_S2048x1280_S2048x3840_d1 : Shape.Concatenates [S2048x512, S2048x512, S2048x512, S2048x512, S2048x512, S2048x1280] S2048x3840 1
  bitsLt_bf16_f32 : FTy.bits .bf16 < FTy.bits .f32
  bcast_S1x1024_S2048x1024_0_1 : S1x1024.BroadcastsInDim S2048x1024 (![0, 1] : Fin 2 → Fin S2048x1024.rank)
  concatenates_S2048x3840_S2048x1024_S2048x1024_S2048x5888_d1 : Shape.Concatenates [S2048x3840, S2048x1024, S2048x1024] S2048x5888 1
  bcast_S_S2048x5888 : S_.BroadcastsInDim S2048x5888 (![] : Fin 0 → Fin S2048x5888.rank)

variable [Facts]

def fn {F : FTy → Type} [FloatOps F] (main_arg0 : FVec F S2048x512 .bf16) (main_arg1 : FVec F S2048x512 .bf16) (main_arg2 : FVec F S2048x512 .bf16) (main_arg3 : FVec F S2048x512 .bf16) (main_arg4 : FVec F S2048x512 .bf16) (main_arg5 : FVec F S1024x2560 .bf16) (main_arg6 : FVec F S2048x1024 .f32) (main_arg7 : FVec F S1x1024 .f32) (main_arg8 : FVec F S2048x1024 .f32) : IVec S2048x5888 1 :=
  let main_v0 : FVec F S2048x1280 .bf16 := shapeCast S2048x1280 main_arg5 shapeCasts_S1024x2560_S2048x1280
  let main_v1 : FVec F S2048x3840 .bf16 := concatenate S2048x3840 1 [⟨S2048x512, main_arg0⟩, ⟨S2048x512, main_arg1⟩, ⟨S2048x512, main_arg2⟩, ⟨S2048x512, main_arg3⟩, ⟨S2048x512, main_arg4⟩, ⟨S2048x1280, main_v0⟩] concatenates_S2048x512_S2048x512_S2048x512_S2048x512_S2048x512_S2048x1280_S2048x3840_d1
  let main_v2 : FVec F S2048x3840 .f32 := (extf .f32 · bitsLt_bf16_f32) main_v1
  let main_v3 : FVec F S2048x1024 .f32 := broadcastInDim S2048x1024 ![0, 1] bcast_S1x1024_S2048x1024_0_1 main_arg7
  let main_v4 : FVec F S2048x5888 .f32 := concatenate S2048x5888 1 [⟨S2048x3840, main_v2⟩, ⟨S2048x1024, main_arg6⟩, ⟨S2048x1024, main_v3⟩] concatenates_S2048x3840_S2048x1024_S2048x1024_S2048x5888_d1
  let main_v5 : FVec F S2048x5888 .f32 := Host.absf main_v4
  let main_cst : FVec F S_ .f32 := constant S_ .f32 0x7F800000#32
  let main_v6 : FVec F S2048x5888 .f32 := broadcastInDim S2048x5888 ![] bcast_S_S2048x5888 main_cst
  let main_v7 : IVec S2048x5888 1 := cmpf .olt main_v5 main_v6
  main_v7
-- ==== AttnBwd.lean ====
abbrev S2048x2560 : Shape := ⟨2, ![2048, 2560]⟩
abbrev S1x64 : Shape := ⟨2, ![1, 64]⟩
abbrev S2048x1024 : Shape := ⟨2, ![2048, 1024]⟩
abbrev S2048x512 : Shape := ⟨2, ![2048, 512]⟩
abbrev S2048x8x64 : Shape := ⟨3, ![2048, 8, 64]⟩
abbrev S_ : Shape := ⟨0, ![]⟩
abbrev S2048x8 : Shape := ⟨2, ![2048, 8]⟩
abbrev S2048x8x1 : Shape := ⟨3, ![2048, 8, 1]⟩
abbrev S1x1x64 : Shape := ⟨3, ![1, 1, 64]⟩
abbrev S8x2048x64 : Shape := ⟨3, ![8, 2048, 64]⟩
abbrev S8x2048x2048 : Shape := ⟨3, ![8, 2048, 2048]⟩
abbrev S2048x2048 : Shape := ⟨2, ![2048, 2048]⟩
abbrev S8x2048 : Shape := ⟨2, ![8, 2048]⟩
abbrev S2x4x2048 : Shape := ⟨3, ![2, 4, 2048]⟩
abbrev S2x2048x4 : Shape := ⟨3, ![2, 2048, 4]⟩
abbrev S2x2048x4x1 : Shape := ⟨4, ![2, 2048, 4, 1]⟩
abbrev S2x2048x4x64 : Shape := ⟨4, ![2, 2048, 4, 64]⟩
abbrev S2x2048x256 : Shape := ⟨3, ![2, 2048, 256]⟩
abbrev S2x8 : Shape := ⟨2, ![2, 8]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S2048x256 : Shape := ⟨2, ![2048, 256]⟩
abbrev S1x2048x256 : Shape := ⟨3, ![1, 2048, 256]⟩
abbrev S4x2048x64 : Shape := ⟨3, ![4, 2048, 64]⟩
abbrev S1x256x64 : Shape := ⟨3, ![1, 256, 64]⟩
abbrev S256x64 : Shape := ⟨2, ![256, 64]⟩
abbrev S1x256x1 : Shape := ⟨3, ![1, 256, 1]⟩
abbrev S1x1 : Shape := ⟨2, ![1, 1]⟩
abbrev S64 : Shape := ⟨1, ![64]⟩

abbrev nBuf : Space → Nat
  | .hbm => 103
  | .vmem => 29
  | .smem => 1
  | _ => 0

abbrev bufTy : (tb : Table) → Fin (tcTables nBuf tb) → BufTy
  | .hbm, ⟨0, _⟩ => ⟨S2048x2560, .f32⟩
  | .hbm, ⟨1, _⟩ => ⟨S1x64, .f32⟩
  | .hbm, ⟨2, _⟩ => ⟨S1x64, .f32⟩
  | .hbm, ⟨3, _⟩ => ⟨S2048x1024, .f32⟩
  | .hbm, ⟨4, _⟩ => ⟨S2048x512, .f32⟩
  | .hbm, ⟨5, _⟩ => ⟨S2048x8x64, .f32⟩
  | .hbm, ⟨6, _⟩ => ⟨S2048x512, .f32⟩
  | .hbm, ⟨7, _⟩ => ⟨S2048x8x64, .f32⟩
  | .hbm, ⟨8, _⟩ => ⟨S2048x512, .f32⟩
  | .hbm, ⟨9, _⟩ => ⟨S2048x8x64, .f32⟩
  | .hbm, ⟨10, _⟩ => ⟨S2048x8x64, .f32⟩
  | .hbm, ⟨11, _⟩ => ⟨S_, .f32⟩
  | .hbm, ⟨12, _⟩ => ⟨S2048x8, .f32⟩
  | .hbm, ⟨13, _⟩ => ⟨S2048x8x1, .f32⟩
  | .hbm, ⟨14, _⟩ => ⟨S_, .f32⟩
  | .hbm, ⟨15, _⟩ => ⟨S2048x8x1, .f32⟩
  | .hbm, ⟨16, _⟩ => ⟨S2048x8x1, .f32⟩
  | .hbm, ⟨17, _⟩ => ⟨S_, .f32⟩
  | .hbm, ⟨18, _⟩ => ⟨S2048x8x1, .f32⟩
  | .hbm, ⟨19, _⟩ => ⟨S2048x8x1, .f32⟩
  | .hbm, ⟨20, _⟩ => ⟨S2048x8x1, .f32⟩
  | .hbm, ⟨21, _⟩ => ⟨S2048x8x64, .f32⟩
  | .hbm, ⟨22, _⟩ => ⟨S2048x8x64, .f32⟩
  | .hbm, ⟨23, _⟩ => ⟨S1x1x64, .f32⟩
  | .hbm, ⟨24, _⟩ => ⟨S2048x8x64, .f32⟩
  | .hbm, ⟨25, _⟩ => ⟨S2048x8x64, .f32⟩
  | .hbm, ⟨26, _⟩ => ⟨S_, .f32⟩
  | .hbm, ⟨27, _⟩ => ⟨S2048x8x64, .f32⟩
  | .hbm, ⟨28, _⟩ => ⟨S2048x8x64, .f32⟩
  | .hbm, ⟨29, _⟩ => ⟨S2048x8x64, .bf16⟩
  | .hbm, ⟨30, _⟩ => ⟨S8x2048x64, .bf16⟩
  | .hbm, ⟨31, _⟩ => ⟨S2048x8x64, .f32⟩
  | .hbm, ⟨32, _⟩ => ⟨S_, .f32⟩
  | .hbm, ⟨33, _⟩ => ⟨S2048x8, .f32⟩
  | .hbm, ⟨34, _⟩ => ⟨S2048x8x1, .f32⟩
  | .hbm, ⟨35, _⟩ => ⟨S_, .f32⟩
  | .hbm, ⟨36, _⟩ => ⟨S2048x8x1, .f32⟩
  | .hbm, ⟨37, _⟩ => ⟨S2048x8x1, .f32⟩
  | .hbm, ⟨38, _⟩ => ⟨S_, .f32⟩
  | .hbm, ⟨39, _⟩ => ⟨S2048x8x1, .f32⟩
  | .hbm, ⟨40, _⟩ => ⟨S2048x8x1, .f32⟩
  | .hbm, ⟨41, _⟩ => ⟨S2048x8x1, .f32⟩
  | .hbm, ⟨42, _⟩ => ⟨S2048x8x64, .f32⟩
  | .hbm, ⟨43, _⟩ => ⟨S2048x8x64, .f32⟩
  | .hbm, ⟨44, _⟩ => ⟨S1x1x64, .f32⟩
  | .hbm, ⟨45, _⟩ => ⟨S2048x8x64, .f32⟩
  | .hbm, ⟨46, _⟩ => ⟨S2048x8x64, .f32⟩
  | .hbm, ⟨47, _⟩ => ⟨S2048x8x64, .bf16⟩
  | .hbm, ⟨48, _⟩ => ⟨S8x2048x64, .bf16⟩
  | .hbm, ⟨49, _⟩ => ⟨S2048x8x64, .bf16⟩
  | .hbm, ⟨50, _⟩ => ⟨S8x2048x64, .bf16⟩
  | .hbm, ⟨51, _⟩ => ⟨S8x2048x2048, .f32⟩
  | .hbm, ⟨52, _⟩ => ⟨S_, .f32⟩
  | .hbm, ⟨53, _⟩ => ⟨S8x2048x2048, .f32⟩
  | .hbm, ⟨54, _⟩ => ⟨S8x2048x2048, .f32⟩
  | .hbm, ⟨55, _⟩ => ⟨S8x2048x2048, .f32⟩
  | .hbm, ⟨56, _⟩ => ⟨S8x2048x2048, .f32⟩
  | .hbm, ⟨57, _⟩ => ⟨S8x2048x2048, .f32⟩
  | .hbm, ⟨58, _⟩ => ⟨S_, .f32⟩
  | .hbm, ⟨59, _⟩ => ⟨S8x2048x2048, .f32⟩
  | .hbm, ⟨60, _⟩ => ⟨S8x2048x2048, .f32⟩
  | .hbm, ⟨61, _⟩ => ⟨S8x2048x2048, .f32⟩
  | .hbm, ⟨62, _⟩ => ⟨S8x2048x2048, .f32⟩
  | .hbm, ⟨63, _⟩ => ⟨S2048x2048, .i32⟩
  | .hbm, ⟨64, _⟩ => ⟨S2048x2048, .i32⟩
  | .hbm, ⟨65, _⟩ => ⟨S2048x2048, .i1⟩
  | .hbm, ⟨66, _⟩ => ⟨S_, .f32⟩
  | .hbm, ⟨67, _⟩ => ⟨S_, .f32⟩
  | .hbm, ⟨68, _⟩ => ⟨S8x2048x2048, .i1⟩
  | .hbm, ⟨69, _⟩ => ⟨S8x2048x2048, .f32⟩
  | .hbm, ⟨70, _⟩ => ⟨S8x2048x2048, .f32⟩
  | .hbm, ⟨71, _⟩ => ⟨S8x2048x2048, .bf16⟩
  | .hbm, ⟨72, _⟩ => ⟨S8x2048x2048, .f32⟩
  | .hbm, ⟨73, _⟩ => ⟨S_, .f32⟩
  | .hbm, ⟨74, _⟩ => ⟨S8x2048, .f32⟩
  | .hbm, ⟨75, _⟩ => ⟨S2x4x2048, .f32⟩
  | .hbm, ⟨76, _⟩ => ⟨S2x2048x4, .f32⟩
  | .hbm, ⟨77, _⟩ => ⟨S2x2048x4x1, .f32⟩
  | .hbm, ⟨78, _⟩ => ⟨S2x2048x4x64, .f32⟩
  | .hbm, ⟨79, _⟩ => ⟨S2x2048x256, .f32⟩
  | .hbm, ⟨80, _⟩ => ⟨S_, .f32⟩
  | .hbm, ⟨81, _⟩ => ⟨S2x8, .f32⟩
  | .hbm, ⟨82, _⟩ => ⟨S256, .i32⟩
  | .hbm, ⟨83, _⟩ => ⟨S256x1, .i32⟩
  | .hbm, ⟨84, _⟩ => ⟨S256, .i32⟩
  | .hbm, ⟨85, _⟩ => ⟨S1x256, .i32⟩
  | .hbm, ⟨86, _⟩ => ⟨S256x256, .i32⟩
  | .hbm, ⟨87, _⟩ => ⟨S256x256, .i32⟩
  | .hbm, ⟨88, _⟩ => ⟨S256x256, .i1⟩
  | .hbm, ⟨89, _⟩ => ⟨S256x256, .bf16⟩
  | .hbm, ⟨90, _⟩ => ⟨S256x256, .i32⟩
  | .hbm, ⟨91, _⟩ => ⟨S256x256, .i32⟩
  | .hbm, ⟨92, _⟩ => ⟨S256x256, .i1⟩
  | .hbm, ⟨93, _⟩ => ⟨S256x256, .bf16⟩
  | .hbm, ⟨94, _⟩ => ⟨S256x256, .i32⟩
  | .hbm, ⟨95, _⟩ => ⟨S256x256, .i32⟩
  | .hbm, ⟨96, _⟩ => ⟨S256x256, .i1⟩
  | .hbm, ⟨97, _⟩ => ⟨S256x256, .bf16⟩
  | .hbm, ⟨98, _⟩ => ⟨S2048x512, .bf16⟩
  | .hbm, ⟨99, _⟩ => ⟨S2048x512, .bf16⟩
  | .hbm, ⟨100, _⟩ => ⟨S2048x512, .bf16⟩
  | .hbm, ⟨101, _⟩ => ⟨S1x64, .f32⟩
  | .hbm, ⟨102, _⟩ => ⟨S1x64, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S1x64, .f32⟩
  | .local _ .vmem, ⟨5, _⟩ => ⟨S1x64, .f32⟩
  | .local _ .vmem, ⟨6, _⟩ => ⟨S1x2048x256, .f32⟩
  | .local _ .vmem, ⟨7, _⟩ => ⟨S1x2048x256, .f32⟩
  | .local _ .vmem, ⟨8, _⟩ => ⟨S2048x256, .f32⟩
  | .local _ .vmem, ⟨9, _⟩ => ⟨S2048x256, .f32⟩
  | .local _ .vmem, ⟨10, _⟩ => ⟨S256x256, .bf16⟩
  | .local _ .vmem, ⟨11, _⟩ => ⟨S256x256, .bf16⟩
  | .local _ .vmem, ⟨12, _⟩ => ⟨S4x2048x64, .bf16⟩
  | .local _ .vmem, ⟨13, _⟩ => ⟨S4x2048x64, .bf16⟩
  | .local _ .vmem, ⟨14, _⟩ => ⟨S4x2048x64, .bf16⟩
  | .local _ .vmem, ⟨15, _⟩ => ⟨S4x2048x64, .bf16⟩
  | .local _ .vmem, ⟨16, _⟩ => ⟨S4x2048x64, .bf16⟩
  | .local _ .vmem, ⟨17, _⟩ => ⟨S4x2048x64, .bf16⟩
  | .local _ .vmem, ⟨18, _⟩ => ⟨S2048x256, .bf16⟩
  | .local _ .vmem, ⟨19, _⟩ => ⟨S2048x256, .bf16⟩
  | .local _ .vmem, ⟨20, _⟩ => ⟨S2048x256, .bf16⟩
  | .local _ .vmem, ⟨21, _⟩ => ⟨S2048x256, .bf16⟩
  | .local _ .vmem, ⟨22, _⟩ => ⟨S2048x256, .bf16⟩
  | .local _ .vmem, ⟨23, _⟩ => ⟨S2048x256, .bf16⟩
  | .local _ .vmem, ⟨24, _⟩ => ⟨S1x64, .f32⟩
  | .local _ .vmem, ⟨25, _⟩ => ⟨S1x64, .f32⟩
  | .local _ .vmem, ⟨26, _⟩ => ⟨S4x2048x64, .f32⟩
  | .local _ .vmem, ⟨27, _⟩ => ⟨S4x2048x64, .f32⟩
  | .local _ .vmem, ⟨28, _⟩ => ⟨S4x2048x64, .f32⟩
  | .local _ .smem, ⟨0, _⟩ => ⟨S2x8, .f32⟩
  | _, _ => ⟨S2048x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .smem, ⟨0, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_6 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_7 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_8 : Ref sig .tc := ⟨.hbm, 66, rfl⟩
abbrev main_call0_v0 : Ref sig .tc := ⟨.hbm, 67, rfl⟩
abbrev main_call0_v1 : Ref sig .tc := ⟨.hbm, 68, rfl⟩
abbrev main_call0_v2 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_9 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_10 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79_0 : Ref sig .tc := ⟨.hbm, 98, rfl⟩
abbrev main_v79_1 : Ref sig .tc := ⟨.hbm, 99, rfl⟩
abbrev main_v79_2 : Ref sig .tc := ⟨.hbm, 100, rfl⟩
abbrev main_v79_3 : Ref sig .tc := ⟨.hbm, 101, rfl⟩
abbrev main_v79_4 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg16_0 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_stg8_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem16_0 : DmaSem sig := 26

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32_7 : BitVec 32 := 0#32
  let c8_i32 : BitVec 32 := 8#32
  let v11 : BitVec 32 := Scalar.addi c0_i32_7 c8_i32
  let c1_i32 : BitVec 32 := 1#32
  ⟨c0_i32_7, v11, c1_i32⟩
def k0_mult1 (k0_t1 : Fin k0_t1_loop.trips) : BitVec 32 :=
  let c0_i32_7 : BitVec 32 := 0#32
  let c1_i32 : BitVec 32 := 1#32
  let arg21 : BitVec 32 := Scf.iv c0_i32_7 c1_i32 k0_t1
  let c256_i32 : BitVec 32 := 256#32
  let v33 : BitVec 32 := Scalar.muli arg21 c256_i32
  v33
def k0_off1 (k0_t1 : Fin k0_t1_loop.trips) : Fin 3 → Nat :=
  let c0_24 : Index := 0#32
  let c0_i32_7 : BitVec 32 := 0#32
  let c1_i32 : BitVec 32 := 1#32
  let arg21 : BitVec 32 := Scf.iv c0_i32_7 c1_i32 k0_t1
  let c256_i32 : BitVec 32 := 256#32
  let v33 : BitVec 32 := Scalar.muli arg21 c256_i32
  let v34 : BitVec 32 := v33
  let v35 : Index := Scalar.indexCast v34
  let c0_25 : Index := 0#32
  ![0, v35.toNat, 0]
def k0_off2 (k0_t1 : Fin k0_t1_loop.trips) : Fin 3 → Nat :=
  let c1 : Index := 1#32
  let c0_i32_7 : BitVec 32 := 0#32
  let c1_i32 : BitVec 32 := 1#32
  let arg21 : BitVec 32 := Scf.iv c0_i32_7 c1_i32 k0_t1
  let c256_i32 : BitVec 32 := 256#32
  let v33 : BitVec 32 := Scalar.muli arg21 c256_i32
  let v34 : BitVec 32 := v33
  let v38 : Index := Scalar.indexCast v34
  let c0_26 : Index := 0#32
  ![1, v38.toNat, 0]
def k0_off3 (k0_t1 : Fin k0_t1_loop.trips) : Fin 3 → Nat :=
  let c2 : Index := 2#32
  let c0_i32_7 : BitVec 32 := 0#32
  let c1_i32 : BitVec 32 := 1#32
  let arg21 : BitVec 32 := Scf.iv c0_i32_7 c1_i32 k0_t1
  let c256_i32 : BitVec 32 := 256#32
  let v33 : BitVec 32 := Scalar.muli arg21 c256_i32
  let v34 : BitVec 32 := v33
  let v41 : Index := Scalar.indexCast v34
  let c0_27 : Index := 0#32
  ![2, v41.toNat, 0]
def k0_off4 (k0_t1 : Fin k0_t1_loop.trips) : Fin 3 → Nat :=
  let c3 : Index := 3#32
  let c0_i32_7 : BitVec 32 := 0#32
  let c1_i32 : BitVec 32 := 1#32
  let arg21 : BitVec 32 := Scf.iv c0_i32_7 c1_i32 k0_t1
  let c256_i32 : BitVec 32 := 256#32
  let v33 : BitVec 32 := Scalar.muli arg21 c256_i32
  let v34 : BitVec 32 := v33
  let v44 : Index := Scalar.indexCast v34
  let c0_28 : Index := 0#32
  ![3, v44.toNat, 0]
def k0_off5 (k0_t1 : Fin k0_t1_loop.trips) : Fin 2 → Nat :=
  let c0_i32_7 : BitVec 32 := 0#32
  let c1_i32 : BitVec 32 := 1#32
  let arg21 : BitVec 32 := Scf.iv c0_i32_7 c1_i32 k0_t1
  let c256_i32 : BitVec 32 := 256#32
  let v33 : BitVec 32 := Scalar.muli arg21 c256_i32
  let v34 : BitVec 32 := v33
  let v47 : Index := Scalar.indexCast v34
  let c0_29 : Index := 0#32
  ![v47.toNat, 0]
def k0_off6 (k0_t1 : Fin k0_t1_loop.trips) : Fin 2 → Nat :=
  let c0_i32_7 : BitVec 32 := 0#32
  let c1_i32 : BitVec 32 := 1#32
  let arg21 : BitVec 32 := Scf.iv c0_i32_7 c1_i32 k0_t1
  let c256_i32 : BitVec 32 := 256#32
  let v33 : BitVec 32 := Scalar.muli arg21 c256_i32
  let v34 : BitVec 32 := v33
  let v50 : Index := Scalar.indexCast v34
  let c64 : Index := 64#32
  ![v50.toNat, 64]
def k0_off7 (k0_t1 : Fin k0_t1_loop.trips) : Fin 2 → Nat :=
  let c0_i32_7 : BitVec 32 := 0#32
  let c1_i32 : BitVec 32 := 1#32
  let arg21 : BitVec 32 := Scf.iv c0_i32_7 c1_i32 k0_t1
  let c256_i32 : BitVec 32 := 256#32
  let v33 : BitVec 32 := Scalar.muli arg21 c256_i32
  let v34 : BitVec 32 := v33
  let v53 : Index := Scalar.indexCast v34
  let c128 : Index := 128#32
  ![v53.toNat, 128]
def k0_off8 (k0_t1 : Fin k0_t1_loop.trips) : Fin 2 → Nat :=
  let c0_i32_7 : BitVec 32 := 0#32
  let c1_i32 : BitVec 32 := 1#32
  let arg21 : BitVec 32 := Scf.iv c0_i32_7 c1_i32 k0_t1
  let c256_i32 : BitVec 32 := 256#32
  let v33 : BitVec 32 := Scalar.muli arg21 c256_i32
  let v34 : BitVec 32 := v33
  let v56 : Index := Scalar.indexCast v34
  let c192 : Index := 192#32
  ![v56.toNat, 192]
def k0_off9 (k0_t1 : Fin k0_t1_loop.trips) : Fin 3 → Nat :=
  let c0_30 : Index := 0#32
  let c0_i32_7 : BitVec 32 := 0#32
  let c1_i32 : BitVec 32 := 1#32
  let arg21 : BitVec 32 := Scf.iv c0_i32_7 c1_i32 k0_t1
  let c256_i32 : BitVec 32 := 256#32
  let v33 : BitVec 32 := Scalar.muli arg21 c256_i32
  let v34 : BitVec 32 := v33
  let v59 : Index := Scalar.indexCast v34
  let c0_31 : Index := 0#32
  ![0, v59.toNat, 0]
def k0_off10 (k0_t1 : Fin k0_t1_loop.trips) : Fin 3 → Nat :=
  let c0_32 : Index := 0#32
  let c0_i32_7 : BitVec 32 := 0#32
  let c1_i32 : BitVec 32 := 1#32
  let arg21 : BitVec 32 := Scf.iv c0_i32_7 c1_i32 k0_t1
  let c256_i32 : BitVec 32 := 256#32
  let v33 : BitVec 32 := Scalar.muli arg21 c256_i32
  let v34 : BitVec 32 := v33
  let v62 : Index := Scalar.indexCast v34
  let c64_33 : Index := 64#32
  ![0, v62.toNat, 64]
def k0_off11 (k0_t1 : Fin k0_t1_loop.trips) : Fin 3 → Nat :=
  let c0_34 : Index := 0#32
  let c0_i32_7 : BitVec 32 := 0#32
  let c1_i32 : BitVec 32 := 1#32
  let arg21 : BitVec 32 := Scf.iv c0_i32_7 c1_i32 k0_t1
  let c256_i32 : BitVec 32 := 256#32
  let v33 : BitVec 32 := Scalar.muli arg21 c256_i32
  let v34 : BitVec 32 := v33
  let v65 : Index := Scalar.indexCast v34
  let c128_35 : Index := 128#32
  ![0, v65.toNat, 128]
def k0_off12 (k0_t1 : Fin k0_t1_loop.trips) : Fin 3 → Nat :=
  let c0_36 : Index := 0#32
  let c0_i32_7 : BitVec 32 := 0#32
  let c1_i32 : BitVec 32 := 1#32
  let arg21 : BitVec 32 := Scf.iv c0_i32_7 c1_i32 k0_t1
  let c256_i32 : BitVec 32 := 256#32
  let v33 : BitVec 32 := Scalar.muli arg21 c256_i32
  let v34 : BitVec 32 := v33
  let v68 : Index := Scalar.indexCast v34
  let c192_37 : Index := 192#32
  ![0, v68.toNat, 192]
def k0_off13 (i : grid0.Coords) (k0_t1 : Fin k0_t1_loop.trips) : Fin 2 → Nat :=
  let arg0 : BitVec 32 := BitVec.ofNat 32 (i 0).val
  let v76 : Index := Scalar.indexCast arg0
  let c0_i32_7 : BitVec 32 := 0#32
  let c1_i32 : BitVec 32 := 1#32
  let arg21 : BitVec 32 := Scf.iv c0_i32_7 c1_i32 k0_t1
  let v77 : Index := Scalar.indexCast arg21
  ![v76.toNat, v77.toNat]
@[reducible] def k0_t2_loop (k0_t1 : Fin k0_t1_loop.trips) (v79 : BitVec 32) : Scf.Loop 32 :=
  let c0_i32_7 : BitVec 32 := 0#32
  let c1_i32 : BitVec 32 := 1#32
  let arg21 : BitVec 32 := Scf.iv c0_i32_7 c1_i32 k0_t1
  let c0_i32_43 : BitVec 32 := 0#32
  let v80 : BitVec 32 := Scalar.maxsi c0_i32_43 v79
  let v81 : BitVec 32 := Scalar.minsi arg21 v80
  let v82 : BitVec 32 := Scalar.subi arg21 v81
  let c1_i32_44 : BitVec 32 := 1#32
  let v84 : BitVec 32 := Scalar.divsi v82 c1_i32_44
  let v85 : BitVec 32 := Scalar.muli v84 c1_i32_44
  let v86 : BitVec 32 := Scalar.addi v81 v85
  let c1_i32_45 : BitVec 32 := 1#32
  ⟨v81, v86, c1_i32_45⟩

def k0_mult2 (k0_t1 : Fin k0_t1_loop.trips) (v79 : BitVec 32) (k0_t2 : Fin (k0_t2_loop k0_t1 v79).trips) : BitVec 32 :=
  let c0_i32_7 : BitVec 32 := 0#32
  let c1_i32 : BitVec 32 := 1#32
  let arg21 : BitVec 32 := Scf.iv c0_i32_7 c1_i32 k0_t1
  let c0_i32_43 : BitVec 32 := 0#32
  let v80 : BitVec 32 := Scalar.maxsi c0_i32_43 v79
  let v81 : BitVec 32 := Scalar.minsi arg21 v80
  let c1_i32_45 : BitVec 32 := 1#32
  let arg22 : BitVec 32 := Scf.iv v81 c1_i32_45 k0_t2
  let c256_i32_172 : BitVec 32 := 256#32
  let v378 : BitVec 32 := Scalar.muli arg22 c256_i32_172
  v378
def k0_off14 (k0_t1 : Fin k0_t1_loop.trips) (v79 : BitVec 32) (k0_t2 : Fin (k0_t2_loop k0_t1 v79).trips) : Fin 3 → Nat :=
  let c0_173 : Index := 0#32
  let c0_i32_7 : BitVec 32 := 0#32
  let c1_i32 : BitVec 32 := 1#32
  let arg21 : BitVec 32 := Scf.iv c0_i32_7 c1_i32 k0_t1
  let c0_i32_43 : BitVec 32 := 0#32
  let v80 : BitVec 32 := Scalar.maxsi c0_i32_43 v79
  let v81 : BitVec 32 := Scalar.minsi arg21 v80
  let c1_i32_45 : BitVec 32 := 1#32
  let arg22 : BitVec 32 := Scf.iv v81 c1_i32_45 k0_t2
  let c256_i32_172 : BitVec 32 := 256#32
  let v378 : BitVec 32 := Scalar.muli arg22 c256_i32_172
  let v379 : BitVec 32 := v378
  let v380 : Index := Scalar.indexCast v379
  let c0_174 : Index := 0#32
  ![0, v380.toNat, 0]
def k0_off15 (k0_t1 : Fin k0_t1_loop.trips) (v79 : BitVec 32) (k0_t2 : Fin (k0_t2_loop k0_t1 v79).trips) : Fin 3 → Nat :=
  let c1_175 : Index := 1#32
  let c0_i32_7 : BitVec 32 := 0#32
  let c1_i32 : BitVec 32 := 1#32
  let arg21 : BitVec 32 := Scf.iv c0_i32_7 c1_i32 k0_t1
  let c0_i32_43 : BitVec 32 := 0#32
  let v80 : BitVec 32 := Scalar.maxsi c0_i32_43 v79
  let v81 : BitVec 32 := Scalar.minsi arg21 v80
  let c1_i32_45 : BitVec 32 := 1#32
  let arg22 : BitVec 32 := Scf.iv v81 c1_i32_45 k0_t2
  let c256_i32_172 : BitVec 32 := 256#32
  let v378 : BitVec 32 := Scalar.muli arg22 c256_i32_172
  let v379 : BitVec 32 := v378
  let v383 : Index := Scalar.indexCast v379
  let c0_176 : Index := 0#32
  ![1, v383.toNat, 0]
def k0_off16 (k0_t1 : Fin k0_t1_loop.trips) (v79 : BitVec 32) (k0_t2 : Fin (k0_t2_loop k0_t1 v79).trips) : Fin 3 → Nat :=
  let c2_177 : Index := 2#32
  let c0_i32_7 : BitVec 32 := 0#32
  let c1_i32 : BitVec 32 := 1#32
  let arg21 : BitVec 32 := Scf.iv c0_i32_7 c1_i32 k0_t1
  let c0_i32_43 : BitVec 32 := 0#32
  let v80 : BitVec 32 := Scalar.maxsi c0_i32_43 v79
  let v81 : BitVec 32 := Scalar.minsi arg21 v80
  let c1_i32_45 : BitVec 32 := 1#32
  let arg22 : BitVec 32 := Scf.iv v81 c1_i32_45 k0_t2
  let c256_i32_172 : BitVec 32 := 256#32
  let v378 : BitVec 32 := Scalar.muli arg22 c256_i32_172
  let v379 : BitVec 32 := v378
  let v386 : Index := Scalar.indexCast v379
  let c0_178 : Index := 0#32
  ![2, v386.toNat, 0]
def k0_off17 (k0_t1 : Fin k0_t1_loop.trips) (v79 : BitVec 32) (k0_t2 : Fin (k0_t2_loop k0_t1 v79).trips) : Fin 3 → Nat :=
  let c3_179 : Index := 3#32
  let c0_i32_7 : BitVec 32 := 0#32
  let c1_i32 : BitVec 32 := 1#32
  let arg21 : BitVec 32 := Scf.iv c0_i32_7 c1_i32 k0_t1
  let c0_i32_43 : BitVec 32 := 0#32
  let v80 : BitVec 32 := Scalar.maxsi c0_i32_43 v79
  let v81 : BitVec 32 := Scalar.minsi arg21 v80
  let c1_i32_45 : BitVec 32 := 1#32
  let arg22 : BitVec 32 := Scf.iv v81 c1_i32_45 k0_t2
  let c256_i32_172 : BitVec 32 := 256#32
  let v378 : BitVec 32 := Scalar.muli arg22 c256_i32_172
  let v379 : BitVec 32 := v378
  let v389 : Index := Scalar.indexCast v379
  let c0_180 : Index := 0#32
  ![3, v389.toNat, 0]
@[reducible] def k0_t3_loop (k0_t1 : Fin k0_t1_loop.trips) (v79 : BitVec 32) : Scf.Loop 32 :=
  let c0_i32_7 : BitVec 32 := 0#32
  let c1_i32 : BitVec 32 := 1#32
  let arg21 : BitVec 32 := Scf.iv c0_i32_7 c1_i32 k0_t1
  let c0_i32_43 : BitVec 32 := 0#32
  let v80 : BitVec 32 := Scalar.maxsi c0_i32_43 v79
  let v81 : BitVec 32 := Scalar.minsi arg21 v80
  let v82 : BitVec 32 := Scalar.subi arg21 v81
  let c1_i32_44 : BitVec 32 := 1#32
  let v84 : BitVec 32 := Scalar.divsi v82 c1_i32_44
  let v85 : BitVec 32 := Scalar.muli v84 c1_i32_44
  let v86 : BitVec 32 := Scalar.addi v81 v85
  let v83 : BitVec 32 := Scalar.addi v81 v82
  let c1_i32_46 : BitVec 32 := 1#32
  ⟨v86, v83, c1_i32_46⟩
def k0_mult3 (k0_t1 : Fin k0_t1_loop.trips) (v79 : BitVec 32) (k0_t3 : Fin (k0_t3_loop k0_t1 v79).trips) : BitVec 32 :=
  let c0_i32_7 : BitVec 32 := 0#32
  let c1_i32 : BitVec 32 := 1#32
  let arg21 : BitVec 32 := Scf.iv c0_i32_7 c1_i32 k0_t1
  let c0_i32_43 : BitVec 32 := 0#32
  let v80 : BitVec 32 := Scalar.maxsi c0_i32_43 v79
  let v81 : BitVec 32 := Scalar.minsi arg21 v80
  let v82 : BitVec 32 := Scalar.subi arg21 v81
  let c1_i32_44 : BitVec 32 := 1#32
  let v84 : BitVec 32 := Scalar.divsi v82 c1_i32_44
  let v85 : BitVec 32 := Scalar.muli v84 c1_i32_44
  let v86 : BitVec 32 := Scalar.addi v81 v85
  let c1_i32_46 : BitVec 32 := 1#32
  let arg22 : BitVec 32 := Scf.iv v86 c1_i32_46 k0_t3
  let c256_i32_172 : BitVec 32 := 256#32
  let v378 : BitVec 32 := Scalar.muli arg22 c256_i32_172
  v378
def k0_off18 (k0_t1 : Fin k0_t1_loop.trips) (v79 : BitVec 32) (k0_t3 : Fin (k0_t3_loop k0_t1 v79).trips) : Fin 3 → Nat :=
  let c0_173 : Index := 0#32
  let c0_i32_7 : BitVec 32 := 0#32
  let c1_i32 : BitVec 32 := 1#32
  let arg21 : BitVec 32 := Scf.iv c0_i32_7 c1_i32 k0_t1
  let c0_i32_43 : BitVec 32 := 0#32
  let v80 : BitVec 32 := Scalar.maxsi c0_i32_43 v79
  let v81 : BitVec 32 := Scalar.minsi arg21 v80
  let v82 : BitVec 32 := Scalar.subi arg21 v81
  let c1_i32_44 : BitVec 32 := 1#32
  let v84 : BitVec 32 := Scalar.divsi v82 c1_i32_44
  let v85 : BitVec 32 := Scalar.muli v84 c1_i32_44
  let v86 : BitVec 32 := Scalar.addi v81 v85
  let c1_i32_46 : BitVec 32 := 1#32
  let arg22 : BitVec 32 := Scf.iv v86 c1_i32_46 k0_t3
  let c256_i32_172 : BitVec 32 := 256#32
  let v378 : BitVec 32 := Scalar.muli arg22 c256_i32_172
  let v379 : BitVec 32 := v378
  let v380 : Index := Scalar.indexCast v379
  let c0_174 : Index := 0#32
  ![0, v380.toNat, 0]
def k0_off19 (k0_t1 : Fin k0_t1_loop.trips) (v79 : BitVec 32) (k0_t3 : Fin (k0_t3_loop k0_t1 v79).trips) : Fin 3 → Nat :=
  let c1_175 : Index := 1#32
  let c0_i32_7 : BitVec 32 := 0#32
  let c1_i32 : BitVec 32 := 1#32
  let arg21 : BitVec 32 := Scf.iv c0_i32_7 c1_i32 k0_t1
  let c0_i32_43 : BitVec 32 := 0#32
  let v80 : BitVec 32 := Scalar.maxsi c0_i32_43 v79
  let v81 : BitVec 32 := Scalar.minsi arg21 v80
  let v82 : BitVec 32 := Scalar.subi arg21 v81
  let c1_i32_44 : BitVec 32 := 1#32
  let v84 : BitVec 32 := Scalar.divsi v82 c1_i32_44
  let v85 : BitVec 32 := Scalar.muli v84 c1_i32_44
  let v86 : BitVec 32 := Scalar.addi v81 v85
  let c1_i32_46 : BitVec 32 := 1#32
  let arg22 : BitVec 32 := Scf.iv v86 c1_i32_46 k0_t3
  let c256_i32_172 : BitVec 32 := 256#32
  let v378 : BitVec 32 := Scalar.muli arg22 c256_i32_172
  let v379 : BitVec 32 := v378
  let v383 : Index := Scalar.indexCast v379
  let c0_176 : Index := 0#32
  ![1, v383.toNat, 0]
def k0_off20 (k0_t1 : Fin k0_t1_loop.trips) (v79 : BitVec 32) (k0_t3 : Fin (k0_t3_loop k0_t1 v79).trips) : Fin 3 → Nat :=
  let c2_177 : Index := 2#32
  let c0_i32_7 : BitVec 32 := 0#32
  let c1_i32 : BitVec 32 := 1#32
  let arg21 : BitVec 32 := Scf.iv c0_i32_7 c1_i32 k0_t1
  let c0_i32_43 : BitVec 32 := 0#32
  let v80 : BitVec 32 := Scalar.maxsi c0_i32_43 v79
  let v81 : BitVec 32 := Scalar.minsi arg21 v80
  let v82 : BitVec 32 := Scalar.subi arg21 v81
  let c1_i32_44 : BitVec 32 := 1#32
  let v84 : BitVec 32 := Scalar.divsi v82 c1_i32_44
  let v85 : BitVec 32 := Scalar.muli v84 c1_i32_44
  let v86 : BitVec 32 := Scalar.addi v81 v85
  let c1_i32_46 : BitVec 32 := 1#32
  let arg22 : BitVec 32 := Scf.iv v86 c1_i32_46 k0_t3
  let c256_i32_172 : BitVec 32 := 256#32
  let v378 : BitVec 32 := Scalar.muli arg22 c256_i32_172
  let v379 : BitVec 32 := v378
  let v386 : Index := Scalar.indexCast v379
  let c0_178 : Index := 0#32
  ![2, v386.toNat, 0]
def k0_off21 (k0_t1 : Fin k0_t1_loop.trips) (v79 : BitVec 32) (k0_t3 : Fin (k0_t3_loop k0_t1 v79).trips) : Fin 3 → Nat :=
  let c3_179 : Index := 3#32
  let c0_i32_7 : BitVec 32 := 0#32
  let c1_i32 : BitVec 32 := 1#32
  let arg21 : BitVec 32 := Scf.iv c0_i32_7 c1_i32 k0_t1
  let c0_i32_43 : BitVec 32 := 0#32
  let v80 : BitVec 32 := Scalar.maxsi c0_i32_43 v79
  let v81 : BitVec 32 := Scalar.minsi arg21 v80
  let v82 : BitVec 32 := Scalar.subi arg21 v81
  let c1_i32_44 : BitVec 32 := 1#32
  let v84 : BitVec 32 := Scalar.divsi v82 c1_i32_44
  let v85 : BitVec 32 := Scalar.muli v84 c1_i32_44
  let v86 : BitVec 32 := Scalar.addi v81 v85
  let c1_i32_46 : BitVec 32 := 1#32
  let arg22 : BitVec 32 := Scf.iv v86 c1_i32_46 k0_t3
  let c256_i32_172 : BitVec 32 := 256#32
  let v378 : BitVec 32 := Scalar.muli arg22 c256_i32_172
  let v379 : BitVec 32 := v378
  let v389 : Index := Scalar.indexCast v379
  let c0_180 : Index := 0#32
  ![3, v389.toNat, 0]

def k0_chk1 (k0_t1 : Fin k0_t1_loop.trips) (v79 : BitVec 32) : Prop :=
  ((k0_t2_loop k0_t1 v79).OK) ∧
  (∀ k0_t2 : Fin (k0_t2_loop k0_t1 v79).trips, 256 ∣ (k0_mult2 k0_t1 v79 k0_t2).toNat) ∧
  (∀ k0_t2 : Fin (k0_t2_loop k0_t1 v79).trips, ∀ a, (k0_off14 k0_t1 v79 k0_t2) a + S1x256x64.size a ≤ S4x2048x64.size a) ∧
  (∀ k0_t2 : Fin (k0_t2_loop k0_t1 v79).trips, ∀ a, (k0_off15 k0_t1 v79 k0_t2) a + S1x256x64.size a ≤ S4x2048x64.size a) ∧
  (∀ k0_t2 : Fin (k0_t2_loop k0_t1 v79).trips, ∀ a, (k0_off16 k0_t1 v79 k0_t2) a + S1x256x64.size a ≤ S4x2048x64.size a) ∧
  (∀ k0_t2 : Fin (k0_t2_loop k0_t1 v79).trips, ∀ a, (k0_off17 k0_t1 v79 k0_t2) a + S1x256x64.size a ≤ S4x2048x64.size a) ∧
  ((k0_t3_loop k0_t1 v79).OK) ∧
  (∀ k0_t3 : Fin (k0_t3_loop k0_t1 v79).trips, 256 ∣ (k0_mult3 k0_t1 v79 k0_t3).toNat) ∧
  (∀ k0_t3 : Fin (k0_t3_loop k0_t1 v79).trips, ∀ a, (k0_off18 k0_t1 v79 k0_t3) a + S1x256x64.size a ≤ S4x2048x64.size a) ∧
  (∀ k0_t3 : Fin (k0_t3_loop k0_t1 v79).trips, ∀ a, (k0_off19 k0_t1 v79 k0_t3) a + S1x256x64.size a ≤ S4x2048x64.size a) ∧
  (∀ k0_t3 : Fin (k0_t3_loop k0_t1 v79).trips, ∀ a, (k0_off20 k0_t1 v79 k0_t3) a + S1x256x64.size a ≤ S4x2048x64.size a) ∧
  (∀ k0_t3 : Fin (k0_t3_loop k0_t1 v79).trips, ∀ a, (k0_off21 k0_t1 v79 k0_t3) a + S1x256x64.size a ≤ S4x2048x64.size a)
theorem k0_t2_ok : ∀ (k0_t1 : Fin k0_t1_loop.trips) (v79 : BitVec 32) (k0_hw1 : k0_chk1 k0_t1 v79), (k0_t2_loop k0_t1 v79).OK := fun k0_t1 v79 k0_hw1 => k0_hw1.1
theorem k0_mult2_dvd : ∀ (k0_t1 : Fin k0_t1_loop.trips) (v79 : BitVec 32) (k0_hw1 : k0_chk1 k0_t1 v79) (k0_t2 : Fin (k0_t2_loop k0_t1 v79).trips), 256 ∣ (k0_mult2 k0_t1 v79 k0_t2).toNat := fun k0_t1 v79 k0_hw1 k0_t2 => k0_hw1.2.1 k0_t2
theorem k0_off14_inb : ∀ (k0_t1 : Fin k0_t1_loop.trips) (v79 : BitVec 32) (k0_hw1 : k0_chk1 k0_t1 v79) (k0_t2 : Fin (k0_t2_loop k0_t1 v79).trips), ∀ a, (k0_off14 k0_t1 v79 k0_t2) a + S1x256x64.size a ≤ S4x2048x64.size a := fun k0_t1 v79 k0_hw1 k0_t2 => k0_hw1.2.2.1 k0_t2
theorem k0_off15_inb : ∀ (k0_t1 : Fin k0_t1_loop.trips) (v79 : BitVec 32) (k0_hw1 : k0_chk1 k0_t1 v79) (k0_t2 : Fin (k0_t2_loop k0_t1 v79).trips), ∀ a, (k0_off15 k0_t1 v79 k0_t2) a + S1x256x64.size a ≤ S4x2048x64.size a := fun k0_t1 v79 k0_hw1 k0_t2 => k0_hw1.2.2.2.1 k0_t2
theorem k0_off16_inb : ∀ (k0_t1 : Fin k0_t1_loop.trips) (v79 : BitVec 32) (k0_hw1 : k0_chk1 k0_t1 v79) (k0_t2 : Fin (k0_t2_loop k0_t1 v79).trips), ∀ a, (k0_off16 k0_t1 v79 k0_t2) a + S1x256x64.size a ≤ S4x2048x64.size a := fun k0_t1 v79 k0_hw1 k0_t2 => k0_hw1.2.2.2.2.1 k0_t2
theorem k0_off17_inb : ∀ (k0_t1 : Fin k0_t1_loop.trips) (v79 : BitVec 32) (k0_hw1 : k0_chk1 k0_t1 v79) (k0_t2 : Fin (k0_t2_loop k0_t1 v79).trips), ∀ a, (k0_off17 k0_t1 v79 k0_t2) a + S1x256x64.size a ≤ S4x2048x64.size a := fun k0_t1 v79 k0_hw1 k0_t2 => k0_hw1.2.2.2.2.2.1 k0_t2
theorem k0_t3_ok : ∀ (k0_t1 : Fin k0_t1_loop.trips) (v79 : BitVec 32) (k0_hw1 : k0_chk1 k0_t1 v79), (k0_t3_loop k0_t1 v79).OK := fun k0_t1 v79 k0_hw1 => k0_hw1.2.2.2.2.2.2.1
theorem k0_mult3_dvd : ∀ (k0_t1 : Fin k0_t1_loop.trips) (v79 : BitVec 32) (k0_hw1 : k0_chk1 k0_t1 v79) (k0_t3 : Fin (k0_t3_loop k0_t1 v79).trips), 256 ∣ (k0_mult3 k0_t1 v79 k0_t3).toNat := fun k0_t1 v79 k0_hw1 k0_t3 => k0_hw1.2.2.2.2.2.2.2.1 k0_t3
theorem k0_off18_inb : ∀ (k0_t1 : Fin k0_t1_loop.trips) (v79 : BitVec 32) (k0_hw1 : k0_chk1 k0_t1 v79) (k0_t3 : Fin (k0_t3_loop k0_t1 v79).trips), ∀ a, (k0_off18 k0_t1 v79 k0_t3) a + S1x256x64.size a ≤ S4x2048x64.size a := fun k0_t1 v79 k0_hw1 k0_t3 => k0_hw1.2.2.2.2.2.2.2.2.1 k0_t3
theorem k0_off19_inb : ∀ (k0_t1 : Fin k0_t1_loop.trips) (v79 : BitVec 32) (k0_hw1 : k0_chk1 k0_t1 v79) (k0_t3 : Fin (k0_t3_loop k0_t1 v79).trips), ∀ a, (k0_off19 k0_t1 v79 k0_t3) a + S1x256x64.size a ≤ S4x2048x64.size a := fun k0_t1 v79 k0_hw1 k0_t3 => k0_hw1.2.2.2.2.2.2.2.2.2.1 k0_t3
theorem k0_off20_inb : ∀ (k0_t1 : Fin k0_t1_loop.trips) (v79 : BitVec 32) (k0_hw1 : k0_chk1 k0_t1 v79) (k0_t3 : Fin (k0_t3_loop k0_t1 v79).trips), ∀ a, (k0_off20 k0_t1 v79 k0_t3) a + S1x256x64.size a ≤ S4x2048x64.size a := fun k0_t1 v79 k0_hw1 k0_t3 => k0_hw1.2.2.2.2.2.2.2.2.2.2.1 k0_t3
theorem k0_off21_inb : ∀ (k0_t1 : Fin k0_t1_loop.trips) (v79 : BitVec 32) (k0_hw1 : k0_chk1 k0_t1 v79) (k0_t3 : Fin (k0_t3_loop k0_t1 v79).trips), ∀ a, (k0_off21 k0_t1 v79 k0_t3) a + S1x256x64.size a ≤ S4x2048x64.size a := fun k0_t1 v79 k0_hw1 k0_t3 => k0_hw1.2.2.2.2.2.2.2.2.2.2.2 k0_t3

def k0_mult4 (k0_t1 : Fin k0_t1_loop.trips) : BitVec 32 :=
  let c0_i32_7 : BitVec 32 := 0#32
  let c1_i32 : BitVec 32 := 1#32
  let arg21 : BitVec 32 := Scf.iv c0_i32_7 c1_i32 k0_t1
  let c256_i32_47 : BitVec 32 := 256#32
  let v89 : BitVec 32 := Scalar.muli arg21 c256_i32_47
  v89
def k0_off22 (k0_t1 : Fin k0_t1_loop.trips) : Fin 3 → Nat :=
  let c0_48 : Index := 0#32
  let c0_i32_7 : BitVec 32 := 0#32
  let c1_i32 : BitVec 32 := 1#32
  let arg21 : BitVec 32 := Scf.iv c0_i32_7 c1_i32 k0_t1
  let c256_i32_47 : BitVec 32 := 256#32
  let v89 : BitVec 32 := Scalar.muli arg21 c256_i32_47
  let v90 : BitVec 32 := v89
  let v91 : Index := Scalar.indexCast v90
  let c0_49 : Index := 0#32
  ![0, v91.toNat, 0]
def k0_off23 (k0_t1 : Fin k0_t1_loop.trips) : Fin 3 → Nat :=
  let c1_50 : Index := 1#32
  let c0_i32_7 : BitVec 32 := 0#32
  let c1_i32 : BitVec 32 := 1#32
  let arg21 : BitVec 32 := Scf.iv c0_i32_7 c1_i32 k0_t1
  let c256_i32_47 : BitVec 32 := 256#32
  let v89 : BitVec 32 := Scalar.muli arg21 c256_i32_47
  let v90 : BitVec 32 := v89
  let v94 : Index := Scalar.indexCast v90
  let c0_51 : Index := 0#32
  ![1, v94.toNat, 0]
def k0_off24 (k0_t1 : Fin k0_t1_loop.trips) : Fin 3 → Nat :=
  let c2_52 : Index := 2#32
  let c0_i32_7 : BitVec 32 := 0#32
  let c1_i32 : BitVec 32 := 1#32
  let arg21 : BitVec 32 := Scf.iv c0_i32_7 c1_i32 k0_t1
  let c256_i32_47 : BitVec 32 := 256#32
  let v89 : BitVec 32 := Scalar.muli arg21 c256_i32_47
  let v90 : BitVec 32 := v89
  let v97 : Index := Scalar.indexCast v90
  let c0_53 : Index := 0#32
  ![2, v97.toNat, 0]
def k0_off25 (k0_t1 : Fin k0_t1_loop.trips) : Fin 3 → Nat :=
  let c3_54 : Index := 3#32
  let c0_i32_7 : BitVec 32 := 0#32
  let c1_i32 : BitVec 32 := 1#32
  let arg21 : BitVec 32 := Scf.iv c0_i32_7 c1_i32 k0_t1
  let c256_i32_47 : BitVec 32 := 256#32
  let v89 : BitVec 32 := Scalar.muli arg21 c256_i32_47
  let v90 : BitVec 32 := v89
  let v100 : Index := Scalar.indexCast v90
  let c0_55 : Index := 0#32
  ![3, v100.toNat, 0]
@[reducible] def k0_t4_loop : Scf.Loop 32 :=
  let c0_i32_10 : BitVec 32 := 0#32
  let c8_i32_11 : BitVec 32 := 8#32
  let v13 : BitVec 32 := Scalar.addi c0_i32_10 c8_i32_11
  let c1_i32_12 : BitVec 32 := 1#32
  ⟨c0_i32_10, v13, c1_i32_12⟩
def k0_mult5 (k0_t4 : Fin k0_t4_loop.trips) : BitVec 32 :=
  let c0_i32_10 : BitVec 32 := 0#32
  let c1_i32_12 : BitVec 32 := 1#32
  let arg21 : BitVec 32 := Scf.iv c0_i32_10 c1_i32_12 k0_t4
  let c256_i32 : BitVec 32 := 256#32
  let v33 : BitVec 32 := Scalar.muli arg21 c256_i32
  v33
def k0_off26 (k0_t4 : Fin k0_t4_loop.trips) : Fin 2 → Nat :=
  let c0_i32_10 : BitVec 32 := 0#32
  let c1_i32_12 : BitVec 32 := 1#32
  let arg21 : BitVec 32 := Scf.iv c0_i32_10 c1_i32_12 k0_t4
  let c256_i32 : BitVec 32 := 256#32
  let v33 : BitVec 32 := Scalar.muli arg21 c256_i32
  let v34 : BitVec 32 := v33
  let v35 : Index := Scalar.indexCast v34
  let c0_24 : Index := 0#32
  ![v35.toNat, 0]
def k0_off27 (k0_t4 : Fin k0_t4_loop.trips) : Fin 3 → Nat :=
  let c0_32 : Index := 0#32
  let c0_i32_10 : BitVec 32 := 0#32
  let c1_i32_12 : BitVec 32 := 1#32
  let arg21 : BitVec 32 := Scf.iv c0_i32_10 c1_i32_12 k0_t4
  let c256_i32 : BitVec 32 := 256#32
  let v33 : BitVec 32 := Scalar.muli arg21 c256_i32
  let v34 : BitVec 32 := v33
  let v59 : Index := Scalar.indexCast v34
  let c0_33 : Index := 0#32
  ![0, v59.toNat, 0]
def k0_off28 (k0_t4 : Fin k0_t4_loop.trips) : Fin 2 → Nat :=
  let c0_i32_10 : BitVec 32 := 0#32
  let c1_i32_12 : BitVec 32 := 1#32
  let arg21 : BitVec 32 := Scf.iv c0_i32_10 c1_i32_12 k0_t4
  let c256_i32 : BitVec 32 := 256#32
  let v33 : BitVec 32 := Scalar.muli arg21 c256_i32
  let v34 : BitVec 32 := v33
  let v115 : Index := Scalar.indexCast v34
  let c64 : Index := 64#32
  ![v115.toNat, 64]
def k0_off29 (k0_t4 : Fin k0_t4_loop.trips) : Fin 3 → Nat :=
  let c1 : Index := 1#32
  let c0_i32_10 : BitVec 32 := 0#32
  let c1_i32_12 : BitVec 32 := 1#32
  let arg21 : BitVec 32 := Scf.iv c0_i32_10 c1_i32_12 k0_t4
  let c256_i32 : BitVec 32 := 256#32
  let v33 : BitVec 32 := Scalar.muli arg21 c256_i32
  let v34 : BitVec 32 := v33
  let v139 : Index := Scalar.indexCast v34
  let c0_60 : Index := 0#32
  ![1, v139.toNat, 0]
def k0_off30 (k0_t4 : Fin k0_t4_loop.trips) : Fin 2 → Nat :=
  let c0_i32_10 : BitVec 32 := 0#32
  let c1_i32_12 : BitVec 32 := 1#32
  let arg21 : BitVec 32 := Scf.iv c0_i32_10 c1_i32_12 k0_t4
  let c256_i32 : BitVec 32 := 256#32
  let v33 : BitVec 32 := Scalar.muli arg21 c256_i32
  let v34 : BitVec 32 := v33
  let v195 : Index := Scalar.indexCast v34
  let c128 : Index := 128#32
  ![v195.toNat, 128]
def k0_off31 (k0_t4 : Fin k0_t4_loop.trips) : Fin 3 → Nat :=
  let c2 : Index := 2#32
  let c0_i32_10 : BitVec 32 := 0#32
  let c1_i32_12 : BitVec 32 := 1#32
  let arg21 : BitVec 32 := Scf.iv c0_i32_10 c1_i32_12 k0_t4
  let c256_i32 : BitVec 32 := 256#32
  let v33 : BitVec 32 := Scalar.muli arg21 c256_i32
  let v34 : BitVec 32 := v33
  let v219 : Index := Scalar.indexCast v34
  let c0_87 : Index := 0#32
  ![2, v219.toNat, 0]
def k0_off32 (k0_t4 : Fin k0_t4_loop.trips) : Fin 2 → Nat :=
  let c0_i32_10 : BitVec 32 := 0#32
  let c1_i32_12 : BitVec 32 := 1#32
  let arg21 : BitVec 32 := Scf.iv c0_i32_10 c1_i32_12 k0_t4
  let c256_i32 : BitVec 32 := 256#32
  let v33 : BitVec 32 := Scalar.muli arg21 c256_i32
  let v34 : BitVec 32 := v33
  let v275 : Index := Scalar.indexCast v34
  let c192 : Index := 192#32
  ![v275.toNat, 192]
def k0_off33 (k0_t4 : Fin k0_t4_loop.trips) : Fin 3 → Nat :=
  let c3 : Index := 3#32
  let c0_i32_10 : BitVec 32 := 0#32
  let c1_i32_12 : BitVec 32 := 1#32
  let arg21 : BitVec 32 := Scf.iv c0_i32_10 c1_i32_12 k0_t4
  let c256_i32 : BitVec 32 := 256#32
  let v33 : BitVec 32 := Scalar.muli arg21 c256_i32
  let v34 : BitVec 32 := v33
  let v299 : Index := Scalar.indexCast v34
  let c0_114 : Index := 0#32
  ![3, v299.toNat, 0]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_13 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_14 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .smem S2x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4x2048x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x2048x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x2048x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2048x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2048x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2048x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== AttnBwdRefIdeal.lean ====
abbrev S2048x2560 : Shape := ⟨2, ![2048, 2560]⟩
abbrev S1x64 : Shape := ⟨2, ![1, 64]⟩
abbrev S2048x1024 : Shape := ⟨2, ![2048, 1024]⟩
abbrev S2048x512 : Shape := ⟨2, ![2048, 512]⟩
abbrev S2048x8x64 : Shape := ⟨3, ![2048, 8, 64]⟩
abbrev S_ : Shape := ⟨0, ![]⟩
abbrev S2048x8 : Shape := ⟨2, ![2048, 8]⟩
abbrev S2048x8x1 : Shape := ⟨3, ![2048, 8, 1]⟩
abbrev S1x1x64 : Shape := ⟨3, ![1, 1, 64]⟩
abbrev S8x2048x2048 : Shape := ⟨3, ![8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x64x2048 : Shape := ⟨3, ![8, 64, 2048]⟩
abbrev S8x2048x64 : Shape := ⟨3, ![8, 2048, 64]⟩
abbrev S64 : Shape := ⟨1, ![64]⟩

abbrev nBuf : Space → Nat
  | .hbm => 272
  | .vmem => 0
  | .smem => 0
  | _ => 0

abbrev hbmTy0_0 (i : Nat) : BufTy := match i % 128 with
  | 0 => ⟨S2048x2560, .f32⟩
  | 1 => ⟨S1x64, .f32⟩
  | 2 => ⟨S1x64, .f32⟩
  | 3 => ⟨S2048x1024, .f32⟩
  | 4 => ⟨S2048x512, .f32⟩
  | 5 => ⟨S2048x512, .f32⟩
  | 6 => ⟨S2048x512, .f32⟩
  | 7 => ⟨S2048x8x64, .f32⟩
  | 8 => ⟨S2048x8x64, .f32⟩
  | 9 => ⟨S_, .f32⟩
  | 10 => ⟨S2048x8, .f32⟩
  | 11 => ⟨S2048x8x1, .f32⟩
  | 12 => ⟨S_, .f32⟩
  | 13 => ⟨S2048x8x1, .f32⟩
  | 14 => ⟨S2048x8x1, .f32⟩
  | 15 => ⟨S_, .f32⟩
  | 16 => ⟨S2048x8x1, .f32⟩
  | 17 => ⟨S2048x8x1, .f32⟩
  | 18 => ⟨S2048x8x1, .f32⟩
  | 19 => ⟨S2048x8x1, .f32⟩
  | 20 => ⟨S_, .f32⟩
  | 21 => ⟨S2048x8x1, .f32⟩
  | 22 => ⟨S2048x8x1, .f32⟩
  | 23 => ⟨S2048x8x64, .f32⟩
  | 24 => ⟨S2048x8x64, .f32⟩
  | 25 => ⟨S1x1x64, .f32⟩
  | 26 => ⟨S2048x8x64, .f32⟩
  | 27 => ⟨S2048x8x64, .f32⟩
  | 28 => ⟨S2048x8x64, .f32⟩
  | 29 => ⟨S2048x8x64, .f32⟩
  | 30 => ⟨S_, .f32⟩
  | 31 => ⟨S2048x8, .f32⟩
  | 32 => ⟨S2048x8x1, .f32⟩
  | 33 => ⟨S_, .f32⟩
  | 34 => ⟨S2048x8x1, .f32⟩
  | 35 => ⟨S2048x8x1, .f32⟩
  | 36 => ⟨S_, .f32⟩
  | 37 => ⟨S2048x8x1, .f32⟩
  | 38 => ⟨S2048x8x1, .f32⟩
  | 39 => ⟨S2048x8x1, .f32⟩
  | 40 => ⟨S2048x8x1, .f32⟩
  | 41 => ⟨S_, .f32⟩
  | 42 => ⟨S2048x8x1, .f32⟩
  | 43 => ⟨S2048x8x1, .f32⟩
  | 44 => ⟨S2048x8x64, .f32⟩
  | 45 => ⟨S2048x8x64, .f32⟩
  | 46 => ⟨S1x1x64, .f32⟩
  | 47 => ⟨S2048x8x64, .f32⟩
  | 48 => ⟨S2048x8x64, .f32⟩
  | 49 => ⟨S2048x8x64, .f32⟩
  | 50 => ⟨S8x2048x2048, .f32⟩
  | 51 => ⟨S_, .f32⟩
  | 52 => ⟨S8x2048x2048, .f32⟩
  | 53 => ⟨S8x2048x2048, .f32⟩
  | 54 => ⟨S2048, .i32⟩
  | 55 => ⟨S1x2048, .i32⟩
  | 56 => ⟨S2048, .i32⟩
  | 57 => ⟨S2048x1, .i32⟩
  | 58 => ⟨S2048x2048, .i32⟩
  | 59 => ⟨S2048x2048, .i32⟩
  | 60 => ⟨S2048x2048, .i1⟩
  | 61 => ⟨S8x2048x2048, .f32⟩
  | 62 => ⟨S_, .f32⟩
  | 63 => ⟨S8x2048x2048, .f32⟩
  | 64 => ⟨S8x2048x2048, .f32⟩
  | 65 => ⟨S8x2048x2048, .f32⟩
  | 66 => ⟨S8x2048x2048, .f32⟩
  | 67 => ⟨S8x2048x2048, .i1⟩
  | 68 => ⟨S8x2048x2048, .f32⟩
  | 69 => ⟨S8x2048x2048, .f32⟩
  | 70 => ⟨S8x2048x2048, .f32⟩
  | 71 => ⟨S8x2048x2048, .f32⟩
  | 72 => ⟨S8x2048x2048, .f32⟩
  | 73 => ⟨S8x2048x2048, .f32⟩
  | 74 => ⟨S8x2048x2048, .f32⟩
  | 75 => ⟨S8x2048x2048, .f32⟩
  | 76 => ⟨S_, .f32⟩
  | 77 => ⟨S8x2048x2048, .f32⟩
  | 78 => ⟨S8x2048x2048, .i1⟩
  | 79 => ⟨S_, .f32⟩
  | 80 => ⟨S8x2048x2048, .f32⟩
  | 81 => ⟨S8x2048x2048, .f32⟩
  | 82 => ⟨S_, .f32⟩
  | 83 => ⟨S8x2048x2048, .f32⟩
  | 84 => ⟨S8x2048x2048, .i1⟩
  | 85 => ⟨S_, .f32⟩
  | 86 => ⟨S8x2048x2048, .f32⟩
  | 87 => ⟨S8x2048x2048, .f32⟩
  | 88 => ⟨S8x2048x2048, .f32⟩
  | 89 => ⟨S8x2048x2048, .f32⟩
  | 90 => ⟨S_, .f32⟩
  | 91 => ⟨S_, .f32⟩
  | 92 => ⟨S_, .i1⟩
  | 93 => ⟨S_, .f32⟩
  | 94 => ⟨S_, .f32⟩
  | 95 => ⟨S_, .f32⟩
  | 96 => ⟨S_, .f32⟩
  | 97 => ⟨S8x2048x2048, .f32⟩
  | 98 => ⟨S8x2048x2048, .i1⟩
  | 99 => ⟨S_, .f32⟩
  | 100 => ⟨S8x2048x2048, .f32⟩
  | 101 => ⟨S8x2048x2048, .f32⟩
  | 102 => ⟨S8x2048x2048, .f32⟩
  | 103 => ⟨S8x2048x2048, .f32⟩
  | 104 => ⟨S8x2048x2048, .f32⟩
  | 105 => ⟨S_, .f32⟩
  | 106 => ⟨S8x2048x2048, .f32⟩
  | 107 => ⟨S8x2048x2048, .f32⟩
  | 108 => ⟨S8x2048x2048, .f32⟩
  | 109 => ⟨S8x2048x2048, .f32⟩
  | 110 => ⟨S8x2048x2048, .f32⟩
  | 111 => ⟨S_, .f32⟩
  | 112 => ⟨S8x2048x2048, .f32⟩
  | 113 => ⟨S8x2048x2048, .f32⟩
  | 114 => ⟨S8x2048x2048, .f32⟩
  | 115 => ⟨S8x2048x2048, .f32⟩
  | 116 => ⟨S8x2048x2048, .i1⟩
  | 117 => ⟨S8x2048x2048, .f32⟩
  | 118 => ⟨S8x2048x2048, .f32⟩
  | 119 => ⟨S8x2048x2048, .f32⟩
  | 120 => ⟨S8x2048x2048, .f32⟩
  | 121 => ⟨S8x2048x2048, .f32⟩
  | 122 => ⟨S8x2048x2048, .f32⟩
  | 123 => ⟨S8x2048x2048, .f32⟩
  | 124 => ⟨S8x2048x2048, .f32⟩
  | 125 => ⟨S_, .f32⟩
  | 126 => ⟨S8x2048x2048, .f32⟩
  | 127 => ⟨S8x2048x2048, .i1⟩
  | _ => ⟨S2048x2560, .f32⟩

abbrev hbmTy0_1 (i : Nat) : BufTy := match i % 128 with
  | 0 => ⟨S_, .f32⟩
  | 1 => ⟨S8x2048x2048, .f32⟩
  | 2 => ⟨S8x2048x2048, .f32⟩
  | 3 => ⟨S_, .f32⟩
  | 4 => ⟨S8x2048x2048, .f32⟩
  | 5 => ⟨S8x2048x2048, .i1⟩
  | 6 => ⟨S_, .f32⟩
  | 7 => ⟨S8x2048x2048, .f32⟩
  | 8 => ⟨S8x2048x2048, .f32⟩
  | 9 => ⟨S8x2048x2048, .f32⟩
  | 10 => ⟨S8x2048x2048, .f32⟩
  | 11 => ⟨S_, .f32⟩
  | 12 => ⟨S_, .f32⟩
  | 13 => ⟨S_, .i1⟩
  | 14 => ⟨S_, .f32⟩
  | 15 => ⟨S_, .f32⟩
  | 16 => ⟨S_, .f32⟩
  | 17 => ⟨S_, .f32⟩
  | 18 => ⟨S8x2048x2048, .f32⟩
  | 19 => ⟨S8x2048x2048, .i1⟩
  | 20 => ⟨S_, .f32⟩
  | 21 => ⟨S8x2048x2048, .f32⟩
  | 22 => ⟨S8x2048x2048, .f32⟩
  | 23 => ⟨S8x2048x2048, .f32⟩
  | 24 => ⟨S8x2048x2048, .f32⟩
  | 25 => ⟨S8x2048x2048, .f32⟩
  | 26 => ⟨S_, .f32⟩
  | 27 => ⟨S8x2048x2048, .f32⟩
  | 28 => ⟨S8x2048x2048, .f32⟩
  | 29 => ⟨S8x2048x2048, .f32⟩
  | 30 => ⟨S_, .f32⟩
  | 31 => ⟨S_, .f32⟩
  | 32 => ⟨S8x2048x2048, .i1⟩
  | 33 => ⟨S8x2048x2048, .f32⟩
  | 34 => ⟨S8x2048x2048, .f32⟩
  | 35 => ⟨S_, .f32⟩
  | 36 => ⟨S8x2048x2048, .f32⟩
  | 37 => ⟨S_, .f32⟩
  | 38 => ⟨S_, .f32⟩
  | 39 => ⟨S8x2048x2048, .f32⟩
  | 40 => ⟨S8x2048x2048, .f32⟩
  | 41 => ⟨S8x2048x2048, .f32⟩
  | 42 => ⟨S8x2048x2048, .f32⟩
  | 43 => ⟨S_, .f32⟩
  | 44 => ⟨S_, .f32⟩
  | 45 => ⟨S8x2048x2048, .i1⟩
  | 46 => ⟨S8x2048x2048, .f32⟩
  | 47 => ⟨S8x2048x2048, .f32⟩
  | 48 => ⟨S_, .f32⟩
  | 49 => ⟨S8x2048x2048, .f32⟩
  | 50 => ⟨S8x64x2048, .f32⟩
  | 51 => ⟨S2048x8x64, .f32⟩
  | 52 => ⟨S2048x512, .f32⟩
  | 53 => ⟨S2048x512, .f32⟩
  | 54 => ⟨S2048x8x64, .f32⟩
  | 55 => ⟨S8x64x2048, .f32⟩
  | 56 => ⟨S8x2048x2048, .f32⟩
  | 57 => ⟨S8x64x2048, .f32⟩
  | 58 => ⟨S2048x8x64, .f32⟩
  | 59 => ⟨S_, .f32⟩
  | 60 => ⟨S8x2048x2048, .f32⟩
  | 61 => ⟨S8x2048x2048, .f32⟩
  | 62 => ⟨S8x2048x2048, .f32⟩
  | 63 => ⟨S8x2048x2048, .f32⟩
  | 64 => ⟨S_, .f32⟩
  | 65 => ⟨S_, .f32⟩
  | 66 => ⟨S8x2048x2048, .f32⟩
  | 67 => ⟨S8x2048x2048, .f32⟩
  | 68 => ⟨S_, .f32⟩
  | 69 => ⟨S8x2048x2048, .f32⟩
  | 70 => ⟨S8x2048x2048, .f32⟩
  | 71 => ⟨S8x2048x2048, .f32⟩
  | 72 => ⟨S8x2048x2048, .f32⟩
  | 73 => ⟨S8x2048x2048, .f32⟩
  | 74 => ⟨S8x2048x2048, .f32⟩
  | 75 => ⟨S8x2048x2048, .f32⟩
  | 76 => ⟨S8x2048x2048, .f32⟩
  | 77 => ⟨S8x2048x2048, .f32⟩
  | 78 => ⟨S8x2048x2048, .f32⟩
  | 79 => ⟨S_, .f32⟩
  | 80 => ⟨S8x2048x2048, .f32⟩
  | 81 => ⟨S8x2048x2048, .f32⟩
  | 82 => ⟨S8x2048x64, .f32⟩
  | 83 => ⟨S2048x8x64, .f32⟩
  | 84 => ⟨S8x2048x64, .f32⟩
  | 85 => ⟨S2048x8x64, .f32⟩
  | 86 => ⟨S2048x512, .f32⟩
  | 87 => ⟨S2048x8x64, .f32⟩
  | 88 => ⟨S_, .f32⟩
  | 89 => ⟨S64, .f32⟩
  | 90 => ⟨S1x1x64, .f32⟩
  | 91 => ⟨S2048x8x64, .f32⟩
  | 92 => ⟨S2048x8x64, .f32⟩
  | 93 => ⟨S_, .f32⟩
  | 94 => ⟨S64, .f32⟩
  | 95 => ⟨S1x64, .f32⟩
  | 96 => ⟨S2048x8x64, .f32⟩
  | 97 => ⟨S_, .f32⟩
  | 98 => ⟨S2048x8, .f32⟩
  | 99 => ⟨S2048x8x1, .f32⟩
  | 100 => ⟨S2048x8x64, .f32⟩
  | 101 => ⟨S2048x8x64, .f32⟩
  | 102 => ⟨S2048x8x1, .f32⟩
  | 103 => ⟨S_, .f32⟩
  | 104 => ⟨S2048x8x1, .f32⟩
  | 105 => ⟨S2048x8x1, .f32⟩
  | 106 => ⟨S_, .f32⟩
  | 107 => ⟨S2048x8, .f32⟩
  | 108 => ⟨S2048x8x64, .f32⟩
  | 109 => ⟨S2048x8x64, .f32⟩
  | 110 => ⟨S2048x8x64, .f32⟩
  | 111 => ⟨S2048x8x64, .f32⟩
  | 112 => ⟨S2048x8x64, .f32⟩
  | 113 => ⟨S2048x512, .f32⟩
  | 114 => ⟨S2048x8x64, .f32⟩
  | 115 => ⟨S_, .f32⟩
  | 116 => ⟨S64, .f32⟩
  | 117 => ⟨S1x1x64, .f32⟩
  | 118 => ⟨S2048x8x64, .f32⟩
  | 119 => ⟨S2048x8x64, .f32⟩
  | 120 => ⟨S_, .f32⟩
  | 121 => ⟨S64, .f32⟩
  | 122 => ⟨S1x64, .f32⟩
  | 123 => ⟨S2048x8x64, .f32⟩
  | 124 => ⟨S_, .f32⟩
  | 125 => ⟨S2048x8, .f32⟩
  | 126 => ⟨S2048x8x1, .f32⟩
  | 127 => ⟨S2048x8x64, .f32⟩
  | _ => ⟨S2048x2560, .f32⟩

abbrev hbmTy0_2 (i : Nat) : BufTy := match i % 128 with
  | 0 => ⟨S2048x8x64, .f32⟩
  | 1 => ⟨S2048x8x1, .f32⟩
  | 2 => ⟨S_, .f32⟩
  | 3 => ⟨S2048x8x1, .f32⟩
  | 4 => ⟨S2048x8x1, .f32⟩
  | 5 => ⟨S_, .f32⟩
  | 6 => ⟨S2048x8, .f32⟩
  | 7 => ⟨S2048x8x64, .f32⟩
  | 8 => ⟨S2048x8x64, .f32⟩
  | 9 => ⟨S2048x8x64, .f32⟩
  | 10 => ⟨S2048x8x64, .f32⟩
  | 11 => ⟨S2048x8x64, .f32⟩
  | 12 => ⟨S2048x512, .f32⟩
  | 13 => ⟨S2048x512, .bf16⟩
  | 14 => ⟨S2048x512, .bf16⟩
  | 15 => ⟨S2048x512, .bf16⟩
  | _ => ⟨S2048x2560, .f32⟩

abbrev hbmTy (i : Nat) : BufTy := match i / 128 with
  | 0 => hbmTy0_0 i
  | 1 => hbmTy0_1 i
  | 2 => hbmTy0_2 i
  | _ => ⟨S2048x2560, .f32⟩

abbrev bufTy : (tb : Table) → Fin (tcTables nBuf tb) → BufTy
  | .hbm, ⟨i, _⟩ => hbmTy i
  | _, _ => ⟨S2048x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_7 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_call0_v0 : Ref sig .tc := ⟨.hbm, 61, rfl⟩
abbrev main_call0_call0_cst : Ref sig .tc := ⟨.hbm, 62, rfl⟩
abbrev main_call0_call0_v0 : Ref sig .tc := ⟨.hbm, 63, rfl⟩
abbrev main_call0_call0_v1 : Ref sig .tc := ⟨.hbm, 64, rfl⟩
abbrev main_call0_call0_v2 : Ref sig .tc := ⟨.hbm, 65, rfl⟩
abbrev main_call0_call0_v3 : Ref sig .tc := ⟨.hbm, 66, rfl⟩
abbrev main_call0_call0_v4 : Ref sig .tc := ⟨.hbm, 67, rfl⟩
abbrev main_call0_call0_v5 : Ref sig .tc := ⟨.hbm, 68, rfl⟩
abbrev main_call0_call0_v6 : Ref sig .tc := ⟨.hbm, 69, rfl⟩
abbrev main_call0_call0_v7 : Ref sig .tc := ⟨.hbm, 70, rfl⟩
abbrev main_call0_call0_v8 : Ref sig .tc := ⟨.hbm, 71, rfl⟩
abbrev main_call0_call0_v9 : Ref sig .tc := ⟨.hbm, 72, rfl⟩
abbrev main_call0_call0_v10 : Ref sig .tc := ⟨.hbm, 73, rfl⟩
abbrev main_call0_call0_v11 : Ref sig .tc := ⟨.hbm, 74, rfl⟩
abbrev main_call0_v1_0 : Ref sig .tc := ⟨.hbm, 75, rfl⟩
abbrev main_call0_call0_cst_0 : Ref sig .tc := ⟨.hbm, 76, rfl⟩
abbrev main_call0_call0_v13 : Ref sig .tc := ⟨.hbm, 77, rfl⟩
abbrev main_call0_call0_v14 : Ref sig .tc := ⟨.hbm, 78, rfl⟩
abbrev main_call0_call0_cst_1 : Ref sig .tc := ⟨.hbm, 79, rfl⟩
abbrev main_call0_call0_v15 : Ref sig .tc := ⟨.hbm, 80, rfl⟩
abbrev main_call0_call0_v16 : Ref sig .tc := ⟨.hbm, 81, rfl⟩
abbrev main_call0_call0_cst_2 : Ref sig .tc := ⟨.hbm, 82, rfl⟩
abbrev main_call0_call0_v17 : Ref sig .tc := ⟨.hbm, 83, rfl⟩
abbrev main_call0_call0_v18 : Ref sig .tc := ⟨.hbm, 84, rfl⟩
abbrev main_call0_call0_cst_3 : Ref sig .tc := ⟨.hbm, 85, rfl⟩
abbrev main_call0_call0_v19 : Ref sig .tc := ⟨.hbm, 86, rfl⟩
abbrev main_call0_call0_v20 : Ref sig .tc := ⟨.hbm, 87, rfl⟩
abbrev main_call0_call0_v21 : Ref sig .tc := ⟨.hbm, 88, rfl⟩
abbrev main_v48_1 : Ref sig .tc := ⟨.hbm, 89, rfl⟩
abbrev main_call0_call0_cst_4 : Ref sig .tc := ⟨.hbm, 90, rfl⟩
abbrev main_call0_call0_cst_5 : Ref sig .tc := ⟨.hbm, 91, rfl⟩
abbrev main_call0_call0_v23 : Ref sig .tc := ⟨.hbm, 92, rfl⟩
abbrev main_call0_call0_cst_6 : Ref sig .tc := ⟨.hbm, 93, rfl⟩
abbrev main_call0_call0_cst_7 : Ref sig .tc := ⟨.hbm, 94, rfl⟩
abbrev main_call0_call0_v24 : Ref sig .tc := ⟨.hbm, 95, rfl⟩
abbrev main_call0_call0_cst_8 : Ref sig .tc := ⟨.hbm, 96, rfl⟩
abbrev main_call0_call0_v25 : Ref sig .tc := ⟨.hbm, 97, rfl⟩
abbrev main_call0_call0_v26 : Ref sig .tc := ⟨.hbm, 98, rfl⟩
abbrev main_call0_call0_cst_9 : Ref sig .tc := ⟨.hbm, 99, rfl⟩
abbrev main_call0_call0_v27 : Ref sig .tc := ⟨.hbm, 100, rfl⟩
abbrev main_call0_call0_v28 : Ref sig .tc := ⟨.hbm, 101, rfl⟩
abbrev main_call0_call0_v29 : Ref sig .tc := ⟨.hbm, 102, rfl⟩
abbrev main_call0_call0_v30 : Ref sig .tc := ⟨.hbm, 103, rfl⟩
abbrev main_call0_call0_v31 : Ref sig .tc := ⟨.hbm, 104, rfl⟩
abbrev main_call0_call0_cst_10 : Ref sig .tc := ⟨.hbm, 105, rfl⟩
abbrev main_call0_call0_v32 : Ref sig .tc := ⟨.hbm, 106, rfl⟩
abbrev main_v48_2 : Ref sig .tc := ⟨.hbm, 107, rfl⟩
abbrev main_v48_0 : Ref sig .tc := ⟨.hbm, 108, rfl⟩
abbrev main_v49 : Ref sig .tc := ⟨.hbm, 109, rfl⟩
abbrev main_call1_v0 : Ref sig .tc := ⟨.hbm, 110, rfl⟩
abbrev main_call1_call0_cst : Ref sig .tc := ⟨.hbm, 111, rfl⟩
abbrev main_call1_call0_v0 : Ref sig .tc := ⟨.hbm, 112, rfl⟩
abbrev main_call1_call0_v1 : Ref sig .tc := ⟨.hbm, 113, rfl⟩
abbrev main_call1_call0_v2 : Ref sig .tc := ⟨.hbm, 114, rfl⟩
abbrev main_call1_call0_v3 : Ref sig .tc := ⟨.hbm, 115, rfl⟩
abbrev main_call1_call0_v4 : Ref sig .tc := ⟨.hbm, 116, rfl⟩
abbrev main_call1_call0_v5 : Ref sig .tc := ⟨.hbm, 117, rfl⟩
abbrev main_call1_call0_v6 : Ref sig .tc := ⟨.hbm, 118, rfl⟩
abbrev main_call1_call0_v7 : Ref sig .tc := ⟨.hbm, 119, rfl⟩
abbrev main_call1_call0_v8 : Ref sig .tc := ⟨.hbm, 120, rfl⟩
abbrev main_call1_call0_v9 : Ref sig .tc := ⟨.hbm, 121, rfl⟩
abbrev main_call1_call0_v10 : Ref sig .tc := ⟨.hbm, 122, rfl⟩
abbrev main_call1_call0_v11 : Ref sig .tc := ⟨.hbm, 123, rfl⟩
abbrev main_call1_v1_0 : Ref sig .tc := ⟨.hbm, 124, rfl⟩
abbrev main_call1_call0_cst_0 : Ref sig .tc := ⟨.hbm, 125, rfl⟩
abbrev main_call1_call0_v13 : Ref sig .tc := ⟨.hbm, 126, rfl⟩
abbrev main_call1_call0_v14 : Ref sig .tc := ⟨.hbm, 127, rfl⟩
abbrev main_call1_call0_cst_1 : Ref sig .tc := ⟨.hbm, 128, rfl⟩
abbrev main_call1_call0_v15 : Ref sig .tc := ⟨.hbm, 129, rfl⟩
abbrev main_call1_call0_v16 : Ref sig .tc := ⟨.hbm, 130, rfl⟩
abbrev main_call1_call0_cst_2 : Ref sig .tc := ⟨.hbm, 131, rfl⟩
abbrev main_call1_call0_v17 : Ref sig .tc := ⟨.hbm, 132, rfl⟩
abbrev main_call1_call0_v18 : Ref sig .tc := ⟨.hbm, 133, rfl⟩
abbrev main_call1_call0_cst_3 : Ref sig .tc := ⟨.hbm, 134, rfl⟩
abbrev main_call1_call0_v19 : Ref sig .tc := ⟨.hbm, 135, rfl⟩
abbrev main_call1_call0_v20 : Ref sig .tc := ⟨.hbm, 136, rfl⟩
abbrev main_call1_call0_v21 : Ref sig .tc := ⟨.hbm, 137, rfl⟩
abbrev main_v50_1 : Ref sig .tc := ⟨.hbm, 138, rfl⟩
abbrev main_call1_call0_cst_4 : Ref sig .tc := ⟨.hbm, 139, rfl⟩
abbrev main_call1_call0_cst_5 : Ref sig .tc := ⟨.hbm, 140, rfl⟩
abbrev main_call1_call0_v23 : Ref sig .tc := ⟨.hbm, 141, rfl⟩
abbrev main_call1_call0_cst_6 : Ref sig .tc := ⟨.hbm, 142, rfl⟩
abbrev main_call1_call0_cst_7 : Ref sig .tc := ⟨.hbm, 143, rfl⟩
abbrev main_call1_call0_v24 : Ref sig .tc := ⟨.hbm, 144, rfl⟩
abbrev main_call1_call0_cst_8 : Ref sig .tc := ⟨.hbm, 145, rfl⟩
abbrev main_call1_call0_v25 : Ref sig .tc := ⟨.hbm, 146, rfl⟩
abbrev main_call1_call0_v26 : Ref sig .tc := ⟨.hbm, 147, rfl⟩
abbrev main_call1_call0_cst_9 : Ref sig .tc := ⟨.hbm, 148, rfl⟩
abbrev main_call1_call0_v27 : Ref sig .tc := ⟨.hbm, 149, rfl⟩
abbrev main_call1_call0_v28 : Ref sig .tc := ⟨.hbm, 150, rfl⟩
abbrev main_call1_call0_v29 : Ref sig .tc := ⟨.hbm, 151, rfl⟩
abbrev main_call1_call0_v30 : Ref sig .tc := ⟨.hbm, 152, rfl⟩
abbrev main_call1_call0_v31 : Ref sig .tc := ⟨.hbm, 153, rfl⟩
abbrev main_call1_call0_cst_10 : Ref sig .tc := ⟨.hbm, 154, rfl⟩
abbrev main_call1_call0_v32 : Ref sig .tc := ⟨.hbm, 155, rfl⟩
abbrev main_v50_2 : Ref sig .tc := ⟨.hbm, 156, rfl⟩
abbrev main_v50_0 : Ref sig .tc := ⟨.hbm, 157, rfl⟩
abbrev main_cst_8 : Ref sig .tc := ⟨.hbm, 158, rfl⟩
abbrev main_call2_v0 : Ref sig .tc := ⟨.hbm, 159, rfl⟩
abbrev main_v51_1 : Ref sig .tc := ⟨.hbm, 160, rfl⟩
abbrev main_call2_v2 : Ref sig .tc := ⟨.hbm, 161, rfl⟩
abbrev main_v51_0 : Ref sig .tc := ⟨.hbm, 162, rfl⟩
abbrev main_call2_cst : Ref sig .tc := ⟨.hbm, 163, rfl⟩
abbrev main_v51_2 : Ref sig .tc := ⟨.hbm, 164, rfl⟩
abbrev main_call3_cst : Ref sig .tc := ⟨.hbm, 165, rfl⟩
abbrev main_call3_v0 : Ref sig .tc := ⟨.hbm, 166, rfl⟩
abbrev main_v52 : Ref sig .tc := ⟨.hbm, 167, rfl⟩
abbrev main_v53 : Ref sig .tc := ⟨.hbm, 168, rfl⟩
abbrev main_v54 : Ref sig .tc := ⟨.hbm, 169, rfl⟩
abbrev main_v55 : Ref sig .tc := ⟨.hbm, 170, rfl⟩
abbrev main_cst_9 : Ref sig .tc := ⟨.hbm, 171, rfl⟩
abbrev main_call4_v0 : Ref sig .tc := ⟨.hbm, 172, rfl⟩
abbrev main_v56_1 : Ref sig .tc := ⟨.hbm, 173, rfl⟩
abbrev main_call4_v2 : Ref sig .tc := ⟨.hbm, 174, rfl⟩
abbrev main_v56_0 : Ref sig .tc := ⟨.hbm, 175, rfl⟩
abbrev main_call4_cst : Ref sig .tc := ⟨.hbm, 176, rfl⟩
abbrev main_v56_2 : Ref sig .tc := ⟨.hbm, 177, rfl⟩
abbrev main_v57 : Ref sig .tc := ⟨.hbm, 178, rfl⟩
abbrev main_v58 : Ref sig .tc := ⟨.hbm, 179, rfl⟩
abbrev main_v59 : Ref sig .tc := ⟨.hbm, 180, rfl⟩
abbrev main_v60 : Ref sig .tc := ⟨.hbm, 181, rfl⟩
abbrev main_v61 : Ref sig .tc := ⟨.hbm, 182, rfl⟩
abbrev main_v62 : Ref sig .tc := ⟨.hbm, 183, rfl⟩
abbrev main_v63 : Ref sig .tc := ⟨.hbm, 184, rfl⟩
abbrev main_v64 : Ref sig .tc := ⟨.hbm, 185, rfl⟩
abbrev main_v65 : Ref sig .tc := ⟨.hbm, 186, rfl⟩
abbrev main_call5_cst : Ref sig .tc := ⟨.hbm, 187, rfl⟩
abbrev main_call5_v0 : Ref sig .tc := ⟨.hbm, 188, rfl⟩
abbrev main_v66 : Ref sig .tc := ⟨.hbm, 189, rfl⟩
abbrev main_v67 : Ref sig .tc := ⟨.hbm, 190, rfl⟩
abbrev main_v68 : Ref sig .tc := ⟨.hbm, 191, rfl⟩
abbrev main_call6_cst : Ref sig .tc := ⟨.hbm, 192, rfl⟩
abbrev main_call6_v0 : Ref sig .tc := ⟨.hbm, 193, rfl⟩
abbrev main_v69 : Ref sig .tc := ⟨.hbm, 194, rfl⟩
abbrev main_v70 : Ref sig .tc := ⟨.hbm, 195, rfl⟩
abbrev main_call7_cst : Ref sig .tc := ⟨.hbm, 196, rfl⟩
abbrev main_call7_v0 : Ref sig .tc := ⟨.hbm, 197, rfl⟩
abbrev main_v71 : Ref sig .tc := ⟨.hbm, 198, rfl⟩
abbrev main_call8_v0 : Ref sig .tc := ⟨.hbm, 199, rfl⟩
abbrev main_call8_v1 : Ref sig .tc := ⟨.hbm, 200, rfl⟩
abbrev main_v72 : Ref sig .tc := ⟨.hbm, 201, rfl⟩
abbrev main_v73 : Ref sig .tc := ⟨.hbm, 202, rfl⟩
abbrev main_call9_v0 : Ref sig .tc := ⟨.hbm, 203, rfl⟩
abbrev main_call9_v1 : Ref sig .tc := ⟨.hbm, 204, rfl⟩
abbrev main_v74 : Ref sig .tc := ⟨.hbm, 205, rfl⟩
abbrev main_v75 : Ref sig .tc := ⟨.hbm, 206, rfl⟩
abbrev main_cst_10 : Ref sig .tc := ⟨.hbm, 207, rfl⟩
abbrev main_v76 : Ref sig .tc := ⟨.hbm, 208, rfl⟩
abbrev main_v77 : Ref sig .tc := ⟨.hbm, 209, rfl⟩
abbrev main_v78 : Ref sig .tc := ⟨.hbm, 210, rfl⟩
abbrev main_v79 : Ref sig .tc := ⟨.hbm, 211, rfl⟩
abbrev main_v80 : Ref sig .tc := ⟨.hbm, 212, rfl⟩
abbrev main_v81 : Ref sig .tc := ⟨.hbm, 213, rfl⟩
abbrev main_v82 : Ref sig .tc := ⟨.hbm, 214, rfl⟩
abbrev main_v83 : Ref sig .tc := ⟨.hbm, 215, rfl⟩
abbrev main_cst_11 : Ref sig .tc := ⟨.hbm, 216, rfl⟩
abbrev main_v84 : Ref sig .tc := ⟨.hbm, 217, rfl⟩
abbrev main_v85 : Ref sig .tc := ⟨.hbm, 218, rfl⟩
abbrev main_v86 : Ref sig .tc := ⟨.hbm, 219, rfl⟩
abbrev main_v87 : Ref sig .tc := ⟨.hbm, 220, rfl⟩
abbrev main_cst_12 : Ref sig .tc := ⟨.hbm, 221, rfl⟩
abbrev main_v88 : Ref sig .tc := ⟨.hbm, 222, rfl⟩
abbrev main_v89 : Ref sig .tc := ⟨.hbm, 223, rfl⟩
abbrev main_v90 : Ref sig .tc := ⟨.hbm, 224, rfl⟩
abbrev main_cst_13 : Ref sig .tc := ⟨.hbm, 225, rfl⟩
abbrev main_v91 : Ref sig .tc := ⟨.hbm, 226, rfl⟩
abbrev main_v92 : Ref sig .tc := ⟨.hbm, 227, rfl⟩
abbrev main_v93 : Ref sig .tc := ⟨.hbm, 228, rfl⟩
abbrev main_v94 : Ref sig .tc := ⟨.hbm, 229, rfl⟩
abbrev main_v95 : Ref sig .tc := ⟨.hbm, 230, rfl⟩
abbrev main_cst_14 : Ref sig .tc := ⟨.hbm, 231, rfl⟩
abbrev main_v96 : Ref sig .tc := ⟨.hbm, 232, rfl⟩
abbrev main_v97 : Ref sig .tc := ⟨.hbm, 233, rfl⟩
abbrev main_cst_15 : Ref sig .tc := ⟨.hbm, 234, rfl⟩
abbrev main_v98 : Ref sig .tc := ⟨.hbm, 235, rfl⟩
abbrev main_v99 : Ref sig .tc := ⟨.hbm, 236, rfl⟩
abbrev main_v100 : Ref sig .tc := ⟨.hbm, 237, rfl⟩
abbrev main_v101 : Ref sig .tc := ⟨.hbm, 238, rfl⟩
abbrev main_v102 : Ref sig .tc := ⟨.hbm, 239, rfl⟩
abbrev main_v103 : Ref sig .tc := ⟨.hbm, 240, rfl⟩
abbrev main_v104 : Ref sig .tc := ⟨.hbm, 241, rfl⟩
abbrev main_v105 : Ref sig .tc := ⟨.hbm, 242, rfl⟩
abbrev main_cst_16 : Ref sig .tc := ⟨.hbm, 243, rfl⟩
abbrev main_v106 : Ref sig .tc := ⟨.hbm, 244, rfl⟩
abbrev main_v107 : Ref sig .tc := ⟨.hbm, 245, rfl⟩
abbrev main_v108 : Ref sig .tc := ⟨.hbm, 246, rfl⟩
abbrev main_v109 : Ref sig .tc := ⟨.hbm, 247, rfl⟩
abbrev main_cst_17 : Ref sig .tc := ⟨.hbm, 248, rfl⟩
abbrev main_v110 : Ref sig .tc := ⟨.hbm, 249, rfl⟩
abbrev main_v111 : Ref sig .tc := ⟨.hbm, 250, rfl⟩
abbrev main_v112 : Ref sig .tc := ⟨.hbm, 251, rfl⟩
abbrev main_cst_18 : Ref sig .tc := ⟨.hbm, 252, rfl⟩
abbrev main_v113 : Ref sig .tc := ⟨.hbm, 253, rfl⟩
abbrev main_v114 : Ref sig .tc := ⟨.hbm, 254, rfl⟩
abbrev main_v115 : Ref sig .tc := ⟨.hbm, 255, rfl⟩
abbrev main_v116 : Ref sig .tc := ⟨.hbm, 256, rfl⟩
abbrev main_v117 : Ref sig .tc := ⟨.hbm, 257, rfl⟩
abbrev main_cst_19 : Ref sig .tc := ⟨.hbm, 258, rfl⟩
abbrev main_v118 : Ref sig .tc := ⟨.hbm, 259, rfl⟩
abbrev main_v119 : Ref sig .tc := ⟨.hbm, 260, rfl⟩
abbrev main_cst_20 : Ref sig .tc := ⟨.hbm, 261, rfl⟩
abbrev main_v120 : Ref sig .tc := ⟨.hbm, 262, rfl⟩
abbrev main_v121 : Ref sig .tc := ⟨.hbm, 263, rfl⟩
abbrev main_v122 : Ref sig .tc := ⟨.hbm, 264, rfl⟩
abbrev main_v123 : Ref sig .tc := ⟨.hbm, 265, rfl⟩
abbrev main_v124 : Ref sig .tc := ⟨.hbm, 266, rfl⟩
abbrev main_v125 : Ref sig .tc := ⟨.hbm, 267, rfl⟩
abbrev main_v126 : Ref sig .tc := ⟨.hbm, 268, rfl⟩
abbrev main_v127 : Ref sig .tc := ⟨.hbm, 269, rfl⟩
abbrev main_v128 : Ref sig .tc := ⟨.hbm, 270, rfl⟩
abbrev main_v129 : Ref sig .tc := ⟨.hbm, 271, rfl⟩

abbrev nD : Nat := 1
abbrev τ : Topo := Topo.v7x

variable {F : FTy → Type} [FloatOps F]
-- ==== LnSilu.lean ====
abbrev S2048x512 : Shape := ⟨2, ![2048, 512]⟩
abbrev S1x512 : Shape := ⟨2, ![1, 512]⟩
abbrev S2048x1024 : Shape := ⟨2, ![2048, 1024]⟩
abbrev S512x512 : Shape := ⟨2, ![512, 512]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S2048x512, .f32⟩
  | .hbm, ⟨1, _⟩ => ⟨S1x512, .f32⟩
  | .hbm, ⟨2, _⟩ => ⟨S1x512, .f32⟩
  | .hbm, ⟨3, _⟩ => ⟨S2048x1024, .f32⟩
  | .hbm, ⟨4, _⟩ => ⟨S2048x512, .f32⟩
  | .hbm, ⟨5, _⟩ => ⟨S1x512, .f32⟩
  | .hbm, ⟨6, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S1x512, .f32⟩
  | .local _ .vmem, ⟨3, _⟩ => ⟨S1x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S1x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LnSiluRefIdeal.lean ====
abbrev S2048x512 : Shape := ⟨2, ![2048, 512]⟩
abbrev S1x512 : Shape := ⟨2, ![1, 512]⟩
abbrev S2048x1024 : Shape := ⟨2, ![2048, 1024]⟩
abbrev S_ : Shape := ⟨0, ![]⟩
abbrev S2048 : Shape := ⟨1, ![2048]⟩
abbrev S2048x1 : Shape := ⟨2, ![2048, 1]⟩
abbrev S512 : Shape := ⟨1, ![512]⟩

abbrev nBuf : Space → Nat
  | .hbm => 88
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S1x512, .f32⟩
  | .hbm, ⟨2, _⟩ => ⟨S1x512, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S2048x512, .f32⟩
  | .hbm, ⟨11, _⟩ => ⟨S2048x512, .f32⟩
  | .hbm, ⟨12, _⟩ => ⟨S2048x512, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x512, .f32⟩
  | .hbm, ⟨28, _⟩ => ⟨S2048x512, .f32⟩
  | .hbm, ⟨29, _⟩ => ⟨S2048x512, .f32⟩
  | .hbm, ⟨30, _⟩ => ⟨S2048x512, .f32⟩
  | .hbm, ⟨31, _⟩ => ⟨S2048x512, .f32⟩
  | .hbm, ⟨32, _⟩ => ⟨S2048x512, .f32⟩
  | .hbm, ⟨33, _⟩ => ⟨S2048x512, .f32⟩
  | .hbm, ⟨34, _⟩ => ⟨S2048x512, .f32⟩
  | .hbm, ⟨35, _⟩ => ⟨S_, .f32⟩
  | .hbm, ⟨36, _⟩ => ⟨S2048x512, .f32⟩
  | .hbm, ⟨37, _⟩ => ⟨S2048x512, .f32⟩
  | .hbm, ⟨38, _⟩ => ⟨S_, .f32⟩
  | .hbm, ⟨39, _⟩ => ⟨S2048x512, .f32⟩
  | .hbm, ⟨40, _⟩ => ⟨S2048x512, .f32⟩
  | .hbm, ⟨41, _⟩ => ⟨S_, .f32⟩
  | .hbm, ⟨42, _⟩ => ⟨S2048x512, .f32⟩
  | .hbm, ⟨43, _⟩ => ⟨S2048x512, .f32⟩
  | .hbm, ⟨44, _⟩ => ⟨S2048x512, .f32⟩
  | .hbm, ⟨45, _⟩ => ⟨S2048x512, .f32⟩
  | .hbm, ⟨46, _⟩ => ⟨S2048x512, .f32⟩
  | .hbm, ⟨47, _⟩ => ⟨S2048x512, .f32⟩
  | .hbm, ⟨48, _⟩ => ⟨S2048x512, .f32⟩
  | .hbm, ⟨49, _⟩ => ⟨S2048x512, .f32⟩
  | .hbm, ⟨50, _⟩ => ⟨S2048x512, .f32⟩
  | .hbm, ⟨51, _⟩ => ⟨S_, .f32⟩
  | .hbm, ⟨52, _⟩ => ⟨S512, .f32⟩
  | .hbm, ⟨53, _⟩ => ⟨S1x512, .f32⟩
  | .hbm, ⟨54, _⟩ => ⟨S2048x512, .f32⟩
  | .hbm, ⟨55, _⟩ => ⟨S_, .f32⟩
  | .hbm, ⟨56, _⟩ => ⟨S512, .f32⟩
  | .hbm, ⟨57, _⟩ => ⟨S1x512, .f32⟩
  | .hbm, ⟨58, _⟩ => ⟨S2048x512, .f32⟩
  | .hbm, ⟨59, _⟩ => ⟨S2048x512, .f32⟩
  | .hbm, ⟨60, _⟩ => ⟨S2048x512, .f32⟩
  | .hbm, ⟨61, _⟩ => ⟨S_, .f32⟩
  | .hbm, ⟨62, _⟩ => ⟨S2048, .f32⟩
  | .hbm, ⟨63, _⟩ => ⟨S2048x1, .f32⟩
  | .hbm, ⟨64, _⟩ => ⟨S2048x512, .f32⟩
  | .hbm, ⟨65, _⟩ => ⟨S2048x512, .f32⟩
  | .hbm, ⟨66, _⟩ => ⟨S2048x1, .f32⟩
  | .hbm, ⟨67, _⟩ => ⟨S_, .f32⟩
  | .hbm, ⟨68, _⟩ => ⟨S2048x1, .f32⟩
  | .hbm, ⟨69, _⟩ => ⟨S2048x1, .f32⟩
  | .hbm, ⟨70, _⟩ => ⟨S_, .f32⟩
  | .hbm, ⟨71, _⟩ => ⟨S2048, .f32⟩
  | .hbm, ⟨72, _⟩ => ⟨S2048x512, .f32⟩
  | .hbm, ⟨73, _⟩ => ⟨S2048x512, .f32⟩
  | .hbm, ⟨74, _⟩ => ⟨S2048x512, .f32⟩
  | .hbm, ⟨75, _⟩ => ⟨S2048x512, .f32⟩
  | .hbm, ⟨76, _⟩ => ⟨S2048x512, .f32⟩
  | .hbm, ⟨77, _⟩ => ⟨S2048x512, .f32⟩
  | .hbm, ⟨78, _⟩ => ⟨S_, .f32⟩
  | .hbm, ⟨79, _⟩ => ⟨S2048, .f32⟩
  | .hbm, ⟨80, _⟩ => ⟨S2048x1, .f32⟩
  | .hbm, ⟨81, _⟩ => ⟨S_, .f32⟩
  | .hbm, ⟨82, _⟩ => ⟨S2048x1, .f32⟩
  | .hbm, ⟨83, _⟩ => ⟨S2048x1, .f32⟩
  | .hbm, ⟨84, _⟩ => ⟨S_, .f32⟩
  | .hbm, ⟨85, _⟩ => ⟨S2048, .f32⟩
  | .hbm, ⟨86, _⟩ => ⟨S2048x512, .f32⟩
  | .hbm, ⟨87, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v23_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v23_1 : Ref sig .tc := ⟨.hbm, 44, rfl⟩
abbrev main_v23_0 : Ref sig .tc := ⟨.hbm, 45, rfl⟩
abbrev main_v24 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v25 : Ref sig .tc := ⟨.hbm, 50, rfl⟩
abbrev main_cst_5 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_6 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_7 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_8 : Ref sig .tc := ⟨.hbm, 67, rfl⟩
abbrev main_v39 : Ref sig .tc := ⟨.hbm, 68, rfl⟩
abbrev main_v40 : Ref sig .tc := ⟨.hbm, 69, rfl⟩
abbrev main_cst_9 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_10 : Ref sig .tc := ⟨.hbm, 78, rfl⟩
abbrev main_v48 : Ref sig .tc := ⟨.hbm, 79, rfl⟩
abbrev main_v49 : Ref sig .tc := ⟨.hbm, 80, rfl⟩
abbrev main_cst_11 : Ref sig .tc := ⟨.hbm, 81, rfl⟩
abbrev main_v50 : Ref sig .tc := ⟨.hbm, 82, rfl⟩
abbrev main_v51 : Ref sig .tc := ⟨.hbm, 83, rfl⟩
abbrev main_cst_12 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩

abbrev nD : Nat := 1
abbrev τ : Topo := Topo.v7x

variable {F : FTy → Type} [FloatOps F]
-- ==== Rms2.lean ====
abbrev S2048x2816 : Shape := ⟨2, ![2048, 2816]⟩
abbrev S1024x5632 : Shape := ⟨2, ![1024, 5632]⟩
abbrev S2048x1024 : Shape := ⟨2, ![2048, 1024]⟩
abbrev S1x1024 : Shape := ⟨2, ![1, 1024]⟩
abbrev S256x2816 : Shape := ⟨2, ![256, 2816]⟩
abbrev S256x1024 : Shape := ⟨2, ![256, 1024]⟩
abbrev S1024x2816 : Shape := ⟨2, ![1024, 2816]⟩
abbrev S256 : Shape := ⟨1, ![256]⟩
abbrev S256x1 : Shape := ⟨2, ![256, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S1024x5632, .bf16⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S2048x1024, .f32⟩
  | .hbm, ⟨7, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S1024x5632, .bf16⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Rms2RefIdeal.lean ====
abbrev S2048x2816 : Shape := ⟨2, ![2048, 2816]⟩
abbrev S1024x5632 : Shape := ⟨2, ![1024, 5632]⟩
abbrev S2048x1024 : Shape := ⟨2, ![2048, 1024]⟩
abbrev S1x1024 : Shape := ⟨2, ![1, 1024]⟩
abbrev S2048x5632 : Shape := ⟨2, ![2048, 5632]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S1024x5632, .bf16⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S2048x5632, .bf16⟩
  | .hbm, ⟨7, _⟩ => ⟨S2048x5632, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S1024x5632, .f32⟩
  | .hbm, ⟨28, _⟩ => ⟨S2048x5632, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S_, .f32⟩
  | .hbm, ⟨48, _⟩ => ⟨S2048, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Rms5.lean ====
abbrev S2048x512 : Shape := ⟨2, ![2048, 512]⟩
abbrev S1024x2560 : Shape := ⟨2, ![1024, 2560]⟩
abbrev S2048x1024 : Shape := ⟨2, ![2048, 1024]⟩
abbrev S1x1024 : Shape := ⟨2, ![1, 1024]⟩
abbrev S256x512 : Shape := ⟨2, ![256, 512]⟩
abbrev S256x1024 : Shape := ⟨2, ![256, 1024]⟩
abbrev S1024x512 : Shape := ⟨2, ![1024, 512]⟩
abbrev S256 : Shape := ⟨1, ![256]⟩
abbrev S256x1 : Shape := ⟨2, ![256, 1]⟩
abbrev S1024 : Shape := ⟨1, ![1024]⟩

abbrev nBuf : Space → Nat
  | .hbm => 11
  | .vmem => 19
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x512, .bf16⟩
  | .hbm, ⟨3, _⟩ => ⟨S2048x512, .bf16⟩
  | .hbm, ⟨4, _⟩ => ⟨S2048x512, .bf16⟩
  | .hbm, ⟨5, _⟩ => ⟨S1024x2560, .bf16⟩
  | .hbm, ⟨6, _⟩ => ⟨S2048x1024, .f32⟩
  | .hbm, ⟨7, _⟩ => ⟨S1x1024, .f32⟩
  | .hbm, ⟨8, _⟩ => ⟨S2048x1024, .f32⟩
  | .hbm, ⟨9, _⟩ => ⟨S2048x1024, .f32⟩
  | .hbm, ⟨10, _⟩ => ⟨S1x1024, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S1024x2560, .bf16⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S1x1024, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2560 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Rms5RefIdeal.lean ====
abbrev S2048x512 : Shape := ⟨2, ![2048, 512]⟩
abbrev S1024x2560 : Shape := ⟨2, ![1024, 2560]⟩
abbrev S2048x1024 : Shape := ⟨2, ![2048, 1024]⟩
abbrev S1x1024 : Shape := ⟨2, ![1, 1024]⟩
abbrev S2048x2560 : Shape := ⟨2, ![2048, 2560]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 57
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x512, .bf16⟩
  | .hbm, ⟨3, _⟩ => ⟨S2048x512, .bf16⟩
  | .hbm, ⟨4, _⟩ => ⟨S2048x512, .bf16⟩
  | .hbm, ⟨5, _⟩ => ⟨S1024x2560, .bf16⟩
  | .hbm, ⟨6, _⟩ => ⟨S2048x1024, .f32⟩
  | .hbm, ⟨7, _⟩ => ⟨S1x1024, .f32⟩
  | .hbm, ⟨8, _⟩ => ⟨S2048x1024, .f32⟩
  | .hbm, ⟨9, _⟩ => ⟨S2048x2560, .bf16⟩
  | .hbm, ⟨10, _⟩ => ⟨S2048x2560, .f32⟩
  | .hbm, ⟨11, _⟩ => ⟨S2048x1024, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S1024x2560, .f32⟩
  | .hbm, ⟨31, _⟩ => ⟨S2048x2560, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S2048, .f32⟩
  | .hbm, ⟨42, _⟩ => ⟨S2048x1, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1, .f32⟩
  | .hbm, ⟨47, _⟩ => ⟨S_, .f32⟩
  | .hbm, ⟨48, _⟩ => ⟨S2048x1, .f32⟩
  | .hbm, ⟨49, _⟩ => ⟨S2048x1, .f32⟩
  | .hbm, ⟨50, _⟩ => ⟨S_, .f32⟩
  | .hbm, ⟨51, _⟩ => ⟨S2048, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩

abbrev nD : Nat := 1
abbrev τ : Topo := Topo.v7x

variable {F : FTy → Type} [FloatOps F]
-- ==== LossGrad.lean ====
abbrev S2048x1024 : Shape := ⟨2, ![2048, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossGradRefIdeal.lean ====
abbrev S2048x1024 : Shape := ⟨2, ![2048, 1024]⟩
abbrev S_ : Shape := ⟨0, ![]⟩
abbrev S2048 : Shape := ⟨1, ![2048]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x1024, .f32⟩
  | .hbm, ⟨24, _⟩ => ⟨S2048x1024, .f32⟩
  | .hbm, ⟨25, _⟩ => ⟨S8x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== FfnAct.lean ====
abbrev S2048x5632 : Shape := ⟨2, ![2048, 5632]⟩
abbrev S3x2816 : Shape := ⟨2, ![3, 2816]⟩
abbrev S1x2816 : Shape := ⟨2, ![1, 2816]⟩
abbrev S2048x2816 : Shape := ⟨2, ![2048, 2816]⟩
abbrev S2048x256 : Shape := ⟨2, ![2048, 256]⟩
abbrev S3x256 : Shape := ⟨2, ![3, 256]⟩
abbrev S1x256 : Shape := ⟨2, ![1, 256]⟩
abbrev S2056x256 : Shape := ⟨2, ![2056, 256]⟩
abbrev S32x256 : Shape := ⟨2, ![32, 256]⟩
abbrev S8x256 : Shape := ⟨2, ![8, 256]⟩
abbrev S256x256 : Shape := ⟨2, ![256, 256]⟩
abbrev S264x256 : Shape := ⟨2, ![264, 256]⟩
abbrev S32x8x256 : Shape := ⟨3, ![32, 8, 256]⟩
abbrev S256 : Shape := ⟨1, ![256]⟩

abbrev nBuf : Space → Nat
  | .hbm => 8
  | .vmem => 21
  | .smem => 0
  | _ => 0

abbrev bufTy : (tb : Table) → Fin (tcTables nBuf tb) → BufTy
  | .hbm, ⟨0, _⟩ => ⟨S2048x5632, .f32⟩
  | .hbm, ⟨1, _⟩ => ⟨S3x2816, .f32⟩
  | .hbm, ⟨2, _⟩ => ⟨S1x2816, .f32⟩
  | .hbm, ⟨3, _⟩ => ⟨S2048x2816, .bf16⟩
  | .hbm, ⟨4, _⟩ => ⟨S2048x2816, .bf16⟩
  | .hbm, ⟨5, _⟩ => ⟨S2048x2816, .bf16⟩
  | .hbm, ⟨6, _⟩ => ⟨S3x2816, .f32⟩
  | .hbm, ⟨7, _⟩ => ⟨S1x2816, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S3x256, .f32⟩
  | .local _ .vmem, ⟨5, _⟩ => ⟨S3x256, .f32⟩
  | .local _ .vmem, ⟨6, _⟩ => ⟨S1x256, .f32⟩
  | .local _ .vmem, ⟨7, _⟩ => ⟨S1x256, .f32⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S3x256, .f32⟩
  | .local _ .vmem, ⟨15, _⟩ => ⟨S3x256, .f32⟩
  | .local _ .vmem, ⟨16, _⟩ => ⟨S1x256, .f32⟩
  | .local _ .vmem, ⟨17, _⟩ => ⟨S1x256, .f32⟩
  | .local _ .vmem, ⟨18, _⟩ => ⟨S2056x256, .f32⟩
  | .local _ .vmem, ⟨19, _⟩ => ⟨S2056x256, .f32⟩
  | .local _ .vmem, ⟨20, _⟩ => ⟨S32x256, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![11], ![false]⟩

@[reducible] def k0_t1_loop : Scf.Loop 32 :=
  let c0_i32 : BitVec 32 := 0#32
  let c8_i32 : BitVec 32 := 8#32
  let v12 : BitVec 32 := Scalar.addi c0_i32 c8_i32
  let c1_i32 : BitVec 32 := 1#32
  ⟨c0_i32, v12, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c256_i32 : BitVec 32 := 256#32
  let v31 : BitVec 32 := Scalar.muli arg13 c256_i32
  v31
def k0_off1 (k0_t1 : Fin k0_t1_loop.trips) : Fin 2 → Nat :=
  let c0_i32 : BitVec 32 := 0#32
  let c1_i32 : BitVec 32 := 1#32
  let arg13 : BitVec 32 := Scf.iv c0_i32 c1_i32 k0_t1
  let c256_i32 : BitVec 32 := 256#32
  let v31 : BitVec 32 := Scalar.muli arg13 c256_i32
  let v32 : BitVec 32 := v31
  let v33 : Index := Scalar.indexCast v32
  let c0_30 : Index := 0#32
  ![v33.toNat, 0]
def k0_mult2 (k0_t1 : Fin k0_t1_loop.trips) : BitVec 32 :=
  let c8_i32_32 : BitVec 32 := 8#32
  let c0_i32 : BitVec 32 := 0#32
  let c1_i32 : BitVec 32 := 1#32
  let arg13 : BitVec 32 := Scf.iv c0_i32 c1_i32 k0_t1
  let c256_i32_31 : BitVec 32 := 256#32
  let v35 : BitVec 32 := Scalar.muli arg13 c256_i32_31
  let v36 : BitVec 32 := Scalar.addi c8_i32_32 v35
  v36
def k0_off2 (k0_t1 : Fin k0_t1_loop.trips) : Fin 2 → Nat :=
  let c8_i32_32 : BitVec 32 := 8#32
  let c0_i32 : BitVec 32 := 0#32
  let c1_i32 : BitVec 32 := 1#32
  let arg13 : BitVec 32 := Scf.iv c0_i32 c1_i32 k0_t1
  let c256_i32_31 : BitVec 32 := 256#32
  let v35 : BitVec 32 := Scalar.muli arg13 c256_i32_31
  let v36 : BitVec 32 := Scalar.addi c8_i32_32 v35
  let v37 : BitVec 32 := v36
  let v38 : Index := Scalar.indexCast v37
  let c0_33 : Index := 0#32
  ![v38.toNat, 0]
@[reducible] def k0_t2_loop : Scf.Loop 32 :=
  let c0_i32_7 : BitVec 32 := 0#32
  let c8_i32_8 : BitVec 32 := 8#32
  let v13 : BitVec 32 := Scalar.addi c0_i32_7 c8_i32_8
  let c1_i32_9 : BitVec 32 := 1#32
  ⟨c0_i32_7, v13, c1_i32_9⟩
def k0_mult3 (k0_t2 : Fin k0_t2_loop.trips) : BitVec 32 :=
  let c0_i32_7 : BitVec 32 := 0#32
  let c1_i32_9 : BitVec 32 := 1#32
  let arg13 : BitVec 32 := Scf.iv c0_i32_7 c1_i32_9 k0_t2
  let c256_i32 : BitVec 32 := 256#32
  let v31 : BitVec 32 := Scalar.muli arg13 c256_i32
  v31
def k0_off3 (k0_t2 : Fin k0_t2_loop.trips) : Fin 2 → Nat :=
  let c0_i32_7 : BitVec 32 := 0#32
  let c1_i32_9 : BitVec 32 := 1#32
  let arg13 : BitVec 32 := Scf.iv c0_i32_7 c1_i32_9 k0_t2
  let c256_i32 : BitVec 32 := 256#32
  let v31 : BitVec 32 := Scalar.muli arg13 c256_i32
  let v32 : BitVec 32 := v31
  let v33 : Index := Scalar.indexCast v32
  let c0_30 : Index := 0#32
  ![v33.toNat, 0]
def k0_off4 (k0_t2 : Fin k0_t2_loop.trips) : Fin 2 → Nat :=
  let c0_i32_7 : BitVec 32 := 0#32
  let c1_i32_9 : BitVec 32 := 1#32
  let arg13 : BitVec 32 := Scf.iv c0_i32_7 c1_i32_9 k0_t2
  let c256_i32 : BitVec 32 := 256#32
  let v31 : BitVec 32 := Scalar.muli arg13 c256_i32
  let v32 : BitVec 32 := v31
  let v61 : Index := Scalar.indexCast v32
  let c0_42 : Index := 0#32
  ![v61.toNat, 0]
def k0_off5 (k0_t2 : Fin k0_t2_loop.trips) : Fin 2 → Nat :=
  let c0_i32_7 : BitVec 32 := 0#32
  let c1_i32_9 : BitVec 32 := 1#32
  let arg13 : BitVec 32 := Scf.iv c0_i32_7 c1_i32_9 k0_t2
  let c256_i32 : BitVec 32 := 256#32
  let v31 : BitVec 32 := Scalar.muli arg13 c256_i32
  let v32 : BitVec 32 := v31
  let v79 : Index := Scalar.indexCast v32
  let c0_47 : Index := 0#32
  ![v79.toNat, 0]
@[reducible] def k0_t3_loop : Scf.Loop 32 :=
  let c0_i32_11 : BitVec 32 := 0#32
  let c8_i32_12 : BitVec 32 := 8#32
  let v14 : BitVec 32 := Scalar.addi c0_i32_11 c8_i32_12
  let c1_i32_13 : BitVec 32 := 1#32
  ⟨c0_i32_11, v14, c1_i32_13⟩
def k0_mult4 (k0_t3 : Fin k0_t3_loop.trips) : BitVec 32 :=
  let c0_i32_11 : BitVec 32 := 0#32
  let c1_i32_13 : BitVec 32 := 1#32
  let arg13 : BitVec 32 := Scf.iv c0_i32_11 c1_i32_13 k0_t3
  let c256_i32 : BitVec 32 := 256#32
  let v31 : BitVec 32 := Scalar.muli arg13 c256_i32
  v31
def k0_off6 (k0_t3 : Fin k0_t3_loop.trips) : Fin 2 → Nat :=
  let c0_i32_11 : BitVec 32 := 0#32
  let c1_i32_13 : BitVec 32 := 1#32
  let arg13 : BitVec 32 := Scf.iv c0_i32_11 c1_i32_13 k0_t3
  let c256_i32 : BitVec 32 := 256#32
  let v31 : BitVec 32 := Scalar.muli arg13 c256_i32
  let v32 : BitVec 32 := v31
  let v33 : Index := Scalar.indexCast v32
  let c0_30 : Index := 0#32
  ![v33.toNat, 0]
def k0_off7 (k0_t3 : Fin k0_t3_loop.trips) : Fin 2 → Nat :=
  let c0_i32_11 : BitVec 32 := 0#32
  let c1_i32_13 : BitVec 32 := 1#32
  let arg13 : BitVec 32 := Scf.iv c0_i32_11 c1_i32_13 k0_t3
  let c256_i32 : BitVec 32 := 256#32
  let v31 : BitVec 32 := Scalar.muli arg13 c256_i32
  let v32 : BitVec 32 := v31
  let v52 : Index := Scalar.indexCast v32
  let c0_37 : Index := 0#32
  ![v52.toNat, 0]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S3x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnActRefIdeal.lean ====
abbrev S2048x5632 : Shape := ⟨2, ![2048, 5632]⟩
abbrev S3x2816 : Shape := ⟨2, ![3, 2816]⟩
abbrev S1x2816 : Shape := ⟨2, ![1, 2816]⟩
abbrev S2048x2816 : Shape := ⟨2, ![2048, 2816]⟩
abbrev S_ : Shape := ⟨0, ![]⟩
abbrev S2x2816 : Shape := ⟨2, ![2, 2816]⟩
abbrev S2050x2816 : Shape := ⟨2, ![2050, 2816]⟩
abbrev S2816 : Shape := ⟨1, ![2816]⟩

abbrev nBuf : Space → Nat
  | .hbm => 92
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S3x2816, .f32⟩
  | .hbm, ⟨2, _⟩ => ⟨S1x2816, .f32⟩
  | .hbm, ⟨3, _⟩ => ⟨S2048x2816, .bf16⟩
  | .hbm, ⟨4, _⟩ => ⟨S2048x2816, .f32⟩
  | .hbm, ⟨5, _⟩ => ⟨S2048x2816, .f32⟩
  | .hbm, ⟨6, _⟩ => ⟨S_, .f32⟩
  | .hbm, ⟨7, _⟩ => ⟨S2x2816, .f32⟩
  | .hbm, ⟨8, _⟩ => ⟨S2050x2816, .f32⟩
  | .hbm, ⟨9, _⟩ => ⟨S_, .f32⟩
  | .hbm, ⟨10, _⟩ => ⟨S2x2816, .f32⟩
  | .hbm, ⟨11, _⟩ => ⟨S2048x2816, .f32⟩
  | .hbm, ⟨12, _⟩ => ⟨S1x2816, .f32⟩
  | .hbm, ⟨13, _⟩ => ⟨S2048x2816, .f32⟩
  | .hbm, ⟨14, _⟩ => ⟨S2048x2816, .f32⟩
  | .hbm, ⟨15, _⟩ => ⟨S_, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S1x2816, .f32⟩
  | .hbm, ⟨20, _⟩ => ⟨S2048x2816, .f32⟩
  | .hbm, ⟨21, _⟩ => ⟨S2048x2816, .f32⟩
  | .hbm, ⟨22, _⟩ => ⟨S2048x2816, .f32⟩
  | .hbm, ⟨23, _⟩ => ⟨S2048x2816, .f32⟩
  | .hbm, ⟨24, _⟩ => ⟨S1x2816, .f32⟩
  | .hbm, ⟨25, _⟩ => ⟨S2048x2816, .f32⟩
  | .hbm, ⟨26, _⟩ => ⟨S2048x2816, .f32⟩
  | .hbm, ⟨27, _⟩ => ⟨S2048x2816, .f32⟩
  | .hbm, ⟨28, _⟩ => ⟨S2048x2816, .f32⟩
  | .hbm, ⟨29, _⟩ => ⟨S2048x2816, .f32⟩
  | .hbm, ⟨30, _⟩ => ⟨S2048x2816, .f32⟩
  | .hbm, ⟨31, _⟩ => ⟨S2048x2816, .f32⟩
  | .hbm, ⟨32, _⟩ => ⟨S_, .f32⟩
  | .hbm, ⟨33, _⟩ => ⟨S2048x2816, .f32⟩
  | .hbm, ⟨34, _⟩ => ⟨S2048x2816, .f32⟩
  | .hbm, ⟨35, _⟩ => ⟨S_, .f32⟩
  | .hbm, ⟨36, _⟩ => ⟨S2048x2816, .f32⟩
  | .hbm, ⟨37, _⟩ => ⟨S2048x2816, .f32⟩
  | .hbm, ⟨38, _⟩ => ⟨S_, .f32⟩
  | .hbm, ⟨39, _⟩ => ⟨S2048x2816, .f32⟩
  | .hbm, ⟨40, _⟩ => ⟨S2048x2816, .f32⟩
  | .hbm, ⟨41, _⟩ => ⟨S2048x2816, .f32⟩
  | .hbm, ⟨42, _⟩ => ⟨S2048x2816, .f32⟩
  | .hbm, ⟨43, _⟩ => ⟨S2048x2816, .f32⟩
  | .hbm, ⟨44, _⟩ => ⟨S2048x2816, .f32⟩
  | .hbm, ⟨45, _⟩ => ⟨S2048x2816, .f32⟩
  | .hbm, ⟨46, _⟩ => ⟨S2048x2816, .f32⟩
  | .hbm, ⟨47, _⟩ => ⟨S2048x2816, .f32⟩
  | .hbm, ⟨48, _⟩ => ⟨S2048x2816, .f32⟩
  | .hbm, ⟨49, _⟩ => ⟨S2048x2816, .f32⟩
  | .hbm, ⟨50, _⟩ => ⟨S2048x2816, .f32⟩
  | .hbm, ⟨51, _⟩ => ⟨S_, .f32⟩
  | .hbm, ⟨52, _⟩ => ⟨S2816, .f32⟩
  | .hbm, ⟨53, _⟩ => ⟨S1x2816, .f32⟩
  | .hbm, ⟨54, _⟩ => ⟨S2048x2816, .f32⟩
  | .hbm, ⟨55, _⟩ => ⟨S_, .f32⟩
  | .hbm, ⟨56, _⟩ => ⟨S2816, .f32⟩
  | .hbm, ⟨57, _⟩ => ⟨S1x2816, .f32⟩
  | .hbm, ⟨58, _⟩ => ⟨S2048x2816, .f32⟩
  | .hbm, ⟨59, _⟩ => ⟨S2048x2816, .f32⟩
  | .hbm, ⟨60, _⟩ => ⟨S_, .f32⟩
  | .hbm, ⟨61, _⟩ => ⟨S3x2816, .f32⟩
  | .hbm, ⟨62, _⟩ => ⟨S_, .f32⟩
  | .hbm, ⟨63, _⟩ => ⟨S2050x2816, .f32⟩
  | .hbm, ⟨64, _⟩ => ⟨S2048x2816, .f32⟩
  | .hbm, ⟨65, _⟩ => ⟨S_, .f32⟩
  | .hbm, ⟨66, _⟩ => ⟨S2816, .f32⟩
  | .hbm, ⟨67, _⟩ => ⟨S1x2816, .f32⟩
  | .hbm, ⟨68, _⟩ => ⟨S2048x2816, .f32⟩
  | .hbm, ⟨69, _⟩ => ⟨S2048x2816, .f32⟩
  | .hbm, ⟨70, _⟩ => ⟨S_, .f32⟩
  | .hbm, ⟨71, _⟩ => ⟨S3x2816, .f32⟩
  | .hbm, ⟨72, _⟩ => ⟨S3x2816, .f32⟩
  | .hbm, ⟨73, _⟩ => ⟨S_, .f32⟩
  | .hbm, ⟨74, _⟩ => ⟨S2050x2816, .f32⟩
  | .hbm, ⟨75, _⟩ => ⟨S2050x2816, .f32⟩
  | .hbm, ⟨76, _⟩ => ⟨S2048x2816, .f32⟩
  | .hbm, ⟨77, _⟩ => ⟨S_, .f32⟩
  | .hbm, ⟨78, _⟩ => ⟨S2816, .f32⟩
  | .hbm, ⟨79, _⟩ => ⟨S1x2816, .f32⟩
  | .hbm, ⟨80, _⟩ => ⟨S2048x2816, .f32⟩
  | .hbm, ⟨81, _⟩ => ⟨S2048x2816, .f32⟩
  | .hbm, ⟨82, _⟩ => ⟨S_, .f32⟩
  | .hbm, ⟨83, _⟩ => ⟨S3x2816, .f32⟩
  | .hbm, ⟨84, _⟩ => ⟨S3x2816, .f32⟩
  | .hbm, ⟨85, _⟩ => ⟨S_, .f32⟩
  | .hbm, ⟨86, _⟩ => ⟨S2050x2816, .f32⟩
  | .hbm, ⟨87, _⟩ => ⟨S2050x2816, .f32⟩
  | .hbm, ⟨88, _⟩ => ⟨S2x2816, .f32⟩
  | .hbm, ⟨89, _⟩ => ⟨S2048x2816, .f32⟩
  | .hbm, ⟨90, _⟩ => ⟨S2048x2816, .bf16⟩
  | .hbm, ⟨91, _⟩ => ⟨S2048x2816, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v23_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v23_1 : Ref sig .tc := ⟨.hbm, 41, rfl⟩
abbrev main_v23_0 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v28 : Ref sig .tc := ⟨.hbm, 50, rfl⟩
abbrev main_cst_2 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_3 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_4 : Ref sig .tc := ⟨.hbm, 60, rfl⟩
abbrev main_v36 : Ref sig .tc := ⟨.hbm, 61, rfl⟩
abbrev main_cst_5 : Ref sig .tc := ⟨.hbm, 62, rfl⟩
abbrev main_v37 : Ref sig .tc := ⟨.hbm, 63, rfl⟩
abbrev main_v38 : Ref sig .tc := ⟨.hbm, 64, rfl⟩
abbrev main_cst_6 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_7 : Ref sig .tc := ⟨.hbm, 70, rfl⟩
abbrev main_v43 : Ref sig .tc := ⟨.hbm, 71, rfl⟩
abbrev main_v44 : Ref sig .tc := ⟨.hbm, 72, rfl⟩
abbrev main_cst_8 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_9 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_10 : Ref sig .tc := ⟨.hbm, 82, rfl⟩
abbrev main_v52 : Ref sig .tc := ⟨.hbm, 83, rfl⟩
abbrev main_v53 : Ref sig .tc := ⟨.hbm, 84, rfl⟩
abbrev main_cst_11 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩

abbrev nD : Nat := 1
abbrev τ : Topo := Topo.v7x

variable {F : FTy → Type} [FloatOps F]
-- ==== GluConv.lean ====
abbrev S2048x2560 : Shape := ⟨2, ![2048, 2560]⟩
abbrev S31x512 : Shape := ⟨2, ![31, 512]⟩
abbrev S2048x512 : Shape := ⟨2, ![2048, 512]⟩
abbrev S1x512 : Shape := ⟨2, ![1, 512]⟩
abbrev S2048x128 : Shape := ⟨2, ![2048, 128]⟩
abbrev S31x128 : Shape := ⟨2, ![31, 128]⟩
abbrev S1x128 : Shape := ⟨2, ![1, 128]⟩
abbrev S2080x128 : Shape := ⟨2, ![2080, 128]⟩
abbrev S256x128 : Shape := ⟨2, ![256, 128]⟩
abbrev S32x128 : Shape := ⟨2, ![32, 128]⟩
abbrev S288x128 : Shape := ⟨2, ![288, 128]⟩
abbrev S8x128 : Shape := ⟨2, ![8, 128]⟩
abbrev S32x8x128 : Shape := ⟨3, ![32, 8, 128]⟩
abbrev S128 : Shape := ⟨1, ![128]⟩

abbrev nBuf : Space → Nat
  | .hbm => 7
  | .vmem => 19
  | .smem => 0
  | _ => 0

abbrev bufTy : (tb : Table) → Fin (tcTables nBuf tb) → BufTy
  | .hbm, ⟨0, _⟩ => ⟨S2048x2560, .f32⟩
  | .hbm, ⟨1, _⟩ => ⟨S31x512, .f32⟩
  | .hbm, ⟨2, _⟩ => ⟨S2048x512, .f32⟩
  | .hbm, ⟨3, _⟩ => ⟨S2048x512, .bf16⟩
  | .hbm, ⟨4, _⟩ => ⟨S2048x512, .bf16⟩
  | .hbm, ⟨5, _⟩ => ⟨S31x512, .f32⟩
  | .hbm, ⟨6, _⟩ => ⟨S1x512, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S31x128, .f32⟩
  | .local _ .vmem, ⟨5, _⟩ => ⟨S31x128, .f32⟩
  | .local _ .vmem, ⟨6, _⟩ => ⟨S2048x128, .f32⟩
  | .local _ .vmem, ⟨7, _⟩ => ⟨S2048x128, .f32⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S31x128, .f32⟩
  | .local _ .vmem, ⟨13, _⟩ => ⟨S31x128, .f32⟩
  | .local _ .vmem, ⟨14, _⟩ => ⟨S1x128, .f32⟩
  | .local _ .vmem, ⟨15, _⟩ => ⟨S1x128, .f32⟩
  | .local _ .vmem, ⟨16, _⟩ => ⟨S2080x128, .f32⟩
  | .local _ .vmem, ⟨17, _⟩ => ⟨S2080x128, .f32⟩
  | .local _ .vmem, ⟨18, _⟩ => ⟨S256x128, .f32⟩
  | _, _ => ⟨S2048x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c8_i32 : BitVec 32 := 8#32
  let v12 : BitVec 32 := Scalar.addi c0_i32 c8_i32
  let c1_i32 : BitVec 32 := 1#32
  ⟨c0_i32, v12, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32 : BitVec 32 := 256#32
  let v142 : BitVec 32 := Scalar.muli arg12 c256_i32
  v142
def k0_off1 (k0_t1 : Fin k0_t1_loop.trips) : Fin 2 → Nat :=
  let c0_i32 : BitVec 32 := 0#32
  let c1_i32 : BitVec 32 := 1#32
  let arg12 : BitVec 32 := Scf.iv c0_i32 c1_i32 k0_t1
  let c256_i32 : BitVec 32 := 256#32
  let v142 : BitVec 32 := Scalar.muli arg12 c256_i32
  let v143 : BitVec 32 := v142
  let v144 : Index := Scalar.indexCast v143
  let c0_113 : Index := 0#32
  ![v144.toNat, 0]
def k0_mult2 (k0_t1 : Fin k0_t1_loop.trips) : BitVec 32 :=
  let c32_i32 : BitVec 32 := 32#32
  let c0_i32 : BitVec 32 := 0#32
  let c1_i32 : BitVec 32 := 1#32
  let arg12 : BitVec 32 := Scf.iv c0_i32 c1_i32 k0_t1
  let c256_i32_118 : BitVec 32 := 256#32
  let v156 : BitVec 32 := Scalar.muli arg12 c256_i32_118
  let v157 : BitVec 32 := Scalar.addi c32_i32 v156
  v157
def k0_off2 (k0_t1 : Fin k0_t1_loop.trips) : Fin 2 → Nat :=
  let c32_i32 : BitVec 32 := 32#32
  let c0_i32 : BitVec 32 := 0#32
  let c1_i32 : BitVec 32 := 1#32
  let arg12 : BitVec 32 := Scf.iv c0_i32 c1_i32 k0_t1
  let c256_i32_118 : BitVec 32 := 256#32
  let v156 : BitVec 32 := Scalar.muli arg12 c256_i32_118
  let v157 : BitVec 32 := Scalar.addi c32_i32 v156
  let v158 : BitVec 32 := v157
  let v159 : Index := Scalar.indexCast v158
  let c0_119 : Index := 0#32
  ![v159.toNat, 0]
def k0_off3 (k0_t1 : Fin k0_t1_loop.trips) : Fin 2 → Nat :=
  let c0_i32 : BitVec 32 := 0#32
  let c1_i32 : BitVec 32 := 1#32
  let arg12 : BitVec 32 := Scf.iv c0_i32 c1_i32 k0_t1
  let c256_i32 : BitVec 32 := 256#32
  let v142 : BitVec 32 := Scalar.muli arg12 c256_i32
  let v143 : BitVec 32 := v142
  let v165 : Index := Scalar.indexCast v143
  let c0_121 : Index := 0#32
  ![v165.toNat, 0]
@[reducible] def k0_t2_loop : Scf.Loop 32 :=
  let c0_i32_7 : BitVec 32 := 0#32
  let c8_i32_8 : BitVec 32 := 8#32
  let v13 : BitVec 32 := Scalar.addi c0_i32_7 c8_i32_8
  let c1_i32_9 : BitVec 32 := 1#32
  ⟨c0_i32_7, v13, c1_i32_9⟩
def k0_mult3 (k0_t2 : Fin k0_t2_loop.trips) : BitVec 32 :=
  let c0_i32_7 : BitVec 32 := 0#32
  let c1_i32_9 : BitVec 32 := 1#32
  let arg12 : BitVec 32 := Scf.iv c0_i32_7 c1_i32_9 k0_t2
  let c256_i32 : BitVec 32 := 256#32
  let v142 : BitVec 32 := Scalar.muli arg12 c256_i32
  v142
def k0_off4 (k0_t2 : Fin k0_t2_loop.trips) : Fin 2 → Nat :=
  let c0_i32_7 : BitVec 32 := 0#32
  let c1_i32_9 : BitVec 32 := 1#32
  let arg12 : BitVec 32 := Scf.iv c0_i32_7 c1_i32_9 k0_t2
  let c256_i32 : BitVec 32 := 256#32
  let v142 : BitVec 32 := Scalar.muli arg12 c256_i32
  let v143 : BitVec 32 := v142
  let v144 : Index := Scalar.indexCast v143
  let c0_113 : Index := 0#32
  ![v144.toNat, 0]
def k0_off5 (k0_t2 : Fin k0_t2_loop.trips) : Fin 2 → Nat :=
  let c0_i32_7 : BitVec 32 := 0#32
  let c1_i32_9 : BitVec 32 := 1#32
  let arg12 : BitVec 32 := Scf.iv c0_i32_7 c1_i32_9 k0_t2
  let c256_i32 : BitVec 32 := 256#32
  let v142 : BitVec 32 := Scalar.muli arg12 c256_i32
  let v143 : BitVec 32 := v142
  let v309 : Index := Scalar.indexCast v143
  let c0_177 : Index := 0#32
  ![v309.toNat, 0]
def cc0_transform_0 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S31x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S31x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GluConvRefIdeal.lean ====
abbrev S2048x2560 : Shape := ⟨2, ![2048, 2560]⟩
abbrev S31x512 : Shape := ⟨2, ![31, 512]⟩
abbrev S2048x512 : Shape := ⟨2, ![2048, 512]⟩
abbrev S_ : Shape := ⟨0, ![]⟩
abbrev S1x512 : Shape := ⟨2, ![1, 512]⟩
abbrev S30x512 : Shape := ⟨2, ![30, 512]⟩
abbrev S2078x512 : Shape := ⟨2, ![2078, 512]⟩
abbrev S512 : Shape := ⟨1, ![512]⟩

abbrev nBuf : Space → Nat
  | .hbm => 565
  | .vmem => 0
  | .smem => 0
  | _ => 0

abbrev hbmTy0_0 (i : Nat) : BufTy := match i % 128 with
  | 0 => ⟨S2048x2560, .f32⟩
  | 1 => ⟨S31x512, .f32⟩
  | 2 => ⟨S2048x512, .f32⟩
  | 3 => ⟨S2048x512, .f32⟩
  | 4 => ⟨S2048x512, .f32⟩
  | 5 => ⟨S_, .f32⟩
  | 6 => ⟨S1x512, .f32⟩
  | 7 => ⟨S2048x512, .f32⟩
  | 8 => ⟨S2048x512, .f32⟩
  | 9 => ⟨S_, .f32⟩
  | 10 => ⟨S2048x512, .f32⟩
  | 11 => ⟨S2048x512, .f32⟩
  | 12 => ⟨S_, .f32⟩
  | 13 => ⟨S2048x512, .f32⟩
  | 14 => ⟨S2048x512, .f32⟩
  | 15 => ⟨S_, .f32⟩
  | 16 => ⟨S2048x512, .f32⟩
  | 17 => ⟨S2048x512, .f32⟩
  | 18 => ⟨S2048x512, .f32⟩
  | 19 => ⟨S2048x512, .f32⟩
  | 20 => ⟨S_, .f32⟩
  | 21 => ⟨S30x512, .f32⟩
  | 22 => ⟨S2078x512, .f32⟩
  | 23 => ⟨S_, .f32⟩
  | 24 => ⟨S30x512, .f32⟩
  | 25 => ⟨S2048x512, .f32⟩
  | 26 => ⟨S1x512, .f32⟩
  | 27 => ⟨S2048x512, .f32⟩
  | 28 => ⟨S2048x512, .f32⟩
  | 29 => ⟨S_, .f32⟩
  | 30 => ⟨S2048x512, .f32⟩
  | 31 => ⟨S2048x512, .f32⟩
  | 32 => ⟨S2048x512, .f32⟩
  | 33 => ⟨S1x512, .f32⟩
  | 34 => ⟨S2048x512, .f32⟩
  | 35 => ⟨S2048x512, .f32⟩
  | 36 => ⟨S2048x512, .f32⟩
  | 37 => ⟨S2048x512, .f32⟩
  | 38 => ⟨S1x512, .f32⟩
  | 39 => ⟨S2048x512, .f32⟩
  | 40 => ⟨S2048x512, .f32⟩
  | 41 => ⟨S2048x512, .f32⟩
  | 42 => ⟨S2048x512, .f32⟩
  | 43 => ⟨S1x512, .f32⟩
  | 44 => ⟨S2048x512, .f32⟩
  | 45 => ⟨S2048x512, .f32⟩
  | 46 => ⟨S2048x512, .f32⟩
  | 47 => ⟨S2048x512, .f32⟩
  | 48 => ⟨S1x512, .f32⟩
  | 49 => ⟨S2048x512, .f32⟩
  | 50 => ⟨S2048x512, .f32⟩
  | 51 => ⟨S2048x512, .f32⟩
  | 52 => ⟨S2048x512, .f32⟩
  | 53 => ⟨S1x512, .f32⟩
  | 54 => ⟨S2048x512, .f32⟩
  | 55 => ⟨S2048x512, .f32⟩
  | 56 => ⟨S2048x512, .f32⟩
  | 57 => ⟨S2048x512, .f32⟩
  | 58 => ⟨S1x512, .f32⟩
  | 59 => ⟨S2048x512, .f32⟩
  | 60 => ⟨S2048x512, .f32⟩
  | 61 => ⟨S2048x512, .f32⟩
  | 62 => ⟨S2048x512, .f32⟩
  | 63 => ⟨S1x512, .f32⟩
  | 64 => ⟨S2048x512, .f32⟩
  | 65 => ⟨S2048x512, .f32⟩
  | 66 => ⟨S2048x512, .f32⟩
  | 67 => ⟨S2048x512, .f32⟩
  | 68 => ⟨S1x512, .f32⟩
  | 69 => ⟨S2048x512, .f32⟩
  | 70 => ⟨S2048x512, .f32⟩
  | 71 => ⟨S2048x512, .f32⟩
  | 72 => ⟨S2048x512, .f32⟩
  | 73 => ⟨S1x512, .f32⟩
  | 74 => ⟨S2048x512, .f32⟩
  | 75 => ⟨S2048x512, .f32⟩
  | 76 => ⟨S2048x512, .f32⟩
  | 77 => ⟨S2048x512, .f32⟩
  | 78 => ⟨S1x512, .f32⟩
  | 79 => ⟨S2048x512, .f32⟩
  | 80 => ⟨S2048x512, .f32⟩
  | 81 => ⟨S2048x512, .f32⟩
  | 82 => ⟨S2048x512, .f32⟩
  | 83 => ⟨S1x512, .f32⟩
  | 84 => ⟨S2048x512, .f32⟩
  | 85 => ⟨S2048x512, .f32⟩
  | 86 => ⟨S2048x512, .f32⟩
  | 87 => ⟨S2048x512, .f32⟩
  | 88 => ⟨S1x512, .f32⟩
  | 89 => ⟨S2048x512, .f32⟩
  | 90 => ⟨S2048x512, .f32⟩
  | 91 => ⟨S2048x512, .f32⟩
  | 92 => ⟨S2048x512, .f32⟩
  | 93 => ⟨S1x512, .f32⟩
  | 94 => ⟨S2048x512, .f32⟩
  | 95 => ⟨S2048x512, .f32⟩
  | 96 => ⟨S2048x512, .f32⟩
  | 97 => ⟨S2048x512, .f32⟩
  | 98 => ⟨S1x512, .f32⟩
  | 99 => ⟨S2048x512, .f32⟩
  | 100 => ⟨S2048x512, .f32⟩
  | 101 => ⟨S2048x512, .f32⟩
  | 102 => ⟨S2048x512, .f32⟩
  | 103 => ⟨S1x512, .f32⟩
  | 104 => ⟨S2048x512, .f32⟩
  | 105 => ⟨S2048x512, .f32⟩
  | 106 => ⟨S2048x512, .f32⟩
  | 107 => ⟨S2048x512, .f32⟩
  | 108 => ⟨S1x512, .f32⟩
  | 109 => ⟨S2048x512, .f32⟩
  | 110 => ⟨S2048x512, .f32⟩
  | 111 => ⟨S2048x512, .f32⟩
  | 112 => ⟨S2048x512, .f32⟩
  | 113 => ⟨S1x512, .f32⟩
  | 114 => ⟨S2048x512, .f32⟩
  | 115 => ⟨S2048x512, .f32⟩
  | 116 => ⟨S2048x512, .f32⟩
  | 117 => ⟨S2048x512, .f32⟩
  | 118 => ⟨S1x512, .f32⟩
  | 119 => ⟨S2048x512, .f32⟩
  | 120 => ⟨S2048x512, .f32⟩
  | 121 => ⟨S2048x512, .f32⟩
  | 122 => ⟨S2048x512, .f32⟩
  | 123 => ⟨S1x512, .f32⟩
  | 124 => ⟨S2048x512, .f32⟩
  | 125 => ⟨S2048x512, .f32⟩
  | 126 => ⟨S2048x512, .f32⟩
  | 127 => ⟨S2048x512, .f32⟩
  | _ => ⟨S2048x2560, .f32⟩

abbrev hbmTy0_1 (i : Nat) : BufTy := match i % 128 with
  | 0 => ⟨S1x512, .f32⟩
  | 1 => ⟨S2048x512, .f32⟩
  | 2 => ⟨S2048x512, .f32⟩
  | 3 => ⟨S2048x512, .f32⟩
  | 4 => ⟨S2048x512, .f32⟩
  | 5 => ⟨S1x512, .f32⟩
  | 6 => ⟨S2048x512, .f32⟩
  | 7 => ⟨S2048x512, .f32⟩
  | 8 => ⟨S2048x512, .f32⟩
  | 9 => ⟨S2048x512, .f32⟩
  | 10 => ⟨S1x512, .f32⟩
  | 11 => ⟨S2048x512, .f32⟩
  | 12 => ⟨S2048x512, .f32⟩
  | 13 => ⟨S2048x512, .f32⟩
  | 14 => ⟨S2048x512, .f32⟩
  | 15 => ⟨S1x512, .f32⟩
  | 16 => ⟨S2048x512, .f32⟩
  | 17 => ⟨S2048x512, .f32⟩
  | 18 => ⟨S2048x512, .f32⟩
  | 19 => ⟨S2048x512, .f32⟩
  | 20 => ⟨S1x512, .f32⟩
  | 21 => ⟨S2048x512, .f32⟩
  | 22 => ⟨S2048x512, .f32⟩
  | 23 => ⟨S2048x512, .f32⟩
  | 24 => ⟨S2048x512, .f32⟩
  | 25 => ⟨S1x512, .f32⟩
  | 26 => ⟨S2048x512, .f32⟩
  | 27 => ⟨S2048x512, .f32⟩
  | 28 => ⟨S2048x512, .f32⟩
  | 29 => ⟨S2048x512, .f32⟩
  | 30 => ⟨S1x512, .f32⟩
  | 31 => ⟨S2048x512, .f32⟩
  | 32 => ⟨S2048x512, .f32⟩
  | 33 => ⟨S2048x512, .f32⟩
  | 34 => ⟨S2048x512, .f32⟩
  | 35 => ⟨S1x512, .f32⟩
  | 36 => ⟨S2048x512, .f32⟩
  | 37 => ⟨S2048x512, .f32⟩
  | 38 => ⟨S2048x512, .f32⟩
  | 39 => ⟨S2048x512, .f32⟩
  | 40 => ⟨S1x512, .f32⟩
  | 41 => ⟨S2048x512, .f32⟩
  | 42 => ⟨S2048x512, .f32⟩
  | 43 => ⟨S2048x512, .f32⟩
  | 44 => ⟨S2048x512, .f32⟩
  | 45 => ⟨S1x512, .f32⟩
  | 46 => ⟨S2048x512, .f32⟩
  | 47 => ⟨S2048x512, .f32⟩
  | 48 => ⟨S2048x512, .f32⟩
  | 49 => ⟨S2048x512, .f32⟩
  | 50 => ⟨S1x512, .f32⟩
  | 51 => ⟨S2048x512, .f32⟩
  | 52 => ⟨S2048x512, .f32⟩
  | 53 => ⟨S2048x512, .f32⟩
  | 54 => ⟨S2048x512, .f32⟩
  | 55 => ⟨S2048x512, .f32⟩
  | 56 => ⟨S2048x512, .f32⟩
  | 57 => ⟨S_, .f32⟩
  | 58 => ⟨S512, .f32⟩
  | 59 => ⟨S1x512, .f32⟩
  | 60 => ⟨S2048x512, .f32⟩
  | 61 => ⟨S_, .f32⟩
  | 62 => ⟨S512, .f32⟩
  | 63 => ⟨S1x512, .f32⟩
  | 64 => ⟨S2048x512, .f32⟩
  | 65 => ⟨S2048x512, .f32⟩
  | 66 => ⟨S_, .f32⟩
  | 67 => ⟨S31x512, .f32⟩
  | 68 => ⟨S_, .f32⟩
  | 69 => ⟨S2078x512, .f32⟩
  | 70 => ⟨S2048x512, .f32⟩
  | 71 => ⟨S_, .f32⟩
  | 72 => ⟨S512, .f32⟩
  | 73 => ⟨S1x512, .f32⟩
  | 74 => ⟨S2048x512, .f32⟩
  | 75 => ⟨S2048x512, .f32⟩
  | 76 => ⟨S_, .f32⟩
  | 77 => ⟨S31x512, .f32⟩
  | 78 => ⟨S31x512, .f32⟩
  | 79 => ⟨S_, .f32⟩
  | 80 => ⟨S2078x512, .f32⟩
  | 81 => ⟨S2078x512, .f32⟩
  | 82 => ⟨S2048x512, .f32⟩
  | 83 => ⟨S_, .f32⟩
  | 84 => ⟨S512, .f32⟩
  | 85 => ⟨S1x512, .f32⟩
  | 86 => ⟨S2048x512, .f32⟩
  | 87 => ⟨S2048x512, .f32⟩
  | 88 => ⟨S_, .f32⟩
  | 89 => ⟨S31x512, .f32⟩
  | 90 => ⟨S31x512, .f32⟩
  | 91 => ⟨S_, .f32⟩
  | 92 => ⟨S2078x512, .f32⟩
  | 93 => ⟨S2078x512, .f32⟩
  | 94 => ⟨S2048x512, .f32⟩
  | 95 => ⟨S_, .f32⟩
  | 96 => ⟨S512, .f32⟩
  | 97 => ⟨S1x512, .f32⟩
  | 98 => ⟨S2048x512, .f32⟩
  | 99 => ⟨S2048x512, .f32⟩
  | 100 => ⟨S_, .f32⟩
  | 101 => ⟨S31x512, .f32⟩
  | 102 => ⟨S31x512, .f32⟩
  | 103 => ⟨S_, .f32⟩
  | 104 => ⟨S2078x512, .f32⟩
  | 105 => ⟨S2078x512, .f32⟩
  | 106 => ⟨S2048x512, .f32⟩
  | 107 => ⟨S_, .f32⟩
  | 108 => ⟨S512, .f32⟩
  | 109 => ⟨S1x512, .f32⟩
  | 110 => ⟨S2048x512, .f32⟩
  | 111 => ⟨S2048x512, .f32⟩
  | 112 => ⟨S_, .f32⟩
  | 113 => ⟨S31x512, .f32⟩
  | 114 => ⟨S31x512, .f32⟩
  | 115 => ⟨S_, .f32⟩
  | 116 => ⟨S2078x512, .f32⟩
  | 117 => ⟨S2078x512, .f32⟩
  | 118 => ⟨S2048x512, .f32⟩
  | 119 => ⟨S_, .f32⟩
  | 120 => ⟨S512, .f32⟩
  | 121 => ⟨S1x512, .f32⟩
  | 122 => ⟨S2048x512, .f32⟩
  | 123 => ⟨S2048x512, .f32⟩
  | 124 => ⟨S_, .f32⟩
  | 125 => ⟨S31x512, .f32⟩
  | 126 => ⟨S31x512, .f32⟩
  | 127 => ⟨S_, .f32⟩
  | _ => ⟨S2048x2560, .f32⟩

abbrev hbmTy0_2 (i : Nat) : BufTy := match i % 128 with
  | 0 => ⟨S2078x512, .f32⟩
  | 1 => ⟨S2078x512, .f32⟩
  | 2 => ⟨S2048x512, .f32⟩
  | 3 => ⟨S_, .f32⟩
  | 4 => ⟨S512, .f32⟩
  | 5 => ⟨S1x512, .f32⟩
  | 6 => ⟨S2048x512, .f32⟩
  | 7 => ⟨S2048x512, .f32⟩
  | 8 => ⟨S_, .f32⟩
  | 9 => ⟨S31x512, .f32⟩
  | 10 => ⟨S31x512, .f32⟩
  | 11 => ⟨S_, .f32⟩
  | 12 => ⟨S2078x512, .f32⟩
  | 13 => ⟨S2078x512, .f32⟩
  | 14 => ⟨S2048x512, .f32⟩
  | 15 => ⟨S_, .f32⟩
  | 16 => ⟨S512, .f32⟩
  | 17 => ⟨S1x512, .f32⟩
  | 18 => ⟨S2048x512, .f32⟩
  | 19 => ⟨S2048x512, .f32⟩
  | 20 => ⟨S_, .f32⟩
  | 21 => ⟨S31x512, .f32⟩
  | 22 => ⟨S31x512, .f32⟩
  | 23 => ⟨S_, .f32⟩
  | 24 => ⟨S2078x512, .f32⟩
  | 25 => ⟨S2078x512, .f32⟩
  | 26 => ⟨S2048x512, .f32⟩
  | 27 => ⟨S_, .f32⟩
  | 28 => ⟨S512, .f32⟩
  | 29 => ⟨S1x512, .f32⟩
  | 30 => ⟨S2048x512, .f32⟩
  | 31 => ⟨S2048x512, .f32⟩
  | 32 => ⟨S_, .f32⟩
  | 33 => ⟨S31x512, .f32⟩
  | 34 => ⟨S31x512, .f32⟩
  | 35 => ⟨S_, .f32⟩
  | 36 => ⟨S2078x512, .f32⟩
  | 37 => ⟨S2078x512, .f32⟩
  | 38 => ⟨S2048x512, .f32⟩
  | 39 => ⟨S_, .f32⟩
  | 40 => ⟨S512, .f32⟩
  | 41 => ⟨S1x512, .f32⟩
  | 42 => ⟨S2048x512, .f32⟩
  | 43 => ⟨S2048x512, .f32⟩
  | 44 => ⟨S_, .f32⟩
  | 45 => ⟨S31x512, .f32⟩
  | 46 => ⟨S31x512, .f32⟩
  | 47 => ⟨S_, .f32⟩
  | 48 => ⟨S2078x512, .f32⟩
  | 49 => ⟨S2078x512, .f32⟩
  | 50 => ⟨S2048x512, .f32⟩
  | 51 => ⟨S_, .f32⟩
  | 52 => ⟨S512, .f32⟩
  | 53 => ⟨S1x512, .f32⟩
  | 54 => ⟨S2048x512, .f32⟩
  | 55 => ⟨S2048x512, .f32⟩
  | 56 => ⟨S_, .f32⟩
  | 57 => ⟨S31x512, .f32⟩
  | 58 => ⟨S31x512, .f32⟩
  | 59 => ⟨S_, .f32⟩
  | 60 => ⟨S2078x512, .f32⟩
  | 61 => ⟨S2078x512, .f32⟩
  | 62 => ⟨S2048x512, .f32⟩
  | 63 => ⟨S_, .f32⟩
  | 64 => ⟨S512, .f32⟩
  | 65 => ⟨S1x512, .f32⟩
  | 66 => ⟨S2048x512, .f32⟩
  | 67 => ⟨S2048x512, .f32⟩
  | 68 => ⟨S_, .f32⟩
  | 69 => ⟨S31x512, .f32⟩
  | 70 => ⟨S31x512, .f32⟩
  | 71 => ⟨S_, .f32⟩
  | 72 => ⟨S2078x512, .f32⟩
  | 73 => ⟨S2078x512, .f32⟩
  | 74 => ⟨S2048x512, .f32⟩
  | 75 => ⟨S_, .f32⟩
  | 76 => ⟨S512, .f32⟩
  | 77 => ⟨S1x512, .f32⟩
  | 78 => ⟨S2048x512, .f32⟩
  | 79 => ⟨S2048x512, .f32⟩
  | 80 => ⟨S_, .f32⟩
  | 81 => ⟨S31x512, .f32⟩
  | 82 => ⟨S31x512, .f32⟩
  | 83 => ⟨S_, .f32⟩
  | 84 => ⟨S2078x512, .f32⟩
  | 85 => ⟨S2078x512, .f32⟩
  | 86 => ⟨S2048x512, .f32⟩
  | 87 => ⟨S_, .f32⟩
  | 88 => ⟨S512, .f32⟩
  | 89 => ⟨S1x512, .f32⟩
  | 90 => ⟨S2048x512, .f32⟩
  | 91 => ⟨S2048x512, .f32⟩
  | 92 => ⟨S_, .f32⟩
  | 93 => ⟨S31x512, .f32⟩
  | 94 => ⟨S31x512, .f32⟩
  | 95 => ⟨S_, .f32⟩
  | 96 => ⟨S2078x512, .f32⟩
  | 97 => ⟨S2078x512, .f32⟩
  | 98 => ⟨S2048x512, .f32⟩
  | 99 => ⟨S_, .f32⟩
  | 100 => ⟨S512, .f32⟩
  | 101 => ⟨S1x512, .f32⟩
  | 102 => ⟨S2048x512, .f32⟩
  | 103 => ⟨S2048x512, .f32⟩
  | 104 => ⟨S_, .f32⟩
  | 105 => ⟨S31x512, .f32⟩
  | 106 => ⟨S31x512, .f32⟩
  | 107 => ⟨S_, .f32⟩
  | 108 => ⟨S2078x512, .f32⟩
  | 109 => ⟨S2078x512, .f32⟩
  | 110 => ⟨S2048x512, .f32⟩
  | 111 => ⟨S_, .f32⟩
  | 112 => ⟨S512, .f32⟩
  | 113 => ⟨S1x512, .f32⟩
  | 114 => ⟨S2048x512, .f32⟩
  | 115 => ⟨S2048x512, .f32⟩
  | 116 => ⟨S_, .f32⟩
  | 117 => ⟨S31x512, .f32⟩
  | 118 => ⟨S31x512, .f32⟩
  | 119 => ⟨S_, .f32⟩
  | 120 => ⟨S2078x512, .f32⟩
  | 121 => ⟨S2078x512, .f32⟩
  | 122 => ⟨S2048x512, .f32⟩
  | 123 => ⟨S_, .f32⟩
  | 124 => ⟨S512, .f32⟩
  | 125 => ⟨S1x512, .f32⟩
  | 126 => ⟨S2048x512, .f32⟩
  | 127 => ⟨S2048x512, .f32⟩
  | _ => ⟨S2048x2560, .f32⟩

abbrev hbmTy0_3 (i : Nat) : BufTy := match i % 128 with
  | 0 => ⟨S_, .f32⟩
  | 1 => ⟨S31x512, .f32⟩
  | 2 => ⟨S31x512, .f32⟩
  | 3 => ⟨S_, .f32⟩
  | 4 => ⟨S2078x512, .f32⟩
  | 5 => ⟨S2078x512, .f32⟩
  | 6 => ⟨S2048x512, .f32⟩
  | 7 => ⟨S_, .f32⟩
  | 8 => ⟨S512, .f32⟩
  | 9 => ⟨S1x512, .f32⟩
  | 10 => ⟨S2048x512, .f32⟩
  | 11 => ⟨S2048x512, .f32⟩
  | 12 => ⟨S_, .f32⟩
  | 13 => ⟨S31x512, .f32⟩
  | 14 => ⟨S31x512, .f32⟩
  | 15 => ⟨S_, .f32⟩
  | 16 => ⟨S2078x512, .f32⟩
  | 17 => ⟨S2078x512, .f32⟩
  | 18 => ⟨S2048x512, .f32⟩
  | 19 => ⟨S_, .f32⟩
  | 20 => ⟨S512, .f32⟩
  | 21 => ⟨S1x512, .f32⟩
  | 22 => ⟨S2048x512, .f32⟩
  | 23 => ⟨S2048x512, .f32⟩
  | 24 => ⟨S_, .f32⟩
  | 25 => ⟨S31x512, .f32⟩
  | 26 => ⟨S31x512, .f32⟩
  | 27 => ⟨S_, .f32⟩
  | 28 => ⟨S2078x512, .f32⟩
  | 29 => ⟨S2078x512, .f32⟩
  | 30 => ⟨S2048x512, .f32⟩
  | 31 => ⟨S_, .f32⟩
  | 32 => ⟨S512, .f32⟩
  | 33 => ⟨S1x512, .f32⟩
  | 34 => ⟨S2048x512, .f32⟩
  | 35 => ⟨S2048x512, .f32⟩
  | 36 => ⟨S_, .f32⟩
  | 37 => ⟨S31x512, .f32⟩
  | 38 => ⟨S31x512, .f32⟩
  | 39 => ⟨S_, .f32⟩
  | 40 => ⟨S2078x512, .f32⟩
  | 41 => ⟨S2078x512, .f32⟩
  | 42 => ⟨S2048x512, .f32⟩
  | 43 => ⟨S_, .f32⟩
  | 44 => ⟨S512, .f32⟩
  | 45 => ⟨S1x512, .f32⟩
  | 46 => ⟨S2048x512, .f32⟩
  | 47 => ⟨S2048x512, .f32⟩
  | 48 => ⟨S_, .f32⟩
  | 49 => ⟨S31x512, .f32⟩
  | 50 => ⟨S31x512, .f32⟩
  | 51 => ⟨S_, .f32⟩
  | 52 => ⟨S2078x512, .f32⟩
  | 53 => ⟨S2078x512, .f32⟩
  | 54 => ⟨S2048x512, .f32⟩
  | 55 => ⟨S_, .f32⟩
  | 56 => ⟨S512, .f32⟩
  | 57 => ⟨S1x512, .f32⟩
  | 58 => ⟨S2048x512, .f32⟩
  | 59 => ⟨S2048x512, .f32⟩
  | 60 => ⟨S_, .f32⟩
  | 61 => ⟨S31x512, .f32⟩
  | 62 => ⟨S31x512, .f32⟩
  | 63 => ⟨S_, .f32⟩
  | 64 => ⟨S2078x512, .f32⟩
  | 65 => ⟨S2078x512, .f32⟩
  | 66 => ⟨S2048x512, .f32⟩
  | 67 => ⟨S_, .f32⟩
  | 68 => ⟨S512, .f32⟩
  | 69 => ⟨S1x512, .f32⟩
  | 70 => ⟨S2048x512, .f32⟩
  | 71 => ⟨S2048x512, .f32⟩
  | 72 => ⟨S_, .f32⟩
  | 73 => ⟨S31x512, .f32⟩
  | 74 => ⟨S31x512, .f32⟩
  | 75 => ⟨S_, .f32⟩
  | 76 => ⟨S2078x512, .f32⟩
  | 77 => ⟨S2078x512, .f32⟩
  | 78 => ⟨S2048x512, .f32⟩
  | 79 => ⟨S_, .f32⟩
  | 80 => ⟨S512, .f32⟩
  | 81 => ⟨S1x512, .f32⟩
  | 82 => ⟨S2048x512, .f32⟩
  | 83 => ⟨S2048x512, .f32⟩
  | 84 => ⟨S_, .f32⟩
  | 85 => ⟨S31x512, .f32⟩
  | 86 => ⟨S31x512, .f32⟩
  | 87 => ⟨S_, .f32⟩
  | 88 => ⟨S2078x512, .f32⟩
  | 89 => ⟨S2078x512, .f32⟩
  | 90 => ⟨S2048x512, .f32⟩
  | 91 => ⟨S_, .f32⟩
  | 92 => ⟨S512, .f32⟩
  | 93 => ⟨S1x512, .f32⟩
  | 94 => ⟨S2048x512, .f32⟩
  | 95 => ⟨S2048x512, .f32⟩
  | 96 => ⟨S_, .f32⟩
  | 97 => ⟨S31x512, .f32⟩
  | 98 => ⟨S31x512, .f32⟩
  | 99 => ⟨S_, .f32⟩
  | 100 => ⟨S2078x512, .f32⟩
  | 101 => ⟨S2078x512, .f32⟩
  | 102 => ⟨S2048x512, .f32⟩
  | 103 => ⟨S_, .f32⟩
  | 104 => ⟨S512, .f32⟩
  | 105 => ⟨S1x512, .f32⟩
  | 106 => ⟨S2048x512, .f32⟩
  | 107 => ⟨S2048x512, .f32⟩
  | 108 => ⟨S_, .f32⟩
  | 109 => ⟨S31x512, .f32⟩
  | 110 => ⟨S31x512, .f32⟩
  | 111 => ⟨S_, .f32⟩
  | 112 => ⟨S2078x512, .f32⟩
  | 113 => ⟨S2078x512, .f32⟩
  | 114 => ⟨S2048x512, .f32⟩
  | 115 => ⟨S_, .f32⟩
  | 116 => ⟨S512, .f32⟩
  | 117 => ⟨S1x512, .f32⟩
  | 118 => ⟨S2048x512, .f32⟩
  | 119 => ⟨S2048x512, .f32⟩
  | 120 => ⟨S_, .f32⟩
  | 121 => ⟨S31x512, .f32⟩
  | 122 => ⟨S31x512, .f32⟩
  | 123 => ⟨S_, .f32⟩
  | 124 => ⟨S2078x512, .f32⟩
  | 125 => ⟨S2078x512, .f32⟩
  | 126 => ⟨S2048x512, .f32⟩
  | 127 => ⟨S_, .f32⟩
  | _ => ⟨S2048x2560, .f32⟩

abbrev hbmTy0_4 (i : Nat) : BufTy := match i % 128 with
  | 0 => ⟨S512, .f32⟩
  | 1 => ⟨S1x512, .f32⟩
  | 2 => ⟨S2048x512, .f32⟩
  | 3 => ⟨S2048x512, .f32⟩
  | 4 => ⟨S_, .f32⟩
  | 5 => ⟨S31x512, .f32⟩
  | 6 => ⟨S31x512, .f32⟩
  | 7 => ⟨S_, .f32⟩
  | 8 => ⟨S2078x512, .f32⟩
  | 9 => ⟨S2078x512, .f32⟩
  | 10 => ⟨S2048x512, .f32⟩
  | 11 => ⟨S_, .f32⟩
  | 12 => ⟨S512, .f32⟩
  | 13 => ⟨S1x512, .f32⟩
  | 14 => ⟨S2048x512, .f32⟩
  | 15 => ⟨S2048x512, .f32⟩
  | 16 => ⟨S_, .f32⟩
  | 17 => ⟨S31x512, .f32⟩
  | 18 => ⟨S31x512, .f32⟩
  | 19 => ⟨S_, .f32⟩
  | 20 => ⟨S2078x512, .f32⟩
  | 21 => ⟨S2078x512, .f32⟩
  | 22 => ⟨S2048x512, .f32⟩
  | 23 => ⟨S_, .f32⟩
  | 24 => ⟨S512, .f32⟩
  | 25 => ⟨S1x512, .f32⟩
  | 26 => ⟨S2048x512, .f32⟩
  | 27 => ⟨S2048x512, .f32⟩
  | 28 => ⟨S_, .f32⟩
  | 29 => ⟨S31x512, .f32⟩
  | 30 => ⟨S31x512, .f32⟩
  | 31 => ⟨S_, .f32⟩
  | 32 => ⟨S2078x512, .f32⟩
  | 33 => ⟨S2078x512, .f32⟩
  | 34 => ⟨S2048x512, .f32⟩
  | 35 => ⟨S_, .f32⟩
  | 36 => ⟨S512, .f32⟩
  | 37 => ⟨S1x512, .f32⟩
  | 38 => ⟨S2048x512, .f32⟩
  | 39 => ⟨S2048x512, .f32⟩
  | 40 => ⟨S_, .f32⟩
  | 41 => ⟨S31x512, .f32⟩
  | 42 => ⟨S31x512, .f32⟩
  | 43 => ⟨S_, .f32⟩
  | 44 => ⟨S2078x512, .f32⟩
  | 45 => ⟨S2078x512, .f32⟩
  | 46 => ⟨S30x512, .f32⟩
  | 47 => ⟨S2048x512, .f32⟩
  | 48 => ⟨S2048x512, .f32⟩
  | 49 => ⟨S2048x512, .f32⟩
  | 50 => ⟨S2048x512, .f32⟩
  | 51 => ⟨S2048x512, .bf16⟩
  | 52 => ⟨S2048x512, .bf16⟩
  | _ => ⟨S2048x2560, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2048x2560, .f32⟩

abbrev bufTy : (tb : Table) → Fin (tcTables nBuf tb) → BufTy
  | .hbm, ⟨i, _⟩ => hbmTy i
  | _, _ => ⟨S2048x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_cst_6 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_cst_7 : Ref sig .tc := ⟨.hbm, 189, rfl⟩
abbrev main_v178 : Ref sig .tc := ⟨.hbm, 190, rfl⟩
abbrev main_v179 : Ref sig .tc := ⟨.hbm, 191, rfl⟩
abbrev main_v180 : Ref sig .tc := ⟨.hbm, 192, rfl⟩
abbrev main_v181 : Ref sig .tc := ⟨.hbm, 193, rfl⟩
abbrev main_cst_8 : Ref sig .tc := ⟨.hbm, 194, rfl⟩
abbrev main_v182 : Ref sig .tc := ⟨.hbm, 195, rfl⟩
abbrev main_cst_9 : Ref sig .tc := ⟨.hbm, 196, rfl⟩
abbrev main_v183 : Ref sig .tc := ⟨.hbm, 197, rfl⟩
abbrev main_v184 : Ref sig .tc := ⟨.hbm, 198, rfl⟩
abbrev main_cst_10 : Ref sig .tc := ⟨.hbm, 199, rfl⟩
abbrev main_v185 : Ref sig .tc := ⟨.hbm, 200, rfl⟩
abbrev main_v186 : Ref sig .tc := ⟨.hbm, 201, rfl⟩
abbrev main_v187 : Ref sig .tc := ⟨.hbm, 202, rfl⟩
abbrev main_v188 : Ref sig .tc := ⟨.hbm, 203, rfl⟩
abbrev main_cst_11 : Ref sig .tc := ⟨.hbm, 204, rfl⟩
abbrev main_v189 : Ref sig .tc := ⟨.hbm, 205, rfl⟩
abbrev main_v190 : Ref sig .tc := ⟨.hbm, 206, rfl⟩
abbrev main_cst_12 : Ref sig .tc := ⟨.hbm, 207, rfl⟩
abbrev main_v191 : Ref sig .tc := ⟨.hbm, 208, rfl⟩
abbrev main_v192 : Ref sig .tc := ⟨.hbm, 209, rfl⟩
abbrev main_v193 : Ref sig .tc := ⟨.hbm, 210, rfl⟩
abbrev main_cst_13 : Ref sig .tc := ⟨.hbm, 211, rfl⟩
abbrev main_v194 : Ref sig .tc := ⟨.hbm, 212, rfl⟩
abbrev main_v195 : Ref sig .tc := ⟨.hbm, 213, rfl⟩
abbrev main_v196 : Ref sig .tc := ⟨.hbm, 214, rfl⟩
abbrev main_v197 : Ref sig .tc := ⟨.hbm, 215, rfl⟩
abbrev main_cst_14 : Ref sig .tc := ⟨.hbm, 216, rfl⟩
abbrev main_v198 : Ref sig .tc := ⟨.hbm, 217, rfl⟩
abbrev main_v199 : Ref sig .tc := ⟨.hbm, 218, rfl⟩
abbrev main_cst_15 : Ref sig .tc := ⟨.hbm, 219, rfl⟩
abbrev main_v200 : Ref sig .tc := ⟨.hbm, 220, rfl⟩
abbrev main_v201 : Ref sig .tc := ⟨.hbm, 221, rfl⟩
abbrev main_v202 : Ref sig .tc := ⟨.hbm, 222, rfl⟩
abbrev main_cst_16 : Ref sig .tc := ⟨.hbm, 223, rfl⟩
abbrev main_v203 : Ref sig .tc := ⟨.hbm, 224, rfl⟩
abbrev main_v204 : Ref sig .tc := ⟨.hbm, 225, rfl⟩
abbrev main_v205 : Ref sig .tc := ⟨.hbm, 226, rfl⟩
abbrev main_v206 : Ref sig .tc := ⟨.hbm, 227, rfl⟩
abbrev main_cst_17 : Ref sig .tc := ⟨.hbm, 228, rfl⟩
abbrev main_v207 : Ref sig .tc := ⟨.hbm, 229, rfl⟩
abbrev main_v208 : Ref sig .tc := ⟨.hbm, 230, rfl⟩
abbrev main_cst_18 : Ref sig .tc := ⟨.hbm, 231, rfl⟩
abbrev main_v209 : Ref sig .tc := ⟨.hbm, 232, rfl⟩
abbrev main_v210 : Ref sig .tc := ⟨.hbm, 233, rfl⟩
abbrev main_v211 : Ref sig .tc := ⟨.hbm, 234, rfl⟩
abbrev main_cst_19 : Ref sig .tc := ⟨.hbm, 235, rfl⟩
abbrev main_v212 : Ref sig .tc := ⟨.hbm, 236, rfl⟩
abbrev main_v213 : Ref sig .tc := ⟨.hbm, 237, rfl⟩
abbrev main_v214 : Ref sig .tc := ⟨.hbm, 238, rfl⟩
abbrev main_v215 : Ref sig .tc := ⟨.hbm, 239, rfl⟩
abbrev main_cst_20 : Ref sig .tc := ⟨.hbm, 240, rfl⟩
abbrev main_v216 : Ref sig .tc := ⟨.hbm, 241, rfl⟩
abbrev main_v217 : Ref sig .tc := ⟨.hbm, 242, rfl⟩
abbrev main_cst_21 : Ref sig .tc := ⟨.hbm, 243, rfl⟩
abbrev main_v218 : Ref sig .tc := ⟨.hbm, 244, rfl⟩
abbrev main_v219 : Ref sig .tc := ⟨.hbm, 245, rfl⟩
abbrev main_v220 : Ref sig .tc := ⟨.hbm, 246, rfl⟩
abbrev main_cst_22 : Ref sig .tc := ⟨.hbm, 247, rfl⟩
abbrev main_v221 : Ref sig .tc := ⟨.hbm, 248, rfl⟩
abbrev main_v222 : Ref sig .tc := ⟨.hbm, 249, rfl⟩
abbrev main_v223 : Ref sig .tc := ⟨.hbm, 250, rfl⟩
abbrev main_v224 : Ref sig .tc := ⟨.hbm, 251, rfl⟩
abbrev main_cst_23 : Ref sig .tc := ⟨.hbm, 252, rfl⟩
abbrev main_v225 : Ref sig .tc := ⟨.hbm, 253, rfl⟩
abbrev main_v226 : Ref sig .tc := ⟨.hbm, 254, rfl⟩
abbrev main_cst_24 : Ref sig .tc := ⟨.hbm, 255, rfl⟩
abbrev main_v227 : Ref sig .tc := ⟨.hbm, 256, rfl⟩
abbrev main_v228 : Ref sig .tc := ⟨.hbm, 257, rfl⟩
abbrev main_v229 : Ref sig .tc := ⟨.hbm, 258, rfl⟩
abbrev main_cst_25 : Ref sig .tc := ⟨.hbm, 259, rfl⟩
abbrev main_v230 : Ref sig .tc := ⟨.hbm, 260, rfl⟩
abbrev main_v231 : Ref sig .tc := ⟨.hbm, 261, rfl⟩
abbrev main_v232 : Ref sig .tc := ⟨.hbm, 262, rfl⟩
abbrev main_v233 : Ref sig .tc := ⟨.hbm, 263, rfl⟩
abbrev main_cst_26 : Ref sig .tc := ⟨.hbm, 264, rfl⟩
abbrev main_v234 : Ref sig .tc := ⟨.hbm, 265, rfl⟩
abbrev main_v235 : Ref sig .tc := ⟨.hbm, 266, rfl⟩
abbrev main_cst_27 : Ref sig .tc := ⟨.hbm, 267, rfl⟩
abbrev main_v236 : Ref sig .tc := ⟨.hbm, 268, rfl⟩
abbrev main_v237 : Ref sig .tc := ⟨.hbm, 269, rfl⟩
abbrev main_v238 : Ref sig .tc := ⟨.hbm, 270, rfl⟩
abbrev main_cst_28 : Ref sig .tc := ⟨.hbm, 271, rfl⟩
abbrev main_v239 : Ref sig .tc := ⟨.hbm, 272, rfl⟩
abbrev main_v240 : Ref sig .tc := ⟨.hbm, 273, rfl⟩
abbrev main_v241 : Ref sig .tc := ⟨.hbm, 274, rfl⟩
abbrev main_v242 : Ref sig .tc := ⟨.hbm, 275, rfl⟩
abbrev main_cst_29 : Ref sig .tc := ⟨.hbm, 276, rfl⟩
abbrev main_v243 : Ref sig .tc := ⟨.hbm, 277, rfl⟩
abbrev main_v244 : Ref sig .tc := ⟨.hbm, 278, rfl⟩
abbrev main_cst_30 : Ref sig .tc := ⟨.hbm, 279, rfl⟩
abbrev main_v245 : Ref sig .tc := ⟨.hbm, 280, rfl⟩
abbrev main_v246 : Ref sig .tc := ⟨.hbm, 281, rfl⟩
abbrev main_v247 : Ref sig .tc := ⟨.hbm, 282, rfl⟩
abbrev main_cst_31 : Ref sig .tc := ⟨.hbm, 283, rfl⟩
abbrev main_v248 : Ref sig .tc := ⟨.hbm, 284, rfl⟩
abbrev main_v249 : Ref sig .tc := ⟨.hbm, 285, rfl⟩
abbrev main_v250 : Ref sig .tc := ⟨.hbm, 286, rfl⟩
abbrev main_v251 : Ref sig .tc := ⟨.hbm, 287, rfl⟩
abbrev main_cst_32 : Ref sig .tc := ⟨.hbm, 288, rfl⟩
abbrev main_v252 : Ref sig .tc := ⟨.hbm, 289, rfl⟩
abbrev main_v253 : Ref sig .tc := ⟨.hbm, 290, rfl⟩
abbrev main_cst_33 : Ref sig .tc := ⟨.hbm, 291, rfl⟩
abbrev main_v254 : Ref sig .tc := ⟨.hbm, 292, rfl⟩
abbrev main_v255 : Ref sig .tc := ⟨.hbm, 293, rfl⟩
abbrev main_v256 : Ref sig .tc := ⟨.hbm, 294, rfl⟩
abbrev main_cst_34 : Ref sig .tc := ⟨.hbm, 295, rfl⟩
abbrev main_v257 : Ref sig .tc := ⟨.hbm, 296, rfl⟩
abbrev main_v258 : Ref sig .tc := ⟨.hbm, 297, rfl⟩
abbrev main_v259 : Ref sig .tc := ⟨.hbm, 298, rfl⟩
abbrev main_v260 : Ref sig .tc := ⟨.hbm, 299, rfl⟩
abbrev main_cst_35 : Ref sig .tc := ⟨.hbm, 300, rfl⟩
abbrev main_v261 : Ref sig .tc := ⟨.hbm, 301, rfl⟩
abbrev main_v262 : Ref sig .tc := ⟨.hbm, 302, rfl⟩
abbrev main_cst_36 : Ref sig .tc := ⟨.hbm, 303, rfl⟩
abbrev main_v263 : Ref sig .tc := ⟨.hbm, 304, rfl⟩
abbrev main_v264 : Ref sig .tc := ⟨.hbm, 305, rfl⟩
abbrev main_v265 : Ref sig .tc := ⟨.hbm, 306, rfl⟩
abbrev main_cst_37 : Ref sig .tc := ⟨.hbm, 307, rfl⟩
abbrev main_v266 : Ref sig .tc := ⟨.hbm, 308, rfl⟩
abbrev main_v267 : Ref sig .tc := ⟨.hbm, 309, rfl⟩
abbrev main_v268 : Ref sig .tc := ⟨.hbm, 310, rfl⟩
abbrev main_v269 : Ref sig .tc := ⟨.hbm, 311, rfl⟩
abbrev main_cst_38 : Ref sig .tc := ⟨.hbm, 312, rfl⟩
abbrev main_v270 : Ref sig .tc := ⟨.hbm, 313, rfl⟩
abbrev main_v271 : Ref sig .tc := ⟨.hbm, 314, rfl⟩
abbrev main_cst_39 : Ref sig .tc := ⟨.hbm, 315, rfl⟩
abbrev main_v272 : Ref sig .tc := ⟨.hbm, 316, rfl⟩
abbrev main_v273 : Ref sig .tc := ⟨.hbm, 317, rfl⟩
abbrev main_v274 : Ref sig .tc := ⟨.hbm, 318, rfl⟩
abbrev main_cst_40 : Ref sig .tc := ⟨.hbm, 319, rfl⟩
abbrev main_v275 : Ref sig .tc := ⟨.hbm, 320, rfl⟩
abbrev main_v276 : Ref sig .tc := ⟨.hbm, 321, rfl⟩
abbrev main_v277 : Ref sig .tc := ⟨.hbm, 322, rfl⟩
abbrev main_v278 : Ref sig .tc := ⟨.hbm, 323, rfl⟩
abbrev main_cst_41 : Ref sig .tc := ⟨.hbm, 324, rfl⟩
abbrev main_v279 : Ref sig .tc := ⟨.hbm, 325, rfl⟩
abbrev main_v280 : Ref sig .tc := ⟨.hbm, 326, rfl⟩
abbrev main_cst_42 : Ref sig .tc := ⟨.hbm, 327, rfl⟩
abbrev main_v281 : Ref sig .tc := ⟨.hbm, 328, rfl⟩
abbrev main_v282 : Ref sig .tc := ⟨.hbm, 329, rfl⟩
abbrev main_v283 : Ref sig .tc := ⟨.hbm, 330, rfl⟩
abbrev main_cst_43 : Ref sig .tc := ⟨.hbm, 331, rfl⟩
abbrev main_v284 : Ref sig .tc := ⟨.hbm, 332, rfl⟩
abbrev main_v285 : Ref sig .tc := ⟨.hbm, 333, rfl⟩
abbrev main_v286 : Ref sig .tc := ⟨.hbm, 334, rfl⟩
abbrev main_v287 : Ref sig .tc := ⟨.hbm, 335, rfl⟩
abbrev main_cst_44 : Ref sig .tc := ⟨.hbm, 336, rfl⟩
abbrev main_v288 : Ref sig .tc := ⟨.hbm, 337, rfl⟩
abbrev main_v289 : Ref sig .tc := ⟨.hbm, 338, rfl⟩
abbrev main_cst_45 : Ref sig .tc := ⟨.hbm, 339, rfl⟩
abbrev main_v290 : Ref sig .tc := ⟨.hbm, 340, rfl⟩
abbrev main_v291 : Ref sig .tc := ⟨.hbm, 341, rfl⟩
abbrev main_v292 : Ref sig .tc := ⟨.hbm, 342, rfl⟩
abbrev main_cst_46 : Ref sig .tc := ⟨.hbm, 343, rfl⟩
abbrev main_v293 : Ref sig .tc := ⟨.hbm, 344, rfl⟩
abbrev main_v294 : Ref sig .tc := ⟨.hbm, 345, rfl⟩
abbrev main_v295 : Ref sig .tc := ⟨.hbm, 346, rfl⟩
abbrev main_v296 : Ref sig .tc := ⟨.hbm, 347, rfl⟩
abbrev main_cst_47 : Ref sig .tc := ⟨.hbm, 348, rfl⟩
abbrev main_v297 : Ref sig .tc := ⟨.hbm, 349, rfl⟩
abbrev main_v298 : Ref sig .tc := ⟨.hbm, 350, rfl⟩
abbrev main_cst_48 : Ref sig .tc := ⟨.hbm, 351, rfl⟩
abbrev main_v299 : Ref sig .tc := ⟨.hbm, 352, rfl⟩
abbrev main_v300 : Ref sig .tc := ⟨.hbm, 353, rfl⟩
abbrev main_v301 : Ref sig .tc := ⟨.hbm, 354, rfl⟩
abbrev main_cst_49 : Ref sig .tc := ⟨.hbm, 355, rfl⟩
abbrev main_v302 : Ref sig .tc := ⟨.hbm, 356, rfl⟩
abbrev main_v303 : Ref sig .tc := ⟨.hbm, 357, rfl⟩
abbrev main_v304 : Ref sig .tc := ⟨.hbm, 358, rfl⟩
abbrev main_v305 : Ref sig .tc := ⟨.hbm, 359, rfl⟩
abbrev main_cst_50 : Ref sig .tc := ⟨.hbm, 360, rfl⟩
abbrev main_v306 : Ref sig .tc := ⟨.hbm, 361, rfl⟩
abbrev main_v307 : Ref sig .tc := ⟨.hbm, 362, rfl⟩
abbrev main_cst_51 : Ref sig .tc := ⟨.hbm, 363, rfl⟩
abbrev main_v308 : Ref sig .tc := ⟨.hbm, 364, rfl⟩
abbrev main_v309 : Ref sig .tc := ⟨.hbm, 365, rfl⟩
abbrev main_v310 : Ref sig .tc := ⟨.hbm, 366, rfl⟩
abbrev main_cst_52 : Ref sig .tc := ⟨.hbm, 367, rfl⟩
abbrev main_v311 : Ref sig .tc := ⟨.hbm, 368, rfl⟩
abbrev main_v312 : Ref sig .tc := ⟨.hbm, 369, rfl⟩
abbrev main_v313 : Ref sig .tc := ⟨.hbm, 370, rfl⟩
abbrev main_v314 : Ref sig .tc := ⟨.hbm, 371, rfl⟩
abbrev main_cst_53 : Ref sig .tc := ⟨.hbm, 372, rfl⟩
abbrev main_v315 : Ref sig .tc := ⟨.hbm, 373, rfl⟩
abbrev main_v316 : Ref sig .tc := ⟨.hbm, 374, rfl⟩
abbrev main_cst_54 : Ref sig .tc := ⟨.hbm, 375, rfl⟩
abbrev main_v317 : Ref sig .tc := ⟨.hbm, 376, rfl⟩
abbrev main_v318 : Ref sig .tc := ⟨.hbm, 377, rfl⟩
abbrev main_v319 : Ref sig .tc := ⟨.hbm, 378, rfl⟩
abbrev main_cst_55 : Ref sig .tc := ⟨.hbm, 379, rfl⟩
abbrev main_v320 : Ref sig .tc := ⟨.hbm, 380, rfl⟩
abbrev main_v321 : Ref sig .tc := ⟨.hbm, 381, rfl⟩
abbrev main_v322 : Ref sig .tc := ⟨.hbm, 382, rfl⟩
abbrev main_v323 : Ref sig .tc := ⟨.hbm, 383, rfl⟩
abbrev main_cst_56 : Ref sig .tc := ⟨.hbm, 384, rfl⟩
abbrev main_v324 : Ref sig .tc := ⟨.hbm, 385, rfl⟩
abbrev main_v325 : Ref sig .tc := ⟨.hbm, 386, rfl⟩
abbrev main_cst_57 : Ref sig .tc := ⟨.hbm, 387, rfl⟩
abbrev main_v326 : Ref sig .tc := ⟨.hbm, 388, rfl⟩
abbrev main_v327 : Ref sig .tc := ⟨.hbm, 389, rfl⟩
abbrev main_v328 : Ref sig .tc := ⟨.hbm, 390, rfl⟩
abbrev main_cst_58 : Ref sig .tc := ⟨.hbm, 391, rfl⟩
abbrev main_v329 : Ref sig .tc := ⟨.hbm, 392, rfl⟩
abbrev main_v330 : Ref sig .tc := ⟨.hbm, 393, rfl⟩
abbrev main_v331 : Ref sig .tc := ⟨.hbm, 394, rfl⟩
abbrev main_v332 : Ref sig .tc := ⟨.hbm, 395, rfl⟩
abbrev main_cst_59 : Ref sig .tc := ⟨.hbm, 396, rfl⟩
abbrev main_v333 : Ref sig .tc := ⟨.hbm, 397, rfl⟩
abbrev main_v334 : Ref sig .tc := ⟨.hbm, 398, rfl⟩
abbrev main_cst_60 : Ref sig .tc := ⟨.hbm, 399, rfl⟩
abbrev main_v335 : Ref sig .tc := ⟨.hbm, 400, rfl⟩
abbrev main_v336 : Ref sig .tc := ⟨.hbm, 401, rfl⟩
abbrev main_v337 : Ref sig .tc := ⟨.hbm, 402, rfl⟩
abbrev main_cst_61 : Ref sig .tc := ⟨.hbm, 403, rfl⟩
abbrev main_v338 : Ref sig .tc := ⟨.hbm, 404, rfl⟩
abbrev main_v339 : Ref sig .tc := ⟨.hbm, 405, rfl⟩
abbrev main_v340 : Ref sig .tc := ⟨.hbm, 406, rfl⟩
abbrev main_v341 : Ref sig .tc := ⟨.hbm, 407, rfl⟩
abbrev main_cst_62 : Ref sig .tc := ⟨.hbm, 408, rfl⟩
abbrev main_v342 : Ref sig .tc := ⟨.hbm, 409, rfl⟩
abbrev main_v343 : Ref sig .tc := ⟨.hbm, 410, rfl⟩
abbrev main_cst_63 : Ref sig .tc := ⟨.hbm, 411, rfl⟩
abbrev main_v344 : Ref sig .tc := ⟨.hbm, 412, rfl⟩
abbrev main_v345 : Ref sig .tc := ⟨.hbm, 413, rfl⟩
abbrev main_v346 : Ref sig .tc := ⟨.hbm, 414, rfl⟩
abbrev main_cst_64 : Ref sig .tc := ⟨.hbm, 415, rfl⟩
abbrev main_v347 : Ref sig .tc := ⟨.hbm, 416, rfl⟩
abbrev main_v348 : Ref sig .tc := ⟨.hbm, 417, rfl⟩
abbrev main_v349 : Ref sig .tc := ⟨.hbm, 418, rfl⟩
abbrev main_v350 : Ref sig .tc := ⟨.hbm, 419, rfl⟩
abbrev main_cst_65 : Ref sig .tc := ⟨.hbm, 420, rfl⟩
abbrev main_v351 : Ref sig .tc := ⟨.hbm, 421, rfl⟩
abbrev main_v352 : Ref sig .tc := ⟨.hbm, 422, rfl⟩
abbrev main_cst_66 : Ref sig .tc := ⟨.hbm, 423, rfl⟩
abbrev main_v353 : Ref sig .tc := ⟨.hbm, 424, rfl⟩
abbrev main_v354 : Ref sig .tc := ⟨.hbm, 425, rfl⟩
abbrev main_v355 : Ref sig .tc := ⟨.hbm, 426, rfl⟩
abbrev main_cst_67 : Ref sig .tc := ⟨.hbm, 427, rfl⟩
abbrev main_v356 : Ref sig .tc := ⟨.hbm, 428, rfl⟩
abbrev main_v357 : Ref sig .tc := ⟨.hbm, 429, rfl⟩
abbrev main_v358 : Ref sig .tc := ⟨.hbm, 430, rfl⟩
abbrev main_v359 : Ref sig .tc := ⟨.hbm, 431, rfl⟩
abbrev main_cst_68 : Ref sig .tc := ⟨.hbm, 432, rfl⟩
abbrev main_v360 : Ref sig .tc := ⟨.hbm, 433, rfl⟩
abbrev main_v361 : Ref sig .tc := ⟨.hbm, 434, rfl⟩
abbrev main_cst_69 : Ref sig .tc := ⟨.hbm, 435, rfl⟩
abbrev main_v362 : Ref sig .tc := ⟨.hbm, 436, rfl⟩
abbrev main_v363 : Ref sig .tc := ⟨.hbm, 437, rfl⟩
abbrev main_v364 : Ref sig .tc := ⟨.hbm, 438, rfl⟩
abbrev main_cst_70 : Ref sig .tc := ⟨.hbm, 439, rfl⟩
abbrev main_v365 : Ref sig .tc := ⟨.hbm, 440, rfl⟩
abbrev main_v366 : Ref sig .tc := ⟨.hbm, 441, rfl⟩
abbrev main_v367 : Ref sig .tc := ⟨.hbm, 442, rfl⟩
abbrev main_v368 : Ref sig .tc := ⟨.hbm, 443, rfl⟩
abbrev main_cst_71 : Ref sig .tc := ⟨.hbm, 444, rfl⟩
abbrev main_v369 : Ref sig .tc := ⟨.hbm, 445, rfl⟩
abbrev main_v370 : Ref sig .tc := ⟨.hbm, 446, rfl⟩
abbrev main_cst_72 : Ref sig .tc := ⟨.hbm, 447, rfl⟩
abbrev main_v371 : Ref sig .tc := ⟨.hbm, 448, rfl⟩
abbrev main_v372 : Ref sig .tc := ⟨.hbm, 449, rfl⟩
abbrev main_v373 : Ref sig .tc := ⟨.hbm, 450, rfl⟩
abbrev main_cst_73 : Ref sig .tc := ⟨.hbm, 451, rfl⟩
abbrev main_v374 : Ref sig .tc := ⟨.hbm, 452, rfl⟩
abbrev main_v375 : Ref sig .tc := ⟨.hbm, 453, rfl⟩
abbrev main_v376 : Ref sig .tc := ⟨.hbm, 454, rfl⟩
abbrev main_v377 : Ref sig .tc := ⟨.hbm, 455, rfl⟩
abbrev main_cst_74 : Ref sig .tc := ⟨.hbm, 456, rfl⟩
abbrev main_v378 : Ref sig .tc := ⟨.hbm, 457, rfl⟩
abbrev main_v379 : Ref sig .tc := ⟨.hbm, 458, rfl⟩
abbrev main_cst_75 : Ref sig .tc := ⟨.hbm, 459, rfl⟩
abbrev main_v380 : Ref sig .tc := ⟨.hbm, 460, rfl⟩
abbrev main_v381 : Ref sig .tc := ⟨.hbm, 461, rfl⟩
abbrev main_v382 : Ref sig .tc := ⟨.hbm, 462, rfl⟩
abbrev main_cst_76 : Ref sig .tc := ⟨.hbm, 463, rfl⟩
abbrev main_v383 : Ref sig .tc := ⟨.hbm, 464, rfl⟩
abbrev main_v384 : Ref sig .tc := ⟨.hbm, 465, rfl⟩
abbrev main_v385 : Ref sig .tc := ⟨.hbm, 466, rfl⟩
abbrev main_v386 : Ref sig .tc := ⟨.hbm, 467, rfl⟩
abbrev main_cst_77 : Ref sig .tc := ⟨.hbm, 468, rfl⟩
abbrev main_v387 : Ref sig .tc := ⟨.hbm, 469, rfl⟩
abbrev main_v388 : Ref sig .tc := ⟨.hbm, 470, rfl⟩
abbrev main_cst_78 : Ref sig .tc := ⟨.hbm, 471, rfl⟩
abbrev main_v389 : Ref sig .tc := ⟨.hbm, 472, rfl⟩
abbrev main_v390 : Ref sig .tc := ⟨.hbm, 473, rfl⟩
abbrev main_v391 : Ref sig .tc := ⟨.hbm, 474, rfl⟩
abbrev main_cst_79 : Ref sig .tc := ⟨.hbm, 475, rfl⟩
abbrev main_v392 : Ref sig .tc := ⟨.hbm, 476, rfl⟩
abbrev main_v393 : Ref sig .tc := ⟨.hbm, 477, rfl⟩
abbrev main_v394 : Ref sig .tc := ⟨.hbm, 478, rfl⟩
abbrev main_v395 : Ref sig .tc := ⟨.hbm, 479, rfl⟩
abbrev main_cst_80 : Ref sig .tc := ⟨.hbm, 480, rfl⟩
abbrev main_v396 : Ref sig .tc := ⟨.hbm, 481, rfl⟩
abbrev main_v397 : Ref sig .tc := ⟨.hbm, 482, rfl⟩
abbrev main_cst_81 : Ref sig .tc := ⟨.hbm, 483, rfl⟩
abbrev main_v398 : Ref sig .tc := ⟨.hbm, 484, rfl⟩
abbrev main_v399 : Ref sig .tc := ⟨.hbm, 485, rfl⟩
abbrev main_v400 : Ref sig .tc := ⟨.hbm, 486, rfl⟩
abbrev main_cst_82 : Ref sig .tc := ⟨.hbm, 487, rfl⟩
abbrev main_v401 : Ref sig .tc := ⟨.hbm, 488, rfl⟩
abbrev main_v402 : Ref sig .tc := ⟨.hbm, 489, rfl⟩
abbrev main_v403 : Ref sig .tc := ⟨.hbm, 490, rfl⟩
abbrev main_v404 : Ref sig .tc := ⟨.hbm, 491, rfl⟩
abbrev main_cst_83 : Ref sig .tc := ⟨.hbm, 492, rfl⟩
abbrev main_v405 : Ref sig .tc := ⟨.hbm, 493, rfl⟩
abbrev main_v406 : Ref sig .tc := ⟨.hbm, 494, rfl⟩
abbrev main_cst_84 : Ref sig .tc := ⟨.hbm, 495, rfl⟩
abbrev main_v407 : Ref sig .tc := ⟨.hbm, 496, rfl⟩
abbrev main_v408 : Ref sig .tc := ⟨.hbm, 497, rfl⟩
abbrev main_v409 : Ref sig .tc := ⟨.hbm, 498, rfl⟩
abbrev main_cst_85 : Ref sig .tc := ⟨.hbm, 499, rfl⟩
abbrev main_v410 : Ref sig .tc := ⟨.hbm, 500, rfl⟩
abbrev main_v411 : Ref sig .tc := ⟨.hbm, 501, rfl⟩
abbrev main_v412 : Ref sig .tc := ⟨.hbm, 502, rfl⟩
abbrev main_v413 : Ref sig .tc := ⟨.hbm, 503, rfl⟩
abbrev main_cst_86 : Ref sig .tc := ⟨.hbm, 504, rfl⟩
abbrev main_v414 : Ref sig .tc := ⟨.hbm, 505, rfl⟩
abbrev main_v415 : Ref sig .tc := ⟨.hbm, 506, rfl⟩
abbrev main_cst_87 : Ref sig .tc := ⟨.hbm, 507, rfl⟩
abbrev main_v416 : Ref sig .tc := ⟨.hbm, 508, rfl⟩
abbrev main_v417 : Ref sig .tc := ⟨.hbm, 509, rfl⟩
abbrev main_v418 : Ref sig .tc := ⟨.hbm, 510, rfl⟩
abbrev main_cst_88 : Ref sig .tc := ⟨.hbm, 511, rfl⟩
abbrev main_v419 : Ref sig .tc := ⟨.hbm, 512, rfl⟩
abbrev main_v420 : Ref sig .tc := ⟨.hbm, 513, rfl⟩
abbrev main_v421 : Ref sig .tc := ⟨.hbm, 514, rfl⟩
abbrev main_v422 : Ref sig .tc := ⟨.hbm, 515, rfl⟩
abbrev main_cst_89 : Ref sig .tc := ⟨.hbm, 516, rfl⟩
abbrev main_v423 : Ref sig .tc := ⟨.hbm, 517, rfl⟩
abbrev main_v424 : Ref sig .tc := ⟨.hbm, 518, rfl⟩
abbrev main_cst_90 : Ref sig .tc := ⟨.hbm, 519, rfl⟩
abbrev main_v425 : Ref sig .tc := ⟨.hbm, 520, rfl⟩
abbrev main_v426 : Ref sig .tc := ⟨.hbm, 521, rfl⟩
abbrev main_v427 : Ref sig .tc := ⟨.hbm, 522, rfl⟩
abbrev main_cst_91 : Ref sig .tc := ⟨.hbm, 523, rfl⟩
abbrev main_v428 : Ref sig .tc := ⟨.hbm, 524, rfl⟩
abbrev main_v429 : Ref sig .tc := ⟨.hbm, 525, rfl⟩
abbrev main_v430 : Ref sig .tc := ⟨.hbm, 526, rfl⟩
abbrev main_v431 : Ref sig .tc := ⟨.hbm, 527, rfl⟩
abbrev main_cst_92 : Ref sig .tc := ⟨.hbm, 528, rfl⟩
abbrev main_v432 : Ref sig .tc := ⟨.hbm, 529, rfl⟩
abbrev main_v433 : Ref sig .tc := ⟨.hbm, 530, rfl⟩
abbrev main_cst_93 : Ref sig .tc := ⟨.hbm, 531, rfl⟩
abbrev main_v434 : Ref sig .tc := ⟨.hbm, 532, rfl⟩
abbrev main_v435 : Ref sig .tc := ⟨.hbm, 533, rfl⟩
abbrev main_v436 : Ref sig .tc := ⟨.hbm, 534, rfl⟩
abbrev main_cst_94 : Ref sig .tc := ⟨.hbm, 535, rfl⟩
abbrev main_v437 : Ref sig .tc := ⟨.hbm, 536, rfl⟩
abbrev main_v438 : Ref sig .tc := ⟨.hbm, 537, rfl⟩
abbrev main_v439 : Ref sig .tc := ⟨.hbm, 538, rfl⟩
abbrev main_v440 : Ref sig .tc := ⟨.hbm, 539, rfl⟩
abbrev main_cst_95 : Ref sig .tc := ⟨.hbm, 540, rfl⟩
abbrev main_v441 : Ref sig .tc := ⟨.hbm, 541, rfl⟩
abbrev main_v442 : Ref sig .tc := ⟨.hbm, 542, rfl⟩
abbrev main_cst_96 : Ref sig .tc := ⟨.hbm, 543, rfl⟩
abbrev main_v443 : Ref sig .tc := ⟨.hbm, 544, rfl⟩
abbrev main_v444 : Ref sig .tc := ⟨.hbm, 545, rfl⟩
abbrev main_v445 : Ref sig .tc := ⟨.hbm, 546, rfl⟩
abbrev main_cst_97 : Ref sig .tc := ⟨.hbm, 547, rfl⟩
abbrev main_v446 : Ref sig .tc := ⟨.hbm, 548, rfl⟩
abbrev main_v447 : Ref sig .tc := ⟨.hbm, 549, rfl⟩
abbrev main_v448 : Ref sig .tc := ⟨.hbm, 550, rfl⟩
abbrev main_v449 : Ref sig .tc := ⟨.hbm, 551, rfl⟩
abbrev main_cst_98 : Ref sig .tc := ⟨.hbm, 552, rfl⟩
abbrev main_v450 : Ref sig .tc := ⟨.hbm, 553, rfl⟩
abbrev main_v451 : Ref sig .tc := ⟨.hbm, 554, rfl⟩
abbrev main_cst_99 : Ref sig .tc := ⟨.hbm, 555, rfl⟩
abbrev main_v452 : Ref sig .tc := ⟨.hbm, 556, rfl⟩
abbrev main_v453 : Ref sig .tc := ⟨.hbm, 557, rfl⟩
abbrev main_v454 : Ref sig .tc := ⟨.hbm, 558, rfl⟩
abbrev main_v455 : Ref sig .tc := ⟨.hbm, 559, rfl⟩
abbrev main_v456 : Ref sig .tc := ⟨.hbm, 560, rfl⟩
abbrev main_v457 : Ref sig .tc := ⟨.hbm, 561, rfl⟩
abbrev main_v458 : Ref sig .tc := ⟨.hbm, 562, rfl⟩
abbrev main_v459 : Ref sig .tc := ⟨.hbm, 563, rfl⟩
abbrev main_v460 : Ref sig .tc := ⟨.hbm, 564, rfl⟩

abbrev nD : Nat := 1
abbrev τ : Topo := Topo.v7x

variable {F : FTy → Type} [FloatOps F]
-- ==== LnFwd.lean ====
abbrev S2048x512 : Shape := ⟨2, ![2048, 512]⟩
abbrev S1x512 : Shape := ⟨2, ![1, 512]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S2048x512, .f32⟩
  | .hbm, ⟨1, _⟩ => ⟨S1x512, .f32⟩
  | .hbm, ⟨2, _⟩ => ⟨S1x512, .f32⟩
  | .hbm, ⟨3, _⟩ => ⟨S2048x512, .bf16⟩
  | .hbm, ⟨4, _⟩ => ⟨S512x2048, .bf16⟩
  | .local _ .vmem, ⟨0, _⟩ => ⟨S512x512, .f32⟩
  | .local _ .vmem, ⟨1, _⟩ => ⟨S512x512, .f32⟩
  | .local _ .vmem, ⟨2, _⟩ => ⟨S1x512, .f32⟩
  | .local _ .vmem, ⟨3, _⟩ => ⟨S1x512, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LnFwdRefIdeal.lean ====
abbrev S2048x512 : Shape := ⟨2, ![2048, 512]⟩
abbrev S1x512 : Shape := ⟨2, ![1, 512]⟩
abbrev S_ : Shape := ⟨0, ![]⟩
abbrev S2048 : Shape := ⟨1, ![2048]⟩
abbrev S2048x1 : Shape := ⟨2, ![2048, 1]⟩
abbrev S512x2048 : Shape := ⟨2, ![512, 2048]⟩

abbrev nBuf : Space → Nat
  | .hbm => 39
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S1x512, .f32⟩
  | .hbm, ⟨2, _⟩ => ⟨S1x512, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S2048x512, .f32⟩
  | .hbm, ⟨10, _⟩ => ⟨S2048x512, .f32⟩
  | .hbm, ⟨11, _⟩ => ⟨S2048x512, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S2048x512, .f32⟩
  | .hbm, ⟨23, _⟩ => ⟨S2048x512, .f32⟩
  | .hbm, ⟨24, _⟩ => ⟨S2048x512, .f32⟩
  | .hbm, ⟨25, _⟩ => ⟨S2048x512, .f32⟩
  | .hbm, ⟨26, _⟩ => ⟨S2048x512, .f32⟩
  | .hbm, ⟨27, _⟩ => ⟨S2048x512, .f32⟩
  | .hbm, ⟨28, _⟩ => ⟨S2048x512, .f32⟩
  | .hbm, ⟨29, _⟩ => ⟨S2048x512, .f32⟩
  | .hbm, ⟨30, _⟩ => ⟨S_, .f32⟩
  | .hbm, ⟨31, _⟩ => ⟨S2048x512, .f32⟩
  | .hbm, ⟨32, _⟩ => ⟨S2048x512, .f32⟩
  | .hbm, ⟨33, _⟩ => ⟨S_, .f32⟩
  | .hbm, ⟨34, _⟩ => ⟨S2048x512, .f32⟩
  | .hbm, ⟨35, _⟩ => ⟨S2048x512, .f32⟩
  | .hbm, ⟨36, _⟩ => ⟨S2048x512, .f32⟩
  | .hbm, ⟨37, _⟩ => ⟨S2048x512, .bf16⟩
  | .hbm, ⟨38, _⟩ => ⟨S512x2048, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩

abbrev nD : Nat := 1
abbrev τ : Topo := Topo.v7x

variable {F : FTy → Type} [FloatOps F]
-- ==== NormUp.lean ====
abbrev S2048x1024 : Shape := ⟨2, ![2048, 1024]⟩
abbrev S1x1024 : Shape := ⟨2, ![1, 1024]⟩
abbrev S1024x5632 : Shape := ⟨2, ![1024, 5632]⟩
abbrev S1024x2048 : Shape := ⟨2, ![1024, 2048]⟩
abbrev S2048x5632 : Shape := ⟨2, ![2048, 5632]⟩
abbrev S256x1024 : Shape := ⟨2, ![256, 1024]⟩
abbrev S1024x256 : Shape := ⟨2, ![1024, 256]⟩
abbrev S256x5632 : Shape := ⟨2, ![256, 5632]⟩
abbrev S256 : Shape := ⟨1, ![256]⟩
abbrev S256x1 : Shape := ⟨2, ![256, 1]⟩

abbrev nBuf : Space → Nat
  | .hbm => 5
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x5632, .bf16⟩
  | .hbm, ⟨3, _⟩ => ⟨S1024x2048, .bf16⟩
  | .hbm, ⟨4, _⟩ => ⟨S2048x5632, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x5632, .bf16⟩
  | .local _ .vmem, ⟨4, _⟩ => ⟨S1024x256, .bf16⟩
  | .local _ .vmem, ⟨5, _⟩ => ⟨S1024x256, .bf16⟩
  | .local _ .vmem, ⟨6, _⟩ => ⟨S256x5632, .f32⟩
  | .local _ .vmem, ⟨7, _⟩ => ⟨S256x5632, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x5632 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormUpRefIdeal.lean ====
abbrev S2048x1024 : Shape := ⟨2, ![2048, 1024]⟩
abbrev S1x1024 : Shape := ⟨2, ![1, 1024]⟩
abbrev S1024x5632 : Shape := ⟨2, ![1024, 5632]⟩
abbrev S_ : Shape := ⟨0, ![]⟩
abbrev S2048 : Shape := ⟨1, ![2048]⟩
abbrev S2048x1 : Shape := ⟨2, ![2048, 1]⟩
abbrev S1024x2048 : Shape := ⟨2, ![1024, 2048]⟩
abbrev S2048x5632 : Shape := ⟨2, ![2048, 5632]⟩

abbrev nBuf : Space → Nat
  | .hbm => 37
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x5632, .bf16⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .bf16⟩
  | .hbm, ⟨19, _⟩ => ⟨S1024x2048, .bf16⟩
  | .hbm, ⟨20, _⟩ => ⟨S2048x1024, .f32⟩
  | .hbm, ⟨21, _⟩ => ⟨S_, .f32⟩
  | .hbm, ⟨22, _⟩ => ⟨S2048, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x1, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S1024x5632, .f32⟩
  | .hbm, ⟨36, _⟩ => ⟨S2048x5632, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== FfnFwd.lean ====
abbrev S2048x5632 : Shape := ⟨2, ![2048, 5632]⟩
abbrev S3x2816 : Shape := ⟨2, ![3, 2816]⟩
abbrev S1x2816 : Shape := ⟨2, ![1, 2816]⟩
abbrev S2048x2816 : Shape := ⟨2, ![2048, 2816]⟩
abbrev S2048x256 : Shape := ⟨2, ![2048, 256]⟩
abbrev S3x256 : Shape := ⟨2, ![3, 256]⟩
abbrev S1x256 : Shape := ⟨2, ![1, 256]⟩
abbrev S2056x256 : Shape := ⟨2, ![2056, 256]⟩
abbrev S8x256 : Shape := ⟨2, ![8, 256]⟩
abbrev S256x256 : Shape := ⟨2, ![256, 256]⟩
abbrev S264x256 : Shape := ⟨2, ![264, 256]⟩

abbrev nBuf : Space → Nat
  | .hbm => 4
  | .vmem => 11
  | .smem => 0
  | _ => 0

abbrev bufTy : (tb : Table) → Fin (tcTables nBuf tb) → BufTy
  | .hbm, ⟨0, _⟩ => ⟨S2048x5632, .f32⟩
  | .hbm, ⟨1, _⟩ => ⟨S3x2816, .f32⟩
  | .hbm, ⟨2, _⟩ => ⟨S1x2816, .f32⟩
  | .hbm, ⟨3, _⟩ => ⟨S2048x2816, .bf16⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S3x256, .f32⟩
  | .local _ .vmem, ⟨5, _⟩ => ⟨S3x256, .f32⟩
  | .local _ .vmem, ⟨6, _⟩ => ⟨S1x256, .f32⟩
  | .local _ .vmem, ⟨7, _⟩ => ⟨S1x256, .f32⟩
  | .local _ .vmem, ⟨8, _⟩ => ⟨S2048x256, .bf16⟩
  | .local _ .vmem, ⟨9, _⟩ => ⟨S2048x256, .bf16⟩
  | .local _ .vmem, ⟨10, _⟩ => ⟨S2056x256, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![11], ![false]⟩

@[reducible] def k0_t1_loop : Scf.Loop 32 :=
  let c0_i32 : BitVec 32 := 0#32
  let c8_i32 : BitVec 32 := 8#32
  let v4 : BitVec 32 := Scalar.addi c0_i32 c8_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v6 : BitVec 32 := Scalar.muli arg7 c256_i32
  v6
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c256_i32 : BitVec 32 := 256#32
  let v6 : BitVec 32 := Scalar.muli arg7 c256_i32
  let v7 : BitVec 32 := v6
  let v8 : Index := Scalar.indexCast v7
  let c0_6 : Index := 0#32
  ![v8.toNat, 0]
def k0_mult2 (k0_t1 : Fin k0_t1_loop.trips) : BitVec 32 :=
  let c8_i32_8 : BitVec 32 := 8#32
  let c0_i32 : BitVec 32 := 0#32
  let c1_i32 : BitVec 32 := 1#32
  let arg7 : BitVec 32 := Scf.iv c0_i32 c1_i32 k0_t1
  let c256_i32_7 : BitVec 32 := 256#32
  let v10 : BitVec 32 := Scalar.muli arg7 c256_i32_7
  let v11 : BitVec 32 := Scalar.addi c8_i32_8 v10
  v11
def k0_off2 (k0_t1 : Fin k0_t1_loop.trips) : Fin 2 → Nat :=
  let c8_i32_8 : BitVec 32 := 8#32
  let c0_i32 : BitVec 32 := 0#32
  let c1_i32 : BitVec 32 := 1#32
  let arg7 : BitVec 32 := Scf.iv c0_i32 c1_i32 k0_t1
  let c256_i32_7 : BitVec 32 := 256#32
  let v10 : BitVec 32 := Scalar.muli arg7 c256_i32_7
  let v11 : BitVec 32 := Scalar.addi c8_i32_8 v10
  let v12 : BitVec 32 := v11
  let v13 : Index := Scalar.indexCast v12
  let c0_9 : Index := 0#32
  ![v13.toNat, 0]
@[reducible] def k0_t2_loop : Scf.Loop 32 :=
  let c0_i32_2 : BitVec 32 := 0#32
  let c8_i32_3 : BitVec 32 := 8#32
  let v5 : BitVec 32 := Scalar.addi c0_i32_2 c8_i32_3
  let c1_i32_4 : BitVec 32 := 1#32
  ⟨c0_i32_2, v5, c1_i32_4⟩
def k0_mult3 (k0_t2 : Fin k0_t2_loop.trips) : BitVec 32 :=
  let c0_i32_2 : BitVec 32 := 0#32
  let c1_i32_4 : BitVec 32 := 1#32
  let arg7 : BitVec 32 := Scf.iv c0_i32_2 c1_i32_4 k0_t2
  let c256_i32 : BitVec 32 := 256#32
  let v6 : BitVec 32 := Scalar.muli arg7 c256_i32
  v6
def k0_off3 (k0_t2 : Fin k0_t2_loop.trips) : Fin 2 → Nat :=
  let c0_i32_2 : BitVec 32 := 0#32
  let c1_i32_4 : BitVec 32 := 1#32
  let arg7 : BitVec 32 := Scf.iv c0_i32_2 c1_i32_4 k0_t2
  let c256_i32 : BitVec 32 := 256#32
  let v6 : BitVec 32 := Scalar.muli arg7 c256_i32
  let v7 : BitVec 32 := v6
  let v8 : Index := Scalar.indexCast v7
  let c0_6 : Index := 0#32
  ![v8.toNat, 0]
def k0_off4 (k0_t2 : Fin k0_t2_loop.trips) : Fin 2 → Nat :=
  let c0_i32_2 : BitVec 32 := 0#32
  let c1_i32_4 : BitVec 32 := 1#32
  let arg7 : BitVec 32 := Scf.iv c0_i32_2 c1_i32_4 k0_t2
  let c256_i32 : BitVec 32 := 256#32
  let v6 : BitVec 32 := Scalar.muli arg7 c256_i32
  let v7 : BitVec 32 := v6
  let v37 : Index := Scalar.indexCast v7
  let c0_16 : Index := 0#32
  ![v37.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnFwdRefIdeal.lean ====
abbrev S2048x5632 : Shape := ⟨2, ![2048, 5632]⟩
abbrev S3x2816 : Shape := ⟨2, ![3, 2816]⟩
abbrev S1x2816 : Shape := ⟨2, ![1, 2816]⟩
abbrev S2048x2816 : Shape := ⟨2, ![2048, 2816]⟩
abbrev S_ : Shape := ⟨0, ![]⟩
abbrev S2x2816 : Shape := ⟨2, ![2, 2816]⟩
abbrev S2050x2816 : Shape := ⟨2, ![2050, 2816]⟩

abbrev nBuf : Space → Nat
  | .hbm => 38
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S3x2816, .f32⟩
  | .hbm, ⟨2, _⟩ => ⟨S1x2816, .f32⟩
  | .hbm, ⟨3, _⟩ => ⟨S2048x2816, .f32⟩
  | .hbm, ⟨4, _⟩ => ⟨S2048x2816, .f32⟩
  | .hbm, ⟨5, _⟩ => ⟨S_, .f32⟩
  | .hbm, ⟨6, _⟩ => ⟨S2x2816, .f32⟩
  | .hbm, ⟨7, _⟩ => ⟨S2050x2816, .f32⟩
  | .hbm, ⟨8, _⟩ => ⟨S2048x2816, .f32⟩
  | .hbm, ⟨9, _⟩ => ⟨S1x2816, .f32⟩
  | .hbm, ⟨10, _⟩ => ⟨S2048x2816, .f32⟩
  | .hbm, ⟨11, _⟩ => ⟨S2048x2816, .f32⟩
  | .hbm, ⟨12, _⟩ => ⟨S_, .f32⟩
  | .hbm, ⟨13, _⟩ => ⟨S2048x2816, .f32⟩
  | .hbm, ⟨14, _⟩ => ⟨S2048x2816, .f32⟩
  | .hbm, ⟨15, _⟩ => ⟨S2048x2816, .f32⟩
  | .hbm, ⟨16, _⟩ => ⟨S1x2816, .f32⟩
  | .hbm, ⟨17, _⟩ => ⟨S2048x2816, .f32⟩
  | .hbm, ⟨18, _⟩ => ⟨S2048x2816, .f32⟩
  | .hbm, ⟨19, _⟩ => ⟨S2048x2816, .f32⟩
  | .hbm, ⟨20, _⟩ => ⟨S2048x2816, .f32⟩
  | .hbm, ⟨21, _⟩ => ⟨S1x2816, .f32⟩
  | .hbm, ⟨22, _⟩ => ⟨S2048x2816, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S2048x2816, .f32⟩
  | .hbm, ⟨27, _⟩ => ⟨S2048x2816, .f32⟩
  | .hbm, ⟨28, _⟩ => ⟨S2048x2816, .f32⟩
  | .hbm, ⟨29, _⟩ => ⟨S_, .f32⟩
  | .hbm, ⟨30, _⟩ => ⟨S2048x2816, .f32⟩
  | .hbm, ⟨31, _⟩ => ⟨S2048x2816, .f32⟩
  | .hbm, ⟨32, _⟩ => ⟨S_, .f32⟩
  | .hbm, ⟨33, _⟩ => ⟨S2048x2816, .f32⟩
  | .hbm, ⟨34, _⟩ => ⟨S2048x2816, .f32⟩
  | .hbm, ⟨35, _⟩ => ⟨S2048x2816, .f32⟩
  | .hbm, ⟨36, _⟩ => ⟨S2048x2816, .f32⟩
  | .hbm, ⟨37, _⟩ => ⟨S2048x2816, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== GluFwd.lean ====
abbrev S2048x2560 : Shape := ⟨2, ![2048, 2560]⟩
abbrev S31x512 : Shape := ⟨2, ![31, 512]⟩
abbrev S1x512 : Shape := ⟨2, ![1, 512]⟩
abbrev S2048x512 : Shape := ⟨2, ![2048, 512]⟩
abbrev S2048x128 : Shape := ⟨2, ![2048, 128]⟩
abbrev S31x128 : Shape := ⟨2, ![31, 128]⟩
abbrev S1x128 : Shape := ⟨2, ![1, 128]⟩
abbrev S2080x128 : Shape := ⟨2, ![2080, 128]⟩
abbrev S32x128 : Shape := ⟨2, ![32, 128]⟩
abbrev S256x128 : Shape := ⟨2, ![256, 128]⟩
abbrev S288x128 : Shape := ⟨2, ![288, 128]⟩

abbrev nBuf : Space → Nat
  | .hbm => 4
  | .vmem => 11
  | .smem => 0
  | _ => 0

abbrev bufTy : (tb : Table) → Fin (tcTables nBuf tb) → BufTy
  | .hbm, ⟨0, _⟩ => ⟨S2048x2560, .f32⟩
  | .hbm, ⟨1, _⟩ => ⟨S31x512, .f32⟩
  | .hbm, ⟨2, _⟩ => ⟨S1x512, .f32⟩
  | .hbm, ⟨3, _⟩ => ⟨S2048x512, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S31x128, .f32⟩
  | .local _ .vmem, ⟨5, _⟩ => ⟨S31x128, .f32⟩
  | .local _ .vmem, ⟨6, _⟩ => ⟨S1x128, .f32⟩
  | .local _ .vmem, ⟨7, _⟩ => ⟨S1x128, .f32⟩
  | .local _ .vmem, ⟨8, _⟩ => ⟨S2048x128, .f32⟩
  | .local _ .vmem, ⟨9, _⟩ => ⟨S2048x128, .f32⟩
  | .local _ .vmem, ⟨10, _⟩ => ⟨S2080x128, .f32⟩
  | _, _ => ⟨S2048x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c8_i32 : BitVec 32 := 8#32
  let v4 : BitVec 32 := Scalar.addi c0_i32 c8_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v6 : BitVec 32 := Scalar.muli arg7 c256_i32
  v6
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c256_i32 : BitVec 32 := 256#32
  let v6 : BitVec 32 := Scalar.muli arg7 c256_i32
  let v7 : BitVec 32 := v6
  let v8 : Index := Scalar.indexCast v7
  let c0_6 : Index := 0#32
  ![v8.toNat, 0]
def k0_mult2 (k0_t1 : Fin k0_t1_loop.trips) : BitVec 32 :=
  let c32_i32 : BitVec 32 := 32#32
  let c0_i32 : BitVec 32 := 0#32
  let c1_i32 : BitVec 32 := 1#32
  let arg7 : BitVec 32 := Scf.iv c0_i32 c1_i32 k0_t1
  let c256_i32_11 : BitVec 32 := 256#32
  let v20 : BitVec 32 := Scalar.muli arg7 c256_i32_11
  let v21 : BitVec 32 := Scalar.addi c32_i32 v20
  v21
def k0_off2 (k0_t1 : Fin k0_t1_loop.trips) : Fin 2 → Nat :=
  let c32_i32 : BitVec 32 := 32#32
  let c0_i32 : BitVec 32 := 0#32
  let c1_i32 : BitVec 32 := 1#32
  let arg7 : BitVec 32 := Scf.iv c0_i32 c1_i32 k0_t1
  let c256_i32_11 : BitVec 32 := 256#32
  let v20 : BitVec 32 := Scalar.muli arg7 c256_i32_11
  let v21 : BitVec 32 := Scalar.addi c32_i32 v20
  let v22 : BitVec 32 := v21
  let v23 : Index := Scalar.indexCast v22
  let c0_12 : Index := 0#32
  ![v23.toNat, 0]
@[reducible] def k0_t2_loop : Scf.Loop 32 :=
  let c0_i32_2 : BitVec 32 := 0#32
  let c8_i32_3 : BitVec 32 := 8#32
  let v5 : BitVec 32 := Scalar.addi c0_i32_2 c8_i32_3
  let c1_i32_4 : BitVec 32 := 1#32
  ⟨c0_i32_2, v5, c1_i32_4⟩
def k0_mult3 (k0_t2 : Fin k0_t2_loop.trips) : BitVec 32 :=
  let c0_i32_2 : BitVec 32 := 0#32
  let c1_i32_4 : BitVec 32 := 1#32
  let arg7 : BitVec 32 := Scf.iv c0_i32_2 c1_i32_4 k0_t2
  let c256_i32 : BitVec 32 := 256#32
  let v6 : BitVec 32 := Scalar.muli arg7 c256_i32
  v6
def k0_off3 (k0_t2 : Fin k0_t2_loop.trips) : Fin 2 → Nat :=
  let c0_i32_2 : BitVec 32 := 0#32
  let c1_i32_4 : BitVec 32 := 1#32
  let arg7 : BitVec 32 := Scf.iv c0_i32_2 c1_i32_4 k0_t2
  let c256_i32 : BitVec 32 := 256#32
  let v6 : BitVec 32 := Scalar.muli arg7 c256_i32
  let v7 : BitVec 32 := v6
  let v8 : Index := Scalar.indexCast v7
  let c0_6 : Index := 0#32
  ![v8.toNat, 0]
def k0_off4 (k0_t2 : Fin k0_t2_loop.trips) : Fin 2 → Nat :=
  let c0_i32_2 : BitVec 32 := 0#32
  let c1_i32_4 : BitVec 32 := 1#32
  let arg7 : BitVec 32 := Scf.iv c0_i32_2 c1_i32_4 k0_t2
  let c256_i32 : BitVec 32 := 256#32
  let v6 : BitVec 32 := Scalar.muli arg7 c256_i32
  let v7 : BitVec 32 := v6
  let v175 : Index := Scalar.indexCast v7
  let c0_41 : Index := 0#32
  ![v175.toNat, 0]
def cc0_transform_0 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S31x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GluFwdRefIdeal.lean ====
abbrev S2048x2560 : Shape := ⟨2, ![2048, 2560]⟩
abbrev S31x512 : Shape := ⟨2, ![31, 512]⟩
abbrev S1x512 : Shape := ⟨2, ![1, 512]⟩
abbrev S2048x512 : Shape := ⟨2, ![2048, 512]⟩
abbrev S_ : Shape := ⟨0, ![]⟩
abbrev S30x512 : Shape := ⟨2, ![30, 512]⟩
abbrev S2078x512 : Shape := ⟨2, ![2078, 512]⟩
abbrev S512 : Shape := ⟨1, ![512]⟩

abbrev nBuf : Space → Nat
  | .hbm => 238
  | .vmem => 0
  | .smem => 0
  | _ => 0

abbrev hbmTy0_0 (i : Nat) : BufTy := match i % 128 with
  | 0 => ⟨S2048x2560, .f32⟩
  | 1 => ⟨S31x512, .f32⟩
  | 2 => ⟨S1x512, .f32⟩
  | 3 => ⟨S2048x512, .f32⟩
  | 4 => ⟨S2048x512, .f32⟩
  | 5 => ⟨S_, .f32⟩
  | 6 => ⟨S30x512, .f32⟩
  | 7 => ⟨S2048x512, .f32⟩
  | 8 => ⟨S2048x512, .f32⟩
  | 9 => ⟨S_, .f32⟩
  | 10 => ⟨S2048x512, .f32⟩
  | 11 => ⟨S2048x512, .f32⟩
  | 12 => ⟨S_, .f32⟩
  | 13 => ⟨S2048x512, .f32⟩
  | 14 => ⟨S2048x512, .f32⟩
  | 15 => ⟨S2048x512, .f32⟩
  | 16 => ⟨S2078x512, .f32⟩
  | 17 => ⟨S2048x512, .f32⟩
  | 18 => ⟨S1x512, .f32⟩
  | 19 => ⟨S512, .f32⟩
  | 20 => ⟨S1x512, .f32⟩
  | 21 => ⟨S2048x512, .f32⟩
  | 22 => ⟨S2048x512, .f32⟩
  | 23 => ⟨S_, .f32⟩
  | 24 => ⟨S2048x512, .f32⟩
  | 25 => ⟨S2048x512, .f32⟩
  | 26 => ⟨S2048x512, .f32⟩
  | 27 => ⟨S1x512, .f32⟩
  | 28 => ⟨S512, .f32⟩
  | 29 => ⟨S1x512, .f32⟩
  | 30 => ⟨S2048x512, .f32⟩
  | 31 => ⟨S2048x512, .f32⟩
  | 32 => ⟨S2048x512, .f32⟩
  | 33 => ⟨S2048x512, .f32⟩
  | 34 => ⟨S1x512, .f32⟩
  | 35 => ⟨S512, .f32⟩
  | 36 => ⟨S1x512, .f32⟩
  | 37 => ⟨S2048x512, .f32⟩
  | 38 => ⟨S2048x512, .f32⟩
  | 39 => ⟨S2048x512, .f32⟩
  | 40 => ⟨S2048x512, .f32⟩
  | 41 => ⟨S1x512, .f32⟩
  | 42 => ⟨S512, .f32⟩
  | 43 => ⟨S1x512, .f32⟩
  | 44 => ⟨S2048x512, .f32⟩
  | 45 => ⟨S2048x512, .f32⟩
  | 46 => ⟨S2048x512, .f32⟩
  | 47 => ⟨S2048x512, .f32⟩
  | 48 => ⟨S1x512, .f32⟩
  | 49 => ⟨S512, .f32⟩
  | 50 => ⟨S1x512, .f32⟩
  | 51 => ⟨S2048x512, .f32⟩
  | 52 => ⟨S2048x512, .f32⟩
  | 53 => ⟨S2048x512, .f32⟩
  | 54 => ⟨S2048x512, .f32⟩
  | 55 => ⟨S1x512, .f32⟩
  | 56 => ⟨S512, .f32⟩
  | 57 => ⟨S1x512, .f32⟩
  | 58 => ⟨S2048x512, .f32⟩
  | 59 => ⟨S2048x512, .f32⟩
  | 60 => ⟨S2048x512, .f32⟩
  | 61 => ⟨S2048x512, .f32⟩
  | 62 => ⟨S1x512, .f32⟩
  | 63 => ⟨S512, .f32⟩
  | 64 => ⟨S1x512, .f32⟩
  | 65 => ⟨S2048x512, .f32⟩
  | 66 => ⟨S2048x512, .f32⟩
  | 67 => ⟨S2048x512, .f32⟩
  | 68 => ⟨S2048x512, .f32⟩
  | 69 => ⟨S1x512, .f32⟩
  | 70 => ⟨S512, .f32⟩
  | 71 => ⟨S1x512, .f32⟩
  | 72 => ⟨S2048x512, .f32⟩
  | 73 => ⟨S2048x512, .f32⟩
  | 74 => ⟨S2048x512, .f32⟩
  | 75 => ⟨S2048x512, .f32⟩
  | 76 => ⟨S1x512, .f32⟩
  | 77 => ⟨S512, .f32⟩
  | 78 => ⟨S1x512, .f32⟩
  | 79 => ⟨S2048x512, .f32⟩
  | 80 => ⟨S2048x512, .f32⟩
  | 81 => ⟨S2048x512, .f32⟩
  | 82 => ⟨S2048x512, .f32⟩
  | 83 => ⟨S1x512, .f32⟩
  | 84 => ⟨S512, .f32⟩
  | 85 => ⟨S1x512, .f32⟩
  | 86 => ⟨S2048x512, .f32⟩
  | 87 => ⟨S2048x512, .f32⟩
  | 88 => ⟨S2048x512, .f32⟩
  | 89 => ⟨S2048x512, .f32⟩
  | 90 => ⟨S1x512, .f32⟩
  | 91 => ⟨S512, .f32⟩
  | 92 => ⟨S1x512, .f32⟩
  | 93 => ⟨S2048x512, .f32⟩
  | 94 => ⟨S2048x512, .f32⟩
  | 95 => ⟨S2048x512, .f32⟩
  | 96 => ⟨S2048x512, .f32⟩
  | 97 => ⟨S1x512, .f32⟩
  | 98 => ⟨S512, .f32⟩
  | 99 => ⟨S1x512, .f32⟩
  | 100 => ⟨S2048x512, .f32⟩
  | 101 => ⟨S2048x512, .f32⟩
  | 102 => ⟨S2048x512, .f32⟩
  | 103 => ⟨S2048x512, .f32⟩
  | 104 => ⟨S1x512, .f32⟩
  | 105 => ⟨S512, .f32⟩
  | 106 => ⟨S1x512, .f32⟩
  | 107 => ⟨S2048x512, .f32⟩
  | 108 => ⟨S2048x512, .f32⟩
  | 109 => ⟨S2048x512, .f32⟩
  | 110 => ⟨S2048x512, .f32⟩
  | 111 => ⟨S1x512, .f32⟩
  | 112 => ⟨S512, .f32⟩
  | 113 => ⟨S1x512, .f32⟩
  | 114 => ⟨S2048x512, .f32⟩
  | 115 => ⟨S2048x512, .f32⟩
  | 116 => ⟨S2048x512, .f32⟩
  | 117 => ⟨S2048x512, .f32⟩
  | 118 => ⟨S1x512, .f32⟩
  | 119 => ⟨S512, .f32⟩
  | 120 => ⟨S1x512, .f32⟩
  | 121 => ⟨S2048x512, .f32⟩
  | 122 => ⟨S2048x512, .f32⟩
  | 123 => ⟨S2048x512, .f32⟩
  | 124 => ⟨S2048x512, .f32⟩
  | 125 => ⟨S1x512, .f32⟩
  | 126 => ⟨S512, .f32⟩
  | 127 => ⟨S1x512, .f32⟩
  | _ => ⟨S2048x2560, .f32⟩

abbrev hbmTy0_1 (i : Nat) : BufTy := match i % 128 with
  | 0 => ⟨S2048x512, .f32⟩
  | 1 => ⟨S2048x512, .f32⟩
  | 2 => ⟨S2048x512, .f32⟩
  | 3 => ⟨S2048x512, .f32⟩
  | 4 => ⟨S1x512, .f32⟩
  | 5 => ⟨S512, .f32⟩
  | 6 => ⟨S1x512, .f32⟩
  | 7 => ⟨S2048x512, .f32⟩
  | 8 => ⟨S2048x512, .f32⟩
  | 9 => ⟨S2048x512, .f32⟩
  | 10 => ⟨S2048x512, .f32⟩
  | 11 => ⟨S1x512, .f32⟩
  | 12 => ⟨S512, .f32⟩
  | 13 => ⟨S1x512, .f32⟩
  | 14 => ⟨S2048x512, .f32⟩
  | 15 => ⟨S2048x512, .f32⟩
  | 16 => ⟨S2048x512, .f32⟩
  | 17 => ⟨S2048x512, .f32⟩
  | 18 => ⟨S1x512, .f32⟩
  | 19 => ⟨S512, .f32⟩
  | 20 => ⟨S1x512, .f32⟩
  | 21 => ⟨S2048x512, .f32⟩
  | 22 => ⟨S2048x512, .f32⟩
  | 23 => ⟨S2048x512, .f32⟩
  | 24 => ⟨S2048x512, .f32⟩
  | 25 => ⟨S1x512, .f32⟩
  | 26 => ⟨S512, .f32⟩
  | 27 => ⟨S1x512, .f32⟩
  | 28 => ⟨S2048x512, .f32⟩
  | 29 => ⟨S2048x512, .f32⟩
  | 30 => ⟨S2048x512, .f32⟩
  | 31 => ⟨S2048x512, .f32⟩
  | 32 => ⟨S1x512, .f32⟩
  | 33 => ⟨S512, .f32⟩
  | 34 => ⟨S1x512, .f32⟩
  | 35 => ⟨S2048x512, .f32⟩
  | 36 => ⟨S2048x512, .f32⟩
  | 37 => ⟨S2048x512, .f32⟩
  | 38 => ⟨S2048x512, .f32⟩
  | 39 => ⟨S1x512, .f32⟩
  | 40 => ⟨S512, .f32⟩
  | 41 => ⟨S1x512, .f32⟩
  | 42 => ⟨S2048x512, .f32⟩
  | 43 => ⟨S2048x512, .f32⟩
  | 44 => ⟨S2048x512, .f32⟩
  | 45 => ⟨S2048x512, .f32⟩
  | 46 => ⟨S1x512, .f32⟩
  | 47 => ⟨S512, .f32⟩
  | 48 => ⟨S1x512, .f32⟩
  | 49 => ⟨S2048x512, .f32⟩
  | 50 => ⟨S2048x512, .f32⟩
  | 51 => ⟨S2048x512, .f32⟩
  | 52 => ⟨S2048x512, .f32⟩
  | 53 => ⟨S1x512, .f32⟩
  | 54 => ⟨S512, .f32⟩
  | 55 => ⟨S1x512, .f32⟩
  | 56 => ⟨S2048x512, .f32⟩
  | 57 => ⟨S2048x512, .f32⟩
  | 58 => ⟨S2048x512, .f32⟩
  | 59 => ⟨S2048x512, .f32⟩
  | 60 => ⟨S1x512, .f32⟩
  | 61 => ⟨S512, .f32⟩
  | 62 => ⟨S1x512, .f32⟩
  | 63 => ⟨S2048x512, .f32⟩
  | 64 => ⟨S2048x512, .f32⟩
  | 65 => ⟨S2048x512, .f32⟩
  | 66 => ⟨S2048x512, .f32⟩
  | 67 => ⟨S1x512, .f32⟩
  | 68 => ⟨S512, .f32⟩
  | 69 => ⟨S1x512, .f32⟩
  | 70 => ⟨S2048x512, .f32⟩
  | 71 => ⟨S2048x512, .f32⟩
  | 72 => ⟨S2048x512, .f32⟩
  | 73 => ⟨S2048x512, .f32⟩
  | 74 => ⟨S1x512, .f32⟩
  | 75 => ⟨S512, .f32⟩
  | 76 => ⟨S1x512, .f32⟩
  | 77 => ⟨S2048x512, .f32⟩
  | 78 => ⟨S2048x512, .f32⟩
  | 79 => ⟨S2048x512, .f32⟩
  | 80 => ⟨S2048x512, .f32⟩
  | 81 => ⟨S1x512, .f32⟩
  | 82 => ⟨S512, .f32⟩
  | 83 => ⟨S1x512, .f32⟩
  | 84 => ⟨S2048x512, .f32⟩
  | 85 => ⟨S2048x512, .f32⟩
  | 86 => ⟨S2048x512, .f32⟩
  | 87 => ⟨S2048x512, .f32⟩
  | 88 => ⟨S1x512, .f32⟩
  | 89 => ⟨S512, .f32⟩
  | 90 => ⟨S1x512, .f32⟩
  | 91 => ⟨S2048x512, .f32⟩
  | 92 => ⟨S2048x512, .f32⟩
  | 93 => ⟨S2048x512, .f32⟩
  | 94 => ⟨S2048x512, .f32⟩
  | 95 => ⟨S1x512, .f32⟩
  | 96 => ⟨S512, .f32⟩
  | 97 => ⟨S1x512, .f32⟩
  | 98 => ⟨S2048x512, .f32⟩
  | 99 => ⟨S2048x512, .f32⟩
  | 100 => ⟨S2048x512, .f32⟩
  | 101 => ⟨S2048x512, .f32⟩
  | 102 => ⟨S1x512, .f32⟩
  | 103 => ⟨S512, .f32⟩
  | 104 => ⟨S1x512, .f32⟩
  | 105 => ⟨S2048x512, .f32⟩
  | 106 => ⟨S2048x512, .f32⟩
  | 107 => ⟨S2048x512, .f32⟩
  | 108 => ⟨S2048x512, .f32⟩
  | 109 => ⟨S2048x512, .f32⟩
  | _ => ⟨S2048x2560, .f32⟩

abbrev hbmTy (i : Nat) : BufTy := match i / 128 with
  | 0 => hbmTy0_0 i
  | 1 => hbmTy0_1 i
  | _ => ⟨S2048x2560, .f32⟩

abbrev bufTy : (tb : Table) → Fin (tcTables nBuf tb) → BufTy
  | .hbm, ⟨i, _⟩ => hbmTy i
  | _, _ => ⟨S2048x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_v142 : Ref sig .tc := ⟨.hbm, 149, rfl⟩
abbrev main_v143 : Ref sig .tc := ⟨.hbm, 150, rfl⟩
abbrev main_v144 : Ref sig .tc := ⟨.hbm, 151, rfl⟩
abbrev main_v145 : Ref sig .tc := ⟨.hbm, 152, rfl⟩
abbrev main_v146 : Ref sig .tc := ⟨.hbm, 153, rfl⟩
abbrev main_v147 : Ref sig .tc := ⟨.hbm, 154, rfl⟩
abbrev main_v148 : Ref sig .tc := ⟨.hbm, 155, rfl⟩
abbrev main_v149 : Ref sig .tc := ⟨.hbm, 156, rfl⟩
abbrev main_v150 : Ref sig .tc := ⟨.hbm, 157, rfl⟩
abbrev main_v151 : Ref sig .tc := ⟨.hbm, 158, rfl⟩
abbrev main_v152 : Ref sig .tc := ⟨.hbm, 159, rfl⟩
abbrev main_v153 : Ref sig .tc := ⟨.hbm, 160, rfl⟩
abbrev main_v154 : Ref sig .tc := ⟨.hbm, 161, rfl⟩
abbrev main_v155 : Ref sig .tc := ⟨.hbm, 162, rfl⟩
abbrev main_v156 : Ref sig .tc := ⟨.hbm, 163, rfl⟩
abbrev main_v157 : Ref sig .tc := ⟨.hbm, 164, rfl⟩
abbrev main_v158 : Ref sig .tc := ⟨.hbm, 165, rfl⟩
abbrev main_v159 : Ref sig .tc := ⟨.hbm, 166, rfl⟩
abbrev main_v160 : Ref sig .tc := ⟨.hbm, 167, rfl⟩
abbrev main_v161 : Ref sig .tc := ⟨.hbm, 168, rfl⟩
abbrev main_v162 : Ref sig .tc := ⟨.hbm, 169, rfl⟩
abbrev main_v163 : Ref sig .tc := ⟨.hbm, 170, rfl⟩
abbrev main_v164 : Ref sig .tc := ⟨.hbm, 171, rfl⟩
abbrev main_v165 : Ref sig .tc := ⟨.hbm, 172, rfl⟩
abbrev main_v166 : Ref sig .tc := ⟨.hbm, 173, rfl⟩
abbrev main_v167 : Ref sig .tc := ⟨.hbm, 174, rfl⟩
abbrev main_v168 : Ref sig .tc := ⟨.hbm, 175, rfl⟩
abbrev main_v169 : Ref sig .tc := ⟨.hbm, 176, rfl⟩
abbrev main_v170 : Ref sig .tc := ⟨.hbm, 177, rfl⟩
abbrev main_v171 : Ref sig .tc := ⟨.hbm, 178, rfl⟩
abbrev main_v172 : Ref sig .tc := ⟨.hbm, 179, rfl⟩
abbrev main_v173 : Ref sig .tc := ⟨.hbm, 180, rfl⟩
abbrev main_v174 : Ref sig .tc := ⟨.hbm, 181, rfl⟩
abbrev main_v175 : Ref sig .tc := ⟨.hbm, 182, rfl⟩
abbrev main_v176 : Ref sig .tc := ⟨.hbm, 183, rfl⟩
abbrev main_v177 : Ref sig .tc := ⟨.hbm, 184, rfl⟩
abbrev main_v178 : Ref sig .tc := ⟨.hbm, 185, rfl⟩
abbrev main_v179 : Ref sig .tc := ⟨.hbm, 186, rfl⟩
abbrev main_v180 : Ref sig .tc := ⟨.hbm, 187, rfl⟩
abbrev main_v181 : Ref sig .tc := ⟨.hbm, 188, rfl⟩
abbrev main_v182 : Ref sig .tc := ⟨.hbm, 189, rfl⟩
abbrev main_v183 : Ref sig .tc := ⟨.hbm, 190, rfl⟩
abbrev main_v184 : Ref sig .tc := ⟨.hbm, 191, rfl⟩
abbrev main_v185 : Ref sig .tc := ⟨.hbm, 192, rfl⟩
abbrev main_v186 : Ref sig .tc := ⟨.hbm, 193, rfl⟩
abbrev main_v187 : Ref sig .tc := ⟨.hbm, 194, rfl⟩
abbrev main_v188 : Ref sig .tc := ⟨.hbm, 195, rfl⟩
abbrev main_v189 : Ref sig .tc := ⟨.hbm, 196, rfl⟩
abbrev main_v190 : Ref sig .tc := ⟨.hbm, 197, rfl⟩
abbrev main_v191 : Ref sig .tc := ⟨.hbm, 198, rfl⟩
abbrev main_v192 : Ref sig .tc := ⟨.hbm, 199, rfl⟩
abbrev main_v193 : Ref sig .tc := ⟨.hbm, 200, rfl⟩
abbrev main_v194 : Ref sig .tc := ⟨.hbm, 201, rfl⟩
abbrev main_v195 : Ref sig .tc := ⟨.hbm, 202, rfl⟩
abbrev main_v196 : Ref sig .tc := ⟨.hbm, 203, rfl⟩
abbrev main_v197 : Ref sig .tc := ⟨.hbm, 204, rfl⟩
abbrev main_v198 : Ref sig .tc := ⟨.hbm, 205, rfl⟩
abbrev main_v199 : Ref sig .tc := ⟨.hbm, 206, rfl⟩
abbrev main_v200 : Ref sig .tc := ⟨.hbm, 207, rfl⟩
abbrev main_v201 : Ref sig .tc := ⟨.hbm, 208, rfl⟩
abbrev main_v202 : Ref sig .tc := ⟨.hbm, 209, rfl⟩
abbrev main_v203 : Ref sig .tc := ⟨.hbm, 210, rfl⟩
abbrev main_v204 : Ref sig .tc := ⟨.hbm, 211, rfl⟩
abbrev main_v205 : Ref sig .tc := ⟨.hbm, 212, rfl⟩
abbrev main_v206 : Ref sig .tc := ⟨.hbm, 213, rfl⟩
abbrev main_v207 : Ref sig .tc := ⟨.hbm, 214, rfl⟩
abbrev main_v208 : Ref sig .tc := ⟨.hbm, 215, rfl⟩
abbrev main_v209 : Ref sig .tc := ⟨.hbm, 216, rfl⟩
abbrev main_v210 : Ref sig .tc := ⟨.hbm, 217, rfl⟩
abbrev main_v211 : Ref sig .tc := ⟨.hbm, 218, rfl⟩
abbrev main_v212 : Ref sig .tc := ⟨.hbm, 219, rfl⟩
abbrev main_v213 : Ref sig .tc := ⟨.hbm, 220, rfl⟩
abbrev main_v214 : Ref sig .tc := ⟨.hbm, 221, rfl⟩
abbrev main_v215 : Ref sig .tc := ⟨.hbm, 222, rfl⟩
abbrev main_v216 : Ref sig .tc := ⟨.hbm, 223, rfl⟩
abbrev main_v217 : Ref sig .tc := ⟨.hbm, 224, rfl⟩
abbrev main_v218 : Ref sig .tc := ⟨.hbm, 225, rfl⟩
abbrev main_v219 : Ref sig .tc := ⟨.hbm, 226, rfl⟩
abbrev main_v220 : Ref sig .tc := ⟨.hbm, 227, rfl⟩
abbrev main_v221 : Ref sig .tc := ⟨.hbm, 228, rfl⟩
abbrev main_v222 : Ref sig .tc := ⟨.hbm, 229, rfl⟩
abbrev main_v223 : Ref sig .tc := ⟨.hbm, 230, rfl⟩
abbrev main_v224 : Ref sig .tc := ⟨.hbm, 231, rfl⟩
abbrev main_v225 : Ref sig .tc := ⟨.hbm, 232, rfl⟩
abbrev main_v226 : Ref sig .tc := ⟨.hbm, 233, rfl⟩
abbrev main_v227 : Ref sig .tc := ⟨.hbm, 234, rfl⟩
abbrev main_v228 : Ref sig .tc := ⟨.hbm, 235, rfl⟩
abbrev main_v229 : Ref sig .tc := ⟨.hbm, 236, rfl⟩
abbrev main_v230 : Ref sig .tc := ⟨.hbm, 237, rfl⟩

abbrev nD : Nat := 1
abbrev τ : Topo := Topo.v7x

variable {F : FTy → Type} [FloatOps F]
-- ==== MatRes.lean ====
abbrev S2048x2816 : Shape := ⟨2, ![2048, 2816]⟩
abbrev S2816x1024 : Shape := ⟨2, ![2816, 1024]⟩
abbrev S2048x1024 : Shape := ⟨2, ![2048, 1024]⟩
abbrev S512x2816 : Shape := ⟨2, ![512, 2816]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S2048x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MatResRefIdeal.lean ====
abbrev S2048x2816 : Shape := ⟨2, ![2048, 2816]⟩
abbrev S2816x1024 : Shape := ⟨2, ![2816, 1024]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S2048x2816, .f32⟩
  | .hbm, ⟨4, _⟩ => ⟨S2816x1024, .f32⟩
  | .hbm, ⟨5, _⟩ => ⟨S2048x1024, .f32⟩
  | .hbm, ⟨6, _⟩ => ⟨S2048x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MatNt.lean ====
abbrev S2048x1024 : Shape := ⟨2, ![2048, 1024]⟩
abbrev S2816x1024 : Shape := ⟨2, ![2816, 1024]⟩
abbrev S2048x2816 : Shape := ⟨2, ![2048, 2816]⟩
abbrev S512x1024 : Shape := ⟨2, ![512, 1024]⟩
abbrev S512x2816 : Shape := ⟨2, ![512, 2816]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2816x1024, .bf16⟩
  | .hbm, ⟨2, _⟩ => ⟨S2048x2816, .bf16⟩
  | .local _ .vmem, ⟨0, _⟩ => ⟨S512x1024, .f32⟩
  | .local _ .vmem, ⟨1, _⟩ => ⟨S512x1024, .f32⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MatNtRefIdeal.lean ====
abbrev S2048x1024 : Shape := ⟨2, ![2048, 1024]⟩
abbrev S2816x1024 : Shape := ⟨2, ![2816, 1024]⟩
abbrev S1024x2816 : Shape := ⟨2, ![1024, 2816]⟩
abbrev S2048x2816 : Shape := ⟨2, ![2048, 2816]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2816x1024, .bf16⟩
  | .hbm, ⟨2, _⟩ => ⟨S2816x1024, .f32⟩
  | .hbm, ⟨3, _⟩ => ⟨S1024x2816, .f32⟩
  | .hbm, ⟨4, _⟩ => ⟨S2048x2816, .f32⟩
  | .hbm, ⟨5, _⟩ => ⟨S2048x2816, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== AdamW.lean ====
abbrev S4x2816 : Shape := ⟨2, ![4, 2816]⟩

abbrev nBuf : Space → Nat
  | .hbm => 7
  | .vmem => 7
  | .smem => 0
  | _ => 0

abbrev bufTy : (tb : Table) → Fin (tcTables nBuf tb) → BufTy
  | .hbm, ⟨0, _⟩ => ⟨S4x2816, .f32⟩
  | .hbm, ⟨1, _⟩ => ⟨S4x2816, .f32⟩
  | .hbm, ⟨2, _⟩ => ⟨S4x2816, .f32⟩
  | .hbm, ⟨3, _⟩ => ⟨S4x2816, .f32⟩
  | .hbm, ⟨4, _⟩ => ⟨S4x2816, .f32⟩
  | .hbm, ⟨5, _⟩ => ⟨S4x2816, .f32⟩
  | .hbm, ⟨6, _⟩ => ⟨S4x2816, .f32⟩
  | .local _ .vmem, ⟨0, _⟩ => ⟨S4x2816, .f32⟩
  | .local _ .vmem, ⟨1, _⟩ => ⟨S4x2816, .f32⟩
  | .local _ .vmem, ⟨2, _⟩ => ⟨S4x2816, .f32⟩
  | .local _ .vmem, ⟨3, _⟩ => ⟨S4x2816, .f32⟩
  | .local _ .vmem, ⟨4, _⟩ => ⟨S4x2816, .f32⟩
  | .local _ .vmem, ⟨5, _⟩ => ⟨S4x2816, .f32⟩
  | .local _ .vmem, ⟨6, _⟩ => ⟨S4x2816, .f32⟩
  | _, _ => ⟨S4x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x2816 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x2816 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamWRefIdeal.lean ====
abbrev S4x2816 : Shape := ⟨2, ![4, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x2816, .f32⟩
  | .hbm, ⟨1, _⟩ => ⟨S4x2816, .f32⟩
  | .hbm, ⟨2, _⟩ => ⟨S4x2816, .f32⟩
  | .hbm, ⟨3, _⟩ => ⟨S4x2816, .f32⟩
  | .hbm, ⟨4, _⟩ => ⟨S_, .f32⟩
  | .hbm, ⟨5, _⟩ => ⟨S4x2816, .f32⟩
  | .hbm, ⟨6, _⟩ => ⟨S4x2816, .f32⟩
  | .hbm, ⟨7, _⟩ => ⟨S_, .f32⟩
  | .hbm, ⟨8, _⟩ => ⟨S4x2816, .f32⟩
  | .hbm, ⟨9, _⟩ => ⟨S4x2816, .f32⟩
  | .hbm, ⟨10, _⟩ => ⟨S4x2816, .f32⟩
  | .hbm, ⟨11, _⟩ => ⟨S_, .f32⟩
  | .hbm, ⟨12, _⟩ => ⟨S4x2816, .f32⟩
  | .hbm, ⟨13, _⟩ => ⟨S4x2816, .f32⟩
  | .hbm, ⟨14, _⟩ => ⟨S4x2816, .f32⟩
  | .hbm, ⟨15, _⟩ => ⟨S_, .f32⟩
  | .hbm, ⟨16, _⟩ => ⟨S4x2816, .f32⟩
  | .hbm, ⟨17, _⟩ => ⟨S4x2816, .f32⟩
  | .hbm, ⟨18, _⟩ => ⟨S4x2816, .f32⟩
  | .hbm, ⟨19, _⟩ => ⟨S_, .f32⟩
  | .hbm, ⟨20, _⟩ => ⟨S4x2816, .f32⟩
  | .hbm, ⟨21, _⟩ => ⟨S4x2816, .f32⟩
  | .hbm, ⟨22, _⟩ => ⟨S_, .f32⟩
  | .hbm, ⟨23, _⟩ => ⟨S4x2816, .f32⟩
  | .hbm, ⟨24, _⟩ => ⟨S4x2816, .f32⟩
  | .hbm, ⟨25, _⟩ => ⟨S4x2816, .f32⟩
  | .hbm, ⟨26, _⟩ => ⟨S_, .f32⟩
  | .hbm, ⟨27, _⟩ => ⟨S4x2816, .f32⟩
  | .hbm, ⟨28, _⟩ => ⟨S4x2816, .f32⟩
  | .hbm, ⟨29, _⟩ => ⟨S4x2816, .f32⟩
  | .hbm, ⟨30, _⟩ => ⟨S_, .f32⟩
  | .hbm, ⟨31, _⟩ => ⟨S4x2816, .f32⟩
  | .hbm, ⟨32, _⟩ => ⟨S4x2816, .f32⟩
  | .hbm, ⟨33, _⟩ => ⟨S4x2816, .f32⟩
  | .hbm, ⟨34, _⟩ => ⟨S_, .f32⟩
  | .hbm, ⟨35, _⟩ => ⟨S4x2816, .f32⟩
  | .hbm, ⟨36, _⟩ => ⟨S4x2816, .f32⟩
  | _, _ => ⟨S4x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Reals.lean ====
/- Extended reals that are real numbers: sums, quotients and the constants the programs of this directory use, and
   what a precondition `|x| < ∞` says. -/
module

public import Idealize.ShloMosaic.Lib.Pointwise
public import Idealize.ShloMosaic.PureOps.Ideal.Laws

@[expose] public section

noncomputable section

namespace Cert.Reals

open Idealize.ShloMosaic

/-- A finite sum of real numbers, taken in the extended reals, is the real sum. -/
theorem sum_coe {ι : Type} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- A quotient of real numbers by a nonzero one. -/
theorem div_real (x : ℝ) {y : ℝ} (h : y ≠ 0) : Ideal.div (x : EReal) (y : EReal) = ((x / y : ℝ) : EReal) := by
  rw [Ideal.div_coe h, ← EReal.coe_mul]; congr 1; ring

/-- The reciprocal square root of a positive real number. -/
theorem rsqrt_real {x : ℝ} (h : 0 < x) : Ideal.rsqrt (x : EReal) = (((Real.sqrt x)⁻¹ : ℝ) : EReal) := by
  rw [Ideal.rsqrt_coe, if_neg (not_lt.mpr h.le), if_neg h.ne']

theorem ofBits_one : Ideal.ofBits .f32 0x3F800000#32 = ((1 : ℝ) : EReal) := by
  simp [Ideal.ofBits, Ideal.ieee, -EReal.coe_mul]; norm_num

theorem ofBits_zero : Ideal.ofBits .f32 0x00000000#32 = ((0 : ℝ) : EReal) := by
  simp [Ideal.ofBits, Ideal.ieee, -EReal.coe_mul]

theorem ofBits_neg_half : Ideal.ofBits .f32 0xBF000000#32 = ((-(1 / 2) : ℝ) : EReal) := by
  simp [Ideal.ofBits, Ideal.ieee, -EReal.coe_mul]; norm_num

theorem ofBits_512 : Ideal.ofBits .f32 0x44000000#32 = ((512 : ℝ) : EReal) := by
  simp [Ideal.ofBits, Ideal.ieee, -EReal.coe_mul]; norm_num

theorem ofBits_inf : Ideal.ofBits .f32 0x7F800000#32 = ⊤ := by
  simp [Ideal.ofBits, Ideal.ieee]

/-- The epsilon under the reciprocal square roots: the f32 number nearest to `1e-6`. -/
def eps : ℝ := 8796093 / 8796093022208

theorem eps_pos : 0 < eps := by unfold eps; norm_num

theorem ofBits_eps : Ideal.ofBits .f32 0x358637BD#32 = ((eps : ℝ) : EReal) := by
  unfold eps
  simp [Ideal.ofBits, Ideal.ieee, -EReal.coe_mul]; norm_num

/-- Both of two truth words hold. -/
theorem andi_one (a b : BitVec 1) : IntOp.andi a b = 1#1 ↔ a = 1#1 ∧ b = 1#1 := by
  revert a b; decide

/-- `|x| < ∞` says that `x` is a real number. -/
theorem real_of_abs_lt {x : EReal} (h : BitVec.ofBool (decide (FloatOps.absf (F := Ideal) (φ := .f32) x < Ideal.ofBits .f32 0x7F800000#32)) = 1#1) :
    x = ((x.toReal : ℝ) : EReal) := by
  have h' : max x (-x) < ⊤ := by
    rw [ofBits_inf] at h
    change BitVec.ofBool (decide (max x (-x) < ⊤)) = 1#1 at h
    by_contra hn
    rw [decide_eq_false hn] at h
    exact absurd h (by decide)
  clear h
  induction x with
  | bot => exact absurd h' (by simp)
  | top => exact absurd h' (by simp)
  | coe x => rfl

end Cert.Reals

end
-- ==== Proof.LnMath.lean ====
/- The gradient of `silu (layernorm x · g + b)` on one row, over the real numbers: the two ways of writing it agree. -/
module

public import proofs.«01_k».proof.Proof.Reals

@[expose] public section

noncomputable section

namespace Cert.LnMath

open Idealize.ShloMosaic Cert.Reals

/-- The mean of a row of 512. -/
def mean (x : Fin 512 → ℝ) : ℝ := (∑ k, x k) / 512

/-- The row less its mean. -/
def xc (x : Fin 512 → ℝ) (j : Fin 512) : ℝ := x j - mean x

/-- The row's variance plus epsilon. -/
def vareps (x : Fin 512 → ℝ) : ℝ := mean (fun k => xc x k * xc x k) + eps

/-- The reciprocal standard deviation. -/
def rstd (x : Fin 512 → ℝ) : ℝ := (Real.sqrt (vareps x))⁻¹

/-- The normalised row. -/
def yh (x : Fin 512 → ℝ) (j : Fin 512) : ℝ := xc x j * rstd x

theorem vareps_pos (x : Fin 512 → ℝ) : 0 < vareps x := by
  unfold vareps mean
  have := Finset.sum_nonneg (s := Finset.univ) (f := fun k => xc x k * xc x k) fun k _ => mul_self_nonneg _
  have := eps_pos
  positivity

theorem sum_xc (x : Fin 512 → ℝ) : ∑ k, xc x k = 0 := by
  unfold xc mean
  rw [Finset.sum_sub_distrib]
  simp
  ring

/-- The logistic function of a real number. -/
def sg (y : ℝ) : ℝ := 1 / (1 + Real.exp (-y))

/-- The logistic function as the programs spell it, at a real number and at the two infinities. -/
theorem sgE_coe (y : ℝ) : Ideal.div 1 (1 + Ideal.exp (-(y : EReal))) = ((sg y : ℝ) : EReal) := by
  rw [← EReal.coe_neg, Ideal.exp_coe, ← EReal.coe_one, ← EReal.coe_add, div_real _ (by positivity)]; rfl

theorem sgE_top : Ideal.div 1 (1 + Ideal.exp (-(⊤ : EReal))) = ((1 : ℝ) : EReal) := by
  rw [EReal.neg_top, Ideal.exp_bot, add_zero, ← EReal.coe_one, div_real _ one_ne_zero, div_one]

theorem sgE_bot : Ideal.div 1 (1 + Ideal.exp (-(⊥ : EReal))) = ((0 : ℝ) : EReal) := by
  rw [EReal.neg_bot, Ideal.exp_top, ← EReal.coe_one, EReal.coe_add_top]
  simp [Ideal.div]

/-- The derivative of `y · σ(y)` at an extended real: its limits at the two infinities. -/
def dsilu (y : EReal) : ℝ :=
  if y = ⊤ then 1 else if y = ⊥ then 0 else sg y.toReal * (1 + y.toReal * (1 - sg y.toReal))

/-- The kernel's spelling of the derivative. -/
theorem dsilu_kernel (d : ℝ) (y : EReal) :
    (d : EReal) * (Ideal.div 1 (1 + Ideal.exp (-y)) * (1 + y * (1 - Ideal.div 1 (1 + Ideal.exp (-y))))) = ((d * dsilu y : ℝ) : EReal) := by
  induction y with
  | bot => rw [sgE_bot]; simp [dsilu]
  | top => rw [sgE_top, ← EReal.coe_one, ← EReal.coe_sub]; simp [dsilu]
  | coe y =>
    rw [sgE_coe, ← EReal.coe_one, ← EReal.coe_sub, ← EReal.coe_mul, ← EReal.coe_add, ← EReal.coe_mul, ← EReal.coe_mul]
    simp [dsilu]

/-- Differentiation's spelling of the derivative. -/
theorem dsilu_ref (d : ℝ) (y : EReal) :
    (d : EReal) * Ideal.div 1 (1 + Ideal.exp (-y)) + y * d * (Ideal.div 1 (1 + Ideal.exp (-y)) * (1 - Ideal.div 1 (1 + Ideal.exp (-y)))) = ((d * dsilu y : ℝ) : EReal) := by
  induction y with
  | bot => rw [sgE_bot]; simp [dsilu]
  | top => rw [sgE_top, ← EReal.coe_one, ← EReal.coe_sub]; simp [dsilu]
  | coe y =>
    rw [sgE_coe, ← EReal.coe_one, ← EReal.coe_sub, ← EReal.coe_mul, ← EReal.coe_mul, ← EReal.coe_mul, ← EReal.coe_mul, ← EReal.coe_add]
    simp [dsilu, -EReal.coe_mul, -EReal.coe_add, -EReal.coe_sub]
    ring_nf

/-- The gradient of the row as the kernel writes it. -/
def dx (x g d : Fin 512 → ℝ) (j : Fin 512) : ℝ :=
  rstd x * (d j * g j - mean (fun k => d k * g k) - yh x j * mean (fun k => d k * g k * yh x k))

/-- The gradient of the row as differentiation of the forward lines writes it. -/
def dxRef (x g d : Fin 512 → ℝ) (j : Fin 512) : ℝ :=
  let c : ℝ := (∑ k, xc x k * (d k * g k)) * (-(1 / 2) * (rstd x / vareps x)) / 512
  let v : Fin 512 → ℝ := fun k => d k * g k * rstd x + xc x k * c + c * xc x k
  v j + (∑ k, -v k) / 512

theorem dxRef_eq (x g d : Fin 512 → ℝ) (j : Fin 512) : dxRef x g d j = dx x g d j := by
  have hs := sum_xc x
  have hv := vareps_pos x
  have hr : rstd x / vareps x = rstd x * (rstd x * rstd x) := by
    unfold rstd
    rw [← mul_inv, Real.mul_self_sqrt hv.le]; rfl
  unfold dxRef dx
  simp only [hr]
  have e1 : ∀ c : ℝ, ∑ k, -(d k * g k * rstd x + xc x k * c + c * xc x k) = -(rstd x * ∑ k, d k * g k) := fun c => by
    have : ∀ k, -(d k * g k * rstd x + xc x k * c + c * xc x k) = -(rstd x * (d k * g k)) + (-(2 * c)) * xc x k := fun k => by ring
    simp only [this, Finset.sum_add_distrib, Finset.sum_neg_distrib, ← Finset.mul_sum, hs]; ring
  rw [e1]
  unfold mean
  have e2 : ∑ k, d k * g k * yh x k = rstd x * ∑ k, xc x k * (d k * g k) := by
    rw [Finset.mul_sum]; exact Finset.sum_congr rfl fun k _ => by unfold yh; ring
  rw [e2]
  unfold yh
  ring

end Cert.LnMath

end
-- ==== Proof.LnPay.lean ====
/- What the layernorm-and-silu backward kernel stores, and what its reference returns, at an index: real numbers. -/
module

public import proofs.«01_k».proof.Proof.LnMath
public import proofs.«01_k».proof.Proof.Gen.LnSiluIdeal.Value
public import proofs.«01_k».proof.Proof.Gen.LnSiluRefIdeal.Read

@[expose] public section

set_option maxRecDepth 16384

noncomputable section

namespace Cert.LnPay

open Idealize.ShloMosaic Cert.Reals Cert.LnMath Cert.LnSiluIdeal Cert.LnSiluIdeal.Gen

theorem h512 : (512 : ℝ) ≠ 0 := by norm_num

section
variable (v0 : FVec Ideal S512x512 .f32) (x : Fin 512 → Fin 512 → ℝ) (hx : ∀ r l, v0 (ix2 r l) = ((x r l : ℝ) : EReal))
include hx

/-- The centred block. -/
theorem pay6 (r l : Fin 512) : k0_pay6 (F := Ideal) v0 (ix2 r l) = ((xc (x r) l : ℝ) : EReal) := by
  pointwise [k0_pay6]
  simp only [hx, sum_coe, ofBits_512, div_real _ h512, ← EReal.coe_sub]
  rfl

/-- The block's reciprocal standard deviations. -/
theorem pay7 (r : Fin 512) : k0_pay7 (F := Ideal) v0 (ix2 r (0 : Fin 1)) = ((rstd (x r) : ℝ) : EReal) := by
  pointwise [k0_pay7]
  simp only [pay6 v0 x hx, sum_coe, ofBits_512, ofBits_eps, div_real _ h512, ← EReal.coe_mul, ← EReal.coe_add]
  exact rsqrt_real (vareps_pos (x r))

/-- The normalised block. -/
theorem pay8 (r l : Fin 512) : k0_pay8 (F := Ideal) v0 (ix2 r l) = ((yh (x r) l : ℝ) : EReal) := by
  pointwise [k0_pay8]
  rw [pay6 v0 x hx, pay7 v0 x hx, ← EReal.coe_mul]
  rfl

/-- The gradient at the silu's argument. -/
theorem pay9 (v17 v20 : FVec Ideal S1x512 .f32) (v30 : FVec Ideal S512x512 .f32) (d : Fin 512 → Fin 512 → ℝ)
    (hd : ∀ r l, v30 (ix2 r l) = ((d r l : ℝ) : EReal)) (r l : Fin 512) :
    k0_pay9 (F := Ideal) v0 v17 v20 v30 (ix2 r l)
      = ((d r l * dsilu (((yh (x r) l : ℝ) : EReal) * v17 (ix2 0 l) + v20 (ix2 0 l)) : ℝ) : EReal) := by
  pointwise [k0_pay9]
  rw [hd, pay8 v0 x hx]
  rw [← dsilu_kernel]
  simp only [ofBits_one, EReal.coe_one, zero_sub]
end

/-- The input's gradient. -/
theorem pay1 (v14 : FVec Ideal S512x1 .f32) (v16 v37 : FVec Ideal S512x512 .f32) (v38 : FVec Ideal S1x512 .f32)
    (x d : Fin 512 → Fin 512 → ℝ) (g : Fin 512 → ℝ) (h14 : ∀ r, v14 (ix2 r 0) = ((rstd (x r) : ℝ) : EReal))
    (h16 : ∀ r l, v16 (ix2 r l) = ((yh (x r) l : ℝ) : EReal)) (h37 : ∀ r l, v37 (ix2 r l) = ((d r l : ℝ) : EReal))
    (h38 : ∀ l, v38 (ix2 0 l) = ((g l : ℝ) : EReal)) (r l : Fin 512) :
    k0_pay1 (F := Ideal) v14 v16 v37 v38 (ix2 r l) = ((dx (x r) g (d r) l : ℝ) : EReal) := by
  pointwise [k0_pay1]
  simp only [h14, h16, h37, h38, ofBits_512, ← EReal.coe_mul, sum_coe, div_real _ h512, ← EReal.coe_sub]
  rfl

/-- One block's step of the scale's gradient. -/
theorem pay4 (v16 v37 : FVec Ideal S512x512 .f32) (v61 : FVec Ideal S1x512 .f32) (x d : Fin 512 → Fin 512 → ℝ)
    (h16 : ∀ r l, v16 (ix2 r l) = ((yh (x r) l : ℝ) : EReal)) (h37 : ∀ r l, v37 (ix2 r l) = ((d r l : ℝ) : EReal)) (l : Fin 512) :
    k0_pay4 (F := Ideal) v16 v37 v61 (ix2 (0 : Fin 1) l) = v61 (ix2 (0 : Fin 1) l) + ((∑ r, d r l * yh (x r) l : ℝ) : EReal) := by
  pointwise [k0_pay4]
  simp only [h16, h37, ← EReal.coe_mul, sum_coe]

/-- One block's step of the shift's gradient. -/
theorem pay5 (v37 : FVec Ideal S512x512 .f32) (v68 : FVec Ideal S1x512 .f32) (d : Fin 512 → Fin 512 → ℝ)
    (h37 : ∀ r l, v37 (ix2 r l) = ((d r l : ℝ) : EReal)) (l : Fin 512) :
    k0_pay5 (F := Ideal) v37 v68 (ix2 (0 : Fin 1) l) = v68 (ix2 (0 : Fin 1) l) + ((∑ r, d r l : ℝ) : EReal) := by
  pointwise [k0_pay5]
  simp only [h37, sum_coe]

theorem hz : (![0, 0] : Fin 2 → Nat) = fun _ => 0 := funext fun a => by fin_cases a <;> rfl

section
variable (c : Dev nD) (i : grid0.Coords) (a1 : Memref sig .tc .vmem S512x512 .f32) (h1 : a1.IsWhole) (a2 : Memref sig .tc .vmem S1x512 .f32)
  (h2 : a2.IsWhole) (a3 : Memref sig .tc .vmem S1x512 .f32) (h3 : a3.IsWhole) (a4 : Memref sig .tc .vmem S512x512 .f32) (h4 : a4.IsWhole)
  (a5 : Memref sig .tc .vmem S512x512 .f32) (h5 : a5.IsWhole) (a6 : Memref sig .tc .vmem S1x512 .f32) (h6 : a6.IsWhole)
  (a7 : Memref sig .tc .vmem S1x512 .f32) (h7 : a7.IsWhole)
  (x0 : Vec Ideal S512x512 .f32) (x1 x2 : Vec Ideal S1x512 .f32) (x3 : Vec Ideal S512x512 .f32) (y5 y6 : Vec Ideal S1x512 .f32)

/-- What a point at the first block leaves: the input's gradient. -/
theorem outA4 (hc : cond0_0 i) : out0_A_4 c i a1 h1 a2 h2 a3 h3 a4 h4 a5 h5 a6 h6 a7 h7 hc x0 x1 x2 x3 = k0_pay1 (k0_pay7 x0) (k0_pay8 x0) (k0_pay9 x0 x1 x2 x3) x1 := by
  unfold out0_A_4
  rw [View.read_writes_eq_canon _ _ _ (cover0_A_4 c i a1 h1 a2 h2 a3 h3 a4 h4 a5 h5 a6 h6 a7 h7 hc x0 x1 x2 x3)]
  unfold kernelRun0_A
  dsimp only
  sl_unfold_words
  rw [View.canon_unit_zero hz]
  simp only [View.readAt_eq_ld, h1.read_unread, h2.read_unread, h3.read_unread, h4.read_unread, View.ld_unit_zero (S := S512x512) hz, View.ld_unit_zero (S := S1x512) hz, shapeCast_self]

/-- What a point at the first block leaves: the scale's gradient. -/
theorem outA5 (hc : cond0_0 i) : out0_A_5 c i a1 h1 a2 h2 a3 h3 a4 h4 a5 h5 a6 h6 a7 h7 hc x0 x1 x2 x3 = k0_pay4 (k0_pay8 x0) (k0_pay9 x0 x1 x2 x3) (k0_pay2 (F := Ideal)) := by
  unfold out0_A_5
  rw [View.read_writes_eq_canon _ _ _ (cover0_A_5 c i a1 h1 a2 h2 a3 h3 a4 h4 a5 h5 a6 h6 a7 h7 hc x0 x1 x2 x3)]
  unfold kernelRun0_A
  dsimp only
  sl_unfold_words
  rw [View.canon_cons_unit_zero (S := S1x512) hz, View.readCov_unit_zero (S := S1x512) _ hz]
  simp only [View.readAt_eq_ld, h1.read_unread, h2.read_unread, h3.read_unread, h4.read_unread, View.ld_unit_zero (S := S512x512) hz, View.ld_unit_zero (S := S1x512) hz, shapeCast_self]

/-- What a point at the first block leaves: the shift's gradient. -/
theorem outA6 (hc : cond0_0 i) : out0_A_6 c i a1 h1 a2 h2 a3 h3 a4 h4 a5 h5 a6 h6 a7 h7 hc x0 x1 x2 x3 = k0_pay5 (k0_pay9 x0 x1 x2 x3) (k0_pay3 (F := Ideal)) := by
  unfold out0_A_6
  rw [View.read_writes_eq_canon _ _ _ (cover0_A_6 c i a1 h1 a2 h2 a3 h3 a4 h4 a5 h5 a6 h6 a7 h7 hc x0 x1 x2 x3)]
  unfold kernelRun0_A
  dsimp only
  sl_unfold_words
  rw [View.canon_cons_unit_zero (S := S1x512) hz, View.readCov_unit_zero (S := S1x512) _ hz]
  simp only [View.readAt_eq_ld, h1.read_unread, h2.read_unread, h3.read_unread, h4.read_unread, View.ld_unit_zero (S := S512x512) hz, View.ld_unit_zero (S := S1x512) hz, shapeCast_self]

/-- What a point after the first leaves: the input's gradient. -/
theorem outB4 (hc : ¬cond0_0 i) : out0_B_4 c i a1 h1 a2 h2 a3 h3 a4 h4 a5 h5 a6 h6 a7 h7 hc x0 x1 x2 x3 y5 y6 = k0_pay1 (k0_pay7 x0) (k0_pay8 x0) (k0_pay9 x0 x1 x2 x3) x1 := by
  unfold out0_B_4
  rw [View.read_writes_eq_canon _ _ _ (cover0_B_4 c i a1 h1 a2 h2 a3 h3 a4 h4 a5 h5 a6 h6 a7 h7 hc x0 x1 x2 x3 y5 y6)]
  unfold kernelRun0_B
  dsimp only
  sl_unfold_words
  rw [View.canon_unit_zero hz]
  simp only [View.readAt_eq_ld, h1.read_unread, h2.read_unread, h3.read_unread, h4.read_unread, h6.read_unread, h7.read_unread, View.ld_unit_zero (S := S512x512) hz, View.ld_unit_zero (S := S1x512) hz, shapeCast_self]

/-- What a point after the first leaves: the scale's gradient. -/
theorem outB5 (hc : ¬cond0_0 i) : out0_B_5 c i a1 h1 a2 h2 a3 h3 a4 h4 a5 h5 a6 h6 a7 h7 hc x0 x1 x2 x3 y5 y6 = k0_pay4 (k0_pay8 x0) (k0_pay9 x0 x1 x2 x3) y5 := by
  unfold out0_B_5
  rw [View.read_writes_eq_canon _ _ _ (cover0_B_5 c i a1 h1 a2 h2 a3 h3 a4 h4 a5 h5 a6 h6 a7 h7 hc x0 x1 x2 x3 y5 y6)]
  unfold kernelRun0_B
  dsimp only
  sl_unfold_words
  rw [View.canon_unit_zero hz]
  simp only [View.readAt_eq_ld, h1.read_unread, h2.read_unread, h3.read_unread, h4.read_unread, h6.read_unread, h7.read_unread, View.ld_unit_zero (S := S512x512) hz, View.ld_unit_zero (S := S1x512) hz, shapeCast_self]

/-- What a point after the first leaves: the shift's gradient. -/
theorem outB6 (hc : ¬cond0_0 i) : out0_B_6 c i a1 h1 a2 h2 a3 h3 a4 h4 a5 h5 a6 h6 a7 h7 hc x0 x1 x2 x3 y5 y6 = k0_pay5 (k0_pay9 x0 x1 x2 x3) y6 := by
  unfold out0_B_6
  rw [View.read_writes_eq_canon _ _ _ (cover0_B_6 c i a1 h1 a2 h2 a3 h3 a4 h4 a5 h5 a6 h6 a7 h7 hc x0 x1 x2 x3 y5 y6)]
  unfold kernelRun0_B
  dsimp only
  sl_unfold_words
  rw [View.canon_unit_zero hz]
  simp only [View.readAt_eq_ld, h1.read_unread, h2.read_unread, h3.read_unread, h4.read_unread, h6.read_unread, h7.read_unread, View.ld_unit_zero (S := S512x512) hz, View.ld_unit_zero (S := S1x512) hz, shapeCast_self]

end

end Cert.LnPay

end
-- ==== Proof.LnArr.lean ====
/- The arrays the layernorm-and-silu backward kernel leaves, at an index: real functions of the arguments. -/
module

public import proofs.«01_k».proof.Proof.LnPay
public import Idealize.ShloMosaic.Lib.Pipeline.ValueKit

@[expose] public section

set_option maxRecDepth 16384

noncomputable section

namespace Cert.LnArr

open Idealize.ShloMosaic Idealize.ShloMosaic.TcCoe Idealize.SL.Sem Cert.Reals Cert.LnMath Cert.LnPay Cert.LnSiluIdeal Cert.LnSiluIdeal.Gen
open Idealize.ShloMosaic.Pipeline (Dat)

variable (m : (ℓ : Loc nD τ sig) → Buf (Elt Ideal) ℓ) (c : Dev nD)

/-- The activation before the norm, the scale, the shift and the incoming gradient, on device `c`. -/
abbrev X : Vec Ideal S2048x512 .f32 := m ((c : Thread nD τ).loc main_arg0)
abbrev G : Vec Ideal S1x512 .f32 := m ((c : Thread nD τ).loc main_arg1)
abbrev B : Vec Ideal S1x512 .f32 := m ((c : Thread nD τ).loc main_arg2)
abbrev C : Vec Ideal S2048x1024 .f32 := m ((c : Thread nD τ).loc main_arg3)

/-- Row `r` of the activation as real numbers. -/
def xR (r : Fin 2048) (l : Fin 512) : ℝ := (X m c (ix2 r l)).toReal
/-- The scale as real numbers. -/
def gR (l : Fin 512) : ℝ := (G m c (ix2 (0 : Fin 1) l)).toReal
/-- Row `r` of the incoming gradient's second half as real numbers. -/
def cR (r : Fin 2048) (l : Fin 512) : ℝ := (C m c (ix2 r (⟨l.val + 512, by omega⟩ : Fin 1024))).toReal
/-- Row `r` of the gradient at the silu's argument. -/
def dR (r : Fin 2048) (l : Fin 512) : ℝ :=
  cR m c r l * dsilu (((yh (xR m c r) l : ℝ) : EReal) * G m c (ix2 (0 : Fin 1) l) + B m c (ix2 (0 : Fin 1) l))

/-- The arguments the claim asks to be finite are. -/
structure Fin' : Prop where
  hx : ∀ r l, X m c (ix2 r l) = ((xR m c r l : ℝ) : EReal)
  hg : ∀ l, G m c (ix2 (0 : Fin 1) l) = ((gR m c l : ℝ) : EReal)
  hc : ∀ r l, C m c (ix2 r (⟨l.val + 512, by omega⟩ : Fin 1024)) = ((cR m c r l : ℝ) : EReal)

/-- The row of the arrays that row `r` of point `t`'s block is. -/
def row (t : Fin cfg0.N) (r : Fin 512) : Fin 2048 := ⟨t.val * 512 + r.val, by have hN : cfg0.N = 4 := N_0; have := t.isLt; omega⟩

theorem idx : ∀ t : Fin cfg0.N,
    win0_0.index t = ![t.val, 0] ∧ win0_1.index t = ![0, 0] ∧ win0_2.index t = ![0, 0]
    ∧ win0_3.index t = ![t.val, 1] ∧ win0_4.index t = ![t.val, 0] ∧ win0_5.index t = ![0, 0] ∧ win0_6.index t = ![0, 0] :=
  (by decide +kernel : ∀ t : Fin grid0.N, _)

theorem blk0 (t : Fin cfg0.N) (r l : Fin 512) : iblk m c 0 t (ix2 r l) = X m c (ix2 (row t r) l) := by
  blk_ext [iblk, V, idx t, row]
theorem blk1 (t : Fin cfg0.N) (l : Fin 512) : iblk m c 1 t (ix2 (0 : Fin 1) l) = G m c (ix2 (0 : Fin 1) l) := by
  blk_ext [iblk, V, idx t]
theorem blk2 (t : Fin cfg0.N) (l : Fin 512) : iblk m c 2 t (ix2 (0 : Fin 1) l) = B m c (ix2 (0 : Fin 1) l) := by
  blk_ext [iblk, V, idx t]
theorem blk3 (t : Fin cfg0.N) (r l : Fin 512) : iblk m c 3 t (ix2 r l) = C m c (ix2 (row t r) (⟨l.val + 512, by omega⟩ : Fin 1024)) := by
  blk_ext [iblk, V, idx t, row]

theorem emb4 (t : Fin cfg0.N) (r l : Fin 512) : ((cfg0.win 4).blk t).view.emb (ix2 r l : S512x512.Idx) = (ix2 (row t r) l : S2048x512.Idx) := by
  blk_ext [idx t, row]

/-- The sum over the points' blocks of a function of the row is the sum over the rows. -/
theorem sum_rows (f : Fin 2048 → ℝ) : ∑ t : Fin cfg0.N, ∑ r : Fin 512, f (row t r) = ∑ r, f r :=
  Fin.sum_mul_add_congr (fun s k hl => rfl) (by show 2048 = grid0.N * 512; rw [N_0])

variable (hf : Fin' m c)
include hf

/-- A block's gradient at the silu's argument. -/
theorem pd (t : Fin cfg0.N) (r l : Fin 512) :
    k0_pay9 (F := Ideal) (iblk m c 0 t) (iblk m c 1 t) (iblk m c 2 t) (iblk m c 3 t) (ix2 r l) = ((dR m c (row t r) l : ℝ) : EReal) := by
  rw [pay9 _ (fun r => xR m c (row t r)) (fun r l => (blk0 m c t r l).trans (hf.hx _ _)) _ _ _ (fun r => cR m c (row t r))
    (fun r l => (blk3 m c t r l).trans (hf.hc _ _)), blk1, blk2]
  rfl

/-- A block's normalised rows. -/
theorem py (t : Fin cfg0.N) (r l : Fin 512) :
    k0_pay8 (F := Ideal) (iblk m c 0 t) (ix2 r l) = ((yh (xR m c (row t r)) l : ℝ) : EReal) :=
  pay8 _ (fun r => xR m c (row t r)) (fun r l => (blk0 m c t r l).trans (hf.hx _ _)) r l

/-- A block's part of the input's gradient. -/
theorem pdx (t : Fin cfg0.N) (r l : Fin 512) :
    k0_pay1 (F := Ideal) (k0_pay7 (iblk m c 0 t)) (k0_pay8 (iblk m c 0 t)) (k0_pay9 (iblk m c 0 t) (iblk m c 1 t) (iblk m c 2 t) (iblk m c 3 t))
      (iblk m c 1 t) (ix2 r l) = ((dx (xR m c (row t r)) (gR m c) (dR m c (row t r)) l : ℝ) : EReal) :=
  pay1 _ _ _ _ (fun r => xR m c (row t r)) (fun r => dR m c (row t r)) (gR m c)
    (pay7 _ (fun r => xR m c (row t r)) (fun r l => (blk0 m c t r l).trans (hf.hx _ _))) (py m c hf t) (pd m c hf t)
    (fun l => (blk1 m c t l).trans (hf.hg l)) r l

omit hf in
/-- Every point leaves its block of the input's gradient. -/
theorem outs4 (t : Fin cfg0.N) : (outsAt0 m c t.val t.isLt).1
    = k0_pay1 (F := Ideal) (k0_pay7 (iblk m c 0 t)) (k0_pay8 (iblk m c 0 t)) (k0_pay9 (iblk m c 0 t) (iblk m c 1 t) (iblk m c 2 t) (iblk m c 3 t))
      (iblk m c 1 t) := by
  by_cases h : t.val % 4 = 0
  · rw [outsAt0_A m c t h]; dsimp only; rw [outA4]
  · rw [outsAt0_B m c t h]; dsimp only; rw [outB4]

theorem arr4 : (dats m 0 c).arrAt 4 cfg0.N = fun j : S2048x512.Idx => ((dx (xR m c (j 0)) (gR m c) (dR m c (j 0)) (j 1) : ℝ) : EReal) := by
  refine (dats m 0 c).arrAt_eq_of_covers 4 _ (by decide +kernel) fun t _ y => ?_
  blk_simp
  idx_vars y
  rw [after0_4, outs4, pdx m c hf]
  rw [emb4]
  rfl

theorem arr5 : (dats m 0 c).arrAt 5 cfg0.N = fun j : S1x512.Idx => ((∑ r, dR m c r (j 1) * yh (xR m c r) (j 1) : ℝ) : EReal) := by
  refine (dats m 0 c).arrAt_eq_of_after_last 5 t0_3 (by decide +kernel) _ fun j => ?_
  blk_simp
  idx_vars j
  obtain rfl : j0 = 0 := Subsingleton.elim _ _
  rw [after0_5]
  refine (Pipeline.eq_sum_fin_of_reset_step_apply_last (fun n h (l : Fin 512) => (outsAt0 m c n h).2.1 (ix2 (0 : Fin 1) l)) 4 (fun _ => (0 : EReal))
    (fun p l => ((∑ r, dR m c (row p r) l * yh (xR m c (row p r)) l : ℝ) : EReal))
    (fun t h l => ?_) (fun t h l => ?_) (le_of_eq N_0) t0_3 rfl j1).trans ?_
  · show (outsAt0 m c t.val t.isLt).2.1 (ix2 (0 : Fin 1) l) = _
    rw [outsAt0_A m c t h]; dsimp only; rw [outA5, pay4 _ _ _ _ _ (py m c hf t) (pd m c hf t)]
    congr 1; pointwise [k0_pay2]
  · show (outsAt0 m c t.val t.isLt).2.1 (ix2 (0 : Fin 1) l) = _
    rw [outsAt0_B m c t h]; dsimp only; rw [outB5, pay4 _ _ _ _ _ (py m c hf t) (pd m c hf t)]
  · rw [zero_add, sum_coe, sum_rows (fun r => dR m c r j1 * yh (xR m c r) j1)]

theorem arr6 : (dats m 0 c).arrAt 6 cfg0.N = fun j : S1x512.Idx => ((∑ r, dR m c r (j 1) : ℝ) : EReal) := by
  refine (dats m 0 c).arrAt_eq_of_after_last 6 t0_3 (by decide +kernel) _ fun j => ?_
  blk_simp
  idx_vars j
  obtain rfl : j0 = 0 := Subsingleton.elim _ _
  rw [after0_6]
  refine (Pipeline.eq_sum_fin_of_reset_step_apply_last (fun n h (l : Fin 512) => (outsAt0 m c n h).2.2 (ix2 (0 : Fin 1) l)) 4 (fun _ => (0 : EReal))
    (fun p l => ((∑ r, dR m c (row p r) l : ℝ) : EReal))
    (fun t h l => ?_) (fun t h l => ?_) (le_of_eq N_0) t0_3 rfl j1).trans ?_
  · show (outsAt0 m c t.val t.isLt).2.2 (ix2 (0 : Fin 1) l) = _
    rw [outsAt0_A m c t h]; dsimp only; rw [outA6, pay5 _ _ _ (pd m c hf t)]
    congr 1; pointwise [k0_pay3]
  · show (outsAt0 m c t.val t.isLt).2.2 (ix2 (0 : Fin 1) l) = _
    rw [outsAt0_B m c t h]; dsimp only; rw [outB6, pay5 _ _ _ (pd m c hf t)]
  · rw [zero_add, sum_coe, sum_rows (fun r => dR m c r j1)]

end Cert.LnArr

end
-- ==== Proof.LnRef.lean ====
/- What the layernorm-and-silu backward reference returns, at an index: real functions of the arguments. -/
module

public import proofs.«01_k».proof.Proof.LnArr

@[expose] public section

set_option maxRecDepth 16384

noncomputable section

namespace Cert.LnRef

open Idealize.ShloMosaic Idealize.ShloMosaic.TcCoe Cert.Reals Cert.LnMath Cert.LnPay Cert.LnSiluRefIdeal Cert.LnSiluRefIdeal.Read

section
variable (X : FVec Ideal S2048x512 .f32) (G B : FVec Ideal S1x512 .f32) (C : FVec Ideal S2048x1024 .f32)
  (x d : Fin 2048 → Fin 512 → ℝ) (g : Fin 512 → ℝ)
  (hx : ∀ r l, X (ix2 r l) = ((x r l : ℝ) : EReal)) (hg : ∀ l, G (ix2 (0 : Fin 1) l) = ((g l : ℝ) : EReal))
include hx

/-- The centred rows. -/
theorem ref5 (r : Fin 2048) (l : Fin 512) : val_main_v5 (F := Ideal) X (ix2 r l) = ((xc (x r) l : ℝ) : EReal) := by
  pointwise [val_main_v5, val_main_v4, val_main_v3, val_main_v2, val_main_cst_0, val_main_v1, val_main_v0, val_main_cst]
  simp only [hx, sum_coe, ofBits_512, div_real _ h512, ← EReal.coe_sub]
  rfl

/-- The rows' variances. -/
theorem ref12 (r : Fin 2048) : val_main_v12 (F := Ideal) X (ix2 r (0 : Fin 1)) = ((vareps (x r) : ℝ) : EReal) := by
  pointwise [val_main_v12, val_main_v11, val_main_cst_3, val_main_v10, val_main_v9, val_main_cst_2, val_main_v8, val_main_v7, val_main_cst_1, val_main_v6]
  simp only [ref5 X x hx, sum_coe, ofBits_512, ofBits_eps, div_real _ h512, ← EReal.coe_mul, ← EReal.coe_add]
  rfl

/-- The rows' reciprocal standard deviations. -/
theorem ref13 (r : Fin 2048) : val_main_v13 (F := Ideal) X (ix2 r (0 : Fin 1)) = ((rstd (x r) : ℝ) : EReal) := by
  pointwise [val_main_v13]
  rw [ref12 X x hx]
  exact rsqrt_real (vareps_pos (x r))

/-- The derivative of the reciprocal square root. -/
theorem ref16 (r : Fin 2048) : val_main_v16 (F := Ideal) X (ix2 r (0 : Fin 1)) = ((-(1 / 2) * (rstd (x r) / vareps (x r)) : ℝ) : EReal) := by
  pointwise [val_main_v16, val_main_v15, val_main_cst_4, val_main_v14]
  rw [ref12 X x hx, ref13 X x hx, div_real _ (vareps_pos (x r)).ne', ofBits_neg_half, ← EReal.coe_mul]

/-- The normalised rows. -/
theorem ref18 (r : Fin 2048) (l : Fin 512) : val_main_v18 (F := Ideal) X (ix2 r l) = ((yh (x r) l : ℝ) : EReal) := by
  pointwise [val_main_v18, val_main_v17]
  rw [ref5 X x hx, ref13 X x hx, ← EReal.coe_mul]
  rfl

/-- The gradient at the silu's argument. -/
theorem ref25 (c : Fin 2048 → Fin 512 → ℝ) (hc : ∀ r l, C (ix2 r (⟨l.val + 512, by omega⟩ : Fin 1024)) = ((c r l : ℝ) : EReal)) (r : Fin 2048) (l : Fin 512) :
    val_main_v25 (F := Ideal) X G B C (ix2 r l)
      = ((c r l * dsilu (((yh (x r) l : ℝ) : EReal) * G (ix2 (0 : Fin 1) l) + B (ix2 (0 : Fin 1) l)) : ℝ) : EReal) := by
  rw [← dsilu_ref]
  pointwise [val_main_v25, val_main_call1_v2, val_main_call1_v1, val_main_call1_v0, val_main_v24, val_main_v23_1, val_main_v23_2, val_main_call0_v7, val_main_call0_v6, val_main_call0_cst_1, val_main_call0_v4, val_main_call0_cst_0, val_main_call0_v3, val_main_call0_v2, val_main_call0_cst, val_main_call0_v1, val_main_call0_v0, val_main_v22, val_main_v21, val_main_v20, val_main_v19]
  have hc' : C (ix2 r (⟨512 + l.val, by omega⟩ : Fin 1024)) = ((c r l : ℝ) : EReal) := by
    rw [← hc]; congr 2; exact Fin.ext (Nat.add_comm _ _)
  simp only [ref18 X x hx, hc', ofBits_one, EReal.coe_one]

variable (hd : ∀ r l, val_main_v25 (F := Ideal) X G B C (ix2 r l) = ((d r l : ℝ) : EReal))
include hd

omit hx in
/-- The shift's gradient. -/
theorem ref27 (l : Fin 512) : val_main_v27 (F := Ideal) X G B C (ix2 (0 : Fin 1) l) = ((∑ r, d r l : ℝ) : EReal) := by
  pointwise [val_main_v27, val_main_v26, val_main_cst_5]
  simp only [hd, sum_coe]

/-- The scale's gradient. -/
theorem ref30 (l : Fin 512) : val_main_v30 (F := Ideal) X G B C (ix2 (0 : Fin 1) l) = ((∑ r, d r l * yh (x r) l : ℝ) : EReal) := by
  pointwise [val_main_v30, val_main_v29, val_main_v28, val_main_cst_6]
  simp only [hd, ref18 X x hx, ← EReal.coe_mul, sum_coe, mul_comm]

include hg

/-- The input's gradient. -/
theorem ref54 (r : Fin 2048) (l : Fin 512) : val_main_v54 (F := Ideal) X G B C (ix2 r l) = ((dx (x r) g (d r) l : ℝ) : EReal) := by
  rw [← dxRef_eq]
  have h46 : ∀ k : Fin 512, val_main_v46 (F := Ideal) X G B C (ix2 r k) = ((d r k * g k * rstd (x r) + xc (x r) k * ((∑ k, xc (x r) k * (d r k * g k)) * (-(1 / 2) * (rstd (x r) / vareps (x r))) / 512)
      + ((∑ k, xc (x r) k * (d r k * g k)) * (-(1 / 2) * (rstd (x r) / vareps (x r))) / 512) * xc (x r) k : ℝ) : EReal) := by
    intro k
    pointwise [val_main_v46, val_main_v45, val_main_v44, val_main_v43, val_main_v42, val_main_v41, val_main_cst_9, val_main_v40, val_main_v39, val_main_cst_8, val_main_v38, val_main_v37, val_main_v36, val_main_v35, val_main_v34, val_main_cst_7, val_main_v33, val_main_v32, val_main_v31]
    simp only [hd, hg, Fin.sum_univ_one, ref5 X x hx, ref13 X x hx, ref16 X x hx, ofBits_512, ← EReal.coe_mul, sum_coe, div_real _ h512, ← EReal.coe_add]
  pointwise [val_main_v54, val_main_v53, val_main_v52, val_main_cst_12, val_main_v51, val_main_v50, val_main_cst_11, val_main_v49, val_main_v48, val_main_cst_10, val_main_v47]
  simp only [h46, Fin.sum_univ_one, ofBits_512, ← EReal.coe_neg, sum_coe, div_real _ h512, ← EReal.coe_add]
  rfl
end

end Cert.LnRef

end
-- ==== Proof.LnTop.lean ====
/- The claims about the layernorm-and-silu backward kernel. -/
module

public import proofs.«01_k».proof.Defs
public import proofs.«01_k».proof.Proof.LnRef
public import proofs.«01_k».proof.Proof.Gen.Pre_ln_silu_finite
public import proofs.«01_k».proof.Proof.Gen.LnSilu.Frame

@[expose] public section

set_option maxRecDepth 16384

noncomputable section

namespace Cert.LnTop

open Idealize.ShloMosaic Idealize.ShloMosaic.TcCoe Idealize.SL.Sem Cert.Reals Cert.LnMath Cert.LnArr Cert.LnRef

/-- The precondition says the arguments it names are real numbers. -/
theorem fin_of_pre (m : (ℓ : Loc Cert.LnSiluIdeal.nD Cert.LnSiluIdeal.τ Cert.LnSiluIdeal.sig) → Buf (Elt Ideal) ℓ)
    (h : Cert.Pre_LnSiluIdeal_ln_silu_finite m) (c : Dev Cert.LnSiluIdeal.nD) : Fin' m c := by
  have hA : ∀ (r : Fin 2048) (l : Fin 512), _ := fun r l => congrFun (h c) (ix2 r l)
  unfold Cert.Pre_ln_silu_finite.fn at hA
  pointwise [] at hA
  simp only [andi_one] at hA
  refine ⟨fun r l => real_of_abs_lt (hA r l).1.1, fun l => real_of_abs_lt (hA 0 l).1.2, fun r l => ?_⟩
  have e : (⟨l.val + 512, by omega⟩ : Fin 1024) = ⟨512 + l.val, by omega⟩ := Fin.ext (Nat.add_comm _ _)
  unfold cR
  rw [e]
  exact real_of_abs_lt (hA r l).2

/-- The kernel and the differentiated forward lines leave the same gradients of the activation, the scale and the shift. -/
theorem algebraic : Cert.algebraic_LnSiluIdeal_LnSiluRefIdeal_pre_ln_silu_finite := fun m ρ m' ρ' hp hag =>
  ⟨fun c j => ((dx (xR m c (j 0)) (gR m c) (dR m c (j 0)) (j 1) : ℝ) : EReal), fun c j => ((∑ r, dR m c r (j 1) * yh (xR m c r) (j 1) : ℝ) : EReal),
    fun c j => ((∑ r, dR m c r (j 1) : ℝ) : EReal),
    (θ_run _ _ _).mono (fun _ h c => by
      have hf := fin_of_pre m hp c
      exact ⟨(h c).1.trans (arr4 m c hf), (h c).2.1.trans (arr5 m c hf), (h c).2.2.1.trans (arr6 m c hf), (h c).2.2.2⟩)
      (Cert.LnSiluIdeal.Value.run_blocks m ρ),
    (θ_run _ _ _).mono (fun _ h c => by
      have hf := fin_of_pre m hp c
      have hd := ref25 _ (G m c) (B m c) (C m c) (xR m c) hf.hx (cR m c) hf.hc
      refine ⟨(h c).1.trans ?_, (h c).2.1.trans ?_, (h c).2.2.1.trans ?_, (h c).2.2.2⟩
      · rw [Cert.LnSiluRefIdeal.Read.val_main_v54_eq, (hag c).1, (hag c).2.1, (hag c).2.2.1, (hag c).2.2.2]
        funext j; idx_vars j
        exact ref54 _ (G m c) (B m c) (C m c) (xR m c) (dR m c) (gR m c) hf.hx hf.hg hd j0 j1
      · rw [Cert.LnSiluRefIdeal.Read.val_main_v30_eq, (hag c).1, (hag c).2.1, (hag c).2.2.1, (hag c).2.2.2]
        funext j; idx_vars j
        obtain rfl : j0 = 0 := Subsingleton.elim _ _
        exact ref30 _ (G m c) (B m c) (C m c) (xR m c) (dR m c) hf.hx hd j1
      · rw [Cert.LnSiluRefIdeal.Read.val_main_v27_eq, (hag c).1, (hag c).2.1, (hag c).2.2.1, (hag c).2.2.2]
        funext j; idx_vars j
        obtain rfl : j0 = 0 := Subsingleton.elim _ _
        exact ref27 _ (G m c) (B m c) (C m c) (dR m c) hd j1)
      (Cert.LnSiluRefIdeal.Value.run m' ρ')⟩

/-- The reference ends with its arguments unchanged; it declares no semaphore. -/
theorem frame_ref : Cert.quiescent_LnSiluRefIdeal := fun m ρ _ =>
  (θ_run Cert.LnSiluRefIdeal.defs _ _).mono (fun r h => And.intro (fun c => (h c).2.2.2) (Idealize.ShloMosaic.sem_eq_zero_of_no_sems (by decide) r.2))
    (Cert.LnSiluRefIdeal.Value.run (F := Ideal) m ρ)

/-- The kernel, its ideal reading and the reference end with their arguments unchanged. -/
theorem frames : Cert.quiescent_LnSilu ∧ Cert.quiescent_LnSiluIdeal ∧ Cert.quiescent_LnSiluIdeal_pre_ln_silu_finite
    ∧ Cert.quiescent_LnSiluRefIdeal ∧ Cert.quiescent_LnSiluRefIdeal_pre_ln_silu_finite :=
  ⟨fun m ρ _ => Cert.LnSilu.Gen.frame m ρ, fun m ρ _ => Cert.LnSiluIdeal.Gen.frame m ρ, fun m ρ _ => Cert.LnSiluIdeal.Gen.frame m ρ,
    frame_ref, fun m ρ _ => frame_ref m ρ trivial⟩

end Cert.LnTop

end
-- ==== Proof.AttnChk.lean ====
module

public import proofs.«01_k».proof.AttnBwdIdeal

@[expose] public section

set_option maxRecDepth 16384

noncomputable section

namespace Cert.AttnBwdIdeal.Chk

open Idealize.ShloMosaic Idealize.ShloMosaic.TcCoe

/-- The conditions the sweep over earlier key tiles assumes depend on the start word only through its clipped value. -/
theorem congr (t1 : Fin k0_t1_loop.trips) (v w : BitVec 32)
    (h : Scalar.minsi (Scf.iv (0#32) (1#32) t1) (Scalar.maxsi 0#32 v) = Scalar.minsi (Scf.iv (0#32) (1#32) t1) (Scalar.maxsi 0#32 w)) :
    k0_chk1 t1 w → k0_chk1 t1 v := by
  unfold k0_chk1 k0_off14 k0_off15 k0_off16 k0_off17 k0_off18 k0_off19 k0_off20 k0_off21 k0_mult2 k0_mult3 k0_t2_loop k0_t3_loop
  dsimp only
  generalize Scalar.minsi (Scf.iv (0#32) (1#32) t1) (Scalar.maxsi 0#32 v) = a at *
  generalize Scalar.minsi (Scf.iv (0#32) (1#32) t1) (Scalar.maxsi 0#32 w) = b at *
  subst h
  exact id

/-- The clipped start word at a query tile is one of the tiles up to that tile. -/
theorem clip (t1 : Fin 8) (v : BitVec 32) :
    ∃ n : Fin 8, Scalar.minsi (Scf.iv (0#32) (1#32) t1) (Scalar.maxsi 0#32 v)
      = Scalar.minsi (Scf.iv (0#32) (1#32) t1) (Scalar.maxsi 0#32 (BitVec.ofNat 32 n.val)) := by
  have hmx : ∀ y : BitVec 32, Scalar.maxsi 0#32 y = if y.slt 0#32 then 0#32 else y := fun _ => rfl
  have hmn : ∀ x y : BitVec 32, Scalar.minsi x y = if x.slt y then x else y := fun _ _ => rfl
  by_cases h0 : v.slt 0#32
  · refine ⟨0, ?_⟩
    rw [hmx, if_pos h0]
    rfl
  · by_cases h1 : (Scf.iv (0#32) (1#32) t1.val).slt v
    · refine ⟨t1, ?_⟩
      rw [hmx, if_neg h0, hmn, if_pos h1]
      clear h0 h1
      revert t1
      decide
    · have hv : v.toNat < 8 := by
        have ha : ∀ t1 : Fin 8, (Scf.iv (0#32) (1#32) t1.val).toInt ≤ 7 := by decide
        have := ha t1
        simp only [BitVec.slt, decide_eq_true_eq, not_lt] at h0 h1
        have h2 : v.toInt = if 2 * v.toNat < 2 ^ 32 then (v.toNat : ℤ) else v.toNat - (2 ^ 32 : ℕ) := BitVec.toInt_eq_toNat_cond v
        have h3 : (0#32 : BitVec 32).toInt = 0 := by decide
        have h4 := v.isLt
        split at h2 <;> omega
      refine ⟨⟨v.toNat, hv⟩, ?_⟩
      rw [BitVec.ofNat_toNat, BitVec.setWidth_eq]

/-- At every tile number below eight the assumed conditions hold. -/
theorem all_lit : ∀ (t1 : Fin k0_t1_loop.trips) (n : Fin 8), k0_chk1 t1 (BitVec.ofNat 32 n.val) := by
  decide +kernel

/-- The conditions the sweep assumes hold whatever the start word read from memory. -/
theorem all (t1 : Fin k0_t1_loop.trips) (v : BitVec 32) : k0_chk1 t1 v := by
  obtain ⟨n, hn⟩ := clip t1 v
  exact congr t1 v _ hn (all_lit t1 n)

end Cert.AttnBwdIdeal.Chk

end
-- ==== Proof.AttnLoop.lean ====
module

public import proofs.«01_k».proof.Proof.Gen.AttnBwdIdeal.Loops
public import proofs.«01_k».proof.Proof.AttnChk

@[expose] public section

set_option maxRecDepth 16384

noncomputable section

namespace Cert.AttnBwdIdeal.Loop

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnBwdIdeal.Gen

variable {F : FTy → Type} [FloatOps F]

local notation "𝕄G" => MT nD τ sig Unit (Elt F) ℕ (UR sig nD τ) ℕ

/-- What one trip of the sweep over query tiles holds: the blocks it reads at their contents and the
three accumulators at any. -/
abbrev Trip (c : Dev nD) (arg5 : Memref sig .tc .vmem S1x2048x256 .f32) (arg6 : Memref sig .tc .vmem S2048x256 .f32) (arg7 : Memref sig .tc .vmem S256x256 .bf16) (arg8 : Memref sig .tc .vmem S256x256 .bf16) (arg9 : Memref sig .tc .smem S2x8 .f32) (arg10 : Memref sig .tc .vmem S4x2048x64 .bf16) (arg11 : Memref sig .tc .vmem S4x2048x64 .bf16) (arg12 : Memref sig .tc .vmem S4x2048x64 .bf16) (arg18 : Memref sig .tc .vmem S4x2048x64 .f32) (arg19 : Memref sig .tc .vmem S4x2048x64 .f32) (arg20 : Memref sig .tc .vmem S4x2048x64 .f32) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (f18 : BufTy.Contents (Elt F) arg18.view.ty) (f19 : BufTy.Contents (Elt F) arg19.view.ty) (f20 : BufTy.Contents (Elt F) arg20.view.ty) : sProp 𝕄G :=
  iprop((arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20))

/-- One trip of the sweep over query tiles: the pieces it writes into the three accumulators, as
functions of what it finds in the two it adds to. -/
@[irreducible] def trip (𝒱 : Variants) (c : Dev nD) (bd : Option 𝒱.V) (i : grid0.Coords) (arg1 : Memref sig .tc .vmem S2048x256 .f32) (harg1 : arg1.IsWhole) (arg2 : Memref sig .tc .vmem S2048x256 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x2048x256 .f32) (harg5 : arg5.IsWhole) (arg6 : Memref sig .tc .vmem S2048x256 .f32) (harg6 : arg6.IsWhole) (arg7 : Memref sig .tc .vmem S256x256 .bf16) (harg7 : arg7.IsWhole) (arg8 : Memref sig .tc .vmem S256x256 .bf16) (harg8 : arg8.IsWhole) (arg9 : Memref sig .tc .smem S2x8 .f32) (harg9 : arg9.IsWhole) (arg10 : Memref sig .tc .vmem S4x2048x64 .bf16) (harg10 : arg10.IsWhole) (arg11 : Memref sig .tc .vmem S4x2048x64 .bf16) (harg11 : arg11.IsWhole) (arg12 : Memref sig .tc .vmem S4x2048x64 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S1x64 .f32) (harg16 : arg16.IsWhole) (arg17 : Memref sig .tc .vmem S1x64 .f32) (harg17 : arg17.IsWhole) (arg18 : Memref sig .tc .vmem S4x2048x64 .f32) (harg18 : arg18.IsWhole) (arg19 : Memref sig .tc .vmem S4x2048x64 .f32) (harg19 : arg19.IsWhole) (arg20 : Memref sig .tc .vmem S4x2048x64 .f32) (harg20 : arg20.IsWhole) (arg0 : BitVec 32) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (k : Fin k0_t1_loop.trips) :
    Σ' (L18 : BufTy.Contents (Elt F) arg19.view.ty → BufTy.Contents (Elt F) arg20.view.ty → List (View.Piece (Elt F) S4x2048x64 .f32)) (L19 : BufTy.Contents (Elt F) arg19.view.ty → BufTy.Contents (Elt F) arg20.view.ty → List (View.Piece (Elt F) S4x2048x64 .f32)),
      { L20 : BufTy.Contents (Elt F) arg19.view.ty → BufTy.Contents (Elt F) arg20.view.ty → List (View.Piece (Elt F) S4x2048x64 .f32) //
        ∀ (E : Set ℕ) (f18 : BufTy.Contents (Elt F) arg18.view.ty) (f19 : BufTy.Contents (Elt F) arg19.view.ty) (f20 : BufTy.Contents (Elt F) arg20.view.ty),
        Trip (F := F) c arg5 arg6 arg7 arg8 arg9 arg10 arg11 arg12 arg18 arg19 arg20 X5 X6 X7 X8 X9 X10 X11 X12 f18 f19 f20
        ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 k ())
          (fun _ => Trip (F := F) c arg5 arg6 arg7 arg8 arg9 arg10 arg11 arg12 arg18 arg19 arg20 X5 X6 X7 X8 X9 X10 X11 X12 (arg18.view.writes (Elt F) f18 (L18 f19 f20)) (arg19.view.writes (Elt F) f19 (L19 f19 f20)) (arg20.view.writes (Elt F) f20 (L20 f19 f20))) } := by
  have hk : k.val < 8 := Nat.lt_of_lt_of_le k.isLt (by decide)
  refine ⟨?_, ?_, ?_, fun E f18 f19 f20 => ?run⟩
  case run =>
    unfold k0_t1_body
    iintro ⟨HR5, HR6, HR7, HR8, HR9, HR10, HR11, HR12, HW18, HW19, HW20⟩
    sl_exec (disch := exact Cert.AttnBwdIdeal.Chk.all _ _)
    sl_step
    sl_close

/-- The pieces of the trips before trip `k`, the last first. -/
def st (𝒱 : Variants) (c : Dev nD) (bd : Option 𝒱.V) (i : grid0.Coords) (arg1 : Memref sig .tc .vmem S2048x256 .f32) (harg1 : arg1.IsWhole) (arg2 : Memref sig .tc .vmem S2048x256 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x2048x256 .f32) (harg5 : arg5.IsWhole) (arg6 : Memref sig .tc .vmem S2048x256 .f32) (harg6 : arg6.IsWhole) (arg7 : Memref sig .tc .vmem S256x256 .bf16) (harg7 : arg7.IsWhole) (arg8 : Memref sig .tc .vmem S256x256 .bf16) (harg8 : arg8.IsWhole) (arg9 : Memref sig .tc .smem S2x8 .f32) (harg9 : arg9.IsWhole) (arg10 : Memref sig .tc .vmem S4x2048x64 .bf16) (harg10 : arg10.IsWhole) (arg11 : Memref sig .tc .vmem S4x2048x64 .bf16) (harg11 : arg11.IsWhole) (arg12 : Memref sig .tc .vmem S4x2048x64 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S1x64 .f32) (harg16 : arg16.IsWhole) (arg17 : Memref sig .tc .vmem S1x64 .f32) (harg17 : arg17.IsWhole) (arg18 : Memref sig .tc .vmem S4x2048x64 .f32) (harg18 : arg18.IsWhole) (arg19 : Memref sig .tc .vmem S4x2048x64 .f32) (harg19 : arg19.IsWhole) (arg20 : Memref sig .tc .vmem S4x2048x64 .f32) (harg20 : arg20.IsWhole) (arg0 : BitVec 32) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (G19 : BufTy.Contents (Elt F) arg19.view.ty) (G20 : BufTy.Contents (Elt F) arg20.view.ty) : ℕ → (List (View.Piece (Elt F) S4x2048x64 .f32)) × (List (View.Piece (Elt F) S4x2048x64 .f32)) × (List (View.Piece (Elt F) S4x2048x64 .f32))
  | 0 => ([], [], [])
  | k + 1 =>
    let p := st 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 X5 X6 X7 X8 X9 X10 X11 X12 G19 G20 k
    if h : k < k0_t1_loop.trips then
      let T := trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 X5 X6 X7 X8 X9 X10 X11 X12 ⟨k, h⟩
      let f19 := (arg19.view.writes (Elt F) G19 p.2.1)
      let f20 := (arg20.view.writes (Elt F) G20 p.2.2)
      (T.1 f19 f20 ++ p.1, T.2.1 f19 f20 ++ p.2.1, T.2.2.1 f19 f20 ++ p.2.2)
    else p

theorem st_succ (𝒱 : Variants) (c : Dev nD) (bd : Option 𝒱.V) (i : grid0.Coords) (arg1 : Memref sig .tc .vmem S2048x256 .f32) (harg1 : arg1.IsWhole) (arg2 : Memref sig .tc .vmem S2048x256 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x2048x256 .f32) (harg5 : arg5.IsWhole) (arg6 : Memref sig .tc .vmem S2048x256 .f32) (harg6 : arg6.IsWhole) (arg7 : Memref sig .tc .vmem S256x256 .bf16) (harg7 : arg7.IsWhole) (arg8 : Memref sig .tc .vmem S256x256 .bf16) (harg8 : arg8.IsWhole) (arg9 : Memref sig .tc .smem S2x8 .f32) (harg9 : arg9.IsWhole) (arg10 : Memref sig .tc .vmem S4x2048x64 .bf16) (harg10 : arg10.IsWhole) (arg11 : Memref sig .tc .vmem S4x2048x64 .bf16) (harg11 : arg11.IsWhole) (arg12 : Memref sig .tc .vmem S4x2048x64 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S1x64 .f32) (harg16 : arg16.IsWhole) (arg17 : Memref sig .tc .vmem S1x64 .f32) (harg17 : arg17.IsWhole) (arg18 : Memref sig .tc .vmem S4x2048x64 .f32) (harg18 : arg18.IsWhole) (arg19 : Memref sig .tc .vmem S4x2048x64 .f32) (harg19 : arg19.IsWhole) (arg20 : Memref sig .tc .vmem S4x2048x64 .f32) (harg20 : arg20.IsWhole) (arg0 : BitVec 32) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (G19 : BufTy.Contents (Elt F) arg19.view.ty) (G20 : BufTy.Contents (Elt F) arg20.view.ty) (k : Fin k0_t1_loop.trips) :
    st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 X5 X6 X7 X8 X9 X10 X11 X12 G19 G20 (k.val + 1)
      = ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 X5 X6 X7 X8 X9 X10 X11 X12 k).1 (arg19.view.writes (Elt F) G19 (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 X5 X6 X7 X8 X9 X10 X11 X12 G19 G20 k.val).2.1) (arg20.view.writes (Elt F) G20 (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 X5 X6 X7 X8 X9 X10 X11 X12 G19 G20 k.val).2.2) ++ (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 X5 X6 X7 X8 X9 X10 X11 X12 G19 G20 k.val).1,
         (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 X5 X6 X7 X8 X9 X10 X11 X12 k).2.1 (arg19.view.writes (Elt F) G19 (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 X5 X6 X7 X8 X9 X10 X11 X12 G19 G20 k.val).2.1) (arg20.view.writes (Elt F) G20 (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 X5 X6 X7 X8 X9 X10 X11 X12 G19 G20 k.val).2.2) ++ (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 X5 X6 X7 X8 X9 X10 X11 X12 G19 G20 k.val).2.1,
         (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 X5 X6 X7 X8 X9 X10 X11 X12 k).2.2.1 (arg19.view.writes (Elt F) G19 (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 X5 X6 X7 X8 X9 X10 X11 X12 G19 G20 k.val).2.1) (arg20.view.writes (Elt F) G20 (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 X5 X6 X7 X8 X9 X10 X11 X12 G19 G20 k.val).2.2) ++ (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 X5 X6 X7 X8 X9 X10 X11 X12 G19 G20 k.val).2.2) := by
  rw [st.eq_2]; exact dif_pos k.isLt

/-- What holds before trip `k`: the blocks read, and each accumulator with the pieces of the trips
before `k` written over what it held on entry. -/
abbrev inv (𝒱 : Variants) (c : Dev nD) (bd : Option 𝒱.V) (i : grid0.Coords) (arg1 : Memref sig .tc .vmem S2048x256 .f32) (harg1 : arg1.IsWhole) (arg2 : Memref sig .tc .vmem S2048x256 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x2048x256 .f32) (harg5 : arg5.IsWhole) (arg6 : Memref sig .tc .vmem S2048x256 .f32) (harg6 : arg6.IsWhole) (arg7 : Memref sig .tc .vmem S256x256 .bf16) (harg7 : arg7.IsWhole) (arg8 : Memref sig .tc .vmem S256x256 .bf16) (harg8 : arg8.IsWhole) (arg9 : Memref sig .tc .smem S2x8 .f32) (harg9 : arg9.IsWhole) (arg10 : Memref sig .tc .vmem S4x2048x64 .bf16) (harg10 : arg10.IsWhole) (arg11 : Memref sig .tc .vmem S4x2048x64 .bf16) (harg11 : arg11.IsWhole) (arg12 : Memref sig .tc .vmem S4x2048x64 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S1x64 .f32) (harg16 : arg16.IsWhole) (arg17 : Memref sig .tc .vmem S1x64 .f32) (harg17 : arg17.IsWhole) (arg18 : Memref sig .tc .vmem S4x2048x64 .f32) (harg18 : arg18.IsWhole) (arg19 : Memref sig .tc .vmem S4x2048x64 .f32) (harg19 : arg19.IsWhole) (arg20 : Memref sig .tc .vmem S4x2048x64 .f32) (harg20 : arg20.IsWhole) (arg0 : BitVec 32) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (G18 : BufTy.Contents (Elt F) arg18.view.ty) (G19 : BufTy.Contents (Elt F) arg19.view.ty) (G20 : BufTy.Contents (Elt F) arg20.view.ty) (k : ℕ) (_acc : Unit) : sProp 𝕄G :=
  iprop((arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (∃ f, (arg18.view.loc (c : Thread nD τ) ↦[arg18.view.set]{fullShare} f) ∗ ⌜f = arg18.view.writes (Elt F) G18 (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 X5 X6 X7 X8 X9 X10 X11 X12 G19 G20 k).1⌝) ∗ (∃ f, (arg19.view.loc (c : Thread nD τ) ↦[arg19.view.set]{fullShare} f) ∗ ⌜f = arg19.view.writes (Elt F) G19 (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 X5 X6 X7 X8 X9 X10 X11 X12 G19 G20 k).2.1⌝) ∗ (∃ f, (arg20.view.loc (c : Thread nD τ) ↦[arg20.view.set]{fullShare} f) ∗ ⌜f = arg20.view.writes (Elt F) G20 (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 X5 X6 X7 X8 X9 X10 X11 X12 G19 G20 k).2.2⌝))

set_option warn.classDefReducibility false in
/-- The sweep over query tiles by what holds before each trip. -/
@[sl_loop] def loopInv_k0_t1 (𝒱 : Variants) (c : Dev nD) (bd : Option 𝒱.V) (E : Set ℕ) (i : grid0.Coords) (arg1 : Memref sig .tc .vmem S2048x256 .f32) (harg1 : arg1.IsWhole) (arg2 : Memref sig .tc .vmem S2048x256 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x2048x256 .f32) (harg5 : arg5.IsWhole) (arg6 : Memref sig .tc .vmem S2048x256 .f32) (harg6 : arg6.IsWhole) (arg7 : Memref sig .tc .vmem S256x256 .bf16) (harg7 : arg7.IsWhole) (arg8 : Memref sig .tc .vmem S256x256 .bf16) (harg8 : arg8.IsWhole) (arg9 : Memref sig .tc .smem S2x8 .f32) (harg9 : arg9.IsWhole) (arg10 : Memref sig .tc .vmem S4x2048x64 .bf16) (harg10 : arg10.IsWhole) (arg11 : Memref sig .tc .vmem S4x2048x64 .bf16) (harg11 : arg11.IsWhole) (arg12 : Memref sig .tc .vmem S4x2048x64 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S1x64 .f32) (harg16 : arg16.IsWhole) (arg17 : Memref sig .tc .vmem S1x64 .f32) (harg17 : arg17.IsWhole) (arg18 : Memref sig .tc .vmem S4x2048x64 .f32) (harg18 : arg18.IsWhole) (arg19 : Memref sig .tc .vmem S4x2048x64 .f32) (harg19 : arg19.IsWhole) (arg20 : Memref sig .tc .vmem S4x2048x64 .f32) (harg20 : arg20.IsWhole) (arg0 : BitVec 32) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (G18 : BufTy.Contents (Elt F) arg18.view.ty) (G19 : BufTy.Contents (Elt F) arg19.view.ty) (G20 : BufTy.Contents (Elt F) arg20.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 where
  inv := inv (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 X5 X6 X7 X8 X9 X10 X11 X12 G18 G19 G20
  step k acc := by
    iintro ⟨HR5, HR6, HR7, HR8, HR9, HR10, HR11, HR12, ⟨%f18, HW18, %h18⟩, ⟨%f19, HW19, %h19⟩, ⟨%f20, HW20, %h20⟩⟩
    iapply (wp_wand_r Idealize.ShloMosaic.frame (wpE (defs₀ (F := F)) 𝒱 (c : Thread nD τ) bd) E)
    isplitl [HR5 HR6 HR7 HR8 HR9 HR10 HR11 HR12 HW18 HW19 HW20]
    · iapply ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 X5 X6 X7 X8 X9 X10 X11 X12 k).2.2.2 E f18 f19 f20)
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HW18]; · iexact HW18
      isplitl [HW19]; · iexact HW19
      iexact HW20
    · iintro %yld ⟨HR5, HR6, HR7, HR8, HR9, HR10, HR11, HR12, HW18, HW19, HW20⟩
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      simp only [st_succ]
      isplitl [HW18]
      · iexists _; isplitl [HW18]; · iexact HW18
        ipureintro; rw [h18, h19, h20, ← View.writes_append]
      isplitl [HW19]
      · iexists _; isplitl [HW19]; · iexact HW19
        ipureintro; rw [h19, h20, ← View.writes_append]
      iexists _; isplitl [HW20]; · iexact HW20
      ipureintro; rw [h19, h20, ← View.writes_append]

end Cert.AttnBwdIdeal.Loop

end
-- ==== Proof.AttnRun.lean ====
module

public import proofs.«01_k».proof.Proof.Gen.AttnBwdIdeal.Loops
public import proofs.«01_k».proof.Proof.AttnLoop
public import proofs.«01_k».proof.Proof.Gen.AttnBwdIdeal.Frame
public import Idealize.ShloMosaic.Lib.WordCmp

@[expose] public section

set_option maxRecDepth 16384

noncomputable section

namespace Cert.AttnBwdIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnBwdIdeal.Gen

variable {F : FTy → Type} [FloatOps F]

local notation "𝕄G" => MT nD τ sig Unit (Elt F) ℕ (UR sig nD τ) ℕ

/-- The condition of the body's `if`. -/
abbrev cond0_0 (i : grid0.Coords) : Prop := (Scalar.cmpi .ne (Scalar.extui (Scalar.cmpi .eq (BitVec.ofNat 32 (i 0).val) 0#32)) 0#32) = 1#1

/-- It holds at the first point only. -/
theorem hcond0_0 : ∀ t : Fin cfg0.N, cond0_0 (grid0.coords t) ↔ t.val % 2 = 0 :=
  (by decide +kernel : ∀ t : Fin grid0.N, cond0_0 (grid0.coords t) ↔ t.val % 2 = 0)

set_option maxHeartbeats 4000000 in
/-- The body at the first grid point: the pieces it leaves in each of its five results, from the blocks it reads and
what the three accumulators happen to hold, with the proof that it runs to its end leaving them. -/
noncomputable def runA (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x2048x256 .f32) (harg5 : arg5.IsWhole) (arg6 : Memref sig .tc .vmem S2048x256 .f32) (harg6 : arg6.IsWhole) (arg7 : Memref sig .tc .vmem S256x256 .bf16) (harg7 : arg7.IsWhole) (arg8 : Memref sig .tc .vmem S256x256 .bf16) (harg8 : arg8.IsWhole) (arg9 : Memref sig .tc .smem S2x8 .f32) (harg9 : arg9.IsWhole) (arg10 : Memref sig .tc .vmem S4x2048x64 .bf16) (harg10 : arg10.IsWhole) (arg11 : Memref sig .tc .vmem S4x2048x64 .bf16) (harg11 : arg11.IsWhole) (arg12 : Memref sig .tc .vmem S4x2048x64 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S1x64 .f32) (harg16 : arg16.IsWhole) (arg17 : Memref sig .tc .vmem S1x64 .f32) (harg17 : arg17.IsWhole) (arg18 : Memref sig .tc .vmem S4x2048x64 .f32) (harg18 : arg18.IsWhole) (arg19 : Memref sig .tc .vmem S4x2048x64 .f32) (harg19 : arg19.IsWhole) (arg20 : Memref sig .tc .vmem S4x2048x64 .f32) (harg20 : arg20.IsWhole) (hc0 : cond0_0 i) (x1 : Vec F S2048x256 .f32) (x2 : Vec F S2048x256 .f32) (x3 : Vec F S1x64 .f32) (x4 : Vec F S1x64 .f32) (x5 : Vec F S1x2048x256 .f32) (x6 : Vec F S2048x256 .f32) (x7 : Vec F S256x256 .bf16) (x8 : Vec F S256x256 .bf16) (x9 : Vec F S2x8 .f32) (x10 : Vec F S4x2048x64 .bf16) (x11 : Vec F S4x2048x64 .bf16) (x12 : Vec F S4x2048x64 .bf16) (f18 : BufTy.Contents (Elt F) arg18.view.ty) (f19 : BufTy.Contents (Elt F) arg19.view.ty) (f20 : BufTy.Contents (Elt F) arg20.view.ty) :
    Σ' (L13 : List (View.Piece (Elt F) S2048x256 .bf16)) (L14 : List (View.Piece (Elt F) S2048x256 .bf16)) (L15 : List (View.Piece (Elt F) S2048x256 .bf16)) (L16 : List (View.Piece (Elt F) S1x64 .f32)), { L17 : List (View.Piece (Elt F) S1x64 .f32) //
      ∀ (E : Set ℕ) (K : PUnit → sProp 𝕄G),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ f, (arg13.view.loc (c : Thread nD τ) ↦[arg13.view.set]{fullShare} (arg13.view.writes (Elt F) f L13))) ∗ (∃ f, (arg14.view.loc (c : Thread nD τ) ↦[arg14.view.set]{fullShare} (arg14.view.writes (Elt F) f L14))) ∗ (∃ f, (arg15.view.loc (c : Thread nD τ) ↦[arg15.view.set]{fullShare} (arg15.view.writes (Elt F) f L15))) ∗ (∃ f, (arg16.view.loc (c : Thread nD τ) ↦[arg16.view.set]{fullShare} (arg16.view.writes (Elt F) f L16))) ∗ (∃ f, (arg17.view.loc (c : Thread nD τ) ↦[arg17.view.set]{fullShare} (arg17.view.writes (Elt F) f L17))) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f))) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, fun E K => ?run⟩
  case run =>
    simp only [cc0_attn_bwd_eq_skeleton]; unfold cc0_attn_bwd_skel
    simp only [k0_part28_eq_skeleton]
    unfold owns
    iintro ⟨⟨%g1, %hg1, H1⟩, ⟨%g2, %hg2, H2⟩, ⟨%g3, %hg3, H3⟩, ⟨%g4, %hg4, H4⟩, ⟨%g5, %hg5, H5⟩, ⟨%g6, %hg6, H6⟩, ⟨%g7, %hg7, H7⟩, ⟨%g8, %hg8, H8⟩, ⟨%g9, %hg9, H9⟩, ⟨%g10, %hg10, H10⟩, ⟨%g11, %hg11, H11⟩, ⟨%g12, %hg12, H12⟩, ⟨%d13, %g13, -, H13⟩, ⟨%d14, %g14, -, H14⟩, ⟨%d15, %g15, -, H15⟩, ⟨%d16, %g16, -, H16⟩, ⟨%d17, %g17, -, H17⟩, H18, H19, H20, Hk⟩
    obtain rfl := harg1.eq_unread hg1; obtain rfl := harg2.eq_unread hg2; obtain rfl := harg3.eq_unread hg3; obtain rfl := harg4.eq_unread hg4; obtain rfl := harg5.eq_unread hg5; obtain rfl := harg6.eq_unread hg6; obtain rfl := harg7.eq_unread hg7; obtain rfl := harg8.eq_unread hg8; obtain rfl := harg9.eq_unread hg9; obtain rfl := harg10.eq_unread hg10; obtain rfl := harg11.eq_unread hg11; obtain rfl := harg12.eq_unread hg12
    sl_exec (disch := first | sl_exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    iexists _; iexact H20

set_option maxHeartbeats 4000000 in
/-- The body at a later grid point: the pieces it leaves in each of its five results, from the blocks it reads and
what the three accumulators happen to hold, with the proof that it runs to its end leaving them. -/
noncomputable def runB (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x2048x256 .f32) (harg5 : arg5.IsWhole) (arg6 : Memref sig .tc .vmem S2048x256 .f32) (harg6 : arg6.IsWhole) (arg7 : Memref sig .tc .vmem S256x256 .bf16) (harg7 : arg7.IsWhole) (arg8 : Memref sig .tc .vmem S256x256 .bf16) (harg8 : arg8.IsWhole) (arg9 : Memref sig .tc .smem S2x8 .f32) (harg9 : arg9.IsWhole) (arg10 : Memref sig .tc .vmem S4x2048x64 .bf16) (harg10 : arg10.IsWhole) (arg11 : Memref sig .tc .vmem S4x2048x64 .bf16) (harg11 : arg11.IsWhole) (arg12 : Memref sig .tc .vmem S4x2048x64 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S1x64 .f32) (harg16 : arg16.IsWhole) (arg17 : Memref sig .tc .vmem S1x64 .f32) (harg17 : arg17.IsWhole) (arg18 : Memref sig .tc .vmem S4x2048x64 .f32) (harg18 : arg18.IsWhole) (arg19 : Memref sig .tc .vmem S4x2048x64 .f32) (harg19 : arg19.IsWhole) (arg20 : Memref sig .tc .vmem S4x2048x64 .f32) (harg20 : arg20.IsWhole) (hc0 : ¬cond0_0 i) (x1 : Vec F S2048x256 .f32) (x2 : Vec F S2048x256 .f32) (x3 : Vec F S1x64 .f32) (x4 : Vec F S1x64 .f32) (x5 : Vec F S1x2048x256 .f32) (x6 : Vec F S2048x256 .f32) (x7 : Vec F S256x256 .bf16) (x8 : Vec F S256x256 .bf16) (x9 : Vec F S2x8 .f32) (x10 : Vec F S4x2048x64 .bf16) (x11 : Vec F S4x2048x64 .bf16) (x12 : Vec F S4x2048x64 .bf16) (y16 : Vec F S1x64 .f32) (y17 : Vec F S1x64 .f32) (f18 : BufTy.Contents (Elt F) arg18.view.ty) (f19 : BufTy.Contents (Elt F) arg19.view.ty) (f20 : BufTy.Contents (Elt F) arg20.view.ty) :
    Σ' (L13 : List (View.Piece (Elt F) S2048x256 .bf16)) (L14 : List (View.Piece (Elt F) S2048x256 .bf16)) (L15 : List (View.Piece (Elt F) S2048x256 .bf16)) (L16 : List (View.Piece (Elt F) S1x64 .f32)), { L17 : List (View.Piece (Elt F) S1x64 .f32) //
      ∀ (E : Set ℕ) (K : PUnit → sProp 𝕄G),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ (∃ d, owns (c : Thread nD τ) arg15 fullShare d) ∗ owns (c : Thread nD τ) arg16 fullShare y16 ∗ owns (c : Thread nD τ) arg17 fullShare y17 ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ f, (arg13.view.loc (c : Thread nD τ) ↦[arg13.view.set]{fullShare} (arg13.view.writes (Elt F) f L13))) ∗ (∃ f, (arg14.view.loc (c : Thread nD τ) ↦[arg14.view.set]{fullShare} (arg14.view.writes (Elt F) f L14))) ∗ (∃ f, (arg15.view.loc (c : Thread nD τ) ↦[arg15.view.set]{fullShare} (arg15.view.writes (Elt F) f L15))) ∗ (∃ f, (arg16.view.loc (c : Thread nD τ) ↦[arg16.view.set]{fullShare} (arg16.view.writes (Elt F) f L16))) ∗ (∃ f, (arg17.view.loc (c : Thread nD τ) ↦[arg17.view.set]{fullShare} (arg17.view.writes (Elt F) f L17))) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f))) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, fun E K => ?run⟩
  case run =>
    simp only [cc0_attn_bwd_eq_skeleton]; unfold cc0_attn_bwd_skel
    simp only [k0_part28_eq_skeleton]
    unfold owns
    iintro ⟨⟨%g1, %hg1, H1⟩, ⟨%g2, %hg2, H2⟩, ⟨%g3, %hg3, H3⟩, ⟨%g4, %hg4, H4⟩, ⟨%g5, %hg5, H5⟩, ⟨%g6, %hg6, H6⟩, ⟨%g7, %hg7, H7⟩, ⟨%g8, %hg8, H8⟩, ⟨%g9, %hg9, H9⟩, ⟨%g10, %hg10, H10⟩, ⟨%g11, %hg11, H11⟩, ⟨%g12, %hg12, H12⟩, ⟨%d13, %g13, -, H13⟩, ⟨%d14, %g14, -, H14⟩, ⟨%d15, %g15, -, H15⟩, ⟨%g16, %hg16, H16⟩, ⟨%g17, %hg17, H17⟩, H18, H19, H20, Hk⟩
    obtain rfl := harg1.eq_unread hg1; obtain rfl := harg2.eq_unread hg2; obtain rfl := harg3.eq_unread hg3; obtain rfl := harg4.eq_unread hg4; obtain rfl := harg5.eq_unread hg5; obtain rfl := harg6.eq_unread hg6; obtain rfl := harg7.eq_unread hg7; obtain rfl := harg8.eq_unread hg8; obtain rfl := harg9.eq_unread hg9; obtain rfl := harg10.eq_unread hg10; obtain rfl := harg11.eq_unread hg11; obtain rfl := harg12.eq_unread hg12; obtain rfl := harg16.eq_unread hg16; obtain rfl := harg17.eq_unread hg17
    sl_exec (disch := first | sl_exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    iexists _; iexact H20

end Cert.AttnBwdIdeal.Run

end
-- ==== Proof.AttnOut.lean ====
module

public import proofs.«01_k».proof.Proof.Gen.AttnBwdIdeal.Loops
public import proofs.«01_k».proof.Proof.AttnRun

@[expose] public section

set_option maxRecDepth 16384

noncomputable section

namespace Cert.AttnBwdIdeal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnBwdIdeal.Gen

variable {F : FTy → Type} [FloatOps F]

local notation "𝕄G" => MT nD τ sig Unit (Elt F) ℕ (UR sig nD τ) ℕ
open Cert.AttnBwdIdeal.Run

/-- The number of tiles the two sweeps visit. -/
abbrev N8 : ℕ := Scf.trips (0#32) (Scalar.addi 0#32 8#32) 1#32

/-- What the sweep over query tiles writes into the three accumulators, begun from zero. -/
def lp (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x2048x256 .f32) (harg5 : arg5.IsWhole) (arg6 : Memref sig .tc .vmem S2048x256 .f32) (harg6 : arg6.IsWhole) (arg7 : Memref sig .tc .vmem S256x256 .bf16) (harg7 : arg7.IsWhole) (arg8 : Memref sig .tc .vmem S256x256 .bf16) (harg8 : arg8.IsWhole) (arg9 : Memref sig .tc .smem S2x8 .f32) (harg9 : arg9.IsWhole) (arg10 : Memref sig .tc .vmem S4x2048x64 .bf16) (harg10 : arg10.IsWhole) (arg11 : Memref sig .tc .vmem S4x2048x64 .bf16) (harg11 : arg11.IsWhole) (arg12 : Memref sig .tc .vmem S4x2048x64 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S1x64 .f32) (harg16 : arg16.IsWhole) (arg17 : Memref sig .tc .vmem S1x64 .f32) (harg17 : arg17.IsWhole) (arg18 : Memref sig .tc .vmem S4x2048x64 .f32) (harg18 : arg18.IsWhole) (arg19 : Memref sig .tc .vmem S4x2048x64 .f32) (harg19 : arg19.IsWhole) (arg20 : Memref sig .tc .vmem S4x2048x64 .f32) (harg20 : arg20.IsWhole) (x1 : Vec F S2048x256 .f32) (x2 : Vec F S2048x256 .f32) (x3 : Vec F S1x64 .f32) (x4 : Vec F S1x64 .f32) (x5 : Vec F S1x2048x256 .f32) (x6 : Vec F S2048x256 .f32) (x7 : Vec F S256x256 .bf16) (x8 : Vec F S256x256 .bf16) (x9 : Vec F S2x8 .f32) (x10 : Vec F S4x2048x64 .bf16) (x11 : Vec F S4x2048x64 .bf16) (x12 : Vec F S4x2048x64 .bf16) :=
  Loop.st (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 ↑(i 0)) (harg5.unread x5) (harg6.unread x6) (harg7.unread x7) (harg8.unread x8) (harg9.unread x9) (harg10.unread x10) (harg11.unread x11) (harg12.unread x12) (arg19.view.writes (Elt F) arg19.view.junk [⟨Rect.unit ![0, 0, 0] S4x2048x64.size inb_S4x2048x64_S4x2048x64_0_0_0, k0_pay262⟩]) (arg20.view.writes (Elt F) arg20.view.junk [⟨Rect.unit ![0, 0, 0] S4x2048x64.size inb_S4x2048x64_S4x2048x64_0_0_0, k0_pay263⟩]) N8

/-- What accumulator 1 of three holds after the sweep over query tiles. -/
def S18 (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x2048x256 .f32) (harg5 : arg5.IsWhole) (arg6 : Memref sig .tc .vmem S2048x256 .f32) (harg6 : arg6.IsWhole) (arg7 : Memref sig .tc .vmem S256x256 .bf16) (harg7 : arg7.IsWhole) (arg8 : Memref sig .tc .vmem S256x256 .bf16) (harg8 : arg8.IsWhole) (arg9 : Memref sig .tc .smem S2x8 .f32) (harg9 : arg9.IsWhole) (arg10 : Memref sig .tc .vmem S4x2048x64 .bf16) (harg10 : arg10.IsWhole) (arg11 : Memref sig .tc .vmem S4x2048x64 .bf16) (harg11 : arg11.IsWhole) (arg12 : Memref sig .tc .vmem S4x2048x64 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S1x64 .f32) (harg16 : arg16.IsWhole) (arg17 : Memref sig .tc .vmem S1x64 .f32) (harg17 : arg17.IsWhole) (arg18 : Memref sig .tc .vmem S4x2048x64 .f32) (harg18 : arg18.IsWhole) (arg19 : Memref sig .tc .vmem S4x2048x64 .f32) (harg19 : arg19.IsWhole) (arg20 : Memref sig .tc .vmem S4x2048x64 .f32) (harg20 : arg20.IsWhole) (x1 : Vec F S2048x256 .f32) (x2 : Vec F S2048x256 .f32) (x3 : Vec F S1x64 .f32) (x4 : Vec F S1x64 .f32) (x5 : Vec F S1x2048x256 .f32) (x6 : Vec F S2048x256 .f32) (x7 : Vec F S256x256 .bf16) (x8 : Vec F S256x256 .bf16) (x9 : Vec F S2x8 .f32) (x10 : Vec F S4x2048x64 .bf16) (x11 : Vec F S4x2048x64 .bf16) (x12 : Vec F S4x2048x64 .bf16) : BufTy.Contents (Elt F) arg18.view.ty :=
  arg18.view.writes (Elt F) arg18.view.junk ((lp c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12).1)

/-- What accumulator 2 of three holds after the sweep over query tiles. -/
def S19 (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x2048x256 .f32) (harg5 : arg5.IsWhole) (arg6 : Memref sig .tc .vmem S2048x256 .f32) (harg6 : arg6.IsWhole) (arg7 : Memref sig .tc .vmem S256x256 .bf16) (harg7 : arg7.IsWhole) (arg8 : Memref sig .tc .vmem S256x256 .bf16) (harg8 : arg8.IsWhole) (arg9 : Memref sig .tc .smem S2x8 .f32) (harg9 : arg9.IsWhole) (arg10 : Memref sig .tc .vmem S4x2048x64 .bf16) (harg10 : arg10.IsWhole) (arg11 : Memref sig .tc .vmem S4x2048x64 .bf16) (harg11 : arg11.IsWhole) (arg12 : Memref sig .tc .vmem S4x2048x64 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S1x64 .f32) (harg16 : arg16.IsWhole) (arg17 : Memref sig .tc .vmem S1x64 .f32) (harg17 : arg17.IsWhole) (arg18 : Memref sig .tc .vmem S4x2048x64 .f32) (harg18 : arg18.IsWhole) (arg19 : Memref sig .tc .vmem S4x2048x64 .f32) (harg19 : arg19.IsWhole) (arg20 : Memref sig .tc .vmem S4x2048x64 .f32) (harg20 : arg20.IsWhole) (x1 : Vec F S2048x256 .f32) (x2 : Vec F S2048x256 .f32) (x3 : Vec F S1x64 .f32) (x4 : Vec F S1x64 .f32) (x5 : Vec F S1x2048x256 .f32) (x6 : Vec F S2048x256 .f32) (x7 : Vec F S256x256 .bf16) (x8 : Vec F S256x256 .bf16) (x9 : Vec F S2x8 .f32) (x10 : Vec F S4x2048x64 .bf16) (x11 : Vec F S4x2048x64 .bf16) (x12 : Vec F S4x2048x64 .bf16) : BufTy.Contents (Elt F) arg19.view.ty :=
  arg19.view.writes (Elt F) arg19.view.junk ((lp c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12).2.1 ++ [⟨Rect.unit ![0, 0, 0] S4x2048x64.size inb_S4x2048x64_S4x2048x64_0_0_0, k0_pay262⟩])

/-- What accumulator 3 of three holds after the sweep over query tiles. -/
def S20 (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x2048x256 .f32) (harg5 : arg5.IsWhole) (arg6 : Memref sig .tc .vmem S2048x256 .f32) (harg6 : arg6.IsWhole) (arg7 : Memref sig .tc .vmem S256x256 .bf16) (harg7 : arg7.IsWhole) (arg8 : Memref sig .tc .vmem S256x256 .bf16) (harg8 : arg8.IsWhole) (arg9 : Memref sig .tc .smem S2x8 .f32) (harg9 : arg9.IsWhole) (arg10 : Memref sig .tc .vmem S4x2048x64 .bf16) (harg10 : arg10.IsWhole) (arg11 : Memref sig .tc .vmem S4x2048x64 .bf16) (harg11 : arg11.IsWhole) (arg12 : Memref sig .tc .vmem S4x2048x64 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S1x64 .f32) (harg16 : arg16.IsWhole) (arg17 : Memref sig .tc .vmem S1x64 .f32) (harg17 : arg17.IsWhole) (arg18 : Memref sig .tc .vmem S4x2048x64 .f32) (harg18 : arg18.IsWhole) (arg19 : Memref sig .tc .vmem S4x2048x64 .f32) (harg19 : arg19.IsWhole) (arg20 : Memref sig .tc .vmem S4x2048x64 .f32) (harg20 : arg20.IsWhole) (x1 : Vec F S2048x256 .f32) (x2 : Vec F S2048x256 .f32) (x3 : Vec F S1x64 .f32) (x4 : Vec F S1x64 .f32) (x5 : Vec F S1x2048x256 .f32) (x6 : Vec F S2048x256 .f32) (x7 : Vec F S256x256 .bf16) (x8 : Vec F S256x256 .bf16) (x9 : Vec F S2x8 .f32) (x10 : Vec F S4x2048x64 .bf16) (x11 : Vec F S4x2048x64 .bf16) (x12 : Vec F S4x2048x64 .bf16) : BufTy.Contents (Elt F) arg20.view.ty :=
  arg20.view.writes (Elt F) arg20.view.junk ((lp c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12).2.2 ++ [⟨Rect.unit ![0, 0, 0] S4x2048x64.size inb_S4x2048x64_S4x2048x64_0_0_0, k0_pay263⟩])

/-- What the finishing sweep yields and writes into the three results by rows. -/
def fin (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x2048x256 .f32) (harg5 : arg5.IsWhole) (arg6 : Memref sig .tc .vmem S2048x256 .f32) (harg6 : arg6.IsWhole) (arg7 : Memref sig .tc .vmem S256x256 .bf16) (harg7 : arg7.IsWhole) (arg8 : Memref sig .tc .vmem S256x256 .bf16) (harg8 : arg8.IsWhole) (arg9 : Memref sig .tc .smem S2x8 .f32) (harg9 : arg9.IsWhole) (arg10 : Memref sig .tc .vmem S4x2048x64 .bf16) (harg10 : arg10.IsWhole) (arg11 : Memref sig .tc .vmem S4x2048x64 .bf16) (harg11 : arg11.IsWhole) (arg12 : Memref sig .tc .vmem S4x2048x64 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S1x64 .f32) (harg16 : arg16.IsWhole) (arg17 : Memref sig .tc .vmem S1x64 .f32) (harg17 : arg17.IsWhole) (arg18 : Memref sig .tc .vmem S4x2048x64 .f32) (harg18 : arg18.IsWhole) (arg19 : Memref sig .tc .vmem S4x2048x64 .f32) (harg19 : arg19.IsWhole) (arg20 : Memref sig .tc .vmem S4x2048x64 .f32) (harg20 : arg20.IsWhole) (x1 : Vec F S2048x256 .f32) (x2 : Vec F S2048x256 .f32) (x3 : Vec F S1x64 .f32) (x4 : Vec F S1x64 .f32) (x5 : Vec F S1x2048x256 .f32) (x6 : Vec F S2048x256 .f32) (x7 : Vec F S256x256 .bf16) (x8 : Vec F S256x256 .bf16) (x9 : Vec F S2x8 .f32) (x10 : Vec F S4x2048x64 .bf16) (x11 : Vec F S4x2048x64 .bf16) (x12 : Vec F S4x2048x64 .bf16) :=
  st_k0_t4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg1.unread x1) (harg2.unread x2) (harg3.unread x3) (harg4.unread x4) (S18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12) (S19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12) (S20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12) (k0_pay269, k0_pay269, k0_pay269, k0_pay269, k0_pay269, k0_pay269, k0_pay269, k0_pay269) N8

/-- The tiles of the first accumulator cover it. -/
theorem cover18 (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x2048x256 .f32) (harg5 : arg5.IsWhole) (arg6 : Memref sig .tc .vmem S2048x256 .f32) (harg6 : arg6.IsWhole) (arg7 : Memref sig .tc .vmem S256x256 .bf16) (harg7 : arg7.IsWhole) (arg8 : Memref sig .tc .vmem S256x256 .bf16) (harg8 : arg8.IsWhole) (arg9 : Memref sig .tc .smem S2x8 .f32) (harg9 : arg9.IsWhole) (arg10 : Memref sig .tc .vmem S4x2048x64 .bf16) (harg10 : arg10.IsWhole) (arg11 : Memref sig .tc .vmem S4x2048x64 .bf16) (harg11 : arg11.IsWhole) (arg12 : Memref sig .tc .vmem S4x2048x64 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S1x64 .f32) (harg16 : arg16.IsWhole) (arg17 : Memref sig .tc .vmem S1x64 .f32) (harg17 : arg17.IsWhole) (arg18 : Memref sig .tc .vmem S4x2048x64 .f32) (harg18 : arg18.IsWhole) (arg19 : Memref sig .tc .vmem S4x2048x64 .f32) (harg19 : arg19.IsWhole) (arg20 : Memref sig .tc .vmem S4x2048x64 .f32) (harg20 : arg20.IsWhole) (x1 : Vec F S2048x256 .f32) (x2 : Vec F S2048x256 .f32) (x3 : Vec F S1x64 .f32) (x4 : Vec F S1x64 .f32) (x5 : Vec F S1x2048x256 .f32) (x6 : Vec F S2048x256 .f32) (x7 : Vec F S256x256 .bf16) (x8 : Vec F S256x256 .bf16) (x9 : Vec F S2x8 .f32) (x10 : Vec F S4x2048x64 .bf16) (x11 : Vec F S4x2048x64 .bf16) (x12 : Vec F S4x2048x64 .bf16) (y : S4x2048x64.Idx) : ∃ pc ∈ (lp c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12).1, y ∈ pc.1.set :=
  View.cover_of_tiledL (lp c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12).1 S1x256x64.size (by sl_kernel_rfl) y

/-- So what it held before does not matter. -/
theorem eq18 (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x2048x256 .f32) (harg5 : arg5.IsWhole) (arg6 : Memref sig .tc .vmem S2048x256 .f32) (harg6 : arg6.IsWhole) (arg7 : Memref sig .tc .vmem S256x256 .bf16) (harg7 : arg7.IsWhole) (arg8 : Memref sig .tc .vmem S256x256 .bf16) (harg8 : arg8.IsWhole) (arg9 : Memref sig .tc .smem S2x8 .f32) (harg9 : arg9.IsWhole) (arg10 : Memref sig .tc .vmem S4x2048x64 .bf16) (harg10 : arg10.IsWhole) (arg11 : Memref sig .tc .vmem S4x2048x64 .bf16) (harg11 : arg11.IsWhole) (arg12 : Memref sig .tc .vmem S4x2048x64 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S1x64 .f32) (harg16 : arg16.IsWhole) (arg17 : Memref sig .tc .vmem S1x64 .f32) (harg17 : arg17.IsWhole) (arg18 : Memref sig .tc .vmem S4x2048x64 .f32) (harg18 : arg18.IsWhole) (arg19 : Memref sig .tc .vmem S4x2048x64 .f32) (harg19 : arg19.IsWhole) (arg20 : Memref sig .tc .vmem S4x2048x64 .f32) (harg20 : arg20.IsWhole) (x1 : Vec F S2048x256 .f32) (x2 : Vec F S2048x256 .f32) (x3 : Vec F S1x64 .f32) (x4 : Vec F S1x64 .f32) (x5 : Vec F S1x2048x256 .f32) (x6 : Vec F S2048x256 .f32) (x7 : Vec F S256x256 .bf16) (x8 : Vec F S256x256 .bf16) (x9 : Vec F S2x8 .f32) (x10 : Vec F S4x2048x64 .bf16) (x11 : Vec F S4x2048x64 .bf16) (x12 : Vec F S4x2048x64 .bf16) (f : BufTy.Contents (Elt F) arg18.view.ty) :
    arg18.view.writes (Elt F) f (lp c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12).1 = S18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12 :=
  (harg18.eq_unread rfl).trans ((congrArg harg18.unread (View.read_writes_of_cover _ _ _ _ _ (cover18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12))).trans (harg18.eq_unread rfl).symm)

/-- The tiles of result 1 by rows cover it. -/
theorem cover13 (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x2048x256 .f32) (harg5 : arg5.IsWhole) (arg6 : Memref sig .tc .vmem S2048x256 .f32) (harg6 : arg6.IsWhole) (arg7 : Memref sig .tc .vmem S256x256 .bf16) (harg7 : arg7.IsWhole) (arg8 : Memref sig .tc .vmem S256x256 .bf16) (harg8 : arg8.IsWhole) (arg9 : Memref sig .tc .smem S2x8 .f32) (harg9 : arg9.IsWhole) (arg10 : Memref sig .tc .vmem S4x2048x64 .bf16) (harg10 : arg10.IsWhole) (arg11 : Memref sig .tc .vmem S4x2048x64 .bf16) (harg11 : arg11.IsWhole) (arg12 : Memref sig .tc .vmem S4x2048x64 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S1x64 .f32) (harg16 : arg16.IsWhole) (arg17 : Memref sig .tc .vmem S1x64 .f32) (harg17 : arg17.IsWhole) (arg18 : Memref sig .tc .vmem S4x2048x64 .f32) (harg18 : arg18.IsWhole) (arg19 : Memref sig .tc .vmem S4x2048x64 .f32) (harg19 : arg19.IsWhole) (arg20 : Memref sig .tc .vmem S4x2048x64 .f32) (harg20 : arg20.IsWhole) (x1 : Vec F S2048x256 .f32) (x2 : Vec F S2048x256 .f32) (x3 : Vec F S1x64 .f32) (x4 : Vec F S1x64 .f32) (x5 : Vec F S1x2048x256 .f32) (x6 : Vec F S2048x256 .f32) (x7 : Vec F S256x256 .bf16) (x8 : Vec F S256x256 .bf16) (x9 : Vec F S2x8 .f32) (x10 : Vec F S4x2048x64 .bf16) (x11 : Vec F S4x2048x64 .bf16) (x12 : Vec F S4x2048x64 .bf16) (y : S2048x256.Idx) : ∃ pc ∈ (fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12).2.1, y ∈ pc.1.set :=
  View.cover_of_tiledL (fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12).2.1 S256x64.size (by sl_kernel_rfl) y

/-- The tiles of result 2 by rows cover it. -/
theorem cover14 (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x2048x256 .f32) (harg5 : arg5.IsWhole) (arg6 : Memref sig .tc .vmem S2048x256 .f32) (harg6 : arg6.IsWhole) (arg7 : Memref sig .tc .vmem S256x256 .bf16) (harg7 : arg7.IsWhole) (arg8 : Memref sig .tc .vmem S256x256 .bf16) (harg8 : arg8.IsWhole) (arg9 : Memref sig .tc .smem S2x8 .f32) (harg9 : arg9.IsWhole) (arg10 : Memref sig .tc .vmem S4x2048x64 .bf16) (harg10 : arg10.IsWhole) (arg11 : Memref sig .tc .vmem S4x2048x64 .bf16) (harg11 : arg11.IsWhole) (arg12 : Memref sig .tc .vmem S4x2048x64 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S1x64 .f32) (harg16 : arg16.IsWhole) (arg17 : Memref sig .tc .vmem S1x64 .f32) (harg17 : arg17.IsWhole) (arg18 : Memref sig .tc .vmem S4x2048x64 .f32) (harg18 : arg18.IsWhole) (arg19 : Memref sig .tc .vmem S4x2048x64 .f32) (harg19 : arg19.IsWhole) (arg20 : Memref sig .tc .vmem S4x2048x64 .f32) (harg20 : arg20.IsWhole) (x1 : Vec F S2048x256 .f32) (x2 : Vec F S2048x256 .f32) (x3 : Vec F S1x64 .f32) (x4 : Vec F S1x64 .f32) (x5 : Vec F S1x2048x256 .f32) (x6 : Vec F S2048x256 .f32) (x7 : Vec F S256x256 .bf16) (x8 : Vec F S256x256 .bf16) (x9 : Vec F S2x8 .f32) (x10 : Vec F S4x2048x64 .bf16) (x11 : Vec F S4x2048x64 .bf16) (x12 : Vec F S4x2048x64 .bf16) (y : S2048x256.Idx) : ∃ pc ∈ (fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12).2.2.1, y ∈ pc.1.set :=
  View.cover_of_tiledL (fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12).2.2.1 S256x64.size (by sl_kernel_rfl) y

/-- The tiles of result 3 by rows cover it. -/
theorem cover15 (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x2048x256 .f32) (harg5 : arg5.IsWhole) (arg6 : Memref sig .tc .vmem S2048x256 .f32) (harg6 : arg6.IsWhole) (arg7 : Memref sig .tc .vmem S256x256 .bf16) (harg7 : arg7.IsWhole) (arg8 : Memref sig .tc .vmem S256x256 .bf16) (harg8 : arg8.IsWhole) (arg9 : Memref sig .tc .smem S2x8 .f32) (harg9 : arg9.IsWhole) (arg10 : Memref sig .tc .vmem S4x2048x64 .bf16) (harg10 : arg10.IsWhole) (arg11 : Memref sig .tc .vmem S4x2048x64 .bf16) (harg11 : arg11.IsWhole) (arg12 : Memref sig .tc .vmem S4x2048x64 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S1x64 .f32) (harg16 : arg16.IsWhole) (arg17 : Memref sig .tc .vmem S1x64 .f32) (harg17 : arg17.IsWhole) (arg18 : Memref sig .tc .vmem S4x2048x64 .f32) (harg18 : arg18.IsWhole) (arg19 : Memref sig .tc .vmem S4x2048x64 .f32) (harg19 : arg19.IsWhole) (arg20 : Memref sig .tc .vmem S4x2048x64 .f32) (harg20 : arg20.IsWhole) (x1 : Vec F S2048x256 .f32) (x2 : Vec F S2048x256 .f32) (x3 : Vec F S1x64 .f32) (x4 : Vec F S1x64 .f32) (x5 : Vec F S1x2048x256 .f32) (x6 : Vec F S2048x256 .f32) (x7 : Vec F S256x256 .bf16) (x8 : Vec F S256x256 .bf16) (x9 : Vec F S2x8 .f32) (x10 : Vec F S4x2048x64 .bf16) (x11 : Vec F S4x2048x64 .bf16) (x12 : Vec F S4x2048x64 .bf16) (y : S2048x256.Idx) : ∃ pc ∈ (fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12).2.2.2, y ∈ pc.1.set :=
  View.cover_of_tiledL (fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12).2.2.2 S256x64.size (by sl_kernel_rfl) y

theorem runA13 (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x2048x256 .f32) (harg5 : arg5.IsWhole) (arg6 : Memref sig .tc .vmem S2048x256 .f32) (harg6 : arg6.IsWhole) (arg7 : Memref sig .tc .vmem S256x256 .bf16) (harg7 : arg7.IsWhole) (arg8 : Memref sig .tc .vmem S256x256 .bf16) (harg8 : arg8.IsWhole) (arg9 : Memref sig .tc .smem S2x8 .f32) (harg9 : arg9.IsWhole) (arg10 : Memref sig .tc .vmem S4x2048x64 .bf16) (harg10 : arg10.IsWhole) (arg11 : Memref sig .tc .vmem S4x2048x64 .bf16) (harg11 : arg11.IsWhole) (arg12 : Memref sig .tc .vmem S4x2048x64 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S1x64 .f32) (harg16 : arg16.IsWhole) (arg17 : Memref sig .tc .vmem S1x64 .f32) (harg17 : arg17.IsWhole) (arg18 : Memref sig .tc .vmem S4x2048x64 .f32) (harg18 : arg18.IsWhole) (arg19 : Memref sig .tc .vmem S4x2048x64 .f32) (harg19 : arg19.IsWhole) (arg20 : Memref sig .tc .vmem S4x2048x64 .f32) (harg20 : arg20.IsWhole) (hc0 : cond0_0 i) (x1 : Vec F S2048x256 .f32) (x2 : Vec F S2048x256 .f32) (x3 : Vec F S1x64 .f32) (x4 : Vec F S1x64 .f32) (x5 : Vec F S1x2048x256 .f32) (x6 : Vec F S2048x256 .f32) (x7 : Vec F S256x256 .bf16) (x8 : Vec F S256x256 .bf16) (x9 : Vec F S2x8 .f32) (x10 : Vec F S4x2048x64 .bf16) (x11 : Vec F S4x2048x64 .bf16) (x12 : Vec F S4x2048x64 .bf16) (f18 : BufTy.Contents (Elt F) arg18.view.ty) (f19 : BufTy.Contents (Elt F) arg19.view.ty) (f20 : BufTy.Contents (Elt F) arg20.view.ty) : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x1 x2 x3 x4 x5 x6 x7 x8 x9 x10 x11 x12 f18 f19 f20).1 = (fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12).2.1 := by
  unfold runA; dsimp only
  sl_unfold_words
  unfold fin; rw [← eq18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12 f18]; rfl

theorem runA14 (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x2048x256 .f32) (harg5 : arg5.IsWhole) (arg6 : Memref sig .tc .vmem S2048x256 .f32) (harg6 : arg6.IsWhole) (arg7 : Memref sig .tc .vmem S256x256 .bf16) (harg7 : arg7.IsWhole) (arg8 : Memref sig .tc .vmem S256x256 .bf16) (harg8 : arg8.IsWhole) (arg9 : Memref sig .tc .smem S2x8 .f32) (harg9 : arg9.IsWhole) (arg10 : Memref sig .tc .vmem S4x2048x64 .bf16) (harg10 : arg10.IsWhole) (arg11 : Memref sig .tc .vmem S4x2048x64 .bf16) (harg11 : arg11.IsWhole) (arg12 : Memref sig .tc .vmem S4x2048x64 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S1x64 .f32) (harg16 : arg16.IsWhole) (arg17 : Memref sig .tc .vmem S1x64 .f32) (harg17 : arg17.IsWhole) (arg18 : Memref sig .tc .vmem S4x2048x64 .f32) (harg18 : arg18.IsWhole) (arg19 : Memref sig .tc .vmem S4x2048x64 .f32) (harg19 : arg19.IsWhole) (arg20 : Memref sig .tc .vmem S4x2048x64 .f32) (harg20 : arg20.IsWhole) (hc0 : cond0_0 i) (x1 : Vec F S2048x256 .f32) (x2 : Vec F S2048x256 .f32) (x3 : Vec F S1x64 .f32) (x4 : Vec F S1x64 .f32) (x5 : Vec F S1x2048x256 .f32) (x6 : Vec F S2048x256 .f32) (x7 : Vec F S256x256 .bf16) (x8 : Vec F S256x256 .bf16) (x9 : Vec F S2x8 .f32) (x10 : Vec F S4x2048x64 .bf16) (x11 : Vec F S4x2048x64 .bf16) (x12 : Vec F S4x2048x64 .bf16) (f18 : BufTy.Contents (Elt F) arg18.view.ty) (f19 : BufTy.Contents (Elt F) arg19.view.ty) (f20 : BufTy.Contents (Elt F) arg20.view.ty) : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x1 x2 x3 x4 x5 x6 x7 x8 x9 x10 x11 x12 f18 f19 f20).2.1 = (fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12).2.2.1 := by
  unfold runA; dsimp only
  sl_unfold_words
  unfold fin; rw [← eq18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12 f18]; rfl

theorem runA15 (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x2048x256 .f32) (harg5 : arg5.IsWhole) (arg6 : Memref sig .tc .vmem S2048x256 .f32) (harg6 : arg6.IsWhole) (arg7 : Memref sig .tc .vmem S256x256 .bf16) (harg7 : arg7.IsWhole) (arg8 : Memref sig .tc .vmem S256x256 .bf16) (harg8 : arg8.IsWhole) (arg9 : Memref sig .tc .smem S2x8 .f32) (harg9 : arg9.IsWhole) (arg10 : Memref sig .tc .vmem S4x2048x64 .bf16) (harg10 : arg10.IsWhole) (arg11 : Memref sig .tc .vmem S4x2048x64 .bf16) (harg11 : arg11.IsWhole) (arg12 : Memref sig .tc .vmem S4x2048x64 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S1x64 .f32) (harg16 : arg16.IsWhole) (arg17 : Memref sig .tc .vmem S1x64 .f32) (harg17 : arg17.IsWhole) (arg18 : Memref sig .tc .vmem S4x2048x64 .f32) (harg18 : arg18.IsWhole) (arg19 : Memref sig .tc .vmem S4x2048x64 .f32) (harg19 : arg19.IsWhole) (arg20 : Memref sig .tc .vmem S4x2048x64 .f32) (harg20 : arg20.IsWhole) (hc0 : cond0_0 i) (x1 : Vec F S2048x256 .f32) (x2 : Vec F S2048x256 .f32) (x3 : Vec F S1x64 .f32) (x4 : Vec F S1x64 .f32) (x5 : Vec F S1x2048x256 .f32) (x6 : Vec F S2048x256 .f32) (x7 : Vec F S256x256 .bf16) (x8 : Vec F S256x256 .bf16) (x9 : Vec F S2x8 .f32) (x10 : Vec F S4x2048x64 .bf16) (x11 : Vec F S4x2048x64 .bf16) (x12 : Vec F S4x2048x64 .bf16) (f18 : BufTy.Contents (Elt F) arg18.view.ty) (f19 : BufTy.Contents (Elt F) arg19.view.ty) (f20 : BufTy.Contents (Elt F) arg20.view.ty) : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x1 x2 x3 x4 x5 x6 x7 x8 x9 x10 x11 x12 f18 f19 f20).2.2.1 = (fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12).2.2.2 := by
  unfold runA; dsimp only
  sl_unfold_words
  unfold fin; rw [← eq18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12 f18]; rfl

theorem runA16 (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x2048x256 .f32) (harg5 : arg5.IsWhole) (arg6 : Memref sig .tc .vmem S2048x256 .f32) (harg6 : arg6.IsWhole) (arg7 : Memref sig .tc .vmem S256x256 .bf16) (harg7 : arg7.IsWhole) (arg8 : Memref sig .tc .vmem S256x256 .bf16) (harg8 : arg8.IsWhole) (arg9 : Memref sig .tc .smem S2x8 .f32) (harg9 : arg9.IsWhole) (arg10 : Memref sig .tc .vmem S4x2048x64 .bf16) (harg10 : arg10.IsWhole) (arg11 : Memref sig .tc .vmem S4x2048x64 .bf16) (harg11 : arg11.IsWhole) (arg12 : Memref sig .tc .vmem S4x2048x64 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S1x64 .f32) (harg16 : arg16.IsWhole) (arg17 : Memref sig .tc .vmem S1x64 .f32) (harg17 : arg17.IsWhole) (arg18 : Memref sig .tc .vmem S4x2048x64 .f32) (harg18 : arg18.IsWhole) (arg19 : Memref sig .tc .vmem S4x2048x64 .f32) (harg19 : arg19.IsWhole) (arg20 : Memref sig .tc .vmem S4x2048x64 .f32) (harg20 : arg20.IsWhole) (hc0 : cond0_0 i) (x1 : Vec F S2048x256 .f32) (x2 : Vec F S2048x256 .f32) (x3 : Vec F S1x64 .f32) (x4 : Vec F S1x64 .f32) (x5 : Vec F S1x2048x256 .f32) (x6 : Vec F S2048x256 .f32) (x7 : Vec F S256x256 .bf16) (x8 : Vec F S256x256 .bf16) (x9 : Vec F S2x8 .f32) (x10 : Vec F S4x2048x64 .bf16) (x11 : Vec F S4x2048x64 .bf16) (x12 : Vec F S4x2048x64 .bf16) (f18 : BufTy.Contents (Elt F) arg18.view.ty) (f19 : BufTy.Contents (Elt F) arg19.view.ty) (f20 : BufTy.Contents (Elt F) arg20.view.ty) : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x1 x2 x3 x4 x5 x6 x7 x8 x9 x10 x11 x12 f18 f19 f20).2.2.2.1 = ⟨Rect.unit (s := S1x64) ![0, 0] S1x64.size inb_S1x64_S1x64_0_0, k0_pay274 ((fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12).1.1) ((fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12).1.2.2.1) ((fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12).1.2.2.2.2.1) ((fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12).1.2.2.2.2.2.2.1) (View.readAt (Elt F) arg16.view (Rect.unit (s := S1x64) ![0, 0] S1x64.size inb_S1x64_S1x64_0_0).toLoadRect (arg16.view.writes (Elt F) arg16.view.junk [⟨Rect.unit (s := S1x64) ![0, 0] S1x64.size inb_S1x64_S1x64_0_0, k0_pay260⟩]))⟩ :: [⟨Rect.unit (s := S1x64) ![0, 0] S1x64.size inb_S1x64_S1x64_0_0, k0_pay260⟩] := by
  unfold runA; dsimp only
  sl_unfold_words
  unfold fin; rw [← eq18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12 f18]; rfl

theorem runA17 (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x2048x256 .f32) (harg5 : arg5.IsWhole) (arg6 : Memref sig .tc .vmem S2048x256 .f32) (harg6 : arg6.IsWhole) (arg7 : Memref sig .tc .vmem S256x256 .bf16) (harg7 : arg7.IsWhole) (arg8 : Memref sig .tc .vmem S256x256 .bf16) (harg8 : arg8.IsWhole) (arg9 : Memref sig .tc .smem S2x8 .f32) (harg9 : arg9.IsWhole) (arg10 : Memref sig .tc .vmem S4x2048x64 .bf16) (harg10 : arg10.IsWhole) (arg11 : Memref sig .tc .vmem S4x2048x64 .bf16) (harg11 : arg11.IsWhole) (arg12 : Memref sig .tc .vmem S4x2048x64 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S1x64 .f32) (harg16 : arg16.IsWhole) (arg17 : Memref sig .tc .vmem S1x64 .f32) (harg17 : arg17.IsWhole) (arg18 : Memref sig .tc .vmem S4x2048x64 .f32) (harg18 : arg18.IsWhole) (arg19 : Memref sig .tc .vmem S4x2048x64 .f32) (harg19 : arg19.IsWhole) (arg20 : Memref sig .tc .vmem S4x2048x64 .f32) (harg20 : arg20.IsWhole) (hc0 : cond0_0 i) (x1 : Vec F S2048x256 .f32) (x2 : Vec F S2048x256 .f32) (x3 : Vec F S1x64 .f32) (x4 : Vec F S1x64 .f32) (x5 : Vec F S1x2048x256 .f32) (x6 : Vec F S2048x256 .f32) (x7 : Vec F S256x256 .bf16) (x8 : Vec F S256x256 .bf16) (x9 : Vec F S2x8 .f32) (x10 : Vec F S4x2048x64 .bf16) (x11 : Vec F S4x2048x64 .bf16) (x12 : Vec F S4x2048x64 .bf16) (f18 : BufTy.Contents (Elt F) arg18.view.ty) (f19 : BufTy.Contents (Elt F) arg19.view.ty) (f20 : BufTy.Contents (Elt F) arg20.view.ty) : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x1 x2 x3 x4 x5 x6 x7 x8 x9 x10 x11 x12 f18 f19 f20).2.2.2.2.1 = ⟨Rect.unit (s := S1x64) ![0, 0] S1x64.size inb_S1x64_S1x64_0_0, k0_pay1 ((fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12).1.2.1) ((fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12).1.2.2.2.1) ((fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12).1.2.2.2.2.2.1) ((fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12).1.2.2.2.2.2.2.2) (k0_pay275 (View.readAt (Elt F) arg17.view (Rect.unit (s := S1x64) ![0, 0] S1x64.size inb_S1x64_S1x64_0_0).toLoadRect (arg17.view.writes (Elt F) arg17.view.junk [⟨Rect.unit (s := S1x64) ![0, 0] S1x64.size inb_S1x64_S1x64_0_0, k0_pay261⟩]))) k0_pay276⟩ :: [⟨Rect.unit (s := S1x64) ![0, 0] S1x64.size inb_S1x64_S1x64_0_0, k0_pay261⟩] := by
  unfold runA; dsimp only
  sl_unfold_words
  unfold fin; rw [← eq18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12 f18]; rfl

theorem runB13 (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x2048x256 .f32) (harg5 : arg5.IsWhole) (arg6 : Memref sig .tc .vmem S2048x256 .f32) (harg6 : arg6.IsWhole) (arg7 : Memref sig .tc .vmem S256x256 .bf16) (harg7 : arg7.IsWhole) (arg8 : Memref sig .tc .vmem S256x256 .bf16) (harg8 : arg8.IsWhole) (arg9 : Memref sig .tc .smem S2x8 .f32) (harg9 : arg9.IsWhole) (arg10 : Memref sig .tc .vmem S4x2048x64 .bf16) (harg10 : arg10.IsWhole) (arg11 : Memref sig .tc .vmem S4x2048x64 .bf16) (harg11 : arg11.IsWhole) (arg12 : Memref sig .tc .vmem S4x2048x64 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S1x64 .f32) (harg16 : arg16.IsWhole) (arg17 : Memref sig .tc .vmem S1x64 .f32) (harg17 : arg17.IsWhole) (arg18 : Memref sig .tc .vmem S4x2048x64 .f32) (harg18 : arg18.IsWhole) (arg19 : Memref sig .tc .vmem S4x2048x64 .f32) (harg19 : arg19.IsWhole) (arg20 : Memref sig .tc .vmem S4x2048x64 .f32) (harg20 : arg20.IsWhole) (hc0 : ¬cond0_0 i) (x1 : Vec F S2048x256 .f32) (x2 : Vec F S2048x256 .f32) (x3 : Vec F S1x64 .f32) (x4 : Vec F S1x64 .f32) (x5 : Vec F S1x2048x256 .f32) (x6 : Vec F S2048x256 .f32) (x7 : Vec F S256x256 .bf16) (x8 : Vec F S256x256 .bf16) (x9 : Vec F S2x8 .f32) (x10 : Vec F S4x2048x64 .bf16) (x11 : Vec F S4x2048x64 .bf16) (x12 : Vec F S4x2048x64 .bf16) (y16 : Vec F S1x64 .f32) (y17 : Vec F S1x64 .f32) (f18 : BufTy.Contents (Elt F) arg18.view.ty) (f19 : BufTy.Contents (Elt F) arg19.view.ty) (f20 : BufTy.Contents (Elt F) arg20.view.ty) : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x1 x2 x3 x4 x5 x6 x7 x8 x9 x10 x11 x12 y16 y17 f18 f19 f20).1 = (fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12).2.1 := by
  unfold runB; dsimp only
  sl_unfold_words
  unfold fin; rw [← eq18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12 f18]; rfl

theorem runB14 (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x2048x256 .f32) (harg5 : arg5.IsWhole) (arg6 : Memref sig .tc .vmem S2048x256 .f32) (harg6 : arg6.IsWhole) (arg7 : Memref sig .tc .vmem S256x256 .bf16) (harg7 : arg7.IsWhole) (arg8 : Memref sig .tc .vmem S256x256 .bf16) (harg8 : arg8.IsWhole) (arg9 : Memref sig .tc .smem S2x8 .f32) (harg9 : arg9.IsWhole) (arg10 : Memref sig .tc .vmem S4x2048x64 .bf16) (harg10 : arg10.IsWhole) (arg11 : Memref sig .tc .vmem S4x2048x64 .bf16) (harg11 : arg11.IsWhole) (arg12 : Memref sig .tc .vmem S4x2048x64 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S1x64 .f32) (harg16 : arg16.IsWhole) (arg17 : Memref sig .tc .vmem S1x64 .f32) (harg17 : arg17.IsWhole) (arg18 : Memref sig .tc .vmem S4x2048x64 .f32) (harg18 : arg18.IsWhole) (arg19 : Memref sig .tc .vmem S4x2048x64 .f32) (harg19 : arg19.IsWhole) (arg20 : Memref sig .tc .vmem S4x2048x64 .f32) (harg20 : arg20.IsWhole) (hc0 : ¬cond0_0 i) (x1 : Vec F S2048x256 .f32) (x2 : Vec F S2048x256 .f32) (x3 : Vec F S1x64 .f32) (x4 : Vec F S1x64 .f32) (x5 : Vec F S1x2048x256 .f32) (x6 : Vec F S2048x256 .f32) (x7 : Vec F S256x256 .bf16) (x8 : Vec F S256x256 .bf16) (x9 : Vec F S2x8 .f32) (x10 : Vec F S4x2048x64 .bf16) (x11 : Vec F S4x2048x64 .bf16) (x12 : Vec F S4x2048x64 .bf16) (y16 : Vec F S1x64 .f32) (y17 : Vec F S1x64 .f32) (f18 : BufTy.Contents (Elt F) arg18.view.ty) (f19 : BufTy.Contents (Elt F) arg19.view.ty) (f20 : BufTy.Contents (Elt F) arg20.view.ty) : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x1 x2 x3 x4 x5 x6 x7 x8 x9 x10 x11 x12 y16 y17 f18 f19 f20).2.1 = (fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12).2.2.1 := by
  unfold runB; dsimp only
  sl_unfold_words
  unfold fin; rw [← eq18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12 f18]; rfl

theorem runB15 (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x2048x256 .f32) (harg5 : arg5.IsWhole) (arg6 : Memref sig .tc .vmem S2048x256 .f32) (harg6 : arg6.IsWhole) (arg7 : Memref sig .tc .vmem S256x256 .bf16) (harg7 : arg7.IsWhole) (arg8 : Memref sig .tc .vmem S256x256 .bf16) (harg8 : arg8.IsWhole) (arg9 : Memref sig .tc .smem S2x8 .f32) (harg9 : arg9.IsWhole) (arg10 : Memref sig .tc .vmem S4x2048x64 .bf16) (harg10 : arg10.IsWhole) (arg11 : Memref sig .tc .vmem S4x2048x64 .bf16) (harg11 : arg11.IsWhole) (arg12 : Memref sig .tc .vmem S4x2048x64 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S1x64 .f32) (harg16 : arg16.IsWhole) (arg17 : Memref sig .tc .vmem S1x64 .f32) (harg17 : arg17.IsWhole) (arg18 : Memref sig .tc .vmem S4x2048x64 .f32) (harg18 : arg18.IsWhole) (arg19 : Memref sig .tc .vmem S4x2048x64 .f32) (harg19 : arg19.IsWhole) (arg20 : Memref sig .tc .vmem S4x2048x64 .f32) (harg20 : arg20.IsWhole) (hc0 : ¬cond0_0 i) (x1 : Vec F S2048x256 .f32) (x2 : Vec F S2048x256 .f32) (x3 : Vec F S1x64 .f32) (x4 : Vec F S1x64 .f32) (x5 : Vec F S1x2048x256 .f32) (x6 : Vec F S2048x256 .f32) (x7 : Vec F S256x256 .bf16) (x8 : Vec F S256x256 .bf16) (x9 : Vec F S2x8 .f32) (x10 : Vec F S4x2048x64 .bf16) (x11 : Vec F S4x2048x64 .bf16) (x12 : Vec F S4x2048x64 .bf16) (y16 : Vec F S1x64 .f32) (y17 : Vec F S1x64 .f32) (f18 : BufTy.Contents (Elt F) arg18.view.ty) (f19 : BufTy.Contents (Elt F) arg19.view.ty) (f20 : BufTy.Contents (Elt F) arg20.view.ty) : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x1 x2 x3 x4 x5 x6 x7 x8 x9 x10 x11 x12 y16 y17 f18 f19 f20).2.2.1 = (fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12).2.2.2 := by
  unfold runB; dsimp only
  sl_unfold_words
  unfold fin; rw [← eq18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12 f18]; rfl

theorem runB16 (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x2048x256 .f32) (harg5 : arg5.IsWhole) (arg6 : Memref sig .tc .vmem S2048x256 .f32) (harg6 : arg6.IsWhole) (arg7 : Memref sig .tc .vmem S256x256 .bf16) (harg7 : arg7.IsWhole) (arg8 : Memref sig .tc .vmem S256x256 .bf16) (harg8 : arg8.IsWhole) (arg9 : Memref sig .tc .smem S2x8 .f32) (harg9 : arg9.IsWhole) (arg10 : Memref sig .tc .vmem S4x2048x64 .bf16) (harg10 : arg10.IsWhole) (arg11 : Memref sig .tc .vmem S4x2048x64 .bf16) (harg11 : arg11.IsWhole) (arg12 : Memref sig .tc .vmem S4x2048x64 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S1x64 .f32) (harg16 : arg16.IsWhole) (arg17 : Memref sig .tc .vmem S1x64 .f32) (harg17 : arg17.IsWhole) (arg18 : Memref sig .tc .vmem S4x2048x64 .f32) (harg18 : arg18.IsWhole) (arg19 : Memref sig .tc .vmem S4x2048x64 .f32) (harg19 : arg19.IsWhole) (arg20 : Memref sig .tc .vmem S4x2048x64 .f32) (harg20 : arg20.IsWhole) (hc0 : ¬cond0_0 i) (x1 : Vec F S2048x256 .f32) (x2 : Vec F S2048x256 .f32) (x3 : Vec F S1x64 .f32) (x4 : Vec F S1x64 .f32) (x5 : Vec F S1x2048x256 .f32) (x6 : Vec F S2048x256 .f32) (x7 : Vec F S256x256 .bf16) (x8 : Vec F S256x256 .bf16) (x9 : Vec F S2x8 .f32) (x10 : Vec F S4x2048x64 .bf16) (x11 : Vec F S4x2048x64 .bf16) (x12 : Vec F S4x2048x64 .bf16) (y16 : Vec F S1x64 .f32) (y17 : Vec F S1x64 .f32) (f18 : BufTy.Contents (Elt F) arg18.view.ty) (f19 : BufTy.Contents (Elt F) arg19.view.ty) (f20 : BufTy.Contents (Elt F) arg20.view.ty) : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x1 x2 x3 x4 x5 x6 x7 x8 x9 x10 x11 x12 y16 y17 f18 f19 f20).2.2.2.1 = ⟨Rect.unit (s := S1x64) ![0, 0] S1x64.size inb_S1x64_S1x64_0_0, k0_pay274 ((fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12).1.1) ((fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12).1.2.2.1) ((fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12).1.2.2.2.2.1) ((fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12).1.2.2.2.2.2.2.1) (View.readAt (Elt F) arg16.view (Rect.unit (s := S1x64) ![0, 0] S1x64.size inb_S1x64_S1x64_0_0).toLoadRect (harg16.unread y16))⟩ :: [] := by
  unfold runB; dsimp only
  sl_unfold_words
  unfold fin; rw [← eq18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12 f18]; rfl

theorem runB17 (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x2048x256 .f32) (harg5 : arg5.IsWhole) (arg6 : Memref sig .tc .vmem S2048x256 .f32) (harg6 : arg6.IsWhole) (arg7 : Memref sig .tc .vmem S256x256 .bf16) (harg7 : arg7.IsWhole) (arg8 : Memref sig .tc .vmem S256x256 .bf16) (harg8 : arg8.IsWhole) (arg9 : Memref sig .tc .smem S2x8 .f32) (harg9 : arg9.IsWhole) (arg10 : Memref sig .tc .vmem S4x2048x64 .bf16) (harg10 : arg10.IsWhole) (arg11 : Memref sig .tc .vmem S4x2048x64 .bf16) (harg11 : arg11.IsWhole) (arg12 : Memref sig .tc .vmem S4x2048x64 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S1x64 .f32) (harg16 : arg16.IsWhole) (arg17 : Memref sig .tc .vmem S1x64 .f32) (harg17 : arg17.IsWhole) (arg18 : Memref sig .tc .vmem S4x2048x64 .f32) (harg18 : arg18.IsWhole) (arg19 : Memref sig .tc .vmem S4x2048x64 .f32) (harg19 : arg19.IsWhole) (arg20 : Memref sig .tc .vmem S4x2048x64 .f32) (harg20 : arg20.IsWhole) (hc0 : ¬cond0_0 i) (x1 : Vec F S2048x256 .f32) (x2 : Vec F S2048x256 .f32) (x3 : Vec F S1x64 .f32) (x4 : Vec F S1x64 .f32) (x5 : Vec F S1x2048x256 .f32) (x6 : Vec F S2048x256 .f32) (x7 : Vec F S256x256 .bf16) (x8 : Vec F S256x256 .bf16) (x9 : Vec F S2x8 .f32) (x10 : Vec F S4x2048x64 .bf16) (x11 : Vec F S4x2048x64 .bf16) (x12 : Vec F S4x2048x64 .bf16) (y16 : Vec F S1x64 .f32) (y17 : Vec F S1x64 .f32) (f18 : BufTy.Contents (Elt F) arg18.view.ty) (f19 : BufTy.Contents (Elt F) arg19.view.ty) (f20 : BufTy.Contents (Elt F) arg20.view.ty) : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x1 x2 x3 x4 x5 x6 x7 x8 x9 x10 x11 x12 y16 y17 f18 f19 f20).2.2.2.2.1 = ⟨Rect.unit (s := S1x64) ![0, 0] S1x64.size inb_S1x64_S1x64_0_0, k0_pay1 ((fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12).1.2.1) ((fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12).1.2.2.2.1) ((fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12).1.2.2.2.2.2.1) ((fin c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12).1.2.2.2.2.2.2.2) (k0_pay275 (View.readAt (Elt F) arg17.view (Rect.unit (s := S1x64) ![0, 0] S1x64.size inb_S1x64_S1x64_0_0).toLoadRect (harg17.unread y17))) k0_pay276⟩ :: [] := by
  unfold runB; dsimp only
  sl_unfold_words
  unfold fin; rw [← eq18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12 f18]; rfl

end Cert.AttnBwdIdeal.Out

end
-- ==== Proof.AttnFrm.lean ====
module

public import proofs.«01_k».proof.Proof.Gen.AttnBwdIdeal.Loops
public import proofs.«01_k».proof.Proof.AttnOut
public import Idealize.ShloMosaic.Lib.Claim

@[expose] public section

set_option maxRecDepth 16384

noncomputable section

namespace Cert.AttnBwdIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnBwdIdeal.Gen
open Cert.AttnBwdIdeal.Run
open Cert.AttnBwdIdeal.Out
open Idealize.ShloMosaic.Pipeline (Dat Cfg Window BodyObligation cellOf)

variable {F : FTy → Type} [FloatOps F]

local notation "𝕄G" => MT nD τ sig Unit (Elt F) ℕ (UR sig nD τ) ℕ

variable (m : (ℓ : Loc nD τ sig) → Buf (Elt F) ℓ) (ρ : Dev nD → PrngReg)

/-- One staging buffer of result 1, through which its contents are stated. -/
abbrev VO12 : View sig .tc .vmem S2048x256 .bf16 := (Memref.whole cc0_stg12_0 : Memref sig .tc .vmem S2048x256 .bf16).view

/-- One staging buffer of result 2, through which its contents are stated. -/
abbrev VO13 : View sig .tc .vmem S2048x256 .bf16 := (Memref.whole cc0_stg13_0 : Memref sig .tc .vmem S2048x256 .bf16).view

/-- One staging buffer of result 3, through which its contents are stated. -/
abbrev VO14 : View sig .tc .vmem S2048x256 .bf16 := (Memref.whole cc0_stg14_0 : Memref sig .tc .vmem S2048x256 .bf16).view

/-- One staging buffer of result 4, through which its contents are stated. -/
abbrev VO15 : View sig .tc .vmem S1x64 .f32 := (Memref.whole cc0_stg15_0 : Memref sig .tc .vmem S1x64 .f32).view

/-- One staging buffer of result 5, through which its contents are stated. -/
abbrev VO16 : View sig .tc .vmem S1x64 .f32 := (Memref.whole cc0_stg16_0 : Memref sig .tc .vmem S1x64 .f32).view
abbrev ms0 (t : Fin cfg0.N) : Memref sig .tc .vmem S2048x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x2048x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S2048x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x256 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S256x256 .bf16 := win0_7.stage (cfg0.slots t 7)
abbrev hs7 (t : Fin cfg0.N) : (ms7 t).IsWhole := hstage0_7 ((cfg0.slots t 7).cast nbuf0_7)
abbrev ms8 (t : Fin cfg0.N) : Memref sig .tc .smem S2x8 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S4x2048x64 .bf16 := win0_9.stage (cfg0.slots t 9)
abbrev hs9 (t : Fin cfg0.N) : (ms9 t).IsWhole := hstage0_9 ((cfg0.slots t 9).cast nbuf0_9)
abbrev ms10 (t : Fin cfg0.N) : Memref sig .tc .vmem S4x2048x64 .bf16 := win0_10.stage (cfg0.slots t 10)
abbrev hs10 (t : Fin cfg0.N) : (ms10 t).IsWhole := hstage0_10 ((cfg0.slots t 10).cast nbuf0_10)
abbrev ms11 (t : Fin cfg0.N) : Memref sig .tc .vmem S4x2048x64 .bf16 := win0_11.stage (cfg0.slots t 11)
abbrev hs11 (t : Fin cfg0.N) : (ms11 t).IsWhole := hstage0_11 ((cfg0.slots t 11).cast nbuf0_11)
abbrev ms12 (t : Fin cfg0.N) : Memref sig .tc .vmem S2048x256 .bf16 := win0_12.stage (cfg0.slots t 12)
abbrev hs12 (t : Fin cfg0.N) : (ms12 t).IsWhole := hstage0_12 ((cfg0.slots t 12).cast nbuf0_12)
abbrev ms13 (t : Fin cfg0.N) : Memref sig .tc .vmem S2048x256 .bf16 := win0_13.stage (cfg0.slots t 13)
abbrev hs13 (t : Fin cfg0.N) : (ms13 t).IsWhole := hstage0_13 ((cfg0.slots t 13).cast nbuf0_13)
abbrev ms14 (t : Fin cfg0.N) : Memref sig .tc .vmem S2048x256 .bf16 := win0_14.stage (cfg0.slots t 14)
abbrev hs14 (t : Fin cfg0.N) : (ms14 t).IsWhole := hstage0_14 ((cfg0.slots t 14).cast nbuf0_14)
abbrev ms15 (t : Fin cfg0.N) : Memref sig .tc .vmem S1x64 .f32 := win0_15.stage (cfg0.slots t 15)
abbrev hs15 (t : Fin cfg0.N) : (ms15 t).IsWhole := hstage0_15 ((cfg0.slots t 15).cast nbuf0_15)
abbrev ms16 (t : Fin cfg0.N) : Memref sig .tc .vmem S1x64 .f32 := win0_16.stage (cfg0.slots t 16)
abbrev hs16 (t : Fin cfg0.N) : (ms16 t).IsWhole := hstage0_16 ((cfg0.slots t 16).cast nbuf0_16)

/-- The finishing sweep at point `t`. -/
abbrev finAt (c : Dev nD) (t : Fin cfg0.N) :=
  fin (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- What point `t` leaves in result 1 by rows. -/
def out13 (c : Dev nD) (t : Fin cfg0.N) : Vec F S2048x256 .bf16 :=
  VO12.read (Elt F) (VO12.writes (Elt F) VO12.junk (finAt m c t).2.1)

/-- What point `t` leaves in result 2 by rows. -/
def out14 (c : Dev nD) (t : Fin cfg0.N) : Vec F S2048x256 .bf16 :=
  VO13.read (Elt F) (VO13.writes (Elt F) VO13.junk (finAt m c t).2.2.1)

/-- What point `t` leaves in result 3 by rows. -/
def out15 (c : Dev nD) (t : Fin cfg0.N) : Vec F S2048x256 .bf16 :=
  VO14.read (Elt F) (VO14.writes (Elt F) VO14.junk (finAt m c t).2.2.2)

/-- What point `t` leaves in gain result 1, begun from zero. -/
def out16A (c : Dev nD) (t : Fin cfg0.N) : Vec F S1x64 .f32 :=
  VO15.read (Elt F) (VO15.writes (Elt F) VO15.junk (⟨Rect.unit (s := S1x64) ![0, 0] S1x64.size inb_S1x64_S1x64_0_0, k0_pay274 ((finAt m c t).1.1) ((finAt m c t).1.2.2.1) ((finAt m c t).1.2.2.2.2.1) ((finAt m c t).1.2.2.2.2.2.2.1) (View.readAt (Elt F) (ms15 t).view (Rect.unit (s := S1x64) ![0, 0] S1x64.size inb_S1x64_S1x64_0_0).toLoadRect ((ms15 t).view.writes (Elt F) (ms15 t).view.junk [⟨Rect.unit (s := S1x64) ![0, 0] S1x64.size inb_S1x64_S1x64_0_0, k0_pay260⟩]))⟩ :: [⟨Rect.unit (s := S1x64) ![0, 0] S1x64.size inb_S1x64_S1x64_0_0, k0_pay260⟩]))

/-- What point `t` leaves in gain result 2, begun from zero. -/
def out17A (c : Dev nD) (t : Fin cfg0.N) : Vec F S1x64 .f32 :=
  VO16.read (Elt F) (VO16.writes (Elt F) VO16.junk (⟨Rect.unit (s := S1x64) ![0, 0] S1x64.size inb_S1x64_S1x64_0_0, k0_pay1 ((finAt m c t).1.2.1) ((finAt m c t).1.2.2.2.1) ((finAt m c t).1.2.2.2.2.2.1) ((finAt m c t).1.2.2.2.2.2.2.2) (k0_pay275 (View.readAt (Elt F) (ms16 t).view (Rect.unit (s := S1x64) ![0, 0] S1x64.size inb_S1x64_S1x64_0_0).toLoadRect ((ms16 t).view.writes (Elt F) (ms16 t).view.junk [⟨Rect.unit (s := S1x64) ![0, 0] S1x64.size inb_S1x64_S1x64_0_0, k0_pay261⟩]))) k0_pay276⟩ :: [⟨Rect.unit (s := S1x64) ![0, 0] S1x64.size inb_S1x64_S1x64_0_0, k0_pay261⟩]))

/-- What point `t` leaves in gain result 1, from what the point before left. -/
def out16B (c : Dev nD) (t : Fin cfg0.N) (y : Vec F S1x64 .f32) : Vec F S1x64 .f32 :=
  VO15.read (Elt F) (VO15.writes (Elt F) VO15.junk (⟨Rect.unit (s := S1x64) ![0, 0] S1x64.size inb_S1x64_S1x64_0_0, k0_pay274 ((finAt m c t).1.1) ((finAt m c t).1.2.2.1) ((finAt m c t).1.2.2.2.2.1) ((finAt m c t).1.2.2.2.2.2.2.1) (View.readAt (Elt F) (ms15 t).view (Rect.unit (s := S1x64) ![0, 0] S1x64.size inb_S1x64_S1x64_0_0).toLoadRect ((hs15 t).unread y))⟩ :: []))

/-- What point `t` leaves in gain result 2, from what the point before left. -/
def out17B (c : Dev nD) (t : Fin cfg0.N) (y : Vec F S1x64 .f32) : Vec F S1x64 .f32 :=
  VO16.read (Elt F) (VO16.writes (Elt F) VO16.junk (⟨Rect.unit (s := S1x64) ![0, 0] S1x64.size inb_S1x64_S1x64_0_0, k0_pay1 ((finAt m c t).1.2.1) ((finAt m c t).1.2.2.2.1) ((finAt m c t).1.2.2.2.2.2.1) ((finAt m c t).1.2.2.2.2.2.2.2) (k0_pay275 (View.readAt (Elt F) (ms16 t).view (Rect.unit (s := S1x64) ![0, 0] S1x64.size inb_S1x64_S1x64_0_0).toLoadRect ((hs16 t).unread y))) k0_pay276⟩ :: []))

/-- A first piece filling the row covers it. -/
theorem cover1 (v : Vec F S1x64 .f32) (L : List (View.Piece (Elt F) S1x64 .f32)) (y : S1x64.Idx) :
    ∃ pc ∈ (⟨Rect.unit (s := S1x64) ![0, 0] S1x64.size inb_S1x64_S1x64_0_0, v⟩ :: L : List (View.Piece (Elt F) S1x64 .f32)), y ∈ pc.1.set := by
  obtain ⟨pc, hpc, hy⟩ := View.cover_of_tiledL [(⟨Rect.unit (s := S1x64) ![0, 0] S1x64.size inb_S1x64_S1x64_0_0, v⟩ : View.Piece (Elt F) S1x64 .f32)] S1x64.size (by sl_kernel_rfl) y
  exact ⟨pc, List.mem_cons.mpr (Or.inl (List.mem_singleton.mp hpc)), hy⟩

/-- What the two gain results hold after point `n`. -/
def outsAt (c : Dev nD) : (n : ℕ) → n < cfg0.N → Vec F S1x64 .f32 × Vec F S1x64 .f32
  | 0, hn => (out16A m c ⟨0, hn⟩, out17A m c ⟨0, hn⟩)
  | n + 1, hn =>
    if (n + 1) % 2 = 0 then (out16A m c ⟨n + 1, hn⟩, out17A m c ⟨n + 1, hn⟩)
    else (out16B m c ⟨n + 1, hn⟩ (outsAt c n (Nat.lt_of_succ_lt hn)).1, out17B m c ⟨n + 1, hn⟩ (outsAt c n (Nat.lt_of_succ_lt hn)).2)

theorem outsAt_A (c : Dev nD) (t : Fin cfg0.N) (h0 : t.val % 2 = 0) :
    outsAt m c t.val t.isLt = (out16A m c t, out17A m c t) := by
  obtain ⟨n, hn⟩ := t
  cases n with
  | zero => exact rfl
  | succ n => exact (if_pos h0).trans rfl

theorem outsAt_B (c : Dev nD) (t : Fin cfg0.N) (h0 : ¬t.val % 2 = 0) :
    outsAt m c t.val t.isLt = (out16B m c t (outsAt m c (t.val - 1) (Nat.lt_of_le_of_lt (Nat.sub_le _ _) t.isLt)).1,
      out17B m c t (outsAt m c (t.val - 1) (Nat.lt_of_le_of_lt (Nat.sub_le _ _) t.isLt)).2) := by
  obtain ⟨n, hn⟩ := t
  cases n with
  | zero => exact absurd (Nat.zero_mod _) h0
  | succ n => exact (if_neg h0).trans rfl

/-- What each staging buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => out13 m c t
    | ⟨13, _⟩ => out14 m c t
    | ⟨14, _⟩ => out15 m c t
    | ⟨15, _⟩ => (outsAt m c t.val t.isLt).1
    | ⟨16, _⟩ => (outsAt m c t.val t.isLt).2
    | ⟨n + 17, h⟩ => absurd (show n + 17 < 17 from h) (by omega)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = out13 m c t := by dsimp only [dats]
theorem after13 (c : Dev nD) (t : Fin cfg0.N) : (dats m 0 c).after 13 t = out14 m c t := by dsimp only [dats]
theorem after14 (c : Dev nD) (t : Fin cfg0.N) : (dats m 0 c).after 14 t = out15 m c t := by dsimp only [dats]
theorem after15 (c : Dev nD) (t : Fin cfg0.N) : (dats m 0 c).after 15 t = (outsAt m c t.val t.isLt).1 := by dsimp only [dats]
theorem after16 (c : Dev nD) (t : Fin cfg0.N) : (dats m 0 c).after 16 t = (outsAt m c t.val t.isLt).2 := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before15_B (c : Dev nD) (t : Fin cfg0.N) (h0 : ¬t.val % 2 = 0) (d) :
    (dats m 0 c).before 15 t d = (outsAt m c (t.val - 1) (Nat.lt_of_le_of_lt (Nat.sub_le _ _) t.isLt)).1 := by
  have hN : t.val < 2 := lt_of_lt_of_eq t.isLt (show cfg0.N = 2 from N_0)
  rw [Dat.before_out_kept _ 15 rfl t (by omega) (Bool.eq_false_iff.mpr fun h => by have := (flush0_15 _).mp h; dsimp only at this; omega)
    (fun _ => rfl) (fun _ _ => rfl)]
  dsimp only [dats]
theorem before16_B (c : Dev nD) (t : Fin cfg0.N) (h0 : ¬t.val % 2 = 0) (d) :
    (dats m 0 c).before 16 t d = (outsAt m c (t.val - 1) (Nat.lt_of_le_of_lt (Nat.sub_le _ _) t.isLt)).2 := by
  have hN : t.val < 2 := lt_of_lt_of_eq t.isLt (show cfg0.N = 2 from N_0)
  rw [Dat.before_out_kept _ 16 rfl t (by omega) (Bool.eq_false_iff.mpr fun h => by have := (flush0_16 _).mp h; dsimp only at this; omega)
    (fun _ => rfl) (fun _ _ => rfl)]
  dsimp only [dats]

/-- What the body is called with at point `t`. -/
def bodyPre (c : Dev nD) (t : Fin cfg0.N) : sProp 𝕄G :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d)))

/-- What it returns. -/
def bodyPost (c : Dev nD) (t : Fin cfg0.N) : sProp 𝕄G :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t)
    ∗ owns (c : Thread nD τ) (ms13 t) fullShare ((dats m 0 c).after 13 t)
    ∗ owns (c : Thread nD τ) (ms14 t) fullShare ((dats m 0 c).after 14 t)
    ∗ owns (c : Thread nD τ) (ms15 t) fullShare ((dats m 0 c).after 15 t)
    ∗ owns (c : Thread nD τ) (ms16 t) fullShare ((dats m 0 c).after 16 t))

/-- A scratch buffer held whole, in its two spellings. -/
theorem whole_pt (c : Dev nD) (b : Ref sig .tc) (f : Buf (Elt F) ((c : Thread nD τ).loc b)) :
    (iprop((Memref.whole b).view.loc (c : Thread nD τ) ↦[(Memref.whole b).view.set]{fullShare} f) : sProp 𝕄G)
      = iprop(((c : Thread nD τ).loc b) ↦{fullShare} f) := by
  rw [show (Memref.whole b).view.set = Finset.univ from View.set_whole b]

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0, after1, after2, after3, after4, after5, after6, after7, after8, after9, after10, after11, after12, after13, after14, after15, after16]
  unfold Pipeline.ΦA; rw [scopedRest0_eq]
  by_cases h0 : t.val % 2 = 0
  · rw [outsAt_A m c t h0]
    (try dsimp only)
    iintro ⟨⟨⟨⟨%f18, H18⟩, ⟨%f19, H19⟩, ⟨%f20, H20⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    ihave H18 := (Entails.of_eq (whole_pt c cc0_scratch0 f18).symm) $$ H18
    ihave H19 := (Entails.of_eq (whole_pt c cc0_scratch1 f19).symm) $$ H19
    ihave H20 := (Entails.of_eq (whole_pt c cc0_scratch2 f20).symm) $$ H20
    iapply ((runA (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (Memref.whole cc0_scratch0) (Memref.isWhole_whole _) (Memref.whole cc0_scratch1) (Memref.isWhole_whole _) (Memref.whole cc0_scratch2) (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) f18 f19 f20).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [H15]; · iexists _; iexact H15
    isplitl [H16]; · iexists _; iexact H16
    isplitl [H18]; · iexact H18
    isplitl [H19]; · iexact H19
    isplitl [H20]; · iexact H20
    iintro ⟨H0, H1, H2, H3, H4, H5, H6, H7, H8, H9, H10, H11, ⟨%e12, H12⟩, ⟨%e13, H13⟩, ⟨%e14, H14⟩, ⟨%e15, H15⟩, ⟨%e16, H16⟩, ⟨%e18, H18⟩, ⟨%e19, H19⟩, ⟨%e20, H20⟩⟩
    isplitl [H18 H19 H20 Hr]
    · isplitl [H18 H19 H20]
      · isplitl [H18]; · iexists _; iapply (Entails.of_eq (whole_pt c cc0_scratch0 e18)); iexact H18
        isplitl [H19]; · iexists _; iapply (Entails.of_eq (whole_pt c cc0_scratch1 e19)); iexact H19
        iexists _; iapply (Entails.of_eq (whole_pt c cc0_scratch2 e20)); iexact H20
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · unfold owns; iexists _; isplitr
      swap; · iexact H12
      ipureintro; unfold out13; rw [runA13]; exact View.read_writes_of_cover _ _ _ _ _ (cover13 _ _ _ _ _ _ _ _ _ _ _ _ _ _ _ _ _ _ _ _ _ _ _ _ _ _ _ _ _ _ _ _ _ _ _ _ _ _ _ _ _ _ _ _ _ _ _ _ _ _ _ _ _ _)
    isplitl [H13]
    · unfold owns; iexists _; isplitr
      swap; · iexact H13
      ipureintro; unfold out14; rw [runA14]; exact View.read_writes_of_cover _ _ _ _ _ (cover14 _ _ _ _ _ _ _ _ _ _ _ _ _ _ _ _ _ _ _ _ _ _ _ _ _ _ _ _ _ _ _ _ _ _ _ _ _ _ _ _ _ _ _ _ _ _ _ _ _ _ _ _ _ _)
    isplitl [H14]
    · unfold owns; iexists _; isplitr
      swap; · iexact H14
      ipureintro; unfold out15; rw [runA15]; exact View.read_writes_of_cover _ _ _ _ _ (cover15 _ _ _ _ _ _ _ _ _ _ _ _ _ _ _ _ _ _ _ _ _ _ _ _ _ _ _ _ _ _ _ _ _ _ _ _ _ _ _ _ _ _ _ _ _ _ _ _ _ _ _ _ _ _)
    isplitl [H15]
    · unfold owns; iexists _; isplitr
      swap; · iexact H15
      ipureintro; unfold out16A; rw [runA16]; exact View.read_writes_of_cover _ _ _ _ _ (cover1 _ _)
    unfold owns; iexists _; isplitr
    swap; · iexact H16
    ipureintro; unfold out17A; rw [runA17]; exact View.read_writes_of_cover _ _ _ _ _ (cover1 _ _)
  · rw [outsAt_B m c t h0]
    simp only [before15_B m c t h0, before16_B m c t h0]
    (try dsimp only)
    iintro ⟨⟨⟨⟨%f18, H18⟩, ⟨%f19, H19⟩, ⟨%f20, H20⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    ihave H18 := (Entails.of_eq (whole_pt c cc0_scratch0 f18).symm) $$ H18
    ihave H19 := (Entails.of_eq (whole_pt c cc0_scratch1 f19).symm) $$ H19
    ihave H20 := (Entails.of_eq (whole_pt c cc0_scratch2 f20).symm) $$ H20
    iapply ((runB (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (Memref.whole cc0_scratch0) (Memref.isWhole_whole _) (Memref.whole cc0_scratch1) (Memref.isWhole_whole _) (Memref.whole cc0_scratch2) (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ f18 f19 f20).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [H15]; · iexact H15
    isplitl [H16]; · iexact H16
    isplitl [H18]; · iexact H18
    isplitl [H19]; · iexact H19
    isplitl [H20]; · iexact H20
    iintro ⟨H0, H1, H2, H3, H4, H5, H6, H7, H8, H9, H10, H11, ⟨%e12, H12⟩, ⟨%e13, H13⟩, ⟨%e14, H14⟩, ⟨%e15, H15⟩, ⟨%e16, H16⟩, ⟨%e18, H18⟩, ⟨%e19, H19⟩, ⟨%e20, H20⟩⟩
    isplitl [H18 H19 H20 Hr]
    · isplitl [H18 H19 H20]
      · isplitl [H18]; · iexists _; iapply (Entails.of_eq (whole_pt c cc0_scratch0 e18)); iexact H18
        isplitl [H19]; · iexists _; iapply (Entails.of_eq (whole_pt c cc0_scratch1 e19)); iexact H19
        iexists _; iapply (Entails.of_eq (whole_pt c cc0_scratch2 e20)); iexact H20
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · unfold owns; iexists _; isplitr
      swap; · iexact H12
      ipureintro; unfold out13; rw [runB13]; exact View.read_writes_of_cover _ _ _ _ _ (cover13 _ _ _ _ _ _ _ _ _ _ _ _ _ _ _ _ _ _ _ _ _ _ _ _ _ _ _ _ _ _ _ _ _ _ _ _ _ _ _ _ _ _ _ _ _ _ _ _ _ _ _ _ _ _)
    isplitl [H13]
    · unfold owns; iexists _; isplitr
      swap; · iexact H13
      ipureintro; unfold out14; rw [runB14]; exact View.read_writes_of_cover _ _ _ _ _ (cover14 _ _ _ _ _ _ _ _ _ _ _ _ _ _ _ _ _ _ _ _ _ _ _ _ _ _ _ _ _ _ _ _ _ _ _ _ _ _ _ _ _ _ _ _ _ _ _ _ _ _ _ _ _ _)
    isplitl [H14]
    · unfold owns; iexists _; isplitr
      swap; · iexact H14
      ipureintro; unfold out15; rw [runB15]; exact View.read_writes_of_cover _ _ _ _ _ (cover15 _ _ _ _ _ _ _ _ _ _ _ _ _ _ _ _ _ _ _ _ _ _ _ _ _ _ _ _ _ _ _ _ _ _ _ _ _ _ _ _ _ _ _ _ _ _ _ _ _ _ _ _ _ _)
    isplitl [H15]
    · unfold owns; iexists _; isplitr
      swap; · iexact H15
      ipureintro; unfold out16B; rw [runB16]; exact View.read_writes_of_cover _ _ _ _ _ (cover1 _ _)
    unfold owns; iexists _; isplitr
    swap; · iexact H16
    ipureintro; unfold out17B; rw [runB17]; exact View.read_writes_of_cover _ _ _ _ _ (cover1 _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The program runs to its end, with every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The program ends with its arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.AttnBwdIdeal.Frm

end
-- ==== Proof.AttnTop.lean ====
/- The attention backward's claims. -/
module

public import proofs.«01_k».proof.Defs
public import proofs.«01_k».proof.Proof.Gen.AttnBwd
public import proofs.«01_k».proof.Proof.Gen.AttnBwdRefIdeal
public import proofs.«01_k».proof.Proof.Gen.AttnBwdRefIdeal.Run
public import proofs.«01_k».proof.Proof.AttnFrm

@[expose] public section

set_option maxRecDepth 65536

noncomputable section

namespace Cert.AttnTop

open Idealize.ShloMosaic Idealize.ShloMosaic.TcCoe Idealize.SL.Sem

/-- The two programs' texts are the same. -/
theorem frame_bits (m : (ℓ : Loc Cert.AttnBwd.nD Cert.AttnBwd.τ Cert.AttnBwd.sig) → Buf (Elt Bits) ℓ) (g : Dev Cert.AttnBwd.nD → PrngReg) :
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3))
      ∧ r.2.sem = fun _ => 0) :=
  Eq.mp (by sl_kernel_rfl) (Cert.AttnBwdIdeal.Frm.frame (F := Bits) m g)

/-- The reference ends with its arguments unchanged; it declares no semaphore. -/
theorem frame_ref : Cert.quiescent_AttnBwdRefIdeal := fun m ρ _ =>
  (θ_run Cert.AttnBwdRefIdeal.defs _ _).mono (fun r h => And.intro (fun c => (h c).2.2.2.2.2) (Idealize.ShloMosaic.sem_eq_zero_of_no_sems (by decide) r.2))
    (Cert.AttnBwdRefIdeal.Value.run (F := Ideal) m ρ)

/-- The kernel, its ideal reading and the reference end with their arguments unchanged. -/
theorem frames : Cert.quiescent_AttnBwd ∧ Cert.quiescent_AttnBwdIdeal ∧ Cert.quiescent_AttnBwdRefIdeal :=
  ⟨fun m ρ _ => frame_bits m ρ, fun m ρ _ => Cert.AttnBwdIdeal.Frm.frame m ρ, frame_ref⟩

end Cert.AttnTop

end
-- ==== Proof.AttnMath.lean ====
/- The real functions of the stick-breaking attention's backward pass: one head's weights and their
   gradients, row by row. -/
module

public import proofs.«01_k».proof.Proof.Reals

@[expose] public section

noncomputable section

namespace Cert.AttnMath

open Idealize.ShloMosaic Cert.Reals Finset

/-- The logarithm of the logistic function. -/
def lsig (x : ℝ) : ℝ := min x 0 - Real.log (1 + Real.exp (-|x|))

/-- The product of row `t` of `A` and row `s` of `B`. -/
def sc (A B : ℕ → Fin 64 → ℝ) (t s : ℕ) : ℝ := ∑ d, A t d * B s d

/-- The first `n` entries of row `t`, summed. -/
def cum (f : ℕ → ℕ → ℝ) (t n : ℕ) : ℝ := ∑ s ∈ range n, f t s

/-- The rows `t < n` of column `s`, summed with the factors `A`. -/
def col (f : ℕ → ℕ → ℝ) (A : ℕ → Fin 64 → ℝ) (n s : ℕ) (d : Fin 64) : ℝ := ∑ t ∈ range n, f t s * A t d

/-- The entries `s < n` of row `t`, summed with the factors `B`. -/
def row (f : ℕ → ℕ → ℝ) (B : ℕ → Fin 64 → ℝ) (t n : ℕ) (d : Fin 64) : ℝ := ∑ s ∈ range n, f t s * B s d

section
variable (Q K V D : ℕ → Fin 64 → ℝ)

/-- The logarithm of the part of the stick that position `s` leaves. -/
def lm (t s : ℕ) : ℝ := if s < t then lsig (sc Q K t s) else 0

/-- The logarithm of the fraction position `s` takes. -/
def lb (t s : ℕ) : ℝ := lsig (sc Q K t s) - sc Q K t s

/-- The weight of position `s` for row `t`. -/
def wt (t s : ℕ) : ℝ :=
  if s < t then Real.exp (lb Q K t s + (cum (lm Q K) t 2048 - cum (lm Q K) t (s + 1))) else 0

/-- The weight times its gradient. -/
def en (t s : ℕ) : ℝ := wt Q K t s * sc D V t s

/-- The gradient at the score. -/
def dz (t s : ℕ) : ℝ :=
  if s < t then en Q K V D t s - Real.exp (lb Q K t s) * (en Q K V D t s + cum (en Q K V D) t s) else 0

end

theorem cum_add (f : ℕ → ℕ → ℝ) (t n m : ℕ) : cum f t (n + m) = cum f t n + ∑ j : Fin m, f t (n + j.val) := by
  rw [cum, cum, Finset.sum_range_add, Fin.sum_univ_eq_sum_range (fun j => f t (n + j))]

theorem row_add (f : ℕ → ℕ → ℝ) (B : ℕ → Fin 64 → ℝ) (t n m : ℕ) (d : Fin 64) :
    row f B t (n + m) d = row f B t n d + ∑ j : Fin m, f t (n + j.val) * B (n + j.val) d := by
  rw [row, row, Finset.sum_range_add, Fin.sum_univ_eq_sum_range (fun j => f t (n + j) * B (n + j) d)]

theorem col_add (f : ℕ → ℕ → ℝ) (A : ℕ → Fin 64 → ℝ) (n m s : ℕ) (d : Fin 64) :
    col f A (n + m) s d = col f A n s d + ∑ i : Fin m, f (n + i.val) s * A (n + i.val) d := by
  rw [col, col, Finset.sum_range_add, Fin.sum_univ_eq_sum_range (fun i => f (n + i) s * A (n + i) d)]

/-- The part of a block's row up to and with entry `j`, picked out by zeros and ones. -/
theorem sum_le (f : ℕ → ℕ → ℝ) (t n : ℕ) {m : ℕ} (j : Fin m) :
    (∑ k : Fin m, f t (n + k.val) * (if k.val ≤ j.val then (1 : ℝ) else 0)) = cum f t (n + j.val + 1) - cum f t n := by
  rw [add_assoc, cum_add, add_sub_cancel_left]
  simp only [mul_ite, mul_one, mul_zero]
  rw [Fin.sum_univ_eq_sum_range (fun k => if k ≤ j.val then f t (n + k) else 0) m,
    Fin.sum_univ_eq_sum_range (fun k => f t (n + k)) (j.val + 1), ← Finset.sum_filter]
  refine Finset.sum_congr ?_ fun _ _ => rfl
  ext k
  have := j.isLt
  simp only [Finset.mem_filter, Finset.mem_range]; omega

/-- The part of a block's row before entry `j`, picked out by zeros and ones. -/
theorem sum_lt (f : ℕ → ℕ → ℝ) (t n : ℕ) {m : ℕ} (j : Fin m) :
    (∑ k : Fin m, f t (n + k.val) * (if k.val < j.val then (1 : ℝ) else 0)) = cum f t (n + j.val) - cum f t n := by
  rw [cum_add, add_sub_cancel_left]
  simp only [mul_ite, mul_one, mul_zero]
  rw [Fin.sum_univ_eq_sum_range (fun k => if k < j.val then f t (n + k) else 0) m,
    Fin.sum_univ_eq_sum_range (fun k => f t (n + k)) (j.val), ← Finset.sum_filter]
  refine Finset.sum_congr ?_ fun _ _ => rfl
  ext k
  have := j.isLt
  simp only [Finset.mem_filter, Finset.mem_range]; omega

/-- The logarithm of the logistic function as the programs compute it. -/
theorem lsig_eq (x : ℝ) :
    min (x : EReal) ((0 : ℝ) : EReal) - Ideal.log (((1 : ℝ) : EReal) + Ideal.exp (((0 : ℝ) : EReal) - max (x : EReal) (-(x : EReal)))) = ((lsig x : ℝ) : EReal) := by
  have h1 : max (x : EReal) (-(x : EReal)) = ((|x| : ℝ) : EReal) := by
    rw [← EReal.coe_neg]; exact (EReal.coe_strictMono.monotone.map_max).symm
  have hp : 0 < 1 + Real.exp (-|x|) := by positivity
  have h2 : min (x : EReal) ((0 : ℝ) : EReal) = ((min x 0 : ℝ) : EReal) := (EReal.coe_strictMono.monotone.map_min).symm
  rw [h1, h2, ← EReal.coe_sub, zero_sub, Ideal.exp_coe, ← EReal.coe_add, Ideal.log_coe, if_neg (not_le.mpr hp),
    ← EReal.coe_sub]
  rfl

end Cert.AttnMath

end
-- ==== Proof.AttnTile.lean ====
/- One tile of the stick-breaking attention's backward pass: what each of the kernel's payloads holds at an
   index when the blocks it is given hold real numbers. -/
module

public import proofs.«01_k».proof.Proof.AttnMath
public import proofs.«01_k».proof.Proof.Gen.AttnBwdIdeal.Skeleton
public import Idealize.ShloMosaic.Lib.WordCmp

@[expose] public section

set_option maxRecDepth 16384

noncomputable section

namespace Cert.AttnTile

open Idealize.ShloMosaic Cert.Reals Cert.AttnMath Cert.AttnBwdIdeal Cert.AttnBwdIdeal.Gen

/-- A tile of scores holds the real function `f` at rows `256·a …` and columns `256·b …`. -/
def IsT (x : FVec Ideal S256x256 .f32) (f : ℕ → ℕ → ℝ) (a b : ℕ) : Prop :=
  ∀ i j : Fin 256, x (ix2 i j) = ((f (256 * a + i.val) (256 * b + j.val) : ℝ) : EReal)

/-- A column holds `f` at rows `256·a …`. -/
def IsC (x : FVec Ideal S256x1 .f32) (f : ℕ → ℝ) (a : ℕ) : Prop :=
  ∀ i : Fin 256, x (ix2 i (0 : Fin 1)) = ((f (256 * a + i.val) : ℝ) : EReal)

/-- A block of rows holds `f` at rows `256·a …`. -/
def IsR (x : FVec Ideal S256x64 .f32) (f : ℕ → Fin 64 → ℝ) (a : ℕ) : Prop :=
  ∀ (i : Fin 256) (d : Fin 64), x (ix2 i d) = ((f (256 * a + i.val) d : ℝ) : EReal)

/-- A block of one head's rows holds `f` at rows `256·a …`. -/
def IsB (x : FVec Ideal S1x256x64 .f32) (f : ℕ → Fin 64 → ℝ) (a : ℕ) : Prop :=
  ∀ (i : Fin 256) (d : Fin 64), x (ix3 (0 : Fin 1) i d) = ((f (256 * a + i.val) d : ℝ) : EReal)

/-- The triangle of ones that sums a row up to and with an entry. -/
def IsLe (x : FVec Ideal S256x256 .f32) : Prop :=
  ∀ i j : Fin 256, x (ix2 i j) = (((if i.val ≤ j.val then 1 else 0 : ℝ)) : EReal)

/-- The triangle of ones that sums a row up to an entry. -/
def IsLt (x : FVec Ideal S256x256 .f32) : Prop :=
  ∀ i j : Fin 256, x (ix2 i j) = (((if i.val < j.val then 1 else 0 : ℝ)) : EReal)

variable {Q K V D : ℕ → Fin 64 → ℝ} {a b : ℕ}

theorem key {q : FVec Ideal S1x256x64 .bf16} (h : IsB q K b) : IsR (k0_pay2 (F := Ideal) q) K b := by
  intro i d
  pointwise [k0_pay2]
  exact h i d

theorem score {q : FVec Ideal S256x64 .bf16} {k : FVec Ideal S1x256x64 .bf16} (hq : IsR q Q a) (hk : IsB k K b) :
    IsT (k0_pay6 (F := Ideal) q k) (sc Q K) a b := by
  intro i j
  pointwise [k0_pay6, k0_pay2]
  simp only [hq _ _, hk _ _, ← EReal.coe_mul, sum_coe]
  rfl

theorem lsigs {s : FVec Ideal S256x256 .f32} (h : IsT s (sc Q K) a b) :
    IsT (k0_pay14 (F := Ideal) s) (fun t s => lsig (sc Q K t s)) a b := by
  intro i j
  pointwise [k0_pay14]
  rw [h i j]
  exact lsig_eq _

theorem logb {s : FVec Ideal S256x256 .f32} (h : IsT s (sc Q K) a b) : IsT (k0_pay15 (F := Ideal) s) (lb Q K) a b := by
  intro i j
  pointwise [k0_pay15]
  rw [h i j, lsigs h i j, ← EReal.coe_sub]
  rfl

/-- The prefix sums of a tile's rows. -/
theorem prefixes {f : ℕ → ℕ → ℝ} {x : FVec Ideal S256x256 .bf16} {ti : FVec Ideal S256x256 .bf16} (hx : IsT x f a b)
    (ht : IsLe ti) :
    IsT (k0_pay23 (F := Ideal) x ti) (fun t s => cum f t (s + 1) - cum f t (256 * b)) a b := by
  intro i j
  pointwise [k0_pay23]
  simp only [hx _ _, ht _ _, ← EReal.coe_mul, sum_coe]
  exact congrArg _ (sum_le f _ _ j)

theorem gradw {q : FVec Ideal S256x64 .bf16} {k : FVec Ideal S1x256x64 .bf16} (hq : IsR q D a) (hk : IsB k V b) :
    IsT (k0_pay10 (F := Ideal) q k) (sc D V) a b := by
  intro i j
  pointwise [k0_pay10]
  simp only [hq _ _, hk _ _, ← EReal.coe_mul, sum_coe]
  rfl

section full
variable (hab : b < a)
include hab

theorem below (i j : Fin 256) : 256 * b + j.val < 256 * a + i.val := by have := j.isLt; omega

theorem rest {s : FVec Ideal S256x256 .f32} (h : IsT s (sc Q K) a b) : IsT (k0_pay22 (F := Ideal) s) (lm Q K) a b := by
  intro i j
  pointwise [k0_pay22]
  rw [lsigs h i j, lm, if_pos (below hab i j)]

theorem weight {l c : FVec Ideal S256x1 .f32} {g : FVec Ideal S256x256 .f32} {x ti : FVec Ideal S256x256 .bf16}
    (hl : IsC l (fun t => cum (lm Q K) t 2048) a) (hc : IsC c (fun t => cum (lm Q K) t (256 * b)) a) (hg : IsT g (lb Q K) a b)
    (hx : IsT x (lm Q K) a b) (ht : IsLe ti) : IsT (k0_pay27 (F := Ideal) l c g x ti) (wt Q K) a b := by
  intro i j
  pointwise [k0_pay27]
  rw [hl i, hc i, hg i j, prefixes hx ht i j]
  simp only [← EReal.coe_sub, ← EReal.coe_add, Ideal.exp_coe]
  rw [wt, if_pos (below hab i j)]
  congr 3; ring

theorem energy {l c : FVec Ideal S256x1 .f32} {w g : FVec Ideal S256x256 .f32} {x ti : FVec Ideal S256x256 .bf16}
    (hl : IsC l (fun t => cum (lm Q K) t 2048) a) (hc : IsC c (fun t => cum (lm Q K) t (256 * b)) a) (hw : IsT w (sc D V) a b)
    (hg : IsT g (lb Q K) a b) (hx : IsT x (lm Q K) a b) (ht : IsLe ti) :
    IsT (k0_pay31 (F := Ideal) l c w g x ti) (en Q K V D) a b := by
  intro i j
  pointwise [k0_pay31]
  rw [weight hab hl hc hg hx ht i j, hw i j, ← EReal.coe_mul]
  rfl

theorem energies {l c : FVec Ideal S256x1 .f32} {w g : FVec Ideal S256x256 .f32} {x ti te : FVec Ideal S256x256 .bf16}
    (hl : IsC l (fun t => cum (lm Q K) t 2048) a) (hc : IsC c (fun t => cum (lm Q K) t (256 * b)) a) (hw : IsT w (sc D V) a b)
    (hg : IsT g (lb Q K) a b) (hx : IsT x (lm Q K) a b) (ht : IsLe ti) (he : IsLt te) :
    IsT (k0_pay35 (F := Ideal) l c w g x ti te) (fun t s => cum (en Q K V D) t s - cum (en Q K V D) t (256 * b)) a b := by
  intro i j
  pointwise [k0_pay35]
  simp only [energy hab hl hc hw hg hx ht _ _, he _ _, ← EReal.coe_mul, sum_coe]
  exact congrArg _ (sum_lt _ _ _ j)

theorem grads {c : FVec Ideal S256x1 .f32} {g e p : FVec Ideal S256x256 .f32}
    (hc : IsC c (fun t => cum (en Q K V D) t (256 * b)) a) (hg : IsT g (lb Q K) a b) (he : IsT e (en Q K V D) a b)
    (hp : IsT p (fun t s => cum (en Q K V D) t s - cum (en Q K V D) t (256 * b)) a b) :
    IsT (k0_pay44 (F := Ideal) c g e p) (dz Q K V D) a b := by
  intro i j
  pointwise [k0_pay44]
  rw [hc i, hg i j, he i j, hp i j]
  simp only [← EReal.coe_sub, ← EReal.coe_add, ← EReal.coe_mul, Ideal.exp_coe]
  rw [dz, if_pos (below hab i j)]
  congr 4; ring

theorem gradK {q : FVec Ideal S256x64 .bf16} {c : FVec Ideal S256x1 .f32} {g e p : FVec Ideal S256x256 .f32}
    {o : FVec Ideal S1x256x64 .f32} (hq : IsR q Q a)
    (hc : IsC c (fun t => cum (en Q K V D) t (256 * b)) a) (hg : IsT g (lb Q K) a b) (he : IsT e (en Q K V D) a b)
    (hp : IsT p (fun t s => cum (en Q K V D) t s - cum (en Q K V D) t (256 * b)) a b)
    (ho : IsB o (col (dz Q K V D) Q (256 * a)) b) :
    IsB (k0_pay45 (F := Ideal) q c g e p o) (col (dz Q K V D) Q (256 * (a + 1))) b := by
  intro i d
  pointwise [k0_pay45]
  simp only [ho _ _, grads hab hc hg he hp _ _, hq _ _, ← EReal.coe_mul, sum_coe, ← EReal.coe_add]
  rw [Nat.mul_succ, col_add]

end full

theorem gradV {q : FVec Ideal S256x64 .bf16} {w : FVec Ideal S256x256 .f32} {o : FVec Ideal S1x256x64 .f32} (hq : IsR q D a)
    (hw : IsT w (wt Q K) a b) (ho : IsB o (col (wt Q K) D (256 * a)) b) :
    IsB (k0_pay46 (F := Ideal) q w o) (col (wt Q K) D (256 * (a + 1))) b := by
  intro i d
  pointwise [k0_pay46]
  simp only [ho _ _, hw _ _, hq _ _, ← EReal.coe_mul, sum_coe, ← EReal.coe_add]
  rw [Nat.mul_succ, col_add]

theorem gradQ {o : FVec Ideal S256x64 .f32} {k : FVec Ideal S256x64 .bf16} {z : FVec Ideal S256x256 .bf16} (hk : IsR k K b)
    (hz : IsT z (dz Q K V D) a b) (ho : IsR o (fun t => row (dz Q K V D) K t (256 * b)) a) :
    IsR (k0_pay47 (F := Ideal) o k z) (fun t => row (dz Q K V D) K t (256 * (b + 1))) a := by
  intro i d
  pointwise [k0_pay47]
  simp only [ho _ _, hz _ _, hk _ _, ← EReal.coe_mul, sum_coe, ← EReal.coe_add]
  rw [Nat.mul_succ, row_add]

theorem carry1 {f : ℕ → ℕ → ℝ} {c : FVec Ideal S256x1 .f32} {p : FVec Ideal S256x256 .f32} (hc : IsC c (fun t => cum f t (256 * b)) a)
    (hp : IsT p (fun t s => cum f t (s + 1) - cum f t (256 * b)) a b) :
    IsC (k0_pay48 (F := Ideal) c p) (fun t => cum f t (256 * (b + 1))) a := by
  intro i
  pointwise [k0_pay48]
  rw [hc i]
  refine (congrArg _ (hp i 255)).trans ?_
  rw [← EReal.coe_add]
  congr 1
  show _ + (cum f _ (256 * b + 255 + 1) - _) = _
  rw [Nat.mul_succ]; ring

theorem carry2 {f : ℕ → ℕ → ℝ} {c : FVec Ideal S256x1 .f32} {e p : FVec Ideal S256x256 .f32} (hc : IsC c (fun t => cum f t (256 * b)) a)
    (he : IsT e f a b) (hp : IsT p (fun t s => cum f t s - cum f t (256 * b)) a b) :
    IsC (k0_pay49 (F := Ideal) c e p) (fun t => cum f t (256 * (b + 1))) a := by
  intro i
  pointwise [k0_pay49]
  rw [hc i]
  have h1 := hp i 255
  have h2 := he i 255
  refine (congrArg₂ (fun x y : EReal => _ + x + y) h1 h2).trans ?_
  rw [← EReal.coe_add, ← EReal.coe_add]
  congr 1
  show _ + (cum f _ (256 * b + 255) - _) + f _ (256 * b + 255) = cum f _ (256 * b + 255 + 1)
  rw [show cum f (256 * a + i.val) (256 * b + 255 + 1) = cum f (256 * a + i.val) (256 * b + 255) + f (256 * a + i.val) (256 * b + 255)
    from Finset.sum_range_succ _ _]
  ring

/-! The tile on the diagonal. -/

theorem mask (i j : Fin 256) (x y : EReal) :
    Scalar.select (k0_pay174 (ix2 i j)) x y = if j.val < i.val then x else y := by
  pointwise [k0_pay174]
  word_cmp

theorem diag_iff (a : ℕ) (i j : Fin 256) : 256 * a + j.val < 256 * a + i.val ↔ j.val < i.val := by omega

theorem dscore {q : FVec Ideal S256x64 .bf16} {k : FVec Ideal S1x256x64 .bf16} (hq : IsR q Q a) (hk : IsB k K b) :
    IsT (k0_pay157 (F := Ideal) q k) (sc Q K) a b := score hq hk

theorem dprefixes {x : FVec Ideal S256x256 .f32} {ti : FVec Ideal S256x256 .bf16}
    (hx : IsT x (fun t s => lsig (sc Q K t s)) a a) (ht : IsLe ti) :
    IsT (k0_pay175 (F := Ideal) x ti) (fun t s => cum (lm Q K) t (s + 1) - cum (lm Q K) t (256 * a)) a a := by
  intro i j
  pointwise [k0_pay175]
  simp only [mask, hx _ _, ht _ _, ← EReal.coe_mul]
  rw [← sum_le, ← sum_coe]
  refine Finset.sum_congr rfl fun k _ => ?_
  rw [lm]
  simp only [diag_iff]
  split
  · rfl
  · rw [zero_mul]; rfl

theorem dweight {l c : FVec Ideal S256x1 .f32} {g p : FVec Ideal S256x256 .f32}
    (hl : IsC l (fun t => cum (lm Q K) t 2048) a) (hc : IsC c (fun t => cum (lm Q K) t (256 * a)) a) (hg : IsT g (lb Q K) a a)
    (hp : IsT p (fun t s => cum (lm Q K) t (s + 1) - cum (lm Q K) t (256 * a)) a a) :
    IsT (k0_pay179 (F := Ideal) l c g k0_pay174 p) (wt Q K) a a := by
  intro i j
  pointwise [k0_pay179]
  rw [mask, hl i, hc i, hg i j, hp i j]
  simp only [← EReal.coe_sub, ← EReal.coe_add, Ideal.exp_coe]
  rw [wt]
  simp only [diag_iff]
  split
  · congr 3; ring
  · rfl

theorem denergy {l c : FVec Ideal S256x1 .f32} {w g p : FVec Ideal S256x256 .f32}
    (hl : IsC l (fun t => cum (lm Q K) t 2048) a) (hc : IsC c (fun t => cum (lm Q K) t (256 * a)) a) (hw : IsT w (sc D V) a a)
    (hg : IsT g (lb Q K) a a) (hp : IsT p (fun t s => cum (lm Q K) t (s + 1) - cum (lm Q K) t (256 * a)) a a) :
    IsT (k0_pay183 (F := Ideal) l c w g k0_pay174 p) (en Q K V D) a a := by
  intro i j
  pointwise [k0_pay183]
  rw [dweight hl hc hg hp i j, hw i j, ← EReal.coe_mul]
  rfl

theorem denergies {l c : FVec Ideal S256x1 .f32} {w g p : FVec Ideal S256x256 .f32} {te : FVec Ideal S256x256 .bf16}
    (hl : IsC l (fun t => cum (lm Q K) t 2048) a) (hc : IsC c (fun t => cum (lm Q K) t (256 * a)) a) (hw : IsT w (sc D V) a a)
    (hg : IsT g (lb Q K) a a) (hp : IsT p (fun t s => cum (lm Q K) t (s + 1) - cum (lm Q K) t (256 * a)) a a) (he : IsLt te) :
    IsT (k0_pay187 (F := Ideal) l c w g k0_pay174 p te) (fun t s => cum (en Q K V D) t s - cum (en Q K V D) t (256 * a)) a a := by
  intro i j
  pointwise [k0_pay187]
  simp only [denergy hl hc hw hg hp _ _, he _ _, ← EReal.coe_mul, sum_coe]
  exact congrArg _ (sum_lt _ _ _ j)

theorem dgrads {c : FVec Ideal S256x1 .f32} {g e p : FVec Ideal S256x256 .f32}
    (hc : IsC c (fun t => cum (en Q K V D) t (256 * a)) a) (hg : IsT g (lb Q K) a a) (he : IsT e (en Q K V D) a a)
    (hp : IsT p (fun t s => cum (en Q K V D) t s - cum (en Q K V D) t (256 * a)) a a) :
    IsT (k0_pay193 (F := Ideal) c g k0_pay174 e p) (dz Q K V D) a a := by
  intro i j
  pointwise [k0_pay193]
  rw [mask, hc i, hg i j, he i j, hp i j]
  simp only [← EReal.coe_sub, ← EReal.coe_add, ← EReal.coe_mul, Ideal.exp_coe]
  rw [dz]
  simp only [diag_iff]
  split
  · congr 4; ring
  · rfl

theorem dgradK {q : FVec Ideal S256x64 .bf16} {c : FVec Ideal S256x1 .f32} {g e p : FVec Ideal S256x256 .f32}
    {o : FVec Ideal S1x256x64 .f32} (hq : IsR q Q a)
    (hc : IsC c (fun t => cum (en Q K V D) t (256 * a)) a) (hg : IsT g (lb Q K) a a) (he : IsT e (en Q K V D) a a)
    (hp : IsT p (fun t s => cum (en Q K V D) t s - cum (en Q K V D) t (256 * a)) a a)
    (ho : IsB o (col (dz Q K V D) Q (256 * a)) a) :
    IsB (k0_pay195 (F := Ideal) (k0_pay194 q c g k0_pay174 e p o)) (col (dz Q K V D) Q (256 * (a + 1))) a := by
  intro i d
  pointwise [k0_pay195, k0_pay194]
  simp only [ho _ _, dgrads hc hg he hp _ _, hq _ _, ← EReal.coe_mul, sum_coe, ← EReal.coe_add]
  rw [Nat.mul_succ, col_add]

end Cert.AttnTile

end
-- ==== Proof.AttnT4.lean ====
/- One trip of the finishing sweep, head by head: the same functions for each of the four heads. -/
module

public import proofs.«01_k».proof.Proof.AttnTile
public import proofs.«01_k».proof.Proof.Gen.AttnBwdIdeal.Loops

@[expose] public section

set_option maxRecDepth 16384

noncomputable section

namespace Cert.AttnT4

open Idealize.ShloMosaic Idealize.ShloMosaic.TcCoe
open Cert.AttnBwdIdeal Cert.AttnBwdIdeal.Gen

section tile
variable (x : FVec Ideal S256x64 .f32) (g : FVec Ideal S1x64 .f32) (o : FVec Ideal S1x256x64 .f32) (a : FVec Ideal S1x64 .f32)

/-- The query rows' gradients. -/
def outq : FVec Ideal S256x64 .bf16 := k0_pay216 (k0_pay209 x) (k0_pay211 x) (k0_pay215 o g)

/-- The key rows' gradients. -/
def outk : FVec Ideal S256x64 .bf16 := k0_pay217 (k0_pay210 x) (k0_pay212 x) (k0_pay214 o) g

/-- The value rows' gradients. -/
def outv : FVec Ideal S256x64 .bf16 := k0_pay218 o

/-- The sum for the query norm's scale. -/
def sumq : FVec Ideal S1x64 .f32 := k0_pay219 a (k0_pay211 x) (k0_pay213 o)

/-- The sum for the key norm's scale. -/
def sumk : FVec Ideal S1x64 .f32 := k0_pay220 a (k0_pay212 x) (k0_pay214 o)
end tile

variable (𝒱 : Variants) (c : Dev nD) (bd : Option 𝒱.V) (i : grid0.Coords) (arg1 : Memref sig .tc .vmem S2048x256 .f32) (harg1 : arg1.IsWhole) (arg2 : Memref sig .tc .vmem S2048x256 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x2048x256 .f32) (harg5 : arg5.IsWhole) (arg6 : Memref sig .tc .vmem S2048x256 .f32) (harg6 : arg6.IsWhole) (arg7 : Memref sig .tc .vmem S256x256 .bf16) (harg7 : arg7.IsWhole) (arg8 : Memref sig .tc .vmem S256x256 .bf16) (harg8 : arg8.IsWhole) (arg9 : Memref sig .tc .smem S2x8 .f32) (harg9 : arg9.IsWhole) (arg10 : Memref sig .tc .vmem S4x2048x64 .bf16) (harg10 : arg10.IsWhole) (arg11 : Memref sig .tc .vmem S4x2048x64 .bf16) (harg11 : arg11.IsWhole) (arg12 : Memref sig .tc .vmem S4x2048x64 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S1x64 .f32) (harg16 : arg16.IsWhole) (arg17 : Memref sig .tc .vmem S1x64 .f32) (harg17 : arg17.IsWhole) (arg18 : Memref sig .tc .vmem S4x2048x64 .f32) (harg18 : arg18.IsWhole) (arg19 : Memref sig .tc .vmem S4x2048x64 .f32) (harg19 : arg19.IsWhole) (arg20 : Memref sig .tc .vmem S4x2048x64 .f32) (harg20 : arg20.IsWhole) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X18 : BufTy.Contents (Elt Ideal) arg18.view.ty) (X19 : BufTy.Contents (Elt Ideal) arg19.view.ty) (X20 : BufTy.Contents (Elt Ideal) arg20.view.ty) (k : Fin k0_t4_loop.trips)
  (acc : FVec Ideal S1x64 .f32 × FVec Ideal S1x64 .f32 × FVec Ideal S1x64 .f32 × FVec Ideal S1x64 .f32 × FVec Ideal S1x64 .f32 × FVec Ideal S1x64 .f32 × FVec Ideal S1x64 .f32 × FVec Ideal S1x64 .f32)

set_option maxHeartbeats 4000000 in
/-- What one trip carries on. -/
theorem trip_res :
    (trip_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X1 X2 X3 X4 X18 X19 X20 k).1 acc
      = (sumq (View.readAt (Elt Ideal) arg1.view (Rect.unit (s := S2048x256) (k0_off26 k) S256x64.size (k0_off26_inb k)).toLoadRect X1) (View.readAt (Elt Ideal) arg18.view (Rect.unit (s := S4x2048x64) (k0_off27 k) S1x256x64.size (k0_off27_inb k)).toLoadRect X18) acc.1, sumk (View.readAt (Elt Ideal) arg2.view (Rect.unit (s := S2048x256) (k0_off26 k) S256x64.size (k0_off26_inb k)).toLoadRect X2) (View.readAt (Elt Ideal) arg19.view (Rect.unit (s := S4x2048x64) (k0_off27 k) S1x256x64.size (k0_off27_inb k)).toLoadRect X19) acc.2.1, sumq (View.readAt (Elt Ideal) arg1.view (Rect.unit (s := S2048x256) (k0_off28 k) S256x64.size (k0_off28_inb k)).toLoadRect X1) (View.readAt (Elt Ideal) arg18.view (Rect.unit (s := S4x2048x64) (k0_off29 k) S1x256x64.size (k0_off29_inb k)).toLoadRect X18) acc.2.2.1, sumk (View.readAt (Elt Ideal) arg2.view (Rect.unit (s := S2048x256) (k0_off28 k) S256x64.size (k0_off28_inb k)).toLoadRect X2) (View.readAt (Elt Ideal) arg19.view (Rect.unit (s := S4x2048x64) (k0_off29 k) S1x256x64.size (k0_off29_inb k)).toLoadRect X19) acc.2.2.2.1, sumq (View.readAt (Elt Ideal) arg1.view (Rect.unit (s := S2048x256) (k0_off30 k) S256x64.size (k0_off30_inb k)).toLoadRect X1) (View.readAt (Elt Ideal) arg18.view (Rect.unit (s := S4x2048x64) (k0_off31 k) S1x256x64.size (k0_off31_inb k)).toLoadRect X18) acc.2.2.2.2.1, sumk (View.readAt (Elt Ideal) arg2.view (Rect.unit (s := S2048x256) (k0_off30 k) S256x64.size (k0_off30_inb k)).toLoadRect X2) (View.readAt (Elt Ideal) arg19.view (Rect.unit (s := S4x2048x64) (k0_off31 k) S1x256x64.size (k0_off31_inb k)).toLoadRect X19) acc.2.2.2.2.2.1, sumq (View.readAt (Elt Ideal) arg1.view (Rect.unit (s := S2048x256) (k0_off32 k) S256x64.size (k0_off32_inb k)).toLoadRect X1) (View.readAt (Elt Ideal) arg18.view (Rect.unit (s := S4x2048x64) (k0_off33 k) S1x256x64.size (k0_off33_inb k)).toLoadRect X18) acc.2.2.2.2.2.2.1, sumk (View.readAt (Elt Ideal) arg2.view (Rect.unit (s := S2048x256) (k0_off32 k) S256x64.size (k0_off32_inb k)).toLoadRect X2) (View.readAt (Elt Ideal) arg19.view (Rect.unit (s := S4x2048x64) (k0_off33 k) S1x256x64.size (k0_off33_inb k)).toLoadRect X19) acc.2.2.2.2.2.2.2) := by
  unfold trip_k0_t4; rfl

set_option maxHeartbeats 4000000 in
/-- The pieces one trip writes into the query rows. -/
theorem trip_dq :
    (trip_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X1 X2 X3 X4 X18 X19 X20 k).2.1 acc
      = [⟨Rect.unit (s := S2048x256) (k0_off32 k) S256x64.size (k0_off32_inb k), outq (View.readAt (Elt Ideal) arg1.view (Rect.unit (s := S2048x256) (k0_off32 k) S256x64.size (k0_off32_inb k)).toLoadRect X1) (View.readAt (Elt Ideal) arg3.view (Rect.unit (s := S1x64) ![0, 0] S1x64.size inb_S1x64_S1x64_0_0).toLoadRect X3) (View.readAt (Elt Ideal) arg18.view (Rect.unit (s := S4x2048x64) (k0_off33 k) S1x256x64.size (k0_off33_inb k)).toLoadRect X18)⟩, ⟨Rect.unit (s := S2048x256) (k0_off30 k) S256x64.size (k0_off30_inb k), outq (View.readAt (Elt Ideal) arg1.view (Rect.unit (s := S2048x256) (k0_off30 k) S256x64.size (k0_off30_inb k)).toLoadRect X1) (View.readAt (Elt Ideal) arg3.view (Rect.unit (s := S1x64) ![0, 0] S1x64.size inb_S1x64_S1x64_0_0).toLoadRect X3) (View.readAt (Elt Ideal) arg18.view (Rect.unit (s := S4x2048x64) (k0_off31 k) S1x256x64.size (k0_off31_inb k)).toLoadRect X18)⟩, ⟨Rect.unit (s := S2048x256) (k0_off28 k) S256x64.size (k0_off28_inb k), outq (View.readAt (Elt Ideal) arg1.view (Rect.unit (s := S2048x256) (k0_off28 k) S256x64.size (k0_off28_inb k)).toLoadRect X1) (View.readAt (Elt Ideal) arg3.view (Rect.unit (s := S1x64) ![0, 0] S1x64.size inb_S1x64_S1x64_0_0).toLoadRect X3) (View.readAt (Elt Ideal) arg18.view (Rect.unit (s := S4x2048x64) (k0_off29 k) S1x256x64.size (k0_off29_inb k)).toLoadRect X18)⟩, ⟨Rect.unit (s := S2048x256) (k0_off26 k) S256x64.size (k0_off26_inb k), outq (View.readAt (Elt Ideal) arg1.view (Rect.unit (s := S2048x256) (k0_off26 k) S256x64.size (k0_off26_inb k)).toLoadRect X1) (View.readAt (Elt Ideal) arg3.view (Rect.unit (s := S1x64) ![0, 0] S1x64.size inb_S1x64_S1x64_0_0).toLoadRect X3) (View.readAt (Elt Ideal) arg18.view (Rect.unit (s := S4x2048x64) (k0_off27 k) S1x256x64.size (k0_off27_inb k)).toLoadRect X18)⟩] := by
  unfold trip_k0_t4; rfl

set_option maxHeartbeats 4000000 in
/-- The pieces one trip writes into the key rows. -/
theorem trip_dk :
    (trip_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X1 X2 X3 X4 X18 X19 X20 k).2.2.1 acc
      = [⟨Rect.unit (s := S2048x256) (k0_off32 k) S256x64.size (k0_off32_inb k), outk (View.readAt (Elt Ideal) arg2.view (Rect.unit (s := S2048x256) (k0_off32 k) S256x64.size (k0_off32_inb k)).toLoadRect X2) (View.readAt (Elt Ideal) arg4.view (Rect.unit (s := S1x64) ![0, 0] S1x64.size inb_S1x64_S1x64_0_0).toLoadRect X4) (View.readAt (Elt Ideal) arg19.view (Rect.unit (s := S4x2048x64) (k0_off33 k) S1x256x64.size (k0_off33_inb k)).toLoadRect X19)⟩, ⟨Rect.unit (s := S2048x256) (k0_off30 k) S256x64.size (k0_off30_inb k), outk (View.readAt (Elt Ideal) arg2.view (Rect.unit (s := S2048x256) (k0_off30 k) S256x64.size (k0_off30_inb k)).toLoadRect X2) (View.readAt (Elt Ideal) arg4.view (Rect.unit (s := S1x64) ![0, 0] S1x64.size inb_S1x64_S1x64_0_0).toLoadRect X4) (View.readAt (Elt Ideal) arg19.view (Rect.unit (s := S4x2048x64) (k0_off31 k) S1x256x64.size (k0_off31_inb k)).toLoadRect X19)⟩, ⟨Rect.unit (s := S2048x256) (k0_off28 k) S256x64.size (k0_off28_inb k), outk (View.readAt (Elt Ideal) arg2.view (Rect.unit (s := S2048x256) (k0_off28 k) S256x64.size (k0_off28_inb k)).toLoadRect X2) (View.readAt (Elt Ideal) arg4.view (Rect.unit (s := S1x64) ![0, 0] S1x64.size inb_S1x64_S1x64_0_0).toLoadRect X4) (View.readAt (Elt Ideal) arg19.view (Rect.unit (s := S4x2048x64) (k0_off29 k) S1x256x64.size (k0_off29_inb k)).toLoadRect X19)⟩, ⟨Rect.unit (s := S2048x256) (k0_off26 k) S256x64.size (k0_off26_inb k), outk (View.readAt (Elt Ideal) arg2.view (Rect.unit (s := S2048x256) (k0_off26 k) S256x64.size (k0_off26_inb k)).toLoadRect X2) (View.readAt (Elt Ideal) arg4.view (Rect.unit (s := S1x64) ![0, 0] S1x64.size inb_S1x64_S1x64_0_0).toLoadRect X4) (View.readAt (Elt Ideal) arg19.view (Rect.unit (s := S4x2048x64) (k0_off27 k) S1x256x64.size (k0_off27_inb k)).toLoadRect X19)⟩] := by
  unfold trip_k0_t4; rfl

set_option maxHeartbeats 4000000 in
/-- The pieces one trip writes into the value rows. -/
theorem trip_dv :
    (trip_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X1 X2 X3 X4 X18 X19 X20 k).2.2.2.1 acc
      = [⟨Rect.unit (s := S2048x256) (k0_off32 k) S256x64.size (k0_off32_inb k), outv (View.readAt (Elt Ideal) arg20.view (Rect.unit (s := S4x2048x64) (k0_off33 k) S1x256x64.size (k0_off33_inb k)).toLoadRect X20)⟩, ⟨Rect.unit (s := S2048x256) (k0_off30 k) S256x64.size (k0_off30_inb k), outv (View.readAt (Elt Ideal) arg20.view (Rect.unit (s := S4x2048x64) (k0_off31 k) S1x256x64.size (k0_off31_inb k)).toLoadRect X20)⟩, ⟨Rect.unit (s := S2048x256) (k0_off28 k) S256x64.size (k0_off28_inb k), outv (View.readAt (Elt Ideal) arg20.view (Rect.unit (s := S4x2048x64) (k0_off29 k) S1x256x64.size (k0_off29_inb k)).toLoadRect X20)⟩, ⟨Rect.unit (s := S2048x256) (k0_off26 k) S256x64.size (k0_off26_inb k), outv (View.readAt (Elt Ideal) arg20.view (Rect.unit (s := S4x2048x64) (k0_off27 k) S1x256x64.size (k0_off27_inb k)).toLoadRect X20)⟩] := by
  unfold trip_k0_t4; rfl

end Cert.AttnT4

end
-- ==== Proof.AttnT2.lean ====
/- One trip of the sweep over earlier key tiles, head by head: the same tile functions for each of the four
   heads. -/
module

public import proofs.«01_k».proof.Proof.AttnTile
public import proofs.«01_k».proof.Proof.Gen.AttnBwdIdeal.Loops

@[expose] public section

set_option maxRecDepth 16384

noncomputable section

namespace Cert.AttnT2

open Idealize.ShloMosaic Idealize.ShloMosaic.TcCoe
open Cert.AttnBwdIdeal Cert.AttnBwdIdeal.Gen

section tile
variable (q g : FVec Ideal S256x64 .bf16) (l : FVec Ideal S256x1 .f32) (K V : FVec Ideal S1x256x64 .bf16)
  (ti te : FVec Ideal S256x256 .bf16) (c1 c2 : FVec Ideal S256x1 .f32)

/-- The weights of a tile. -/
def w : FVec Ideal S256x256 .f32 := k0_pay27 l c1 (k0_pay15 (k0_pay6 q K)) (k0_pay22 (k0_pay6 q K)) ti

/-- The weights times their gradients. -/
def e : FVec Ideal S256x256 .f32 := k0_pay31 l c1 (k0_pay10 g V) (k0_pay15 (k0_pay6 q K)) (k0_pay22 (k0_pay6 q K)) ti

/-- Their prefix sums. -/
def p : FVec Ideal S256x256 .f32 := k0_pay35 l c1 (k0_pay10 g V) (k0_pay15 (k0_pay6 q K)) (k0_pay22 (k0_pay6 q K)) ti te

/-- The query rows' gradients with this tile added. -/
def dq (o : FVec Ideal S256x64 .f32) : FVec Ideal S256x64 .f32 :=
  k0_pay47 o (k0_pay2 K) (k0_pay44 c2 (k0_pay15 (k0_pay6 q K)) (e q g l K V ti c1) (p q g l K V ti te c1))

/-- The first carried sum with this tile added. -/
def n1 : FVec Ideal S256x1 .f32 := k0_pay48 c1 (k0_pay23 (k0_pay22 (k0_pay6 q K)) ti)

/-- The second carried sum with this tile added. -/
def n2 : FVec Ideal S256x1 .f32 := k0_pay49 c2 (e q g l K V ti c1) (p q g l K V ti te c1)

/-- The key rows' gradients with this tile added. -/
def dk (o : FVec Ideal S1x256x64 .f32) : FVec Ideal S1x256x64 .f32 :=
  k0_pay45 q c2 (k0_pay15 (k0_pay6 q K)) (e q g l K V ti c1) (p q g l K V ti te c1) o

/-- The value rows' gradients with this tile added. -/
def dv (o : FVec Ideal S1x256x64 .f32) : FVec Ideal S1x256x64 .f32 := k0_pay46 g (w q l K ti c1) o
end tile

section lists
variable (v : View sig .tc .vmem S4x2048x64 .f32) (f : BufTy.Contents (Elt Ideal) v.ty) (P : List (View.Piece (Elt Ideal) S4x2048x64 .f32))

/-- One piece more: the block of rows at `o`, with what is added to what stands there. -/
def add1 (o : Fin 3 → ℕ) (h : ∀ a, o a + S1x256x64.size a ≤ S4x2048x64.size a) (u : FVec Ideal S1x256x64 .f32 → FVec Ideal S1x256x64 .f32) :
    List (View.Piece (Elt Ideal) S4x2048x64 .f32) :=
  ⟨Rect.unit (s := S4x2048x64) o S1x256x64.size h, u (v.readAt (Elt Ideal) (Rect.unit (s := S4x2048x64) o S1x256x64.size h).toLoadRect (v.writes (Elt Ideal) f P))⟩ :: P
end lists

variable (𝒱 : Variants) (c : Dev nD) (bd : Option 𝒱.V) (i : grid0.Coords) (arg1 : Memref sig .tc .vmem S2048x256 .f32) (harg1 : arg1.IsWhole) (arg2 : Memref sig .tc .vmem S2048x256 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x2048x256 .f32) (harg5 : arg5.IsWhole) (arg6 : Memref sig .tc .vmem S2048x256 .f32) (harg6 : arg6.IsWhole) (arg7 : Memref sig .tc .vmem S256x256 .bf16) (harg7 : arg7.IsWhole) (arg8 : Memref sig .tc .vmem S256x256 .bf16) (harg8 : arg8.IsWhole) (arg9 : Memref sig .tc .smem S2x8 .f32) (harg9 : arg9.IsWhole) (arg10 : Memref sig .tc .vmem S4x2048x64 .bf16) (harg10 : arg10.IsWhole) (arg11 : Memref sig .tc .vmem S4x2048x64 .bf16) (harg11 : arg11.IsWhole) (arg12 : Memref sig .tc .vmem S4x2048x64 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S1x64 .f32) (harg16 : arg16.IsWhole) (arg17 : Memref sig .tc .vmem S1x64 .f32) (harg17 : arg17.IsWhole) (arg18 : Memref sig .tc .vmem S4x2048x64 .f32) (harg18 : arg18.IsWhole) (arg19 : Memref sig .tc .vmem S4x2048x64 .f32) (harg19 : arg19.IsWhole) (arg20 : Memref sig .tc .vmem S4x2048x64 .f32) (harg20 : arg20.IsWhole)
  (arg0 : BitVec 32) (k0_t1 : Fin k0_t1_loop.trips) (arg21 : BitVec 32) (v37 : FVec Ideal S256x64 .bf16) (v40 : FVec Ideal S256x64 .bf16) (v43 : FVec Ideal S256x64 .bf16) (v46 : FVec Ideal S256x64 .bf16) (v49 : FVec Ideal S256x64 .bf16) (v52 : FVec Ideal S256x64 .bf16) (v55 : FVec Ideal S256x64 .bf16) (v58 : FVec Ideal S256x64 .bf16) (v61 : FVec Ideal S256x1 .f32) (v64 : FVec Ideal S256x1 .f32) (v67 : FVec Ideal S256x1 .f32) (v70 : FVec Ideal S256x1 .f32) (v79 : BitVec 32) (k0_hw1 : k0_chk1 k0_t1 v79) (v81 : BitVec 32) (X7 : BufTy.Contents (Elt Ideal) arg7.view.ty) (X8 : BufTy.Contents (Elt Ideal) arg8.view.ty) (X11 : BufTy.Contents (Elt Ideal) arg11.view.ty) (X12 : BufTy.Contents (Elt Ideal) arg12.view.ty)
  (k : Fin (k0_t2_loop k0_t1 v79).trips) (acc : FVec Ideal S256x64 .f32 × FVec Ideal S256x1 .f32 × FVec Ideal S256x1 .f32 × FVec Ideal S256x64 .f32 × FVec Ideal S256x1 .f32 × FVec Ideal S256x1 .f32 × FVec Ideal S256x64 .f32 × FVec Ideal S256x1 .f32 × FVec Ideal S256x1 .f32 × FVec Ideal S256x64 .f32 × FVec Ideal S256x1 .f32 × FVec Ideal S256x1 .f32)
  (f19 : BufTy.Contents (Elt Ideal) arg19.view.ty) (f20 : BufTy.Contents (Elt Ideal) arg20.view.ty)

/-- What one trip carries on, head by head. -/
theorem trip_res :
    (trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 k0_t1 arg21 v37 v40 v43 v46 v49 v52 v55 v58 v61 v64 v67 v70 v79 k0_hw1 v81 X7 X8 X11 X12 k).1 acc f19 f20
      = (dq v37 v49 v61 (View.readAt (Elt Ideal) arg11.view (Rect.unit (s := S4x2048x64) (k0_off14 k0_t1 v79 k) S1x256x64.size (k0_off14_inb k0_t1 v79 k0_hw1 k)).toLoadRect X11) (View.readAt (Elt Ideal) arg12.view (Rect.unit (s := S4x2048x64) (k0_off14 k0_t1 v79 k) S1x256x64.size (k0_off14_inb k0_t1 v79 k0_hw1 k)).toLoadRect X12) (View.readAt (Elt Ideal) arg7.view (Rect.unit (s := S256x256) ![0, 0] S256x256.size inb_S256x256_S256x256_0_0).toLoadRect X7) (View.readAt (Elt Ideal) arg8.view (Rect.unit (s := S256x256) ![0, 0] S256x256.size inb_S256x256_S256x256_0_0).toLoadRect X8) acc.2.1 acc.2.2.1 acc.1,
        n1 v37 (View.readAt (Elt Ideal) arg11.view (Rect.unit (s := S4x2048x64) (k0_off14 k0_t1 v79 k) S1x256x64.size (k0_off14_inb k0_t1 v79 k0_hw1 k)).toLoadRect X11) (View.readAt (Elt Ideal) arg7.view (Rect.unit (s := S256x256) ![0, 0] S256x256.size inb_S256x256_S256x256_0_0).toLoadRect X7) acc.2.1,
        n2 v37 v49 v61 (View.readAt (Elt Ideal) arg11.view (Rect.unit (s := S4x2048x64) (k0_off14 k0_t1 v79 k) S1x256x64.size (k0_off14_inb k0_t1 v79 k0_hw1 k)).toLoadRect X11) (View.readAt (Elt Ideal) arg12.view (Rect.unit (s := S4x2048x64) (k0_off14 k0_t1 v79 k) S1x256x64.size (k0_off14_inb k0_t1 v79 k0_hw1 k)).toLoadRect X12) (View.readAt (Elt Ideal) arg7.view (Rect.unit (s := S256x256) ![0, 0] S256x256.size inb_S256x256_S256x256_0_0).toLoadRect X7) (View.readAt (Elt Ideal) arg8.view (Rect.unit (s := S256x256) ![0, 0] S256x256.size inb_S256x256_S256x256_0_0).toLoadRect X8) acc.2.1 acc.2.2.1,
        dq v40 v52 v64 (View.readAt (Elt Ideal) arg11.view (Rect.unit (s := S4x2048x64) (k0_off15 k0_t1 v79 k) S1x256x64.size (k0_off15_inb k0_t1 v79 k0_hw1 k)).toLoadRect X11) (View.readAt (Elt Ideal) arg12.view (Rect.unit (s := S4x2048x64) (k0_off15 k0_t1 v79 k) S1x256x64.size (k0_off15_inb k0_t1 v79 k0_hw1 k)).toLoadRect X12) (View.readAt (Elt Ideal) arg7.view (Rect.unit (s := S256x256) ![0, 0] S256x256.size inb_S256x256_S256x256_0_0).toLoadRect X7) (View.readAt (Elt Ideal) arg8.view (Rect.unit (s := S256x256) ![0, 0] S256x256.size inb_S256x256_S256x256_0_0).toLoadRect X8) acc.2.2.2.2.1 acc.2.2.2.2.2.1 acc.2.2.2.1,
        n1 v40 (View.readAt (Elt Ideal) arg11.view (Rect.unit (s := S4x2048x64) (k0_off15 k0_t1 v79 k) S1x256x64.size (k0_off15_inb k0_t1 v79 k0_hw1 k)).toLoadRect X11) (View.readAt (Elt Ideal) arg7.view (Rect.unit (s := S256x256) ![0, 0] S256x256.size inb_S256x256_S256x256_0_0).toLoadRect X7) acc.2.2.2.2.1,
        n2 v40 v52 v64 (View.readAt (Elt Ideal) arg11.view (Rect.unit (s := S4x2048x64) (k0_off15 k0_t1 v79 k) S1x256x64.size (k0_off15_inb k0_t1 v79 k0_hw1 k)).toLoadRect X11) (View.readAt (Elt Ideal) arg12.view (Rect.unit (s := S4x2048x64) (k0_off15 k0_t1 v79 k) S1x256x64.size (k0_off15_inb k0_t1 v79 k0_hw1 k)).toLoadRect X12) (View.readAt (Elt Ideal) arg7.view (Rect.unit (s := S256x256) ![0, 0] S256x256.size inb_S256x256_S256x256_0_0).toLoadRect X7) (View.readAt (Elt Ideal) arg8.view (Rect.unit (s := S256x256) ![0, 0] S256x256.size inb_S256x256_S256x256_0_0).toLoadRect X8) acc.2.2.2.2.1 acc.2.2.2.2.2.1,
        dq v43 v55 v67 (View.readAt (Elt Ideal) arg11.view (Rect.unit (s := S4x2048x64) (k0_off16 k0_t1 v79 k) S1x256x64.size (k0_off16_inb k0_t1 v79 k0_hw1 k)).toLoadRect X11) (View.readAt (Elt Ideal) arg12.view (Rect.unit (s := S4x2048x64) (k0_off16 k0_t1 v79 k) S1x256x64.size (k0_off16_inb k0_t1 v79 k0_hw1 k)).toLoadRect X12) (View.readAt (Elt Ideal) arg7.view (Rect.unit (s := S256x256) ![0, 0] S256x256.size inb_S256x256_S256x256_0_0).toLoadRect X7) (View.readAt (Elt Ideal) arg8.view (Rect.unit (s := S256x256) ![0, 0] S256x256.size inb_S256x256_S256x256_0_0).toLoadRect X8) acc.2.2.2.2.2.2.2.1 acc.2.2.2.2.2.2.2.2.1 acc.2.2.2.2.2.2.1,
        n1 v43 (View.readAt (Elt Ideal) arg11.view (Rect.unit (s := S4x2048x64) (k0_off16 k0_t1 v79 k) S1x256x64.size (k0_off16_inb k0_t1 v79 k0_hw1 k)).toLoadRect X11) (View.readAt (Elt Ideal) arg7.view (Rect.unit (s := S256x256) ![0, 0] S256x256.size inb_S256x256_S256x256_0_0).toLoadRect X7) acc.2.2.2.2.2.2.2.1,
        n2 v43 v55 v67 (View.readAt (Elt Ideal) arg11.view (Rect.unit (s := S4x2048x64) (k0_off16 k0_t1 v79 k) S1x256x64.size (k0_off16_inb k0_t1 v79 k0_hw1 k)).toLoadRect X11) (View.readAt (Elt Ideal) arg12.view (Rect.unit (s := S4x2048x64) (k0_off16 k0_t1 v79 k) S1x256x64.size (k0_off16_inb k0_t1 v79 k0_hw1 k)).toLoadRect X12) (View.readAt (Elt Ideal) arg7.view (Rect.unit (s := S256x256) ![0, 0] S256x256.size inb_S256x256_S256x256_0_0).toLoadRect X7) (View.readAt (Elt Ideal) arg8.view (Rect.unit (s := S256x256) ![0, 0] S256x256.size inb_S256x256_S256x256_0_0).toLoadRect X8) acc.2.2.2.2.2.2.2.1 acc.2.2.2.2.2.2.2.2.1,
        dq v46 v58 v70 (View.readAt (Elt Ideal) arg11.view (Rect.unit (s := S4x2048x64) (k0_off17 k0_t1 v79 k) S1x256x64.size (k0_off17_inb k0_t1 v79 k0_hw1 k)).toLoadRect X11) (View.readAt (Elt Ideal) arg12.view (Rect.unit (s := S4x2048x64) (k0_off17 k0_t1 v79 k) S1x256x64.size (k0_off17_inb k0_t1 v79 k0_hw1 k)).toLoadRect X12) (View.readAt (Elt Ideal) arg7.view (Rect.unit (s := S256x256) ![0, 0] S256x256.size inb_S256x256_S256x256_0_0).toLoadRect X7) (View.readAt (Elt Ideal) arg8.view (Rect.unit (s := S256x256) ![0, 0] S256x256.size inb_S256x256_S256x256_0_0).toLoadRect X8) acc.2.2.2.2.2.2.2.2.2.2.1 acc.2.2.2.2.2.2.2.2.2.2.2 acc.2.2.2.2.2.2.2.2.2.1,
        n1 v46 (View.readAt (Elt Ideal) arg11.view (Rect.unit (s := S4x2048x64) (k0_off17 k0_t1 v79 k) S1x256x64.size (k0_off17_inb k0_t1 v79 k0_hw1 k)).toLoadRect X11) (View.readAt (Elt Ideal) arg7.view (Rect.unit (s := S256x256) ![0, 0] S256x256.size inb_S256x256_S256x256_0_0).toLoadRect X7) acc.2.2.2.2.2.2.2.2.2.2.1,
        n2 v46 v58 v70 (View.readAt (Elt Ideal) arg11.view (Rect.unit (s := S4x2048x64) (k0_off17 k0_t1 v79 k) S1x256x64.size (k0_off17_inb k0_t1 v79 k0_hw1 k)).toLoadRect X11) (View.readAt (Elt Ideal) arg12.view (Rect.unit (s := S4x2048x64) (k0_off17 k0_t1 v79 k) S1x256x64.size (k0_off17_inb k0_t1 v79 k0_hw1 k)).toLoadRect X12) (View.readAt (Elt Ideal) arg7.view (Rect.unit (s := S256x256) ![0, 0] S256x256.size inb_S256x256_S256x256_0_0).toLoadRect X7) (View.readAt (Elt Ideal) arg8.view (Rect.unit (s := S256x256) ![0, 0] S256x256.size inb_S256x256_S256x256_0_0).toLoadRect X8) acc.2.2.2.2.2.2.2.2.2.2.1 acc.2.2.2.2.2.2.2.2.2.2.2) := by
  unfold trip_k0_t2; rfl

/-- The pieces one trip writes into the key rows' gradients. -/
theorem trip_dk :
    (trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 k0_t1 arg21 v37 v40 v43 v46 v49 v52 v55 v58 v61 v64 v67 v70 v79 k0_hw1 v81 X7 X8 X11 X12 k).2.1 acc f19 f20
      = (add1 arg19.view f19 (add1 arg19.view f19 (add1 arg19.view f19 (add1 arg19.view f19 [] (k0_off14 k0_t1 v79 k) (k0_off14_inb k0_t1 v79 k0_hw1 k) (dk v37 v49 v61 (View.readAt (Elt Ideal) arg11.view (Rect.unit (s := S4x2048x64) (k0_off14 k0_t1 v79 k) S1x256x64.size (k0_off14_inb k0_t1 v79 k0_hw1 k)).toLoadRect X11) (View.readAt (Elt Ideal) arg12.view (Rect.unit (s := S4x2048x64) (k0_off14 k0_t1 v79 k) S1x256x64.size (k0_off14_inb k0_t1 v79 k0_hw1 k)).toLoadRect X12) (View.readAt (Elt Ideal) arg7.view (Rect.unit (s := S256x256) ![0, 0] S256x256.size inb_S256x256_S256x256_0_0).toLoadRect X7) (View.readAt (Elt Ideal) arg8.view (Rect.unit (s := S256x256) ![0, 0] S256x256.size inb_S256x256_S256x256_0_0).toLoadRect X8) acc.2.1 acc.2.2.1)) (k0_off15 k0_t1 v79 k) (k0_off15_inb k0_t1 v79 k0_hw1 k) (dk v40 v52 v64 (View.readAt (Elt Ideal) arg11.view (Rect.unit (s := S4x2048x64) (k0_off15 k0_t1 v79 k) S1x256x64.size (k0_off15_inb k0_t1 v79 k0_hw1 k)).toLoadRect X11) (View.readAt (Elt Ideal) arg12.view (Rect.unit (s := S4x2048x64) (k0_off15 k0_t1 v79 k) S1x256x64.size (k0_off15_inb k0_t1 v79 k0_hw1 k)).toLoadRect X12) (View.readAt (Elt Ideal) arg7.view (Rect.unit (s := S256x256) ![0, 0] S256x256.size inb_S256x256_S256x256_0_0).toLoadRect X7) (View.readAt (Elt Ideal) arg8.view (Rect.unit (s := S256x256) ![0, 0] S256x256.size inb_S256x256_S256x256_0_0).toLoadRect X8) acc.2.2.2.2.1 acc.2.2.2.2.2.1)) (k0_off16 k0_t1 v79 k) (k0_off16_inb k0_t1 v79 k0_hw1 k) (dk v43 v55 v67 (View.readAt (Elt Ideal) arg11.view (Rect.unit (s := S4x2048x64) (k0_off16 k0_t1 v79 k) S1x256x64.size (k0_off16_inb k0_t1 v79 k0_hw1 k)).toLoadRect X11) (View.readAt (Elt Ideal) arg12.view (Rect.unit (s := S4x2048x64) (k0_off16 k0_t1 v79 k) S1x256x64.size (k0_off16_inb k0_t1 v79 k0_hw1 k)).toLoadRect X12) (View.readAt (Elt Ideal) arg7.view (Rect.unit (s := S256x256) ![0, 0] S256x256.size inb_S256x256_S256x256_0_0).toLoadRect X7) (View.readAt (Elt Ideal) arg8.view (Rect.unit (s := S256x256) ![0, 0] S256x256.size inb_S256x256_S256x256_0_0).toLoadRect X8) acc.2.2.2.2.2.2.2.1 acc.2.2.2.2.2.2.2.2.1)) (k0_off17 k0_t1 v79 k) (k0_off17_inb k0_t1 v79 k0_hw1 k) (dk v46 v58 v70 (View.readAt (Elt Ideal) arg11.view (Rect.unit (s := S4x2048x64) (k0_off17 k0_t1 v79 k) S1x256x64.size (k0_off17_inb k0_t1 v79 k0_hw1 k)).toLoadRect X11) (View.readAt (Elt Ideal) arg12.view (Rect.unit (s := S4x2048x64) (k0_off17 k0_t1 v79 k) S1x256x64.size (k0_off17_inb k0_t1 v79 k0_hw1 k)).toLoadRect X12) (View.readAt (Elt Ideal) arg7.view (Rect.unit (s := S256x256) ![0, 0] S256x256.size inb_S256x256_S256x256_0_0).toLoadRect X7) (View.readAt (Elt Ideal) arg8.view (Rect.unit (s := S256x256) ![0, 0] S256x256.size inb_S256x256_S256x256_0_0).toLoadRect X8) acc.2.2.2.2.2.2.2.2.2.2.1 acc.2.2.2.2.2.2.2.2.2.2.2)) := by
  unfold trip_k0_t2; rfl

/-- The pieces one trip writes into the value rows' gradients. -/
theorem trip_dv :
    (trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 k0_t1 arg21 v37 v40 v43 v46 v49 v52 v55 v58 v61 v64 v67 v70 v79 k0_hw1 v81 X7 X8 X11 X12 k).2.2.1 acc f19 f20
      = (add1 arg20.view f20 (add1 arg20.view f20 (add1 arg20.view f20 (add1 arg20.view f20 [] (k0_off14 k0_t1 v79 k) (k0_off14_inb k0_t1 v79 k0_hw1 k) (dv v37 v49 v61 (View.readAt (Elt Ideal) arg11.view (Rect.unit (s := S4x2048x64) (k0_off14 k0_t1 v79 k) S1x256x64.size (k0_off14_inb k0_t1 v79 k0_hw1 k)).toLoadRect X11) (View.readAt (Elt Ideal) arg7.view (Rect.unit (s := S256x256) ![0, 0] S256x256.size inb_S256x256_S256x256_0_0).toLoadRect X7) acc.2.1)) (k0_off15 k0_t1 v79 k) (k0_off15_inb k0_t1 v79 k0_hw1 k) (dv v40 v52 v64 (View.readAt (Elt Ideal) arg11.view (Rect.unit (s := S4x2048x64) (k0_off15 k0_t1 v79 k) S1x256x64.size (k0_off15_inb k0_t1 v79 k0_hw1 k)).toLoadRect X11) (View.readAt (Elt Ideal) arg7.view (Rect.unit (s := S256x256) ![0, 0] S256x256.size inb_S256x256_S256x256_0_0).toLoadRect X7) acc.2.2.2.2.1)) (k0_off16 k0_t1 v79 k) (k0_off16_inb k0_t1 v79 k0_hw1 k) (dv v43 v55 v67 (View.readAt (Elt Ideal) arg11.view (Rect.unit (s := S4x2048x64) (k0_off16 k0_t1 v79 k) S1x256x64.size (k0_off16_inb k0_t1 v79 k0_hw1 k)).toLoadRect X11) (View.readAt (Elt Ideal) arg7.view (Rect.unit (s := S256x256) ![0, 0] S256x256.size inb_S256x256_S256x256_0_0).toLoadRect X7) acc.2.2.2.2.2.2.2.1)) (k0_off17 k0_t1 v79 k) (k0_off17_inb k0_t1 v79 k0_hw1 k) (dv v46 v58 v70 (View.readAt (Elt Ideal) arg11.view (Rect.unit (s := S4x2048x64) (k0_off17 k0_t1 v79 k) S1x256x64.size (k0_off17_inb k0_t1 v79 k0_hw1 k)).toLoadRect X11) (View.readAt (Elt Ideal) arg7.view (Rect.unit (s := S256x256) ![0, 0] S256x256.size inb_S256x256_S256x256_0_0).toLoadRect X7) acc.2.2.2.2.2.2.2.2.2.2.1)) := by
  unfold trip_k0_t2; rfl

end Cert.AttnT2

end
-- ==== Proof.AttnT1.lean ====
/- One trip of the sweep over query tiles: the earlier key tiles by their own sweep, then the tile on the
   diagonal, the same functions for each of the four heads. -/
module

public import proofs.«01_k».proof.Proof.AttnT2
public import proofs.«01_k».proof.Proof.AttnLoop

@[expose] public section

set_option maxRecDepth 16384

noncomputable section

namespace Cert.AttnT1

open Idealize.ShloMosaic Idealize.ShloMosaic.TcCoe
open Cert.AttnBwdIdeal Cert.AttnBwdIdeal.Gen Cert.AttnT2

section tile
variable (q g : FVec Ideal S256x64 .bf16) (l : FVec Ideal S256x1 .f32) (K V : FVec Ideal S1x256x64 .bf16)
  (ti te : FVec Ideal S256x256 .bf16) (c1 c2 : FVec Ideal S256x1 .f32)

/-- The prefix sums of the masked logarithms. -/
def pm : FVec Ideal S256x256 .f32 := k0_pay175 (k0_pay165 (k0_pay157 q K)) ti

/-- The masked weights. -/
def w : FVec Ideal S256x256 .f32 := k0_pay179 l c1 (k0_pay166 (k0_pay157 q K)) k0_pay174 (pm q K ti)

/-- The weights times their gradients. -/
def e : FVec Ideal S256x256 .f32 := k0_pay183 l c1 (k0_pay161 g V) (k0_pay166 (k0_pay157 q K)) k0_pay174 (pm q K ti)

/-- Their prefix sums. -/
def p : FVec Ideal S256x256 .f32 := k0_pay187 l c1 (k0_pay161 g V) (k0_pay166 (k0_pay157 q K)) k0_pay174 (pm q K ti) te

/-- The query rows' gradients with the diagonal tile added, as stored. -/
def dq (o : FVec Ideal S256x64 .f32) : FVec Ideal S1x256x64 .f32 :=
  k0_pay265 (k0_pay197 o (k0_pay153 K)
    (k0_pay193 c2 (k0_pay166 (k0_pay157 q K)) k0_pay174 (e q g l K V ti c1) (p q g l K V ti te c1)))

/-- The key rows' gradients with the diagonal tile added. -/
def dk (o : FVec Ideal S1x256x64 .f32) : FVec Ideal S1x256x64 .f32 :=
  k0_pay195 (k0_pay194 q c2 (k0_pay166 (k0_pay157 q K)) k0_pay174 (e q g l K V ti c1) (p q g l K V ti te c1) o)

/-- The value rows' gradients with the diagonal tile added. -/
def dv (o : FVec Ideal S1x256x64 .f32) : FVec Ideal S1x256x64 .f32 := k0_pay196 g (w q l K ti c1) o
end tile

variable (𝒱 : Variants) (c : Dev nD) (bd : Option 𝒱.V) (i : grid0.Coords) (arg1 : Memref sig .tc .vmem S2048x256 .f32) (harg1 : arg1.IsWhole) (arg2 : Memref sig .tc .vmem S2048x256 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x2048x256 .f32) (harg5 : arg5.IsWhole) (arg6 : Memref sig .tc .vmem S2048x256 .f32) (harg6 : arg6.IsWhole) (arg7 : Memref sig .tc .vmem S256x256 .bf16) (harg7 : arg7.IsWhole) (arg8 : Memref sig .tc .vmem S256x256 .bf16) (harg8 : arg8.IsWhole) (arg9 : Memref sig .tc .smem S2x8 .f32) (harg9 : arg9.IsWhole) (arg10 : Memref sig .tc .vmem S4x2048x64 .bf16) (harg10 : arg10.IsWhole) (arg11 : Memref sig .tc .vmem S4x2048x64 .bf16) (harg11 : arg11.IsWhole) (arg12 : Memref sig .tc .vmem S4x2048x64 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S1x64 .f32) (harg16 : arg16.IsWhole) (arg17 : Memref sig .tc .vmem S1x64 .f32) (harg17 : arg17.IsWhole) (arg18 : Memref sig .tc .vmem S4x2048x64 .f32) (harg18 : arg18.IsWhole) (arg19 : Memref sig .tc .vmem S4x2048x64 .f32) (harg19 : arg19.IsWhole) (arg20 : Memref sig .tc .vmem S4x2048x64 .f32) (harg20 : arg20.IsWhole) (arg0 : BitVec 32) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (X12 : BufTy.Contents (Elt Ideal) arg12.view.ty) (k : Fin k0_t1_loop.trips)
  (f19 : BufTy.Contents (Elt Ideal) arg19.view.ty) (f20 : BufTy.Contents (Elt Ideal) arg20.view.ty)
  (q0 q1 q2 q3 g0 g1 g2 g3 : FVec Ideal S256x64 .bf16) (l0 l1 l2 l3 : FVec Ideal S256x1 .f32)
  (hq0 : q0 = (k0_pay128 (View.readAt (Elt Ideal) arg10.view (Rect.unit (s := S4x2048x64) (k0_off1 k) S1x256x64.size (k0_off1_inb k)).toLoadRect X10))) (hg0 : g0 = (k0_pay132 (View.readAt (Elt Ideal) arg6.view (Rect.unit (s := S2048x256) (k0_off5 k) S256x64.size (k0_off5_inb k)).toLoadRect X6))) (hl0 : l0 = (k0_pay136 (View.readAt (Elt Ideal) arg5.view (Rect.unit (s := S1x2048x256) (k0_off9 k) S1x256x1.size (k0_off9_inb k)).toLoadRect X5)))
  (hq1 : q1 = (k0_pay128 (View.readAt (Elt Ideal) arg10.view (Rect.unit (s := S4x2048x64) (k0_off2 k) S1x256x64.size (k0_off2_inb k)).toLoadRect X10))) (hg1 : g1 = (k0_pay132 (View.readAt (Elt Ideal) arg6.view (Rect.unit (s := S2048x256) (k0_off6 k) S256x64.size (k0_off6_inb k)).toLoadRect X6))) (hl1 : l1 = (k0_pay136 (View.readAt (Elt Ideal) arg5.view (Rect.unit (s := S1x2048x256) (k0_off10 k) S1x256x1.size (k0_off10_inb k)).toLoadRect X5)))
  (hq2 : q2 = (k0_pay128 (View.readAt (Elt Ideal) arg10.view (Rect.unit (s := S4x2048x64) (k0_off3 k) S1x256x64.size (k0_off3_inb k)).toLoadRect X10))) (hg2 : g2 = (k0_pay132 (View.readAt (Elt Ideal) arg6.view (Rect.unit (s := S2048x256) (k0_off7 k) S256x64.size (k0_off7_inb k)).toLoadRect X6))) (hl2 : l2 = (k0_pay136 (View.readAt (Elt Ideal) arg5.view (Rect.unit (s := S1x2048x256) (k0_off11 k) S1x256x1.size (k0_off11_inb k)).toLoadRect X5)))
  (hq3 : q3 = (k0_pay128 (View.readAt (Elt Ideal) arg10.view (Rect.unit (s := S4x2048x64) (k0_off4 k) S1x256x64.size (k0_off4_inb k)).toLoadRect X10))) (hg3 : g3 = (k0_pay132 (View.readAt (Elt Ideal) arg6.view (Rect.unit (s := S2048x256) (k0_off8 k) S256x64.size (k0_off8_inb k)).toLoadRect X6))) (hl3 : l3 = (k0_pay136 (View.readAt (Elt Ideal) arg5.view (Rect.unit (s := S1x2048x256) (k0_off12 k) S1x256x1.size (k0_off12_inb k)).toLoadRect X5)))
  (hw : k0_chk1 k (Cert.AttnBwdIdeal.Loop.trip.sl.v79 i arg9 X9 k))
  (T2 T3 : (FVec Ideal S256x64 .f32 × FVec Ideal S256x1 .f32 × FVec Ideal S256x1 .f32 × FVec Ideal S256x64 .f32 × FVec Ideal S256x1 .f32 × FVec Ideal S256x1 .f32 × FVec Ideal S256x64 .f32 × FVec Ideal S256x1 .f32 × FVec Ideal S256x1 .f32 × FVec Ideal S256x64 .f32 × FVec Ideal S256x1 .f32 × FVec Ideal S256x1 .f32) × List (View.Piece (Elt Ideal) S4x2048x64 .f32) × List (View.Piece (Elt Ideal) S4x2048x64 .f32))
  (h2 : T2 = st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 k (Cert.AttnBwdIdeal.Loop.trip.sl.arg21 k) q0 q1 q2 q3 g0 g1 g2 g3 l0 l1 l2 l3 (Cert.AttnBwdIdeal.Loop.trip.sl.v79 i arg9 X9 k) hw (Cert.AttnBwdIdeal.Loop.trip.sl.v81 i arg9 X9 k) X7 X8 X11 X12 f19 f20 (k0_pay141, k0_pay140, k0_pay140, k0_pay142, k0_pay140, k0_pay140, k0_pay143, k0_pay140, k0_pay140, k0_pay144, k0_pay140, k0_pay140) (k0_t2_loop k (Cert.AttnBwdIdeal.Loop.trip.sl.v79 i arg9 X9 k)).trips)
  (h3 : T3 = st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 k (Cert.AttnBwdIdeal.Loop.trip.sl.arg21 k) q0 q1 q2 q3 g0 g1 g2 g3 l0 l1 l2 l3 (Cert.AttnBwdIdeal.Loop.trip.sl.v79 i arg9 X9 k) hw (Cert.AttnBwdIdeal.Loop.trip.sl.v86 i arg9 X9 k) X7 X8 X11 X12 (arg19.view.writes (Elt Ideal) f19 T2.2.1) (arg20.view.writes (Elt Ideal) f20 T2.2.2) T2.1 (k0_t3_loop k (Cert.AttnBwdIdeal.Loop.trip.sl.v79 i arg9 X9 k)).trips)

include hq0 hq1 hq2 hq3 hg0 hg1 hg2 hg3 hl0 hl1 hl2 hl3 h2 h3

set_option maxHeartbeats 4000000 in
/-- The pieces one trip writes into the query rows' gradients. -/
theorem trip_dq :
    (Cert.AttnBwdIdeal.Loop.trip (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 X5 X6 X7 X8 X9 X10 X11 X12 k).1 f19 f20
      = [⟨Rect.unit (s := S4x2048x64) (k0_off25 k) S1x256x64.size (k0_off25_inb k), dq q3 g3 l3 (View.readAt (Elt Ideal) arg11.view (Rect.unit (s := S4x2048x64) (k0_off25 k) S1x256x64.size (k0_off25_inb k)).toLoadRect X11) (View.readAt (Elt Ideal) arg12.view (Rect.unit (s := S4x2048x64) (k0_off25 k) S1x256x64.size (k0_off25_inb k)).toLoadRect X12) (View.readAt (Elt Ideal) arg7.view (Rect.unit (s := S256x256) ![0, 0] S256x256.size inb_S256x256_S256x256_0_0).toLoadRect X7) (View.readAt (Elt Ideal) arg8.view (Rect.unit (s := S256x256) ![0, 0] S256x256.size inb_S256x256_S256x256_0_0).toLoadRect X8) T3.1.2.2.2.2.2.2.2.2.2.2.1 T3.1.2.2.2.2.2.2.2.2.2.2.2 T3.1.2.2.2.2.2.2.2.2.2.1⟩, ⟨Rect.unit (s := S4x2048x64) (k0_off24 k) S1x256x64.size (k0_off24_inb k), dq q2 g2 l2 (View.readAt (Elt Ideal) arg11.view (Rect.unit (s := S4x2048x64) (k0_off24 k) S1x256x64.size (k0_off24_inb k)).toLoadRect X11) (View.readAt (Elt Ideal) arg12.view (Rect.unit (s := S4x2048x64) (k0_off24 k) S1x256x64.size (k0_off24_inb k)).toLoadRect X12) (View.readAt (Elt Ideal) arg7.view (Rect.unit (s := S256x256) ![0, 0] S256x256.size inb_S256x256_S256x256_0_0).toLoadRect X7) (View.readAt (Elt Ideal) arg8.view (Rect.unit (s := S256x256) ![0, 0] S256x256.size inb_S256x256_S256x256_0_0).toLoadRect X8) T3.1.2.2.2.2.2.2.2.1 T3.1.2.2.2.2.2.2.2.2.1 T3.1.2.2.2.2.2.2.1⟩, ⟨Rect.unit (s := S4x2048x64) (k0_off23 k) S1x256x64.size (k0_off23_inb k), dq q1 g1 l1 (View.readAt (Elt Ideal) arg11.view (Rect.unit (s := S4x2048x64) (k0_off23 k) S1x256x64.size (k0_off23_inb k)).toLoadRect X11) (View.readAt (Elt Ideal) arg12.view (Rect.unit (s := S4x2048x64) (k0_off23 k) S1x256x64.size (k0_off23_inb k)).toLoadRect X12) (View.readAt (Elt Ideal) arg7.view (Rect.unit (s := S256x256) ![0, 0] S256x256.size inb_S256x256_S256x256_0_0).toLoadRect X7) (View.readAt (Elt Ideal) arg8.view (Rect.unit (s := S256x256) ![0, 0] S256x256.size inb_S256x256_S256x256_0_0).toLoadRect X8) T3.1.2.2.2.2.1 T3.1.2.2.2.2.2.1 T3.1.2.2.2.1⟩, ⟨Rect.unit (s := S4x2048x64) (k0_off22 k) S1x256x64.size (k0_off22_inb k), dq q0 g0 l0 (View.readAt (Elt Ideal) arg11.view (Rect.unit (s := S4x2048x64) (k0_off22 k) S1x256x64.size (k0_off22_inb k)).toLoadRect X11) (View.readAt (Elt Ideal) arg12.view (Rect.unit (s := S4x2048x64) (k0_off22 k) S1x256x64.size (k0_off22_inb k)).toLoadRect X12) (View.readAt (Elt Ideal) arg7.view (Rect.unit (s := S256x256) ![0, 0] S256x256.size inb_S256x256_S256x256_0_0).toLoadRect X7) (View.readAt (Elt Ideal) arg8.view (Rect.unit (s := S256x256) ![0, 0] S256x256.size inb_S256x256_S256x256_0_0).toLoadRect X8) T3.1.2.1 T3.1.2.2.1 T3.1.1⟩] := by
  subst hq0 hq1 hq2 hq3 hg0 hg1 hg2 hg3 hl0 hl1 hl2 hl3 h3 h2
  unfold Cert.AttnBwdIdeal.Loop.trip; rfl

set_option maxHeartbeats 4000000 in
/-- The pieces one trip writes into the key rows' gradients. -/
theorem trip_dk :
    (Cert.AttnBwdIdeal.Loop.trip (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 X5 X6 X7 X8 X9 X10 X11 X12 k).2.1 f19 f20
      = (add1 arg19.view f19 (add1 arg19.view f19 (add1 arg19.view f19 (add1 arg19.view f19 (T3.2.1 ++ T2.2.1) (k0_off22 k) (k0_off22_inb k) (dk q0 g0 l0 (View.readAt (Elt Ideal) arg11.view (Rect.unit (s := S4x2048x64) (k0_off22 k) S1x256x64.size (k0_off22_inb k)).toLoadRect X11) (View.readAt (Elt Ideal) arg12.view (Rect.unit (s := S4x2048x64) (k0_off22 k) S1x256x64.size (k0_off22_inb k)).toLoadRect X12) (View.readAt (Elt Ideal) arg7.view (Rect.unit (s := S256x256) ![0, 0] S256x256.size inb_S256x256_S256x256_0_0).toLoadRect X7) (View.readAt (Elt Ideal) arg8.view (Rect.unit (s := S256x256) ![0, 0] S256x256.size inb_S256x256_S256x256_0_0).toLoadRect X8) T3.1.2.1 T3.1.2.2.1)) (k0_off23 k) (k0_off23_inb k) (dk q1 g1 l1 (View.readAt (Elt Ideal) arg11.view (Rect.unit (s := S4x2048x64) (k0_off23 k) S1x256x64.size (k0_off23_inb k)).toLoadRect X11) (View.readAt (Elt Ideal) arg12.view (Rect.unit (s := S4x2048x64) (k0_off23 k) S1x256x64.size (k0_off23_inb k)).toLoadRect X12) (View.readAt (Elt Ideal) arg7.view (Rect.unit (s := S256x256) ![0, 0] S256x256.size inb_S256x256_S256x256_0_0).toLoadRect X7) (View.readAt (Elt Ideal) arg8.view (Rect.unit (s := S256x256) ![0, 0] S256x256.size inb_S256x256_S256x256_0_0).toLoadRect X8) T3.1.2.2.2.2.1 T3.1.2.2.2.2.2.1)) (k0_off24 k) (k0_off24_inb k) (dk q2 g2 l2 (View.readAt (Elt Ideal) arg11.view (Rect.unit (s := S4x2048x64) (k0_off24 k) S1x256x64.size (k0_off24_inb k)).toLoadRect X11) (View.readAt (Elt Ideal) arg12.view (Rect.unit (s := S4x2048x64) (k0_off24 k) S1x256x64.size (k0_off24_inb k)).toLoadRect X12) (View.readAt (Elt Ideal) arg7.view (Rect.unit (s := S256x256) ![0, 0] S256x256.size inb_S256x256_S256x256_0_0).toLoadRect X7) (View.readAt (Elt Ideal) arg8.view (Rect.unit (s := S256x256) ![0, 0] S256x256.size inb_S256x256_S256x256_0_0).toLoadRect X8) T3.1.2.2.2.2.2.2.2.1 T3.1.2.2.2.2.2.2.2.2.1)) (k0_off25 k) (k0_off25_inb k) (dk q3 g3 l3 (View.readAt (Elt Ideal) arg11.view (Rect.unit (s := S4x2048x64) (k0_off25 k) S1x256x64.size (k0_off25_inb k)).toLoadRect X11) (View.readAt (Elt Ideal) arg12.view (Rect.unit (s := S4x2048x64) (k0_off25 k) S1x256x64.size (k0_off25_inb k)).toLoadRect X12) (View.readAt (Elt Ideal) arg7.view (Rect.unit (s := S256x256) ![0, 0] S256x256.size inb_S256x256_S256x256_0_0).toLoadRect X7) (View.readAt (Elt Ideal) arg8.view (Rect.unit (s := S256x256) ![0, 0] S256x256.size inb_S256x256_S256x256_0_0).toLoadRect X8) T3.1.2.2.2.2.2.2.2.2.2.2.1 T3.1.2.2.2.2.2.2.2.2.2.2.2)) := by
  subst hq0 hq1 hq2 hq3 hg0 hg1 hg2 hg3 hl0 hl1 hl2 hl3 h3 h2
  unfold Cert.AttnBwdIdeal.Loop.trip; rfl

set_option maxHeartbeats 4000000 in
/-- The pieces one trip writes into the value rows' gradients. -/
theorem trip_dv :
    (Cert.AttnBwdIdeal.Loop.trip (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 X5 X6 X7 X8 X9 X10 X11 X12 k).2.2.1 f19 f20
      = (add1 arg20.view f20 (add1 arg20.view f20 (add1 arg20.view f20 (add1 arg20.view f20 (T3.2.2 ++ T2.2.2) (k0_off22 k) (k0_off22_inb k) (dv q0 g0 l0 (View.readAt (Elt Ideal) arg11.view (Rect.unit (s := S4x2048x64) (k0_off22 k) S1x256x64.size (k0_off22_inb k)).toLoadRect X11) (View.readAt (Elt Ideal) arg7.view (Rect.unit (s := S256x256) ![0, 0] S256x256.size inb_S256x256_S256x256_0_0).toLoadRect X7) T3.1.2.1)) (k0_off23 k) (k0_off23_inb k) (dv q1 g1 l1 (View.readAt (Elt Ideal) arg11.view (Rect.unit (s := S4x2048x64) (k0_off23 k) S1x256x64.size (k0_off23_inb k)).toLoadRect X11) (View.readAt (Elt Ideal) arg7.view (Rect.unit (s := S256x256) ![0, 0] S256x256.size inb_S256x256_S256x256_0_0).toLoadRect X7) T3.1.2.2.2.2.1)) (k0_off24 k) (k0_off24_inb k) (dv q2 g2 l2 (View.readAt (Elt Ideal) arg11.view (Rect.unit (s := S4x2048x64) (k0_off24 k) S1x256x64.size (k0_off24_inb k)).toLoadRect X11) (View.readAt (Elt Ideal) arg7.view (Rect.unit (s := S256x256) ![0, 0] S256x256.size inb_S256x256_S256x256_0_0).toLoadRect X7) T3.1.2.2.2.2.2.2.2.1)) (k0_off25 k) (k0_off25_inb k) (dv q3 g3 l3 (View.readAt (Elt Ideal) arg11.view (Rect.unit (s := S4x2048x64) (k0_off25 k) S1x256x64.size (k0_off25_inb k)).toLoadRect X11) (View.readAt (Elt Ideal) arg7.view (Rect.unit (s := S256x256) ![0, 0] S256x256.size inb_S256x256_S256x256_0_0).toLoadRect X7) T3.1.2.2.2.2.2.2.2.2.2.2.1)) := by
  subst hq0 hq1 hq2 hq3 hg0 hg1 hg2 hg3 hl0 hl1 hl2 hl3 h3 h2
  unfold Cert.AttnBwdIdeal.Loop.trip; rfl

end Cert.AttnT1

end
-- ==== Proof.AttnBuf.lean ====
/- The accumulators of the stick-breaking attention's backward pass as real functions, and what one tile does to
   them for one head. -/
module

public import proofs.«01_k».proof.Proof.AttnT1
public import Idealize.ShloMosaic.Lib.WritesUnit
public import Idealize.ShloMosaic.Lib.VecWindow

@[expose] public section

set_option maxRecDepth 16384

noncomputable section

namespace Cert.AttnBuf

open Idealize.ShloMosaic Idealize.ShloMosaic.TcCoe
open Cert.Reals Cert.AttnMath Cert.AttnTile Cert.AttnBwdIdeal Cert.AttnBwdIdeal.Gen

/-- Four heads' rows hold `G`. -/
def IsA (x : FVec Ideal S4x2048x64 .f32) (G : Fin 4 → ℕ → Fin 64 → ℝ) : Prop :=
  ∀ (h : Fin 4) (s : Fin 2048) (d : Fin 64), x (ix3 h s d) = ((G h s.val d : ℝ) : EReal)

theorem isA_congr {x : FVec Ideal S4x2048x64 .f32} {G G' : Fin 4 → ℕ → Fin 64 → ℝ} (hx : IsA x G)
    (h : ∀ h s d, s < 2048 → G h s d = G' h s d) : IsA x G' := fun i s d => by rw [hx i s d, h i s.val d s.isLt]

theorem isB_congr {x : FVec Ideal S1x256x64 .f32} {g g' : ℕ → Fin 64 → ℝ} {n : ℕ} (hx : IsB x g n)
    (h : ∀ s d, 256 * n ≤ s → s < 256 * n + 256 → g s d = g' s d) : IsB x g' n := fun i d => by
  have := i.isLt
  rw [hx i d, h _ d (by omega) (by omega)]

/-- A block of one head's rows, read at an entry. -/
theorem read_at {e : EltTy} (v : View sig .tc .vmem S4x2048x64 e) (f : BufTy.Contents (Elt Ideal) v.ty) {o : Fin 3 → ℕ} {h0 : Fin 4} {n : ℕ}
    (ho : o = ![h0.val, 256 * n, 0]) (hn : n < 8) (hb : ∀ a, o a + S1x256x64.size a ≤ S4x2048x64.size a) (i : Fin 256) (d : Fin 64) :
    v.readAt (Elt Ideal) (Rect.unit (s := S4x2048x64) o S1x256x64.size hb).toLoadRect f (ix3 (0 : Fin 1) i d)
      = v.read (Elt Ideal) f (ix3 h0 (⟨256 * n + i.val, by have := i.isLt; omega⟩ : Fin 2048) d) := by
  subst ho
  refine congrArg (v.read (Elt Ideal) f) ?_
  funext a
  apply Fin.ext
  match a with
  | 0 => exact (Nat.add_zero _)
  | 1 => exact (congrArg (256 * n + ·) (Nat.one_mul _))
  | 2 => exact (Nat.zero_add _).trans (Nat.one_mul _)

/-- A block of one head's rows, read. -/
theorem read_block (v : View sig .tc .vmem S4x2048x64 .f32) (f : BufTy.Contents (Elt Ideal) v.ty) {o : Fin 3 → ℕ} {h0 : Fin 4} {n : ℕ}
    (ho : o = ![h0.val, 256 * n, 0]) (hn : n < 8) (hb : ∀ a, o a + S1x256x64.size a ≤ S4x2048x64.size a)
    {G : Fin 4 → ℕ → Fin 64 → ℝ} (hx : IsA (v.read (Elt Ideal) f) G) :
    IsB (v.readAt (Elt Ideal) (Rect.unit (s := S4x2048x64) o S1x256x64.size hb).toLoadRect f) (G h0) n :=
  fun i d => (read_at v f ho hn hb i d).trans (hx h0 _ d)

/-- The same of a buffer of rounded rows. -/
theorem read_blockH (v : View sig .tc .vmem S4x2048x64 .bf16) (f : BufTy.Contents (Elt Ideal) v.ty) {o : Fin 3 → ℕ} {h0 : Fin 4} {n : ℕ}
    (ho : o = ![h0.val, 256 * n, 0]) (hn : n < 8) (hb : ∀ a, o a + S1x256x64.size a ≤ S4x2048x64.size a)
    {G : Fin 4 → ℕ → Fin 64 → ℝ} (hx : IsA (v.read (Elt Ideal) f) G) :
    IsB (v.readAt (Elt Ideal) (Rect.unit (s := S4x2048x64) o S1x256x64.size hb).toLoadRect f) (G h0) n :=
  fun i d => (read_at v f ho hn hb i d).trans (hx h0 _ d)

section buf
variable (v : View sig .tc .vmem S4x2048x64 .f32) (f : BufTy.Contents (Elt Ideal) v.ty) (P : List (View.Piece (Elt Ideal) S4x2048x64 .f32))

/-- One piece: a block of one head's rows, stored. -/
theorem read_piece {o : Fin 3 → ℕ} {h0 : Fin 4} {n : ℕ} (ho : o = ![h0.val, 256 * n, 0]) (hn : n < 8)
    (hb : ∀ a, o a + S1x256x64.size a ≤ S4x2048x64.size a) {W : ℕ → Fin 64 → ℝ}
    {y : FVec Ideal S1x256x64 .f32} (hy : IsB y W n) (h : Fin 4) (s : Fin 2048) (d : Fin 64) :
    v.read (Elt Ideal) (v.writes (Elt Ideal) f (⟨Rect.unit (s := S4x2048x64) o S1x256x64.size hb, y⟩ :: P)) (ix3 h s d)
      = if h = h0 ∧ 256 * n ≤ s.val ∧ s.val < 256 * n + 256 then ((W s.val d : ℝ) : EReal)
        else v.read (Elt Ideal) (v.writes (Elt Ideal) f P) (ix3 h s d) := by
  by_cases hc : h = h0 ∧ 256 * n ≤ s.val ∧ s.val < 256 * n + 256
  · rw [if_pos hc]
    obtain ⟨h1, h2, h3⟩ := hc
    have e := hy ⟨s.val - 256 * n, by omega⟩ d
    rw [show 256 * n + (⟨s.val - 256 * n, by omega⟩ : Fin 256).val = s.val from by show 256 * n + (s.val - 256 * n) = s.val; omega] at e
    rw [← e]
    refine View.read_writes_cons_unit_of_mem v f hb y P (ix3 h s d) _ ho fun a => ?_
    subst h1
    match a with
    | 0 => rfl
    | 1 => show s.val = 256 * n + (s.val - 256 * n); omega
    | 2 => exact (Nat.zero_add _).symm
  · rw [if_neg hc]
    by_cases h1 : h = h0
    · refine View.read_writes_cons_unit_of_not_mem v f hb y P (ix3 h s d) ho 1 ?_
      show s.val < 256 * n ∨ 256 * n + 256 ≤ s.val
      omega
    · refine View.read_writes_cons_unit_of_not_mem v f hb y P (ix3 h s d) ho 0 ?_
      show h.val < h0.val ∨ h0.val + 1 ≤ h.val
      have : h.val ≠ h0.val := fun e => h1 (Fin.ext e)
      omega

/-- One head's rows, added to. -/
theorem read_add1 {o : Fin 3 → ℕ} {h0 : Fin 4} {n : ℕ} (ho : o = ![h0.val, 256 * n, 0]) (hn : n < 8)
    (hb : ∀ a, o a + S1x256x64.size a ≤ S4x2048x64.size a) {u : FVec Ideal S1x256x64 .f32 → FVec Ideal S1x256x64 .f32}
    {G : Fin 4 → ℕ → Fin 64 → ℝ} {W : ℕ → Fin 64 → ℝ} (hx : IsA (v.read (Elt Ideal) (v.writes (Elt Ideal) f P)) G)
    (hu : ∀ x, IsB x (G h0) n → IsB (u x) W n) :
    IsA (v.read (Elt Ideal) (v.writes (Elt Ideal) f (AttnT2.add1 v f P o hb u)))
      (fun h s d => if h = h0 ∧ 256 * n ≤ s ∧ s < 256 * n + 256 then W s d else G h s d) := by
  intro h s d
  refine (read_piece v f P ho hn hb (hu _ (read_block v (v.writes (Elt Ideal) f P) ho hn hb hx)) h s d).trans ?_
  show (if _ then _ else _) = (((if _ then _ else _ : ℝ)) : EReal)
  split
  · rfl
  · exact hx h s d

/-- All four heads' rows, added to. -/
theorem read_add4 {o0 o1 o2 o3 : Fin 3 → ℕ} {n : ℕ} (hn : n < 8) (ho0 : o0 = ![0, 256 * n, 0]) (ho1 : o1 = ![1, 256 * n, 0])
    (ho2 : o2 = ![2, 256 * n, 0]) (ho3 : o3 = ![3, 256 * n, 0])
    (hb0 : ∀ a, o0 a + S1x256x64.size a ≤ S4x2048x64.size a) (hb1 : ∀ a, o1 a + S1x256x64.size a ≤ S4x2048x64.size a)
    (hb2 : ∀ a, o2 a + S1x256x64.size a ≤ S4x2048x64.size a) (hb3 : ∀ a, o3 a + S1x256x64.size a ≤ S4x2048x64.size a)
    {u0 u1 u2 u3 : FVec Ideal S1x256x64 .f32 → FVec Ideal S1x256x64 .f32}
    {G W : Fin 4 → ℕ → Fin 64 → ℝ} (hx : IsA (v.read (Elt Ideal) (v.writes (Elt Ideal) f P)) G)
    (hu0 : ∀ x, IsB x (G 0) n → IsB (u0 x) (W 0) n) (hu1 : ∀ x, IsB x (G 1) n → IsB (u1 x) (W 1) n)
    (hu2 : ∀ x, IsB x (G 2) n → IsB (u2 x) (W 2) n) (hu3 : ∀ x, IsB x (G 3) n → IsB (u3 x) (W 3) n) :
    IsA (v.read (Elt Ideal) (v.writes (Elt Ideal) f (AttnT2.add1 v f (AttnT2.add1 v f (AttnT2.add1 v f (AttnT2.add1 v f P o0 hb0 u0)
        o1 hb1 u1) o2 hb2 u2) o3 hb3 u3)))
      (fun h s d => if 256 * n ≤ s ∧ s < 256 * n + 256 then W h s d else G h s d) := by
  have r0 := read_add1 v f P (h0 := 0) ho0 hn hb0 hx hu0
  have r1 := read_add1 v f _ (h0 := 1) ho1 hn hb1 r0 (W := W 1) (u := u1) fun x hx => hu1 x (isB_congr hx fun s d _ _ => rfl)
  have r2 := read_add1 v f _ (h0 := 2) ho2 hn hb2 r1 (W := W 2) (u := u2) fun x hx => hu2 x (isB_congr hx fun s d _ _ => rfl)
  have r3 := read_add1 v f _ (h0 := 3) ho3 hn hb3 r2 (W := W 3) (u := u3) fun x hx => hu3 x (isB_congr hx fun s d _ _ => rfl)
  refine isA_congr r3 fun h s d _ => ?_
  fin_cases h <;> simp
end buf

section head
variable {Q K V D : ℕ → Fin 64 → ℝ} {a n : ℕ} {q g : FVec Ideal S256x64 .bf16} {l : FVec Ideal S256x1 .f32}
  {Kx Vx : FVec Ideal S1x256x64 .bf16} {ti te : FVec Ideal S256x256 .bf16}

/-- What one head carries from key tile to key tile. -/
def Acc (Q K V D : ℕ → Fin 64 → ℝ) (a n : ℕ) (o : FVec Ideal S256x64 .f32) (c1 c2 : FVec Ideal S256x1 .f32) : Prop :=
  IsR o (fun t => row (dz Q K V D) K t (256 * n)) a ∧ IsC c1 (fun t => cum (lm Q K) t (256 * n)) a
    ∧ IsC c2 (fun t => cum (en Q K V D) t (256 * n)) a

variable (hq : IsR q Q a) (hg : IsR g D a) (hl : IsC l (fun t => cum (lm Q K) t 2048) a) (hK : IsB Kx K n) (hV : IsB Vx V n)
  (hi : IsLe ti) (he : IsLt te)
include hq hg hl hK hV hi he

/-- An earlier key tile. -/
theorem head (hab : n < a) {o : FVec Ideal S256x64 .f32} {c1 c2 : FVec Ideal S256x1 .f32} (hc : Acc Q K V D a n o c1 c2) :
    Acc Q K V D a (n + 1) (AttnT2.dq q g l Kx Vx ti te c1 c2 o) (AttnT2.n1 q Kx ti c1) (AttnT2.n2 q g l Kx Vx ti te c1 c2)
    ∧ (∀ x, IsB x (col (dz Q K V D) Q (256 * a)) n → IsB (AttnT2.dk q g l Kx Vx ti te c1 c2 x) (col (dz Q K V D) Q (256 * (a + 1))) n)
    ∧ (∀ x, IsB x (col (wt Q K) D (256 * a)) n → IsB (AttnT2.dv q g l Kx ti c1 x) (col (wt Q K) D (256 * (a + 1))) n) := by
  obtain ⟨h0, h1, h2⟩ := hc
  have s := score hq hK
  have dw := gradw hg hV
  have b := logb s
  have r := rest hab s
  have w := weight hab hl h1 b r hi
  have e := energy hab hl h1 dw b r hi
  have p := energies hab hl h1 dw b r hi he
  have z := grads hab h2 b e p
  exact ⟨⟨gradQ (key hK) z h0, carry1 h1 (prefixes r hi), carry2 h2 e p⟩,
    fun x hx => gradK hab hq h2 b e p hx, fun x hx => gradV hg w hx⟩
end head

section diag
variable {Q K V D : ℕ → Fin 64 → ℝ} {a : ℕ} {q g : FVec Ideal S256x64 .bf16} {l : FVec Ideal S256x1 .f32}
  {Kx Vx : FVec Ideal S1x256x64 .bf16} {ti te : FVec Ideal S256x256 .bf16}
variable (hq : IsR q Q a) (hg : IsR g D a) (hl : IsC l (fun t => cum (lm Q K) t 2048) a) (hK : IsB Kx K a) (hV : IsB Vx V a)
  (hi : IsLe ti) (he : IsLt te)
include hq hg hl hK hV hi he

/-- The tile on the diagonal. -/
theorem dhead {o : FVec Ideal S256x64 .f32} {c1 c2 : FVec Ideal S256x1 .f32} (hc : Acc Q K V D a a o c1 c2) :
    IsB (AttnT1.dq q g l Kx Vx ti te c1 c2 o) (fun t => row (dz Q K V D) K t (256 * (a + 1))) a
    ∧ (∀ x, IsB x (col (dz Q K V D) Q (256 * a)) a → IsB (AttnT1.dk q g l Kx Vx ti te c1 c2 x) (col (dz Q K V D) Q (256 * (a + 1))) a)
    ∧ (∀ x, IsB x (col (wt Q K) D (256 * a)) a → IsB (AttnT1.dv q g l Kx ti c1 x) (col (wt Q K) D (256 * (a + 1))) a) := by
  obtain ⟨h0, h1, h2⟩ := hc
  have s := dscore hq hK
  have dw : IsT (k0_pay161 g Vx) (sc D V) a a := gradw hg hV
  have b : IsT (k0_pay166 (k0_pay157 q Kx)) (lb Q K) a a := logb s
  have r := dprefixes (lsigs s) hi
  have w := dweight hl h1 b r
  have e := denergy hl h1 dw b r
  have p := denergies hl h1 dw b r he
  have z := dgrads h2 b e p
  have o' : IsR (k0_pay197 o (k0_pay153 Kx) (k0_pay193 c2 (k0_pay166 (k0_pay157 q Kx)) k0_pay174
      (k0_pay183 l c1 (k0_pay161 g Vx) (k0_pay166 (k0_pay157 q Kx)) k0_pay174 (k0_pay175 (k0_pay165 (k0_pay157 q Kx)) ti))
      (k0_pay187 l c1 (k0_pay161 g Vx) (k0_pay166 (k0_pay157 q Kx)) k0_pay174 (k0_pay175 (k0_pay165 (k0_pay157 q Kx)) ti) te)))
      (fun t => row (dz Q K V D) K t (256 * (a + 1))) a := gradQ (key hK) z h0
  refine ⟨fun i d => ?_, fun x hx => dgradK hq h2 b e p hx, fun x hx => gradV hg w hx⟩
  refine Eq.trans ?_ (o' i d)
  pointwise [AttnT1.dq, AttnT1.e, AttnT1.p, AttnT1.pm, k0_pay265]
end diag

end Cert.AttnBuf

end
-- ==== Proof.AttnS2.lean ====
/- The sweep over the earlier key tiles: what is carried and the two accumulators after every trip. -/
module

public import proofs.«01_k».proof.Proof.AttnBuf

@[expose] public section

set_option maxRecDepth 16384

noncomputable section

namespace Cert.AttnS2

open Idealize.ShloMosaic Idealize.ShloMosaic.TcCoe
open Cert.Reals Cert.AttnMath Cert.AttnTile Cert.AttnBuf Cert.AttnBwdIdeal Cert.AttnBwdIdeal.Gen

theorem trips2 : ∀ t : Fin k0_t1_loop.trips, (k0_t2_loop t 0#32).trips = t.val := by decide +kernel
theorem trips3 : ∀ t : Fin k0_t1_loop.trips, (k0_t3_loop t 0#32).trips = 0 := by decide +kernel
theorem off14 : ∀ (t : Fin k0_t1_loop.trips) (k : Fin (k0_t2_loop t 0#32).trips), k0_off14 t 0#32 k = ![0, 256 * k.val, 0] := by decide +kernel
theorem off15 : ∀ (t : Fin k0_t1_loop.trips) (k : Fin (k0_t2_loop t 0#32).trips), k0_off15 t 0#32 k = ![1, 256 * k.val, 0] := by decide +kernel
theorem off16 : ∀ (t : Fin k0_t1_loop.trips) (k : Fin (k0_t2_loop t 0#32).trips), k0_off16 t 0#32 k = ![2, 256 * k.val, 0] := by decide +kernel
theorem off17 : ∀ (t : Fin k0_t1_loop.trips) (k : Fin (k0_t2_loop t 0#32).trips), k0_off17 t 0#32 k = ![3, 256 * k.val, 0] := by decide +kernel

/-- The gradients of the key rows when the query tiles before `a` are done, and of tile `a` the key tiles before `n`. -/
def SK (Q K V D : Fin 4 → ℕ → Fin 64 → ℝ) (a n : ℕ) : Fin 4 → ℕ → Fin 64 → ℝ := fun h s d =>
  col (dz (Q h) (K h) (V h) (D h)) (Q h) (256 * if s < 256 * n then a + 1 else a) s d

/-- The same of the value rows. -/
def SV (Q K D : Fin 4 → ℕ → Fin 64 → ℝ) (a n : ℕ) : Fin 4 → ℕ → Fin 64 → ℝ := fun h s d =>
  col (wt (Q h) (K h)) (D h) (256 * if s < 256 * n then a + 1 else a) s d

/-- What is carried from head to head and tile to tile. -/
abbrev Car := FVec Ideal S256x64 .f32 × FVec Ideal S256x1 .f32 × FVec Ideal S256x1 .f32 × FVec Ideal S256x64 .f32 × FVec Ideal S256x1 .f32 × FVec Ideal S256x1 .f32 × FVec Ideal S256x64 .f32 × FVec Ideal S256x1 .f32 × FVec Ideal S256x1 .f32 × FVec Ideal S256x64 .f32 × FVec Ideal S256x1 .f32 × FVec Ideal S256x1 .f32

/-- The state of the sweep before key tile `n`. -/
def Inv (Q K V D : Fin 4 → ℕ → Fin 64 → ℝ) (a n : ℕ) (acc : Car) (x y : FVec Ideal S4x2048x64 .f32) : Prop :=
  (Acc (Q 0) (K 0) (V 0) (D 0) a n acc.1 acc.2.1 acc.2.2.1
    ∧ Acc (Q 1) (K 1) (V 1) (D 1) a n acc.2.2.2.1 acc.2.2.2.2.1 acc.2.2.2.2.2.1
    ∧ Acc (Q 2) (K 2) (V 2) (D 2) a n acc.2.2.2.2.2.2.1 acc.2.2.2.2.2.2.2.1 acc.2.2.2.2.2.2.2.2.1
    ∧ Acc (Q 3) (K 3) (V 3) (D 3) a n acc.2.2.2.2.2.2.2.2.2.1 acc.2.2.2.2.2.2.2.2.2.2.1 acc.2.2.2.2.2.2.2.2.2.2.2)
  ∧ IsA x (SK Q K V D a n) ∧ IsA y (SV Q K D a n)

theorem sk_tile (Q K V D : Fin 4 → ℕ → Fin 64 → ℝ) (a n : ℕ) (h : Fin 4) (s : ℕ) (d : Fin 64) (hs : 256 * n ≤ s) :
    SK Q K V D a n h s d = col (dz (Q h) (K h) (V h) (D h)) (Q h) (256 * a) s d := by
  unfold SK
  rw [if_neg (by omega)]

theorem sv_tile (Q K D : Fin 4 → ℕ → Fin 64 → ℝ) (a n : ℕ) (h : Fin 4) (s : ℕ) (d : Fin 64) (hs : 256 * n ≤ s) :
    SV Q K D a n h s d = col (wt (Q h) (K h)) (D h) (256 * a) s d := by
  unfold SV
  rw [if_neg (by omega)]

theorem sk_next (Q K V D : Fin 4 → ℕ → Fin 64 → ℝ) (a n : ℕ) (h : Fin 4) (s : ℕ) (d : Fin 64) :
    (if 256 * n ≤ s ∧ s < 256 * n + 256 then col (dz (Q h) (K h) (V h) (D h)) (Q h) (256 * (a + 1)) s d else SK Q K V D a n h s d)
      = SK Q K V D a (n + 1) h s d := by
  unfold SK
  by_cases h1 : s < 256 * n
  · rw [if_neg (by omega), if_pos h1, if_pos (by omega)]
  · by_cases h2 : s < 256 * n + 256
    · rw [if_pos ⟨by omega, h2⟩, if_pos (by omega)]
    · rw [if_neg (by omega), if_neg h1, if_neg (by omega)]

theorem sv_next (Q K D : Fin 4 → ℕ → Fin 64 → ℝ) (a n : ℕ) (h : Fin 4) (s : ℕ) (d : Fin 64) :
    (if 256 * n ≤ s ∧ s < 256 * n + 256 then col (wt (Q h) (K h)) (D h) (256 * (a + 1)) s d else SV Q K D a n h s d)
      = SV Q K D a (n + 1) h s d := by
  unfold SV
  by_cases h1 : s < 256 * n
  · rw [if_neg (by omega), if_pos h1, if_pos (by omega)]
  · by_cases h2 : s < 256 * n + 256
    · rw [if_pos ⟨by omega, h2⟩, if_pos (by omega)]
    · rw [if_neg (by omega), if_neg h1, if_neg (by omega)]

variable (𝒱 : Variants) (c : Dev nD) (bd : Option 𝒱.V) (i : grid0.Coords) (arg1 : Memref sig .tc .vmem S2048x256 .f32) (harg1 : arg1.IsWhole) (arg2 : Memref sig .tc .vmem S2048x256 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x2048x256 .f32) (harg5 : arg5.IsWhole) (arg6 : Memref sig .tc .vmem S2048x256 .f32) (harg6 : arg6.IsWhole) (arg7 : Memref sig .tc .vmem S256x256 .bf16) (harg7 : arg7.IsWhole) (arg8 : Memref sig .tc .vmem S256x256 .bf16) (harg8 : arg8.IsWhole) (arg9 : Memref sig .tc .smem S2x8 .f32) (harg9 : arg9.IsWhole) (arg10 : Memref sig .tc .vmem S4x2048x64 .bf16) (harg10 : arg10.IsWhole) (arg11 : Memref sig .tc .vmem S4x2048x64 .bf16) (harg11 : arg11.IsWhole) (arg12 : Memref sig .tc .vmem S4x2048x64 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S1x64 .f32) (harg16 : arg16.IsWhole) (arg17 : Memref sig .tc .vmem S1x64 .f32) (harg17 : arg17.IsWhole) (arg18 : Memref sig .tc .vmem S4x2048x64 .f32) (harg18 : arg18.IsWhole) (arg19 : Memref sig .tc .vmem S4x2048x64 .f32) (harg19 : arg19.IsWhole) (arg20 : Memref sig .tc .vmem S4x2048x64 .f32) (harg20 : arg20.IsWhole)
  (arg0 : BitVec 32) (k0_t1 : Fin k0_t1_loop.trips) (arg21 : BitVec 32) (v37 : FVec Ideal S256x64 .bf16) (v40 : FVec Ideal S256x64 .bf16) (v43 : FVec Ideal S256x64 .bf16) (v46 : FVec Ideal S256x64 .bf16) (v49 : FVec Ideal S256x64 .bf16) (v52 : FVec Ideal S256x64 .bf16) (v55 : FVec Ideal S256x64 .bf16) (v58 : FVec Ideal S256x64 .bf16) (v61 : FVec Ideal S256x1 .f32) (v64 : FVec Ideal S256x1 .f32) (v67 : FVec Ideal S256x1 .f32) (v70 : FVec Ideal S256x1 .f32) (v79 : BitVec 32) (k0_hw1 : k0_chk1 k0_t1 v79) (v81 : BitVec 32)
  (X7 : BufTy.Contents (Elt Ideal) arg7.view.ty) (X8 : BufTy.Contents (Elt Ideal) arg8.view.ty) (X11 : BufTy.Contents (Elt Ideal) arg11.view.ty) (X12 : BufTy.Contents (Elt Ideal) arg12.view.ty)
  {Q K V D : Fin 4 → ℕ → Fin 64 → ℝ}
  (hv : v79 = 0#32)
  (hq0 : IsR v37 (Q 0) k0_t1.val) (hq1 : IsR v40 (Q 1) k0_t1.val) (hq2 : IsR v43 (Q 2) k0_t1.val) (hq3 : IsR v46 (Q 3) k0_t1.val)
  (hg0 : IsR v49 (D 0) k0_t1.val) (hg1 : IsR v52 (D 1) k0_t1.val) (hg2 : IsR v55 (D 2) k0_t1.val) (hg3 : IsR v58 (D 3) k0_t1.val)
  (hl0 : IsC v61 (fun t => cum (lm (Q 0) (K 0)) t 2048) k0_t1.val) (hl1 : IsC v64 (fun t => cum (lm (Q 1) (K 1)) t 2048) k0_t1.val)
  (hl2 : IsC v67 (fun t => cum (lm (Q 2) (K 2)) t 2048) k0_t1.val) (hl3 : IsC v70 (fun t => cum (lm (Q 3) (K 3)) t 2048) k0_t1.val)
  (hK : IsA (arg11.view.read (Elt Ideal) X11) K) (hV : IsA (arg12.view.read (Elt Ideal) X12) V)
  (hi : IsLe (View.readAt (Elt Ideal) arg7.view (Rect.unit (s := S256x256) ![0, 0] S256x256.size inb_S256x256_S256x256_0_0).toLoadRect X7))
  (he : IsLt (View.readAt (Elt Ideal) arg8.view (Rect.unit (s := S256x256) ![0, 0] S256x256.size inb_S256x256_S256x256_0_0).toLoadRect X8))
include hv hq0 hq1 hq2 hq3 hg0 hg1 hg2 hg3 hl0 hl1 hl2 hl3 hK hV hi he

/-- One key tile. -/
theorem step (k : Fin (k0_t2_loop k0_t1 v79).trips) (acc : Car) (f19 : BufTy.Contents (Elt Ideal) arg19.view.ty) (f20 : BufTy.Contents (Elt Ideal) arg20.view.ty)
    (h : Inv Q K V D k0_t1.val k.val acc (arg19.view.read (Elt Ideal) f19) (arg20.view.read (Elt Ideal) f20)) :
    Inv Q K V D k0_t1.val (k.val + 1) ((trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 k0_t1 arg21 v37 v40 v43 v46 v49 v52 v55 v58 v61 v64 v67 v70 v79 k0_hw1 v81 X7 X8 X11 X12 k).1 acc f19 f20)
      (arg19.view.read (Elt Ideal) (arg19.view.writes (Elt Ideal) f19 ((trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 k0_t1 arg21 v37 v40 v43 v46 v49 v52 v55 v58 v61 v64 v67 v70 v79 k0_hw1 v81 X7 X8 X11 X12 k).2.1 acc f19 f20)))
      (arg20.view.read (Elt Ideal) (arg20.view.writes (Elt Ideal) f20 ((trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 k0_t1 arg21 v37 v40 v43 v46 v49 v52 v55 v58 v61 v64 v67 v70 v79 k0_hw1 v81 X7 X8 X11 X12 k).2.2.1 acc f19 f20))) := by
  subst hv
  have hka : k.val < k0_t1.val := trips2 k0_t1 ▸ k.isLt
  have h8 : k0_t1.val < 8 := k0_t1.isLt
  have h8' : k.val < 8 := by omega
  obtain ⟨⟨a0, a1, a2, a3⟩, bk, bv⟩ := h
  have H0 := head (te := View.readAt (Elt Ideal) arg8.view (Rect.unit (s := S256x256) ![0, 0] S256x256.size inb_S256x256_S256x256_0_0).toLoadRect X8) hq0 hg0 hl0
    (read_blockH arg11.view X11 (h0 := 0) (off14 k0_t1 k) h8' (k0_off14_inb k0_t1 0#32 k0_hw1 k) hK) (read_blockH arg12.view X12 (h0 := 0) (off14 k0_t1 k) h8' (k0_off14_inb k0_t1 0#32 k0_hw1 k) hV)
    hi he hka a0
  have H1 := head (te := View.readAt (Elt Ideal) arg8.view (Rect.unit (s := S256x256) ![0, 0] S256x256.size inb_S256x256_S256x256_0_0).toLoadRect X8) hq1 hg1 hl1
    (read_blockH arg11.view X11 (h0 := 1) (off15 k0_t1 k) h8' (k0_off15_inb k0_t1 0#32 k0_hw1 k) hK) (read_blockH arg12.view X12 (h0 := 1) (off15 k0_t1 k) h8' (k0_off15_inb k0_t1 0#32 k0_hw1 k) hV)
    hi he hka a1
  have H2 := head (te := View.readAt (Elt Ideal) arg8.view (Rect.unit (s := S256x256) ![0, 0] S256x256.size inb_S256x256_S256x256_0_0).toLoadRect X8) hq2 hg2 hl2
    (read_blockH arg11.view X11 (h0 := 2) (off16 k0_t1 k) h8' (k0_off16_inb k0_t1 0#32 k0_hw1 k) hK) (read_blockH arg12.view X12 (h0 := 2) (off16 k0_t1 k) h8' (k0_off16_inb k0_t1 0#32 k0_hw1 k) hV)
    hi he hka a2
  have H3 := head (te := View.readAt (Elt Ideal) arg8.view (Rect.unit (s := S256x256) ![0, 0] S256x256.size inb_S256x256_S256x256_0_0).toLoadRect X8) hq3 hg3 hl3
    (read_blockH arg11.view X11 (h0 := 3) (off17 k0_t1 k) h8' (k0_off17_inb k0_t1 0#32 k0_hw1 k) hK) (read_blockH arg12.view X12 (h0 := 3) (off17 k0_t1 k) h8' (k0_off17_inb k0_t1 0#32 k0_hw1 k) hV)
    hi he hka a3
  rw [AttnT2.trip_res, AttnT2.trip_dk, AttnT2.trip_dv]
  refine ⟨⟨H0.1, H1.1, H2.1, H3.1⟩, ?_, ?_⟩
  · exact isA_congr (read_add4 arg19.view f19 [] h8' (off14 k0_t1 k) (off15 k0_t1 k) (off16 k0_t1 k) (off17 k0_t1 k) _ _ _ _
      (W := fun h => col (dz (Q h) (K h) (V h) (D h)) (Q h) (256 * (k0_t1.val + 1))) bk
      (fun x hx => H0.2.1 x (isB_congr hx fun s d h1 _ => sk_tile Q K V D _ _ 0 s d h1))
      (fun x hx => H1.2.1 x (isB_congr hx fun s d h1 _ => sk_tile Q K V D _ _ 1 s d h1))
      (fun x hx => H2.2.1 x (isB_congr hx fun s d h1 _ => sk_tile Q K V D _ _ 2 s d h1))
      (fun x hx => H3.2.1 x (isB_congr hx fun s d h1 _ => sk_tile Q K V D _ _ 3 s d h1)))
      fun h s d _ => sk_next Q K V D _ _ h s d
  · exact isA_congr (read_add4 arg20.view f20 [] h8' (off14 k0_t1 k) (off15 k0_t1 k) (off16 k0_t1 k) (off17 k0_t1 k) _ _ _ _
      (W := fun h => col (wt (Q h) (K h)) (D h) (256 * (k0_t1.val + 1))) bv
      (fun x hx => H0.2.2 x (isB_congr hx fun s d h1 _ => sv_tile Q K D _ _ 0 s d h1))
      (fun x hx => H1.2.2 x (isB_congr hx fun s d h1 _ => sv_tile Q K D _ _ 1 s d h1))
      (fun x hx => H2.2.2 x (isB_congr hx fun s d h1 _ => sv_tile Q K D _ _ 2 s d h1))
      (fun x hx => H3.2.2 x (isB_congr hx fun s d h1 _ => sv_tile Q K D _ _ 3 s d h1)))
      fun h s d _ => sv_next Q K D _ _ h s d

/-- All earlier key tiles. -/
theorem sweep (G19 : BufTy.Contents (Elt Ideal) arg19.view.ty) (G20 : BufTy.Contents (Elt Ideal) arg20.view.ty) (init : Car)
    (h0 : Inv Q K V D k0_t1.val 0 init (arg19.view.read (Elt Ideal) G19) (arg20.view.read (Elt Ideal) G20)) :
    ∀ n, n ≤ (k0_t2_loop k0_t1 v79).trips →
      Inv Q K V D k0_t1.val n (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 k0_t1 arg21 v37 v40 v43 v46 v49 v52 v55 v58 v61 v64 v67 v70 v79 k0_hw1 v81 X7 X8 X11 X12 G19 G20 init n).1
        (arg19.view.read (Elt Ideal) (arg19.view.writes (Elt Ideal) G19 (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 k0_t1 arg21 v37 v40 v43 v46 v49 v52 v55 v58 v61 v64 v67 v70 v79 k0_hw1 v81 X7 X8 X11 X12 G19 G20 init n).2.1))
        (arg20.view.read (Elt Ideal) (arg20.view.writes (Elt Ideal) G20 (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 k0_t1 arg21 v37 v40 v43 v46 v49 v52 v55 v58 v61 v64 v67 v70 v79 k0_hw1 v81 X7 X8 X11 X12 G19 G20 init n).2.2)) := by
  intro n
  induction n with
  | zero => intro _; exact h0
  | succ n ih =>
    intro hn
    have h1 := step 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 k0_t1 arg21 v37 v40 v43 v46 v49 v52 v55 v58 v61 v64 v67 v70 v79 k0_hw1 v81 X7 X8 X11 X12 hv hq0 hq1 hq2 hq3 hg0 hg1 hg2 hg3 hl0 hl1 hl2 hl3 hK hV hi he ⟨n, hn⟩ _ _ _ (ih (by omega))
    rw [st_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 k0_t1 arg21 v37 v40 v43 v46 v49 v52 v55 v58 v61 v64 v67 v70 v79 k0_hw1 v81 X7 X8 X11 X12 G19 G20 init ⟨n, hn⟩]
    simp only [View.writes_append]
    exact h1

end Cert.AttnS2

end
-- ==== Proof.AttnS1.lean ====
/- The sweep over the query tiles: the three accumulators after every trip. -/
module

public import proofs.«01_k».proof.Proof.AttnS2

@[expose] public section

set_option maxRecDepth 16384

noncomputable section

namespace Cert.AttnS1

open Idealize.ShloMosaic Idealize.ShloMosaic.TcCoe
open Cert.Reals Cert.AttnMath Cert.AttnTile Cert.AttnBuf Cert.AttnS2 Cert.AttnBwdIdeal Cert.AttnBwdIdeal.Gen

theorem col_ext (f : ℕ → ℕ → ℝ) (A : ℕ → Fin 64 → ℝ) (n m s : ℕ) (d : Fin 64) (h : ∀ t, n ≤ t → t < n + m → f t s = 0) :
    col f A (n + m) s d = col f A n s d := by
  rw [col_add, Finset.sum_eq_zero fun i _ => by rw [h _ (by omega) (by have := i.isLt; omega), zero_mul], add_zero]

theorem row_ext (f : ℕ → ℕ → ℝ) (B : ℕ → Fin 64 → ℝ) (t n m : ℕ) (d : Fin 64) (h : ∀ s, n ≤ s → f t s = 0) :
    row f B t (n + m) d = row f B t n d := by
  rw [row_add, Finset.sum_eq_zero fun i _ => by rw [h _ (by omega), zero_mul], add_zero]

theorem dz_zero (Q K V D : ℕ → Fin 64 → ℝ) {t s : ℕ} (h : t ≤ s) : dz Q K V D t s = 0 := by
  unfold dz; rw [if_neg (by omega)]

theorem wt_zero (Q K : ℕ → Fin 64 → ℝ) {t s : ℕ} (h : t ≤ s) : wt Q K t s = 0 := by
  unfold wt; rw [if_neg (by omega)]

/-- After the tile on the diagonal, the next query tile's start. -/
theorem sk_turn (Q K V D : Fin 4 → ℕ → Fin 64 → ℝ) (a : ℕ) (h : Fin 4) (s : ℕ) (d : Fin 64) :
    SK Q K V D a (a + 1) h s d = SK Q K V D (a + 1) 0 h s d := by
  unfold SK
  rw [if_neg (show ¬ s < 256 * 0 by omega)]
  by_cases h1 : s < 256 * (a + 1)
  · rw [if_pos h1]
  · rw [if_neg h1, show 256 * (a + 1) = 256 * a + 256 from by ring]
    refine (col_ext _ _ _ _ _ _ fun t h2 h3 => dz_zero _ _ _ _ (by omega)).symm

theorem sv_turn (Q K D : Fin 4 → ℕ → Fin 64 → ℝ) (a : ℕ) (h : Fin 4) (s : ℕ) (d : Fin 64) :
    SV Q K D a (a + 1) h s d = SV Q K D (a + 1) 0 h s d := by
  unfold SV
  rw [if_neg (show ¬ s < 256 * 0 by omega)]
  by_cases h1 : s < 256 * (a + 1)
  · rw [if_pos h1]
  · rw [if_neg h1, show 256 * (a + 1) = 256 * a + 256 from by ring]
    refine (col_ext _ _ _ _ _ _ fun t h2 h3 => wt_zero _ _ (by omega)).symm

theorem qtile {x : FVec Ideal S1x256x64 .bf16} {f : ℕ → Fin 64 → ℝ} {a : ℕ} (hx : IsB x f a) : IsR (k0_pay128 (F := Ideal) x) f a := fun i d => by
  rw [← hx i d]; pointwise [k0_pay128]

theorem gtile (v : View sig .tc .vmem S2048x256 .f32) (X : BufTy.Contents (Elt Ideal) v.ty) {D : Fin 4 → ℕ → Fin 64 → ℝ}
    (hD : ∀ (h : Fin 4) (s : Fin 2048) (d : Fin 64), v.read (Elt Ideal) X (ix2 s (⟨64 * h.val + d.val, by have := h.isLt; have := d.isLt; omega⟩ : Fin 256)) = ((D h s.val d : ℝ) : EReal))
    (h : Fin 4) {a : ℕ} (ha : a < 8) {o : Fin 2 → ℕ} (ho : o = ![256 * a, 64 * h.val]) (hb : ∀ i, o i + S256x64.size i ≤ S2048x256.size i) :
    IsR (k0_pay132 (v.readAt (Elt Ideal) (Rect.unit (s := S2048x256) o S256x64.size hb).toLoadRect X)) (D h) a := by
  subst ho
  intro i d
  refine Eq.trans ?_ (hD h ⟨256 * a + i.val, by have := i.isLt; omega⟩ d)
  refine Eq.trans (b := v.readAt (Elt Ideal) (Rect.unit (s := S2048x256) _ S256x64.size hb).toLoadRect X (ix2 i d)) (by pointwise [k0_pay132]) ?_
  refine congrArg (v.read (Elt Ideal) X) ?_
  funext b
  apply Fin.ext
  match b with
  | 0 => exact (congrArg (256 * a + ·) (Nat.one_mul _))
  | 1 => exact (congrArg (64 * h.val + ·) (Nat.one_mul _))

theorem ltile (v : View sig .tc .vmem S1x2048x256 .f32) (X : BufTy.Contents (Elt Ideal) v.ty) {L : Fin 4 → ℕ → ℝ}
    (hL : ∀ (h : Fin 4) (s : Fin 2048), v.read (Elt Ideal) X (ix3 (0 : Fin 1) s (⟨64 * h.val, by have := h.isLt; omega⟩ : Fin 256)) = ((L h s.val : ℝ) : EReal))
    (h : Fin 4) {a : ℕ} (ha : a < 8) {o : Fin 3 → ℕ} (ho : o = ![0, 256 * a, 64 * h.val]) (hb : ∀ i, o i + S1x256x1.size i ≤ S1x2048x256.size i) :
    IsC (k0_pay136 (v.readAt (Elt Ideal) (Rect.unit (s := S1x2048x256) o S1x256x1.size hb).toLoadRect X)) (L h) a := by
  subst ho
  intro i
  refine Eq.trans ?_ (hL h ⟨256 * a + i.val, by have := i.isLt; omega⟩)
  refine Eq.trans (b := v.readAt (Elt Ideal) (Rect.unit (s := S1x2048x256) _ S1x256x1.size hb).toLoadRect X (ix3 (0 : Fin 1) i (0 : Fin 1))) (by pointwise [k0_pay136]) ?_
  refine congrArg (v.read (Elt Ideal) X) ?_
  funext b
  apply Fin.ext
  match b with
  | 0 => exact (Nat.add_zero _)
  | 1 => exact (congrArg (256 * a + ·) (Nat.one_mul _))
  | 2 => rfl

theorem acc_zero (Q K V D : ℕ → Fin 64 → ℝ) (a : ℕ) {x : FVec Ideal S256x64 .f32} {y : FVec Ideal S256x1 .f32} (hx : ∀ i d, x (ix2 i d) = 0) (hy : ∀ i, y (ix2 i (0 : Fin 1)) = 0) :
    Acc Q K V D a 0 x y y :=
  ⟨fun i d => (hx i d).trans (by simp [row]), fun i => (hy i).trans (by simp [cum]), fun i => (hy i).trans (by simp [cum])⟩

/-- The state of the sweep before query tile `a`. -/
def Out (Q K V D : Fin 4 → ℕ → Fin 64 → ℝ) (a : ℕ) (x y z : FVec Ideal S4x2048x64 .f32) : Prop :=
  (∀ (h : Fin 4) (s : Fin 2048) (d : Fin 64), s.val < 256 * a → x (ix3 h s d) = ((row (dz (Q h) (K h) (V h) (D h)) (K h) s.val 2048 d : ℝ) : EReal))
  ∧ IsA y (SK Q K V D a 0) ∧ IsA z (SV Q K D a 0)

variable (𝒱 : Variants) (c : Dev nD) (bd : Option 𝒱.V) (i : grid0.Coords) (arg1 : Memref sig .tc .vmem S2048x256 .f32) (harg1 : arg1.IsWhole) (arg2 : Memref sig .tc .vmem S2048x256 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x2048x256 .f32) (harg5 : arg5.IsWhole) (arg6 : Memref sig .tc .vmem S2048x256 .f32) (harg6 : arg6.IsWhole) (arg7 : Memref sig .tc .vmem S256x256 .bf16) (harg7 : arg7.IsWhole) (arg8 : Memref sig .tc .vmem S256x256 .bf16) (harg8 : arg8.IsWhole) (arg9 : Memref sig .tc .smem S2x8 .f32) (harg9 : arg9.IsWhole) (arg10 : Memref sig .tc .vmem S4x2048x64 .bf16) (harg10 : arg10.IsWhole) (arg11 : Memref sig .tc .vmem S4x2048x64 .bf16) (harg11 : arg11.IsWhole) (arg12 : Memref sig .tc .vmem S4x2048x64 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S1x64 .f32) (harg16 : arg16.IsWhole) (arg17 : Memref sig .tc .vmem S1x64 .f32) (harg17 : arg17.IsWhole) (arg18 : Memref sig .tc .vmem S4x2048x64 .f32) (harg18 : arg18.IsWhole) (arg19 : Memref sig .tc .vmem S4x2048x64 .f32) (harg19 : arg19.IsWhole) (arg20 : Memref sig .tc .vmem S4x2048x64 .f32) (harg20 : arg20.IsWhole) (arg0 : BitVec 32) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (X12 : BufTy.Contents (Elt Ideal) arg12.view.ty)
  {Q K V D : Fin 4 → ℕ → Fin 64 → ℝ}
  (hQ : IsA (arg10.view.read (Elt Ideal) X10) Q) (hK : IsA (arg11.view.read (Elt Ideal) X11) K) (hV : IsA (arg12.view.read (Elt Ideal) X12) V)
  (hD : ∀ (h : Fin 4) (s : Fin 2048) (d : Fin 64), arg6.view.read (Elt Ideal) X6 (ix2 s (⟨64 * h.val + d.val, by have := h.isLt; have := d.isLt; omega⟩ : Fin 256)) = ((D h s.val d : ℝ) : EReal))
  (hL : ∀ (h : Fin 4) (s : Fin 2048), arg5.view.read (Elt Ideal) X5 (ix3 (0 : Fin 1) s (⟨64 * h.val, by have := h.isLt; omega⟩ : Fin 256)) = ((cum (lm (Q h) (K h)) s.val 2048 : ℝ) : EReal))
  (hi : IsLe (View.readAt (Elt Ideal) arg7.view (Rect.unit (s := S256x256) ![0, 0] S256x256.size inb_S256x256_S256x256_0_0).toLoadRect X7))
  (he : IsLt (View.readAt (Elt Ideal) arg8.view (Rect.unit (s := S256x256) ![0, 0] S256x256.size inb_S256x256_S256x256_0_0).toLoadRect X8))
  (h9 : ∀ k, (Cert.AttnBwdIdeal.Loop.trip.sl.v79 i arg9 X9 k) = 0#32)
include hQ hK hV hD hL hi he h9

/-- One query tile. -/
theorem step (k : Fin k0_t1_loop.trips) (f18 : BufTy.Contents (Elt Ideal) arg18.view.ty) (f19 : BufTy.Contents (Elt Ideal) arg19.view.ty) (f20 : BufTy.Contents (Elt Ideal) arg20.view.ty)
    (h : Out Q K V D k.val (arg18.view.read (Elt Ideal) f18) (arg19.view.read (Elt Ideal) f19) (arg20.view.read (Elt Ideal) f20)) :
    Out Q K V D (k.val + 1)
      (arg18.view.read (Elt Ideal) (arg18.view.writes (Elt Ideal) f18 ((Cert.AttnBwdIdeal.Loop.trip (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 X5 X6 X7 X8 X9 X10 X11 X12 k).1 f19 f20)))
      (arg19.view.read (Elt Ideal) (arg19.view.writes (Elt Ideal) f19 ((Cert.AttnBwdIdeal.Loop.trip (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 X5 X6 X7 X8 X9 X10 X11 X12 k).2.1 f19 f20)))
      (arg20.view.read (Elt Ideal) (arg20.view.writes (Elt Ideal) f20 ((Cert.AttnBwdIdeal.Loop.trip (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 X5 X6 X7 X8 X9 X10 X11 X12 k).2.2.1 f19 f20))) := by
  have h8 : k.val < 8 := k.isLt
  obtain ⟨x18, x19, x20⟩ := h
  obtain ⟨q0, eq0⟩ : ∃ q, q = (k0_pay128 (View.readAt (Elt Ideal) arg10.view (Rect.unit (s := S4x2048x64) (k0_off1 k) S1x256x64.size (k0_off1_inb k)).toLoadRect X10)) := ⟨_, rfl⟩
  obtain ⟨q1, eq1⟩ : ∃ q, q = (k0_pay128 (View.readAt (Elt Ideal) arg10.view (Rect.unit (s := S4x2048x64) (k0_off2 k) S1x256x64.size (k0_off2_inb k)).toLoadRect X10)) := ⟨_, rfl⟩
  obtain ⟨q2, eq2⟩ : ∃ q, q = (k0_pay128 (View.readAt (Elt Ideal) arg10.view (Rect.unit (s := S4x2048x64) (k0_off3 k) S1x256x64.size (k0_off3_inb k)).toLoadRect X10)) := ⟨_, rfl⟩
  obtain ⟨q3, eq3⟩ : ∃ q, q = (k0_pay128 (View.readAt (Elt Ideal) arg10.view (Rect.unit (s := S4x2048x64) (k0_off4 k) S1x256x64.size (k0_off4_inb k)).toLoadRect X10)) := ⟨_, rfl⟩
  obtain ⟨g0, eg0⟩ : ∃ q, q = (k0_pay132 (View.readAt (Elt Ideal) arg6.view (Rect.unit (s := S2048x256) (k0_off5 k) S256x64.size (k0_off5_inb k)).toLoadRect X6)) := ⟨_, rfl⟩
  obtain ⟨g1, eg1⟩ : ∃ q, q = (k0_pay132 (View.readAt (Elt Ideal) arg6.view (Rect.unit (s := S2048x256) (k0_off6 k) S256x64.size (k0_off6_inb k)).toLoadRect X6)) := ⟨_, rfl⟩
  obtain ⟨g2, eg2⟩ : ∃ q, q = (k0_pay132 (View.readAt (Elt Ideal) arg6.view (Rect.unit (s := S2048x256) (k0_off7 k) S256x64.size (k0_off7_inb k)).toLoadRect X6)) := ⟨_, rfl⟩
  obtain ⟨g3, eg3⟩ : ∃ q, q = (k0_pay132 (View.readAt (Elt Ideal) arg6.view (Rect.unit (s := S2048x256) (k0_off8 k) S256x64.size (k0_off8_inb k)).toLoadRect X6)) := ⟨_, rfl⟩
  obtain ⟨l0, el0⟩ : ∃ q, q = (k0_pay136 (View.readAt (Elt Ideal) arg5.view (Rect.unit (s := S1x2048x256) (k0_off9 k) S1x256x1.size (k0_off9_inb k)).toLoadRect X5)) := ⟨_, rfl⟩
  obtain ⟨l1, el1⟩ : ∃ q, q = (k0_pay136 (View.readAt (Elt Ideal) arg5.view (Rect.unit (s := S1x2048x256) (k0_off10 k) S1x256x1.size (k0_off10_inb k)).toLoadRect X5)) := ⟨_, rfl⟩
  obtain ⟨l2, el2⟩ : ∃ q, q = (k0_pay136 (View.readAt (Elt Ideal) arg5.view (Rect.unit (s := S1x2048x256) (k0_off11 k) S1x256x1.size (k0_off11_inb k)).toLoadRect X5)) := ⟨_, rfl⟩
  obtain ⟨l3, el3⟩ : ∃ q, q = (k0_pay136 (View.readAt (Elt Ideal) arg5.view (Rect.unit (s := S1x2048x256) (k0_off12 k) S1x256x1.size (k0_off12_inb k)).toLoadRect X5)) := ⟨_, rfl⟩
  have hq0 : IsR q0 (Q 0) k.val := eq0 ▸ qtile (read_blockH arg10.view X10 (h0 := 0) (k0_off1_eq k) h8 _ hQ)
  have hq1 : IsR q1 (Q 1) k.val := eq1 ▸ qtile (read_blockH arg10.view X10 (h0 := 1) (k0_off2_eq k) h8 _ hQ)
  have hq2 : IsR q2 (Q 2) k.val := eq2 ▸ qtile (read_blockH arg10.view X10 (h0 := 2) (k0_off3_eq k) h8 _ hQ)
  have hq3 : IsR q3 (Q 3) k.val := eq3 ▸ qtile (read_blockH arg10.view X10 (h0 := 3) (k0_off4_eq k) h8 _ hQ)
  have hg0 : IsR g0 (D 0) k.val := eg0 ▸ gtile arg6.view X6 hD 0 h8 (k0_off5_eq k) _
  have hg1 : IsR g1 (D 1) k.val := eg1 ▸ gtile arg6.view X6 hD 1 h8 (k0_off6_eq k) _
  have hg2 : IsR g2 (D 2) k.val := eg2 ▸ gtile arg6.view X6 hD 2 h8 (k0_off7_eq k) _
  have hg3 : IsR g3 (D 3) k.val := eg3 ▸ gtile arg6.view X6 hD 3 h8 (k0_off8_eq k) _
  have hl0 : IsC l0 (fun t => cum (lm (Q 0) (K 0)) t 2048) k.val := el0 ▸ ltile arg5.view X5 (L := fun h t => cum (lm (Q h) (K h)) t 2048) hL 0 h8 (k0_off9_eq k) _
  have hl1 : IsC l1 (fun t => cum (lm (Q 1) (K 1)) t 2048) k.val := el1 ▸ ltile arg5.view X5 (L := fun h t => cum (lm (Q h) (K h)) t 2048) hL 1 h8 (k0_off10_eq k) _
  have hl2 : IsC l2 (fun t => cum (lm (Q 2) (K 2)) t 2048) k.val := el2 ▸ ltile arg5.view X5 (L := fun h t => cum (lm (Q h) (K h)) t 2048) hL 2 h8 (k0_off11_eq k) _
  have hl3 : IsC l3 (fun t => cum (lm (Q 3) (K 3)) t 2048) k.val := el3 ▸ ltile arg5.view X5 (L := fun h t => cum (lm (Q h) (K h)) t 2048) hL 3 h8 (k0_off12_eq k) _
  have hw := Cert.AttnBwdIdeal.Chk.all k (Cert.AttnBwdIdeal.Loop.trip.sl.v79 i arg9 X9 k)
  obtain ⟨T2, e2⟩ : ∃ T, T = st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 k (Cert.AttnBwdIdeal.Loop.trip.sl.arg21 k) q0 q1 q2 q3 g0 g1 g2 g3 l0 l1 l2 l3 (Cert.AttnBwdIdeal.Loop.trip.sl.v79 i arg9 X9 k) hw (Cert.AttnBwdIdeal.Loop.trip.sl.v81 i arg9 X9 k) X7 X8 X11 X12 f19 f20 (k0_pay141, k0_pay140, k0_pay140, k0_pay142, k0_pay140, k0_pay140, k0_pay143, k0_pay140, k0_pay140, k0_pay144, k0_pay140, k0_pay140) (k0_t2_loop k (Cert.AttnBwdIdeal.Loop.trip.sl.v79 i arg9 X9 k)).trips := ⟨_, rfl⟩
  obtain ⟨T3, e3⟩ : ∃ T, T = st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 k (Cert.AttnBwdIdeal.Loop.trip.sl.arg21 k) q0 q1 q2 q3 g0 g1 g2 g3 l0 l1 l2 l3 (Cert.AttnBwdIdeal.Loop.trip.sl.v79 i arg9 X9 k) hw (Cert.AttnBwdIdeal.Loop.trip.sl.v86 i arg9 X9 k) X7 X8 X11 X12 (arg19.view.writes (Elt Ideal) f19 T2.2.1) (arg20.view.writes (Elt Ideal) f20 T2.2.2) T2.1 (k0_t3_loop k (Cert.AttnBwdIdeal.Loop.trip.sl.v79 i arg9 X9 k)).trips := ⟨_, rfl⟩
  have ez : T3 = (T2.1, [], []) := by
    have : ∀ n, n = 0 → st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 k (Cert.AttnBwdIdeal.Loop.trip.sl.arg21 k) q0 q1 q2 q3 g0 g1 g2 g3 l0 l1 l2 l3 (Cert.AttnBwdIdeal.Loop.trip.sl.v79 i arg9 X9 k) hw (Cert.AttnBwdIdeal.Loop.trip.sl.v86 i arg9 X9 k) X7 X8 X11 X12 (arg19.view.writes (Elt Ideal) f19 T2.2.1) (arg20.view.writes (Elt Ideal) f20 T2.2.2) T2.1 n = (T2.1, [], []) := by
      rintro _ rfl; rfl
    exact e3.trans (this _ ((congrArg (fun v => (k0_t3_loop k v).trips) (h9 k)).trans (trips3 k)))
  have tr : (k0_t2_loop k (Cert.AttnBwdIdeal.Loop.trip.sl.v79 i arg9 X9 k)).trips = k.val := (congrArg (fun v => (k0_t2_loop k v).trips) (h9 k)).trans (trips2 k)
  have z1 : ∀ i, (k0_pay140 : FVec Ideal S256x1 .f32) (ix2 i (0 : Fin 1)) = 0 := fun i => by pointwise [k0_pay140]
  have S := sweep 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 k (Cert.AttnBwdIdeal.Loop.trip.sl.arg21 k) q0 q1 q2 q3 g0 g1 g2 g3 l0 l1 l2 l3 (Cert.AttnBwdIdeal.Loop.trip.sl.v79 i arg9 X9 k) hw (Cert.AttnBwdIdeal.Loop.trip.sl.v81 i arg9 X9 k) X7 X8 X11 X12
    (h9 k) hq0 hq1 hq2 hq3 hg0 hg1 hg2 hg3 hl0 hl1 hl2 hl3 hK hV hi he f19 f20 (k0_pay141, k0_pay140, k0_pay140, k0_pay142, k0_pay140, k0_pay140, k0_pay143, k0_pay140, k0_pay140, k0_pay144, k0_pay140, k0_pay140)
    ⟨⟨acc_zero _ _ _ _ _ (fun i d => by pointwise [k0_pay141]) z1, acc_zero _ _ _ _ _ (fun i d => by pointwise [k0_pay142]) z1,
      acc_zero _ _ _ _ _ (fun i d => by pointwise [k0_pay143]) z1, acc_zero _ _ _ _ _ (fun i d => by pointwise [k0_pay144]) z1⟩, x19, x20⟩ _ le_rfl
  rw [← e2] at S
  rw [tr] at S
  obtain ⟨⟨a0, a1, a2, a3⟩, bk, bv⟩ := S
  have H0 := dhead (te := (View.readAt (Elt Ideal) arg8.view (Rect.unit (s := S256x256) ![0, 0] S256x256.size inb_S256x256_S256x256_0_0).toLoadRect X8)) hq0 hg0 hl0
    (read_blockH arg11.view X11 (h0 := 0) (k0_off22_eq k) h8 (k0_off22_inb k) hK) (read_blockH arg12.view X12 (h0 := 0) (k0_off22_eq k) h8 (k0_off22_inb k) hV)
    hi he a0
  have H1 := dhead (te := (View.readAt (Elt Ideal) arg8.view (Rect.unit (s := S256x256) ![0, 0] S256x256.size inb_S256x256_S256x256_0_0).toLoadRect X8)) hq1 hg1 hl1
    (read_blockH arg11.view X11 (h0 := 1) (k0_off23_eq k) h8 (k0_off23_inb k) hK) (read_blockH arg12.view X12 (h0 := 1) (k0_off23_eq k) h8 (k0_off23_inb k) hV)
    hi he a1
  have H2 := dhead (te := (View.readAt (Elt Ideal) arg8.view (Rect.unit (s := S256x256) ![0, 0] S256x256.size inb_S256x256_S256x256_0_0).toLoadRect X8)) hq2 hg2 hl2
    (read_blockH arg11.view X11 (h0 := 2) (k0_off24_eq k) h8 (k0_off24_inb k) hK) (read_blockH arg12.view X12 (h0 := 2) (k0_off24_eq k) h8 (k0_off24_inb k) hV)
    hi he a2
  have H3 := dhead (te := (View.readAt (Elt Ideal) arg8.view (Rect.unit (s := S256x256) ![0, 0] S256x256.size inb_S256x256_S256x256_0_0).toLoadRect X8)) hq3 hg3 hl3
    (read_blockH arg11.view X11 (h0 := 3) (k0_off25_eq k) h8 (k0_off25_inb k) hK) (read_blockH arg12.view X12 (h0 := 3) (k0_off25_eq k) h8 (k0_off25_inb k) hV)
    hi he a3
  rw [AttnT1.trip_dq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 X5 X6 X7 X8 X9 X10 X11 X12 k f19 f20 q0 q1 q2 q3 g0 g1 g2 g3 l0 l1 l2 l3 eq0 eg0 el0 eq1 eg1 el1 eq2 eg2 el2 eq3 eg3 el3 hw T2 T3 e2 e3,
    AttnT1.trip_dk 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 X5 X6 X7 X8 X9 X10 X11 X12 k f19 f20 q0 q1 q2 q3 g0 g1 g2 g3 l0 l1 l2 l3 eq0 eg0 el0 eq1 eg1 el1 eq2 eg2 el2 eq3 eg3 el3 hw T2 T3 e2 e3,
    AttnT1.trip_dv 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 X5 X6 X7 X8 X9 X10 X11 X12 k f19 f20 q0 q1 q2 q3 g0 g1 g2 g3 l0 l1 l2 l3 eq0 eg0 el0 eq1 eg1 el1 eq2 eg2 el2 eq3 eg3 el3 hw T2 T3 e2 e3, ez]
  refine ⟨?_, ?_, ?_⟩
  · have e : ∀ (h : Fin 4) (t : ℕ) (d : Fin 64), t < 256 * (k.val + 1) →
        row (dz (Q h) (K h) (V h) (D h)) (K h) t 2048 d = row (dz (Q h) (K h) (V h) (D h)) (K h) t (256 * (k.val + 1)) d := fun h t d ht => by
      rw [show 2048 = 256 * (k.val + 1) + (2048 - 256 * (k.val + 1)) from by omega]
      exact row_ext _ _ _ _ _ _ fun s hs => dz_zero _ _ _ _ (by omega)
    intro h s d hs
    rw [e h s.val d hs]
    refine (read_piece arg18.view f18 _ (h0 := 3) (k0_off25_eq k) h8 _ H3.1 h s d).trans ?_
    split
    · next hc => rw [hc.1]
    refine (read_piece arg18.view f18 _ (h0 := 2) (k0_off24_eq k) h8 _ H2.1 h s d).trans ?_
    split
    · next hc => rw [hc.1]
    refine (read_piece arg18.view f18 _ (h0 := 1) (k0_off23_eq k) h8 _ H1.1 h s d).trans ?_
    split
    · next hc => rw [hc.1]
    refine (read_piece arg18.view f18 _ (h0 := 0) (k0_off22_eq k) h8 _ H0.1 h s d).trans ?_
    split
    · next hc => rw [hc.1]
    next c3 c2 c1 c0 =>
    rw [← e h s.val d hs]
    refine x18 h s d ?_
    by_contra hn
    have hr : 256 * k.val ≤ s.val ∧ s.val < 256 * k.val + 256 := by omega
    fin_cases h
    · exact c0 ⟨rfl, hr⟩
    · exact c1 ⟨rfl, hr⟩
    · exact c2 ⟨rfl, hr⟩
    · exact c3 ⟨rfl, hr⟩
  · refine isA_congr (read_add4 arg19.view f19 _ h8 (k0_off22_eq k) (k0_off23_eq k) (k0_off24_eq k) (k0_off25_eq k) _ _ _ _
      (W := fun h => col (dz (Q h) (K h) (V h) (D h)) (Q h) (256 * (k.val + 1))) bk
      (fun x hx => H0.2.1 x (isB_congr hx fun s d h1 _ => sk_tile Q K V D _ _ 0 s d h1))
      (fun x hx => H1.2.1 x (isB_congr hx fun s d h1 _ => sk_tile Q K V D _ _ 1 s d h1))
      (fun x hx => H2.2.1 x (isB_congr hx fun s d h1 _ => sk_tile Q K V D _ _ 2 s d h1))
      (fun x hx => H3.2.1 x (isB_congr hx fun s d h1 _ => sk_tile Q K V D _ _ 3 s d h1)))
      fun h s d _ => (sk_next Q K V D _ _ h s d).trans (sk_turn Q K V D _ h s d)
  · refine isA_congr (read_add4 arg20.view f20 _ h8 (k0_off22_eq k) (k0_off23_eq k) (k0_off24_eq k) (k0_off25_eq k) _ _ _ _
      (W := fun h => col (wt (Q h) (K h)) (D h) (256 * (k.val + 1))) bv
      (fun x hx => H0.2.2 x (isB_congr hx fun s d h1 _ => sv_tile Q K D _ _ 0 s d h1))
      (fun x hx => H1.2.2 x (isB_congr hx fun s d h1 _ => sv_tile Q K D _ _ 1 s d h1))
      (fun x hx => H2.2.2 x (isB_congr hx fun s d h1 _ => sv_tile Q K D _ _ 2 s d h1))
      (fun x hx => H3.2.2 x (isB_congr hx fun s d h1 _ => sv_tile Q K D _ _ 3 s d h1)))
      fun h s d _ => (sv_next Q K D _ _ h s d).trans (sv_turn Q K D _ h s d)

/-- All query tiles. -/
theorem sweep1 (G18 : BufTy.Contents (Elt Ideal) arg18.view.ty) (G19 : BufTy.Contents (Elt Ideal) arg19.view.ty) (G20 : BufTy.Contents (Elt Ideal) arg20.view.ty)
    (hz19 : IsA (arg19.view.read (Elt Ideal) G19) fun _ _ _ => 0) (hz20 : IsA (arg20.view.read (Elt Ideal) G20) fun _ _ _ => 0) :
    ∀ n, n ≤ k0_t1_loop.trips →
      Out Q K V D n
        (arg18.view.read (Elt Ideal) (arg18.view.writes (Elt Ideal) G18 (Cert.AttnBwdIdeal.Loop.st (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 X5 X6 X7 X8 X9 X10 X11 X12 G19 G20 n).1))
        (arg19.view.read (Elt Ideal) (arg19.view.writes (Elt Ideal) G19 (Cert.AttnBwdIdeal.Loop.st (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 X5 X6 X7 X8 X9 X10 X11 X12 G19 G20 n).2.1))
        (arg20.view.read (Elt Ideal) (arg20.view.writes (Elt Ideal) G20 (Cert.AttnBwdIdeal.Loop.st (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 X5 X6 X7 X8 X9 X10 X11 X12 G19 G20 n).2.2)) := by
  intro n
  induction n with
  | zero =>
    intro _
    exact ⟨fun h s d hs => absurd hs (by omega), isA_congr hz19 fun h s d _ => by simp [SK, col], isA_congr hz20 fun h s d _ => by simp [SV, col]⟩
  | succ n ih =>
    intro hn
    have h1 := step 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 X5 X6 X7 X8 X9 X10 X11 X12 hQ hK hV hD hL hi he h9 ⟨n, hn⟩ _ _ _ (ih (by omega))
    rw [Cert.AttnBwdIdeal.Loop.st_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 X5 X6 X7 X8 X9 X10 X11 X12 G19 G20 ⟨n, hn⟩]
    simp only [View.writes_append]
    exact h1

end Cert.AttnS1

end
-- ==== Proof.AttnFin.lean ====
/- The finishing sweep: the norms' backward passes, and the sums for their scales. -/
module

public import proofs.«01_k».proof.Proof.AttnT4
public import proofs.«01_k».proof.Proof.AttnS1

@[expose] public section

set_option maxRecDepth 16384

noncomputable section

namespace Cert.AttnFin

open Idealize.ShloMosaic Idealize.ShloMosaic.TcCoe
open Cert.Reals Cert.AttnMath Cert.AttnTile Cert.AttnBuf Cert.AttnBwdIdeal Cert.AttnBwdIdeal.Gen

/-- A row's reciprocal root mean square. -/
def rst (x : ℕ → Fin 64 → ℝ) (t : ℕ) : ℝ := (Real.sqrt ((∑ d, x t d * x t d) / 64 + eps))⁻¹

/-- A normalised row. -/
def nrm (x : ℕ → Fin 64 → ℝ) (t : ℕ) (d : Fin 64) : ℝ := x t d * rst x t

/-- The norm's backward pass at the gradient `G` of the scaled row. -/
def bwd (x G : ℕ → Fin 64 → ℝ) (g : Fin 64 → ℝ) (t : ℕ) (d : Fin 64) : ℝ :=
  rst x t * (G t d * g d - nrm x t d * ((∑ j, G t j * g j * nrm x t j) / 64))

/-- The scale's gradient over the first `n` rows. -/
def dgain (x G : ℕ → Fin 64 → ℝ) (n : ℕ) (d : Fin 64) : ℝ := ∑ t ∈ Finset.range n, G t d * nrm x t d

theorem dgain_add (x G : ℕ → Fin 64 → ℝ) (n m : ℕ) (d : Fin 64) :
    dgain x G (n + m) d = dgain x G n d + ∑ i : Fin m, G (n + i.val) d * nrm x (n + i.val) d := by
  rw [dgain, dgain, Finset.sum_range_add, Fin.sum_univ_eq_sum_range (fun i => G (n + i) d * nrm x (n + i) d)]

theorem ms_pos (x : ℕ → Fin 64 → ℝ) (t : ℕ) : 0 < (∑ d, x t d * x t d) / 64 + eps :=
  add_pos_of_nonneg_of_pos (div_nonneg (Finset.sum_nonneg fun d _ => mul_self_nonneg _) (by norm_num)) eps_pos

theorem ofBits_64 : Ideal.ofBits .f32 0x42800000#32 = ((64 : ℝ) : EReal) := by
  simp [Ideal.ofBits, Ideal.ieee, -EReal.coe_mul]; norm_num

theorem ofBits_eighth : Ideal.ofBits .f32 0x3E000000#32 = ((1 / 8 : ℝ) : EReal) := by
  simp [Ideal.ofBits, Ideal.ieee, -EReal.coe_mul]; norm_num

theorem h64 : (64 : ℝ) ≠ 0 := by norm_num

section tile
variable {x : FVec Ideal S256x64 .f32} {X O : ℕ → Fin 64 → ℝ} {a : ℕ} {g s : FVec Ideal S1x64 .f32} {gr : Fin 64 → ℝ} {o : FVec Ideal S1x256x64 .f32}

theorem pay209 (hx : IsR x X a) : IsC (k0_pay209 (F := Ideal) x) (rst X) a := fun i => by
  pointwise [k0_pay209]
  simp only [hx i, sum_coe, ofBits_64, ofBits_eps, div_real _ h64, ← EReal.coe_mul, ← EReal.coe_add]
  exact rsqrt_real (ms_pos X _)

theorem pay211 (hx : IsR x X a) : IsR (k0_pay211 (F := Ideal) x) (nrm X) a := fun i d => by
  pointwise [k0_pay211]
  rw [pay209 hx i, hx i d, ← EReal.coe_mul]; rfl

theorem pay213 (ho : IsB o O a) : IsR (k0_pay213 (F := Ideal) o) (fun t d => O t d * (1 / 8)) a := fun i d => by
  pointwise [k0_pay213]
  rw [ho i d, ofBits_eighth, ← EReal.coe_mul]

theorem pay214 (ho : IsB o O a) : IsR (k0_pay214 (F := Ideal) o) (fun t d => -O t d) a := fun i d => by
  pointwise [k0_pay214]
  rw [ho i d, zero_sub, EReal.coe_neg]

theorem pay215 (ho : IsB o O a) (hg : ∀ d, g (ix2 (0 : Fin 1) d) = ((gr d : ℝ) : EReal)) : IsR (k0_pay215 (F := Ideal) o g) (fun t d => O t d * (1 / 8) * gr d) a := fun i d => by
  pointwise [k0_pay215]
  rw [pay213 ho i d, hg d, ← EReal.coe_mul]

theorem outq (hx : IsR x X a) (hg : ∀ d, g (ix2 (0 : Fin 1) d) = ((gr d : ℝ) : EReal)) (ho : IsB o O a) :
    IsR (AttnT4.outq x g o) (bwd X (fun t d => O t d * (1 / 8)) gr) a := fun i d => by
  have h1 := pay209 hx i
  have h2 := fun d => pay211 hx i d
  have h3 := fun d => pay215 ho hg i d
  unfold AttnT4.outq
  pointwise [k0_pay216]
  simp only [h1, h2, h3, sum_coe, ofBits_64, div_real _ h64, ← EReal.coe_mul, ← EReal.coe_sub]
  rfl

theorem outk (hx : IsR x X a) (hg : ∀ d, g (ix2 (0 : Fin 1) d) = ((gr d : ℝ) : EReal)) (ho : IsB o O a) :
    IsR (AttnT4.outk x g o) (bwd X (fun t d => -O t d) gr) a := fun i d => by
  have h1 : k0_pay210 (F := Ideal) x (ix2 i (0 : Fin 1)) = _ := pay209 hx i
  have h2 : ∀ d, k0_pay212 (F := Ideal) x (ix2 i d) = _ := fun d => pay211 hx i d
  have h3 := fun d => pay214 ho i d
  unfold AttnT4.outk
  pointwise [k0_pay217]
  simp only [h1, h2, h3, hg, sum_coe, ofBits_64, div_real _ h64, ← EReal.coe_mul, ← EReal.coe_sub]
  rfl

theorem outv (ho : IsB o O a) : IsR (AttnT4.outv o) O a := fun i d => by
  unfold AttnT4.outv
  pointwise [k0_pay218]
  exact ho i d

theorem sumq (hx : IsR x X a) (ho : IsB o O a) (hs : ∀ d, s (ix2 (0 : Fin 1) d) = ((dgain X (fun t d => O t d * (1 / 8)) (256 * a) d : ℝ) : EReal)) (d : Fin 64) :
    AttnT4.sumq x o s (ix2 (0 : Fin 1) d) = ((dgain X (fun t d => O t d * (1 / 8)) (256 * (a + 1)) d : ℝ) : EReal) := by
  have h2 := fun i => pay211 hx i d
  have h3 := fun i => pay213 ho i d
  unfold AttnT4.sumq
  pointwise [k0_pay219]
  simp only [h2, h3, hs, ← EReal.coe_mul, sum_coe, ← EReal.coe_add]
  rw [mul_add, mul_one, dgain_add]

theorem sumk (hx : IsR x X a) (ho : IsB o O a) (hs : ∀ d, s (ix2 (0 : Fin 1) d) = ((dgain X (fun t d => -O t d) (256 * a) d : ℝ) : EReal)) (d : Fin 64) :
    AttnT4.sumk x o s (ix2 (0 : Fin 1) d) = ((dgain X (fun t d => -O t d) (256 * (a + 1)) d : ℝ) : EReal) := by
  have h2 : ∀ i, k0_pay212 (F := Ideal) x (ix2 i d) = _ := fun i => pay211 hx i d
  have h3 := fun i => pay214 ho i d
  unfold AttnT4.sumk
  pointwise [k0_pay220]
  simp only [h2, h3, hs, ← EReal.coe_mul, sum_coe, ← EReal.coe_add]
  rw [mul_add, mul_one, dgain_add]
end tile

/-- Rows by the lanes of four heads hold `G`. -/
def IsW (x : FVec Ideal S2048x256 .f32) (G : Fin 4 → ℕ → Fin 64 → ℝ) : Prop :=
  ∀ (h : Fin 4) (s : Fin 2048) (d : Fin 64), x (ix2 s (⟨64 * h.val + d.val, by have := h.isLt; have := d.isLt; omega⟩ : Fin 256)) = ((G h s.val d : ℝ) : EReal)

/-- A block of one head's lanes, read. -/
theorem read_lanes (v : View sig .tc .vmem S2048x256 .f32) (X : BufTy.Contents (Elt Ideal) v.ty) {G : Fin 4 → ℕ → Fin 64 → ℝ} (hG : IsW (v.read (Elt Ideal) X) G)
    (h : Fin 4) {a : ℕ} (ha : a < 8) {o : Fin 2 → ℕ} (ho : o = ![256 * a, 64 * h.val]) (hb : ∀ i, o i + S256x64.size i ≤ S2048x256.size i) :
    IsR (v.readAt (Elt Ideal) (Rect.unit (s := S2048x256) o S256x64.size hb).toLoadRect X) (G h) a := by
  subst ho
  intro i d
  refine Eq.trans ?_ (hG h ⟨256 * a + i.val, by have := i.isLt; omega⟩ d)
  refine congrArg (v.read (Elt Ideal) X) ?_
  funext b
  apply Fin.ext
  match b with
  | 0 => exact (congrArg (256 * a + ·) (Nat.one_mul _))
  | 1 => exact (congrArg (64 * h.val + ·) (Nat.one_mul _))

/-- One piece: a block of one head's lanes, stored. -/
theorem read_lane_piece (v : View sig .tc .vmem S2048x256 .bf16) (f : BufTy.Contents (Elt Ideal) v.ty) (P : List (View.Piece (Elt Ideal) S2048x256 .bf16))
    {o : Fin 2 → ℕ} (h0 : Fin 4) {n : ℕ} (ho : o = ![256 * n, 64 * h0.val]) (hn : n < 8) (hb : ∀ a, o a + S256x64.size a ≤ S2048x256.size a) {W : ℕ → Fin 64 → ℝ}
    {y : FVec Ideal S256x64 .bf16} (hy : IsR y W n) (h : Fin 4) (s : Fin 2048) (d : Fin 64) :
    v.read (Elt Ideal) (v.writes (Elt Ideal) f (⟨Rect.unit (s := S2048x256) o S256x64.size hb, y⟩ :: P)) (ix2 s (⟨64 * h.val + d.val, by have := h.isLt; have := d.isLt; omega⟩ : Fin 256))
      = if h = h0 ∧ 256 * n ≤ s.val ∧ s.val < 256 * n + 256 then ((W s.val d : ℝ) : EReal)
        else v.read (Elt Ideal) (v.writes (Elt Ideal) f P) (ix2 s (⟨64 * h.val + d.val, by have := h.isLt; have := d.isLt; omega⟩ : Fin 256)) := by
  by_cases hc : h = h0 ∧ 256 * n ≤ s.val ∧ s.val < 256 * n + 256
  · rw [if_pos hc]
    obtain ⟨h1, h2, h3⟩ := hc
    have e := hy ⟨s.val - 256 * n, by omega⟩ d
    rw [show 256 * n + (⟨s.val - 256 * n, by omega⟩ : Fin 256).val = s.val from by show 256 * n + (s.val - 256 * n) = s.val; omega] at e
    rw [← e]
    refine View.read_writes_cons_unit_of_mem v f hb y P _ _ ho fun a => ?_
    subst h1
    match a with
    | 0 => show s.val = 256 * n + (s.val - 256 * n); omega
    | 1 => rfl
  · rw [if_neg hc]
    by_cases h1 : h = h0
    · refine View.read_writes_cons_unit_of_not_mem v f hb y P _ ho 0 ?_
      show s.val < 256 * n ∨ 256 * n + 256 ≤ s.val
      omega
    · refine View.read_writes_cons_unit_of_not_mem v f hb y P _ ho 1 ?_
      show 64 * h.val + d.val < 64 * h0.val ∨ 64 * h0.val + 64 ≤ 64 * h.val + d.val
      have : h.val ≠ h0.val := fun e => h1 (Fin.ext e)
      have := d.isLt
      omega

/-- The rows before tile `n` of a result hold `G`. -/
def Done (v : View sig .tc .vmem S2048x256 .bf16) (f : BufTy.Contents (Elt Ideal) v.ty) (n : ℕ) (P : List (View.Piece (Elt Ideal) S2048x256 .bf16)) (G : Fin 4 → ℕ → Fin 64 → ℝ) : Prop :=
  ∀ (h : Fin 4) (s : Fin 2048) (d : Fin 64), s.val < 256 * n → v.read (Elt Ideal) (v.writes (Elt Ideal) f P) (ix2 s (⟨64 * h.val + d.val, by have := h.isLt; have := d.isLt; omega⟩ : Fin 256)) = ((G h s.val d : ℝ) : EReal)

theorem done_succ (v : View sig .tc .vmem S2048x256 .bf16) (f : BufTy.Contents (Elt Ideal) v.ty) (P : List (View.Piece (Elt Ideal) S2048x256 .bf16)) {G : Fin 4 → ℕ → Fin 64 → ℝ} {n : ℕ} (hn : n < 8)
    {o0 o1 o2 o3 : Fin 2 → ℕ} (ho0 : o0 = ![256 * n, 0]) (ho1 : o1 = ![256 * n, 64]) (ho2 : o2 = ![256 * n, 128]) (ho3 : o3 = ![256 * n, 192])
    (hb0 : ∀ a, o0 a + S256x64.size a ≤ S2048x256.size a) (hb1 : ∀ a, o1 a + S256x64.size a ≤ S2048x256.size a) (hb2 : ∀ a, o2 a + S256x64.size a ≤ S2048x256.size a) (hb3 : ∀ a, o3 a + S256x64.size a ≤ S2048x256.size a)
    {y0 y1 y2 y3 : FVec Ideal S256x64 .bf16} (h0 : IsR y0 (G 0) n) (h1 : IsR y1 (G 1) n) (h2 : IsR y2 (G 2) n) (h3 : IsR y3 (G 3) n) (hP : Done v f n P G) :
    Done v f (n + 1) ([⟨Rect.unit (s := S2048x256) o3 S256x64.size hb3, y3⟩, ⟨Rect.unit (s := S2048x256) o2 S256x64.size hb2, y2⟩,
      ⟨Rect.unit (s := S2048x256) o1 S256x64.size hb1, y1⟩, ⟨Rect.unit (s := S2048x256) o0 S256x64.size hb0, y0⟩] ++ P) G := by
  intro h s d hs
  refine (read_lane_piece v f _ 3 ho3 hn hb3 h3 h s d).trans ?_
  split
  · next hc => rw [hc.1]
  refine (read_lane_piece v f _ 2 ho2 hn hb2 h2 h s d).trans ?_
  split
  · next hc => rw [hc.1]
  refine (read_lane_piece v f _ 1 ho1 hn hb1 h1 h s d).trans ?_
  split
  · next hc => rw [hc.1]
  refine (read_lane_piece v f _ 0 ho0 hn hb0 h0 h s d).trans ?_
  split
  · next hc => rw [hc.1]
  next c3 c2 c1 c0 =>
  refine hP h s d ?_
  by_contra hn
  have hr : 256 * n ≤ s.val ∧ s.val < 256 * n + 256 := by omega
  fin_cases h
  · exact c0 ⟨rfl, hr⟩
  · exact c1 ⟨rfl, hr⟩
  · exact c2 ⟨rfl, hr⟩
  · exact c3 ⟨rfl, hr⟩

/-- The sums carried before tile `n`. -/
def Sums (Xq Xk Gq Gk : Fin 4 → ℕ → Fin 64 → ℝ) (n : ℕ) (acc : FVec Ideal S1x64 .f32 × FVec Ideal S1x64 .f32 × FVec Ideal S1x64 .f32 × FVec Ideal S1x64 .f32 × FVec Ideal S1x64 .f32 × FVec Ideal S1x64 .f32 × FVec Ideal S1x64 .f32 × FVec Ideal S1x64 .f32) : Prop :=
  ∀ d : Fin 64, (acc.1 (ix2 (0 : Fin 1) d) = ((dgain (Xq 0) (Gq 0) (256 * n) d : ℝ) : EReal) ∧ acc.2.1 (ix2 (0 : Fin 1) d) = ((dgain (Xk 0) (Gk 0) (256 * n) d : ℝ) : EReal))
    ∧ (acc.2.2.1 (ix2 (0 : Fin 1) d) = ((dgain (Xq 1) (Gq 1) (256 * n) d : ℝ) : EReal) ∧ acc.2.2.2.1 (ix2 (0 : Fin 1) d) = ((dgain (Xk 1) (Gk 1) (256 * n) d : ℝ) : EReal))
    ∧ (acc.2.2.2.2.1 (ix2 (0 : Fin 1) d) = ((dgain (Xq 2) (Gq 2) (256 * n) d : ℝ) : EReal) ∧ acc.2.2.2.2.2.1 (ix2 (0 : Fin 1) d) = ((dgain (Xk 2) (Gk 2) (256 * n) d : ℝ) : EReal))
    ∧ (acc.2.2.2.2.2.2.1 (ix2 (0 : Fin 1) d) = ((dgain (Xq 3) (Gq 3) (256 * n) d : ℝ) : EReal) ∧ acc.2.2.2.2.2.2.2 (ix2 (0 : Fin 1) d) = ((dgain (Xk 3) (Gk 3) (256 * n) d : ℝ) : EReal))

variable (𝒱 : Variants) (c : Dev nD) (bd : Option 𝒱.V) (i : grid0.Coords) (arg1 : Memref sig .tc .vmem S2048x256 .f32) (harg1 : arg1.IsWhole) (arg2 : Memref sig .tc .vmem S2048x256 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x2048x256 .f32) (harg5 : arg5.IsWhole) (arg6 : Memref sig .tc .vmem S2048x256 .f32) (harg6 : arg6.IsWhole) (arg7 : Memref sig .tc .vmem S256x256 .bf16) (harg7 : arg7.IsWhole) (arg8 : Memref sig .tc .vmem S256x256 .bf16) (harg8 : arg8.IsWhole) (arg9 : Memref sig .tc .smem S2x8 .f32) (harg9 : arg9.IsWhole) (arg10 : Memref sig .tc .vmem S4x2048x64 .bf16) (harg10 : arg10.IsWhole) (arg11 : Memref sig .tc .vmem S4x2048x64 .bf16) (harg11 : arg11.IsWhole) (arg12 : Memref sig .tc .vmem S4x2048x64 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S1x64 .f32) (harg16 : arg16.IsWhole) (arg17 : Memref sig .tc .vmem S1x64 .f32) (harg17 : arg17.IsWhole) (arg18 : Memref sig .tc .vmem S4x2048x64 .f32) (harg18 : arg18.IsWhole) (arg19 : Memref sig .tc .vmem S4x2048x64 .f32) (harg19 : arg19.IsWhole) (arg20 : Memref sig .tc .vmem S4x2048x64 .f32) (harg20 : arg20.IsWhole) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X18 : BufTy.Contents (Elt Ideal) arg18.view.ty) (X19 : BufTy.Contents (Elt Ideal) arg19.view.ty) (X20 : BufTy.Contents (Elt Ideal) arg20.view.ty)
  {Xq Xk Oq Ok Ov : Fin 4 → ℕ → Fin 64 → ℝ} {gq gk : Fin 64 → ℝ}
  (h1 : IsW (arg1.view.read (Elt Ideal) X1) Xq) (h2 : IsW (arg2.view.read (Elt Ideal) X2) Xk)
  (h3 : ∀ d, (View.readAt (Elt Ideal) arg3.view (Rect.unit (s := S1x64) ![0, 0] S1x64.size inb_S1x64_S1x64_0_0).toLoadRect X3) (ix2 (0 : Fin 1) d) = ((gq d : ℝ) : EReal)) (h4 : ∀ d, (View.readAt (Elt Ideal) arg4.view (Rect.unit (s := S1x64) ![0, 0] S1x64.size inb_S1x64_S1x64_0_0).toLoadRect X4) (ix2 (0 : Fin 1) d) = ((gk d : ℝ) : EReal))
  (h18 : IsA (arg18.view.read (Elt Ideal) X18) Oq) (h19 : IsA (arg19.view.read (Elt Ideal) X19) Ok) (h20 : IsA (arg20.view.read (Elt Ideal) X20) Ov)
include h1 h2 h3 h4 h18 h19 h20

/-- All tiles of the finishing sweep. -/
theorem sweep (init : FVec Ideal S1x64 .f32 × FVec Ideal S1x64 .f32 × FVec Ideal S1x64 .f32 × FVec Ideal S1x64 .f32 × FVec Ideal S1x64 .f32 × FVec Ideal S1x64 .f32 × FVec Ideal S1x64 .f32 × FVec Ideal S1x64 .f32) (hz : Sums Xq Xk (fun h t d => Oq h t d * (1 / 8)) (fun h t d => -Ok h t d) 0 init)
    (f13 : BufTy.Contents (Elt Ideal) arg13.view.ty) (f14 : BufTy.Contents (Elt Ideal) arg14.view.ty) (f15 : BufTy.Contents (Elt Ideal) arg15.view.ty) :
    ∀ n, n ≤ k0_t4_loop.trips →
      Sums Xq Xk (fun h t d => Oq h t d * (1 / 8)) (fun h t d => -Ok h t d) n (st_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X1 X2 X3 X4 X18 X19 X20 init n).1
      ∧ Done arg13.view f13 n (st_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X1 X2 X3 X4 X18 X19 X20 init n).2.1 (fun h => bwd (Xq h) (fun t d => Oq h t d * (1 / 8)) gq)
      ∧ Done arg14.view f14 n (st_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X1 X2 X3 X4 X18 X19 X20 init n).2.2.1 (fun h => bwd (Xk h) (fun t d => -Ok h t d) gk)
      ∧ Done arg15.view f15 n (st_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X1 X2 X3 X4 X18 X19 X20 init n).2.2.2 Ov := by
  intro n
  induction n with
  | zero => exact fun _ => ⟨hz, fun h s d hs => absurd hs (by omega), fun h s d hs => absurd hs (by omega), fun h s d hs => absurd hs (by omega)⟩
  | succ n ih =>
    intro hn
    have h8 : n < 8 := hn
    obtain ⟨k, hk⟩ : ∃ k : Fin k0_t4_loop.trips, k.val = n := ⟨⟨n, hn⟩, rfl⟩
    subst hk
    obtain ⟨i0, i13, i14, i15⟩ := ih (by omega)
    rw [st_k0_t4_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X1 X2 X3 X4 X18 X19 X20 init k]
    dsimp only [tripR_k0_t4, tripL_k0_t4]
    rw [AttnT4.trip_res, AttnT4.trip_dq, AttnT4.trip_dk, AttnT4.trip_dv]
    have q0 := read_lanes arg1.view X1 h1 0 h8 (k0_off26_eq k) (k0_off26_inb k)
    have k0 := read_lanes arg2.view X2 h2 0 h8 (k0_off26_eq k) (k0_off26_inb k)
    have a0 := read_block arg18.view X18 (h0 := 0) (k0_off27_eq k) h8 (k0_off27_inb k) h18
    have b0 := read_block arg19.view X19 (h0 := 0) (k0_off27_eq k) h8 (k0_off27_inb k) h19
    have c0 := read_block arg20.view X20 (h0 := 0) (k0_off27_eq k) h8 (k0_off27_inb k) h20
    have q1 := read_lanes arg1.view X1 h1 1 h8 (k0_off28_eq k) (k0_off28_inb k)
    have k1 := read_lanes arg2.view X2 h2 1 h8 (k0_off28_eq k) (k0_off28_inb k)
    have a1 := read_block arg18.view X18 (h0 := 1) (k0_off29_eq k) h8 (k0_off29_inb k) h18
    have b1 := read_block arg19.view X19 (h0 := 1) (k0_off29_eq k) h8 (k0_off29_inb k) h19
    have c1 := read_block arg20.view X20 (h0 := 1) (k0_off29_eq k) h8 (k0_off29_inb k) h20
    have q2 := read_lanes arg1.view X1 h1 2 h8 (k0_off30_eq k) (k0_off30_inb k)
    have k2 := read_lanes arg2.view X2 h2 2 h8 (k0_off30_eq k) (k0_off30_inb k)
    have a2 := read_block arg18.view X18 (h0 := 2) (k0_off31_eq k) h8 (k0_off31_inb k) h18
    have b2 := read_block arg19.view X19 (h0 := 2) (k0_off31_eq k) h8 (k0_off31_inb k) h19
    have c2 := read_block arg20.view X20 (h0 := 2) (k0_off31_eq k) h8 (k0_off31_inb k) h20
    have q3 := read_lanes arg1.view X1 h1 3 h8 (k0_off32_eq k) (k0_off32_inb k)
    have k3 := read_lanes arg2.view X2 h2 3 h8 (k0_off32_eq k) (k0_off32_inb k)
    have a3 := read_block arg18.view X18 (h0 := 3) (k0_off33_eq k) h8 (k0_off33_inb k) h18
    have b3 := read_block arg19.view X19 (h0 := 3) (k0_off33_eq k) h8 (k0_off33_inb k) h19
    have c3 := read_block arg20.view X20 (h0 := 3) (k0_off33_eq k) h8 (k0_off33_inb k) h20
    refine ⟨fun d => ⟨⟨sumq q0 a0 (fun d => (i0 d).1.1) d, sumk k0 b0 (fun d => (i0 d).1.2) d⟩, ⟨sumq q1 a1 (fun d => (i0 d).2.1.1) d, sumk k1 b1 (fun d => (i0 d).2.1.2) d⟩,
      ⟨sumq q2 a2 (fun d => (i0 d).2.2.1.1) d, sumk k2 b2 (fun d => (i0 d).2.2.1.2) d⟩, ⟨sumq q3 a3 (fun d => (i0 d).2.2.2.1) d, sumk k3 b3 (fun d => (i0 d).2.2.2.2) d⟩⟩, ?_, ?_, ?_⟩
    · exact done_succ arg13.view f13 _ h8 (k0_off26_eq k) (k0_off28_eq k) (k0_off30_eq k) (k0_off32_eq k) _ _ _ _ (outq q0 h3 a0) (outq q1 h3 a1) (outq q2 h3 a2) (outq q3 h3 a3) i13
    · exact done_succ arg14.view f14 _ h8 (k0_off26_eq k) (k0_off28_eq k) (k0_off30_eq k) (k0_off32_eq k) _ _ _ _ (outk k0 h4 b0) (outk k1 h4 b1) (outk k2 h4 b2) (outk k3 h4 b3) i14
    · exact done_succ arg15.view f15 _ h8 (k0_off26_eq k) (k0_off28_eq k) (k0_off30_eq k) (k0_off32_eq k) _ _ _ _ (outv c0) (outv c1) (outv c2) (outv c3) i15

end Cert.AttnFin

end
-- ==== Proof.AttnPt.lean ====
/- One grid point's body, from what its windows hold to what it leaves. -/
module

public import proofs.«01_k».proof.Proof.AttnFin
public import proofs.«01_k».proof.Proof.AttnOut
public import Idealize.ShloMosaic.Lib.WholeRead

@[expose] public section

set_option maxRecDepth 16384

noncomputable section

namespace Cert.AttnPt

open Idealize.ShloMosaic Idealize.ShloMosaic.TcCoe
open Cert.Reals Cert.AttnMath Cert.AttnTile Cert.AttnBuf Cert.AttnS2 Cert.AttnS1 Cert.AttnFin Cert.AttnBwdIdeal Cert.AttnBwdIdeal.Gen Cert.AttnBwdIdeal.Out

theorem n8 : N8 = 8 := by decide +kernel

theorem fptosi_zero : Scalar.fptosi (F := Ideal) (φ := .f32) 32 (0 : EReal) = 0#32 := by
  change BitVec.ofInt 32 (Ideal.toIntClamped _ _ ((0 : ℝ) : EReal)) = 0#32
  rw [Ideal.toIntClamped_coe]; norm_num

/-- A block holds `G h` in the first lane of head `h`. -/
def IsL (x : FVec Ideal S1x2048x256 .f32) (G : Fin 4 → ℕ → ℝ) : Prop :=
  ∀ (h : Fin 4) (s : Fin 2048), x (ix3 (0 : Fin 1) s (⟨64 * h.val, by have := h.isLt; omega⟩ : Fin 256)) = ((G h s.val : ℝ) : EReal)

/-- A buffer filled with zeros. -/
theorem zero_fill (v : View sig .tc .vmem S4x2048x64 .f32) (f : BufTy.Contents (Elt Ideal) v.ty) (x : FVec Ideal S4x2048x64 .f32) (hx : ∀ h s d, x (ix3 h s d) = 0) :
    IsA (v.read (Elt Ideal) (v.writes (Elt Ideal) f [⟨Rect.unit (s := S4x2048x64) ![0, 0, 0] S4x2048x64.size inb_S4x2048x64_S4x2048x64_0_0_0, x⟩])) fun _ _ _ => 0 := by
  intro h s d
  refine Eq.trans (View.read_writes_cons_unit_of_mem v f _ x [] _ (ix3 h s d) rfl fun a => ?_) (hx h s d)
  match a with
  | 0 => exact (Nat.zero_add _).symm
  | 1 => exact (Nat.zero_add _).symm
  | 2 => exact (Nat.zero_add _).symm

variable (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x2048x256 .f32) (harg5 : arg5.IsWhole) (arg6 : Memref sig .tc .vmem S2048x256 .f32) (harg6 : arg6.IsWhole) (arg7 : Memref sig .tc .vmem S256x256 .bf16) (harg7 : arg7.IsWhole) (arg8 : Memref sig .tc .vmem S256x256 .bf16) (harg8 : arg8.IsWhole) (arg9 : Memref sig .tc .smem S2x8 .f32) (harg9 : arg9.IsWhole) (arg10 : Memref sig .tc .vmem S4x2048x64 .bf16) (harg10 : arg10.IsWhole) (arg11 : Memref sig .tc .vmem S4x2048x64 .bf16) (harg11 : arg11.IsWhole) (arg12 : Memref sig .tc .vmem S4x2048x64 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S1x64 .f32) (harg16 : arg16.IsWhole) (arg17 : Memref sig .tc .vmem S1x64 .f32) (harg17 : arg17.IsWhole) (arg18 : Memref sig .tc .vmem S4x2048x64 .f32) (harg18 : arg18.IsWhole) (arg19 : Memref sig .tc .vmem S4x2048x64 .f32) (harg19 : arg19.IsWhole) (arg20 : Memref sig .tc .vmem S4x2048x64 .f32) (harg20 : arg20.IsWhole) (x1 : Vec Ideal S2048x256 .f32) (x2 : Vec Ideal S2048x256 .f32) (x3 : Vec Ideal S1x64 .f32) (x4 : Vec Ideal S1x64 .f32) (x5 : Vec Ideal S1x2048x256 .f32) (x6 : Vec Ideal S2048x256 .f32) (x7 : Vec Ideal S256x256 .bf16) (x8 : Vec Ideal S256x256 .bf16) (x9 : Vec Ideal S2x8 .f32) (x10 : Vec Ideal S4x2048x64 .bf16) (x11 : Vec Ideal S4x2048x64 .bf16) (x12 : Vec Ideal S4x2048x64 .bf16)
  {Xq Xk Q K V D : Fin 4 → ℕ → Fin 64 → ℝ} {gq gk : Fin 64 → ℝ}
  (h1 : IsW x1 Xq) (h2 : IsW x2 Xk) (h3 : ∀ d, x3 (ix2 (0 : Fin 1) d) = ((gq d : ℝ) : EReal)) (h4 : ∀ d, x4 (ix2 (0 : Fin 1) d) = ((gk d : ℝ) : EReal))
  (h5 : IsL x5 fun h s => cum (lm (Q h) (K h)) s 2048)
  (h6 : IsW x6 D) (h7 : IsLe x7) (h8 : IsLt x8) (h9 : ∀ j, x9 j = (0 : EReal)) (h10 : IsA x10 Q) (h11 : IsA x11 K) (h12 : IsA x12 V)
include h5 h6 h7 h8 h9 h10 h11 h12

/-- The three accumulators after the sweep over the query tiles. -/
theorem swept :
    IsA (arg18.view.read (Elt Ideal) (S18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12)) (fun h t d => row (dz (Q h) (K h) (V h) (D h)) (K h) t 2048 d)
    ∧ IsA (arg19.view.read (Elt Ideal) (S19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12)) (fun h s d => col (dz (Q h) (K h) (V h) (D h)) (Q h) 2048 s d)
    ∧ IsA (arg20.view.read (Elt Ideal) (S20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12)) (fun h s d => col (wt (Q h) (K h)) (D h) 2048 s d) := by
  have S := sweep1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 ↑(i 0)) (harg5.unread x5) (harg6.unread x6) (harg7.unread x7) (harg8.unread x8) (harg9.unread x9) (harg10.unread x10) (harg11.unread x11) (harg12.unread x12)
    (Q := Q) (K := K) (V := V) (D := D) ((harg10.read_unread x10).symm ▸ h10) ((harg11.read_unread x11).symm ▸ h11) ((harg12.read_unread x12).symm ▸ h12)
    ((harg6.read_unread x6).symm ▸ h6) ((harg5.read_unread x5).symm ▸ h5)
    (fun a b => by
      refine Eq.trans (Memref.IsWhole.readAt_unread harg7 x7 _ _) (Eq.trans (congrArg x7 ?_) (h7 a b))
      funext z; apply Fin.ext
      match z with
      | 0 => exact (Nat.zero_add _).trans (Nat.one_mul _)
      | 1 => exact (Nat.zero_add _).trans (Nat.one_mul _))
    (fun a b => by
      refine Eq.trans (Memref.IsWhole.readAt_unread harg8 x8 _ _) (Eq.trans (congrArg x8 ?_) (h8 a b))
      funext z; apply Fin.ext
      match z with
      | 0 => exact (Nat.zero_add _).trans (Nat.one_mul _)
      | 1 => exact (Nat.zero_add _).trans (Nat.one_mul _))
    (fun k => (congrArg (Scalar.fptosi (F := Ideal) (φ := .f32) 32) ((Memref.IsWhole.readAt_unread harg9 x9 _ _).trans (h9 _))).trans fptosi_zero)
    arg18.view.junk _ _
    (zero_fill arg19.view arg19.view.junk k0_pay262 fun h s d => by pointwise [k0_pay262])
    (zero_fill arg20.view arg20.view.junk k0_pay263 fun h s d => by pointwise [k0_pay263]) N8 (by decide +kernel)
  obtain ⟨a, b, e⟩ := S
  rw [n8] at a b e
  refine ⟨?_, ?_, ?_⟩
  · intro h s d
    exact a h s d s.isLt
  · unfold S19
    rw [View.writes_append]
    exact isA_congr b fun h s d _ => rfl
  · unfold S20
    rw [View.writes_append]
    exact isA_congr e fun h s d _ => rfl

include h1 h2 h3 h4
/-- What the finishing sweep leaves. -/
theorem finished (f13 : BufTy.Contents (Elt Ideal) arg13.view.ty) (f14 : BufTy.Contents (Elt Ideal) arg14.view.ty) (f15 : BufTy.Contents (Elt Ideal) arg15.view.ty) :
    Sums Xq Xk (fun h t d => row (dz (Q h) (K h) (V h) (D h)) (K h) t 2048 d * (1 / 8)) (fun h s d => -col (dz (Q h) (K h) (V h) (D h)) (Q h) 2048 s d) 8 (fin (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12).1
    ∧ Done arg13.view f13 8 (fin (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12).2.1 (fun h => bwd (Xq h) (fun t d => row (dz (Q h) (K h) (V h) (D h)) (K h) t 2048 d * (1 / 8)) gq)
    ∧ Done arg14.view f14 8 (fin (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12).2.2.1 (fun h => bwd (Xk h) (fun s d => -col (dz (Q h) (K h) (V h) (D h)) (Q h) 2048 s d) gk)
    ∧ Done arg15.view f15 8 (fin (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12).2.2.2 (fun h s d => col (wt (Q h) (K h)) (D h) 2048 s d) := by
  obtain ⟨a, b, e⟩ := swept c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12 h5 h6 h7 h8 h9 h10 h11 h12
  have S := AttnFin.sweep Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg1.unread x1) (harg2.unread x2) (harg3.unread x3) (harg4.unread x4)
    (S18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12) (S19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12) (S20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12)
    (Xq := Xq) (Xk := Xk) (gq := gq) (gk := gk) ((harg1.read_unread x1).symm ▸ h1) ((harg2.read_unread x2).symm ▸ h2)
    (fun d => by
      refine Eq.trans (Memref.IsWhole.readAt_unread harg3 x3 _ _) (Eq.trans (congrArg x3 ?_) (h3 d))
      funext z; apply Fin.ext
      match z with
      | 0 => rfl
      | 1 => exact (Nat.zero_add _).trans (Nat.one_mul _))
    (fun d => by
      refine Eq.trans (Memref.IsWhole.readAt_unread harg4 x4 _ _) (Eq.trans (congrArg x4 ?_) (h4 d))
      funext z; apply Fin.ext
      match z with
      | 0 => rfl
      | 1 => exact (Nat.zero_add _).trans (Nat.one_mul _))
    a b e (k0_pay269, k0_pay269, k0_pay269, k0_pay269, k0_pay269, k0_pay269, k0_pay269, k0_pay269)
    (fun d => by
      have z : (k0_pay269 : FVec Ideal S1x64 .f32) (ix2 (0 : Fin 1) d) = 0 := by pointwise [k0_pay269]
      have y : ∀ (x G : ℕ → Fin 64 → ℝ), ((dgain x G (256 * 0) d : ℝ) : EReal) = 0 := fun x G => by simp [dgain]
      simp only [y]
      exact ⟨⟨z, z⟩, ⟨z, z⟩, ⟨z, z⟩, ⟨z, z⟩⟩)
    f13 f14 f15 N8 (by decide +kernel)
  obtain ⟨s0, s1, s2, s3⟩ := S
  have e8 := n8
  exact ⟨fun d => e8 ▸ s0 d, fun h s d hs => s1 h s d (by omega), fun h s d hs => s2 h s d (by omega), fun h s d hs => s3 h s d (by omega)⟩

end Cert.AttnPt

end
-- ==== Proof.AttnHost.lean ====
/- What the host lines before the attention backward kernel leave, at an index. -/
module

public import proofs.«01_k».proof.Proof.AttnPt
public import proofs.«01_k».proof.Proof.AttnFrm
public import Idealize.ShloMosaic.Lib.Pipeline.ValueKit
public import Idealize.ShloMosaic.Lib.Claim
public import Idealize.ShloMosaic.Lib.WordCmp
public import Idealize.ShloMosaic.Lib.StableHlo.RunRead

@[expose] public section

set_option maxRecDepth 16384

noncomputable section

namespace Cert.AttnHost

open Idealize.ShloMosaic Idealize.ShloMosaic.TcCoe
open Cert.Reals Cert.AttnMath Cert.AttnTile Cert.AttnFin Cert.AttnBwdIdeal Cert.AttnBwdIdeal.Gen

/-- One of the projection's three parts, by heads. -/
def part (o : ℕ) (h : S2048x2560.Slices ![0, o] S2048x512) (X : FVec Ideal S2048x2560 .f32) : FVec Ideal S2048x8x64 .f32 :=
  shapeCast S2048x8x64 (extractStridedSlice S2048x512 ![0, o] X h) shapeCasts_S2048x512_S2048x8x64

/-- Rows normalised and scaled. -/
def norm (x : FVec Ideal S2048x8x64 .f32) (g : FVec Ideal S1x64 .f32) : FVec Ideal S2048x8x64 .f32 :=
  mulf (mulf x (broadcastInDim S2048x8x64 ![0, 1, 2] bcast_S2048x8x1_S2048x8x64_0_1_2
      (Host.rsqrt (addf (Host.divf (broadcastInDim S2048x8x1 ![0, 1] bcast_S2048x8_S2048x8x1_0_1
        (Host.reduceAdd (mulf x x) (constant S_ .f32 0x00000000#32) reducesTo_S2048x8x64_S2048x8_d2 h_S_))
        (broadcastInDim S2048x8x1 ![] bcast_S_S2048x8x1 (constant S_ .f32 0x42800000#32)))
        (broadcastInDim S2048x8x1 ![] bcast_S_S2048x8x1 (constant S_ .f32 0x358637BD#32))))))
    (broadcastInDim S2048x8x64 ![0, 1, 2] bcast_S1x1x64_S2048x8x64_0_1_2 (broadcastInDim S1x1x64 ![1, 2] bcast_S1x64_S1x1x64_1_2 g))

/-- A triangle of ones. -/
def tri (p : CmpIPredicate) : FVec Ideal S256x256 .bf16 :=
  uitofp .bf16 (cmpi p
    (broadcastInDim S256x256 ![0, 1] bcast_S256x1_S256x256_0_1 (broadcastInDim S256x1 ![0] bcast_S256_S256x1_0 (iotaInDim S256 32 0)))
    (broadcastInDim S256x256 ![0, 1] bcast_S1x256_S256x256_0_1 (broadcastInDim S1x256 ![1] bcast_S256_S1x256_1 (iotaInDim S256 32 0))))

/-- The logarithms of what each position leaves, from the scores. -/
def logs (s : FVec Ideal S8x2048x2048 .f32) : FVec Ideal S8x2048x2048 .f32 :=
  subf (minimumf s (broadcastInDim S8x2048x2048 ![] bcast_S_S8x2048x2048 (constant S_ .f32 0x00000000#32)))
    (Host.log (addf (broadcastInDim S8x2048x2048 ![] bcast_S_S8x2048x2048 (constant S_ .f32 0x3F800000#32)) (Host.exp (Host.negf (Host.absf s)))))

/-- The logarithms under the diagonal, summed along each row. -/
def total (s : FVec Ideal S8x2048x2048 .f32) : FVec Ideal S8x2048 .f32 :=
  Host.reduceAdd (extf .f32 (truncf .bf16 (select
      (broadcastInDim S8x2048x2048 ![1, 2] bcast_S2048x2048_S8x2048x2048_1_2 (cmpi .slt (iotaInDim S2048x2048 32 1) (iotaInDim S2048x2048 32 0)))
      (logs s) (broadcastInDim S8x2048x2048 ![] bcast_S_S8x2048x2048 (constant S_ .f32 0x00000000#32))) bitsLt_bf16_f32) bitsLt_bf16_f32)
    (constant S_ .f32 0x00000000#32) reducesTo_S8x2048x2048_S8x2048_d2 h_S_

/-- The rows' sums, laid out by pairs of heads' lanes. -/
def lay (t : FVec Ideal S8x2048 .f32) : FVec Ideal S2x2048x256 .f32 :=
  shapeCast S2x2048x256 (broadcastInDim S2x2048x4x64 ![0, 1, 2, 3] bcast_S2x2048x4x1_S2x2048x4x64_0_1_2_3
    (broadcastInDim S2x2048x4x1 ![0, 1, 2] bcast_S2x2048x4_S2x2048x4x1_0_1_2
      (transpose S2x2048x4 [0, 2, 1] (shapeCast S2x4x2048 t shapeCasts_S8x2048_S2x4x2048) transposes_S2x4x2048_S2x2048x4_0_2_1))) shapeCasts_S2x2048x4x64_S2x2048x256

section
variable (m : (ℓ : Loc nD τ sig) → Buf (Elt Ideal) ℓ) (c : Dev nD)

/-- The projection, the two scales and the incoming gradient, on device `c`. -/
abbrev X : FVec Ideal S2048x2560 .f32 := m ((c : Thread nD τ).loc main_arg0)
abbrev Gq : FVec Ideal S1x64 .f32 := m ((c : Thread nD τ).loc main_arg1)
abbrev Gk : FVec Ideal S1x64 .f32 := m ((c : Thread nD τ).loc main_arg2)
abbrev C : FVec Ideal S2048x1024 .f32 := m ((c : Thread nD τ).loc main_arg3)

theorem v22 : V m c main_v22 = (transpose S8x2048x64 [1, 0, 2] (truncf .bf16 (mulf (norm (part 0 slices_S2048x2560_S2048x512_0_0 (X m c)) (Gq m c))
    (broadcastInDim S2048x8x64 ![] bcast_S_S2048x8x64 (constant S_ .f32 0xBE000000#32))) bitsLt_bf16_f32) transposes_S2048x8x64_S8x2048x64_1_0_2 : FVec Ideal S8x2048x64 .bf16) := by
  after_reads_simp
  rfl
theorem v37 : V m c main_v37 = (transpose S8x2048x64 [1, 0, 2] (truncf .bf16 (norm (part 512 slices_S2048x2560_S2048x512_0_512 (X m c)) (Gk m c)) bitsLt_bf16_f32)
    transposes_S2048x8x64_S8x2048x64_1_0_2 : FVec Ideal S8x2048x64 .bf16) := by
  after_reads_simp
  rfl
theorem v39 : V m c main_v39 = (transpose S8x2048x64 [1, 0, 2] (truncf .bf16 (part 1024 slices_S2048x2560_S2048x512_0_1024 (X m c)) bitsLt_bf16_f32)
    transposes_S2048x8x64_S8x2048x64_1_0_2 : FVec Ideal S8x2048x64 .bf16) := by
  after_reads_simp
  rfl
theorem v61 : V m c main_v61 = lay (total (Host.dotGeneral dot_S8x2048x64_S8x2048x64_S8x2048x2048_2_2_1_1_0_0 (φ₁ := .bf16) (φ₂ := .bf16) none
    (V m c main_v22 : FVec Ideal S8x2048x64 .bf16) (V m c main_v37 : FVec Ideal S8x2048x64 .bf16))) := by
  rw [v22, v37]
  after_reads_simp
  rfl
theorem v62 : V m c main_v62 = (broadcastInDim S2x8 ![] bcast_S_S2x8 (constant S_ .f32 0x00000000#32) : FVec Ideal S2x8 .f32) := by
  after_reads_simp
theorem v74 : V m c main_v74 = tri .sle := by
  after_reads_simp
  rfl
theorem v78 : V m c main_v78 = tri .slt := by
  after_reads_simp
  rfl
end

theorem ofBits_neg_eighth : Ideal.ofBits .f32 0xBE000000#32 = ((-(1 / 8) : ℝ) : EReal) := by
  simp [Ideal.ofBits, Ideal.ieee, -EReal.coe_mul]; norm_num

theorem bit_real (p : Prop) [Decidable p] : FloatOps.uitofp (F := Ideal) .bf16 (BitVec.ofBool (decide p)) = ((if p then 1 else 0 : ℝ) : EReal) := by
  change (((BitVec.ofBool (decide p)).toNat : ℝ) : EReal) = _
  by_cases h : p <;> simp [h]

theorem tri_le : IsLe (tri .sle) := fun i j => by
  have hi := i.isLt; have hj := j.isLt
  unfold tri
  pointwise []
  word_cmp
  exact bit_real _

theorem tri_lt : IsLt (tri .slt) := fun i j => by
  have hi := i.isLt; have hj := j.isLt
  unfold tri
  pointwise []
  word_cmp
  exact bit_real _

theorem norm_at {x : FVec Ideal S2048x8x64 .f32} {g : FVec Ideal S1x64 .f32} {R : Fin 8 → ℕ → Fin 64 → ℝ} {G : Fin 64 → ℝ}
    (hx : ∀ s h d, x (ix3 s h d) = ((R h s.val d : ℝ) : EReal)) (hg : ∀ d, g (ix2 (0 : Fin 1) d) = ((G d : ℝ) : EReal)) (s : Fin 2048) (h : Fin 8) (d : Fin 64) :
    norm x g (ix3 s h d) = ((nrm (R h) s.val d * G d : ℝ) : EReal) := by
  pointwise [norm]
  simp only [hx, hg, sum_coe, ofBits_64, ofBits_eps, div_real _ h64, ← EReal.coe_mul, ← EReal.coe_add]
  rw [rsqrt_real (ms_pos (R h) _), ← EReal.coe_mul, ← EReal.coe_mul]
  rfl

theorem part_at (o : ℕ) (ho : S2048x2560.Slices ![0, o] S2048x512) (hb : o + 512 ≤ 2560) (X : FVec Ideal S2048x2560 .f32) (s : Fin 2048) (h : Fin 8) (d : Fin 64) :
    part o ho X (ix3 s h d) = X (ix2 s (⟨o + (64 * h.val + d.val), by have := h.isLt; have := d.isLt; omega⟩ : Fin 2560)) := by
  unfold part
  pointwise []
  exact congrArg (fun z : Fin 2560 => X (ix2 s z)) (Fin.ext (by show o + (h.val * 64 + d.val) = o + (64 * h.val + d.val); omega))

theorem total_at {s : FVec Ideal S8x2048x2048 .f32} {Q K : Fin 8 → ℕ → Fin 64 → ℝ} (hs : ∀ h t u, s (ix3 h t u) = ((sc (Q h) (K h) t.val u.val : ℝ) : EReal)) (h : Fin 8) (t : Fin 2048) :
    total s (ix2 h t) = ((cum (lm (Q h) (K h)) t.val 2048 : ℝ) : EReal) := by
  pointwise [total, logs]
  have e : ∀ x : Fin 2048, Scalar.select (IntOp.cmpi CmpIPredicate.slt (BitVec.ofNat 32 x.val) (BitVec.ofNat 32 t.val))
      (min (s (ix3 h t x)) 0 - Ideal.log (1 + Ideal.exp (-FloatOps.absf (F := Ideal) (φ := .f32) (s (ix3 h t x))))) 0 = ((lm (Q h) (K h) t.val x.val : ℝ) : EReal) := by
    intro x
    have hx := x.isLt; have ht := t.isLt
    rw [hs]
    have q := lsig_eq (sc (Q h) (K h) t.val x.val)
    rw [EReal.coe_zero, EReal.coe_one, zero_sub] at q
    unfold lm
    word_cmp
    split
    · exact q
    · rfl
  rw [Finset.sum_congr rfl fun x _ => e x, sum_coe, cum, Fin.sum_univ_eq_sum_range (fun x => lm (Q h) (K h) t.val x)]

theorem lay_at (t : FVec Ideal S8x2048 .f32) (p : Fin 2) (s : Fin 2048) (h : Fin 4) :
    lay t (ix3 p s (⟨64 * h.val, by have := h.isLt; omega⟩ : Fin 256)) = t (ix2 (⟨4 * p.val + h.val, by have := h.isLt; have := p.isLt; omega⟩ : Fin 8) s) := by
  unfold lay
  pointwise []
  congr 2
  exact Fin.ext (by show p.val * 4 + h.val = 4 * p.val + h.val; omega)

end Cert.AttnHost

end
-- ==== Proof.AttnArr.lean ====
/- The arrays the attention backward kernel leaves, at an index: real functions of the arguments. -/
module

public import proofs.«01_k».proof.Proof.AttnHost

@[expose] public section

set_option maxRecDepth 16384

noncomputable section

namespace Cert.AttnArr

open Idealize.ShloMosaic Idealize.ShloMosaic.TcCoe
open Cert.Reals Cert.AttnMath Cert.AttnTile Cert.AttnBuf Cert.AttnFin Cert.AttnHost Cert.AttnBwdIdeal Cert.AttnBwdIdeal.Gen Cert.AttnBwdIdeal.Frm

/-- The projection's entry at row `s`, head `h` and lane `d` of the part that begins at column `o`. -/
def px (o : ℕ) (ho : o + 512 ≤ 2560) (X : FVec Ideal S2048x2560 .f32) (h : Fin 8) (s : ℕ) (d : Fin 64) : ℝ :=
  if hs : s < 2048 then (X (ix2 (⟨s, hs⟩ : Fin 2048) (⟨o + (64 * h.val + d.val), by have := h.isLt; have := d.isLt; omega⟩ : Fin 2560))).toReal else 0
/-- The incoming gradient's entry at row `s`, head `h` and lane `d`. -/
def pc (C : FVec Ideal S2048x1024 .f32) (h : Fin 8) (s : ℕ) (d : Fin 64) : ℝ :=
  if hs : s < 2048 then (C (ix2 (⟨s, hs⟩ : Fin 2048) (⟨64 * h.val + d.val, by have := h.isLt; have := d.isLt; omega⟩ : Fin 1024))).toReal else 0
/-- A scale's entry. -/
def pg (G : FVec Ideal S1x64 .f32) (d : Fin 64) : ℝ := (G (ix2 (0 : Fin 1) d)).toReal

section defs
variable (X : FVec Ideal S2048x2560 .f32) (Gq Gk : FVec Ideal S1x64 .f32) (C : FVec Ideal S2048x1024 .f32)
/-- The queries, the keys and the values before the norms. -/
abbrev xq := px 0 (by omega) X
abbrev xk := px 512 (by omega) X
abbrev xv := px 1024 (by omega) X
/-- The queries normalised and scaled, with the score's factor and sign. -/
def qn (h : Fin 8) (s : ℕ) (d : Fin 64) : ℝ := nrm (xq X h) s d * pg Gq d * -(1 / 8)
/-- The keys normalised and scaled. -/
def kn (h : Fin 8) (s : ℕ) (d : Fin 64) : ℝ := nrm (xk X h) s d * pg Gk d
/-- The score's gradient. -/
abbrev ds (h : Fin 8) : ℕ → ℕ → ℝ := dz (qn X Gq h) (kn X Gk h) (xv X h) (pc C h)
/-- The gradients at the scaled queries and keys, and at the values. -/
def gq (h : Fin 8) (t : ℕ) (d : Fin 64) : ℝ := row (ds X Gq Gk C h) (kn X Gk h) t 2048 d * (1 / 8)
def gk (h : Fin 8) (s : ℕ) (d : Fin 64) : ℝ := -col (ds X Gq Gk C h) (qn X Gq h) 2048 s d
def gv (h : Fin 8) (s : ℕ) (d : Fin 64) : ℝ := col (wt (qn X Gq h) (kn X Gk h)) (pc C h) 2048 s d
/-- The gradients at the queries and keys. -/
def dq (h : Fin 8) (t : ℕ) (d : Fin 64) : ℝ := bwd (xq X h) (gq X Gq Gk C h) (pg Gq) t d
def dk (h : Fin 8) (t : ℕ) (d : Fin 64) : ℝ := bwd (xk X h) (gk X Gq Gk C h) (pg Gk) t d
/-- The gradients at the two scales. -/
def dgq (d : Fin 64) : ℝ := ∑ h : Fin 8, dgain (xq X h) (gq X Gq Gk C h) 2048 d
def dgk (d : Fin 64) : ℝ := ∑ h : Fin 8, dgain (xk X h) (gk X Gq Gk C h) 2048 d

/-- The arguments the claim asks to be finite are. -/
structure Real' : Prop where
  hq : ∀ (s : Fin 2048) (h : Fin 8) (d : Fin 64), X (ix2 s (⟨0 + (64 * h.val + d.val), by have := h.isLt; have := d.isLt; omega⟩ : Fin 2560)) = ((xq X h s.val d : ℝ) : EReal)
  hk : ∀ (s : Fin 2048) (h : Fin 8) (d : Fin 64), X (ix2 s (⟨512 + (64 * h.val + d.val), by have := h.isLt; have := d.isLt; omega⟩ : Fin 2560)) = ((xk X h s.val d : ℝ) : EReal)
  hv : ∀ (s : Fin 2048) (h : Fin 8) (d : Fin 64), X (ix2 s (⟨1024 + (64 * h.val + d.val), by have := h.isLt; have := d.isLt; omega⟩ : Fin 2560)) = ((xv X h s.val d : ℝ) : EReal)
  hc : ∀ (s : Fin 2048) (h : Fin 8) (d : Fin 64), C (ix2 s (⟨64 * h.val + d.val, by have := h.isLt; have := d.isLt; omega⟩ : Fin 1024)) = ((pc C h s.val d : ℝ) : EReal)
  hgq : ∀ d, Gq (ix2 (0 : Fin 1) d) = ((pg Gq d : ℝ) : EReal)
  hgk : ∀ d, Gk (ix2 (0 : Fin 1) d) = ((pg Gk d : ℝ) : EReal)
end defs

variable (m : (ℓ : Loc nD τ sig) → Buf (Elt Ideal) ℓ) (c : Dev nD)

/-- The head that head `h` of point `t` is. -/
def head (t : Fin cfg0.N) (h : Fin 4) : Fin 8 := ⟨4 * t.val + h.val, by have hN : cfg0.N = 2 := N_0; have := t.isLt; omega⟩

theorem idx : ∀ t : Fin cfg0.N,
    win0_0.index t = ![0, t.val] ∧ win0_1.index t = ![0, 2 + t.val] ∧ win0_2.index t = ![0, 0] ∧ win0_3.index t = ![0, 0]
    ∧ win0_4.index t = ![t.val, 0, 0] ∧ win0_5.index t = ![0, t.val] ∧ win0_6.index t = ![0, 0] ∧ win0_7.index t = ![0, 0] ∧ win0_8.index t = ![0, 0]
    ∧ win0_9.index t = ![t.val, 0, 0] ∧ win0_10.index t = ![t.val, 0, 0] ∧ win0_11.index t = ![t.val, 0, 0]
    ∧ win0_12.index t = ![0, t.val] ∧ win0_13.index t = ![0, t.val] ∧ win0_14.index t = ![0, t.val] ∧ win0_15.index t = ![0, 0] ∧ win0_16.index t = ![0, 0] :=
  (by decide +kernel : ∀ t : Fin grid0.N, _)

variable (hf : Real' (X m c) (Gq m c) (Gk m c) (C m c))
include hf

/-- What the host lines leave of the queries, keys and values, as real numbers. -/
theorem q22 (h : Fin 8) (s : Fin 2048) (d : Fin 64) : (V m c main_v22 : FVec Ideal S8x2048x64 .bf16) (ix3 h s d) = ((qn (X m c) (Gq m c) h s.val d : ℝ) : EReal) := by
  rw [v22]
  pointwise []
  rw [norm_at (R := xq (X m c)) (G := pg (Gq m c)) (fun s h d => (part_at 0 _ (by omega) _ s h d).trans (hf.hq s h d)) hf.hgq, ofBits_neg_eighth, ← EReal.coe_mul]
  rfl
theorem k37 (h : Fin 8) (s : Fin 2048) (d : Fin 64) : (V m c main_v37 : FVec Ideal S8x2048x64 .bf16) (ix3 h s d) = ((kn (X m c) (Gk m c) h s.val d : ℝ) : EReal) := by
  rw [v37]
  pointwise []
  rw [norm_at (R := xk (X m c)) (G := pg (Gk m c)) (fun s h d => (part_at 512 _ (by omega) _ s h d).trans (hf.hk s h d)) hf.hgk]
  rfl
theorem w39 (h : Fin 8) (s : Fin 2048) (d : Fin 64) : (V m c main_v39 : FVec Ideal S8x2048x64 .bf16) (ix3 h s d) = ((xv (X m c) h s.val d : ℝ) : EReal) := by
  rw [v39]
  pointwise []
  exact (part_at 1024 _ (by omega) _ s h d).trans (hf.hv s h d)
theorem l61 (p : Fin 2) (s : Fin 2048) (h : Fin 4) : (V m c main_v61 : FVec Ideal S2x2048x256 .f32) (ix3 p s (⟨64 * h.val, by have := h.isLt; omega⟩ : Fin 256))
    = ((cum (lm (qn (X m c) (Gq m c) (⟨4 * p.val + h.val, by have := h.isLt; have := p.isLt; omega⟩ : Fin 8)) (kn (X m c) (Gk m c) (⟨4 * p.val + h.val, by have := h.isLt; have := p.isLt; omega⟩ : Fin 8))) s.val 2048 : ℝ) : EReal) := by
  rw [v61, lay_at, total_at (Q := qn (X m c) (Gq m c)) (K := kn (X m c) (Gk m c)) fun h t u => ?_]
  pointwise []
  simp only [q22 m c hf, k37 m c hf, ← EReal.coe_mul, sum_coe]
  rfl

omit hf in
theorem b0 (t : Fin cfg0.N) (h : Fin 4) (s : Fin 2048) (d : Fin 64) : iblk m c 0 t (ix2 s (⟨64 * h.val + d.val, by have := h.isLt; have := d.isLt; omega⟩ : Fin 256))
    = X m c (ix2 s (⟨0 + (64 * (head t h).val + d.val), by have := (head t h).isLt; have := d.isLt; omega⟩ : Fin 2560)) := by
  blk_ext [iblk, V, idx t, head]

omit hf in
theorem b1 (t : Fin cfg0.N) (h : Fin 4) (s : Fin 2048) (d : Fin 64) : iblk m c 1 t (ix2 s (⟨64 * h.val + d.val, by have := h.isLt; have := d.isLt; omega⟩ : Fin 256))
    = X m c (ix2 s (⟨512 + (64 * (head t h).val + d.val), by have := (head t h).isLt; have := d.isLt; omega⟩ : Fin 2560)) := by
  blk_ext [iblk, V, idx t, head]
omit hf in
theorem b2 (t : Fin cfg0.N) (d : Fin 64) : iblk m c 2 t (ix2 (0 : Fin 1) d) = Gq m c (ix2 (0 : Fin 1) d) := by
  blk_ext [iblk, V, idx t]
omit hf in
theorem b3 (t : Fin cfg0.N) (d : Fin 64) : iblk m c 3 t (ix2 (0 : Fin 1) d) = Gk m c (ix2 (0 : Fin 1) d) := by
  blk_ext [iblk, V, idx t]
omit hf in
theorem b4 (t : Fin cfg0.N) (s : Fin 2048) (l : Fin 256) : iblk m c 4 t (ix3 (0 : Fin 1) s l) = (V m c main_v61 : FVec Ideal S2x2048x256 .f32) (ix3 (⟨t.val, N_0 ▸ t.isLt⟩ : Fin 2) s l) := by
  generalize hA : (V m c main_v61 : FVec Ideal S2x2048x256 .f32) = A
  have e : iblk m c 4 t = fun j => A (((cfg0.win 4).blk t).view.emb j) := by rw [← hA]; rfl
  rw [e]
  blk_ext [idx t]
omit hf in
theorem b5 (t : Fin cfg0.N) (h : Fin 4) (s : Fin 2048) (d : Fin 64) : iblk m c 5 t (ix2 s (⟨64 * h.val + d.val, by have := h.isLt; have := d.isLt; omega⟩ : Fin 256))
    = C m c (ix2 s (⟨64 * (head t h).val + d.val, by have := (head t h).isLt; have := d.isLt; omega⟩ : Fin 1024)) := by
  blk_ext [iblk, V, idx t, head]
omit hf in
theorem b6 (t : Fin cfg0.N) : IsLe (iblk m c 6 t) := fun i j => by
  have e : iblk m c 6 t = fun j => tri .sle (((cfg0.win 6).blk t).view.emb j) := by rw [← v74 m c]; rfl
  rw [e]
  refine Eq.trans (b := tri .sle (ix2 i j)) ?_ (tri_le i j)
  blk_ext [idx t]
omit hf in
theorem b7 (t : Fin cfg0.N) : IsLt (iblk m c 7 t) := fun i j => by
  have e : iblk m c 7 t = fun j => tri .slt (((cfg0.win 7).blk t).view.emb j) := by rw [← v78 m c]; rfl
  rw [e]
  refine Eq.trans (b := tri .slt (ix2 i j)) ?_ (tri_lt i j)
  blk_ext [idx t]
omit hf in
theorem b8 (t : Fin cfg0.N) (j : S2x8.Idx) : iblk m c 8 t j = (0 : EReal) := by
  have e : iblk m c 8 t = fun j => (broadcastInDim S2x8 ![] bcast_S_S2x8 (constant S_ .f32 0x00000000#32) : FVec Ideal S2x8 .f32) (((cfg0.win 8).blk t).view.emb j) := by rw [← v62 m c]; rfl
  rw [e]
  exact (Ideal.ofBits_zero .f32 : Ideal.ofBits .f32 0x00000000#32 = 0)
omit hf in
theorem bh (w : FVec Ideal S8x2048x64 .bf16) (t : Fin cfg0.N) (h : Fin 4) (s : Fin 2048) (d : Fin 64) :
    w (((cfg0.win 9).blk t).view.emb (ix3 h s d : S4x2048x64.Idx)) = w (ix3 (head t h) s d)
    ∧ w (((cfg0.win 10).blk t).view.emb (ix3 h s d : S4x2048x64.Idx)) = w (ix3 (head t h) s d)
    ∧ w (((cfg0.win 11).blk t).view.emb (ix3 h s d : S4x2048x64.Idx)) = w (ix3 (head t h) s d) := by
  refine ⟨?_, ?_, ?_⟩ <;> blk_ext [idx t, head]
theorem b9 (t : Fin cfg0.N) : IsA (iblk m c 9 t) fun h => qn (X m c) (Gq m c) (head t h) := fun h s d =>
  ((bh (V m c main_v22) t h s d).1).trans (q22 m c hf (head t h) s d)
theorem b10 (t : Fin cfg0.N) : IsA (iblk m c 10 t) fun h => kn (X m c) (Gk m c) (head t h) := fun h s d =>
  ((bh (V m c main_v37) t h s d).2.1).trans (k37 m c hf (head t h) s d)
theorem b11 (t : Fin cfg0.N) : IsA (iblk m c 11 t) fun h => xv (X m c) (head t h) := fun h s d =>
  ((bh (V m c main_v39) t h s d).2.2).trans (w39 m c hf (head t h) s d)

/-- What one grid point leaves. -/
theorem fins (t : Fin cfg0.N) (f13 : BufTy.Contents (Elt Ideal) (ms12 t).view.ty) (f14 : BufTy.Contents (Elt Ideal) (ms13 t).view.ty) (f15 : BufTy.Contents (Elt Ideal) (ms14 t).view.ty) :
    Sums (fun h => xq (X m c) (head t h)) (fun h => xk (X m c) (head t h)) (fun h => gq (X m c) (Gq m c) (Gk m c) (C m c) (head t h)) (fun h => gk (X m c) (Gq m c) (Gk m c) (C m c) (head t h)) 8 (finAt m c t).1
    ∧ Done (ms12 t).view f13 8 (finAt m c t).2.1 (fun h => dq (X m c) (Gq m c) (Gk m c) (C m c) (head t h))
    ∧ Done (ms13 t).view f14 8 (finAt m c t).2.2.1 (fun h => dk (X m c) (Gq m c) (Gk m c) (C m c) (head t h))
    ∧ Done (ms14 t).view f15 8 (finAt m c t).2.2.2 (fun h => gv (X m c) (Gq m c) (Gk m c) (C m c) (head t h)) :=
  Cert.AttnPt.finished c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    (Xq := fun h => xq (X m c) (head t h)) (Xk := fun h => xk (X m c) (head t h)) (Q := fun h => qn (X m c) (Gq m c) (head t h)) (K := fun h => kn (X m c) (Gk m c) (head t h))
    (V := fun h => xv (X m c) (head t h)) (D := fun h => pc (C m c) (head t h)) (gq := pg (Gq m c)) (gk := pg (Gk m c))
    (fun h s d => (b0 m c t h s d).trans (hf.hq s (head t h) d)) (fun h s d => (b1 m c t h s d).trans (hf.hk s (head t h) d))
    (fun d => (b2 m c t d).trans (hf.hgq d)) (fun d => (b3 m c t d).trans (hf.hgk d))
    (fun h s => (b4 m c t s _).trans (l61 m c hf (⟨t.val, N_0 ▸ t.isLt⟩ : Fin 2) s h))
    (fun h s d => (b5 m c t h s d).trans (hf.hc s (head t h) d)) (b6 m c t) (b7 m c t) (b8 m c t) (b9 m c hf t) (b10 m c hf t) (b11 m c hf t) f13 f14 f15

end Cert.AttnArr

end
-- ==== Proof.AttnVal.lean ====
/- The five arrays the attention backward kernel's run leaves. -/
module

public import proofs.«01_k».proof.Proof.AttnArr

@[expose] public section

set_option maxRecDepth 16384

noncomputable section

namespace Cert.AttnVal

open Idealize.ShloMosaic Idealize.ShloMosaic.TcCoe
open Cert.Reals Cert.AttnMath Cert.AttnTile Cert.AttnBuf Cert.AttnFin Cert.AttnHost Cert.AttnArr Cert.AttnBwdIdeal Cert.AttnBwdIdeal.Gen Cert.AttnBwdIdeal.Frm Cert.AttnBwdIdeal.Out

/-- The array that holds `G h s d` at row `s`, in lane `d` of head `h`. -/
def lanes (G : Fin 8 → ℕ → Fin 64 → ℝ) : FVec Ideal S2048x512 .bf16 := fun j =>
  ((G (⟨(j 1).val / 64, Nat.div_lt_of_lt_mul (j 1).isLt⟩ : Fin 8) (j 0).val (⟨(j 1).val % 64, Nat.mod_lt _ (by decide)⟩ : Fin 64) : ℝ) : EReal)

theorem lanes_at (G : Fin 8 → ℕ → Fin 64 → ℝ) (s : Fin 2048) (h : Fin 8) (d : Fin 64) (l : Fin 512) (hl : l.val = 64 * h.val + d.val) :
    lanes G (ix2 s l) = ((G h s.val d : ℝ) : EReal) := by
  have e1 : (⟨l.val / 64, Nat.div_lt_of_lt_mul l.isLt⟩ : Fin 8) = h := Fin.ext (by show l.val / 64 = h.val; have := d.isLt; omega)
  have e2 : (⟨l.val % 64, Nat.mod_lt _ (by decide)⟩ : Fin 64) = d := Fin.ext (by show l.val % 64 = d.val; have := d.isLt; omega)
  exact congrArg₂ (fun a b => ((G a s.val b : ℝ) : EReal)) e1 e2

/-- The row that holds `G d` in lane `d`. -/
def gains (G : Fin 64 → ℝ) : FVec Ideal S1x64 .f32 := fun j => ((G (j 1) : ℝ) : EReal)

variable (m : (ℓ : Loc nD τ sig) → Buf (Elt Ideal) ℓ) (c : Dev nD)
variable (hf : Real' (X m c) (Gq m c) (Gk m c) (C m c))

theorem emb (t : Fin cfg0.N) (s : Fin 2048) (l : Fin 256) :
    (((cfg0.win 12).blk t).view.emb (ix2 s l : S2048x256.Idx) = (ix2 s (⟨256 * t.val + l.val, by have hN : cfg0.N = 2 := N_0; have := t.isLt; omega⟩ : Fin 512) : S2048x512.Idx))
    ∧ (((cfg0.win 13).blk t).view.emb (ix2 s l : S2048x256.Idx) = (ix2 s (⟨256 * t.val + l.val, by have hN : cfg0.N = 2 := N_0; have := t.isLt; omega⟩ : Fin 512) : S2048x512.Idx))
    ∧ (((cfg0.win 14).blk t).view.emb (ix2 s l : S2048x256.Idx) = (ix2 s (⟨256 * t.val + l.val, by have hN : cfg0.N = 2 := N_0; have := t.isLt; omega⟩ : Fin 512) : S2048x512.Idx)) := by
  refine ⟨?_, ?_, ?_⟩ <;> blk_ext [idx t]

/-- A block of two halves' lanes that agrees with `G` at each head is `lanes G` at the block's place. -/
theorem block (x : FVec Ideal S2048x256 .bf16) (t : Fin cfg0.N) (G : Fin 8 → ℕ → Fin 64 → ℝ) (hx : IsW x fun h => G (head t h)) (s : Fin 2048) (l : Fin 256) :
    x (ix2 s l) = lanes G (ix2 s (⟨256 * t.val + l.val, by have hN : cfg0.N = 2 := N_0; have := t.isLt; omega⟩ : Fin 512)) := by
  have hl := l.isLt
  rw [lanes_at G s (head t ⟨l.val / 64, by omega⟩) ⟨l.val % 64, by omega⟩ _ (by show 256 * t.val + l.val = 64 * (4 * t.val + l.val / 64) + l.val % 64; omega)]
  have e : l = (⟨64 * (l.val / 64) + l.val % 64, by omega⟩ : Fin 256) := Fin.ext (by show l.val = 64 * (l.val / 64) + l.val % 64; omega)
  exact (congrArg (fun z => x (ix2 s z)) e).trans (hx ⟨l.val / 64, by omega⟩ s ⟨l.val % 64, by omega⟩)

include hf
theorem o13 (t : Fin cfg0.N) : IsW (out13 m c t) fun h => dq (X m c) (Gq m c) (Gk m c) (C m c) (head t h) := fun h s d => by
  have e : out13 m c t = (ms12 t).view.read (Elt Ideal) ((ms12 t).view.writes (Elt Ideal) (ms12 t).view.junk (finAt m c t).2.1) :=
    (View.read_writes_of_cover _ _ _ _ _ (cover13 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))).symm
  rw [e]
  exact (fins m c hf t (ms12 t).view.junk (ms13 t).view.junk (ms14 t).view.junk).2.1 h s d (by have := s.isLt; omega)
theorem o14 (t : Fin cfg0.N) : IsW (out14 m c t) fun h => dk (X m c) (Gq m c) (Gk m c) (C m c) (head t h) := fun h s d => by
  have e : out14 m c t = (ms13 t).view.read (Elt Ideal) ((ms13 t).view.writes (Elt Ideal) (ms13 t).view.junk (finAt m c t).2.2.1) :=
    (View.read_writes_of_cover _ _ _ _ _ (cover14 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))).symm
  rw [e]
  exact (fins m c hf t (ms12 t).view.junk (ms13 t).view.junk (ms14 t).view.junk).2.2.1 h s d (by have := s.isLt; omega)
theorem o15 (t : Fin cfg0.N) : IsW (out15 m c t) fun h => gv (X m c) (Gq m c) (Gk m c) (C m c) (head t h) := fun h s d => by
  have e : out15 m c t = (ms14 t).view.read (Elt Ideal) ((ms14 t).view.writes (Elt Ideal) (ms14 t).view.junk (finAt m c t).2.2.2) :=
    (View.read_writes_of_cover _ _ _ _ _ (cover15 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))).symm
  rw [e]
  exact (fins m c hf t (ms12 t).view.junk (ms13 t).view.junk (ms14 t).view.junk).2.2.2 h s d (by have := s.isLt; omega)

/-- The gradient at the queries. -/
theorem arr12 : (dats m 0 c).arrAt 12 cfg0.N = lanes (dq (X m c) (Gq m c) (Gk m c) (C m c)) := by
  refine (dats m 0 c).arrAt_eq_of_covers 12 _ (by decide +kernel) fun t _ y => ?_
  blk_simp
  idx_vars y
  rw [after12, (emb t y0 y1).1]
  exact block _ t _ (o13 m c hf t) y0 y1
/-- The gradient at the keys. -/
theorem arr13 : (dats m 0 c).arrAt 13 cfg0.N = lanes (dk (X m c) (Gq m c) (Gk m c) (C m c)) := by
  refine (dats m 0 c).arrAt_eq_of_covers 13 _ (by decide +kernel) fun t _ y => ?_
  blk_simp
  idx_vars y
  rw [after13, (emb t y0 y1).2.1]
  exact block _ t _ (o14 m c hf t) y0 y1
/-- The gradient at the values. -/
theorem arr14 : (dats m 0 c).arrAt 14 cfg0.N = lanes (gv (X m c) (Gq m c) (Gk m c) (C m c)) := by
  refine (dats m 0 c).arrAt_eq_of_covers 14 _ (by decide +kernel) fun t _ y => ?_
  blk_simp
  idx_vars y
  rw [after14, (emb t y0 y1).2.2]
  exact block _ t _ (o15 m c hf t) y0 y1

omit hf in
/-- A whole-row store, read back. -/
theorem read_row (v : View sig .tc .vmem S1x64 .f32) (f : BufTy.Contents (Elt Ideal) v.ty) (x : FVec Ideal S1x64 .f32) (L : List (View.Piece (Elt Ideal) S1x64 .f32)) (d : Fin 64) :
    v.read (Elt Ideal) (v.writes (Elt Ideal) f (⟨Rect.unit (s := S1x64) ![0, 0] S1x64.size inb_S1x64_S1x64_0_0, x⟩ :: L)) (ix2 (0 : Fin 1) d) = x (ix2 (0 : Fin 1) d) := by
  refine View.read_writes_cons_unit_of_mem v f _ x L _ (ix2 (0 : Fin 1) d) rfl fun a => ?_
  match a with
  | 0 => rfl
  | 1 => exact (Nat.zero_add _).symm

omit hf in
theorem row_idx (d : Fin 64) : (Rect.unit (s := S1x64) ![0, 0] S1x64.size inb_S1x64_S1x64_0_0).toLoadRect.idx (ix2 (0 : Fin 1) d) = (ix2 (0 : Fin 1) d : S1x64.Idx) := by
  funext z; apply Fin.ext
  match z with
  | 0 => rfl
  | 1 => exact (Nat.zero_add _).trans (Nat.one_mul _)

/-- The four heads' sums of one point, added. -/
theorem add4 (t : Fin cfg0.N) (y : FVec Ideal S1x64 .f32) (d : Fin 64) :
    k0_pay274 (F := Ideal) ((finAt m c t).1.1) ((finAt m c t).1.2.2.1) ((finAt m c t).1.2.2.2.2.1) ((finAt m c t).1.2.2.2.2.2.2.1) y (ix2 (0 : Fin 1) d)
      = y (ix2 (0 : Fin 1) d) + ((∑ h : Fin 4, dgain (xq (X m c) (head t h)) (gq (X m c) (Gq m c) (Gk m c) (C m c) (head t h)) 2048 d : ℝ) : EReal)
    ∧ k0_pay1 (F := Ideal) ((finAt m c t).1.2.1) ((finAt m c t).1.2.2.2.1) ((finAt m c t).1.2.2.2.2.2.1) ((finAt m c t).1.2.2.2.2.2.2.2) (k0_pay275 y) k0_pay276 (ix2 (0 : Fin 1) d)
      = y (ix2 (0 : Fin 1) d) + ((∑ h : Fin 4, dgain (xk (X m c) (head t h)) (gk (X m c) (Gq m c) (Gk m c) (C m c) (head t h)) 2048 d : ℝ) : EReal) := by
  obtain ⟨⟨a0, b0⟩, ⟨a1, b1⟩, ⟨a2, b2⟩, ⟨a3, b3⟩⟩ := (fins m c hf t (ms12 t).view.junk (ms13 t).view.junk (ms14 t).view.junk).1 d
  generalize finAt m c t = P at a0 b0 a1 b1 a2 b2 a3 b3 ⊢
  constructor
  · pointwise [k0_pay274]
    rw [a0, a1, a2, a3, Fin.sum_univ_four, ← EReal.coe_add, ← EReal.coe_add, ← EReal.coe_add]
  · pointwise [k0_pay1, k0_pay275, k0_pay276]
    rw [b0, b1, b2, b3, Fin.sum_univ_four, ← EReal.coe_add, ← EReal.coe_add, ← EReal.coe_add]

/-- The gradients at the two scales, begun at the first point and added at the second. -/
theorem points (d : Fin 64) : (∀ t : Fin cfg0.N, t.val % 2 = 0 →
      (outsAt m c t.val t.isLt).1 (ix2 (0 : Fin 1) d) = (0 : EReal) + ((∑ h : Fin 4, dgain (xq (X m c) (head t h)) (gq (X m c) (Gq m c) (Gk m c) (C m c) (head t h)) 2048 d : ℝ) : EReal)
      ∧ (outsAt m c t.val t.isLt).2 (ix2 (0 : Fin 1) d) = (0 : EReal) + ((∑ h : Fin 4, dgain (xk (X m c) (head t h)) (gk (X m c) (Gq m c) (Gk m c) (C m c) (head t h)) 2048 d : ℝ) : EReal))
    ∧ (∀ t : Fin cfg0.N, ¬t.val % 2 = 0 →
      (outsAt m c t.val t.isLt).1 (ix2 (0 : Fin 1) d) = (outsAt m c (t.val - 1) (Nat.lt_of_le_of_lt (Nat.sub_le _ _) t.isLt)).1 (ix2 (0 : Fin 1) d) + ((∑ h : Fin 4, dgain (xq (X m c) (head t h)) (gq (X m c) (Gq m c) (Gk m c) (C m c) (head t h)) 2048 d : ℝ) : EReal)
      ∧ (outsAt m c t.val t.isLt).2 (ix2 (0 : Fin 1) d) = (outsAt m c (t.val - 1) (Nat.lt_of_le_of_lt (Nat.sub_le _ _) t.isLt)).2 (ix2 (0 : Fin 1) d) + ((∑ h : Fin 4, dgain (xk (X m c) (head t h)) (gk (X m c) (Gq m c) (Gk m c) (C m c) (head t h)) 2048 d : ℝ) : EReal)) := by
  refine ⟨fun t ht => ?_, fun t ht => ?_⟩
  · rw [outsAt_A m c t ht]
    unfold out16A out17A
    dsimp only
    refine ⟨?_, ?_⟩
    · rw [read_row, (add4 m c hf t _ d).1]
      congr 1
      refine (congrFun (congrArg ((ms15 t).view.read (Elt Ideal)) rfl) _).trans ?_
      rw [row_idx, read_row]
      pointwise [k0_pay260]
    · rw [read_row, (add4 m c hf t _ d).2]
      congr 1
      refine (congrFun (congrArg ((ms16 t).view.read (Elt Ideal)) rfl) _).trans ?_
      rw [row_idx, read_row]
      pointwise [k0_pay261]
  · rw [outsAt_B m c t ht]
    generalize outsAt m c (t.val - 1) (Nat.lt_of_le_of_lt (Nat.sub_le _ _) t.isLt) = y
    unfold out16B out17B
    dsimp only
    refine ⟨?_, ?_⟩
    · rw [read_row, (add4 m c hf t _ d).1, Memref.IsWhole.readAt_unread (hs15 t), row_idx]
    · rw [read_row, (add4 m c hf t _ d).2, Memref.IsWhole.readAt_unread (hs16 t), row_idx]

omit hf in
/-- The points' heads are all the heads. -/
theorem heads (f : Fin 8 → ℝ) : ∑ t : Fin cfg0.N, ∑ h : Fin 4, f (head t h) = ∑ h, f h :=
  Fin.sum_mul_add_congr (fun s k hl => congrArg f (Fin.ext (by show 4 * s.val + k.val = s.val * 4 + k.val; omega))) (by show 8 = grid0.N * 4; rw [N_0])

theorem arr15 : (dats m 0 c).arrAt 15 cfg0.N = gains (dgq (X m c) (Gq m c) (Gk m c) (C m c)) := by
  refine (dats m 0 c).arrAt_eq_of_after_last 15 t0_1 (by decide +kernel) _ fun j => ?_
  blk_simp
  idx_vars j
  obtain rfl : j0 = 0 := Subsingleton.elim _ _
  rw [after15]
  refine (Pipeline.eq_sum_fin_of_reset_step_apply_last (fun n h (l : Fin 64) => (outsAt m c n h).1 (ix2 (0 : Fin 1) l)) 2 (fun _ => (0 : EReal))
    (fun p l => ((∑ h : Fin 4, dgain (xq (X m c) (head p h)) (gq (X m c) (Gq m c) (Gk m c) (C m c) (head p h)) 2048 l : ℝ) : EReal))
    (fun t h l => ((points m c hf l).1 t h).1) (fun t h l => ((points m c hf l).2 t h).1) (le_of_eq N_0) t0_1 rfl j1).trans ?_
  rw [zero_add, sum_coe, heads (fun h => dgain (xq (X m c) h) (gq (X m c) (Gq m c) (Gk m c) (C m c) h) 2048 j1)]
  rfl

theorem arr16 : (dats m 0 c).arrAt 16 cfg0.N = gains (dgk (X m c) (Gq m c) (Gk m c) (C m c)) := by
  refine (dats m 0 c).arrAt_eq_of_after_last 16 t0_1 (by decide +kernel) _ fun j => ?_
  blk_simp
  idx_vars j
  obtain rfl : j0 = 0 := Subsingleton.elim _ _
  rw [after16]
  refine (Pipeline.eq_sum_fin_of_reset_step_apply_last (fun n h (l : Fin 64) => (outsAt m c n h).2 (ix2 (0 : Fin 1) l)) 2 (fun _ => (0 : EReal))
    (fun p l => ((∑ h : Fin 4, dgain (xk (X m c) (head p h)) (gk (X m c) (Gq m c) (Gk m c) (C m c) (head p h)) 2048 l : ℝ) : EReal))
    (fun t h l => ((points m c hf l).1 t h).2) (fun t h l => ((points m c hf l).2 t h).2) (le_of_eq N_0) t0_1 rfl j1).trans ?_
  rw [zero_add, sum_coe, heads (fun h => dgain (xk (X m c) h) (gk (X m c) (Gq m c) (Gk m c) (C m c) h) 2048 j1)]
  rfl

end Cert.AttnVal

end
-- ==== Proof.AttnRed.lean ====
/- Sums the attention reference takes: over two axes, and along a row up to or from an entry. -/
module

public import proofs.«01_k».proof.Proof.AttnArr

@[expose] public section

set_option maxRecDepth 16384

noncomputable section

namespace Cert.AttnRed

open Idealize.ShloMosaic Idealize.ShloMosaic.TcCoe Cert.Reals Cert.AttnMath Cert.AttnBwdIdeal Finset

/-- A host sum over the first two of three axes. -/
theorem two_axes {n m : ℕ} (v : (⟨3, ![n, m, 64]⟩ : Shape).Idx → EReal) (a : EReal) (h : (⟨3, ![n, m, 64]⟩ : Shape).ReducesTo [0, 1] (⟨1, ![64]⟩ : Shape)) (d : Fin 64) :
    Ideal.hostReduceAdd h v a (ix1 d) = a + ∑ r : Fin n, ∑ e : Fin m, v (ix3 r e d) := by
  unfold Ideal.hostReduceAdd
  rw [Finset.sum_filter, sum_idx3]
  refine congrArg (a + ·) (Finset.sum_congr rfl fun r _ => Finset.sum_congr rfl fun e _ => ?_)
  have hk : ∀ k : Fin 64, (h.drop (ix3 r e k) = ix1 d) ↔ k = d := fun k => by
    have h0 : (h.drop (ix3 r e k) 0).val = k.val := rfl
    constructor
    · intro hh
      exact Fin.ext (h0.symm.trans (congrArg (fun f : (⟨1, ![64]⟩ : Shape).Idx => (f 0).val) hh))
    · rintro rfl
      funext b
      match b with
      | ⟨0, _⟩ => exact Fin.ext h0
  simp only [hk]
  rw [Finset.sum_ite_eq' Finset.univ d]
  simp

theorem foldl_add {N : ℕ} (g : Fin N → EReal) : (List.finRange N).foldl (fun r n => r + g n) 0 = ∑ n, g n := by
  rw [Fin.sum_univ_def]
  generalize List.finRange N = l
  have : ∀ (l : List (Fin N)) (a : EReal), l.foldl (fun r n => r + g n) a = a + (l.map g).sum := by
    intro l
    induction l with
    | nil => intro a; simp
    | cons x l ih => intro a; rw [List.foldl_cons, ih, List.map_cons, List.sum_cons, add_assoc]
  rw [this, zero_add]

/-- A fold of additions over the positions of a window one row high, as a sum. -/
theorem window_sum {N : ℕ} (F : EReal → Fin (⟨3, ![1, 1, N]⟩ : Shape).numel → EReal) (y : ℕ → EReal)
    (hF : ∀ r n, F r n = r + y ((⟨3, ![1, 1, N]⟩ : Shape).rowMajor.symm n 2).val) :
    (List.finRange (⟨3, ![1, 1, N]⟩ : Shape).numel).foldl F 0 = ∑ k : Fin N, y k.val := by
  rw [show F = fun r n => r + y ((⟨3, ![1, 1, N]⟩ : Shape).rowMajor.symm n 2).val from funext fun r => funext fun n => hF r n, foldl_add,
    Equiv.sum_comp (⟨3, ![1, 1, N]⟩ : Shape).rowMajor.symm (fun w => y (w 2).val), sum_idx3]
  simp only [Fin.sum_univ_one]
  rfl

/-- The host's window sum is the exact one. -/
theorem window_exact {s t u : Shape} (w st lo hi : Fin s.rank → ℕ) (y : FVec Ideal s .f32) (z : FVec Ideal u .f32) (h : s.ReduceWindows w st lo hi t) (hu : 0 < u.numel) (j : t.Idx) :
    Host.reduceWindowAdd (F := Ideal) w st lo hi y z h hu j = Ideal.hostReduceWindowAdd w st lo hi h y (z (Shape.Idx.first hu)) j := rfl

variable {N M : ℕ} (hM : M + 1 = N) (x : (⟨3, ![8, 2048, N]⟩ : Shape).Idx → EReal) (f : ℕ → ℝ) (e : Fin 8) (t : Fin 2048)
  (hx : ∀ s : Fin N, x (ix3 e t s) = ((f s.val : ℝ) : EReal))
include hx hM

/-- The sums of a row from an entry on, as the reference takes them. -/
theorem from_entry (h : (⟨3, ![8, 2048, N]⟩ : Shape).ReduceWindows ![1, 1, N] ![1, 1, 1] ![0, 0, 0] ![0, 0, M] (⟨3, ![8, 2048, N]⟩ : Shape)) (j : Fin N) :
    Ideal.hostReduceWindowAdd ![1, 1, N] ![1, 1, 1] ![0, 0, 0] ![0, 0, M] h x 0 (ix3 e t j)
      = ((∑ s ∈ range N, f s - ∑ s ∈ range j.val, f s : ℝ) : EReal) := by
  have hj := j.isLt
  have he := e.isLt
  have ht := t.isLt
  have hs : (∑ s ∈ range N, f s - ∑ s ∈ range j.val, f s : ℝ) = ∑ k : Fin N, if j.val + k.val < N then f (j.val + k.val) else 0 := by
    have hj' : j.val + (N - j.val) = N := by omega
    rw [Fin.sum_univ_eq_sum_range (fun k => if j.val + k < N then f (j.val + k) else 0), ← Finset.sum_filter]
    have : (range N).filter (fun k => j.val + k < N) = range (N - j.val) := by
      ext k; simp only [Finset.mem_filter, Finset.mem_range]; omega
    rw [this, sub_eq_iff_eq_add, add_comm, ← Finset.sum_range_add, hj']
  rw [hs, ← sum_coe]
  unfold Ideal.hostReduceWindowAdd Host.reduceWindow
  refine window_sum _ (fun k => (((if j.val + k < N then f (j.val + k) else 0 : ℝ)) : EReal)) fun r n => ?_
  dsimp only
  have h0 : ((⟨3, ![1, 1, N]⟩ : Shape).rowMajor.symm n 0).val < 1 := ((⟨3, ![1, 1, N]⟩ : Shape).rowMajor.symm n 0).isLt
  have h1 : ((⟨3, ![1, 1, N]⟩ : Shape).rowMajor.symm n 1).val < 1 := ((⟨3, ![1, 1, N]⟩ : Shape).rowMajor.symm n 1).isLt
  have hw : ((⟨3, ![1, 1, N]⟩ : Shape).rowMajor.symm n 2).val < N := ((⟨3, ![1, 1, N]⟩ : Shape).rowMajor.symm n 2).isLt
  refine congrArg (r + ·) ?_
  split
  · next hin =>
    have h2 : 0 ≤ j.val * 1 + ((⟨3, ![1, 1, N]⟩ : Shape).rowMajor.symm n 2).val ∧ j.val * 1 + ((⟨3, ![1, 1, N]⟩ : Shape).rowMajor.symm n 2).val - 0 < N := hin 2
    rw [if_pos (by omega)]
    refine (congrArg x (funext fun a => Fin.ext ?_)).trans (hx ⟨j.val + ((⟨3, ![1, 1, N]⟩ : Shape).rowMajor.symm n 2).val, by omega⟩)
    match a with
    | ⟨0, _⟩ => show e.val * 1 + ((⟨3, ![1, 1, N]⟩ : Shape).rowMajor.symm n 0).val - 0 = e.val; omega
    | ⟨1, _⟩ => show t.val * 1 + ((⟨3, ![1, 1, N]⟩ : Shape).rowMajor.symm n 1).val - 0 = t.val; omega
    | ⟨2, _⟩ => show j.val * 1 + ((⟨3, ![1, 1, N]⟩ : Shape).rowMajor.symm n 2).val - 0 = j.val + ((⟨3, ![1, 1, N]⟩ : Shape).rowMajor.symm n 2).val; omega
  · next hin =>
    rw [if_neg fun hle => hin fun a => by
      match a with
      | ⟨0, _⟩ => show 0 ≤ e.val * 1 + ((⟨3, ![1, 1, N]⟩ : Shape).rowMajor.symm n 0).val ∧ e.val * 1 + ((⟨3, ![1, 1, N]⟩ : Shape).rowMajor.symm n 0).val - 0 < 8; omega
      | ⟨1, _⟩ => show 0 ≤ t.val * 1 + ((⟨3, ![1, 1, N]⟩ : Shape).rowMajor.symm n 1).val ∧ t.val * 1 + ((⟨3, ![1, 1, N]⟩ : Shape).rowMajor.symm n 1).val - 0 < 2048; omega
      | ⟨2, _⟩ => show 0 ≤ j.val * 1 + ((⟨3, ![1, 1, N]⟩ : Shape).rowMajor.symm n 2).val ∧ j.val * 1 + ((⟨3, ![1, 1, N]⟩ : Shape).rowMajor.symm n 2).val - 0 < N; omega]
    rfl

/-- The sums of a row up to and with an entry, as the reference takes them. -/
theorem up_to_entry (h : (⟨3, ![8, 2048, N]⟩ : Shape).ReduceWindows ![1, 1, N] ![1, 1, 1] ![0, 0, M] ![0, 0, 0] (⟨3, ![8, 2048, N]⟩ : Shape)) (j : Fin N) :
    Ideal.hostReduceWindowAdd ![1, 1, N] ![1, 1, 1] ![0, 0, M] ![0, 0, 0] h x 0 (ix3 e t j)
      = ((∑ s ∈ range (j.val + 1), f s : ℝ) : EReal) := by
  have hj := j.isLt
  have he := e.isLt
  have ht := t.isLt
  have hs : (∑ s ∈ range (j.val + 1), f s : ℝ) = ∑ k : Fin N, if M ≤ j.val + k.val then f (j.val + k.val - M) else 0 := by
    rw [Fin.sum_univ_eq_sum_range (fun k => if M ≤ j.val + k then f (j.val + k - M) else 0), ← Finset.sum_filter]
    refine Finset.sum_bij' (fun s _ => s + M - j.val) (fun k _ => j.val + k - M) ?_ ?_ ?_ ?_ ?_
    · intro s hs; simp only [Finset.mem_filter, Finset.mem_range] at hs ⊢; omega
    · intro s hs; simp only [Finset.mem_filter, Finset.mem_range] at hs ⊢; omega
    · intro s hs; simp only [Finset.mem_range] at hs; omega
    · intro s hs; simp only [Finset.mem_filter, Finset.mem_range] at hs; omega
    · intro s hs; simp only [Finset.mem_range] at hs; exact congrArg f (by omega)
  rw [hs, ← sum_coe]
  unfold Ideal.hostReduceWindowAdd Host.reduceWindow
  refine window_sum _ (fun k => (((if M ≤ j.val + k then f (j.val + k - M) else 0 : ℝ)) : EReal)) fun r n => ?_
  dsimp only
  have h0 : ((⟨3, ![1, 1, N]⟩ : Shape).rowMajor.symm n 0).val < 1 := ((⟨3, ![1, 1, N]⟩ : Shape).rowMajor.symm n 0).isLt
  have h1 : ((⟨3, ![1, 1, N]⟩ : Shape).rowMajor.symm n 1).val < 1 := ((⟨3, ![1, 1, N]⟩ : Shape).rowMajor.symm n 1).isLt
  have hw : ((⟨3, ![1, 1, N]⟩ : Shape).rowMajor.symm n 2).val < N := ((⟨3, ![1, 1, N]⟩ : Shape).rowMajor.symm n 2).isLt
  refine congrArg (r + ·) ?_
  split
  · next hin =>
    have h2 : M ≤ j.val * 1 + ((⟨3, ![1, 1, N]⟩ : Shape).rowMajor.symm n 2).val ∧ j.val * 1 + ((⟨3, ![1, 1, N]⟩ : Shape).rowMajor.symm n 2).val - M < N := hin 2
    rw [if_pos (by omega)]
    refine (congrArg x (funext fun a => Fin.ext ?_)).trans (hx ⟨j.val + ((⟨3, ![1, 1, N]⟩ : Shape).rowMajor.symm n 2).val - M, by omega⟩)
    match a with
    | ⟨0, _⟩ => show e.val * 1 + ((⟨3, ![1, 1, N]⟩ : Shape).rowMajor.symm n 0).val - 0 = e.val; omega
    | ⟨1, _⟩ => show t.val * 1 + ((⟨3, ![1, 1, N]⟩ : Shape).rowMajor.symm n 1).val - 0 = t.val; omega
    | ⟨2, _⟩ => show j.val * 1 + ((⟨3, ![1, 1, N]⟩ : Shape).rowMajor.symm n 2).val - M = j.val + ((⟨3, ![1, 1, N]⟩ : Shape).rowMajor.symm n 2).val - M; omega
  · next hin =>
    rw [if_neg fun hle => hin fun a => by
      match a with
      | ⟨0, _⟩ => show 0 ≤ e.val * 1 + ((⟨3, ![1, 1, N]⟩ : Shape).rowMajor.symm n 0).val ∧ e.val * 1 + ((⟨3, ![1, 1, N]⟩ : Shape).rowMajor.symm n 0).val - 0 < 8; omega
      | ⟨1, _⟩ => show 0 ≤ t.val * 1 + ((⟨3, ![1, 1, N]⟩ : Shape).rowMajor.symm n 1).val ∧ t.val * 1 + ((⟨3, ![1, 1, N]⟩ : Shape).rowMajor.symm n 1).val - 0 < 2048; omega
      | ⟨2, _⟩ => show M ≤ j.val * 1 + ((⟨3, ![1, 1, N]⟩ : Shape).rowMajor.symm n 2).val ∧ j.val * 1 + ((⟨3, ![1, 1, N]⟩ : Shape).rowMajor.symm n 2).val - M < N; omega]
    rfl

end Cert.AttnRed

end
-- ==== Proof.AttnRef.lean ====
/- What the attention backward reference computes, stage by stage, at an index: real functions of the arguments. -/
module

public import proofs.«01_k».proof.Proof.AttnVal
public import proofs.«01_k».proof.Proof.AttnRed
public import proofs.«01_k».proof.Proof.Gen.AttnBwdRefIdeal.Read

@[expose] public section

set_option maxRecDepth 16384

noncomputable section

namespace Cert.AttnRef

open Idealize.ShloMosaic Idealize.ShloMosaic.TcCoe Finset
open Cert.Reals Cert.AttnMath Cert.AttnFin Cert.AttnArr Cert.AttnBwdRefIdeal Cert.AttnBwdRefIdeal.Gen Cert.AttnBwdRefIdeal.Read

theorem lsig_log (x : ℝ) : lsig x = -Real.log (1 + Real.exp (-x)) := by
  unfold lsig
  rcases le_total 0 x with h | h
  · rw [min_eq_right h, abs_of_nonneg h, zero_sub]
  · rw [min_eq_left h, abs_of_nonpos h, neg_neg]
    have h1 : (1 : ℝ) + Real.exp (-x) = Real.exp (-x) * (1 + Real.exp x) := by
      rw [mul_add, mul_one, ← Real.exp_add, neg_add_cancel, Real.exp_zero, add_comm]
    rw [h1, Real.log_mul (Real.exp_ne_zero _) (by positivity), Real.log_exp]
    ring

theorem lsig_neg (x : ℝ) : lsig (-x) = lsig x - x := by
  unfold lsig
  rw [abs_neg]
  rcases le_total 0 x with h | h
  · rw [min_eq_right h, min_eq_left (by linarith)]; ring
  · rw [min_eq_left h, min_eq_right (by linarith)]; ring

theorem exp_lsig (x : ℝ) : Real.exp (lsig x) = 1 - Real.exp (lsig x - x) := by
  have h : 0 < 1 + Real.exp (-x) := by positivity
  rw [sub_eq_add_neg (lsig x) x, Real.exp_add, lsig_log, Real.exp_neg, Real.exp_log h]
  field_simp
  ring

theorem cum_succ (f : ℕ → ℕ → ℝ) (t n : ℕ) : cum f t (n + 1) = cum f t n + f t n := Finset.sum_range_succ _ _

/-- The logarithm of one plus the exponential, as the reference takes it. -/
def sp (a : EReal) : EReal := max a 0 + Ideal.log1p (Ideal.exp (-FloatOps.absf (F := Ideal) (φ := .f32) a))

theorem sp_real (x : ℝ) : sp (x : EReal) = ((-lsig (-x) : ℝ) : EReal) := by
  unfold sp
  have h1 : FloatOps.absf (F := Ideal) (φ := .f32) (x : EReal) = ((|x| : ℝ) : EReal) := by
    have : max (x : EReal) (-(x : EReal)) = ((|x| : ℝ) : EReal) := by
      rw [← EReal.coe_neg]; exact (EReal.coe_strictMono.monotone.map_max).symm
    exact this
  have h2 : max (x : EReal) (0 : EReal) = ((max x 0 : ℝ) : EReal) := (EReal.coe_strictMono.monotone.map_max).symm
  have hp : 0 < 1 + Real.exp (-|x|) := by positivity
  have h3 : -lsig (-x) = max x 0 + Real.log (1 + Real.exp (-|x|)) := by
    unfold lsig
    rw [abs_neg, neg_sub, sub_eq_add_neg, add_comm]
    congr 1
    rw [← max_neg_neg, neg_neg, neg_zero]
  rw [h1, h2, h3]
  unfold Ideal.log1p
  rw [← EReal.coe_neg, Ideal.exp_coe, ← EReal.coe_one, ← EReal.coe_add, Ideal.log_coe, if_neg (not_le.mpr hp), ← EReal.coe_add]

variable (X : FVec Ideal S2048x2560 .f32) (Gq Gk : FVec Ideal S1x64 .f32) (C : FVec Ideal S2048x1024 .f32)

section
variable (hf : Real' X Gq Gk C)
include hf

/-- The queries. -/
theorem rq (s : Fin 2048) (h : Fin 8) (d : Fin 64) : val_main_v3 (F := Ideal) X (ix3 s h d) = ((xq X h s.val d : ℝ) : EReal) :=
  (AttnHost.part_at 0 _ (by omega) X s h d).trans (hf.hq s h d)

/-- The keys. -/
theorem rk (s : Fin 2048) (h : Fin 8) (d : Fin 64) : val_main_v20 (F := Ideal) X (ix3 s h d) = ((xk X h s.val d : ℝ) : EReal) :=
  (AttnHost.part_at 512 _ (by omega) X s h d).trans (hf.hk s h d)

/-- The values. -/
theorem rv (s : Fin 2048) (h : Fin 8) (d : Fin 64) : val_main_v37 (F := Ideal) X (ix3 s h d) = ((xv X h s.val d : ℝ) : EReal) :=
  (AttnHost.part_at 1024 _ (by omega) X s h d).trans (hf.hv s h d)

/-- The gradient that comes in. -/
theorem rc (s : Fin 2048) (h : Fin 8) (d : Fin 64) : val_main_v61 (F := Ideal) C (ix3 s h d) = ((pc C h s.val d : ℝ) : EReal) := by
  refine Eq.trans ?_ (hf.hc s h d)
  pointwise [val_main_v61, val_main_v60]
  exact congrArg (fun z : Fin 1024 => C (ix2 s z)) (Fin.ext (by show h.val * 64 + d.val = 64 * h.val + d.val; omega))

/-- The queries' mean squares, the reciprocals of their roots and the derivative of these. -/
theorem msq (s : Fin 2048) (h : Fin 8) : val_main_v10 (F := Ideal) X (ix3 s h (0 : Fin 1)) = (((∑ d, xq X h s.val d * xq X h s.val d) / 64 + eps : ℝ) : EReal) := by
  pointwise [val_main_v10, val_main_v9, val_main_v8, val_main_v7, val_main_v6, val_main_v5, val_main_v4, val_main_cst_1, val_main_cst_0, val_main_cst]
  simp only [rq X Gq Gk C hf, sum_coe, ofBits_64, ofBits_eps, div_real _ h64, ← EReal.coe_mul, ← EReal.coe_add]
theorem rsq (s : Fin 2048) (h : Fin 8) : val_main_v11 (F := Ideal) X (ix3 s h (0 : Fin 1)) = ((rst (xq X h) s.val : ℝ) : EReal) := by
  pointwise [val_main_v11]
  rw [msq X Gq Gk C hf]
  exact rsqrt_real (ms_pos (xq X h) s.val)
theorem deq (s : Fin 2048) (h : Fin 8) : val_main_v14 (F := Ideal) X (ix3 s h (0 : Fin 1))
    = ((-(1 / 2) * (rst (xq X h) s.val / ((∑ d, xq X h s.val d * xq X h s.val d) / 64 + eps)) : ℝ) : EReal) := by
  pointwise [val_main_v14, val_main_v13, val_main_v12, val_main_cst_2]
  rw [rsq X Gq Gk C hf, msq X Gq Gk C hf, div_real _ (ms_pos (xq X h) s.val).ne', ofBits_neg_half, ← EReal.coe_mul]
/-- The queries normalised, and scaled. -/
theorem nrq (s : Fin 2048) (h : Fin 8) (d : Fin 64) : val_main_v16 (F := Ideal) X (ix3 s h d) = ((nrm (xq X h) s.val d : ℝ) : EReal) := by
  pointwise [val_main_v16, val_main_v15]
  rw [rq X Gq Gk C hf, rsq X Gq Gk C hf, ← EReal.coe_mul]
  rfl
theorem scq (s : Fin 2048) (h : Fin 8) (d : Fin 64) : val_main_v19 (F := Ideal) X Gq (ix3 s h d) = ((nrm (xq X h) s.val d * pg Gq d : ℝ) : EReal) := by
  pointwise [val_main_v19, val_main_v18, val_main_v17]
  rw [nrq X Gq Gk C hf, hf.hgq, ← EReal.coe_mul]

/-- The keys' mean squares, the reciprocals of their roots and the derivative of these. -/
theorem msk (s : Fin 2048) (h : Fin 8) : val_main_v27 (F := Ideal) X (ix3 s h (0 : Fin 1)) = (((∑ d, xk X h s.val d * xk X h s.val d) / 64 + eps : ℝ) : EReal) := by
  pointwise [val_main_v27, val_main_v26, val_main_v25, val_main_v24, val_main_v23, val_main_v22, val_main_v21, val_main_cst_5, val_main_cst_4, val_main_cst_3]
  simp only [rk X Gq Gk C hf, sum_coe, ofBits_64, ofBits_eps, div_real _ h64, ← EReal.coe_mul, ← EReal.coe_add]
theorem rsk (s : Fin 2048) (h : Fin 8) : val_main_v28 (F := Ideal) X (ix3 s h (0 : Fin 1)) = ((rst (xk X h) s.val : ℝ) : EReal) := by
  pointwise [val_main_v28]
  rw [msk X Gq Gk C hf]
  exact rsqrt_real (ms_pos (xk X h) s.val)
theorem dek (s : Fin 2048) (h : Fin 8) : val_main_v31 (F := Ideal) X (ix3 s h (0 : Fin 1))
    = ((-(1 / 2) * (rst (xk X h) s.val / ((∑ d, xk X h s.val d * xk X h s.val d) / 64 + eps)) : ℝ) : EReal) := by
  pointwise [val_main_v31, val_main_v30, val_main_v29, val_main_cst_6]
  rw [rsk X Gq Gk C hf, msk X Gq Gk C hf, div_real _ (ms_pos (xk X h) s.val).ne', ofBits_neg_half, ← EReal.coe_mul]
/-- The keys normalised, and scaled. -/
theorem nrk (s : Fin 2048) (h : Fin 8) (d : Fin 64) : val_main_v33 (F := Ideal) X (ix3 s h d) = ((nrm (xk X h) s.val d : ℝ) : EReal) := by
  pointwise [val_main_v33, val_main_v32]
  rw [rk X Gq Gk C hf, rsk X Gq Gk C hf, ← EReal.coe_mul]
  rfl
theorem sck (s : Fin 2048) (h : Fin 8) (d : Fin 64) : val_main_v36 (F := Ideal) X Gk (ix3 s h d) = ((nrm (xk X h) s.val d * pg Gk d : ℝ) : EReal) := by
  pointwise [val_main_v36, val_main_v35, val_main_v34]
  rw [nrk X Gq Gk C hf, hf.hgk, ← EReal.coe_mul]

/-- The score, of the opposite sign. -/
theorem rz (h : Fin 8) (t s : Fin 2048) : val_main_v40 (F := Ideal) X Gq Gk (ix3 h t s) = ((-sc (qn X Gq h) (kn X Gk h) t.val s.val : ℝ) : EReal) := by
  have e : val_main_v38 (F := Ideal) X Gq Gk (ix3 h t s) = ∑ d : Fin 64, val_main_v19 (F := Ideal) X Gq (ix3 t h d) * val_main_v36 (F := Ideal) X Gk (ix3 s h d) := by
    rw [val_main_v38_apply]
    refine Finset.sum_congr rfl fun d _ => ?_
    exact congrArg₂ (fun a b => val_main_v19 (F := Ideal) X Gq a * val_main_v36 (F := Ideal) X Gk b)
      (funext fun a => by match a with | ⟨0, _⟩ => rfl | ⟨1, _⟩ => rfl | ⟨2, _⟩ => rfl) (funext fun a => by match a with | ⟨0, _⟩ => rfl | ⟨1, _⟩ => rfl | ⟨2, _⟩ => rfl)
  pointwise [val_main_v40, val_main_v39, val_main_cst_7]
  rw [e]
  simp only [scq X Gq Gk C hf, sck X Gq Gk C hf, ofBits_eighth, ← EReal.coe_mul, sum_coe]
  congr 1
  unfold sc qn kn
  rw [Finset.sum_mul, ← Finset.sum_neg_distrib]
  exact Finset.sum_congr rfl fun d _ => by ring

/-- The two logarithms and the two fractions. -/
theorem sa (h : Fin 8) (t s : Fin 2048) : val_main_call0_v1_0 (F := Ideal) X Gq Gk (ix3 h t s) = ((-lb (qn X Gq h) (kn X Gk h) t.val s.val : ℝ) : EReal) := by
  pointwise [val_main_call0_v1_0, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0]
  rw [rz X Gq Gk C hf, ← EReal.coe_neg, neg_neg, if_neg (by simp)]
  refine (sp_real _).trans ?_
  rw [lsig_neg]
  rfl
theorem sb (h : Fin 8) (t s : Fin 2048) : val_main_call1_v1_0 (F := Ideal) X Gq Gk (ix3 h t s) = ((-lsig (sc (qn X Gq h) (kn X Gk h) t.val s.val) : ℝ) : EReal) := by
  pointwise [val_main_call1_v1_0, val_main_call1_call0_v11, val_main_call1_call0_v10, val_main_call1_call0_v9, val_main_call1_call0_v8, val_main_call1_call0_v7, val_main_call1_call0_v6, val_main_call1_call0_v5, val_main_call1_call0_v4, val_main_call1_call0_v3, val_main_call1_call0_v2, val_main_call1_call0_v1, val_main_call1_call0_v0, val_main_call1_call0_cst, val_main_call1_v0, val_main_v49]
  rw [rz X Gq Gk C hf, ← EReal.coe_neg, ← EReal.coe_neg, neg_neg, if_neg (by simp)]
  refine (sp_real _).trans ?_
  rw [neg_neg]
theorem ea (h : Fin 8) (t s : Fin 2048) : val_main_v48_1 (F := Ideal) X Gq Gk (ix3 h t s) = ((1 - Real.exp (lb (qn X Gq h) (kn X Gk h) t.val s.val) : ℝ) : EReal) := by
  pointwise [val_main_v48_1, val_main_call0_call0_v21, val_main_call0_call0_v20, val_main_call0_call0_v19, val_main_call0_call0_v18, val_main_call0_call0_v17, val_main_call0_call0_v16, val_main_call0_call0_v15, val_main_call0_call0_v14, val_main_call0_call0_v13, val_main_call0_call0_cst_0, val_main_call0_call0_cst_1, val_main_call0_call0_cst_2, val_main_call0_call0_cst_3, val_main_call0_v0]
  rw [rz X Gq Gk C hf, sa X Gq Gk C hf, ← EReal.coe_neg, neg_neg]
  simp only [ofBits_inf, EReal.coe_ne_top, if_false, ← EReal.coe_sub, Ideal.exp_coe]
  unfold lb
  rw [← exp_lsig]
  congr 2
  ring
theorem eb (h : Fin 8) (t s : Fin 2048) : val_main_v50_1 (F := Ideal) X Gq Gk (ix3 h t s) = ((Real.exp (lb (qn X Gq h) (kn X Gk h) t.val s.val) : ℝ) : EReal) := by
  pointwise [val_main_v50_1, val_main_call1_call0_v21, val_main_call1_call0_v20, val_main_call1_call0_v19, val_main_call1_call0_v18, val_main_call1_call0_v17, val_main_call1_call0_v16, val_main_call1_call0_v15, val_main_call1_call0_v14, val_main_call1_call0_v13, val_main_call1_call0_cst_0, val_main_call1_call0_cst_1, val_main_call1_call0_cst_2, val_main_call1_call0_cst_3, val_main_call1_v0, val_main_v49]
  rw [rz X Gq Gk C hf, sb X Gq Gk C hf, ← EReal.coe_neg, ← EReal.coe_neg, neg_neg]
  simp only [ofBits_inf, EReal.coe_ne_top, if_false, ← EReal.coe_sub, Ideal.exp_coe]
  unfold lb
  congr 2
  ring

/-- The logarithm of what is left, under the mask, and its sums from a position on. -/
theorem r51 (h : Fin 8) (t s : Fin 2048) : val_main_v51_0 (F := Ideal) X Gq Gk (ix3 h t s) = ((lm (qn X Gq h) (kn X Gk h) t.val s.val : ℝ) : EReal) := by
  pointwise [val_main_v51_0, val_main_call2_v2, val_main_call2_v0, val_main_cst_8, val_main_v50_0, val_main_v51_1, val_main_v47, val_main_v46, val_main_v45, val_main_v44, val_main_v43, val_main_v42, val_main_v41]
  rw [sb X Gq Gk C hf, ← EReal.coe_neg, neg_neg]
  have hs := s.isLt; have ht := t.isLt
  unfold lm
  word_cmp
  split
  · rfl
  · exact (Ideal.ofBits_zero .f32 : Ideal.ofBits .f32 0x00000000#32 = 0)
theorem r52 (h : Fin 8) (t s : Fin 2048) : val_main_v52 (F := Ideal) X Gq Gk (ix3 h t s)
    = ((cum (lm (qn X Gq h) (kn X Gk h)) t.val 2048 - cum (lm (qn X Gq h) (kn X Gk h)) t.val s.val : ℝ) : EReal) := by
  have e := AttnRed.from_entry (M := 2047) rfl (val_main_v51_0 (F := Ideal) X Gq Gk) (lm (qn X Gq h) (kn X Gk h) t.val) h t (fun s => r51 X Gq Gk C hf h t s)
    reduceWindows_S8x2048x2048_S8x2048x2048_w1s1p0_0_w1s1p0_0_w2048s1p0_2047 s
  have hc : (val_main_call3_v0 (F := Ideal)) (Shape.Idx.first h_S_) = 0 := (Ideal.ofBits_zero .f32 : Ideal.ofBits .f32 0x00000000#32 = 0)
  have u : val_main_v52 (F := Ideal) X Gq Gk (ix3 h t s) = Ideal.hostReduceWindowAdd ![1, 1, 2048] ![1, 1, 1] ![0, 0, 0] ![0, 0, 2047] reduceWindows_S8x2048x2048_S8x2048x2048_w1s1p0_0_w1s1p0_0_w2048s1p0_2047 (val_main_v51_0 (F := Ideal) X Gq Gk) ((val_main_call3_v0 (F := Ideal)) (Shape.Idx.first h_S_)) (ix3 h t s) := by
    unfold val_main_v52
    exact AttnRed.window_exact _ _ _ _ _ _ _ _ _
  rw [u, hc]
  exact e
/-- The weights before and after the mask. -/
theorem r55 (h : Fin 8) (t s : Fin 2048) : val_main_v55 (F := Ideal) X Gq Gk (ix3 h t s)
    = ((Real.exp (lb (qn X Gq h) (kn X Gk h) t.val s.val + (cum (lm (qn X Gq h) (kn X Gk h)) t.val 2048 - cum (lm (qn X Gq h) (kn X Gk h)) t.val (s.val + 1))) : ℝ) : EReal) := by
  pointwise [val_main_v55, val_main_v54, val_main_v53, val_main_v48_0]
  rw [r52 X Gq Gk C hf, r51 X Gq Gk C hf, sa X Gq Gk C hf]
  simp only [← EReal.coe_neg, neg_neg, ← EReal.coe_sub, ← EReal.coe_add, Ideal.exp_coe]
  rw [cum_succ _ _ s.val]
  congr 2
  ring
theorem r56 (h : Fin 8) (t s : Fin 2048) : val_main_v56_0 (F := Ideal) X Gq Gk (ix3 h t s) = ((wt (qn X Gq h) (kn X Gk h) t.val s.val : ℝ) : EReal) := by
  pointwise [val_main_v56_0, val_main_v56_1, val_main_call4_v2, val_main_call4_v0, val_main_cst_9, val_main_v47, val_main_v46, val_main_v45, val_main_v44, val_main_v43, val_main_v42, val_main_v41]
  rw [r55 X Gq Gk C hf]
  have hs := s.isLt; have ht := t.isLt
  unfold wt
  word_cmp
  split
  · rfl
  · exact (Ideal.ofBits_zero .f32 : Ideal.ofBits .f32 0x00000000#32 = 0)
theorem r63 (h : Fin 8) (t s : Fin 2048) : val_main_v63 (F := Ideal) X C (ix3 h t s) = ((sc (pc C h) (xv X h) t.val s.val : ℝ) : EReal) := by
  have e : val_main_v63 (F := Ideal) X C (ix3 h t s) = ∑ d : Fin 64, val_main_v62 (F := Ideal) C (ix3 h d t) * val_main_v37 (F := Ideal) X (ix3 s h d) := by
    rw [val_main_v63_apply]
    refine Finset.sum_congr rfl fun d _ => ?_
    exact congrArg₂ (fun a b => val_main_v62 (F := Ideal) C a * val_main_v37 (F := Ideal) X b)
      (funext fun a => by match a with | ⟨0, _⟩ => rfl | ⟨1, _⟩ => rfl | ⟨2, _⟩ => rfl) (funext fun a => by match a with | ⟨0, _⟩ => rfl | ⟨1, _⟩ => rfl | ⟨2, _⟩ => rfl)
  rw [e]
  pointwise [val_main_v62]
  simp only [rc X Gq Gk C hf, rv X Gq Gk C hf, ← EReal.coe_mul, sum_coe]
  rfl
theorem r67 (h : Fin 8) (t s : Fin 2048) : val_main_v67 (F := Ideal) X Gq Gk C (ix3 h t s) = ((en (qn X Gq h) (kn X Gk h) (xv X h) (pc C h) t.val s.val : ℝ) : EReal) := by
  pointwise [val_main_v67, val_main_v66, val_main_v56_1, val_main_call5_v0, val_main_call5_cst, val_main_v47, val_main_v46, val_main_v45, val_main_v44, val_main_v43, val_main_v42, val_main_v41]
  rw [r55 X Gq Gk C hf, r63 X Gq Gk C hf]
  have hs := s.isLt; have ht := t.isLt
  unfold en wt
  word_cmp
  split
  · rw [← EReal.coe_mul, mul_comm]
  · simp only [zero_mul]; rfl
theorem r69 (h : Fin 8) (t s : Fin 2048) : val_main_v69 (F := Ideal) X Gq Gk C (ix3 h t s) = ((cum (en (qn X Gq h) (kn X Gk h) (xv X h) (pc C h)) t.val (s.val + 1) : ℝ) : EReal) := by
  have e := AttnRed.up_to_entry (M := 2047) rfl (val_main_v67 (F := Ideal) X Gq Gk C) (en (qn X Gq h) (kn X Gk h) (xv X h) (pc C h) t.val) h t (fun s => r67 X Gq Gk C hf h t s)
    reduceWindows_S8x2048x2048_S8x2048x2048_w1s1p0_0_w1s1p0_0_w2048s1p2047_0 s
  have hc : (val_main_call6_v0 (F := Ideal)) (Shape.Idx.first h_S_) = 0 := (Ideal.ofBits_zero .f32 : Ideal.ofBits .f32 0x00000000#32 = 0)
  have u : val_main_v69 (F := Ideal) X Gq Gk C (ix3 h t s) = Ideal.hostReduceWindowAdd ![1, 1, 2048] ![1, 1, 1] ![0, 0, 2047] ![0, 0, 0] reduceWindows_S8x2048x2048_S8x2048x2048_w1s1p0_0_w1s1p0_0_w2048s1p2047_0 (val_main_v67 (F := Ideal) X Gq Gk C) ((val_main_call6_v0 (F := Ideal)) (Shape.Idx.first h_S_)) (ix3 h t s) := by
    unfold val_main_v69
    exact AttnRed.window_exact _ _ _ _ _ _ _ _ _
  rw [u, hc]
  exact e
/-- The gradient at the score, times the score's factor. -/
theorem r77 (h : Fin 8) (t s : Fin 2048) : val_main_v77 (F := Ideal) X Gq Gk C (ix3 h t s) = ((ds X Gq Gk C h t.val s.val * (1 / 8) : ℝ) : EReal) := by
  pointwise [val_main_v77, val_main_v76, val_main_cst_10, val_main_v75, val_main_v74, val_main_call9_v1, val_main_call9_v0, val_main_v73, val_main_v72, val_main_call8_v1, val_main_call8_v0, val_main_v71, val_main_call7_v0, val_main_call7_cst, val_main_v70, val_main_v68, val_main_v51_1, val_main_v47, val_main_v46, val_main_v45, val_main_v44, val_main_v43, val_main_v42, val_main_v41]
  rw [r67 X Gq Gk C hf, r69 X Gq Gk C hf, ea X Gq Gk C hf, eb X Gq Gk C hf, ofBits_eighth]
  have hs := s.isLt; have ht := t.isLt
  unfold ds dz
  word_cmp
  split
  · simp only [← EReal.coe_neg, ← EReal.coe_mul, ← EReal.coe_add]
    rw [cum_succ _ _ s.val]
    congr 1
    ring
  · next hn =>
    rw [← EReal.coe_zero]
    simp only [← EReal.coe_neg, ← EReal.coe_mul, ← EReal.coe_add]
    congr 2
    unfold en wt
    rw [if_neg hn]
    ring

/-- The gradients at the scaled queries and keys, and at the values. -/
theorem r81 (s : Fin 2048) (h : Fin 8) (d : Fin 64) : val_main_v81 (F := Ideal) X Gq Gk C (ix3 s h d) = ((gq X Gq Gk C h s.val d : ℝ) : EReal) := by
  have e : val_main_v80 (F := Ideal) X Gq Gk C (ix3 h s d) = ∑ k : Fin 2048, val_main_v77 (F := Ideal) X Gq Gk C (ix3 h s k) * val_main_v36 (F := Ideal) X Gk (ix3 k h d) := by
    rw [val_main_v80_apply]
    refine Finset.sum_congr rfl fun k _ => ?_
    exact congrArg₂ (fun a b => val_main_v77 (F := Ideal) X Gq Gk C a * val_main_v36 (F := Ideal) X Gk b)
      (funext fun a => by match a with | ⟨0, _⟩ => rfl | ⟨1, _⟩ => rfl | ⟨2, _⟩ => rfl) (funext fun a => by match a with | ⟨0, _⟩ => rfl | ⟨1, _⟩ => rfl | ⟨2, _⟩ => rfl)
  pointwise [val_main_v81]
  rw [e]
  simp only [r77 X Gq Gk C hf, sck X Gq Gk C hf, ← EReal.coe_mul, sum_coe]
  congr 1
  unfold gq row
  rw [Fin.sum_univ_eq_sum_range (fun k => ds X Gq Gk C h s.val k * (1 / 8) * (nrm (xk X h) k d * pg Gk d)), Finset.sum_mul]
  exact Finset.sum_congr rfl fun k _ => by unfold kn; ring
theorem r79 (s : Fin 2048) (h : Fin 8) (d : Fin 64) : val_main_v79 (F := Ideal) X Gq Gk C (ix3 s h d) = ((gk X Gq Gk C h s.val d : ℝ) : EReal) := by
  have e : val_main_v78 (F := Ideal) X Gq Gk C (ix3 h s d) = ∑ k : Fin 2048, val_main_v77 (F := Ideal) X Gq Gk C (ix3 h k s) * val_main_v19 (F := Ideal) X Gq (ix3 k h d) := by
    rw [val_main_v78_apply]
    refine Finset.sum_congr rfl fun k _ => ?_
    exact congrArg₂ (fun a b => val_main_v77 (F := Ideal) X Gq Gk C a * val_main_v19 (F := Ideal) X Gq b)
      (funext fun a => by match a with | ⟨0, _⟩ => rfl | ⟨1, _⟩ => rfl | ⟨2, _⟩ => rfl) (funext fun a => by match a with | ⟨0, _⟩ => rfl | ⟨1, _⟩ => rfl | ⟨2, _⟩ => rfl)
  pointwise [val_main_v79]
  rw [e]
  simp only [r77 X Gq Gk C hf, scq X Gq Gk C hf, ← EReal.coe_mul, sum_coe]
  congr 1
  unfold gk col
  rw [Fin.sum_univ_eq_sum_range (fun k => ds X Gq Gk C h k s.val * (1 / 8) * (nrm (xq X h) k d * pg Gq d)), ← Finset.sum_neg_distrib]
  exact Finset.sum_congr rfl fun k _ => by unfold qn; ring
theorem r65 (s : Fin 2048) (h : Fin 8) (d : Fin 64) : val_main_v65 (F := Ideal) X Gq Gk C (ix3 s h d) = ((gv X Gq Gk C h s.val d : ℝ) : EReal) := by
  have e : val_main_v64 (F := Ideal) X Gq Gk C (ix3 h d s) = ∑ k : Fin 2048, val_main_v62 (F := Ideal) C (ix3 h d k) * val_main_v56_0 (F := Ideal) X Gq Gk (ix3 h k s) := by
    rw [val_main_v64_apply]
    refine Finset.sum_congr rfl fun k _ => ?_
    exact congrArg₂ (fun a b => val_main_v62 (F := Ideal) C a * val_main_v56_0 (F := Ideal) X Gq Gk b)
      (funext fun a => by match a with | ⟨0, _⟩ => rfl | ⟨1, _⟩ => rfl | ⟨2, _⟩ => rfl) (funext fun a => by match a with | ⟨0, _⟩ => rfl | ⟨1, _⟩ => rfl | ⟨2, _⟩ => rfl)
  pointwise [val_main_v65]
  rw [e]
  pointwise [val_main_v62]
  simp only [rc X Gq Gk C hf, r56 X Gq Gk C hf, ← EReal.coe_mul, sum_coe]
  congr 1
  unfold gv col
  rw [Fin.sum_univ_eq_sum_range (fun k => pc C h k d * wt (qn X Gq h) (kn X Gk h) k s.val)]
  exact Finset.sum_congr rfl fun k _ => by ring

omit hf in
/-- The two ways of writing a normalised row's gradient. -/
theorem bwd_eq (x G : ℕ → Fin 64 → ℝ) (g : Fin 64 → ℝ) (t : ℕ) (d : Fin 64) (a : ℝ)
    (ha : a = (∑ j, x t j * (G t j * g j)) * (-(1 / 2) * (rst x t / ((∑ d, x t d * x t d) / 64 + eps))) / 64) :
    G t d * g d * rst x t + x t d * a + a * x t d = bwd x G g t d := by
  have hp := ms_pos x t
  have h1 : rst x t * rst x t = ((∑ d, x t d * x t d) / 64 + eps)⁻¹ := by
    unfold rst
    rw [← mul_inv, Real.mul_self_sqrt hp.le]
  have h2 : (∑ j, G t j * g j * nrm x t j) = (∑ j, x t j * (G t j * g j)) * rst x t := by
    rw [Finset.sum_mul]
    exact Finset.sum_congr rfl fun j _ => by unfold nrm; ring
  unfold bwd
  rw [h2, ha, div_eq_mul_inv (rst x t), ← h1]
  unfold nrm
  ring

theorem cok (s : Fin 2048) (h : Fin 8) (d : Fin 64) : val_main_v99 (F := Ideal) X Gq Gk C (ix3 s h d)
    = (((∑ j, xk X h s.val j * (gk X Gq Gk C h s.val j * pg Gk j)) * (-(1 / 2) * (rst (xk X h) s.val / ((∑ d, xk X h s.val d * xk X h s.val d) / 64 + eps))) / 64 : ℝ) : EReal) := by
  pointwise [val_main_v99, val_main_v98, val_main_v97, val_main_v96, val_main_v95, val_main_v92, val_main_v91, val_main_v90, val_main_v87, val_main_v86, val_main_v34, val_main_cst_15, val_main_cst_14, val_main_cst_13]
  simp only [Fin.sum_univ_one, dek X Gq Gk C hf, rk X Gq Gk C hf, r79 X Gq Gk C hf, hf.hgk, ← EReal.coe_mul, sum_coe, ofBits_64, div_real _ h64]
theorem dk_at (s : Fin 2048) (h : Fin 8) (d : Fin 64) : val_main_v103 (F := Ideal) X Gq Gk C (ix3 s h d) = ((dk X Gq Gk C h s.val d : ℝ) : EReal) := by
  pointwise [val_main_v103, val_main_v102, val_main_v101, val_main_v100, val_main_v94, val_main_v93, val_main_v87, val_main_v86, val_main_v34]
  rw [cok X Gq Gk C hf, rsk X Gq Gk C hf, rk X Gq Gk C hf, r79 X Gq Gk C hf, hf.hgk]
  simp only [← EReal.coe_mul, ← EReal.coe_add]
  congr 1
  exact bwd_eq (xk X h) (gk X Gq Gk C h) (pg Gk) s.val d _ rfl
/-- The gradient at the keys. -/
theorem out_dk : val_main_v128 (F := Ideal) X Gq Gk C = AttnVal.lanes (dk X Gq Gk C) := by
  funext j
  idx_vars j
  pointwise [val_main_v128, val_main_v104]
  rw [dk_at X Gq Gk C hf]
  rfl
/-- The gradient at the keys' scale. -/
theorem out_dgk : val_main_v89 (F := Ideal) X Gq Gk C = AttnVal.gains (dgk X Gq Gk C) := by
  funext j
  obtain ⟨d, rfl⟩ : ∃ d : Fin 64, j = ix2 (0 : Fin 1) d := ⟨j 1, funext fun a => by match a with | ⟨0, _⟩ => exact Fin.ext (Nat.lt_one_iff.mp (j 0).isLt) | ⟨1, _⟩ => rfl⟩
  have e : val_main_v84 (F := Ideal) X Gq Gk C (ix1 d) = ((dgk X Gq Gk C d : ℝ) : EReal) := by
    refine (AttnRed.two_axes (val_main_v83 (F := Ideal) X Gq Gk C) ((val_main_cst_11 (F := Ideal)) (Shape.Idx.first h_S_)) reducesTo_S2048x8x64_S64_d0_1 d).trans ?_
    rw [show (val_main_cst_11 (F := Ideal)) (Shape.Idx.first h_S_) = 0 from (Ideal.ofBits_zero .f32 : Ideal.ofBits .f32 0x00000000#32 = 0), zero_add]
    pointwise [val_main_v83]
    simp only [nrk X Gq Gk C hf, r79 X Gq Gk C hf, ← EReal.coe_mul, sum_coe]
    congr 1
    unfold dgk dgain
    rw [Finset.sum_comm]
    refine Finset.sum_congr rfl fun h _ => ?_
    rw [Fin.sum_univ_eq_sum_range (fun t => nrm (xk X h) t d * gk X Gq Gk C h t d)]
    exact Finset.sum_congr rfl fun t _ => mul_comm _ _
  have u : val_main_v88 (F := Ideal) X Gq Gk C (ix1 d) = ((dgk X Gq Gk C d : ℝ) : EReal) := by
    refine (AttnRed.two_axes (val_main_v85 (F := Ideal) X Gq Gk C) ((val_main_cst_12 (F := Ideal)) (Shape.Idx.first h_S_)) reducesTo_S1x1x64_S64_d0_1 d).trans ?_
    rw [show (val_main_cst_12 (F := Ideal)) (Shape.Idx.first h_S_) = 0 from (Ideal.ofBits_zero .f32 : Ideal.ofBits .f32 0x00000000#32 = 0), zero_add]
    simp only [Fin.sum_univ_one]
    pointwise [val_main_v85]
    exact e
  pointwise [val_main_v89]
  exact u

theorem coq (s : Fin 2048) (h : Fin 8) (d : Fin 64) : val_main_v121 (F := Ideal) X Gq Gk C (ix3 s h d)
    = (((∑ j, xq X h s.val j * (gq X Gq Gk C h s.val j * pg Gq j)) * (-(1 / 2) * (rst (xq X h) s.val / ((∑ d, xq X h s.val d * xq X h s.val d) / 64 + eps))) / 64 : ℝ) : EReal) := by
  pointwise [val_main_v121, val_main_v120, val_main_v119, val_main_v118, val_main_v117, val_main_v114, val_main_v113, val_main_v112, val_main_v109, val_main_v108, val_main_v17, val_main_cst_20, val_main_cst_19, val_main_cst_18]
  simp only [Fin.sum_univ_one, deq X Gq Gk C hf, rq X Gq Gk C hf, r81 X Gq Gk C hf, hf.hgq, ← EReal.coe_mul, sum_coe, ofBits_64, div_real _ h64]
theorem dq_at (s : Fin 2048) (h : Fin 8) (d : Fin 64) : val_main_v125 (F := Ideal) X Gq Gk C (ix3 s h d) = ((dq X Gq Gk C h s.val d : ℝ) : EReal) := by
  pointwise [val_main_v125, val_main_v124, val_main_v123, val_main_v122, val_main_v116, val_main_v115, val_main_v109, val_main_v108, val_main_v17]
  rw [coq X Gq Gk C hf, rsq X Gq Gk C hf, rq X Gq Gk C hf, r81 X Gq Gk C hf, hf.hgq]
  simp only [← EReal.coe_mul, ← EReal.coe_add]
  congr 1
  exact bwd_eq (xq X h) (gq X Gq Gk C h) (pg Gq) s.val d _ rfl
/-- The gradient at the queries. -/
theorem out_dq : val_main_v127 (F := Ideal) X Gq Gk C = AttnVal.lanes (dq X Gq Gk C) := by
  funext j
  idx_vars j
  pointwise [val_main_v127, val_main_v126]
  rw [dq_at X Gq Gk C hf]
  rfl
/-- The gradient at the queries' scale. -/
theorem out_dgq : val_main_v111 (F := Ideal) X Gq Gk C = AttnVal.gains (dgq X Gq Gk C) := by
  funext j
  obtain ⟨d, rfl⟩ : ∃ d : Fin 64, j = ix2 (0 : Fin 1) d := ⟨j 1, funext fun a => by match a with | ⟨0, _⟩ => exact Fin.ext (Nat.lt_one_iff.mp (j 0).isLt) | ⟨1, _⟩ => rfl⟩
  have e : val_main_v106 (F := Ideal) X Gq Gk C (ix1 d) = ((dgq X Gq Gk C d : ℝ) : EReal) := by
    refine (AttnRed.two_axes (val_main_v105 (F := Ideal) X Gq Gk C) ((val_main_cst_16 (F := Ideal)) (Shape.Idx.first h_S_)) reducesTo_S2048x8x64_S64_d0_1 d).trans ?_
    rw [show (val_main_cst_16 (F := Ideal)) (Shape.Idx.first h_S_) = 0 from (Ideal.ofBits_zero .f32 : Ideal.ofBits .f32 0x00000000#32 = 0), zero_add]
    pointwise [val_main_v105]
    simp only [nrq X Gq Gk C hf, r81 X Gq Gk C hf, ← EReal.coe_mul, sum_coe]
    congr 1
    unfold dgq dgain
    rw [Finset.sum_comm]
    refine Finset.sum_congr rfl fun h _ => ?_
    rw [Fin.sum_univ_eq_sum_range (fun t => nrm (xq X h) t d * gq X Gq Gk C h t d)]
    exact Finset.sum_congr rfl fun t _ => mul_comm _ _
  have u : val_main_v110 (F := Ideal) X Gq Gk C (ix1 d) = ((dgq X Gq Gk C d : ℝ) : EReal) := by
    refine (AttnRed.two_axes (val_main_v107 (F := Ideal) X Gq Gk C) ((val_main_cst_17 (F := Ideal)) (Shape.Idx.first h_S_)) reducesTo_S1x1x64_S64_d0_1 d).trans ?_
    rw [show (val_main_cst_17 (F := Ideal)) (Shape.Idx.first h_S_) = 0 from (Ideal.ofBits_zero .f32 : Ideal.ofBits .f32 0x00000000#32 = 0), zero_add]
    simp only [Fin.sum_univ_one]
    pointwise [val_main_v107]
    exact e
  pointwise [val_main_v111]
  exact u

/-- The gradient at the values. -/
theorem out_dv : val_main_v129 (F := Ideal) X Gq Gk C = AttnVal.lanes (gv X Gq Gk C) := by
  funext j
  idx_vars j
  pointwise [val_main_v129, val_main_v82]
  rw [r65 X Gq Gk C hf]
  rfl
end

end Cert.AttnRef

end
-- ==== Proof.AttnAlg.lean ====
/- The attention backward kernel and its reference leave the same gradients. -/
module

public import proofs.«01_k».proof.Proof.AttnTop
public import proofs.«01_k».proof.Proof.AttnRef
public import proofs.«01_k».proof.Proof.Gen.Pre_attn_finite

@[expose] public section

set_option maxRecDepth 16384

noncomputable section

namespace Cert.AttnAlg

open Idealize.ShloMosaic Idealize.ShloMosaic.TcCoe Idealize.SL.Sem
open Cert.Reals Cert.AttnArr Cert.AttnHost Cert.AttnVal Cert.AttnRef Cert.AttnBwdIdeal Cert.AttnBwdIdeal.Gen Cert.AttnBwdIdeal.Frm

/-- The precondition says the arguments it names are real numbers. -/
theorem fin_of_pre (m : (ℓ : Loc nD τ sig) → Buf (Elt Ideal) ℓ) (h : Cert.Pre_AttnBwdIdeal_attn_finite m) (c : Dev nD) : Real' (X m c) (Gq m c) (Gk m c) (C m c) := by
  have hA : ∀ (s : Fin 2048) (e : Fin 8) (d : Fin 64), _ := fun s e d => congrFun (h c) (ix3 s e d)
  unfold Cert.Pre_attn_finite.fn Cert.Pre_attn_finite.fn_part1 at hA
  pointwise [] at hA
  simp only [andi_one] at hA
  refine ⟨fun s e d => ?_, fun s e d => ?_, fun s e d => ?_, fun s e d => ?_, fun d => real_of_abs_lt (hA 0 0 d).1.2, fun d => real_of_abs_lt (hA 0 0 d).2⟩
  · have i : (⟨0 + (64 * e.val + d.val), by have := e.isLt; have := d.isLt; omega⟩ : Fin 2560) = ⟨e.val * 64 + d.val, by have := e.isLt; have := d.isLt; omega⟩ := Fin.ext (by show 0 + (64 * e.val + d.val) = e.val * 64 + d.val; omega)
    unfold xq px
    rw [dif_pos s.isLt, i]
    exact real_of_abs_lt (hA s e d).1.1.1.1.1
  · have i : (⟨512 + (64 * e.val + d.val), by have := e.isLt; have := d.isLt; omega⟩ : Fin 2560) = ⟨512 + (e.val * 64 + d.val), by have := e.isLt; have := d.isLt; omega⟩ := Fin.ext (by show 512 + (64 * e.val + d.val) = 512 + (e.val * 64 + d.val); omega)
    unfold xk px
    rw [dif_pos s.isLt, i]
    exact real_of_abs_lt (hA s e d).1.1.1.1.2
  · have i : (⟨1024 + (64 * e.val + d.val), by have := e.isLt; have := d.isLt; omega⟩ : Fin 2560) = ⟨1024 + (e.val * 64 + d.val), by have := e.isLt; have := d.isLt; omega⟩ := Fin.ext (by show 1024 + (64 * e.val + d.val) = 1024 + (e.val * 64 + d.val); omega)
    unfold xv px
    rw [dif_pos s.isLt, i]
    exact real_of_abs_lt (hA s e d).1.1.1.2
  · have i : (⟨64 * e.val + d.val, by have := e.isLt; have := d.isLt; omega⟩ : Fin 1024) = ⟨e.val * 64 + d.val, by have := e.isLt; have := d.isLt; omega⟩ := Fin.ext (by show 64 * e.val + d.val = e.val * 64 + d.val; omega)
    unfold pc
    rw [dif_pos s.isLt, i]
    exact real_of_abs_lt (hA s e d).1.1.2

/-- The five results after the kernel's run. -/
theorem post12 (m : (ℓ : Loc nD τ sig) → Buf (Elt Ideal) ℓ) (r : PUnit × MemSt nD τ sig (Elt Ideal)) (h : Pipeline.FramePost cfgs (dats m) 0 (V m) r) (c : Dev nD) (hf : Real' (X m c) (Gq m c) (Gk m c) (C m c)) :
    r.2.mem ((c : Thread nD τ).loc main_v79_0) = lanes (dq (X m c) (Gq m c) (Gk m c) (C m c)) := ((h c).1 12).trans (arr12 m c hf)
theorem post13 (m : (ℓ : Loc nD τ sig) → Buf (Elt Ideal) ℓ) (r : PUnit × MemSt nD τ sig (Elt Ideal)) (h : Pipeline.FramePost cfgs (dats m) 0 (V m) r) (c : Dev nD) (hf : Real' (X m c) (Gq m c) (Gk m c) (C m c)) :
    r.2.mem ((c : Thread nD τ).loc main_v79_1) = lanes (dk (X m c) (Gq m c) (Gk m c) (C m c)) := ((h c).1 13).trans (arr13 m c hf)
theorem post14 (m : (ℓ : Loc nD τ sig) → Buf (Elt Ideal) ℓ) (r : PUnit × MemSt nD τ sig (Elt Ideal)) (h : Pipeline.FramePost cfgs (dats m) 0 (V m) r) (c : Dev nD) (hf : Real' (X m c) (Gq m c) (Gk m c) (C m c)) :
    r.2.mem ((c : Thread nD τ).loc main_v79_2) = lanes (gv (X m c) (Gq m c) (Gk m c) (C m c)) := ((h c).1 14).trans (arr14 m c hf)
theorem post15 (m : (ℓ : Loc nD τ sig) → Buf (Elt Ideal) ℓ) (r : PUnit × MemSt nD τ sig (Elt Ideal)) (h : Pipeline.FramePost cfgs (dats m) 0 (V m) r) (c : Dev nD) (hf : Real' (X m c) (Gq m c) (Gk m c) (C m c)) :
    r.2.mem ((c : Thread nD τ).loc main_v79_3) = gains (dgq (X m c) (Gq m c) (Gk m c) (C m c)) := ((h c).1 15).trans (arr15 m c hf)
theorem post16 (m : (ℓ : Loc nD τ sig) → Buf (Elt Ideal) ℓ) (r : PUnit × MemSt nD τ sig (Elt Ideal)) (h : Pipeline.FramePost cfgs (dats m) 0 (V m) r) (c : Dev nD) (hf : Real' (X m c) (Gq m c) (Gk m c) (C m c)) :
    r.2.mem ((c : Thread nD τ).loc main_v79_4) = gains (dgk (X m c) (Gq m c) (Gk m c) (C m c)) := ((h c).1 16).trans (arr16 m c hf)

/-- The kernel and the differentiated forward lines leave the same gradients of the queries, the keys, the values and the two scales. -/
theorem algebraic : Cert.algebraic_AttnBwdIdeal_AttnBwdRefIdeal_pre_attn_finite := fun m ρ m' ρ' hp hag =>
  ⟨fun c => lanes (dq (X m c) (Gq m c) (Gk m c) (C m c)), fun c => lanes (dk (X m c) (Gq m c) (Gk m c) (C m c)), fun c => lanes (gv (X m c) (Gq m c) (Gk m c) (C m c)),
    fun c => gains (dgq (X m c) (Gq m c) (Gk m c) (C m c)), fun c => gains (dgk (X m c) (Gq m c) (Gk m c) (C m c)),
    (θ_run _ _ _).mono (fun _ h c => by
      have hf := fin_of_pre m hp c
      exact ⟨post12 m _ h.1 c hf, post13 m _ h.1 c hf, post14 m _ h.1 c hf, post15 m _ h.1 c hf, post16 m _ h.1 c hf, h.2 c⟩)
      (θ_run_and (run_main m ρ) (frame_of m ρ (dats m) (A_eq m) (run_main m ρ))),
    (θ_run _ _ _).mono (fun _ h c => by
      have hf := fin_of_pre m hp c
      refine ⟨(h c).1.trans ?_, (h c).2.1.trans ?_, (h c).2.2.1.trans ?_, (h c).2.2.2.1.trans ?_, (h c).2.2.2.2.1.trans ?_, (h c).2.2.2.2.2⟩
      · rw [Cert.AttnBwdRefIdeal.Read.val_main_v127_eq]
        refine (congr (congr (congrArg₂ (Cert.AttnBwdRefIdeal.Read.val_main_v127 (F := Ideal)) (hag c).1 (hag c).2.1) (hag c).2.2.1) (hag c).2.2.2).trans ?_
        exact out_dq _ _ _ _ hf
      · rw [Cert.AttnBwdRefIdeal.Read.val_main_v128_eq]
        refine (congr (congr (congrArg₂ (Cert.AttnBwdRefIdeal.Read.val_main_v128 (F := Ideal)) (hag c).1 (hag c).2.1) (hag c).2.2.1) (hag c).2.2.2).trans ?_
        exact out_dk _ _ _ _ hf
      · rw [Cert.AttnBwdRefIdeal.Read.val_main_v129_eq]
        refine (congr (congr (congrArg₂ (Cert.AttnBwdRefIdeal.Read.val_main_v129 (F := Ideal)) (hag c).1 (hag c).2.1) (hag c).2.2.1) (hag c).2.2.2).trans ?_
        exact out_dv _ _ _ _ hf
      · rw [Cert.AttnBwdRefIdeal.Read.val_main_v111_eq]
        refine (congr (congr (congrArg₂ (Cert.AttnBwdRefIdeal.Read.val_main_v111 (F := Ideal)) (hag c).1 (hag c).2.1) (hag c).2.2.1) (hag c).2.2.2).trans ?_
        exact out_dgq _ _ _ _ hf
      · rw [Cert.AttnBwdRefIdeal.Read.val_main_v89_eq]
        refine (congr (congr (congrArg₂ (Cert.AttnBwdRefIdeal.Read.val_main_v89 (F := Ideal)) (hag c).1 (hag c).2.1) (hag c).2.2.1) (hag c).2.2.2).trans ?_
        exact out_dgk _ _ _ _ hf)
      (Cert.AttnBwdRefIdeal.Value.run m' ρ')⟩

end Cert.AttnAlg

end
-- ==== Proof.RmsMath.lean ====
/- The gradient of a row normalised by its root mean square, over the real numbers: the two ways of writing it agree. -/
module

public import proofs.«01_k».proof.Proof.Reals

@[expose] public section

noncomputable section

namespace Cert.RmsMath

open Idealize.ShloMosaic Cert.Reals

/-- The mean of a row of 1024. -/
def mean (x : Fin 1024 → ℝ) : ℝ := (∑ k, x k) / 1024

/-- The row's mean square plus epsilon. -/
def mse (x : Fin 1024 → ℝ) : ℝ := mean (fun k => x k * x k) + eps

/-- The reciprocal root mean square. -/
def rms (x : Fin 1024 → ℝ) : ℝ := (Real.sqrt (mse x))⁻¹

theorem mse_pos (x : Fin 1024 → ℝ) : 0 < mse x := by
  unfold mse mean
  have := Finset.sum_nonneg (s := Finset.univ) (f := fun k => x k * x k) fun k _ => mul_self_nonneg _
  have := eps_pos
  positivity

theorem h1024 : (1024 : ℝ) ≠ 0 := by norm_num

theorem ofBits_1024 : Ideal.ofBits .f32 0x44800000#32 = ((1024 : ℝ) : EReal) := by
  simp [Ideal.ofBits, Ideal.ieee, -EReal.coe_mul]; norm_num

/-- The part of the row's gradient the norm gives, as the kernel writes it: `x` the row, `g` the scale, `h` the gradient of the scaled row. -/
def dx (x g h : Fin 1024 → ℝ) (j : Fin 1024) : ℝ :=
  rms x * (h j * g j - x j * rms x * mean (fun k => h k * g k * (x k * rms x)))

/-- The same as differentiation of the forward lines writes it. -/
def dxRef (x g h : Fin 1024 → ℝ) (j : Fin 1024) : ℝ :=
  let c : ℝ := (∑ k, x k * (h k * g k)) * (-(1 / 2) * (rms x / mse x)) / 1024
  h j * g j * rms x + x j * c + c * x j

theorem dxRef_eq (x g h : Fin 1024 → ℝ) (j : Fin 1024) : dxRef x g h j = dx x g h j := by
  have hv := mse_pos x
  have hr : rms x / mse x = rms x * (rms x * rms x) := by
    unfold rms
    rw [← mul_inv, Real.mul_self_sqrt hv.le]; rfl
  unfold dxRef dx mean
  have e : ∑ k, h k * g k * (x k * rms x) = rms x * ∑ k, x k * (h k * g k) := by
    rw [Finset.mul_sum]; exact Finset.sum_congr rfl fun k _ => by ring
  rw [hr, e]
  ring

end Cert.RmsMath

end
-- ==== Proof.RmsPay.lean ====
/- What the root-mean-square backward kernels store at a point, at an index, and what their references return: real functions. -/
module

public import proofs.«01_k».proof.Proof.RmsMath
public import proofs.«01_k».proof.Proof.Gen.Rms2Ideal.Value
public import proofs.«01_k».proof.Proof.Gen.Rms2RefIdeal.Read
public import proofs.«01_k».proof.Proof.Gen.Rms5Ideal.Value
public import proofs.«01_k».proof.Proof.Gen.Rms5RefIdeal.Read
public import Idealize.ShloMosaic.Lib.Pipeline.ValueKit

@[expose] public section

set_option maxRecDepth 16384

noncomputable section

namespace Cert.RmsPay

open Idealize.ShloMosaic Cert.Reals Cert.RmsMath

section
open Cert.Rms5Ideal Cert.Rms5Ideal.Gen

section
variable (X : FVec Ideal S256x1024 .f32) (x : Fin 256 → Fin 1024 → ℝ) (hx : ∀ r l, X (ix2 r l) = ((x r l : ℝ) : EReal))
include hx

/-- The block's reciprocal root mean squares. -/
theorem pay6 (r : Fin 256) : k0_pay6 (F := Ideal) X (ix2 r (0 : Fin 1)) = ((rms (x r) : ℝ) : EReal) := by
  pointwise [k0_pay6]
  simp only [hx, sum_coe, ofBits_1024, ofBits_eps, div_real _ h1024, ← EReal.coe_mul, ← EReal.coe_add]
  exact rsqrt_real (mse_pos (x r))

/-- The same along the rows. -/
theorem pay7 (r : Fin 256) (l : Fin 1024) : k0_pay7 (F := Ideal) X (ix2 r l) = ((rms (x r) : ℝ) : EReal) := by
  pointwise [k0_pay7]
  exact pay6 X x hx r

variable (D : FVec Ideal S256x1024 .f32) (h : Fin 256 → Fin 1024 → ℝ) (hD : ∀ r l, D (ix2 r l) = ((h r l : ℝ) : EReal))
include hD

/-- The block's gradient: the residual's plus the norm's. -/
theorem pay2 (G : FVec Ideal S1x1024 .f32) (g : Fin 1024 → ℝ) (hG : ∀ l, G (ix2 (0 : Fin 1) l) = ((g l : ℝ) : EReal))
    (R : FVec Ideal S256x1024 .f32) (r : Fin 256) (l : Fin 1024) :
    k0_pay2 (F := Ideal) D X (k0_pay6 X) (k0_pay7 X) G R (ix2 r l) = R (ix2 r l) + ((dx (x r) g (h r) l : ℝ) : EReal) := by
  pointwise [k0_pay2, k0_pay1]
  simp only [hx, hD, hG, pay6 X x hx, pay7 X x hx, ofBits_1024, ← EReal.coe_mul, sum_coe, div_real _ h1024, ← EReal.coe_sub]
  rfl

/-- One block's step of the scale's gradient. -/
theorem pay4 (Y : FVec Ideal S1x1024 .f32) (l : Fin 1024) :
    k0_pay4 (F := Ideal) D X (k0_pay7 X) Y (ix2 (0 : Fin 1) l) = Y (ix2 (0 : Fin 1) l) + ((∑ r, h r l * (x r l * rms (x r)) : ℝ) : EReal) := by
  pointwise [k0_pay4, k0_pay1]
  simp only [hx, hD, pay7 X x hx, ← EReal.coe_mul, sum_coe]
end

/-- The five products of a block, at an index. -/
theorem pay5 (a1 : FVec Ideal S256x512 .bf16) (w1 : FVec Ideal S1024x512 .bf16) (a2 : FVec Ideal S256x512 .bf16) (w2 : FVec Ideal S1024x512 .bf16)
    (a3 : FVec Ideal S256x512 .bf16) (w3 : FVec Ideal S1024x512 .bf16) (a4 : FVec Ideal S256x512 .bf16) (w4 : FVec Ideal S1024x512 .bf16)
    (a5 : FVec Ideal S256x512 .bf16) (w5 : FVec Ideal S1024x512 .bf16) (r : Fin 256) (l : Fin 1024) :
    k0_pay5 (F := Ideal) a1 w1 a2 w2 a3 w3 a4 w4 a5 w5 (ix2 r l)
      = ∑ k, a1 (ix2 r k) * w1 (ix2 l k) + ∑ k, a2 (ix2 r k) * w2 (ix2 l k) + ∑ k, a3 (ix2 r k) * w3 (ix2 l k)
        + ∑ k, a4 (ix2 r k) * w4 (ix2 l k) + ∑ k, a5 (ix2 r k) * w5 (ix2 l k) := by
  pointwise [k0_pay5]
end

/-- The two products of a block, at an index. -/
theorem pay3 (a1 : FVec Ideal Cert.Rms2Ideal.S256x2816 .bf16) (w1 : FVec Ideal Cert.Rms2Ideal.S1024x2816 .bf16)
    (a2 : FVec Ideal Cert.Rms2Ideal.S256x2816 .bf16) (w2 : FVec Ideal Cert.Rms2Ideal.S1024x2816 .bf16) (r : Fin 256) (l : Fin 1024) :
    Cert.Rms2Ideal.Gen.k0_pay3 (F := Ideal) a1 w1 a2 w2 (ix2 r l) = ∑ k, a1 (ix2 r k) * w1 (ix2 l k) + ∑ k, a2 (ix2 r k) * w2 (ix2 l k) := by
  pointwise [Cert.Rms2Ideal.Gen.k0_pay3]

section
open Cert.Rms2RefIdeal Cert.Rms2RefIdeal.Gen Cert.Rms2RefIdeal.Read

/-- The reference's scale gradient from the gradient of the scaled rows. -/
def refDg (D X : FVec Ideal S2048x1024 .f32) : FVec Ideal S1x1024 .f32 :=
  shapeCast _ (Host.reduceAdd (mulf (val_main_v14 (F := Ideal) X) D) (val_main_cst_3 (F := Ideal)) reducesTo_S2048x1024_S1024_d0 h_S_) shapeCasts_S1024_S1x1024

/-- The reference's gradient through the mean square. -/
def refC (D X : FVec Ideal S2048x1024 .f32) (G : FVec Ideal S1x1024 .f32) : FVec Ideal S2048x1024 .f32 :=
  broadcastInDim S2048x1024 ![0] bcast_S2048_S2048x1024_0 (Host.reduceAdd (Host.divf (mulf (shapeCast _ (Host.reduceAdd
    (mulf X (mulf D (val_main_v23 (F := Ideal) G))) (val_main_cst_4 (F := Ideal)) reducesTo_S2048x1024_S2048_d1 h_S_) shapeCasts_S2048_S2048x1) (val_main_v12 (F := Ideal) X))
    (val_main_v32 (F := Ideal))) (val_main_cst_6 (F := Ideal)) reducesTo_S2048x1_S2048_d1 h_S_)

/-- The reference's gradient of the rows. -/
def refDx (D X : FVec Ideal S2048x1024 .f32) (G : FVec Ideal S1x1024 .f32) (R : FVec Ideal S2048x1024 .f32) : FVec Ideal S2048x1024 .f32 :=
  addf (addf (addf R (mulf (mulf D (val_main_v23 (F := Ideal) G)) (val_main_v28 (F := Ideal) X))) (mulf X (refC D X G))) (mulf (refC D X G) X)

variable (X : FVec Ideal S2048x1024 .f32) (x : Fin 2048 → Fin 1024 → ℝ) (hx : ∀ r l, X (ix2 r l) = ((x r l : ℝ) : EReal))
include hx

/-- The rows' mean squares. -/
theorem ref8 (r : Fin 2048) : val_main_v8 (F := Ideal) X (ix2 r (0 : Fin 1)) = ((mse (x r) : ℝ) : EReal) := by
  pointwise [val_main_v8, val_main_v7, val_main_cst_1, val_main_v6, val_main_v5, val_main_cst_0, val_main_v4, val_main_v3, val_main_cst, val_main_v2]
  simp only [hx, sum_coe, ofBits_1024, ofBits_eps, div_real _ h1024, ← EReal.coe_mul, ← EReal.coe_add]
  rfl

/-- The rows' reciprocal root mean squares. -/
theorem ref9 (r : Fin 2048) : val_main_v9 (F := Ideal) X (ix2 r (0 : Fin 1)) = ((rms (x r) : ℝ) : EReal) := by
  pointwise [val_main_v9]
  rw [ref8 X x hx]
  exact rsqrt_real (mse_pos (x r))

/-- The derivative of the reciprocal square root. -/
theorem ref12 (r : Fin 2048) : val_main_v12 (F := Ideal) X (ix2 r (0 : Fin 1)) = ((-(1 / 2) * (rms (x r) / mse (x r)) : ℝ) : EReal) := by
  pointwise [val_main_v12, val_main_v11, val_main_cst_2, val_main_v10]
  rw [ref8 X x hx, ref9 X x hx, div_real _ (mse_pos (x r)).ne', ofBits_neg_half, ← EReal.coe_mul]

variable (D : FVec Ideal S2048x1024 .f32) (h : Fin 2048 → Fin 1024 → ℝ) (hD : ∀ r l, D (ix2 r l) = ((h r l : ℝ) : EReal))
include hD

/-- The reference's scale gradient at an index. -/
theorem refDg_apply (l : Fin 1024) : refDg D X (ix2 (0 : Fin 1) l) = ((∑ r, h r l * (x r l * rms (x r)) : ℝ) : EReal) := by
  pointwise [refDg, val_main_cst_3, val_main_v14, val_main_v13]
  simp only [hx, hD, ref9 X x hx, ← EReal.coe_mul, sum_coe, mul_comm (h _ _)]

variable (G : FVec Ideal S1x1024 .f32) (g : Fin 1024 → ℝ) (hG : ∀ l, G (ix2 (0 : Fin 1) l) = ((g l : ℝ) : EReal))
include hG

/-- The gradient through the mean square at an index. -/
theorem refC_apply (r : Fin 2048) (l : Fin 1024) :
    refC D X G (ix2 r l) = (((∑ k, x r k * (h r k * g k)) * (-(1 / 2) * (rms (x r) / mse (x r))) / 1024 : ℝ) : EReal) := by
  pointwise [refC, val_main_cst_6, val_main_v32, val_main_cst_5, val_main_cst_4, val_main_v23]
  simp only [Fin.sum_univ_one, hx, hD, hG, ref12 X x hx, ofBits_1024, ← EReal.coe_mul, sum_coe, div_real _ h1024]

/-- The reference's gradient of the rows at an index. -/
theorem refDx_apply (R : FVec Ideal S2048x1024 .f32) (r : Fin 2048) (l : Fin 1024) :
    refDx D X G R (ix2 r l) = R (ix2 r l) + ((dx (x r) g (h r) l : ℝ) : EReal) := by
  rw [← dxRef_eq]
  pointwise [refDx, val_main_v23, val_main_v28]
  simp only [hx, hD, hG, ref9 X x hx, refC_apply X x hx D h hD G g hG, ← EReal.coe_mul]
  rw [add_assoc, add_assoc, ← EReal.coe_add, ← EReal.coe_add, ← add_assoc]
  rfl
end

end Cert.RmsPay

end
-- ==== Proof.Rms2Arr.lean ====
/- The arrays the root-mean-square backward kernel with two incoming pieces leaves, at an index: real functions of the arguments. -/
module

public import proofs.«01_k».proof.Proof.RmsPay

@[expose] public section

set_option maxRecDepth 16384

noncomputable section

namespace Cert.Rms2Arr

open Idealize.ShloMosaic Idealize.ShloMosaic.TcCoe Idealize.SL.Sem Cert.Reals Cert.RmsMath Cert.RmsPay Cert.Rms2Ideal Cert.Rms2Ideal.Gen
open Idealize.ShloMosaic.Pipeline (Dat)

theorem hz : (![0, 0] : Fin 2 → Nat) = fun _ => 0 := funext fun a => by fin_cases a <;> rfl

/-- Column `o + k` of the weight. -/
def col (o : Nat) (ho : o + 2816 ≤ 5632) (k : Fin 2816) : Fin 5632 := ⟨o + k.val, by omega⟩

/-- The sum of a block's products of the pieces with the weight's columns. -/
def dh (x0 x1 : Vec Ideal S256x2816 .bf16) (x2 : Vec Ideal S1024x5632 .bf16) : FVec Ideal S256x1024 .f32 :=
  k0_pay3 (F := Ideal) x0 (View.ld (Val := Elt Ideal) (e' := .bf16) x2 (Rect.unit (s := S1024x5632) ![0, 0] S1024x2816.size inb_S1024x5632_S1024x2816_0_0)) x1 (View.ld (Val := Elt Ideal) (e' := .bf16) x2 (Rect.unit (s := S1024x5632) ![0, 2816] S1024x2816.size inb_S1024x5632_S1024x2816_0_2816))

theorem dh_apply (x0 x1 : Vec Ideal S256x2816 .bf16) (x2 : Vec Ideal S1024x5632 .bf16) (r : Fin 256) (l : Fin 1024) :
    dh x0 x1 x2 (ix2 r l) = ∑ k : Fin 2816, (x0 (ix2 r k) : EReal) * (x2 (ix2 l (col 0 (by decide) k)) : EReal) + ∑ k : Fin 2816, (x1 (ix2 r k) : EReal) * (x2 (ix2 l (col 2816 (by decide) k)) : EReal) := by
  have hl : ∀ (o : Nat) (ho : o + 2816 ≤ 5632) (inb : ∀ a, (![0, o] : Fin 2 → Nat) a + S1024x2816.size a ≤ S1024x5632.size a) (k : Fin 2816),
      View.ld (Val := Elt Ideal) (e' := .bf16) x2 (Rect.unit (s := S1024x5632) ![0, o] S1024x2816.size inb) (ix2 l k : S1024x2816.Idx) = x2 (ix2 l (col o ho k)) := fun o ho inb k =>
    congrArg x2 (funext fun a => Fin.ext (by
      match a with
      | ⟨0, _⟩ => show 0 + 1 * l.val = l.val; omega
      | ⟨1, _⟩ => show o + 1 * k.val = o + k.val; omega))
  refine (pay3 x0 (View.ld (Val := Elt Ideal) (e' := .bf16) x2 (Rect.unit (s := S1024x5632) ![0, 0] S1024x2816.size inb_S1024x5632_S1024x2816_0_0)) x1 (View.ld (Val := Elt Ideal) (e' := .bf16) x2 (Rect.unit (s := S1024x5632) ![0, 2816] S1024x2816.size inb_S1024x5632_S1024x2816_0_2816)) r l).trans ?_
  simp only [hl 0 (by decide)]; simp only [hl 2816 (by decide)]

section
variable (c : Dev nD) (i : grid0.Coords) (a1 : Memref sig .tc .vmem S256x2816 .bf16) (h1 : a1.IsWhole) (a2 : Memref sig .tc .vmem S256x2816 .bf16) (h2 : a2.IsWhole) (a3 : Memref sig .tc .vmem S1024x5632 .bf16) (h3 : a3.IsWhole) (a4 : Memref sig .tc .vmem S256x1024 .f32) (h4 : a4.IsWhole) (a5 : Memref sig .tc .vmem S1x1024 .f32) (h5 : a5.IsWhole) (a6 : Memref sig .tc .vmem S256x1024 .f32) (h6 : a6.IsWhole) (a7 : Memref sig .tc .vmem S256x1024 .f32) (h7 : a7.IsWhole) (a8 : Memref sig .tc .vmem S1x1024 .f32) (h8 : a8.IsWhole)
  (x0 : Vec Ideal S256x2816 .bf16) (x1 : Vec Ideal S256x2816 .bf16) (x2 : Vec Ideal S1024x5632 .bf16) (x3 : Vec Ideal S256x1024 .f32) (x4 : Vec Ideal S1x1024 .f32) (x5 : Vec Ideal S256x1024 .f32) (y : Vec Ideal S1x1024 .f32)

/-- What the first point leaves: its rows' gradient. -/
theorem outA6 (hc : cond0_0 i) : out0_A_6 c i a1 h1 a2 h2 a3 h3 a4 h4 a5 h5 a6 h6 a7 h7 a8 h8 hc x0 x1 x2 x3 x4 x5 = Cert.Rms5Ideal.Gen.k0_pay2 (dh x0 x1 x2) x3 (Cert.Rms5Ideal.Gen.k0_pay6 x3) (Cert.Rms5Ideal.Gen.k0_pay7 x3) x4 x5 := by
  unfold out0_A_6
  rw [View.read_writes_eq_canon _ _ _ (cover0_A_6 c i a1 h1 a2 h2 a3 h3 a4 h4 a5 h5 a6 h6 a7 h7 a8 h8 hc x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, h6.read_unread, View.ld_unit_zero (S := S256x2816) hz, View.ld_unit_zero (S := S256x1024) hz, View.ld_unit_zero (S := S1x1024) hz, shapeCast_self]
  rfl

/-- What the first point leaves: its part of the scale's gradient, from zero. -/
theorem outA7 (hc : cond0_0 i) : out0_A_7 c i a1 h1 a2 h2 a3 h3 a4 h4 a5 h5 a6 h6 a7 h7 a8 h8 hc x0 x1 x2 x3 x4 x5 = Cert.Rms5Ideal.Gen.k0_pay4 (dh x0 x1 x2) x3 (Cert.Rms5Ideal.Gen.k0_pay7 x3) (Cert.Rms5Ideal.Gen.k0_pay3 (F := Ideal)) := by
  unfold out0_A_7
  rw [View.read_writes_eq_canon _ _ _ (cover0_A_7 c i a1 h1 a2 h2 a3 h3 a4 h4 a5 h5 a6 h6 a7 h7 a8 h8 hc x0 x1 x2 x3 x4 x5)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread, h6.read_unread, View.ld_unit_zero (S := S256x2816) hz, View.ld_unit_zero (S := S256x1024) hz, View.ld_unit_zero (S := S1x1024) hz, shapeCast_self]
  rfl

/-- What a later point leaves: its rows' gradient. -/
theorem outB6 (hc : ¬cond0_0 i) : out0_B_6 c i a1 h1 a2 h2 a3 h3 a4 h4 a5 h5 a6 h6 a7 h7 a8 h8 hc x0 x1 x2 x3 x4 x5 y = Cert.Rms5Ideal.Gen.k0_pay2 (dh x0 x1 x2) x3 (Cert.Rms5Ideal.Gen.k0_pay6 x3) (Cert.Rms5Ideal.Gen.k0_pay7 x3) x4 x5 := by
  unfold out0_B_6
  rw [View.read_writes_eq_canon _ _ _ (cover0_B_6 c i a1 h1 a2 h2 a3 h3 a4 h4 a5 h5 a6 h6 a7 h7 a8 h8 hc x0 x1 x2 x3 x4 x5 y)]
  unfold kernelRun0_B
  dsimp only
  sl_unfold_words
  rw [View.canon_unit_zero hz]
  simp only [View.readAt_eq_ld, h1.read_unread, h2.read_unread, h3.read_unread, h4.read_unread, h5.read_unread, h6.read_unread, h8.read_unread, View.ld_unit_zero (S := S256x2816) hz, View.ld_unit_zero (S := S256x1024) hz, View.ld_unit_zero (S := S1x1024) hz, shapeCast_self]
  rfl

/-- What a later point leaves: its part of the scale's gradient, from what stood there. -/
theorem outB7 (hc : ¬cond0_0 i) : out0_B_7 c i a1 h1 a2 h2 a3 h3 a4 h4 a5 h5 a6 h6 a7 h7 a8 h8 hc x0 x1 x2 x3 x4 x5 y = Cert.Rms5Ideal.Gen.k0_pay4 (dh x0 x1 x2) x3 (Cert.Rms5Ideal.Gen.k0_pay7 x3) y := by
  unfold out0_B_7
  rw [View.read_writes_eq_canon _ _ _ (cover0_B_7 c i a1 h1 a2 h2 a3 h3 a4 h4 a5 h5 a6 h6 a7 h7 a8 h8 hc x0 x1 x2 x3 x4 x5 y)]
  unfold kernelRun0_B
  dsimp only
  sl_unfold_words
  rw [View.canon_unit_zero hz]
  simp only [View.readAt_eq_ld, h1.read_unread, h2.read_unread, h3.read_unread, h4.read_unread, h5.read_unread, h6.read_unread, h8.read_unread, View.ld_unit_zero (S := S256x2816) hz, View.ld_unit_zero (S := S256x1024) hz, View.ld_unit_zero (S := S1x1024) hz, shapeCast_self]
  rfl

end

variable (m : (ℓ : Loc nD τ sig) → Buf (Elt Ideal) ℓ) (c : Dev nD)

/-- The incoming pieces, the weight, the rows, the scale and the residual's gradient, on device `c`. -/
abbrev A0 : Vec Ideal S2048x2816 .bf16 := m ((c : Thread nD τ).loc main_arg0)
abbrev A1 : Vec Ideal S2048x2816 .bf16 := m ((c : Thread nD τ).loc main_arg1)
abbrev W : Vec Ideal S1024x5632 .bf16 := m ((c : Thread nD τ).loc main_arg2)
abbrev X : Vec Ideal S2048x1024 .f32 := m ((c : Thread nD τ).loc main_arg3)
abbrev G : Vec Ideal S1x1024 .f32 := m ((c : Thread nD τ).loc main_arg4)
abbrev R : Vec Ideal S2048x1024 .f32 := m ((c : Thread nD τ).loc main_arg5)

/-- Row `r` as real numbers. -/
def xR (r : Fin 2048) (l : Fin 1024) : ℝ := (X m c (ix2 r l) : EReal).toReal
/-- The scale as real numbers. -/
def gR (l : Fin 1024) : ℝ := (G m c (ix2 (0 : Fin 1) l) : EReal).toReal
/-- The gradient of the scaled rows. -/
def hR (r : Fin 2048) (l : Fin 1024) : ℝ :=
  ∑ k : Fin 2816, (A0 m c (ix2 r k) : EReal).toReal * (W m c (ix2 l (col 0 (by decide) k)) : EReal).toReal + ∑ k : Fin 2816, (A1 m c (ix2 r k) : EReal).toReal * (W m c (ix2 l (col 2816 (by decide) k)) : EReal).toReal

/-- The arguments the claim asks to be finite are. -/
structure Fin' : Prop where
  ha0 : ∀ r k, A0 m c (ix2 r k) = (((A0 m c (ix2 r k) : EReal).toReal : ℝ) : EReal)
  ha1 : ∀ r k, A1 m c (ix2 r k) = (((A1 m c (ix2 r k) : EReal).toReal : ℝ) : EReal)
  hw : ∀ l k, W m c (ix2 l k) = (((W m c (ix2 l k) : EReal).toReal : ℝ) : EReal)
  hx : ∀ r l, X m c (ix2 r l) = ((xR m c r l : ℝ) : EReal)
  hg : ∀ l, G m c (ix2 (0 : Fin 1) l) = ((gR m c l : ℝ) : EReal)

/-- The row of the arrays that row `r` of point `t`'s block is. -/
def row (t : Fin cfg0.N) (r : Fin 256) : Fin 2048 := ⟨t.val * 256 + r.val, by have hN : cfg0.N = 8 := N_0; have := t.isLt; omega⟩

theorem idx : ∀ t : Fin cfg0.N, win0_0.index t = ![t.val, 0] ∧ win0_1.index t = ![t.val, 0] ∧ win0_2.index t = ![0, 0] ∧ win0_3.index t = ![t.val, 0] ∧ win0_4.index t = ![0, 0] ∧ win0_5.index t = ![t.val, 0] ∧ win0_6.index t = ![t.val, 0] ∧ win0_7.index t = ![0, 0] :=
  (by decide +kernel : ∀ t : Fin grid0.N, _)

theorem blk0 (t : Fin cfg0.N) (r : Fin 256) (k : Fin 2816) : iblk m c 0 t (ix2 r k) = A0 m c (ix2 (row t r) k) := by
  blk_ext [iblk, V, idx t, row]
theorem blk1 (t : Fin cfg0.N) (r : Fin 256) (k : Fin 2816) : iblk m c 1 t (ix2 r k) = A1 m c (ix2 (row t r) k) := by
  blk_ext [iblk, V, idx t, row]
theorem blk2 (t : Fin cfg0.N) (l : Fin 1024) (k : Fin 5632) : iblk m c 2 t (ix2 l k) = W m c (ix2 l k) := by
  blk_ext [iblk, V, idx t]
theorem blk3 (t : Fin cfg0.N) (r : Fin 256) (l : Fin 1024) : iblk m c 3 t (ix2 r l) = X m c (ix2 (row t r) l) := by
  blk_ext [iblk, V, idx t, row]
theorem blk4 (t : Fin cfg0.N) (l : Fin 1024) : iblk m c 4 t (ix2 (0 : Fin 1) l) = G m c (ix2 (0 : Fin 1) l) := by
  blk_ext [iblk, V, idx t]
theorem blk5 (t : Fin cfg0.N) (r : Fin 256) (l : Fin 1024) : iblk m c 5 t (ix2 r l) = R m c (ix2 (row t r) l) := by
  blk_ext [iblk, V, idx t, row]
theorem emb6 (t : Fin cfg0.N) (r : Fin 256) (l : Fin 1024) : ((cfg0.win 6).blk t).view.emb (ix2 r l : S256x1024.Idx) = (ix2 (row t r) l : S2048x1024.Idx) := by
  blk_ext [idx t, row]

/-- The sum over the points' blocks of a function of the row is the sum over the rows. -/
theorem sum_rows (f : Fin 2048 → ℝ) : ∑ t : Fin cfg0.N, ∑ r : Fin 256, f (row t r) = ∑ r, f r :=
  Fin.sum_mul_add_congr (fun s k hl => rfl) (by show 2048 = grid0.N * 256; rw [N_0])

/-- Every point leaves its rows' gradient. -/
theorem outs6 (t : Fin cfg0.N) : (outsAt0 m c t.val t.isLt).1
    = Cert.Rms5Ideal.Gen.k0_pay2 (F := Ideal) (dh (iblk m c 0 t) (iblk m c 1 t) (iblk m c 2 t)) (iblk m c 3 t) (Cert.Rms5Ideal.Gen.k0_pay6 (iblk m c 3 t)) (Cert.Rms5Ideal.Gen.k0_pay7 (iblk m c 3 t)) (iblk m c 4 t) (iblk m c 5 t) := by
  by_cases h : t.val % 8 = 0
  · rw [outsAt0_A m c t h]; dsimp only; rw [outA6]
  · rw [outsAt0_B m c t h]; dsimp only; rw [outB6]

variable (hf : Fin' m c)
include hf

/-- The products of the arguments are real. -/
theorem dot_real (r : Fin 2048) (l : Fin 1024) :
    ∑ k : Fin 2816, (A0 m c (ix2 r k) : EReal) * (W m c (ix2 l (col 0 (by decide) k)) : EReal) + ∑ k : Fin 2816, (A1 m c (ix2 r k) : EReal) * (W m c (ix2 l (col 2816 (by decide) k)) : EReal) = ((hR m c r l : ℝ) : EReal) := by
  have e : ∀ {n : ℕ} (f g : Fin n → EReal), (∀ k, f k = ((f k).toReal : EReal)) → (∀ k, g k = ((g k).toReal : EReal)) →
      ∑ k, f k * g k = ((∑ k, (f k).toReal * (g k).toReal : ℝ) : EReal) := fun f g hf hg => by
    rw [← sum_coe]; exact Finset.sum_congr rfl fun k _ => by rw [EReal.coe_mul, ← hf, ← hg]
  unfold hR
  simp only [EReal.coe_add]
  exact congrArg₂ (· + ·) (e _ _ (fun k => hf.ha0 r k) (fun k => hf.hw l _)) (e _ _ (fun k => hf.ha1 r k) (fun k => hf.hw l _))

/-- A block's gradient of the scaled rows. -/
theorem pdh (t : Fin cfg0.N) (r : Fin 256) (l : Fin 1024) : dh (iblk m c 0 t) (iblk m c 1 t) (iblk m c 2 t) (ix2 r l) = ((hR m c (row t r) l : ℝ) : EReal) := by
  rw [dh_apply, ← dot_real m c hf]
  simp only [blk0, blk1, blk2]

theorem arr6 : (dats m 0 c).arrAt 6 cfg0.N = fun j : S2048x1024.Idx => (R m c j : EReal) + ((dx (xR m c (j 0)) (gR m c) (hR m c (j 0)) (j 1) : ℝ) : EReal) := by
  refine (dats m 0 c).arrAt_eq_of_covers 6 _ (by decide +kernel) fun t _ y => ?_
  blk_simp
  idx_vars y
  rw [after0_6, outs6, pay2 _ (fun r => xR m c (row t r)) (fun r l => (blk3 m c t r l).trans (hf.hx _ _)) _ (fun r => hR m c (row t r)) (pdh m c hf t)
    _ (gR m c) (fun l => (blk4 m c t l).trans (hf.hg l)), blk5, emb6]
  rfl

theorem arr7 : (dats m 0 c).arrAt 7 cfg0.N = fun j : S1x1024.Idx => ((∑ r, hR m c r (j 1) * (xR m c r (j 1) * rms (xR m c r)) : ℝ) : EReal) := by
  refine (dats m 0 c).arrAt_eq_of_after_last 7 t0_7 (by decide +kernel) _ fun j => ?_
  blk_simp
  idx_vars j
  obtain rfl : j0 = 0 := Subsingleton.elim _ _
  rw [after0_7]
  have hs : ∀ (t : Fin cfg0.N) (Y : FVec Ideal S1x1024 .f32) (l : Fin 1024), Cert.Rms5Ideal.Gen.k0_pay4 (F := Ideal) (dh (iblk m c 0 t) (iblk m c 1 t) (iblk m c 2 t)) (iblk m c 3 t) (Cert.Rms5Ideal.Gen.k0_pay7 (iblk m c 3 t)) Y (ix2 (0 : Fin 1) l)
      = Y (ix2 (0 : Fin 1) l) + ((∑ r, hR m c (row t r) l * (xR m c (row t r) l * rms (xR m c (row t r))) : ℝ) : EReal) := fun t Y l =>
    pay4 _ (fun r => xR m c (row t r)) (fun r l => (blk3 m c t r l).trans (hf.hx _ _)) _ (fun r => hR m c (row t r)) (pdh m c hf t) Y l
  refine (Pipeline.eq_sum_fin_of_reset_step_apply_last (fun n h (l : Fin 1024) => (outsAt0 m c n h).2 (ix2 (0 : Fin 1) l)) 8 (fun _ => (0 : EReal))
    (fun p l => ((∑ r, hR m c (row p r) l * (xR m c (row p r) l * rms (xR m c (row p r))) : ℝ) : EReal))
    (fun t h l => ?_) (fun t h l => ?_) (le_of_eq N_0) t0_7 rfl j1).trans ?_
  · show (outsAt0 m c t.val t.isLt).2 (ix2 (0 : Fin 1) l) = _
    rw [outsAt0_A m c t h]; dsimp only; rw [outA7, hs]
    congr 1; pointwise [Cert.Rms5Ideal.Gen.k0_pay3]
  · show (outsAt0 m c t.val t.isLt).2 (ix2 (0 : Fin 1) l) = _
    rw [outsAt0_B m c t h]; dsimp only; rw [outB7, hs]
  · rw [zero_add, sum_coe, sum_rows (fun r => hR m c r j1 * (xR m c r j1 * rms (xR m c r)))]

end Cert.Rms2Arr

end
-- ==== Proof.Rms5Arr.lean ====
/- The arrays the root-mean-square backward kernel with five incoming pieces leaves, at an index: real functions of the arguments. -/
module

public import proofs.«01_k».proof.Proof.RmsPay

@[expose] public section

set_option maxRecDepth 16384

noncomputable section

namespace Cert.Rms5Arr

open Idealize.ShloMosaic Idealize.ShloMosaic.TcCoe Idealize.SL.Sem Cert.Reals Cert.RmsMath Cert.RmsPay Cert.Rms5Ideal Cert.Rms5Ideal.Gen
open Idealize.ShloMosaic.Pipeline (Dat)

theorem hz : (![0, 0] : Fin 2 → Nat) = fun _ => 0 := funext fun a => by fin_cases a <;> rfl

/-- Column `o + k` of the weight. -/
def col (o : Nat) (ho : o + 512 ≤ 2560) (k : Fin 512) : Fin 2560 := ⟨o + k.val, by omega⟩

/-- The sum of a block's products of the pieces with the weight's columns. -/
def dh (x0 x1 x2 x3 x4 : Vec Ideal S256x512 .bf16) (x5 : Vec Ideal S1024x2560 .bf16) : FVec Ideal S256x1024 .f32 :=
  k0_pay5 (F := Ideal) x0 (View.ld (Val := Elt Ideal) (e' := .bf16) x5 (Rect.unit (s := S1024x2560) ![0, 0] S1024x512.size inb_S1024x2560_S1024x512_0_0)) x1 (View.ld (Val := Elt Ideal) (e' := .bf16) x5 (Rect.unit (s := S1024x2560) ![0, 512] S1024x512.size inb_S1024x2560_S1024x512_0_512)) x2 (View.ld (Val := Elt Ideal) (e' := .bf16) x5 (Rect.unit (s := S1024x2560) ![0, 1024] S1024x512.size inb_S1024x2560_S1024x512_0_1024)) x3 (View.ld (Val := Elt Ideal) (e' := .bf16) x5 (Rect.unit (s := S1024x2560) ![0, 1536] S1024x512.size inb_S1024x2560_S1024x512_0_1536)) x4 (View.ld (Val := Elt Ideal) (e' := .bf16) x5 (Rect.unit (s := S1024x2560) ![0, 2048] S1024x512.size inb_S1024x2560_S1024x512_0_2048))

theorem dh_apply (x0 x1 x2 x3 x4 : Vec Ideal S256x512 .bf16) (x5 : Vec Ideal S1024x2560 .bf16) (r : Fin 256) (l : Fin 1024) :
    dh x0 x1 x2 x3 x4 x5 (ix2 r l) = ∑ k : Fin 512, (x0 (ix2 r k) : EReal) * (x5 (ix2 l (col 0 (by decide) k)) : EReal) + ∑ k : Fin 512, (x1 (ix2 r k) : EReal) * (x5 (ix2 l (col 512 (by decide) k)) : EReal) + ∑ k : Fin 512, (x2 (ix2 r k) : EReal) * (x5 (ix2 l (col 1024 (by decide) k)) : EReal) + ∑ k : Fin 512, (x3 (ix2 r k) : EReal) * (x5 (ix2 l (col 1536 (by decide) k)) : EReal) + ∑ k : Fin 512, (x4 (ix2 r k) : EReal) * (x5 (ix2 l (col 2048 (by decide) k)) : EReal) := by
  have hl : ∀ (o : Nat) (ho : o + 512 ≤ 2560) (inb : ∀ a, (![0, o] : Fin 2 → Nat) a + S1024x512.size a ≤ S1024x2560.size a) (k : Fin 512),
      View.ld (Val := Elt Ideal) (e' := .bf16) x5 (Rect.unit (s := S1024x2560) ![0, o] S1024x512.size inb) (ix2 l k : S1024x512.Idx) = x5 (ix2 l (col o ho k)) := fun o ho inb k =>
    congrArg x5 (funext fun a => Fin.ext (by
      match a with
      | ⟨0, _⟩ => show 0 + 1 * l.val = l.val; omega
      | ⟨1, _⟩ => show o + 1 * k.val = o + k.val; omega))
  refine (pay5 x0 (View.ld (Val := Elt Ideal) (e' := .bf16) x5 (Rect.unit (s := S1024x2560) ![0, 0] S1024x512.size inb_S1024x2560_S1024x512_0_0)) x1 (View.ld (Val := Elt Ideal) (e' := .bf16) x5 (Rect.unit (s := S1024x2560) ![0, 512] S1024x512.size inb_S1024x2560_S1024x512_0_512)) x2 (View.ld (Val := Elt Ideal) (e' := .bf16) x5 (Rect.unit (s := S1024x2560) ![0, 1024] S1024x512.size inb_S1024x2560_S1024x512_0_1024)) x3 (View.ld (Val := Elt Ideal) (e' := .bf16) x5 (Rect.unit (s := S1024x2560) ![0, 1536] S1024x512.size inb_S1024x2560_S1024x512_0_1536)) x4 (View.ld (Val := Elt Ideal) (e' := .bf16) x5 (Rect.unit (s := S1024x2560) ![0, 2048] S1024x512.size inb_S1024x2560_S1024x512_0_2048)) r l).trans ?_
  simp only [hl 0 (by decide)]; simp only [hl 512 (by decide)]; simp only [hl 1024 (by decide)]; simp only [hl 1536 (by decide)]; simp only [hl 2048 (by decide)]

section
variable (c : Dev nD) (i : grid0.Coords) (a1 : Memref sig .tc .vmem S256x512 .bf16) (h1 : a1.IsWhole) (a2 : Memref sig .tc .vmem S256x512 .bf16) (h2 : a2.IsWhole) (a3 : Memref sig .tc .vmem S256x512 .bf16) (h3 : a3.IsWhole) (a4 : Memref sig .tc .vmem S256x512 .bf16) (h4 : a4.IsWhole) (a5 : Memref sig .tc .vmem S256x512 .bf16) (h5 : a5.IsWhole) (a6 : Memref sig .tc .vmem S1024x2560 .bf16) (h6 : a6.IsWhole) (a7 : Memref sig .tc .vmem S256x1024 .f32) (h7 : a7.IsWhole) (a8 : Memref sig .tc .vmem S1x1024 .f32) (h8 : a8.IsWhole) (a9 : Memref sig .tc .vmem S256x1024 .f32) (h9 : a9.IsWhole) (a10 : Memref sig .tc .vmem S256x1024 .f32) (h10 : a10.IsWhole) (a11 : Memref sig .tc .vmem S1x1024 .f32) (h11 : a11.IsWhole)
  (x0 : Vec Ideal S256x512 .bf16) (x1 : Vec Ideal S256x512 .bf16) (x2 : Vec Ideal S256x512 .bf16) (x3 : Vec Ideal S256x512 .bf16) (x4 : Vec Ideal S256x512 .bf16) (x5 : Vec Ideal S1024x2560 .bf16) (x6 : Vec Ideal S256x1024 .f32) (x7 : Vec Ideal S1x1024 .f32) (x8 : Vec Ideal S256x1024 .f32) (y : Vec Ideal S1x1024 .f32)

/-- What the first point leaves: its rows' gradient. -/
theorem outA9 (hc : cond0_0 i) : out0_A_9 c i a1 h1 a2 h2 a3 h3 a4 h4 a5 h5 a6 h6 a7 h7 a8 h8 a9 h9 a10 h10 a11 h11 hc x0 x1 x2 x3 x4 x5 x6 x7 x8 = Cert.Rms5Ideal.Gen.k0_pay2 (dh x0 x1 x2 x3 x4 x5) x6 (Cert.Rms5Ideal.Gen.k0_pay6 x6) (Cert.Rms5Ideal.Gen.k0_pay7 x6) x7 x8 := by
  unfold out0_A_9
  rw [View.read_writes_eq_canon _ _ _ (cover0_A_9 c i a1 h1 a2 h2 a3 h3 a4 h4 a5 h5 a6 h6 a7 h7 a8 h8 a9 h9 a10 h10 a11 h11 hc x0 x1 x2 x3 x4 x5 x6 x7 x8)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S256x512) hz, View.ld_unit_zero (S := S256x1024) hz, View.ld_unit_zero (S := S1x1024) hz, shapeCast_self]
  rfl

/-- What the first point leaves: its part of the scale's gradient, from zero. -/
theorem outA10 (hc : cond0_0 i) : out0_A_10 c i a1 h1 a2 h2 a3 h3 a4 h4 a5 h5 a6 h6 a7 h7 a8 h8 a9 h9 a10 h10 a11 h11 hc x0 x1 x2 x3 x4 x5 x6 x7 x8 = Cert.Rms5Ideal.Gen.k0_pay4 (dh x0 x1 x2 x3 x4 x5) x6 (Cert.Rms5Ideal.Gen.k0_pay7 x6) (Cert.Rms5Ideal.Gen.k0_pay3 (F := Ideal)) := by
  unfold out0_A_10
  rw [View.read_writes_eq_canon _ _ _ (cover0_A_10 c i a1 h1 a2 h2 a3 h3 a4 h4 a5 h5 a6 h6 a7 h7 a8 h8 a9 h9 a10 h10 a11 h11 hc x0 x1 x2 x3 x4 x5 x6 x7 x8)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread, h6.read_unread, h7.read_unread, h8.read_unread, h9.read_unread, View.ld_unit_zero (S := S256x512) hz, View.ld_unit_zero (S := S256x1024) hz, View.ld_unit_zero (S := S1x1024) hz, shapeCast_self]
  rfl

/-- What a later point leaves: its rows' gradient. -/
theorem outB9 (hc : ¬cond0_0 i) : out0_B_9 c i a1 h1 a2 h2 a3 h3 a4 h4 a5 h5 a6 h6 a7 h7 a8 h8 a9 h9 a10 h10 a11 h11 hc x0 x1 x2 x3 x4 x5 x6 x7 x8 y = Cert.Rms5Ideal.Gen.k0_pay2 (dh x0 x1 x2 x3 x4 x5) x6 (Cert.Rms5Ideal.Gen.k0_pay6 x6) (Cert.Rms5Ideal.Gen.k0_pay7 x6) x7 x8 := by
  unfold out0_B_9
  rw [View.read_writes_eq_canon _ _ _ (cover0_B_9 c i a1 h1 a2 h2 a3 h3 a4 h4 a5 h5 a6 h6 a7 h7 a8 h8 a9 h9 a10 h10 a11 h11 hc x0 x1 x2 x3 x4 x5 x6 x7 x8 y)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h11.read_unread, View.ld_unit_zero (S := S256x512) hz, View.ld_unit_zero (S := S256x1024) hz, View.ld_unit_zero (S := S1x1024) hz, shapeCast_self]
  rfl

/-- What a later point leaves: its part of the scale's gradient, from what stood there. -/
theorem outB10 (hc : ¬cond0_0 i) : out0_B_10 c i a1 h1 a2 h2 a3 h3 a4 h4 a5 h5 a6 h6 a7 h7 a8 h8 a9 h9 a10 h10 a11 h11 hc x0 x1 x2 x3 x4 x5 x6 x7 x8 y = Cert.Rms5Ideal.Gen.k0_pay4 (dh x0 x1 x2 x3 x4 x5) x6 (Cert.Rms5Ideal.Gen.k0_pay7 x6) y := by
  unfold out0_B_10
  rw [View.read_writes_eq_canon _ _ _ (cover0_B_10 c i a1 h1 a2 h2 a3 h3 a4 h4 a5 h5 a6 h6 a7 h7 a8 h8 a9 h9 a10 h10 a11 h11 hc x0 x1 x2 x3 x4 x5 x6 x7 x8 y)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h11.read_unread, View.ld_unit_zero (S := S256x512) hz, View.ld_unit_zero (S := S256x1024) hz, View.ld_unit_zero (S := S1x1024) hz, shapeCast_self]
  rfl

end

variable (m : (ℓ : Loc nD τ sig) → Buf (Elt Ideal) ℓ) (c : Dev nD)

/-- The incoming pieces, the weight, the rows, the scale and the residual's gradient, on device `c`. -/
abbrev A0 : Vec Ideal S2048x512 .bf16 := m ((c : Thread nD τ).loc main_arg0)
abbrev A1 : Vec Ideal S2048x512 .bf16 := m ((c : Thread nD τ).loc main_arg1)
abbrev A2 : Vec Ideal S2048x512 .bf16 := m ((c : Thread nD τ).loc main_arg2)
abbrev A3 : Vec Ideal S2048x512 .bf16 := m ((c : Thread nD τ).loc main_arg3)
abbrev A4 : Vec Ideal S2048x512 .bf16 := m ((c : Thread nD τ).loc main_arg4)
abbrev W : Vec Ideal S1024x2560 .bf16 := m ((c : Thread nD τ).loc main_arg5)
abbrev X : Vec Ideal S2048x1024 .f32 := m ((c : Thread nD τ).loc main_arg6)
abbrev G : Vec Ideal S1x1024 .f32 := m ((c : Thread nD τ).loc main_arg7)
abbrev R : Vec Ideal S2048x1024 .f32 := m ((c : Thread nD τ).loc main_arg8)

/-- Row `r` as real numbers. -/
def xR (r : Fin 2048) (l : Fin 1024) : ℝ := (X m c (ix2 r l) : EReal).toReal
/-- The scale as real numbers. -/
def gR (l : Fin 1024) : ℝ := (G m c (ix2 (0 : Fin 1) l) : EReal).toReal
/-- The gradient of the scaled rows. -/
def hR (r : Fin 2048) (l : Fin 1024) : ℝ :=
  ∑ k : Fin 512, (A0 m c (ix2 r k) : EReal).toReal * (W m c (ix2 l (col 0 (by decide) k)) : EReal).toReal + ∑ k : Fin 512, (A1 m c (ix2 r k) : EReal).toReal * (W m c (ix2 l (col 512 (by decide) k)) : EReal).toReal + ∑ k : Fin 512, (A2 m c (ix2 r k) : EReal).toReal * (W m c (ix2 l (col 1024 (by decide) k)) : EReal).toReal + ∑ k : Fin 512, (A3 m c (ix2 r k) : EReal).toReal * (W m c (ix2 l (col 1536 (by decide) k)) : EReal).toReal + ∑ k : Fin 512, (A4 m c (ix2 r k) : EReal).toReal * (W m c (ix2 l (col 2048 (by decide) k)) : EReal).toReal

/-- The arguments the claim asks to be finite are. -/
structure Fin' : Prop where
  ha0 : ∀ r k, A0 m c (ix2 r k) = (((A0 m c (ix2 r k) : EReal).toReal : ℝ) : EReal)
  ha1 : ∀ r k, A1 m c (ix2 r k) = (((A1 m c (ix2 r k) : EReal).toReal : ℝ) : EReal)
  ha2 : ∀ r k, A2 m c (ix2 r k) = (((A2 m c (ix2 r k) : EReal).toReal : ℝ) : EReal)
  ha3 : ∀ r k, A3 m c (ix2 r k) = (((A3 m c (ix2 r k) : EReal).toReal : ℝ) : EReal)
  ha4 : ∀ r k, A4 m c (ix2 r k) = (((A4 m c (ix2 r k) : EReal).toReal : ℝ) : EReal)
  hw : ∀ l k, W m c (ix2 l k) = (((W m c (ix2 l k) : EReal).toReal : ℝ) : EReal)
  hx : ∀ r l, X m c (ix2 r l) = ((xR m c r l : ℝ) : EReal)
  hg : ∀ l, G m c (ix2 (0 : Fin 1) l) = ((gR m c l : ℝ) : EReal)

/-- The row of the arrays that row `r` of point `t`'s block is. -/
def row (t : Fin cfg0.N) (r : Fin 256) : Fin 2048 := ⟨t.val * 256 + r.val, by have hN : cfg0.N = 8 := N_0; have := t.isLt; omega⟩

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![0, 0] ∧ win0_6.index t = ![t.val, 0] ∧ win0_7.index t = ![0, 0] ∧ win0_8.index t = ![t.val, 0] ∧ win0_9.index t = ![t.val, 0] ∧ win0_10.index t = ![0, 0] :=
  (by decide +kernel : ∀ t : Fin grid0.N, _)

theorem blk0 (t : Fin cfg0.N) (r : Fin 256) (k : Fin 512) : iblk m c 0 t (ix2 r k) = A0 m c (ix2 (row t r) k) := by
  blk_ext [iblk, V, idx t, row]
theorem blk1 (t : Fin cfg0.N) (r : Fin 256) (k : Fin 512) : iblk m c 1 t (ix2 r k) = A1 m c (ix2 (row t r) k) := by
  blk_ext [iblk, V, idx t, row]
theorem blk2 (t : Fin cfg0.N) (r : Fin 256) (k : Fin 512) : iblk m c 2 t (ix2 r k) = A2 m c (ix2 (row t r) k) := by
  blk_ext [iblk, V, idx t, row]
theorem blk3 (t : Fin cfg0.N) (r : Fin 256) (k : Fin 512) : iblk m c 3 t (ix2 r k) = A3 m c (ix2 (row t r) k) := by
  blk_ext [iblk, V, idx t, row]
theorem blk4 (t : Fin cfg0.N) (r : Fin 256) (k : Fin 512) : iblk m c 4 t (ix2 r k) = A4 m c (ix2 (row t r) k) := by
  blk_ext [iblk, V, idx t, row]
theorem blk5 (t : Fin cfg0.N) (l : Fin 1024) (k : Fin 2560) : iblk m c 5 t (ix2 l k) = W m c (ix2 l k) := by
  blk_ext [iblk, V, idx t]
theorem blk6 (t : Fin cfg0.N) (r : Fin 256) (l : Fin 1024) : iblk m c 6 t (ix2 r l) = X m c (ix2 (row t r) l) := by
  blk_ext [iblk, V, idx t, row]
theorem blk7 (t : Fin cfg0.N) (l : Fin 1024) : iblk m c 7 t (ix2 (0 : Fin 1) l) = G m c (ix2 (0 : Fin 1) l) := by
  blk_ext [iblk, V, idx t]
theorem blk8 (t : Fin cfg0.N) (r : Fin 256) (l : Fin 1024) : iblk m c 8 t (ix2 r l) = R m c (ix2 (row t r) l) := by
  blk_ext [iblk, V, idx t, row]
theorem emb9 (t : Fin cfg0.N) (r : Fin 256) (l : Fin 1024) : ((cfg0.win 9).blk t).view.emb (ix2 r l : S256x1024.Idx) = (ix2 (row t r) l : S2048x1024.Idx) := by
  blk_ext [idx t, row]

/-- The sum over the points' blocks of a function of the row is the sum over the rows. -/
theorem sum_rows (f : Fin 2048 → ℝ) : ∑ t : Fin cfg0.N, ∑ r : Fin 256, f (row t r) = ∑ r, f r :=
  Fin.sum_mul_add_congr (fun s k hl => rfl) (by show 2048 = grid0.N * 256; rw [N_0])

/-- Every point leaves its rows' gradient. -/
theorem outs9 (t : Fin cfg0.N) : (outsAt0 m c t.val t.isLt).1
    = Cert.Rms5Ideal.Gen.k0_pay2 (F := Ideal) (dh (iblk m c 0 t) (iblk m c 1 t) (iblk m c 2 t) (iblk m c 3 t) (iblk m c 4 t) (iblk m c 5 t)) (iblk m c 6 t) (Cert.Rms5Ideal.Gen.k0_pay6 (iblk m c 6 t)) (Cert.Rms5Ideal.Gen.k0_pay7 (iblk m c 6 t)) (iblk m c 7 t) (iblk m c 8 t) := by
  by_cases h : t.val % 8 = 0
  · rw [outsAt0_A m c t h]; dsimp only; rw [outA9]
  · rw [outsAt0_B m c t h]; dsimp only; rw [outB9]

variable (hf : Fin' m c)
include hf

/-- The products of the arguments are real. -/
theorem dot_real (r : Fin 2048) (l : Fin 1024) :
    ∑ k : Fin 512, (A0 m c (ix2 r k) : EReal) * (W m c (ix2 l (col 0 (by decide) k)) : EReal) + ∑ k : Fin 512, (A1 m c (ix2 r k) : EReal) * (W m c (ix2 l (col 512 (by decide) k)) : EReal) + ∑ k : Fin 512, (A2 m c (ix2 r k) : EReal) * (W m c (ix2 l (col 1024 (by decide) k)) : EReal) + ∑ k : Fin 512, (A3 m c (ix2 r k) : EReal) * (W m c (ix2 l (col 1536 (by decide) k)) : EReal) + ∑ k : Fin 512, (A4 m c (ix2 r k) : EReal) * (W m c (ix2 l (col 2048 (by decide) k)) : EReal) = ((hR m c r l : ℝ) : EReal) := by
  have e : ∀ {n : ℕ} (f g : Fin n → EReal), (∀ k, f k = ((f k).toReal : EReal)) → (∀ k, g k = ((g k).toReal : EReal)) →
      ∑ k, f k * g k = ((∑ k, (f k).toReal * (g k).toReal : ℝ) : EReal) := fun f g hf hg => by
    rw [← sum_coe]; exact Finset.sum_congr rfl fun k _ => by rw [EReal.coe_mul, ← hf, ← hg]
  unfold hR
  simp only [EReal.coe_add]
  exact congrArg₂ (· + ·) (congrArg₂ (· + ·) (congrArg₂ (· + ·) (congrArg₂ (· + ·) (e _ _ (fun k => hf.ha0 r k) (fun k => hf.hw l _)) (e _ _ (fun k => hf.ha1 r k) (fun k => hf.hw l _))) (e _ _ (fun k => hf.ha2 r k) (fun k => hf.hw l _))) (e _ _ (fun k => hf.ha3 r k) (fun k => hf.hw l _))) (e _ _ (fun k => hf.ha4 r k) (fun k => hf.hw l _))

/-- A block's gradient of the scaled rows. -/
theorem pdh (t : Fin cfg0.N) (r : Fin 256) (l : Fin 1024) : dh (iblk m c 0 t) (iblk m c 1 t) (iblk m c 2 t) (iblk m c 3 t) (iblk m c 4 t) (iblk m c 5 t) (ix2 r l) = ((hR m c (row t r) l : ℝ) : EReal) := by
  rw [dh_apply, ← dot_real m c hf]
  simp only [blk0, blk1, blk2, blk3, blk4, blk5]

theorem arr9 : (dats m 0 c).arrAt 9 cfg0.N = fun j : S2048x1024.Idx => (R m c j : EReal) + ((dx (xR m c (j 0)) (gR m c) (hR m c (j 0)) (j 1) : ℝ) : EReal) := by
  refine (dats m 0 c).arrAt_eq_of_covers 9 _ (by decide +kernel) fun t _ y => ?_
  blk_simp
  idx_vars y
  rw [after0_9, outs9, pay2 _ (fun r => xR m c (row t r)) (fun r l => (blk6 m c t r l).trans (hf.hx _ _)) _ (fun r => hR m c (row t r)) (pdh m c hf t)
    _ (gR m c) (fun l => (blk7 m c t l).trans (hf.hg l)), blk8, emb9]
  rfl

theorem arr10 : (dats m 0 c).arrAt 10 cfg0.N = fun j : S1x1024.Idx => ((∑ r, hR m c r (j 1) * (xR m c r (j 1) * rms (xR m c r)) : ℝ) : EReal) := by
  refine (dats m 0 c).arrAt_eq_of_after_last 10 t0_7 (by decide +kernel) _ fun j => ?_
  blk_simp
  idx_vars j
  obtain rfl : j0 = 0 := Subsingleton.elim _ _
  rw [after0_10]
  have hs : ∀ (t : Fin cfg0.N) (Y : FVec Ideal S1x1024 .f32) (l : Fin 1024), Cert.Rms5Ideal.Gen.k0_pay4 (F := Ideal) (dh (iblk m c 0 t) (iblk m c 1 t) (iblk m c 2 t) (iblk m c 3 t) (iblk m c 4 t) (iblk m c 5 t)) (iblk m c 6 t) (Cert.Rms5Ideal.Gen.k0_pay7 (iblk m c 6 t)) Y (ix2 (0 : Fin 1) l)
      = Y (ix2 (0 : Fin 1) l) + ((∑ r, hR m c (row t r) l * (xR m c (row t r) l * rms (xR m c (row t r))) : ℝ) : EReal) := fun t Y l =>
    pay4 _ (fun r => xR m c (row t r)) (fun r l => (blk6 m c t r l).trans (hf.hx _ _)) _ (fun r => hR m c (row t r)) (pdh m c hf t) Y l
  refine (Pipeline.eq_sum_fin_of_reset_step_apply_last (fun n h (l : Fin 1024) => (outsAt0 m c n h).2 (ix2 (0 : Fin 1) l)) 8 (fun _ => (0 : EReal))
    (fun p l => ((∑ r, hR m c (row p r) l * (xR m c (row p r) l * rms (xR m c (row p r))) : ℝ) : EReal))
    (fun t h l => ?_) (fun t h l => ?_) (le_of_eq N_0) t0_7 rfl j1).trans ?_
  · show (outsAt0 m c t.val t.isLt).2 (ix2 (0 : Fin 1) l) = _
    rw [outsAt0_A m c t h]; dsimp only; rw [outA10, hs]
    congr 1; pointwise [Cert.Rms5Ideal.Gen.k0_pay3]
  · show (outsAt0 m c t.val t.isLt).2 (ix2 (0 : Fin 1) l) = _
    rw [outsAt0_B m c t h]; dsimp only; rw [outB10, hs]
  · rw [zero_add, sum_coe, sum_rows (fun r => hR m c r j1 * (xR m c r j1 * rms (xR m c r)))]

end Cert.Rms5Arr

end
-- ==== Proof.RmsTop.lean ====
/- The claims about the root-mean-square backward kernels, with two and with five incoming pieces. -/
module

public import proofs.«01_k».proof.Defs
public import proofs.«01_k».proof.Proof.Rms2Arr
public import proofs.«01_k».proof.Proof.Rms5Arr
public import proofs.«01_k».proof.Proof.Gen.Pre_rms2_finite
public import proofs.«01_k».proof.Proof.Gen.Pre_rms5_finite
public import proofs.«01_k».proof.Proof.Gen.Rms2.Frame
public import proofs.«01_k».proof.Proof.Gen.Rms5.Frame

@[expose] public section

set_option maxRecDepth 16384

noncomputable section

namespace Cert.Rms2Top

open Idealize.ShloMosaic Idealize.ShloMosaic.TcCoe Idealize.SL.Sem Cert.Reals Cert.RmsMath Cert.RmsPay Cert.Rms2Arr

/-- The precondition says the arguments it names are real numbers. -/
theorem fin_of_pre (m : (ℓ : Loc Cert.Rms2Ideal.nD Cert.Rms2Ideal.τ Cert.Rms2Ideal.sig) → Buf (Elt Ideal) ℓ)
    (h : Cert.Pre_Rms2Ideal_rms2_finite m) (c : Dev Cert.Rms2Ideal.nD) : Fin' m c := by
  have hA : ∀ (r : Fin 2048) (l : Fin 10496), _ := fun r l => congrFun (h c) (ix2 r l)
  unfold Cert.Pre_rms2_finite.fn at hA
  refine ⟨fun r k => ?_, fun r k => ?_, fun l k => ?_, fun r l => ?_, fun l => ?_⟩
  · have e := hA r ⟨k.val, by omega⟩
    pointwise [] at e
    simp (disch := omega) only [dif_pos, dif_neg] at e
    exact real_of_abs_lt e
  · have e := hA r ⟨2816 + k.val, by omega⟩
    pointwise [] at e
    simp (disch := omega) only [dif_pos, dif_neg] at e
    exact real_of_abs_lt e
  · have hk := k.isLt
    have e := hA ⟨2 * l.val + k.val / 2816, by omega⟩ ⟨5632 + k.val % 2816, by omega⟩
    pointwise [] at e
    simp (disch := omega) only [dif_pos, dif_neg] at e
    exact real_of_abs_lt e
  · have e := hA r ⟨8448 + l.val, by omega⟩
    pointwise [] at e
    exact real_of_abs_lt e
  · have e := hA 0 ⟨9472 + l.val, by omega⟩
    pointwise [] at e
    simp (disch := omega) only [dif_pos, dif_neg] at e
    have i : ∀ h, (⟨9472 + l.val - 8448 - 1024, h⟩ : Fin 1024) = l := fun h => Fin.ext (by show 9472 + l.val - 8448 - 1024 = l.val; omega)
    simp only [i] at e
    exact real_of_abs_lt e

section
open Cert.Rms2RefIdeal.Read

/-- The reference's gradient of the scaled rows. -/
theorem ref19 (m : (ℓ : Loc Cert.Rms2Ideal.nD Cert.Rms2Ideal.τ Cert.Rms2Ideal.sig) → Buf (Elt Ideal) ℓ) (c : Dev Cert.Rms2Ideal.nD) (hf : Fin' m c) (r : Fin 2048) (l : Fin 1024) :
    val_main_v19 (F := Ideal) (A0 m c) (A1 m c) (W m c) (ix2 r l) = ((hR m c r l : ℝ) : EReal) := by
  rw [← dot_real m c hf]
  pointwise [val_main_v19, val_main_v1, val_main_v0, val_main_v17]
  simp only [col, Nat.zero_add]

end

/-- The kernel and the differentiated forward lines leave the same gradients of the rows and of the scale. -/
theorem algebraic : Cert.algebraic_Rms2Ideal_Rms2RefIdeal_pre_rms2_finite := fun m ρ m' ρ' hp hag =>
  ⟨fun c (j : Cert.Rms2Ideal.S2048x1024.Idx) => (R m c j : EReal) + ((dx (xR m c (j 0)) (gR m c) (hR m c (j 0)) (j 1) : ℝ) : EReal),
    fun c (j : Cert.Rms2Ideal.S1x1024.Idx) => ((∑ r, hR m c r (j 1) * (xR m c r (j 1) * rms (xR m c r)) : ℝ) : EReal),
    (θ_run _ _ _).mono (fun _ h c => by
      have hf := fin_of_pre m hp c
      exact ⟨(h c).1.trans (arr6 m c hf), (h c).2.1.trans (arr7 m c hf), (h c).2.2⟩)
      (Cert.Rms2Ideal.Value.run_blocks m ρ),
    (θ_run _ _ _).mono (fun _ h c => by
      have hf := fin_of_pre m hp c
      refine ⟨(h c).1.trans ?_, (h c).2.1.trans ?_, (h c).2.2⟩
      · rw [Cert.Rms2RefIdeal.Read.val_main_v39_eq, (hag c).1, (hag c).2.1, (hag c).2.2.1, (hag c).2.2.2.1, (hag c).2.2.2.2.1, (hag c).2.2.2.2.2]
        funext j; idx_vars j
        exact refDx_apply (X m c) (xR m c) hf.hx _ (hR m c) (ref19 m c hf) (G m c) (gR m c) hf.hg (R m c) j0 j1
      · rw [Cert.Rms2RefIdeal.Read.val_main_v22_eq, (hag c).1, (hag c).2.1, (hag c).2.2.1, (hag c).2.2.2.1]
        funext j; idx_vars j
        obtain rfl : j0 = 0 := Subsingleton.elim _ _
        exact refDg_apply (X m c) (xR m c) hf.hx _ (hR m c) (ref19 m c hf) j1)
      (Cert.Rms2RefIdeal.Value.run m' ρ')⟩

/-- The reference ends with its arguments unchanged; it declares no semaphore. -/
theorem frame_ref : Cert.quiescent_Rms2RefIdeal := fun m ρ _ =>
  (θ_run Cert.Rms2RefIdeal.defs _ _).mono (fun r h => And.intro (fun c => (h c).2.2) (Idealize.ShloMosaic.sem_eq_zero_of_no_sems (by decide) r.2))
    (Cert.Rms2RefIdeal.Value.run (F := Ideal) m ρ)

end Cert.Rms2Top

namespace Cert.Rms5Top

open Idealize.ShloMosaic Idealize.ShloMosaic.TcCoe Idealize.SL.Sem Cert.Reals Cert.RmsMath Cert.RmsPay Cert.Rms5Arr

/-- The precondition says the arguments it names are real numbers. -/
theorem fin_of_pre (m : (ℓ : Loc Cert.Rms5Ideal.nD Cert.Rms5Ideal.τ Cert.Rms5Ideal.sig) → Buf (Elt Ideal) ℓ)
    (h : Cert.Pre_Rms5Ideal_rms5_finite m) (c : Dev Cert.Rms5Ideal.nD) : Fin' m c := by
  have hA : ∀ (r : Fin 2048) (l : Fin 5888), _ := fun r l => congrFun (h c) (ix2 r l)
  unfold Cert.Pre_rms5_finite.fn at hA
  refine ⟨fun r k => ?_, fun r k => ?_, fun r k => ?_, fun r k => ?_, fun r k => ?_, fun l k => ?_, fun r l => ?_, fun l => ?_⟩
  · have e := hA r ⟨k.val, by omega⟩
    pointwise [] at e
    simp (disch := omega) only [dif_pos, dif_neg] at e
    exact real_of_abs_lt e
  · have e := hA r ⟨512 + k.val, by omega⟩
    pointwise [] at e
    simp (disch := omega) only [dif_pos, dif_neg] at e
    exact real_of_abs_lt e
  · have e := hA r ⟨1024 + k.val, by omega⟩
    pointwise [] at e
    simp (disch := omega) only [dif_pos, dif_neg] at e
    have i : ∀ h, (⟨1024 + k.val - 512 - 512, h⟩ : Fin 512) = k := fun h => Fin.ext (by show 1024 + k.val - 512 - 512 = k.val; omega)
    simp only [i] at e
    exact real_of_abs_lt e
  · have e := hA r ⟨1536 + k.val, by omega⟩
    pointwise [] at e
    simp (disch := omega) only [dif_pos, dif_neg] at e
    have i : ∀ h, (⟨1536 + k.val - 512 - 512 - 512, h⟩ : Fin 512) = k := fun h => Fin.ext (by show 1536 + k.val - 512 - 512 - 512 = k.val; omega)
    simp only [i] at e
    exact real_of_abs_lt e
  · have e := hA r ⟨2048 + k.val, by omega⟩
    pointwise [] at e
    simp (disch := omega) only [dif_pos, dif_neg] at e
    have i : ∀ h, (⟨2048 + k.val - 512 - 512 - 512 - 512, h⟩ : Fin 512) = k := fun h => Fin.ext (by show 2048 + k.val - 512 - 512 - 512 - 512 = k.val; omega)
    simp only [i] at e
    exact real_of_abs_lt e
  · have hk := k.isLt
    have e := hA ⟨2 * l.val + k.val / 1280, by omega⟩ ⟨2560 + k.val % 1280, by omega⟩
    pointwise [] at e
    simp (disch := omega) only [dif_pos, dif_neg] at e
    exact real_of_abs_lt e
  · have e := hA r ⟨3840 + l.val, by omega⟩
    pointwise [] at e
    exact real_of_abs_lt e
  · have e := hA 0 ⟨4864 + l.val, by omega⟩
    pointwise [] at e
    simp (disch := omega) only [dif_pos, dif_neg] at e
    have i : ∀ h, (⟨4864 + l.val - 3840 - 1024, h⟩ : Fin 1024) = l := fun h => Fin.ext (by show 4864 + l.val - 3840 - 1024 = l.val; omega)
    simp only [i] at e
    exact real_of_abs_lt e

section
open Cert.Rms5RefIdeal.Read

/-- A sum over the pieces' columns is the sum of the pieces' sums. -/
theorem sum_pieces (f : Fin 2560 → EReal) :
    ∑ x, f x = ∑ k : Fin 512, f (col 0 (by decide) k) + ∑ k : Fin 512, f (col 512 (by decide) k) + ∑ k : Fin 512, f (col 1024 (by decide) k)
      + ∑ k : Fin 512, f (col 1536 (by decide) k) + ∑ k : Fin 512, f (col 2048 (by decide) k) := by
  have e : ∑ t : Fin 5, ∑ k : Fin 512, f ⟨t.val * 512 + k.val, by omega⟩ = ∑ x, f x := Fin.sum_mul_add_congr (fun s k hl => rfl) (by decide)
  rw [← e, Fin.sum_univ_five]
  rfl

/-- The pieces side by side, at a column of each. -/
theorem ref0 (a0 a1 a2 a3 a4 : FVec Ideal Cert.Rms5RefIdeal.S2048x512 .bf16) (r : Fin 2048) (k : Fin 512) :
    val_main_v0 (F := Ideal) a0 a1 a2 a3 a4 (ix2 r (col 0 (by decide) k)) = a0 (ix2 r k) ∧ val_main_v0 (F := Ideal) a0 a1 a2 a3 a4 (ix2 r (col 512 (by decide) k)) = a1 (ix2 r k)
      ∧ val_main_v0 (F := Ideal) a0 a1 a2 a3 a4 (ix2 r (col 1024 (by decide) k)) = a2 (ix2 r k) ∧ val_main_v0 (F := Ideal) a0 a1 a2 a3 a4 (ix2 r (col 1536 (by decide) k)) = a3 (ix2 r k)
      ∧ val_main_v0 (F := Ideal) a0 a1 a2 a3 a4 (ix2 r (col 2048 (by decide) k)) = a4 (ix2 r k) := by
  have hk := k.isLt
  refine ⟨?_, ?_, ?_, ?_, ?_⟩ <;> pointwise [val_main_v0, col] <;> simp (disch := omega) only [dif_pos, dif_neg] <;>
    exact congrArg _ (congrArg _ (Fin.ext (by dsimp only; omega)))

/-- The reference's gradient of the scaled rows. -/
theorem ref19 (m : (ℓ : Loc Cert.Rms5Ideal.nD Cert.Rms5Ideal.τ Cert.Rms5Ideal.sig) → Buf (Elt Ideal) ℓ) (c : Dev Cert.Rms5Ideal.nD) (hf : Fin' m c) (r : Fin 2048) (l : Fin 1024) :
    val_main_v19 (F := Ideal) (A0 m c) (A1 m c) (A2 m c) (A3 m c) (A4 m c) (W m c) (ix2 r l) = ((hR m c r l : ℝ) : EReal) := by
  have e : val_main_v19 (F := Ideal) (A0 m c) (A1 m c) (A2 m c) (A3 m c) (A4 m c) (W m c) (ix2 r l)
      = ∑ x : Fin 2560, (val_main_v0 (F := Ideal) (A0 m c) (A1 m c) (A2 m c) (A3 m c) (A4 m c) (ix2 r x) : EReal) * (W m c (ix2 l x) : EReal) := by
    pointwise [val_main_v19, val_main_v1, val_main_v17]
  rw [← dot_real m c hf, e, sum_pieces]
  simp only [fun k => (ref0 (A0 m c) (A1 m c) (A2 m c) (A3 m c) (A4 m c) r k).1, fun k => (ref0 (A0 m c) (A1 m c) (A2 m c) (A3 m c) (A4 m c) r k).2.1,
    fun k => (ref0 (A0 m c) (A1 m c) (A2 m c) (A3 m c) (A4 m c) r k).2.2.1, fun k => (ref0 (A0 m c) (A1 m c) (A2 m c) (A3 m c) (A4 m c) r k).2.2.2.1,
    fun k => (ref0 (A0 m c) (A1 m c) (A2 m c) (A3 m c) (A4 m c) r k).2.2.2.2]

end

/-- The kernel and the differentiated forward lines leave the same gradients of the rows and of the scale. -/
theorem algebraic : Cert.algebraic_Rms5Ideal_Rms5RefIdeal_pre_rms5_finite := fun m ρ m' ρ' hp hag =>
  ⟨fun c (j : Cert.Rms5Ideal.S2048x1024.Idx) => (R m c j : EReal) + ((dx (xR m c (j 0)) (gR m c) (hR m c (j 0)) (j 1) : ℝ) : EReal),
    fun c (j : Cert.Rms5Ideal.S1x1024.Idx) => ((∑ r, hR m c r (j 1) * (xR m c r (j 1) * rms (xR m c r)) : ℝ) : EReal),
    (θ_run _ _ _).mono (fun _ h c => by
      have hf := fin_of_pre m hp c
      exact ⟨(h c).1.trans (arr9 m c hf), (h c).2.1.trans (arr10 m c hf), (h c).2.2⟩)
      (Cert.Rms5Ideal.Value.run_blocks m ρ),
    (θ_run _ _ _).mono (fun _ h c => by
      have hf := fin_of_pre m hp c
      obtain ⟨g0, g1, g2, g3, g4, g5, g6, g7, g8⟩ := hag c
      refine ⟨(h c).1.trans ?_, (h c).2.1.trans ?_, (h c).2.2⟩
      · rw [Cert.Rms5RefIdeal.Read.val_main_v39_eq, g0, g1, g2, g3, g4, g5, g6, g7, g8]
        funext j; idx_vars j
        exact refDx_apply (X m c) (xR m c) hf.hx _ (hR m c) (ref19 m c hf) (G m c) (gR m c) hf.hg (R m c) j0 j1
      · rw [Cert.Rms5RefIdeal.Read.val_main_v22_eq, g0, g1, g2, g3, g4, g5, g6]
        funext j; idx_vars j
        obtain rfl : j0 = 0 := Subsingleton.elim _ _
        exact refDg_apply (X m c) (xR m c) hf.hx _ (hR m c) (ref19 m c hf) j1)
      (Cert.Rms5RefIdeal.Value.run m' ρ')⟩

/-- The reference ends with its arguments unchanged; it declares no semaphore. -/
theorem frame_ref : Cert.quiescent_Rms5RefIdeal := fun m ρ _ =>
  (θ_run Cert.Rms5RefIdeal.defs _ _).mono (fun r h => And.intro (fun c => (h c).2.2) (Idealize.ShloMosaic.sem_eq_zero_of_no_sems (by decide) r.2))
    (Cert.Rms5RefIdeal.Value.run (F := Ideal) m ρ)

end Cert.Rms5Top

end
-- ==== Proof.LossTop.lean ====
/- The claims about the loss and its gradient: they hold of every argument, finite or not. -/
module

public import proofs.«01_k».proof.Defs
public import proofs.«01_k».proof.Proof.RmsMath
public import proofs.«01_k».proof.Proof.Gen.LossGrad.Frame
public import proofs.«01_k».proof.Proof.Gen.LossGradIdeal.Value
public import proofs.«01_k».proof.Proof.Gen.LossGradRefIdeal.Read
public import Idealize.ShloMosaic.Lib.Pipeline.ValueKit

@[expose] public section

set_option maxRecDepth 16384

noncomputable section

namespace Cert.LossTop

open Idealize.ShloMosaic Idealize.ShloMosaic.TcCoe Idealize.SL.Sem Cert.Reals Cert.RmsMath Cert.LossGradIdeal Cert.LossGradIdeal.Gen
open Idealize.ShloMosaic.Pipeline (Dat)

theorem hz : (![0, 0] : Fin 2 → Nat) = fun _ => 0 := funext fun a => by fin_cases a <;> rfl

theorem ofBits_half : Ideal.ofBits .f32 0x3F000000#32 = ((1 / 2 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_inv_1024 : Ideal.ofBits .f32 0x3A800000#32 = ((1 / 1024 : ℝ) : EReal) := by
  simp [Ideal.ofBits, Ideal.ieee, -EReal.coe_mul]; norm_num

/-- Half the sum of terms that are not negative is the sum of their halves. -/
theorem half_sum {ι : Type} (s : Finset ι) (f : ι → EReal) (hf : ∀ k, 0 ≤ f k) : ((1 / 2 : ℝ) : EReal) * ∑ k ∈ s, f k = ∑ k ∈ s, ((1 / 2 : ℝ) : EReal) * f k := by
  classical
  induction s using Finset.induction_on with
  | empty => simp
  | insert a s ha ih =>
    rw [Finset.sum_insert ha, Finset.sum_insert ha, ← ih, EReal.left_distrib_of_nonneg (hf a) (Finset.sum_nonneg fun k _ => hf k)]

/-- A square is not negative, of an infinity either. -/
theorem sq_nonneg' (x : EReal) : 0 ≤ x * x := by
  rcases le_total 0 x with h | h
  · exact mul_nonneg h h
  · rw [← neg_mul_neg x x]; exact mul_nonneg (EReal.neg_nonneg.mpr h) (EReal.neg_nonneg.mpr h)

variable (X Y : FVec Ideal S2048x1024 .f32)

/-- Row `r`'s mean square of the difference. -/
def ms (r : Fin 2048) : EReal := Ideal.div (∑ k : Fin 1024, (X (ix2 r k) - Y (ix2 r k) : EReal) * (X (ix2 r k) - Y (ix2 r k) : EReal)) ((1024 : ℝ) : EReal)

theorem ms_nonneg (r : Fin 2048) : 0 ≤ ms X Y r := by
  unfold ms
  rw [Ideal.div_coe h1024]
  exact mul_nonneg (Finset.sum_nonneg fun k _ => sq_nonneg' _) (by exact_mod_cast (by norm_num : (0 : ℝ) ≤ 1 / 1024))

section
variable (c : Dev nD) (i : grid0.Coords) (a1 : Memref sig .tc .vmem S512x1024 .f32) (h1 : a1.IsWhole) (a2 : Memref sig .tc .vmem S512x1024 .f32) (h2 : a2.IsWhole)
  (a3 : Memref sig .tc .vmem S512x1024 .f32) (h3 : a3.IsWhole) (a4 : Memref sig .tc .vmem S8x128 .f32) (h4 : a4.IsWhole)
  (x0 x1 : Vec Ideal S512x1024 .f32) (y : Vec Ideal S8x128 .f32)

/-- What the first point leaves: its rows' gradient. -/
theorem outA2 (hc : cond0_0 i) : out0_A_2 c i a1 h1 a2 h2 a3 h3 a4 h4 hc x0 x1 = k0_pay2 x0 x1 := by
  unfold out0_A_2
  rw [View.read_writes_eq_canon _ _ _ (cover0_A_2 c i a1 h1 a2 h2 a3 h3 a4 h4 hc x0 x1)]
  unfold kernelRun0_A
  dsimp only
  sl_unfold_words
  rw [View.canon_unit_zero hz]
  simp only [View.readAt_eq_ld, h1.read_unread, h2.read_unread, View.ld_unit_zero (S := S512x1024) hz, shapeCast_self]

/-- What the first point leaves: its part of the loss, from zero. -/
theorem outA3 (hc : cond0_0 i) : out0_A_3 c i a1 h1 a2 h2 a3 h3 a4 h4 hc x0 x1 = k0_pay4 x0 x1 (k0_pay3 (F := Ideal)) := by
  unfold out0_A_3
  rw [View.read_writes_eq_canon _ _ _ (cover0_A_3 c i a1 h1 a2 h2 a3 h3 a4 h4 hc x0 x1)]
  unfold kernelRun0_A
  dsimp only
  sl_unfold_words
  rw [View.canon_cons_unit_zero (S := S8x128) hz, View.readCov_unit_zero (S := S8x128) _ hz]
  simp only [View.readAt_eq_ld, h1.read_unread, h2.read_unread, View.ld_unit_zero (S := S512x1024) hz, shapeCast_self]

/-- What a later point leaves: its rows' gradient. -/
theorem outB2 (hc : ¬cond0_0 i) : out0_B_2 c i a1 h1 a2 h2 a3 h3 a4 h4 hc x0 x1 y = k0_pay2 x0 x1 := by
  unfold out0_B_2
  rw [View.read_writes_eq_canon _ _ _ (cover0_B_2 c i a1 h1 a2 h2 a3 h3 a4 h4 hc x0 x1 y)]
  unfold kernelRun0_B
  dsimp only
  sl_unfold_words
  rw [View.canon_unit_zero hz]
  simp only [View.readAt_eq_ld, h1.read_unread, h2.read_unread, View.ld_unit_zero (S := S512x1024) hz, shapeCast_self]

/-- What a later point leaves: its part of the loss, from what stood there. -/
theorem outB3 (hc : ¬cond0_0 i) : out0_B_3 c i a1 h1 a2 h2 a3 h3 a4 h4 hc x0 x1 y = k0_pay4 x0 x1 y := by
  unfold out0_B_3
  rw [View.read_writes_eq_canon _ _ _ (cover0_B_3 c i a1 h1 a2 h2 a3 h3 a4 h4 hc x0 x1 y)]
  unfold kernelRun0_B
  dsimp only
  sl_unfold_words
  rw [View.canon_unit_zero hz]
  simp only [View.readAt_eq_ld, h1.read_unread, h2.read_unread, h4.read_unread, View.ld_unit_zero (S := S512x1024) hz, View.ld_unit_zero (S := S8x128) hz, shapeCast_self]

end

variable (m : (ℓ : Loc nD τ sig) → Buf (Elt Ideal) ℓ) (c : Dev nD)

/-- The model's last rows and the targets, on device `c`. -/
abbrev A0 : Vec Ideal S2048x1024 .f32 := m ((c : Thread nD τ).loc main_arg0)
abbrev A1 : Vec Ideal S2048x1024 .f32 := m ((c : Thread nD τ).loc main_arg1)

/-- The row of the arrays that row `r` of point `t`'s block is. -/
def row (t : Fin cfg0.N) (r : Fin 512) : Fin 2048 := ⟨t.val * 512 + r.val, by have hN : cfg0.N = 4 := N_0; have := t.isLt; omega⟩

theorem idx : ∀ t : Fin cfg0.N, win0_0.index t = ![t.val, 0] ∧ win0_1.index t = ![t.val, 0] ∧ win0_2.index t = ![t.val, 0] ∧ win0_3.index t = ![0, 0] :=
  (by decide +kernel : ∀ t : Fin grid0.N, _)

theorem blk0 (t : Fin cfg0.N) (r : Fin 512) (l : Fin 1024) : iblk m c 0 t (ix2 r l) = A0 m c (ix2 (row t r) l) := by
  blk_ext [iblk, V, idx t, row]
theorem blk1 (t : Fin cfg0.N) (r : Fin 512) (l : Fin 1024) : iblk m c 1 t (ix2 r l) = A1 m c (ix2 (row t r) l) := by
  blk_ext [iblk, V, idx t, row]
theorem emb2 (t : Fin cfg0.N) (r : Fin 512) (l : Fin 1024) : ((cfg0.win 2).blk t).view.emb (ix2 r l : S512x1024.Idx) = (ix2 (row t r) l : S2048x1024.Idx) := by
  blk_ext [idx t, row]

/-- The sum over the points' blocks of a function of the row is the sum over the rows. -/
theorem sum_rows (f : Fin 2048 → EReal) : ∑ t : Fin cfg0.N, ∑ r : Fin 512, f (row t r) = ∑ r, f r :=
  Fin.sum_mul_add_congr (fun s k hl => rfl) (by show 2048 = grid0.N * 512; rw [N_0])

/-- Every point leaves its rows' gradient. -/
theorem outs2 (t : Fin cfg0.N) : (outsAt0 m c t.val t.isLt).1 = k0_pay2 (F := Ideal) (iblk m c 0 t) (iblk m c 1 t) := by
  by_cases h : t.val % 4 = 0
  · rw [outsAt0_A m c t h]; dsimp only; rw [outA2]
  · rw [outsAt0_B m c t h]; dsimp only; rw [outB2]

theorem arr2 : (dats m 0 c).arrAt 2 cfg0.N = fun j : S2048x1024.Idx => (A0 m c j - A1 m c j : EReal) * ((1 / 1024 : ℝ) : EReal) := by
  refine (dats m 0 c).arrAt_eq_of_covers 2 _ (by decide +kernel) fun t _ y => ?_
  blk_simp
  idx_vars y
  rw [after0_2, outs2, emb2]
  pointwise [k0_pay2, k0_pay1]
  rw [blk0, blk1, ofBits_inv_1024]

/-- A point's part of the loss, at every index the same. -/
theorem part (t : Fin cfg0.N) (Z : FVec Ideal S8x128 .f32) (a : Fin 8) (b : Fin 128) : k0_pay4 (F := Ideal) (iblk m c 0 t) (iblk m c 1 t) Z (ix2 a b)
    = Z (ix2 a b) + ∑ r, ((1 / 2 : ℝ) : EReal) * ms (A0 m c) (A1 m c) (row t r) := by
  rw [← half_sum _ _ fun r => ms_nonneg _ _ _]
  pointwise [k0_pay4, k0_pay1]
  simp only [blk0, blk1, ofBits_half, ofBits_1024]
  rfl

theorem arr3 : (dats m 0 c).arrAt 3 cfg0.N = fun _ : S8x128.Idx => ((1 / 2 : ℝ) : EReal) * ∑ r, ms (A0 m c) (A1 m c) r := by
  refine (dats m 0 c).arrAt_eq_of_after_last 3 t0_3 (by decide +kernel) _ fun j => ?_
  blk_simp
  idx_vars j
  rw [after0_3]
  refine (Pipeline.eq_sum_fin_of_reset_step_apply_last (fun n h (l : Fin 128) => (outsAt0 m c n h).2 (ix2 j0 l)) 4 (fun _ => (0 : EReal))
    (fun p _ => ∑ r, ((1 / 2 : ℝ) : EReal) * ms (A0 m c) (A1 m c) (row p r))
    (fun t h l => ?_) (fun t h l => ?_) (le_of_eq N_0) t0_3 rfl j1).trans ?_
  · show (outsAt0 m c t.val t.isLt).2 (ix2 j0 l) = _
    rw [outsAt0_A m c t h]; dsimp only; rw [outA3, part]
    congr 1; pointwise [k0_pay3]
  · show (outsAt0 m c t.val t.isLt).2 (ix2 j0 l) = _
    rw [outsAt0_B m c t h]; dsimp only; rw [outB3, part]
  · rw [zero_add, sum_rows (fun r => ((1 / 2 : ℝ) : EReal) * ms (A0 m c) (A1 m c) r), half_sum _ _ fun r => ms_nonneg _ _ _]

section
open Cert.LossGradRefIdeal.Read

/-- The reference's gradient. -/
theorem ref14 (r : Fin 2048) (l : Fin 1024) : val_main_v14 (F := Ideal) X Y (ix2 r l) = (X (ix2 r l) - Y (ix2 r l) : EReal) * ((1 / 1024 : ℝ) : EReal) := by
  pointwise [val_main_v14, val_main_v13, val_main_v12, val_main_v11, val_main_v10, val_main_v9, val_main_cst_4, val_main_cst_5, val_main_cst_6, val_main_v3, val_main_v2, val_main_cst, val_main_v0]
  rw [ofBits_half, ofBits_1024, ofBits_two, div_real _ h1024, ← mul_assoc, ← EReal.coe_mul, mul_comm]
  norm_num

/-- The reference's loss. -/
theorem ref15 (a : Fin 8) (b : Fin 128) : val_main_v15 (F := Ideal) X Y (ix2 a b) = ((1 / 2 : ℝ) : EReal) * ∑ r, ms X Y r := by
  pointwise [val_main_v15, val_main_v8, val_main_cst_3, val_main_v7, val_main_v6, val_main_v5, val_main_cst_1, val_main_v4, val_main_cst_0, val_main_cst_2, val_main_v1, val_main_v0]
  simp only [ofBits_half, ofBits_1024]
  rfl

end

/-- The kernel and the differentiated forward lines leave the same gradient and the same loss. -/
theorem algebraic : Cert.algebraic_LossGradIdeal_LossGradRefIdeal := fun m ρ m' ρ' _ hag =>
  ⟨fun c (j : S2048x1024.Idx) => (A0 m c j - A1 m c j : EReal) * ((1 / 1024 : ℝ) : EReal), fun c (_ : S8x128.Idx) => ((1 / 2 : ℝ) : EReal) * ∑ r, ms (A0 m c) (A1 m c) r,
    (θ_run _ _ _).mono (fun _ h c => ⟨(h c).1.trans (arr2 m c), (h c).2.1.trans (arr3 m c), (h c).2.2⟩) (Cert.LossGradIdeal.Value.run_blocks m ρ),
    (θ_run _ _ _).mono (fun _ h c => by
      refine ⟨(h c).1.trans ?_, (h c).2.1.trans ?_, (h c).2.2⟩
      · rw [Cert.LossGradRefIdeal.Read.val_main_v14_eq, (hag c).1, (hag c).2]
        funext j; idx_vars j
        exact ref14 (A0 m c) (A1 m c) j0 j1
      · rw [Cert.LossGradRefIdeal.Read.val_main_v15_eq, (hag c).1, (hag c).2]
        funext j; idx_vars j
        exact ref15 (A0 m c) (A1 m c) j0 j1)
      (Cert.LossGradRefIdeal.Value.run m' ρ')⟩

/-- The reference ends with its arguments unchanged; it declares no semaphore. -/
theorem frame_ref : Cert.quiescent_LossGradRefIdeal := fun m ρ _ =>
  (θ_run Cert.LossGradRefIdeal.defs _ _).mono (fun r h => And.intro (fun c => (h c).2.2) (Idealize.ShloMosaic.sem_eq_zero_of_no_sems (by decide) r.2))
    (Cert.LossGradRefIdeal.Value.run (F := Ideal) m ρ)

end Cert.LossTop

end
-- ==== Proof.FfnRun.lean ====
module

public import proofs.«01_k».proof.Proof.Gen.FfnActIdeal.Loops
public import proofs.«01_k».proof.Proof.Gen.FfnActIdeal.Frame
public import Idealize.ShloMosaic.Lib.WordCmp

@[expose] public section

set_option maxRecDepth 16384

noncomputable section

namespace Cert.FfnActIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfnActIdeal.Gen

variable {F : FTy → Type} [FloatOps F]

local notation "𝕄G" => MT nD τ sig Unit (Elt F) ℕ (UR sig nD τ) ℕ

set_option maxHeartbeats 4000000 in
/-- The body at any grid point: the pieces it leaves in each of its four results, from the blocks it reads and what the
three scratch buffers happen to hold, with the proof that it runs to its end leaving them. -/
noncomputable def runF (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S3x256 .f32) (harg3 : arg3.IsWhole) (arg4 : Memref sig .tc .vmem S1x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S3x256 .f32) (harg8 : arg8.IsWhole) (arg9 : Memref sig .tc .vmem S1x256 .f32) (harg9 : arg9.IsWhole) (arg10 : Memref sig .tc .vmem S2056x256 .f32) (harg10 : arg10.IsWhole) (arg11 : Memref sig .tc .vmem S2056x256 .f32) (harg11 : arg11.IsWhole) (arg12 : Memref sig .tc .vmem S32x256 .f32) (harg12 : arg12.IsWhole) (x1 : Vec F S2048x256 .f32) (x2 : Vec F S2048x256 .f32) (x3 : Vec F S3x256 .f32) (x4 : Vec F S1x256 .f32) (x5 : Vec F S2048x256 .bf16) (f7 : BufTy.Contents (Elt F) arg7.view.ty) (f10 : BufTy.Contents (Elt F) arg10.view.ty) (f11 : BufTy.Contents (Elt F) arg11.view.ty) (f12 : BufTy.Contents (Elt F) arg12.view.ty) :
    Σ' (L6 : List (View.Piece (Elt F) S2048x256 .bf16)) (L7 : List (View.Piece (Elt F) S2048x256 .bf16)) (L8 : List (View.Piece (Elt F) S3x256 .f32)), { L9 : List (View.Piece (Elt F) S1x256 .f32) //
      ∀ (E : Set ℕ) (K : PUnit → sProp 𝕄G),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (arg7.view.loc (c : Thread nD τ) ↦[arg7.view.set]{fullShare} f7) ∗ (∃ d, owns (c : Thread nD τ) arg8 fullShare d) ∗ (∃ d, owns (c : Thread nD τ) arg9 fullShare d) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, (arg6.view.loc (c : Thread nD τ) ↦[arg6.view.set]{fullShare} (arg6.view.writes (Elt F) f L6))) ∗ (∃ f, (arg7.view.loc (c : Thread nD τ) ↦[arg7.view.set]{fullShare} (arg7.view.writes (Elt F) f L7))) ∗ (∃ f, (arg8.view.loc (c : Thread nD τ) ↦[arg8.view.set]{fullShare} (arg8.view.writes (Elt F) f L8))) ∗ (∃ f, (arg9.view.loc (c : Thread nD τ) ↦[arg9.view.set]{fullShare} (arg9.view.writes (Elt F) f L9))) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f))) -∗ K ⟨⟩))
          ⊢ wp frame (wpE (defs₀ (F := F)) Variants.none c none) E (cc0_ffn_act_bwd i arg1 harg1 arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_ffn_act_bwd_eq_skeleton]; unfold cc0_ffn_act_bwd_skel
    simp only [k0_part3_eq_skeleton]
    unfold owns
    iintro ⟨⟨%g1, %hg1, H1⟩, ⟨%g2, %hg2, H2⟩, ⟨%g3, %hg3, H3⟩, ⟨%g4, %hg4, H4⟩, ⟨%g5, %hg5, H5⟩, ⟨%d6, %g6, -, H6⟩, H7, ⟨%d8, %g8, -, H8⟩, ⟨%d9, %g9, -, H9⟩, H10, H11, H12, Hk⟩
    obtain rfl := harg1.eq_unread hg1; obtain rfl := harg2.eq_unread hg2; obtain rfl := harg3.eq_unread hg3; obtain rfl := harg4.eq_unread hg4; obtain rfl := harg5.eq_unread hg5
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    iexists _; iexact H12

end Cert.FfnActIdeal.Run

end
-- ==== Proof.FfnOut.lean ====
module

public import proofs.«01_k».proof.Proof.Gen.FfnActIdeal.Loops
public import proofs.«01_k».proof.Proof.FfnRun
public import Idealize.ShloMosaic.Lib.WordCmp

@[expose] public section

set_option maxRecDepth 16384

noncomputable section

namespace Cert.FfnActIdeal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfnActIdeal.Gen

open Cert.FfnActIdeal.Run

variable {F : FTy → Type} [FloatOps F]

local notation "𝕄G" => MT nD τ sig Unit (Elt F) ℕ (UR sig nD τ) ℕ

/-- A trip of the middle loop writes the same whatever two of the buffers it fills held before. -/
theorem trip_same (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S3x256 .f32) (harg3 : arg3.IsWhole) (arg4 : Memref sig .tc .vmem S1x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S3x256 .f32) (harg8 : arg8.IsWhole) (arg9 : Memref sig .tc .vmem S1x256 .f32) (harg9 : arg9.IsWhole) (arg10 : Memref sig .tc .vmem S2056x256 .f32) (harg10 : arg10.IsWhole) (arg11 : Memref sig .tc .vmem S2056x256 .f32) (harg11 : arg11.IsWhole) (arg12 : Memref sig .tc .vmem S32x256 .f32) (harg12 : arg12.IsWhole) (X2 : BufTy.Contents (Elt F) arg2.view.ty) (X3 : BufTy.Contents (Elt F) arg3.view.ty) (X4 : BufTy.Contents (Elt F) arg4.view.ty) (X5 : BufTy.Contents (Elt F) arg5.view.ty) (X10 : BufTy.Contents (Elt F) arg10.view.ty) (k : Fin k0_t2_loop.trips) (G7 : BufTy.Contents (Elt F) arg7.view.ty) (G7' : BufTy.Contents (Elt F) arg7.view.ty) (G11 : BufTy.Contents (Elt F) arg11.view.ty) (G11' : BufTy.Contents (Elt F) arg11.view.ty) (G12 : BufTy.Contents (Elt F) arg12.view.ty) :
    tripL_k0_t2 (F := F) Variants.none c none i arg1 harg1 arg2 harg2 arg3 harg3 arg4 harg4 arg5 harg5 arg6 harg6 arg7 harg7 arg8 harg8 arg9 harg9 arg10 harg10 arg11 harg11 arg12 harg12 X2 X3 X4 X5 X10 k G7 G11 G12
      = tripL_k0_t2 (F := F) Variants.none c none i arg1 harg1 arg2 harg2 arg3 harg3 arg4 harg4 arg5 harg5 arg6 harg6 arg7 harg7 arg8 harg8 arg9 harg9 arg10 harg10 arg11 harg11 arg12 harg12 X2 X3 X4 X5 X10 k G7' G11' G12 := by
  unfold tripL_k0_t2 trip_k0_t2; rfl

/-- So does the loop. -/
theorem loop_same (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S3x256 .f32) (harg3 : arg3.IsWhole) (arg4 : Memref sig .tc .vmem S1x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S3x256 .f32) (harg8 : arg8.IsWhole) (arg9 : Memref sig .tc .vmem S1x256 .f32) (harg9 : arg9.IsWhole) (arg10 : Memref sig .tc .vmem S2056x256 .f32) (harg10 : arg10.IsWhole) (arg11 : Memref sig .tc .vmem S2056x256 .f32) (harg11 : arg11.IsWhole) (arg12 : Memref sig .tc .vmem S32x256 .f32) (harg12 : arg12.IsWhole) (X2 : BufTy.Contents (Elt F) arg2.view.ty) (X3 : BufTy.Contents (Elt F) arg3.view.ty) (X4 : BufTy.Contents (Elt F) arg4.view.ty) (X5 : BufTy.Contents (Elt F) arg5.view.ty) (X10 : BufTy.Contents (Elt F) arg10.view.ty) (G7 : BufTy.Contents (Elt F) arg7.view.ty) (G7' : BufTy.Contents (Elt F) arg7.view.ty) (G11 : BufTy.Contents (Elt F) arg11.view.ty) (G11' : BufTy.Contents (Elt F) arg11.view.ty) (G12 : BufTy.Contents (Elt F) arg12.view.ty) (k : ℕ) :
    pb_k0_t2 (F := F) Variants.none c none i arg1 harg1 arg2 harg2 arg3 harg3 arg4 harg4 arg5 harg5 arg6 harg6 arg7 harg7 arg8 harg8 arg9 harg9 arg10 harg10 arg11 harg11 arg12 harg12 X2 X3 X4 X5 X10 G7 G11 G12 k
      = pb_k0_t2 (F := F) Variants.none c none i arg1 harg1 arg2 harg2 arg3 harg3 arg4 harg4 arg5 harg5 arg6 harg6 arg7 harg7 arg8 harg8 arg9 harg9 arg10 harg10 arg11 harg11 arg12 harg12 X2 X3 X4 X5 X10 G7' G11' G12 k := by
  induction k with
  | zero => rfl
  | succ k ih =>
    rw [pb_k0_t2.eq_2, pb_k0_t2.eq_2, ih]
    unfold pb_k0_t2Step
    by_cases h : k < k0_t2_loop.trips
    · rw [dif_pos h, dif_pos h, trip_same c i arg1 harg1 arg2 harg2 arg3 harg3 arg4 harg4 arg5 harg5 arg6 harg6 arg7 harg7 arg8 harg8 arg9 harg9 arg10 harg10 arg11 harg11 arg12 harg12 X2 X3 X4 X5 X10 ⟨k, h⟩ (arg7.view.writes (Elt F) G7 _) (arg7.view.writes (Elt F) G7' _)
        (arg11.view.writes (Elt F) G11 _) (arg11.view.writes (Elt F) G11' _)]
    · rw [dif_neg h, dif_neg h]

/-- What is written into the padded gate: eight rows of zeros, then the gate. -/
def pad (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S3x256 .f32) (harg3 : arg3.IsWhole) (arg4 : Memref sig .tc .vmem S1x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S3x256 .f32) (harg8 : arg8.IsWhole) (arg9 : Memref sig .tc .vmem S1x256 .f32) (harg9 : arg9.IsWhole) (arg10 : Memref sig .tc .vmem S2056x256 .f32) (harg10 : arg10.IsWhole) (arg11 : Memref sig .tc .vmem S2056x256 .f32) (harg11 : arg11.IsWhole) (arg12 : Memref sig .tc .vmem S32x256 .f32) (harg12 : arg12.IsWhole) (x1 : Vec F S2048x256 .f32) (x2 : Vec F S2048x256 .f32) (x3 : Vec F S3x256 .f32) (x4 : Vec F S1x256 .f32) (x5 : Vec F S2048x256 .bf16) : List (View.Piece (Elt F) S2056x256 .f32) :=
  pb_k0_t1 (F := F) Variants.none c none i arg1 harg1 arg2 harg2 arg3 harg3 arg4 harg4 arg5 harg5 arg6 harg6 arg7 harg7 arg8 harg8 arg9 harg9 arg10 harg10 arg11 harg11 arg12 harg12 (harg1.unread x1) (Scf.trips k0_t1_loop.lb k0_t1_loop.ub k0_t1_loop.st) ++ [⟨Rect.unit ![0, 0] S8x256.size inb_S2056x256_S8x256_0_0, k0_pay15⟩]

/-- The padded gate. -/
def S10 (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S3x256 .f32) (harg3 : arg3.IsWhole) (arg4 : Memref sig .tc .vmem S1x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S3x256 .f32) (harg8 : arg8.IsWhole) (arg9 : Memref sig .tc .vmem S1x256 .f32) (harg9 : arg9.IsWhole) (arg10 : Memref sig .tc .vmem S2056x256 .f32) (harg10 : arg10.IsWhole) (arg11 : Memref sig .tc .vmem S2056x256 .f32) (harg11 : arg11.IsWhole) (arg12 : Memref sig .tc .vmem S32x256 .f32) (harg12 : arg12.IsWhole) (x1 : Vec F S2048x256 .f32) (x2 : Vec F S2048x256 .f32) (x3 : Vec F S3x256 .f32) (x4 : Vec F S1x256 .f32) (x5 : Vec F S2048x256 .bf16) : BufTy.Contents (Elt F) arg10.view.ty :=
  arg10.view.writes (Elt F) arg10.view.junk (pad c i arg1 harg1 arg2 harg2 arg3 harg3 arg4 harg4 arg5 harg5 arg6 harg6 arg7 harg7 arg8 harg8 arg9 harg9 arg10 harg10 arg11 harg11 arg12 harg12 x1 x2 x3 x4 x5)

/-- What the middle loop writes: the second gradient, the padded first one, the sums. -/
def mid (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S3x256 .f32) (harg3 : arg3.IsWhole) (arg4 : Memref sig .tc .vmem S1x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S3x256 .f32) (harg8 : arg8.IsWhole) (arg9 : Memref sig .tc .vmem S1x256 .f32) (harg9 : arg9.IsWhole) (arg10 : Memref sig .tc .vmem S2056x256 .f32) (harg10 : arg10.IsWhole) (arg11 : Memref sig .tc .vmem S2056x256 .f32) (harg11 : arg11.IsWhole) (arg12 : Memref sig .tc .vmem S32x256 .f32) (harg12 : arg12.IsWhole) (x1 : Vec F S2048x256 .f32) (x2 : Vec F S2048x256 .f32) (x3 : Vec F S3x256 .f32) (x4 : Vec F S1x256 .f32) (x5 : Vec F S2048x256 .bf16) : List (View.Piece (Elt F) S2048x256 .bf16) × List (View.Piece (Elt F) S2056x256 .f32) × List (View.Piece (Elt F) S32x256 .f32) :=
  pb_k0_t2 (F := F) Variants.none c none i arg1 harg1 arg2 harg2 arg3 harg3 arg4 harg4 arg5 harg5 arg6 harg6 arg7 harg7 arg8 harg8 arg9 harg9 arg10 harg10 arg11 harg11 arg12 harg12 (harg2.unread x2) (harg3.unread x3) (harg4.unread x4) (harg5.unread x5) (S10 c i arg1 harg1 arg2 harg2 arg3 harg3 arg4 harg4 arg5 harg5 arg6 harg6 arg7 harg7 arg8 harg8 arg9 harg9 arg10 harg10 arg11 harg11 arg12 harg12 x1 x2 x3 x4 x5) arg7.view.junk
    (arg11.view.writes (Elt F) arg11.view.junk [⟨Rect.unit ![2048, 0] S8x256.size inb_S2056x256_S8x256_2048_0, k0_pay16⟩]) (arg12.view.writes (Elt F) arg12.view.junk [⟨Rect.unit ![0, 0] S32x256.size inb_S32x256_S32x256_0_0, k0_pay17⟩])
    (Scf.trips k0_t2_loop.lb k0_t2_loop.ub k0_t2_loop.st)

/-- The padded gradient at the convolution's result. -/
def S11 (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S3x256 .f32) (harg3 : arg3.IsWhole) (arg4 : Memref sig .tc .vmem S1x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S3x256 .f32) (harg8 : arg8.IsWhole) (arg9 : Memref sig .tc .vmem S1x256 .f32) (harg9 : arg9.IsWhole) (arg10 : Memref sig .tc .vmem S2056x256 .f32) (harg10 : arg10.IsWhole) (arg11 : Memref sig .tc .vmem S2056x256 .f32) (harg11 : arg11.IsWhole) (arg12 : Memref sig .tc .vmem S32x256 .f32) (harg12 : arg12.IsWhole) (x1 : Vec F S2048x256 .f32) (x2 : Vec F S2048x256 .f32) (x3 : Vec F S3x256 .f32) (x4 : Vec F S1x256 .f32) (x5 : Vec F S2048x256 .bf16) : BufTy.Contents (Elt F) arg11.view.ty :=
  arg11.view.writes (Elt F) arg11.view.junk ((mid c i arg1 harg1 arg2 harg2 arg3 harg3 arg4 harg4 arg5 harg5 arg6 harg6 arg7 harg7 arg8 harg8 arg9 harg9 arg10 harg10 arg11 harg11 arg12 harg12 x1 x2 x3 x4 x5).2.1 ++ [⟨Rect.unit ![2048, 0] S8x256.size inb_S2056x256_S8x256_2048_0, k0_pay16⟩])

/-- What the last loop writes: the gradient at the gate. -/
def fin (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S3x256 .f32) (harg3 : arg3.IsWhole) (arg4 : Memref sig .tc .vmem S1x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S3x256 .f32) (harg8 : arg8.IsWhole) (arg9 : Memref sig .tc .vmem S1x256 .f32) (harg9 : arg9.IsWhole) (arg10 : Memref sig .tc .vmem S2056x256 .f32) (harg10 : arg10.IsWhole) (arg11 : Memref sig .tc .vmem S2056x256 .f32) (harg11 : arg11.IsWhole) (arg12 : Memref sig .tc .vmem S32x256 .f32) (harg12 : arg12.IsWhole) (x1 : Vec F S2048x256 .f32) (x2 : Vec F S2048x256 .f32) (x3 : Vec F S3x256 .f32) (x4 : Vec F S1x256 .f32) (x5 : Vec F S2048x256 .bf16) : List (View.Piece (Elt F) S2048x256 .bf16) :=
  pb_k0_t3 (F := F) Variants.none c none i arg1 harg1 arg2 harg2 arg3 harg3 arg4 harg4 arg5 harg5 arg6 harg6 arg7 harg7 arg8 harg8 arg9 harg9 arg10 harg10 arg11 harg11 arg12 harg12 (harg3.unread x3) (S11 c i arg1 harg1 arg2 harg2 arg3 harg3 arg4 harg4 arg5 harg5 arg6 harg6 arg7 harg7 arg8 harg8 arg9 harg9 arg10 harg10 arg11 harg11 arg12 harg12 x1 x2 x3 x4 x5) (Scf.trips k0_t3_loop.lb k0_t3_loop.ub k0_t3_loop.st)

/-- Eight rows of the sums. -/
def part (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S3x256 .f32) (harg3 : arg3.IsWhole) (arg4 : Memref sig .tc .vmem S1x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S3x256 .f32) (harg8 : arg8.IsWhole) (arg9 : Memref sig .tc .vmem S1x256 .f32) (harg9 : arg9.IsWhole) (arg10 : Memref sig .tc .vmem S2056x256 .f32) (harg10 : arg10.IsWhole) (arg11 : Memref sig .tc .vmem S2056x256 .f32) (harg11 : arg11.IsWhole) (arg12 : Memref sig .tc .vmem S32x256 .f32) (harg12 : arg12.IsWhole) (x1 : Vec F S2048x256 .f32) (x2 : Vec F S2048x256 .f32) (x3 : Vec F S3x256 .f32) (x4 : Vec F S1x256 .f32) (x5 : Vec F S2048x256 .bf16) (B : LoadRect S32x256) : B.shape.Idx → Elt F .f32 :=
  arg12.view.readCov ((mid c i arg1 harg1 arg2 harg2 arg3 harg3 arg4 harg4 arg5 harg5 arg6 harg6 arg7 harg7 arg8 harg8 arg9 harg9 arg10 harg10 arg11 harg11 arg12 harg12 x1 x2 x3 x4 x5).2.2 ++ [⟨Rect.unit ![0, 0] S32x256.size inb_S32x256_S32x256_0_0, k0_pay17⟩]) B

/-- The three rows of the taps' gradient. -/
def taps (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S3x256 .f32) (harg3 : arg3.IsWhole) (arg4 : Memref sig .tc .vmem S1x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S3x256 .f32) (harg8 : arg8.IsWhole) (arg9 : Memref sig .tc .vmem S1x256 .f32) (harg9 : arg9.IsWhole) (arg10 : Memref sig .tc .vmem S2056x256 .f32) (harg10 : arg10.IsWhole) (arg11 : Memref sig .tc .vmem S2056x256 .f32) (harg11 : arg11.IsWhole) (arg12 : Memref sig .tc .vmem S32x256 .f32) (harg12 : arg12.IsWhole) (x1 : Vec F S2048x256 .f32) (x2 : Vec F S2048x256 .f32) (x3 : Vec F S3x256 .f32) (x4 : Vec F S1x256 .f32) (x5 : Vec F S2048x256 .bf16) : List (View.Piece (Elt F) S3x256 .f32) :=
  [⟨Rect.unit (s := S3x256) ![2, 0] S1x256.size inb_S3x256_S1x256_2_0, k0_pay1 (part c i arg1 harg1 arg2 harg2 arg3 harg3 arg4 harg4 arg5 harg5 arg6 harg6 arg7 harg7 arg8 harg8 arg9 harg9 arg10 harg10 arg11 harg11 arg12 harg12 x1 x2 x3 x4 x5 (Rect.unit (s := S32x256) ![16, 0] S8x256.size inb_S32x256_S8x256_16_0).toLoadRect)⟩,
   ⟨Rect.unit (s := S3x256) ![1, 0] S1x256.size inb_S3x256_S1x256_1_0, k0_pay22 (part c i arg1 harg1 arg2 harg2 arg3 harg3 arg4 harg4 arg5 harg5 arg6 harg6 arg7 harg7 arg8 harg8 arg9 harg9 arg10 harg10 arg11 harg11 arg12 harg12 x1 x2 x3 x4 x5 (Rect.unit (s := S32x256) ![8, 0] S8x256.size inb_S32x256_S8x256_8_0).toLoadRect)⟩,
   ⟨Rect.unit (s := S3x256) ![0, 0] S1x256.size inb_S3x256_S1x256_0_0, k0_pay21 (part c i arg1 harg1 arg2 harg2 arg3 harg3 arg4 harg4 arg5 harg5 arg6 harg6 arg7 harg7 arg8 harg8 arg9 harg9 arg10 harg10 arg11 harg11 arg12 harg12 x1 x2 x3 x4 x5 (Rect.unit (s := S32x256) ![0, 0] S8x256.size inb_S32x256_S8x256_0_0).toLoadRect)⟩]

/-- The bias's gradient. -/
def bias (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S3x256 .f32) (harg3 : arg3.IsWhole) (arg4 : Memref sig .tc .vmem S1x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S3x256 .f32) (harg8 : arg8.IsWhole) (arg9 : Memref sig .tc .vmem S1x256 .f32) (harg9 : arg9.IsWhole) (arg10 : Memref sig .tc .vmem S2056x256 .f32) (harg10 : arg10.IsWhole) (arg11 : Memref sig .tc .vmem S2056x256 .f32) (harg11 : arg11.IsWhole) (arg12 : Memref sig .tc .vmem S32x256 .f32) (harg12 : arg12.IsWhole) (x1 : Vec F S2048x256 .f32) (x2 : Vec F S2048x256 .f32) (x3 : Vec F S3x256 .f32) (x4 : Vec F S1x256 .f32) (x5 : Vec F S2048x256 .bf16) : List (View.Piece (Elt F) S1x256 .f32) :=
  [⟨Rect.unit (s := S1x256) ![0, 0] S1x256.size inb_S1x256_S1x256_0_0, k0_pay2 (part c i arg1 harg1 arg2 harg2 arg3 harg3 arg4 harg4 arg5 harg5 arg6 harg6 arg7 harg7 arg8 harg8 arg9 harg9 arg10 harg10 arg11 harg11 arg12 harg12 x1 x2 x3 x4 x5 (Rect.unit (s := S32x256) ![24, 0] S8x256.size inb_S32x256_S8x256_24_0).toLoadRect)⟩]

/-- The zeros and the gate's tiles fill the padded gate. -/
theorem cover10 (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S3x256 .f32) (harg3 : arg3.IsWhole) (arg4 : Memref sig .tc .vmem S1x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S3x256 .f32) (harg8 : arg8.IsWhole) (arg9 : Memref sig .tc .vmem S1x256 .f32) (harg9 : arg9.IsWhole) (arg10 : Memref sig .tc .vmem S2056x256 .f32) (harg10 : arg10.IsWhole) (arg11 : Memref sig .tc .vmem S2056x256 .f32) (harg11 : arg11.IsWhole) (arg12 : Memref sig .tc .vmem S32x256 .f32) (harg12 : arg12.IsWhole) (x1 : Vec F S2048x256 .f32) (x2 : Vec F S2048x256 .f32) (x3 : Vec F S3x256 .f32) (x4 : Vec F S1x256 .f32) (x5 : Vec F S2048x256 .bf16) : ∀ y, ∃ p ∈ pad c i arg1 harg1 arg2 harg2 arg3 harg3 arg4 harg4 arg5 harg5 arg6 harg6 arg7 harg7 arg8 harg8 arg9 harg9 arg10 harg10 arg11 harg11 arg12 harg12 x1 x2 x3 x4 x5, y ∈ p.1.set :=
  View.cover_of_tiledBy _ ![8, 256] (by sl_kernel_rfl)

theorem eq10 (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S3x256 .f32) (harg3 : arg3.IsWhole) (arg4 : Memref sig .tc .vmem S1x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S3x256 .f32) (harg8 : arg8.IsWhole) (arg9 : Memref sig .tc .vmem S1x256 .f32) (harg9 : arg9.IsWhole) (arg10 : Memref sig .tc .vmem S2056x256 .f32) (harg10 : arg10.IsWhole) (arg11 : Memref sig .tc .vmem S2056x256 .f32) (harg11 : arg11.IsWhole) (arg12 : Memref sig .tc .vmem S32x256 .f32) (harg12 : arg12.IsWhole) (x1 : Vec F S2048x256 .f32) (x2 : Vec F S2048x256 .f32) (x3 : Vec F S3x256 .f32) (x4 : Vec F S1x256 .f32) (x5 : Vec F S2048x256 .bf16) (f10 : BufTy.Contents (Elt F) arg10.view.ty) :
    arg10.view.writes (Elt F) f10 (pad c i arg1 harg1 arg2 harg2 arg3 harg3 arg4 harg4 arg5 harg5 arg6 harg6 arg7 harg7 arg8 harg8 arg9 harg9 arg10 harg10 arg11 harg11 arg12 harg12 x1 x2 x3 x4 x5) = S10 c i arg1 harg1 arg2 harg2 arg3 harg3 arg4 harg4 arg5 harg5 arg6 harg6 arg7 harg7 arg8 harg8 arg9 harg9 arg10 harg10 arg11 harg11 arg12 harg12 x1 x2 x3 x4 x5 :=
  (harg10.eq_unread rfl).trans ((congrArg harg10.unread (View.read_writes_of_cover _ _ _ _ _ (cover10 c i arg1 harg1 arg2 harg2 arg3 harg3 arg4 harg4 arg5 harg5 arg6 harg6 arg7 harg7 arg8 harg8 arg9 harg9 arg10 harg10 arg11 harg11 arg12 harg12 x1 x2 x3 x4 x5))).trans (harg10.eq_unread rfl).symm)

/-- The zeros and the gradient's tiles fill the padded gradient. -/
theorem cover11 (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S3x256 .f32) (harg3 : arg3.IsWhole) (arg4 : Memref sig .tc .vmem S1x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S3x256 .f32) (harg8 : arg8.IsWhole) (arg9 : Memref sig .tc .vmem S1x256 .f32) (harg9 : arg9.IsWhole) (arg10 : Memref sig .tc .vmem S2056x256 .f32) (harg10 : arg10.IsWhole) (arg11 : Memref sig .tc .vmem S2056x256 .f32) (harg11 : arg11.IsWhole) (arg12 : Memref sig .tc .vmem S32x256 .f32) (harg12 : arg12.IsWhole) (x1 : Vec F S2048x256 .f32) (x2 : Vec F S2048x256 .f32) (x3 : Vec F S3x256 .f32) (x4 : Vec F S1x256 .f32) (x5 : Vec F S2048x256 .bf16) : ∀ y, ∃ p ∈ (mid c i arg1 harg1 arg2 harg2 arg3 harg3 arg4 harg4 arg5 harg5 arg6 harg6 arg7 harg7 arg8 harg8 arg9 harg9 arg10 harg10 arg11 harg11 arg12 harg12 x1 x2 x3 x4 x5).2.1 ++ ([⟨Rect.unit ![2048, 0] S8x256.size inb_S2056x256_S8x256_2048_0, k0_pay16⟩] : List (View.Piece (Elt F) S2056x256 .f32)), y ∈ p.1.set :=
  View.cover_of_tiledBy _ ![8, 256] (by sl_kernel_rfl)

theorem eq11 (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S3x256 .f32) (harg3 : arg3.IsWhole) (arg4 : Memref sig .tc .vmem S1x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S3x256 .f32) (harg8 : arg8.IsWhole) (arg9 : Memref sig .tc .vmem S1x256 .f32) (harg9 : arg9.IsWhole) (arg10 : Memref sig .tc .vmem S2056x256 .f32) (harg10 : arg10.IsWhole) (arg11 : Memref sig .tc .vmem S2056x256 .f32) (harg11 : arg11.IsWhole) (arg12 : Memref sig .tc .vmem S32x256 .f32) (harg12 : arg12.IsWhole) (x1 : Vec F S2048x256 .f32) (x2 : Vec F S2048x256 .f32) (x3 : Vec F S3x256 .f32) (x4 : Vec F S1x256 .f32) (x5 : Vec F S2048x256 .bf16) (f11 : BufTy.Contents (Elt F) arg11.view.ty) :
    arg11.view.writes (Elt F) f11 ((mid c i arg1 harg1 arg2 harg2 arg3 harg3 arg4 harg4 arg5 harg5 arg6 harg6 arg7 harg7 arg8 harg8 arg9 harg9 arg10 harg10 arg11 harg11 arg12 harg12 x1 x2 x3 x4 x5).2.1 ++ [⟨Rect.unit ![2048, 0] S8x256.size inb_S2056x256_S8x256_2048_0, k0_pay16⟩]) = S11 c i arg1 harg1 arg2 harg2 arg3 harg3 arg4 harg4 arg5 harg5 arg6 harg6 arg7 harg7 arg8 harg8 arg9 harg9 arg10 harg10 arg11 harg11 arg12 harg12 x1 x2 x3 x4 x5 :=
  (harg11.eq_unread rfl).trans ((congrArg harg11.unread (View.read_writes_of_cover _ _ _ _ _ (cover11 c i arg1 harg1 arg2 harg2 arg3 harg3 arg4 harg4 arg5 harg5 arg6 harg6 arg7 harg7 arg8 harg8 arg9 harg9 arg10 harg10 arg11 harg11 arg12 harg12 x1 x2 x3 x4 x5))).trans (harg11.eq_unread rfl).symm)

/-- Tiles fill the gate's gradient. -/
theorem cover6 (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S3x256 .f32) (harg3 : arg3.IsWhole) (arg4 : Memref sig .tc .vmem S1x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S3x256 .f32) (harg8 : arg8.IsWhole) (arg9 : Memref sig .tc .vmem S1x256 .f32) (harg9 : arg9.IsWhole) (arg10 : Memref sig .tc .vmem S2056x256 .f32) (harg10 : arg10.IsWhole) (arg11 : Memref sig .tc .vmem S2056x256 .f32) (harg11 : arg11.IsWhole) (arg12 : Memref sig .tc .vmem S32x256 .f32) (harg12 : arg12.IsWhole) (x1 : Vec F S2048x256 .f32) (x2 : Vec F S2048x256 .f32) (x3 : Vec F S3x256 .f32) (x4 : Vec F S1x256 .f32) (x5 : Vec F S2048x256 .bf16) : ∀ y, ∃ p ∈ fin c i arg1 harg1 arg2 harg2 arg3 harg3 arg4 harg4 arg5 harg5 arg6 harg6 arg7 harg7 arg8 harg8 arg9 harg9 arg10 harg10 arg11 harg11 arg12 harg12 x1 x2 x3 x4 x5, y ∈ p.1.set :=
  View.cover_of_tiledL _ S256x256.size (by sl_kernel_rfl)

/-- Tiles fill the value's gradient. -/
theorem cover7 (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S3x256 .f32) (harg3 : arg3.IsWhole) (arg4 : Memref sig .tc .vmem S1x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S3x256 .f32) (harg8 : arg8.IsWhole) (arg9 : Memref sig .tc .vmem S1x256 .f32) (harg9 : arg9.IsWhole) (arg10 : Memref sig .tc .vmem S2056x256 .f32) (harg10 : arg10.IsWhole) (arg11 : Memref sig .tc .vmem S2056x256 .f32) (harg11 : arg11.IsWhole) (arg12 : Memref sig .tc .vmem S32x256 .f32) (harg12 : arg12.IsWhole) (x1 : Vec F S2048x256 .f32) (x2 : Vec F S2048x256 .f32) (x3 : Vec F S3x256 .f32) (x4 : Vec F S1x256 .f32) (x5 : Vec F S2048x256 .bf16) : ∀ y, ∃ p ∈ (mid c i arg1 harg1 arg2 harg2 arg3 harg3 arg4 harg4 arg5 harg5 arg6 harg6 arg7 harg7 arg8 harg8 arg9 harg9 arg10 harg10 arg11 harg11 arg12 harg12 x1 x2 x3 x4 x5).1, y ∈ p.1.set :=
  View.cover_of_tiledL _ S256x256.size (by sl_kernel_rfl)

/-- Three rows fill the taps' gradient. -/
theorem cover8 (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S3x256 .f32) (harg3 : arg3.IsWhole) (arg4 : Memref sig .tc .vmem S1x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S3x256 .f32) (harg8 : arg8.IsWhole) (arg9 : Memref sig .tc .vmem S1x256 .f32) (harg9 : arg9.IsWhole) (arg10 : Memref sig .tc .vmem S2056x256 .f32) (harg10 : arg10.IsWhole) (arg11 : Memref sig .tc .vmem S2056x256 .f32) (harg11 : arg11.IsWhole) (arg12 : Memref sig .tc .vmem S32x256 .f32) (harg12 : arg12.IsWhole) (x1 : Vec F S2048x256 .f32) (x2 : Vec F S2048x256 .f32) (x3 : Vec F S3x256 .f32) (x4 : Vec F S1x256 .f32) (x5 : Vec F S2048x256 .bf16) : ∀ y, ∃ p ∈ taps c i arg1 harg1 arg2 harg2 arg3 harg3 arg4 harg4 arg5 harg5 arg6 harg6 arg7 harg7 arg8 harg8 arg9 harg9 arg10 harg10 arg11 harg11 arg12 harg12 x1 x2 x3 x4 x5, y ∈ p.1.set :=
  View.cover_of_tiledL _ S1x256.size (by sl_kernel_rfl)

/-- One row fills the bias's gradient. -/
theorem cover9 (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S3x256 .f32) (harg3 : arg3.IsWhole) (arg4 : Memref sig .tc .vmem S1x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S3x256 .f32) (harg8 : arg8.IsWhole) (arg9 : Memref sig .tc .vmem S1x256 .f32) (harg9 : arg9.IsWhole) (arg10 : Memref sig .tc .vmem S2056x256 .f32) (harg10 : arg10.IsWhole) (arg11 : Memref sig .tc .vmem S2056x256 .f32) (harg11 : arg11.IsWhole) (arg12 : Memref sig .tc .vmem S32x256 .f32) (harg12 : arg12.IsWhole) (x1 : Vec F S2048x256 .f32) (x2 : Vec F S2048x256 .f32) (x3 : Vec F S3x256 .f32) (x4 : Vec F S1x256 .f32) (x5 : Vec F S2048x256 .bf16) : ∀ y, ∃ p ∈ bias c i arg1 harg1 arg2 harg2 arg3 harg3 arg4 harg4 arg5 harg5 arg6 harg6 arg7 harg7 arg8 harg8 arg9 harg9 arg10 harg10 arg11 harg11 arg12 harg12 x1 x2 x3 x4 x5, y ∈ p.1.set :=
  View.cover_of_tiledL _ S1x256.size (by sl_kernel_rfl)

theorem mid_eq (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S3x256 .f32) (harg3 : arg3.IsWhole) (arg4 : Memref sig .tc .vmem S1x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S3x256 .f32) (harg8 : arg8.IsWhole) (arg9 : Memref sig .tc .vmem S1x256 .f32) (harg9 : arg9.IsWhole) (arg10 : Memref sig .tc .vmem S2056x256 .f32) (harg10 : arg10.IsWhole) (arg11 : Memref sig .tc .vmem S2056x256 .f32) (harg11 : arg11.IsWhole) (arg12 : Memref sig .tc .vmem S32x256 .f32) (harg12 : arg12.IsWhole) (x1 : Vec F S2048x256 .f32) (x2 : Vec F S2048x256 .f32) (x3 : Vec F S3x256 .f32) (x4 : Vec F S1x256 .f32) (x5 : Vec F S2048x256 .bf16) (f7 : BufTy.Contents (Elt F) arg7.view.ty) (f10 : BufTy.Contents (Elt F) arg10.view.ty) (f11 : BufTy.Contents (Elt F) arg11.view.ty) (f12 : BufTy.Contents (Elt F) arg12.view.ty) (k : ℕ) (hk : k = Scf.trips k0_t2_loop.lb k0_t2_loop.ub k0_t2_loop.st) :
    pb_k0_t2 (F := F) Variants.none c none i arg1 harg1 arg2 harg2 arg3 harg3 arg4 harg4 arg5 harg5 arg6 harg6 arg7 harg7 arg8 harg8 arg9 harg9 arg10 harg10 arg11 harg11 arg12 harg12 (harg2.unread x2) (harg3.unread x3) (harg4.unread x4) (harg5.unread x5) (arg10.view.writes (Elt F) f10 (pad c i arg1 harg1 arg2 harg2 arg3 harg3 arg4 harg4 arg5 harg5 arg6 harg6 arg7 harg7 arg8 harg8 arg9 harg9 arg10 harg10 arg11 harg11 arg12 harg12 x1 x2 x3 x4 x5)) f7 f11
      (arg12.view.writes (Elt F) arg12.view.junk [⟨Rect.unit ![0, 0] S32x256.size inb_S32x256_S32x256_0_0, k0_pay17⟩]) k = mid c i arg1 harg1 arg2 harg2 arg3 harg3 arg4 harg4 arg5 harg5 arg6 harg6 arg7 harg7 arg8 harg8 arg9 harg9 arg10 harg10 arg11 harg11 arg12 harg12 x1 x2 x3 x4 x5 := by
  subst hk; rw [eq10]; exact loop_same ..

theorem run6 (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S3x256 .f32) (harg3 : arg3.IsWhole) (arg4 : Memref sig .tc .vmem S1x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S3x256 .f32) (harg8 : arg8.IsWhole) (arg9 : Memref sig .tc .vmem S1x256 .f32) (harg9 : arg9.IsWhole) (arg10 : Memref sig .tc .vmem S2056x256 .f32) (harg10 : arg10.IsWhole) (arg11 : Memref sig .tc .vmem S2056x256 .f32) (harg11 : arg11.IsWhole) (arg12 : Memref sig .tc .vmem S32x256 .f32) (harg12 : arg12.IsWhole) (x1 : Vec F S2048x256 .f32) (x2 : Vec F S2048x256 .f32) (x3 : Vec F S3x256 .f32) (x4 : Vec F S1x256 .f32) (x5 : Vec F S2048x256 .bf16) (f7 : BufTy.Contents (Elt F) arg7.view.ty) (f10 : BufTy.Contents (Elt F) arg10.view.ty) (f11 : BufTy.Contents (Elt F) arg11.view.ty) (f12 : BufTy.Contents (Elt F) arg12.view.ty) : (runF c i arg1 harg1 arg2 harg2 arg3 harg3 arg4 harg4 arg5 harg5 arg6 harg6 arg7 harg7 arg8 harg8 arg9 harg9 arg10 harg10 arg11 harg11 arg12 harg12 x1 x2 x3 x4 x5 f7 f10 f11 f12).1 = fin c i arg1 harg1 arg2 harg2 arg3 harg3 arg4 harg4 arg5 harg5 arg6 harg6 arg7 harg7 arg8 harg8 arg9 harg9 arg10 harg10 arg11 harg11 arg12 harg12 x1 x2 x3 x4 x5 := by
  unfold runF; dsimp only
  sl_unfold_words
  have h := mid_eq c i arg1 harg1 arg2 harg2 arg3 harg3 arg4 harg4 arg5 harg5 arg6 harg6 arg7 harg7 arg8 harg8 arg9 harg9 arg10 harg10 arg11 harg11 arg12 harg12 x1 x2 x3 x4 x5 f7 f10 (arg11.view.writes (Elt F) f11 [⟨Rect.unit ![2048, 0] S8x256.size inb_S2056x256_S8x256_2048_0, k0_pay16⟩]) f12 _ rfl
  unfold pad at h
  rw [h, eq11]; rfl

theorem run7 (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S3x256 .f32) (harg3 : arg3.IsWhole) (arg4 : Memref sig .tc .vmem S1x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S3x256 .f32) (harg8 : arg8.IsWhole) (arg9 : Memref sig .tc .vmem S1x256 .f32) (harg9 : arg9.IsWhole) (arg10 : Memref sig .tc .vmem S2056x256 .f32) (harg10 : arg10.IsWhole) (arg11 : Memref sig .tc .vmem S2056x256 .f32) (harg11 : arg11.IsWhole) (arg12 : Memref sig .tc .vmem S32x256 .f32) (harg12 : arg12.IsWhole) (x1 : Vec F S2048x256 .f32) (x2 : Vec F S2048x256 .f32) (x3 : Vec F S3x256 .f32) (x4 : Vec F S1x256 .f32) (x5 : Vec F S2048x256 .bf16) (f7 : BufTy.Contents (Elt F) arg7.view.ty) (f10 : BufTy.Contents (Elt F) arg10.view.ty) (f11 : BufTy.Contents (Elt F) arg11.view.ty) (f12 : BufTy.Contents (Elt F) arg12.view.ty) : (runF c i arg1 harg1 arg2 harg2 arg3 harg3 arg4 harg4 arg5 harg5 arg6 harg6 arg7 harg7 arg8 harg8 arg9 harg9 arg10 harg10 arg11 harg11 arg12 harg12 x1 x2 x3 x4 x5 f7 f10 f11 f12).2.1 = (mid c i arg1 harg1 arg2 harg2 arg3 harg3 arg4 harg4 arg5 harg5 arg6 harg6 arg7 harg7 arg8 harg8 arg9 harg9 arg10 harg10 arg11 harg11 arg12 harg12 x1 x2 x3 x4 x5).1 := by
  unfold runF; dsimp only
  sl_unfold_words
  have h := mid_eq c i arg1 harg1 arg2 harg2 arg3 harg3 arg4 harg4 arg5 harg5 arg6 harg6 arg7 harg7 arg8 harg8 arg9 harg9 arg10 harg10 arg11 harg11 arg12 harg12 x1 x2 x3 x4 x5 f7 f10 (arg11.view.writes (Elt F) f11 [⟨Rect.unit ![2048, 0] S8x256.size inb_S2056x256_S8x256_2048_0, k0_pay16⟩]) f12 _ rfl
  unfold pad at h
  rw [h]

theorem run8 (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S3x256 .f32) (harg3 : arg3.IsWhole) (arg4 : Memref sig .tc .vmem S1x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S3x256 .f32) (harg8 : arg8.IsWhole) (arg9 : Memref sig .tc .vmem S1x256 .f32) (harg9 : arg9.IsWhole) (arg10 : Memref sig .tc .vmem S2056x256 .f32) (harg10 : arg10.IsWhole) (arg11 : Memref sig .tc .vmem S2056x256 .f32) (harg11 : arg11.IsWhole) (arg12 : Memref sig .tc .vmem S32x256 .f32) (harg12 : arg12.IsWhole) (x1 : Vec F S2048x256 .f32) (x2 : Vec F S2048x256 .f32) (x3 : Vec F S3x256 .f32) (x4 : Vec F S1x256 .f32) (x5 : Vec F S2048x256 .bf16) (f7 : BufTy.Contents (Elt F) arg7.view.ty) (f10 : BufTy.Contents (Elt F) arg10.view.ty) (f11 : BufTy.Contents (Elt F) arg11.view.ty) (f12 : BufTy.Contents (Elt F) arg12.view.ty) : (runF c i arg1 harg1 arg2 harg2 arg3 harg3 arg4 harg4 arg5 harg5 arg6 harg6 arg7 harg7 arg8 harg8 arg9 harg9 arg10 harg10 arg11 harg11 arg12 harg12 x1 x2 x3 x4 x5 f7 f10 f11 f12).2.2.1 = taps c i arg1 harg1 arg2 harg2 arg3 harg3 arg4 harg4 arg5 harg5 arg6 harg6 arg7 harg7 arg8 harg8 arg9 harg9 arg10 harg10 arg11 harg11 arg12 harg12 x1 x2 x3 x4 x5 := by
  unfold runF; dsimp only
  sl_unfold_words
  have h := mid_eq c i arg1 harg1 arg2 harg2 arg3 harg3 arg4 harg4 arg5 harg5 arg6 harg6 arg7 harg7 arg8 harg8 arg9 harg9 arg10 harg10 arg11 harg11 arg12 harg12 x1 x2 x3 x4 x5 f7 f10 (arg11.view.writes (Elt F) f11 [⟨Rect.unit ![2048, 0] S8x256.size inb_S2056x256_S8x256_2048_0, k0_pay16⟩]) f12 _ rfl
  unfold pad at h
  rw [h]; rfl

theorem run9 (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S3x256 .f32) (harg3 : arg3.IsWhole) (arg4 : Memref sig .tc .vmem S1x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S3x256 .f32) (harg8 : arg8.IsWhole) (arg9 : Memref sig .tc .vmem S1x256 .f32) (harg9 : arg9.IsWhole) (arg10 : Memref sig .tc .vmem S2056x256 .f32) (harg10 : arg10.IsWhole) (arg11 : Memref sig .tc .vmem S2056x256 .f32) (harg11 : arg11.IsWhole) (arg12 : Memref sig .tc .vmem S32x256 .f32) (harg12 : arg12.IsWhole) (x1 : Vec F S2048x256 .f32) (x2 : Vec F S2048x256 .f32) (x3 : Vec F S3x256 .f32) (x4 : Vec F S1x256 .f32) (x5 : Vec F S2048x256 .bf16) (f7 : BufTy.Contents (Elt F) arg7.view.ty) (f10 : BufTy.Contents (Elt F) arg10.view.ty) (f11 : BufTy.Contents (Elt F) arg11.view.ty) (f12 : BufTy.Contents (Elt F) arg12.view.ty) : (runF c i arg1 harg1 arg2 harg2 arg3 harg3 arg4 harg4 arg5 harg5 arg6 harg6 arg7 harg7 arg8 harg8 arg9 harg9 arg10 harg10 arg11 harg11 arg12 harg12 x1 x2 x3 x4 x5 f7 f10 f11 f12).2.2.2.1 = bias c i arg1 harg1 arg2 harg2 arg3 harg3 arg4 harg4 arg5 harg5 arg6 harg6 arg7 harg7 arg8 harg8 arg9 harg9 arg10 harg10 arg11 harg11 arg12 harg12 x1 x2 x3 x4 x5 := by
  unfold runF; dsimp only
  sl_unfold_words
  have h := mid_eq c i arg1 harg1 arg2 harg2 arg3 harg3 arg4 harg4 arg5 harg5 arg6 harg6 arg7 harg7 arg8 harg8 arg9 harg9 arg10 harg10 arg11 harg11 arg12 harg12 x1 x2 x3 x4 x5 f7 f10 (arg11.view.writes (Elt F) f11 [⟨Rect.unit ![2048, 0] S8x256.size inb_S2056x256_S8x256_2048_0, k0_pay16⟩]) f12 _ rfl
  unfold pad at h
  rw [h]; rfl

end Cert.FfnActIdeal.Out

end
-- ==== Proof.FfnFrm.lean ====
module

public import proofs.«01_k».proof.Proof.Gen.FfnActIdeal.Loops
public import proofs.«01_k».proof.Proof.FfnOut
public import Idealize.ShloMosaic.Lib.Claim
public import Idealize.ShloMosaic.Lib.WordCmp

@[expose] public section

set_option maxRecDepth 16384

noncomputable section

namespace Cert.FfnActIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfnActIdeal.Gen

open Cert.FfnActIdeal.Run
open Cert.FfnActIdeal.Out
open Idealize.ShloMosaic.Pipeline (Dat Cfg Window BodyObligation cellOf)

variable {F : FTy → Type} [FloatOps F]

local notation "𝕄G" => MT nD τ sig Unit (Elt F) ℕ (UR sig nD τ) ℕ

variable (m : (ℓ : Loc nD τ sig) → Buf (Elt F) ℓ) (ρ : Dev nD → PrngReg)

/-- One staging buffer of the gate's gradient, through which its contents are stated. -/
abbrev VO5 : View sig .tc .vmem S2048x256 .bf16 := (Memref.whole cc0_stg5_0 : Memref sig .tc .vmem S2048x256 .bf16).view
/-- One staging buffer of the value's gradient, through which its contents are stated. -/
abbrev VO6 : View sig .tc .vmem S2048x256 .bf16 := (Memref.whole cc0_stg6_0 : Memref sig .tc .vmem S2048x256 .bf16).view
/-- One staging buffer of the taps's gradient, through which its contents are stated. -/
abbrev VO7 : View sig .tc .vmem S3x256 .f32 := (Memref.whole cc0_stg7_0 : Memref sig .tc .vmem S3x256 .f32).view
/-- One staging buffer of the bias's gradient, through which its contents are stated. -/
abbrev VO8 : View sig .tc .vmem S1x256 .f32 := (Memref.whole cc0_stg8_0 : Memref sig .tc .vmem S1x256 .f32).view
abbrev ms0 (t : Fin cfg0.N) : Memref sig .tc .vmem S2048x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S3x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x256 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S2048x256 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S2048x256 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S3x256 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x256 .f32 := win0_8.stage (cfg0.slots t 8)
abbrev hs8 (t : Fin cfg0.N) : (ms8 t).IsWhole := hstage0_8 ((cfg0.slots t 8).cast nbuf0_8)

/-- What point `t` leaves in the gate's gradient. -/
def out5 (c : Dev nD) (t : Fin cfg0.N) : Vec F S2048x256 .bf16 :=
  VO5.read (Elt F) (VO5.writes (Elt F) VO5.junk (fin (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t)))

/-- What point `t` leaves in the value's gradient. -/
def out6 (c : Dev nD) (t : Fin cfg0.N) : Vec F S2048x256 .bf16 :=
  VO6.read (Elt F) (VO6.writes (Elt F) VO6.junk ((mid (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t)).1))

/-- What point `t` leaves in the taps's gradient. -/
def out7 (c : Dev nD) (t : Fin cfg0.N) : Vec F S3x256 .f32 :=
  VO7.read (Elt F) (VO7.writes (Elt F) VO7.junk (taps (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t)))

/-- What point `t` leaves in the bias's gradient. -/
def out8 (c : Dev nD) (t : Fin cfg0.N) : Vec F S1x256 .f32 :=
  VO8.read (Elt F) (VO8.writes (Elt F) VO8.junk (bias (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t)))

/-- What each staging buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 m c t
    | ⟨6, _⟩ => out6 m c t
    | ⟨7, _⟩ => out7 m c t
    | ⟨8, _⟩ => out8 m c t
    | ⟨n + 9, h⟩ => absurd (show n + 9 < 9 from h) (by omega)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = out5 m c t := by dsimp only [dats]
theorem after6 (c : Dev nD) (t : Fin cfg0.N) : (dats m 0 c).after 6 t = out6 m c t := by dsimp only [dats]
theorem after7 (c : Dev nD) (t : Fin cfg0.N) : (dats m 0 c).after 7 t = out7 m c t := by dsimp only [dats]
theorem after8 (c : Dev nD) (t : Fin cfg0.N) : (dats m 0 c).after 8 t = out8 m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- What the body is called with at point `t`. -/
def bodyPre (c : Dev nD) (t : Fin cfg0.N) : sProp 𝕄G :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- What it returns. -/
def bodyPost (c : Dev nD) (t : Fin cfg0.N) : sProp 𝕄G :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t))

/-- A scratch buffer held whole, in its two spellings. -/
theorem whole_pt (c : Dev nD) (b : Ref sig .tc) (f : Buf (Elt F) ((c : Thread nD τ).loc b)) :
    (iprop((Memref.whole b).view.loc (c : Thread nD τ) ↦[(Memref.whole b).view.set]{fullShare} f) : sProp 𝕄G)
      = iprop(((c : Thread nD τ).loc b) ↦{fullShare} f) := by
  rw [show (Memref.whole b).view.set = Finset.univ from View.set_whole b]

/-- A buffer held at what it reads is held at some contents. -/
theorem held (c : Dev nD) (a : Memref sig .tc .vmem S2048x256 .bf16) (d : Vec F S2048x256 .bf16) :
    (owns (c : Thread nD τ) a fullShare d : sProp 𝕄G) ⊢ iprop(∃ f, (a.view.loc (c : Thread nD τ) ↦[a.view.set]{fullShare} f)) := by
  unfold owns
  iintro ⟨%f, -, H⟩
  iexists f; iexact H

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0, after1, after2, after3, after4, after5, after6, after7, after8]
  unfold Pipeline.ΦA; rw [scopedRest0_eq]
  iintro ⟨⟨⟨⟨%f10, H10⟩, ⟨%f11, H11⟩, ⟨%f12, H12⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave H10 := (Entails.of_eq (whole_pt c cc0_scratch0 f10).symm) $$ H10
  ihave H11 := (Entails.of_eq (whole_pt c cc0_scratch1 f11).symm) $$ H11
  ihave H12 := (Entails.of_eq (whole_pt c cc0_scratch2 f12).symm) $$ H12
  ihave H6 := (held c (ms6 t) _) $$ H6
  icases H6 with ⟨%f7, H6⟩
  iapply ((runF (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) f7 f10 f11 f12).2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexists _; iexact H7
  isplitl [H8]; · iexists _; iexact H8
  isplitl [H10]; · iexact H10
  isplitl [H11]; · iexact H11
  isplitl [H12]; · iexact H12
  iintro ⟨H0, H1, H2, H3, H4, ⟨%e5, H5⟩, ⟨%e6, H6⟩, ⟨%e7, H7⟩, ⟨%e8, H8⟩, ⟨%e10, H10⟩, ⟨%e11, H11⟩, ⟨%e12, H12⟩⟩
  isplitl [H10 H11 H12 Hr]
  · isplitl [H10 H11 H12]
    · isplitl [H10]; · iexists _; iapply (Entails.of_eq (whole_pt c cc0_scratch0 e10)); iexact H10
      isplitl [H11]; · iexists _; iapply (Entails.of_eq (whole_pt c cc0_scratch1 e11)); iexact H11
      iexists _; iapply (Entails.of_eq (whole_pt c cc0_scratch2 e12)); iexact H12
    iexact Hr
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; unfold out5; rw [run6]; exact View.read_writes_of_cover _ _ _ _ _ (cover6 _ _ _ _ _ _ _ _ _ _ _ _ _ _ _ _ _ _ _ _ _ _ _ _ _ _ _ _ _ _ _)
  isplitl [H6]
  · unfold owns; iexists _; isplitr
    swap; · iexact H6
    ipureintro; unfold out6; rw [run7]; exact View.read_writes_of_cover _ _ _ _ _ (cover7 _ _ _ _ _ _ _ _ _ _ _ _ _ _ _ _ _ _ _ _ _ _ _ _ _ _ _ _ _ _ _)
  isplitl [H7]
  · unfold owns; iexists _; isplitr
    swap; · iexact H7
    ipureintro; unfold out7; rw [run8]; exact View.read_writes_of_cover _ _ _ _ _ (cover8 _ _ _ _ _ _ _ _ _ _ _ _ _ _ _ _ _ _ _ _ _ _ _ _ _ _ _ _ _ _ _)
  unfold owns; iexists _; isplitr
  swap; · iexact H8
  ipureintro; unfold out8; rw [run9]; exact View.read_writes_of_cover _ _ _ _ _ (cover9 _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The program runs to its end, with every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The program ends with its arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.FfnActIdeal.Frm

end
-- ==== Proof.FfnTop.lean ====
/- The frames of the feed-forward gate's gradient. -/
module

public import proofs.«01_k».proof.Defs
public import proofs.«01_k».proof.Proof.Gen.FfnAct
public import proofs.«01_k».proof.Proof.Gen.FfnActRefIdeal
public import proofs.«01_k».proof.Proof.Gen.FfnActRefIdeal.Run
public import proofs.«01_k».proof.Proof.FfnFrm

@[expose] public section

set_option maxRecDepth 65536

noncomputable section

namespace Cert.FfnTop

open Idealize.ShloMosaic Idealize.ShloMosaic.TcCoe Idealize.SL.Sem

/-- The two programs' texts are the same. -/
theorem frame_bits (m : (ℓ : Loc Cert.FfnAct.nD Cert.FfnAct.τ Cert.FfnAct.sig) → Buf (Elt Bits) ℓ) (g : Dev Cert.FfnAct.nD → PrngReg) :
    θ_run (Cert.FfnAct.defs (F := Bits)) (onTc (τ := Cert.FfnAct.τ) (Cert.FfnAct.main (F := Bits))) ⟨m, fun _ => 0, g⟩ (fun r => (∀ c : Dev Cert.FfnAct.nD,
      r.2.mem ((c.tc : Thread Cert.FfnAct.nD Cert.FfnAct.τ).loc Cert.FfnAct.main_arg0) = m ((c.tc : Thread Cert.FfnAct.nD Cert.FfnAct.τ).loc Cert.FfnAct.main_arg0)
      ∧ r.2.mem ((c.tc : Thread Cert.FfnAct.nD Cert.FfnAct.τ).loc Cert.FfnAct.main_arg1) = m ((c.tc : Thread Cert.FfnAct.nD Cert.FfnAct.τ).loc Cert.FfnAct.main_arg1)
      ∧ r.2.mem ((c.tc : Thread Cert.FfnAct.nD Cert.FfnAct.τ).loc Cert.FfnAct.main_arg2) = m ((c.tc : Thread Cert.FfnAct.nD Cert.FfnAct.τ).loc Cert.FfnAct.main_arg2)
      ∧ r.2.mem ((c.tc : Thread Cert.FfnAct.nD Cert.FfnAct.τ).loc Cert.FfnAct.main_arg3) = m ((c.tc : Thread Cert.FfnAct.nD Cert.FfnAct.τ).loc Cert.FfnAct.main_arg3))
      ∧ r.2.sem = fun _ => 0) :=
  Eq.mp (by sl_kernel_rfl) (Cert.FfnActIdeal.Frm.frame (F := Bits) m g)

/-- The reference ends with its arguments unchanged; it declares no semaphore. -/
theorem frame_ref : Cert.quiescent_FfnActRefIdeal := fun m ρ _ =>
  (θ_run Cert.FfnActRefIdeal.defs _ _).mono (fun r h => And.intro (fun c => (h c).2.2.2.2) (Idealize.ShloMosaic.sem_eq_zero_of_no_sems (by decide) r.2))
    (Cert.FfnActRefIdeal.Value.run (F := Ideal) m ρ)

/-- The kernel, its ideal reading and the reference end with their arguments unchanged. -/
theorem frames : Cert.quiescent_FfnAct ∧ Cert.quiescent_FfnActIdeal ∧ Cert.quiescent_FfnActRefIdeal :=
  ⟨fun m ρ _ => frame_bits m ρ, fun m ρ _ => Cert.FfnActIdeal.Frm.frame m ρ, frame_ref⟩

end Cert.FfnTop

end
-- ==== Proof.Rows.lean ====
/- Whole rows of a two-dimensional buffer, loaded and stored, at an entry. -/
module

public import Idealize.ShloMosaic.Lib.WritesUnit
public import Idealize.ShloMosaic.Lib.Pointwise
public import Idealize.ShloMosaic.PureOps.Ideal

@[expose] public section

noncomputable section

namespace Cert.Rows

open Idealize.ShloMosaic

variable {sig : RefSig} {κ : Kind} {sp : Space} {e : EltTy} {R C n : ℕ} (v : View sig κ sp (⟨2, ![R, C]⟩ : Shape) e)
  (f : v.ty.Contents (Elt Ideal)) {o : Fin 2 → ℕ} {r : ℕ} (ho : o = ![r, 0])
  (hb : ∀ a : Fin 2, o a + (![n, C] : Fin 2 → ℕ) a ≤ (![R, C] : Fin 2 → ℕ) a)
include ho

/-- Rows loaded from row `r` on. -/
theorem rows_at (i : Fin n) (c : Fin C) (s : Fin R) (hs : s.val = r + i.val) :
    v.readAt (Elt Ideal) (Rect.unit (s := ⟨2, ![R, C]⟩) o ![n, C] hb).toLoadRect f (ix2 i c) = v.read (Elt Ideal) f (ix2 s c) := by
  subst ho
  refine congrArg (v.read (Elt Ideal) f) ?_
  funext a
  apply Fin.ext
  match a with
  | 0 => exact (congrArg (r + ·) (Nat.one_mul _)).trans hs.symm
  | 1 => exact (Nat.zero_add _).trans (Nat.one_mul _)

variable (y : (Rect.unit (s := ⟨2, ![R, C]⟩) o ![n, C] hb).shape.Idx → Elt Ideal e) (L : List (View.Piece (Elt Ideal) (⟨2, ![R, C]⟩ : Shape) e))

/-- Rows stored from row `r` on, at one of them. -/
theorem rows_in (s : Fin R) (c : Fin C) (i : Fin n) (hs : s.val = r + i.val) :
    v.read (Elt Ideal) (v.writes (Elt Ideal) f (⟨Rect.unit (s := ⟨2, ![R, C]⟩) o ![n, C] hb, y⟩ :: L)) (ix2 s c) = y (ix2 i c) :=
  View.read_writes_cons_rows_of_mem v f hb y L (ix2 s c) (ix2 i c) ho hs rfl

/-- Rows stored from row `r` on, at another row. -/
theorem rows_out (s : Fin R) (c : Fin C) (hs : s.val < r ∨ r + n ≤ s.val) :
    v.read (Elt Ideal) (v.writes (Elt Ideal) f (⟨Rect.unit (s := ⟨2, ![R, C]⟩) o ![n, C] hb, y⟩ :: L)) (ix2 s c)
      = v.read (Elt Ideal) (v.writes (Elt Ideal) f L) (ix2 s c) :=
  View.read_writes_cons_rows_of_not_mem v f hb y L (ix2 s c) ho rfl hs

omit ho in
/-- Groups of rows stored one after another, at a row of one of them. -/
theorem rows_map {m : ℕ} (r : Fin m → ℕ) (hb : ∀ k, ∀ a : Fin 2, (![r k, 0] : Fin 2 → ℕ) a + (![n, C] : Fin 2 → ℕ) a ≤ (![R, C] : Fin 2 → ℕ) a)
    (y : ∀ k, (Rect.unit (s := ⟨2, ![R, C]⟩) ![r k, 0] ![n, C] (hb k)).shape.Idx → Elt Ideal e) (j : Fin m) (s : Fin R) (c : Fin C) (i : Fin n) (hs : s.val = r j + i.val)
    (hj : ∀ k, k ≠ j → s.val < r k ∨ r k + n ≤ s.val) (K : List (Fin m)) (hK : j ∈ K) :
    v.read (Elt Ideal) (v.writes (Elt Ideal) f (K.map (fun k => (⟨Rect.unit (s := ⟨2, ![R, C]⟩) ![r k, 0] ![n, C] (hb k), y k⟩ : View.Piece (Elt Ideal) (⟨2, ![R, C]⟩ : Shape) e)) ++ L)) (ix2 s c)
      = y j (ix2 i c) := by
  induction K with
  | nil => exact absurd hK List.not_mem_nil
  | cons k K ih =>
    rw [List.map_cons, List.cons_append]
    by_cases h : k = j
    · subst h; exact rows_in v f rfl _ _ _ s c i hs
    · exact (rows_out v f rfl _ _ _ s c (hj k h)).trans (ih ((List.mem_cons.1 hK).resolve_left fun e => h e.symm))

end Cert.Rows

end
-- ==== Proof.FfnVal.lean ====
/- What the three loops of the gate's backward leave, entry by entry. -/
module

public import proofs.«01_k».proof.Proof.FfnOut
public import proofs.«01_k».proof.Proof.Rows
public import Idealize.ShloMosaic.Lib.Pipeline.ValueKit.Acc

@[expose] public section

set_option maxRecDepth 16384

noncomputable section

namespace Cert.FfnActIdeal.Val

open Idealize.ShloMosaic Idealize.ShloMosaic.TcCoe Idealize.ShloMosaic.Tactic
open Cert.FfnActIdeal.Gen Cert.FfnActIdeal.Out Cert.Rows

variable (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S3x256 .f32) (harg3 : arg3.IsWhole) (arg4 : Memref sig .tc .vmem S1x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S3x256 .f32) (harg8 : arg8.IsWhole) (arg9 : Memref sig .tc .vmem S1x256 .f32) (harg9 : arg9.IsWhole) (arg10 : Memref sig .tc .vmem S2056x256 .f32) (harg10 : arg10.IsWhole) (arg11 : Memref sig .tc .vmem S2056x256 .f32) (harg11 : arg11.IsWhole) (arg12 : Memref sig .tc .vmem S32x256 .f32) (harg12 : arg12.IsWhole)
  (x1 x2 : Vec Ideal S2048x256 .f32) (x3 : Vec Ideal S3x256 .f32) (x4 : Vec Ideal S1x256 .f32) (x5 : Vec Ideal S2048x256 .bf16)

section
variable {n : ℕ} (x1 x2 : Vec Ideal (⟨2, ![2048, n]⟩ : Shape) .f32) (x3 : Vec Ideal (⟨2, ![3, n]⟩ : Shape) .f32) (x4 : Vec Ideal (⟨2, ![1, n]⟩ : Shape) .f32) (x5 : Vec Ideal (⟨2, ![2048, n]⟩ : Shape) .bf16)

/-- The padded gate. -/
def P (s : ℕ) (q : Fin n) : EReal := if h : 8 ≤ s ∧ s < 2056 then x1 (ix2 (⟨s - 8, by omega⟩ : Fin 2048) q) else 0
/-- The logistic function. -/
def sg (x : EReal) : EReal := Ideal.div 1 (1 + Ideal.exp (0 - x))
/-- The convolution's result. -/
def Z (s : ℕ) (q : Fin n) : EReal :=
  x4 (ix2 0 q) + x3 (ix2 0 q) * P x1 (s + 6) q + x3 (ix2 1 q) * P x1 (s + 7) q + x3 (ix2 2 q) * P x1 (s + 8) q
/-- The gradient at the convolution's result, zero past the rows. -/
def D (s : ℕ) (q : Fin n) : EReal :=
  if h : s < 2048 then
    x5 (ix2 (⟨s, h⟩ : Fin 2048) q) * x2 (ix2 (⟨s, h⟩ : Fin 2048) q)
      * (sg (Z x1 x3 x4 s q) * (1 + Z x1 x3 x4 s q * (1 - sg (Z x1 x3 x4 s q)))) else 0
/-- What is summed over the rows: the three taps' terms, then the bias's. -/
def T (j s : ℕ) (q : Fin n) : EReal :=
  if j < 3 then D x1 x2 x3 x4 x5 s q * P x1 (s + 6 + j) q else D x1 x2 x3 x4 x5 s q

variable {x1 x2 x3 x4 x5} {n' : ℕ} {y1 y2 : Vec Ideal (⟨2, ![2048, n']⟩ : Shape) .f32} {y3 : Vec Ideal (⟨2, ![3, n']⟩ : Shape) .f32} {y4 : Vec Ideal (⟨2, ![1, n']⟩ : Shape) .f32} {y5 : Vec Ideal (⟨2, ![2048, n']⟩ : Shape) .bf16}
  {q : Fin n} {q' : Fin n'} (h1 : ∀ s, x1 (ix2 s q) = y1 (ix2 s q')) (h2 : ∀ s, x2 (ix2 s q) = y2 (ix2 s q')) (h3 : ∀ j, x3 (ix2 j q) = y3 (ix2 j q'))
  (h4 : x4 (ix2 0 q) = y4 (ix2 0 q')) (h5 : ∀ s, x5 (ix2 s q) = y5 (ix2 s q'))
include h1
/-- Each reads one column. -/
theorem P_col (s : ℕ) : P x1 s q = P y1 s q' := by simp only [P, h1]
include h3 h4
theorem Z_col (s : ℕ) : Z x1 x3 x4 s q = Z y1 y3 y4 s q' := by simp only [Z, P_col h1, h3, h4]
include h2 h5
theorem D_col (s : ℕ) : D x1 x2 x3 x4 x5 s q = D y1 y2 y3 y4 y5 s q' := by simp only [D, Z_col h1 h3 h4, h2, h5]
theorem T_col (j s : ℕ) : T x1 x2 x3 x4 x5 j s q = T y1 y2 y3 y4 y5 j s q' := by simp only [T, P_col h1, D_col h1 h2 h3 h4 h5]
end

theorem off1 (k : Fin k0_t1_loop.trips) : k0_off1 k = ![256 * k.val, 0] := by revert k; decide +kernel
theorem off2 (k : Fin k0_t1_loop.trips) : k0_off2 k = ![8 + 256 * k.val, 0] := by revert k; decide +kernel
theorem off3 (k : Fin k0_t2_loop.trips) : k0_off3 k = ![256 * k.val, 0] := by revert k; decide +kernel
theorem off4 (k : Fin k0_t2_loop.trips) : k0_off4 k = ![256 * k.val, 0] := by revert k; decide +kernel
theorem off5 (k : Fin k0_t2_loop.trips) : k0_off5 k = ![256 * k.val, 0] := by revert k; decide +kernel
theorem off6 (k : Fin k0_t3_loop.trips) : k0_off6 k = ![256 * k.val, 0] := by revert k; decide +kernel
theorem off7 (k : Fin k0_t3_loop.trips) : k0_off7 k = ![256 * k.val, 0] := by revert k; decide +kernel
theorem trips1 : k0_t1_loop.trips = 8 := by decide +kernel
theorem trips2 : k0_t2_loop.trips = 8 := by decide +kernel
theorem trips3 : k0_t3_loop.trips = 8 := by decide +kernel

include harg1 in
/-- The first loop fills the padded gate from its ninth row. -/
theorem pad_at (k : ℕ) (hk : k ≤ 8) (s : Fin 2056) (q : Fin 256) (hs : s.val < 8 + 256 * k) (f : BufTy.Contents (Elt Ideal) arg10.view.ty) :
    arg10.view.read (Elt Ideal) (arg10.view.writes (Elt Ideal) f
      (pb_k0_t1 (F := Ideal) Variants.none c none i arg1 harg1 arg2 harg2 arg3 harg3 arg4 harg4 arg5 harg5 arg6 harg6 arg7 harg7 arg8 harg8 arg9 harg9 arg10 harg10 arg11 harg11 arg12 harg12 (harg1.unread x1) k ++ [⟨Rect.unit ![0, 0] S8x256.size inb_S2056x256_S8x256_0_0, k0_pay15 (F := Ideal)⟩])) (ix2 s q)
      = P x1 s.val q := by
  induction k with
  | zero =>
    refine (rows_in arg10.view f (o := ![0, 0]) (r := 0) (n := 8) rfl _ _ [] s q ⟨s.val, by omega⟩ (by simp)).trans ?_
    rw [P, dif_neg (by omega)]
    pointwise [k0_pay15]
  | succ k ih =>
    have hk' : k < k0_t1_loop.trips := by rw [trips1]; omega
    rw [pb_k0_t1_succ (F := Ideal) Variants.none c none i arg1 harg1 arg2 harg2 arg3 harg3 arg4 harg4 arg5 harg5 arg6 harg6 arg7 harg7 arg8 harg8 arg9 harg9 arg10 harg10 arg11 harg11 arg12 harg12 (harg1.unread x1) ⟨k, hk'⟩]
    rw [show tripL_k0_t1 (F := Ideal) Variants.none c none i arg1 harg1 arg2 harg2 arg3 harg3 arg4 harg4 arg5 harg5 arg6 harg6 arg7 harg7 arg8 harg8 arg9 harg9 arg10 harg10 arg11 harg11 arg12 harg12 (harg1.unread x1) ⟨k, hk'⟩
      = [⟨Rect.unit (s := S2056x256) (k0_off2 ⟨k, hk'⟩) ![256, 256] (k0_off2_inb ⟨k, hk'⟩),
          k0_pay18 (arg1.view.readAt (Elt Ideal) (Rect.unit (s := S2048x256) (k0_off1 ⟨k, hk'⟩) ![256, 256] (k0_off1_inb ⟨k, hk'⟩)).toLoadRect (harg1.unread x1))⟩]
      from by unfold tripL_k0_t1 trip_k0_t1; rfl, List.cons_append, List.nil_append, List.cons_append]
    by_cases h : s.val < 8 + 256 * k
    · exact (rows_out arg10.view f (off2 _) _ _ _ s q (.inl h)).trans (ih (by omega) h)
    · refine (rows_in arg10.view f (off2 _) _ _ _ s q ⟨s.val - (8 + 256 * k), by omega⟩ (by simp; omega)).trans ?_
      pointwise [k0_pay18]
      refine (rows_at arg1.view _ (off1 _) _ _ _ (⟨s.val - 8, by omega⟩ : Fin 2048) (by simp; omega)).trans ?_
      rw [harg1.read_unread, P, dif_pos (by omega)]

/-- The padded gate. -/
theorem S10_at (s : Fin 2056) (q : Fin 256) :
    arg10.view.read (Elt Ideal) (S10 (F := Ideal) c i arg1 harg1 arg2 harg2 arg3 harg3 arg4 harg4 arg5 harg5 arg6 harg6 arg7 harg7 arg8 harg8 arg9 harg9 arg10 harg10 arg11 harg11 arg12 harg12 x1 x2 x3 x4 x5) (ix2 s q) = P x1 s.val q :=
  pad_at c i arg1 harg1 arg2 harg2 arg3 harg3 arg4 harg4 arg5 harg5 arg6 harg6 arg7 harg7 arg8 harg8 arg9 harg9 arg10 harg10 arg11 harg11 arg12 harg12 x1 8 le_rfl s q (by omega) _

section
variable {x1 x2 x3 x4 x5} {v34 : Vec Ideal S264x256 .f32} {v40 v41 v46 v50 : Vec Ideal S1x256 .f32} {v62 : Vec Ideal S256x256 .bf16} {v70 : Vec Ideal S256x256 .f32} {b : ℕ}
  (h34 : ∀ (r : Fin 264) q, v34 (ix2 r q) = P x1 (b + r.val) q) (h40 : ∀ q, v40 (ix2 0 q) = x4 (ix2 0 q)) (h41 : ∀ q, v41 (ix2 0 q) = x3 (ix2 0 q))
  (h46 : ∀ q, v46 (ix2 0 q) = x3 (ix2 1 q)) (h50 : ∀ q, v50 (ix2 0 q) = x3 (ix2 2 q)) (hb : b + 256 ≤ 2048)
  (h62 : ∀ (r : Fin 256) q, v62 (ix2 r q) = x5 (ix2 (⟨b + r.val, by omega⟩ : Fin 2048) q))
  (h70 : ∀ (r : Fin 256) q, v70 (ix2 r q) = x2 (ix2 (⟨b + r.val, by omega⟩ : Fin 2048) q))
include h34

theorem pay3_at (r q : Fin 256) : k0_pay3 (F := Ideal) v34 (ix2 r q) = P x1 (b + r.val + 6) q := by
  pointwise [k0_pay3]
  exact (h34 _ _).trans (congrArg (P x1 · q) (by simp; omega))
theorem pay4_at (r q : Fin 256) : k0_pay4 (F := Ideal) v34 (ix2 r q) = P x1 (b + r.val + 7) q := by
  pointwise [k0_pay4]
  exact (h34 _ _).trans (congrArg (P x1 · q) (by simp; omega))
theorem pay5_at (r q : Fin 256) : k0_pay5 (F := Ideal) v34 (ix2 r q) = P x1 (b + r.val + 8) q := by
  pointwise [k0_pay5]
  exact (h34 _ _).trans (congrArg (P x1 · q) (by simp; omega))
include h40 h41 h46 h50
theorem pay6_at (r q : Fin 256) : k0_pay6 (F := Ideal) v34 v40 v41 v46 v50 (ix2 r q) = Z x1 x3 x4 (b + r.val) q := by
  pointwise [k0_pay6]
  rw [pay3_at h34, pay4_at h34, pay5_at h34, h40, h41, h46, h50, Z]
theorem pay7_at (r q : Fin 256) : k0_pay7 (F := Ideal) v34 v40 v41 v46 v50 (ix2 r q) = sg (Z x1 x3 x4 (b + r.val) q) := by
  pointwise [k0_pay7]
  rw [pay6_at h34 h40 h41 h46 h50, sg]
include h62
theorem pay9_at (r q : Fin 256) : k0_pay9 (F := Ideal) v34 v40 v41 v46 v50 v62 (ix2 r q)
    = x5 (ix2 (⟨b + r.val, by omega⟩ : Fin 2048) q) * Z x1 x3 x4 (b + r.val) q * sg (Z x1 x3 x4 (b + r.val) q) := by
  pointwise [k0_pay9, k0_pay8]
  rw [pay6_at h34 h40 h41 h46 h50, pay7_at h34 h40 h41 h46 h50, h62]
include h70
theorem pay10_at (r q : Fin 256) : k0_pay10 (F := Ideal) (k0_pay6 v34 v40 v41 v46 v50) (k0_pay7 v34 v40 v41 v46 v50) (k0_pay8 v62) v70 (ix2 r q)
    = D x1 x2 x3 x4 x5 (b + r.val) q := by
  pointwise [k0_pay10, k0_pay8]
  rw [pay6_at h34 h40 h41 h46 h50, pay7_at h34 h40 h41 h46 h50, h62, h70, D, dif_pos (by omega)]
end

/-- A trip of the middle loop. -/
theorem trip2 (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X10 : BufTy.Contents (Elt Ideal) arg10.view.ty) (k : Fin k0_t2_loop.trips)
    (G7 : BufTy.Contents (Elt Ideal) arg7.view.ty) (G11 : BufTy.Contents (Elt Ideal) arg11.view.ty) (G12 : BufTy.Contents (Elt Ideal) arg12.view.ty)
    (v34 : Vec Ideal S264x256 .f32) (v40 v41 v46 v50 : Vec Ideal S1x256 .f32) (v62 : Vec Ideal S256x256 .bf16) (v70 : Vec Ideal S256x256 .f32)
    (h34 : v34 = arg10.view.readAt (Elt Ideal) (Rect.unit (s := S2056x256) (k0_off3 k) ![264, 256] (k0_off3_inb k)).toLoadRect X10)
    (h40 : v40 = arg4.view.readAt (Elt Ideal) (Rect.unit (s := S1x256) ![0, 0] ![1, 256] inb_S1x256_S1x256_0_0).toLoadRect X4)
    (h41 : v41 = arg3.view.readAt (Elt Ideal) (Rect.unit (s := S3x256) ![0, 0] ![1, 256] inb_S3x256_S1x256_0_0).toLoadRect X3)
    (h46 : v46 = arg3.view.readAt (Elt Ideal) (Rect.unit (s := S3x256) ![1, 0] ![1, 256] inb_S3x256_S1x256_1_0).toLoadRect X3)
    (h50 : v50 = arg3.view.readAt (Elt Ideal) (Rect.unit (s := S3x256) ![2, 0] ![1, 256] inb_S3x256_S1x256_2_0).toLoadRect X3)
    (h62 : v62 = arg5.view.readAt (Elt Ideal) (Rect.unit (s := S2048x256) (k0_off4 k) ![256, 256] (k0_off4_inb k)).toLoadRect X5)
    (h70 : v70 = arg2.view.readAt (Elt Ideal) (Rect.unit (s := S2048x256) (k0_off4 k) ![256, 256] (k0_off4_inb k)).toLoadRect X2) :
    tripL_k0_t2 (F := Ideal) Variants.none c none i arg1 harg1 arg2 harg2 arg3 harg3 arg4 harg4 arg5 harg5 arg6 harg6 arg7 harg7 arg8 harg8 arg9 harg9 arg10 harg10 arg11 harg11 arg12 harg12 X2 X3 X4 X5 X10 k G7 G11 G12
      = ([⟨Rect.unit (s := S2048x256) (k0_off4 k) ![256, 256] (k0_off4_inb k), k0_pay9 v34 v40 v41 v46 v50 v62⟩],
        [⟨Rect.unit (s := S2056x256) (k0_off5 k) ![256, 256] (k0_off5_inb k), k0_pay11 (k0_pay6 v34 v40 v41 v46 v50) (k0_pay7 v34 v40 v41 v46 v50) (k0_pay8 v62) v70⟩],
        [⟨Rect.unit (s := S32x256) ![24, 0] ![8, 256] inb_S32x256_S8x256_24_0,
            k0_pay19 (k0_pay10 (k0_pay6 v34 v40 v41 v46 v50) (k0_pay7 v34 v40 v41 v46 v50) (k0_pay8 v62) v70)
              (arg12.view.readAt (Elt Ideal) (Rect.unit (s := S32x256) ![24, 0] ![8, 256] inb_S32x256_S8x256_24_0).toLoadRect G12)⟩,
          ⟨Rect.unit (s := S32x256) ![16, 0] ![8, 256] inb_S32x256_S8x256_16_0,
            k0_pay14 (k0_pay5 v34) (k0_pay6 v34 v40 v41 v46 v50) (k0_pay7 v34 v40 v41 v46 v50) (k0_pay8 v62) v70
              (arg12.view.readAt (Elt Ideal) (Rect.unit (s := S32x256) ![16, 0] ![8, 256] inb_S32x256_S8x256_16_0).toLoadRect G12)⟩,
          ⟨Rect.unit (s := S32x256) ![8, 0] ![8, 256] inb_S32x256_S8x256_8_0,
            k0_pay13 (k0_pay4 v34) (k0_pay6 v34 v40 v41 v46 v50) (k0_pay7 v34 v40 v41 v46 v50) (k0_pay8 v62) v70
              (arg12.view.readAt (Elt Ideal) (Rect.unit (s := S32x256) ![8, 0] ![8, 256] inb_S32x256_S8x256_8_0).toLoadRect G12)⟩,
          ⟨Rect.unit (s := S32x256) ![0, 0] ![8, 256] inb_S32x256_S8x256_0_0,
            k0_pay12 (k0_pay3 v34) (k0_pay6 v34 v40 v41 v46 v50) (k0_pay7 v34 v40 v41 v46 v50) (k0_pay8 v62) v70
              (arg12.view.readAt (Elt Ideal) (Rect.unit (s := S32x256) ![0, 0] ![8, 256] inb_S32x256_S8x256_0_0).toLoadRect G12)⟩]) := by
  subst h34 h40 h41 h46 h50 h62 h70
  unfold tripL_k0_t2 trip_k0_t2; dsimp only
  sl_unfold_words
  rfl

/-- The middle loop's pieces after `k` trips. -/
abbrev M (k : ℕ) : List (View.Piece (Elt Ideal) S2048x256 .bf16) × List (View.Piece (Elt Ideal) S2056x256 .f32) × List (View.Piece (Elt Ideal) S32x256 .f32) :=
  pb_k0_t2 (F := Ideal) Variants.none c none i arg1 harg1 arg2 harg2 arg3 harg3 arg4 harg4 arg5 harg5 arg6 harg6 arg7 harg7 arg8 harg8 arg9 harg9 arg10 harg10 arg11 harg11 arg12 harg12 (harg2.unread x2) (harg3.unread x3) (harg4.unread x4) (harg5.unread x5) (S10 c i arg1 harg1 arg2 harg2 arg3 harg3 arg4 harg4 arg5 harg5 arg6 harg6 arg7 harg7 arg8 harg8 arg9 harg9 arg10 harg10 arg11 harg11 arg12 harg12 x1 x2 x3 x4 x5) arg7.view.junk
    (arg11.view.writes (Elt Ideal) arg11.view.junk [⟨Rect.unit ![2048, 0] S8x256.size inb_S2056x256_S8x256_2048_0, k0_pay16 (F := Ideal)⟩]) (arg12.view.writes (Elt Ideal) arg12.view.junk [⟨Rect.unit ![0, 0] S32x256.size inb_S32x256_S32x256_0_0, k0_pay17 (F := Ideal)⟩]) k

/-- What each trip adds. -/
theorem M_succ (k : ℕ) (hk : k < 8) : ∃ (v34 : Vec Ideal S264x256 .f32) (v40 v41 v46 v50 : Vec Ideal S1x256 .f32) (v62 : Vec Ideal S256x256 .bf16) (v70 : Vec Ideal S256x256 .f32) (hb : 256 * k + 256 ≤ 2048)
    (k' : Fin k0_t2_loop.trips) (_ : k'.val = k) (G12 : BufTy.Contents (Elt Ideal) arg12.view.ty)
    (_ : G12 = arg12.view.writes (Elt Ideal) arg12.view.junk ((M c i arg1 harg1 arg2 harg2 arg3 harg3 arg4 harg4 arg5 harg5 arg6 harg6 arg7 harg7 arg8 harg8 arg9 harg9 arg10 harg10 arg11 harg11 arg12 harg12 x1 x2 x3 x4 x5 k).2.2 ++ [⟨Rect.unit ![0, 0] S32x256.size inb_S32x256_S32x256_0_0, k0_pay17 (F := Ideal)⟩])),
    (∀ (r : Fin 264) q, v34 (ix2 r q) = P x1 (256 * k + r.val) q) ∧ (∀ q, v40 (ix2 0 q) = x4 (ix2 0 q)) ∧ (∀ q, v41 (ix2 0 q) = x3 (ix2 0 q))
    ∧ (∀ q, v46 (ix2 0 q) = x3 (ix2 1 q)) ∧ (∀ q, v50 (ix2 0 q) = x3 (ix2 2 q))
    ∧ (∀ (r : Fin 256) q, v62 (ix2 r q) = x5 (ix2 (⟨256 * k + r.val, by omega⟩ : Fin 2048) q))
    ∧ (∀ (r : Fin 256) q, v70 (ix2 r q) = x2 (ix2 (⟨256 * k + r.val, by omega⟩ : Fin 2048) q))
    ∧ M c i arg1 harg1 arg2 harg2 arg3 harg3 arg4 harg4 arg5 harg5 arg6 harg6 arg7 harg7 arg8 harg8 arg9 harg9 arg10 harg10 arg11 harg11 arg12 harg12 x1 x2 x3 x4 x5 (k + 1)
      = (⟨Rect.unit (s := S2048x256) (k0_off4 k') ![256, 256] (k0_off4_inb k'), k0_pay9 v34 v40 v41 v46 v50 v62⟩ :: (M c i arg1 harg1 arg2 harg2 arg3 harg3 arg4 harg4 arg5 harg5 arg6 harg6 arg7 harg7 arg8 harg8 arg9 harg9 arg10 harg10 arg11 harg11 arg12 harg12 x1 x2 x3 x4 x5 k).1,
        ⟨Rect.unit (s := S2056x256) (k0_off5 k') ![256, 256] (k0_off5_inb k'), k0_pay11 (k0_pay6 v34 v40 v41 v46 v50) (k0_pay7 v34 v40 v41 v46 v50) (k0_pay8 v62) v70⟩ :: (M c i arg1 harg1 arg2 harg2 arg3 harg3 arg4 harg4 arg5 harg5 arg6 harg6 arg7 harg7 arg8 harg8 arg9 harg9 arg10 harg10 arg11 harg11 arg12 harg12 x1 x2 x3 x4 x5 k).2.1,
        ⟨Rect.unit (s := S32x256) ![24, 0] ![8, 256] inb_S32x256_S8x256_24_0,
            k0_pay19 (k0_pay10 (k0_pay6 v34 v40 v41 v46 v50) (k0_pay7 v34 v40 v41 v46 v50) (k0_pay8 v62) v70)
              (arg12.view.readAt (Elt Ideal) (Rect.unit (s := S32x256) ![24, 0] ![8, 256] inb_S32x256_S8x256_24_0).toLoadRect G12)⟩ ::
          ⟨Rect.unit (s := S32x256) ![16, 0] ![8, 256] inb_S32x256_S8x256_16_0,
            k0_pay14 (k0_pay5 v34) (k0_pay6 v34 v40 v41 v46 v50) (k0_pay7 v34 v40 v41 v46 v50) (k0_pay8 v62) v70
              (arg12.view.readAt (Elt Ideal) (Rect.unit (s := S32x256) ![16, 0] ![8, 256] inb_S32x256_S8x256_16_0).toLoadRect G12)⟩ ::
          ⟨Rect.unit (s := S32x256) ![8, 0] ![8, 256] inb_S32x256_S8x256_8_0,
            k0_pay13 (k0_pay4 v34) (k0_pay6 v34 v40 v41 v46 v50) (k0_pay7 v34 v40 v41 v46 v50) (k0_pay8 v62) v70
              (arg12.view.readAt (Elt Ideal) (Rect.unit (s := S32x256) ![8, 0] ![8, 256] inb_S32x256_S8x256_8_0).toLoadRect G12)⟩ ::
          ⟨Rect.unit (s := S32x256) ![0, 0] ![8, 256] inb_S32x256_S8x256_0_0,
            k0_pay12 (k0_pay3 v34) (k0_pay6 v34 v40 v41 v46 v50) (k0_pay7 v34 v40 v41 v46 v50) (k0_pay8 v62) v70
              (arg12.view.readAt (Elt Ideal) (Rect.unit (s := S32x256) ![0, 0] ![8, 256] inb_S32x256_S8x256_0_0).toLoadRect G12)⟩ :: (M c i arg1 harg1 arg2 harg2 arg3 harg3 arg4 harg4 arg5 harg5 arg6 harg6 arg7 harg7 arg8 harg8 arg9 harg9 arg10 harg10 arg11 harg11 arg12 harg12 x1 x2 x3 x4 x5 k).2.2) := by
  have hk' : k < k0_t2_loop.trips := by rw [trips2]; exact hk
  refine ⟨arg10.view.readAt (Elt Ideal) (Rect.unit (s := S2056x256) (k0_off3 ⟨k, hk'⟩) ![264, 256] (k0_off3_inb ⟨k, hk'⟩)).toLoadRect (S10 c i arg1 harg1 arg2 harg2 arg3 harg3 arg4 harg4 arg5 harg5 arg6 harg6 arg7 harg7 arg8 harg8 arg9 harg9 arg10 harg10 arg11 harg11 arg12 harg12 x1 x2 x3 x4 x5),
    arg4.view.readAt (Elt Ideal) (Rect.unit (s := S1x256) ![0, 0] ![1, 256] inb_S1x256_S1x256_0_0).toLoadRect (harg4.unread x4),
    arg3.view.readAt (Elt Ideal) (Rect.unit (s := S3x256) ![0, 0] ![1, 256] inb_S3x256_S1x256_0_0).toLoadRect (harg3.unread x3),
    arg3.view.readAt (Elt Ideal) (Rect.unit (s := S3x256) ![1, 0] ![1, 256] inb_S3x256_S1x256_1_0).toLoadRect (harg3.unread x3),
    arg3.view.readAt (Elt Ideal) (Rect.unit (s := S3x256) ![2, 0] ![1, 256] inb_S3x256_S1x256_2_0).toLoadRect (harg3.unread x3),
    arg5.view.readAt (Elt Ideal) (Rect.unit (s := S2048x256) (k0_off4 ⟨k, hk'⟩) ![256, 256] (k0_off4_inb ⟨k, hk'⟩)).toLoadRect (harg5.unread x5),
    arg2.view.readAt (Elt Ideal) (Rect.unit (s := S2048x256) (k0_off4 ⟨k, hk'⟩) ![256, 256] (k0_off4_inb ⟨k, hk'⟩)).toLoadRect (harg2.unread x2),
    by omega, ⟨k, hk'⟩, rfl, _, rfl, ?_, ?_, ?_, ?_, ?_, ?_, ?_,
    (pb_k0_t2_succ (F := Ideal) Variants.none c none i arg1 harg1 arg2 harg2 arg3 harg3 arg4 harg4 arg5 harg5 arg6 harg6 arg7 harg7 arg8 harg8 arg9 harg9 arg10 harg10 arg11 harg11 arg12 harg12 _ _ _ _ _ _ _ _ ⟨k, hk'⟩).trans ?_⟩
  rotate_right
  · rw [trip2 c i arg1 harg1 arg2 harg2 arg3 harg3 arg4 harg4 arg5 harg5 arg6 harg6 arg7 harg7 arg8 harg8 arg9 harg9 arg10 harg10 arg11 harg11 arg12 harg12 _ _ _ _ _ ⟨k, hk'⟩ _ _ _ _ _ _ _ _ _ _ rfl rfl rfl rfl rfl rfl rfl]
    simp only [View.writes_append, List.cons_append, List.nil_append]
  · intro r q
    exact (rows_at arg10.view _ (off3 _) _ r q (⟨256 * k + r.val, by omega⟩ : Fin 2056) rfl).trans (S10_at c i arg1 harg1 arg2 harg2 arg3 harg3 arg4 harg4 arg5 harg5 arg6 harg6 arg7 harg7 arg8 harg8 arg9 harg9 arg10 harg10 arg11 harg11 arg12 harg12 x1 x2 x3 x4 x5 _ q)
  · intro q; exact (rows_at arg4.view _ (r := 0) rfl _ 0 q 0 rfl).trans (congrFun (harg4.read_unread x4) _)
  · intro q; exact (rows_at arg3.view _ (r := 0) rfl _ 0 q 0 rfl).trans (congrFun (harg3.read_unread x3) _)
  · intro q; exact (rows_at arg3.view _ (r := 1) rfl _ 0 q 1 rfl).trans (congrFun (harg3.read_unread x3) _)
  · intro q; exact (rows_at arg3.view _ (r := 2) rfl _ 0 q 2 rfl).trans (congrFun (harg3.read_unread x3) _)
  · intro r q; exact (rows_at arg5.view _ (off4 _) _ r q (⟨256 * k + r.val, by omega⟩ : Fin 2048) rfl).trans (congrFun (harg5.read_unread x5) _)
  · intro r q; exact (rows_at arg2.view _ (off4 _) _ r q (⟨256 * k + r.val, by omega⟩ : Fin 2048) rfl).trans (congrFun (harg2.read_unread x2) _)

/-- The value's gradient after `k` trips. -/
theorem mid7 (k : ℕ) (hk : k ≤ 8) (v : View sig .tc .vmem S2048x256 .bf16) (f : v.ty.Contents (Elt Ideal)) (s : Fin 2048) (q : Fin 256) (hs : s.val < 256 * k) :
    v.read (Elt Ideal) (v.writes (Elt Ideal) f (M c i arg1 harg1 arg2 harg2 arg3 harg3 arg4 harg4 arg5 harg5 arg6 harg6 arg7 harg7 arg8 harg8 arg9 harg9 arg10 harg10 arg11 harg11 arg12 harg12 x1 x2 x3 x4 x5 k).1) (ix2 s q)
      = x5 (ix2 s q) * Z x1 x3 x4 s.val q * sg (Z x1 x3 x4 s.val q) := by
  induction k with
  | zero => omega
  | succ k ih =>
    obtain ⟨v34, v40, v41, v46, v50, v62, v70, hb, k', rfl, G12, hG, h34, h40, h41, h46, h50, h62, h70, h⟩ := M_succ c i arg1 harg1 arg2 harg2 arg3 harg3 arg4 harg4 arg5 harg5 arg6 harg6 arg7 harg7 arg8 harg8 arg9 harg9 arg10 harg10 arg11 harg11 arg12 harg12 x1 x2 x3 x4 x5 k (by omega)
    rw [h]; dsimp only
    by_cases hlt : s.val < 256 * k'.val
    · exact (rows_out v f (off4 _) _ _ _ s q (.inl hlt)).trans (ih (by omega) hlt)
    · refine (rows_in v f (off4 _) _ _ _ s q ⟨s.val - 256 * k'.val, by omega⟩ (by simp; omega)).trans ?_
      rw [pay9_at h34 h40 h41 h46 h50 hb h62]
      have e : 256 * k'.val + (s.val - 256 * k'.val) = s.val := by omega
      simp only [e]

/-- The gradient at the convolution's result after `k` trips. -/
theorem mid11 (k : ℕ) (hk : k ≤ 8) (f : BufTy.Contents (Elt Ideal) arg11.view.ty) (s : Fin 2056) (q : Fin 256) (hs : s.val < 256 * k ∨ 2048 ≤ s.val) :
    arg11.view.read (Elt Ideal) (arg11.view.writes (Elt Ideal) f ((M c i arg1 harg1 arg2 harg2 arg3 harg3 arg4 harg4 arg5 harg5 arg6 harg6 arg7 harg7 arg8 harg8 arg9 harg9 arg10 harg10 arg11 harg11 arg12 harg12 x1 x2 x3 x4 x5 k).2.1 ++ [⟨Rect.unit ![2048, 0] S8x256.size inb_S2056x256_S8x256_2048_0, k0_pay16 (F := Ideal)⟩])) (ix2 s q)
      = D x1 x2 x3 x4 x5 s.val q := by
  induction k with
  | zero =>
    refine (rows_in arg11.view f (o := ![2048, 0]) (r := 2048) (n := 8) rfl _ _ [] s q ⟨s.val - 2048, by omega⟩ (by simp; omega)).trans ?_
    rw [D, dif_neg (by omega)]
    pointwise [k0_pay16]
  | succ k ih =>
    obtain ⟨v34, v40, v41, v46, v50, v62, v70, hb, k', rfl, G12, hG, h34, h40, h41, h46, h50, h62, h70, h⟩ := M_succ c i arg1 harg1 arg2 harg2 arg3 harg3 arg4 harg4 arg5 harg5 arg6 harg6 arg7 harg7 arg8 harg8 arg9 harg9 arg10 harg10 arg11 harg11 arg12 harg12 x1 x2 x3 x4 x5 k (by omega)
    rw [h]; dsimp only
    rw [List.cons_append]
    by_cases hlt : 256 * k'.val ≤ s.val ∧ s.val < 256 * k'.val + 256
    · refine (rows_in arg11.view f (off5 _) _ _ _ s q ⟨s.val - 256 * k'.val, by omega⟩ (by simp; omega)).trans ?_
      pointwise [k0_pay11]
      rw [pay10_at h34 h40 h41 h46 h50 hb h62 h70]
      have e : 256 * k'.val + (s.val - 256 * k'.val) = s.val := by omega
      simp only [e]
    · exact (rows_out arg11.view f (off5 _) _ _ _ s q (by omega)).trans (ih (by omega) (by omega))

/-- The padded gradient at the convolution's result. -/
theorem S11_at (s : Fin 2056) (q : Fin 256) :
    arg11.view.read (Elt Ideal) (S11 (F := Ideal) c i arg1 harg1 arg2 harg2 arg3 harg3 arg4 harg4 arg5 harg5 arg6 harg6 arg7 harg7 arg8 harg8 arg9 harg9 arg10 harg10 arg11 harg11 arg12 harg12 x1 x2 x3 x4 x5) (ix2 s q) = D x1 x2 x3 x4 x5 s.val q :=
  mid11 c i arg1 harg1 arg2 harg2 arg3 harg3 arg4 harg4 arg5 harg5 arg6 harg6 arg7 harg7 arg8 harg8 arg9 harg9 arg10 harg10 arg11 harg11 arg12 harg12 x1 x2 x3 x4 x5 8 le_rfl _ s q (by omega)

/-- The sums after `k` trips. -/
theorem mid12 (k : ℕ) (hk : k ≤ 8) (j : ℕ) (r : Fin 8) (s : Fin 32) (q : Fin 256) (hs : s.val = 8 * j + r.val) :
    arg12.view.read (Elt Ideal) (arg12.view.writes (Elt Ideal) arg12.view.junk ((M c i arg1 harg1 arg2 harg2 arg3 harg3 arg4 harg4 arg5 harg5 arg6 harg6 arg7 harg7 arg8 harg8 arg9 harg9 arg10 harg10 arg11 harg11 arg12 harg12 x1 x2 x3 x4 x5 k).2.2 ++ [⟨Rect.unit ![0, 0] S32x256.size inb_S32x256_S32x256_0_0, k0_pay17 (F := Ideal)⟩])) (ix2 s q)
      = ∑ p ∈ Finset.range (32 * k), T x1 x2 x3 x4 x5 j (8 * p + r.val) q := by
  induction k with
  | zero =>
    refine (rows_in arg12.view _ (o := ![0, 0]) (r := 0) (n := 32) rfl _ _ [] s q s (by simp)).trans ?_
    pointwise [k0_pay17]
    rfl
  | succ k ih =>
    obtain ⟨v34, v40, v41, v46, v50, v62, v70, hb, k', rfl, G12, hG, h34, h40, h41, h46, h50, h62, h70, h⟩ := M_succ c i arg1 harg1 arg2 harg2 arg3 harg3 arg4 harg4 arg5 harg5 arg6 harg6 arg7 harg7 arg8 harg8 arg9 harg9 arg10 harg10 arg11 harg11 arg12 harg12 x1 x2 x3 x4 x5 k (by omega)
    rw [h]; dsimp only
    have ih' := ih (by omega)
    rw [← hG] at ih'
    have hsum : ∀ g : Fin 32 → EReal, (∀ x, g x = T x1 x2 x3 x4 x5 j (8 * (32 * k'.val + x.val) + r.val) q) →
        arg12.view.read (Elt Ideal) G12 (ix2 s q) + ∑ x, g x = ∑ p ∈ Finset.range (32 * (k'.val + 1)), T x1 x2 x3 x4 x5 j (8 * p + r.val) q := by
      intro g hg
      rw [ih', show 32 * (k'.val + 1) = 32 * k'.val + 32 by omega, Finset.sum_range_add, Finset.sum_range (fun x => T x1 x2 x3 x4 x5 j (8 * (32 * k'.val + x) + r.val) q)]
      exact congrArg _ (Finset.sum_congr rfl fun x _ => hg x)
    rw [List.cons_append, List.cons_append, List.cons_append, List.cons_append]
    obtain rfl | rfl | rfl | rfl : j = 3 ∨ j = 2 ∨ j = 1 ∨ j = 0 := by omega
    · refine (rows_in arg12.view _ (r := 24) rfl _ _ _ s q r (by omega)).trans ?_
      pointwise [k0_pay19]
      rw [rows_at arg12.view G12 (r := 24) rfl _ r q s (by omega)]
      refine hsum _ fun x => ?_
      refine (pay10_at h34 h40 h41 h46 h50 hb h62 h70 _ q).trans ?_
      rw [T, if_neg (by omega)]
      exact congrArg (D x1 x2 x3 x4 x5 · q) (by simp; omega)
    · refine (rows_out arg12.view _ (r := 24) (n := 8) rfl _ _ _ s q (by omega)).trans ?_
      refine (rows_in arg12.view _ (r := 16) rfl _ _ _ s q r (by omega)).trans ?_
      pointwise [k0_pay14]
      rw [rows_at arg12.view G12 (r := 16) rfl _ r q s (by omega)]
      refine hsum _ fun x => ?_
      refine (congr (congrArg HMul.hMul (pay10_at h34 h40 h41 h46 h50 hb h62 h70 _ q)) (pay5_at h34 _ q)).trans ?_
      rw [T, if_pos (by omega)]
      exact congr (congrArg HMul.hMul (congrArg (D x1 x2 x3 x4 x5 · q) (by simp; omega))) (congrArg (P x1 · q) (by simp; omega))
    · refine (rows_out arg12.view _ (r := 24) (n := 8) rfl _ _ _ s q (by omega)).trans ?_
      refine (rows_out arg12.view _ (r := 16) (n := 8) rfl _ _ _ s q (by omega)).trans ?_
      refine (rows_in arg12.view _ (r := 8) rfl _ _ _ s q r (by omega)).trans ?_
      pointwise [k0_pay13]
      rw [rows_at arg12.view G12 (r := 8) rfl _ r q s (by omega)]
      refine hsum _ fun x => ?_
      refine (congr (congrArg HMul.hMul (pay10_at h34 h40 h41 h46 h50 hb h62 h70 _ q)) (pay4_at h34 _ q)).trans ?_
      rw [T, if_pos (by omega)]
      exact congr (congrArg HMul.hMul (congrArg (D x1 x2 x3 x4 x5 · q) (by simp; omega))) (congrArg (P x1 · q) (by simp; omega))
    · refine (rows_out arg12.view _ (r := 24) (n := 8) rfl _ _ _ s q (by omega)).trans ?_
      refine (rows_out arg12.view _ (r := 16) (n := 8) rfl _ _ _ s q (by omega)).trans ?_
      refine (rows_out arg12.view _ (r := 8) (n := 8) rfl _ _ _ s q (by omega)).trans ?_
      refine (rows_in arg12.view _ (r := 0) rfl _ _ _ s q r (by omega)).trans ?_
      pointwise [k0_pay12]
      rw [rows_at arg12.view G12 (r := 0) rfl _ r q s (by omega)]
      refine hsum _ fun x => ?_
      refine (congr (congrArg HMul.hMul (pay10_at h34 h40 h41 h46 h50 hb h62 h70 _ q)) (pay3_at h34 _ q)).trans ?_
      rw [T, if_pos (by omega)]
      exact congr (congrArg HMul.hMul (congrArg (D x1 x2 x3 x4 x5 · q) (by simp; omega))) (congrArg (P x1 · q) (by simp; omega))

/-- The gate's gradient after `k` trips of the last loop. -/
theorem fin_at (k : ℕ) (hk : k ≤ 8) (v : View sig .tc .vmem S2048x256 .bf16) (f : v.ty.Contents (Elt Ideal)) (s : Fin 2048) (q : Fin 256) (hs : s.val < 256 * k) :
    v.read (Elt Ideal) (v.writes (Elt Ideal) f (pb_k0_t3 (F := Ideal) Variants.none c none i arg1 harg1 arg2 harg2 arg3 harg3 arg4 harg4 arg5 harg5 arg6 harg6 arg7 harg7 arg8 harg8 arg9 harg9 arg10 harg10 arg11 harg11 arg12 harg12 (harg3.unread x3) (S11 c i arg1 harg1 arg2 harg2 arg3 harg3 arg4 harg4 arg5 harg5 arg6 harg6 arg7 harg7 arg8 harg8 arg9 harg9 arg10 harg10 arg11 harg11 arg12 harg12 x1 x2 x3 x4 x5) k)) (ix2 s q)
      = x3 (ix2 2 q) * D x1 x2 x3 x4 x5 s.val q + x3 (ix2 1 q) * D x1 x2 x3 x4 x5 (s.val + 1) q + x3 (ix2 0 q) * D x1 x2 x3 x4 x5 (s.val + 2) q := by
  induction k with
  | zero => omega
  | succ k ih =>
    have hk' : k < k0_t3_loop.trips := by rw [trips3]; omega
    rw [pb_k0_t3_succ (F := Ideal) Variants.none c none i arg1 harg1 arg2 harg2 arg3 harg3 arg4 harg4 arg5 harg5 arg6 harg6 arg7 harg7 arg8 harg8 arg9 harg9 arg10 harg10 arg11 harg11 arg12 harg12 (harg3.unread x3) _ ⟨k, hk'⟩]
    rw [show tripL_k0_t3 (F := Ideal) Variants.none c none i arg1 harg1 arg2 harg2 arg3 harg3 arg4 harg4 arg5 harg5 arg6 harg6 arg7 harg7 arg8 harg8 arg9 harg9 arg10 harg10 arg11 harg11 arg12 harg12 (harg3.unread x3) (S11 c i arg1 harg1 arg2 harg2 arg3 harg3 arg4 harg4 arg5 harg5 arg6 harg6 arg7 harg7 arg8 harg8 arg9 harg9 arg10 harg10 arg11 harg11 arg12 harg12 x1 x2 x3 x4 x5) ⟨k, hk'⟩
      = [⟨Rect.unit (s := S2048x256) (k0_off7 ⟨k, hk'⟩) ![256, 256] (k0_off7_inb ⟨k, hk'⟩),
          k0_pay20 (arg11.view.readAt (Elt Ideal) (Rect.unit (s := S2056x256) (k0_off6 ⟨k, hk'⟩) ![264, 256] (k0_off6_inb ⟨k, hk'⟩)).toLoadRect (S11 c i arg1 harg1 arg2 harg2 arg3 harg3 arg4 harg4 arg5 harg5 arg6 harg6 arg7 harg7 arg8 harg8 arg9 harg9 arg10 harg10 arg11 harg11 arg12 harg12 x1 x2 x3 x4 x5))
            (arg3.view.readAt (Elt Ideal) (Rect.unit (s := S3x256) ![2, 0] ![1, 256] inb_S3x256_S1x256_2_0).toLoadRect (harg3.unread x3))
            (arg3.view.readAt (Elt Ideal) (Rect.unit (s := S3x256) ![1, 0] ![1, 256] inb_S3x256_S1x256_1_0).toLoadRect (harg3.unread x3))
            (arg3.view.readAt (Elt Ideal) (Rect.unit (s := S3x256) ![0, 0] ![1, 256] inb_S3x256_S1x256_0_0).toLoadRect (harg3.unread x3))⟩]
      from by unfold tripL_k0_t3 trip_k0_t3; rfl, List.cons_append, List.nil_append]
    by_cases h : s.val < 256 * k
    · exact (rows_out v f (off7 _) _ _ _ s q (.inl h)).trans (ih (by omega) h)
    · refine (rows_in v f (off7 _) _ _ _ s q ⟨s.val - 256 * k, by omega⟩ (by simp; omega)).trans ?_
      have hd : ∀ (r : Fin 264), arg11.view.readAt (Elt Ideal) (Rect.unit (s := S2056x256) (k0_off6 ⟨k, hk'⟩) ![264, 256] (k0_off6_inb ⟨k, hk'⟩)).toLoadRect (S11 c i arg1 harg1 arg2 harg2 arg3 harg3 arg4 harg4 arg5 harg5 arg6 harg6 arg7 harg7 arg8 harg8 arg9 harg9 arg10 harg10 arg11 harg11 arg12 harg12 x1 x2 x3 x4 x5) (ix2 r q)
          = D x1 x2 x3 x4 x5 (256 * k + r.val) q := fun r =>
        (rows_at arg11.view _ (off6 _) _ r q (⟨256 * k + r.val, by omega⟩ : Fin 2056) rfl).trans (S11_at c i arg1 harg1 arg2 harg2 arg3 harg3 arg4 harg4 arg5 harg5 arg6 harg6 arg7 harg7 arg8 harg8 arg9 harg9 arg10 harg10 arg11 harg11 arg12 harg12 x1 x2 x3 x4 x5 _ q)
      pointwise [k0_pay20]
      rw [rows_at arg3.view _ (r := 0) rfl _ 0 q 0 rfl, rows_at arg3.view _ (r := 1) rfl _ 0 q 1 rfl, rows_at arg3.view _ (r := 2) rfl _ 0 q 2 rfl, harg3.read_unread]
      refine congr (congrArg HAdd.hAdd (congr (congrArg HAdd.hAdd (congrArg _ ((hd _).trans (congrArg (D x1 x2 x3 x4 x5 · q) ?_)))) (congrArg _ ((hd _).trans (congrArg (D x1 x2 x3 x4 x5 · q) ?_)))))
        (congrArg _ ((hd _).trans (congrArg (D x1 x2 x3 x4 x5 · q) ?_))) <;> simp <;> omega

/-- Eight rows of the sums, added. -/
theorem part_sum (j : ℕ) (hj : j < 4) (o : Fin 2 → ℕ) (ho : o = ![8 * j, 0]) (hb) (q : Fin 256) :
    ∑ r : Fin 8, part c i arg1 harg1 arg2 harg2 arg3 harg3 arg4 harg4 arg5 harg5 arg6 harg6 arg7 harg7 arg8 harg8 arg9 harg9 arg10 harg10 arg11 harg11 arg12 harg12 x1 x2 x3 x4 x5 (Rect.unit (s := S32x256) o S8x256.size hb).toLoadRect (ix2 r q)
      = ∑ s ∈ Finset.range 2048, T x1 x2 x3 x4 x5 j s q := by
  have h : ∀ r : Fin 8, part c i arg1 harg1 arg2 harg2 arg3 harg3 arg4 harg4 arg5 harg5 arg6 harg6 arg7 harg7 arg8 harg8 arg9 harg9 arg10 harg10 arg11 harg11 arg12 harg12 x1 x2 x3 x4 x5 (Rect.unit (s := S32x256) o S8x256.size hb).toLoadRect (ix2 r q)
      = ∑ p : Fin 256, T x1 x2 x3 x4 x5 j (8 * p.val + r.val) q := fun r =>
    ((rows_at arg12.view _ ho hb r q (⟨8 * j + r.val, by omega⟩ : Fin 32) rfl).trans (mid12 c i arg1 harg1 arg2 harg2 arg3 harg3 arg4 harg4 arg5 harg5 arg6 harg6 arg7 harg7 arg8 harg8 arg9 harg9 arg10 harg10 arg11 harg11 arg12 harg12 x1 x2 x3 x4 x5 8 le_rfl j r ⟨8 * j + r.val, by omega⟩ q rfl)).trans (Finset.sum_range _)
  rw [Finset.sum_congr rfl fun r _ => h r, Finset.sum_comm, Finset.sum_range]
  exact Fin.sum_mul_add_congr (F := fun (p : Fin 256) (r : Fin 8) => T x1 x2 x3 x4 x5 j (8 * p.val + r.val) q) (f := fun l : Fin 2048 => T x1 x2 x3 x4 x5 j l.val q)
    (fun p r hl => congrArg (T x1 x2 x3 x4 x5 j · q) (show 8 * p.val + r.val = p.val * 8 + r.val by omega)) (by omega)

end Cert.FfnActIdeal.Val

end
-- ==== Proof.FfnArr.lean ====
/- The arrays the gate's backward leaves, entry by entry. -/
module

public import proofs.«01_k».proof.Proof.FfnVal
public import proofs.«01_k».proof.Proof.FfnFrm
public import Idealize.ShloMosaic.Lib.Pipeline.ValueKit

@[expose] public section

set_option maxRecDepth 16384

noncomputable section

namespace Cert.FfnArr

open Idealize.ShloMosaic Idealize.ShloMosaic.TcCoe Idealize.SL.Sem
open Cert.FfnActIdeal Cert.FfnActIdeal.Gen Cert.FfnActIdeal.Run Cert.FfnActIdeal.Out Cert.FfnActIdeal.Frm Cert.FfnActIdeal.Val Cert.Rows
open Idealize.ShloMosaic.Pipeline (Dat)

/-- The first and the second half of the projection's columns: the gate and the value. -/
def gate (U : Vec Ideal S2048x5632 .f32) : Vec Ideal S2048x2816 .f32 := fun j => U (ix2 (j 0) (⟨(j 1).val, lt_trans (j 1).isLt (by decide : 2816 < 5632)⟩ : Fin 5632))
def val (U : Vec Ideal S2048x5632 .f32) : Vec Ideal S2048x2816 .f32 := fun j => U (ix2 (j 0) (⟨2816 + (j 1).val, Nat.add_lt_add_left (j 1).isLt 2816⟩ : Fin 5632))

section defs
variable (U : Vec Ideal S2048x5632 .f32) (W : Vec Ideal S3x2816 .f32) (B : Vec Ideal S1x2816 .f32) (C : Vec Ideal S2048x2816 .bf16)
/-- The gradients at the gate, at the value, at the taps and at the bias. -/
def dgate : Vec Ideal S2048x2816 .bf16 := fun j =>
  W (ix2 2 (j 1)) * D (gate U) (val U) W B C (j 0).val (j 1) + W (ix2 1 (j 1)) * D (gate U) (val U) W B C ((j 0).val + 1) (j 1) + W (ix2 0 (j 1)) * D (gate U) (val U) W B C ((j 0).val + 2) (j 1)
def dval : Vec Ideal S2048x2816 .bf16 := fun j => C j * Z (gate U) W B (j 0).val (j 1) * sg (Z (gate U) W B (j 0).val (j 1))
def dtap : Vec Ideal S3x2816 .f32 := fun j => ∑ s ∈ Finset.range 2048, T (gate U) (val U) W B C (j 0).val s (j 1)
def dbias : Vec Ideal S1x2816 .f32 := fun j => ∑ s ∈ Finset.range 2048, T (gate U) (val U) W B C 3 s (j 1)
end defs

variable (m : (ℓ : Loc nD τ sig) → Buf (Elt Ideal) ℓ) (c : Dev nD)

/-- The projection, the taps, the bias and the incoming gradient, on device `c`. -/
abbrev U : Vec Ideal S2048x5632 .f32 := m ((c : Thread nD τ).loc main_arg0)
abbrev W : Vec Ideal S3x2816 .f32 := m ((c : Thread nD τ).loc main_arg1)
abbrev B : Vec Ideal S1x2816 .f32 := m ((c : Thread nD τ).loc main_arg2)
abbrev C : Vec Ideal S2048x2816 .bf16 := m ((c : Thread nD τ).loc main_arg3)

/-- The column of the arrays that column `q` of point `t`'s block is. -/
def col (t : Fin cfg0.N) (q : Fin 256) : Fin 2816 := ⟨t.val * 256 + q.val, by have hN : cfg0.N = 11 := N_0; have := t.isLt; omega⟩

theorem idx : ∀ t : Fin cfg0.N,
    win0_0.index t = ![0, t.val] ∧ win0_1.index t = ![0, 11 + t.val] ∧ win0_2.index t = ![0, t.val] ∧ win0_3.index t = ![0, t.val] ∧ win0_4.index t = ![0, t.val]
    ∧ win0_5.index t = ![0, t.val] ∧ win0_6.index t = ![0, t.val] ∧ win0_7.index t = ![0, t.val] ∧ win0_8.index t = ![0, t.val] :=
  (by decide +kernel : ∀ t : Fin grid0.N, _)

theorem blk0 (t : Fin cfg0.N) (q : Fin 256) (s : Fin 2048) : iblk m c 0 t (ix2 s q) = gate (U m c) (ix2 s (col t q)) := by
  blk_ext [iblk, V, idx t, gate, col]
theorem blk1 (t : Fin cfg0.N) (q : Fin 256) (s : Fin 2048) : iblk m c 1 t (ix2 s q) = val (U m c) (ix2 s (col t q)) := by
  blk_ext [iblk, V, idx t, val, col]
theorem blk2 (t : Fin cfg0.N) (q : Fin 256) (s : Fin 3) : iblk m c 2 t (ix2 s q) = W m c (ix2 s (col t q)) := by
  blk_ext [iblk, V, idx t, col]
theorem blk3 (t : Fin cfg0.N) (q : Fin 256) : iblk m c 3 t (ix2 0 q) = B m c (ix2 0 (col t q)) := by
  blk_ext [iblk, V, idx t, col]
theorem blk4 (t : Fin cfg0.N) (q : Fin 256) (s : Fin 2048) : iblk m c 4 t (ix2 s q) = C m c (ix2 s (col t q)) := by
  blk_ext [iblk, V, idx t, col]

theorem emb5 (t : Fin cfg0.N) (s : Fin 2048) (q : Fin 256) : ((cfg0.win 5).blk t).view.emb (ix2 s q : S2048x256.Idx) = (ix2 s (col t q) : S2048x2816.Idx) := by
  blk_ext [idx t, col]
theorem emb6 (t : Fin cfg0.N) (s : Fin 2048) (q : Fin 256) : ((cfg0.win 6).blk t).view.emb (ix2 s q : S2048x256.Idx) = (ix2 s (col t q) : S2048x2816.Idx) := by
  blk_ext [idx t, col]
theorem emb7 (t : Fin cfg0.N) (s : Fin 3) (q : Fin 256) : ((cfg0.win 7).blk t).view.emb (ix2 s q : S3x256.Idx) = (ix2 s (col t q) : S3x2816.Idx) := by
  blk_ext [idx t, col]
theorem emb8 (t : Fin cfg0.N) (s : Fin 1) (q : Fin 256) : ((cfg0.win 8).blk t).view.emb (ix2 s q : S1x256.Idx) = (ix2 s (col t q) : S1x2816.Idx) := by
  blk_ext [idx t, col]

theorem outv5 (t : Fin cfg0.N) (s : Fin 2048) (q : Fin 256) : out5 m c t (ix2 s q) = dgate (U m c) (W m c) (B m c) (C m c) (ix2 s (col t q)) := by
  unfold out5 fin
  refine (fin_at c _ _ _ _ _ _ _ _ _ _ _ _ _ _ _ _ _ _ _ _ _ _ _ _ _ _ _ _ _ _ 8 le_rfl VO5 _ s q (by omega)).trans ?_
  have hd := D_col (blk0 m c t q) (blk1 m c t q) (blk2 m c t q) (blk3 m c t q) (blk4 m c t q)
  rw [hd, hd, hd, blk2, blk2, blk2]; rfl

theorem outv6 (t : Fin cfg0.N) (s : Fin 2048) (q : Fin 256) : out6 m c t (ix2 s q) = dval (U m c) (W m c) (B m c) (C m c) (ix2 s (col t q)) := by
  unfold out6
  refine (mid7 c _ _ _ _ _ _ _ _ _ _ _ _ _ _ _ _ _ _ _ _ _ _ _ _ _ _ _ _ _ _ 8 le_rfl VO6 _ s q (by omega)).trans ?_
  rw [Z_col (blk0 m c t q) (blk2 m c t q) (blk3 m c t q), blk4]; rfl

theorem tap_sum (t : Fin cfg0.N) (j : ℕ) (q : Fin 256) :
    ∑ s ∈ Finset.range 2048, T (iblk m c 0 t) (iblk m c 1 t) (iblk m c 2 t) (iblk m c 3 t) (iblk m c 4 t) j s q
      = ∑ s ∈ Finset.range 2048, T (gate (U m c)) (val (U m c)) (W m c) (B m c) (C m c) j s (col t q) :=
  Finset.sum_congr rfl fun s _ => T_col (blk0 m c t q) (blk1 m c t q) (blk2 m c t q) (blk3 m c t q) (blk4 m c t q) j s

theorem outv8 (t : Fin cfg0.N) (q : Fin 256) : out8 m c t (ix2 (0 : Fin 1) q) = dbias (U m c) (W m c) (B m c) (C m c) (ix2 (0 : Fin 1) (col t q)) := by
  unfold out8 bias
  refine (rows_in VO8 _ (r := 0) rfl _ _ _ (0 : Fin 1) q (0 : Fin 1) rfl).trans ?_
  pointwise [k0_pay2]
  exact (part_sum c _ _ _ _ _ _ _ _ _ _ _ _ _ _ _ _ _ _ _ _ _ _ _ _ _ _ _ _ _ _ 3 (by omega) _ rfl _ q).trans (tap_sum m c t 3 q)

theorem outv7 (t : Fin cfg0.N) (j : Fin 3) (q : Fin 256) : out7 m c t (ix2 j q) = dtap (U m c) (W m c) (B m c) (C m c) (ix2 j (col t q)) := by
  unfold out7 taps
  match j with
  | 0 =>
    refine (rows_out VO7 _ (r := 2) (n := 1) rfl _ _ _ (0 : Fin 3) q (by decide)).trans ?_
    refine (rows_out VO7 _ (r := 1) (n := 1) rfl _ _ _ (0 : Fin 3) q (by decide)).trans ?_
    refine (rows_in VO7 _ (r := 0) rfl _ _ _ (0 : Fin 3) q (0 : Fin 1) rfl).trans ?_
    pointwise [k0_pay21]
    exact (part_sum c _ _ _ _ _ _ _ _ _ _ _ _ _ _ _ _ _ _ _ _ _ _ _ _ _ _ _ _ _ _ 0 (by omega) _ rfl _ q).trans (tap_sum m c t 0 q)
  | 1 =>
    refine (rows_out VO7 _ (r := 2) (n := 1) rfl _ _ _ (1 : Fin 3) q (by decide)).trans ?_
    refine (rows_in VO7 _ (r := 1) rfl _ _ _ (1 : Fin 3) q (0 : Fin 1) rfl).trans ?_
    pointwise [k0_pay22]
    exact (part_sum c _ _ _ _ _ _ _ _ _ _ _ _ _ _ _ _ _ _ _ _ _ _ _ _ _ _ _ _ _ _ 1 (by omega) _ rfl _ q).trans (tap_sum m c t 1 q)
  | 2 =>
    refine (rows_in VO7 _ (r := 2) rfl _ _ _ (2 : Fin 3) q (0 : Fin 1) rfl).trans ?_
    pointwise [k0_pay1]
    exact (part_sum c _ _ _ _ _ _ _ _ _ _ _ _ _ _ _ _ _ _ _ _ _ _ _ _ _ _ _ _ _ _ 2 (by omega) _ rfl _ q).trans (tap_sum m c t 2 q)

theorem arr5 : (dats m 0 c).arrAt 5 cfg0.N = dgate (U m c) (W m c) (B m c) (C m c) := by
  refine (dats m 0 c).arrAt_eq_of_covers 5 _ (by decide +kernel) fun t _ y => ?_
  blk_simp
  idx_vars y
  rw [after5, emb5]
  exact outv5 m c t _ _
theorem arr6 : (dats m 0 c).arrAt 6 cfg0.N = dval (U m c) (W m c) (B m c) (C m c) := by
  refine (dats m 0 c).arrAt_eq_of_covers 6 _ (by decide +kernel) fun t _ y => ?_
  blk_simp
  idx_vars y
  rw [after6, emb6]
  exact outv6 m c t _ _
theorem arr7 : (dats m 0 c).arrAt 7 cfg0.N = dtap (U m c) (W m c) (B m c) (C m c) := by
  refine (dats m 0 c).arrAt_eq_of_covers 7 _ (by decide +kernel) fun t _ y => ?_
  blk_simp
  idx_vars y
  rw [after7, emb7]
  exact outv7 m c t _ _
theorem arr8 : (dats m 0 c).arrAt 8 cfg0.N = dbias (U m c) (W m c) (B m c) (C m c) := by
  refine (dats m 0 c).arrAt_eq_of_covers 8 _ (by decide +kernel) fun t _ y => ?_
  blk_simp
  idx_vars y
  obtain rfl : y0 = 0 := Subsingleton.elim _ _
  rw [after8, emb8]
  exact outv8 m c t _

end Cert.FfnArr

end
-- ==== Proof.FfnRef.lean ====
/- What the gate's backward reference returns, entry by entry. -/
module

public import proofs.«01_k».proof.Proof.FfnArr
public import proofs.«01_k».proof.Proof.LnMath
public import proofs.«01_k».proof.Proof.Gen.FfnActRefIdeal.Read
public import Idealize.ShloMosaic.Lib.KernelVsHost

@[expose] public section

set_option maxRecDepth 16384

noncomputable section

namespace Cert.FfnRef

open Idealize.ShloMosaic Idealize.ShloMosaic.TcCoe Cert.Reals Cert.LnMath Cert.FfnActIdeal.Val Cert.FfnArr Cert.FfnActRefIdeal Cert.FfnActRefIdeal.Read

variable (U : FVec Ideal S2048x5632 .f32) (W : FVec Ideal S3x2816 .f32) (B : FVec Ideal S1x2816 .f32) (C : FVec Ideal S2048x2816 .bf16)

/-- The gate after two rows of zeros. -/
theorem ref5 (s : Fin 2050) (q : Fin 2816) : val_main_v3 (F := Ideal) U (ix2 s q) = P (gate U) (s.val + 6) q := by
  pointwise [val_main_v3, val_main_v2, val_main_cst, val_main_v0]
  unfold P gate
  by_cases h : s.val < 2
  · rw [dif_pos h, dif_neg (by omega)]
  · rw [dif_neg h, dif_pos (by omega)]
    exact congrArg (fun r : Fin 2048 => U (ix2 r (⟨q.val, by omega⟩ : Fin 5632))) (Fin.ext (by show s.val - 2 = s.val + 6 - 8; omega))

/-- The convolution's result. -/
theorem ref24 (s : Fin 2048) (q : Fin 2816) : val_main_v22 (F := Ideal) U W B (ix2 s q) = Z (gate U) W B s.val q := by
  pointwise [val_main_v22, val_main_v21, val_main_v20, val_main_v19, val_main_v18, val_main_v17, val_main_v16, val_main_v15, val_main_v14, val_main_v13, val_main_v12, val_main_v11, val_main_v10, val_main_v9, val_main_cst_1, val_main_v8, val_main_v7, val_main_v6, val_main_v5]
  rw [ref5, ref5, ref5, Z, mul_comm _ (W (ix2 0 q)), mul_comm _ (W (ix2 1 q)), mul_comm _ (W (ix2 2 q)), add_comm _ (B (ix2 0 q)), ← add_assoc, ← add_assoc]
  simp only [show s.val + 6 = s.val + 6 from rfl, show 1 + s.val + 6 = s.val + 7 by omega, show 2 + s.val + 6 = s.val + 8 by omega]

theorem ref25 (s : Fin 2048) (q : Fin 2816) : val_main_v23_2 (F := Ideal) U W B (ix2 s q) = FfnActIdeal.Val.sg (Z (gate U) W B s.val q) := by
  pointwise [val_main_v23_2, val_main_call0_v4, val_main_call0_cst_0, val_main_call0_v3, val_main_call0_v2, val_main_call0_cst, val_main_call0_v1, val_main_call0_v0]
  rw [ref24, FfnActIdeal.Val.sg, zero_sub]

/-- The gradient at the value. -/
theorem ref61 (s : Fin 2048) (q : Fin 2816) : val_main_v59 (F := Ideal) U W B C (ix2 s q) = dval U W B C (ix2 s q) := by
  pointwise [val_main_v59, val_main_v26, val_main_v25, val_main_v23_0]
  rw [ref24, ref25]
  rw [dval, mul_comm, ← mul_assoc]; rfl

/-- The value and the incoming gradient are real numbers. -/
structure Fin' : Prop where
  hv : ∀ (s : Fin 2048) q, val U (ix2 s q) = ((val U (ix2 s q)).toReal : EReal)
  hc : ∀ (s : Fin 2048) q, C (ix2 s q) = ((C (ix2 s q)).toReal : EReal)

variable (hf : Fin' U C)
include hf

/-- The gradient at the convolution's result. -/
theorem ref30 (s : Fin 2048) (q : Fin 2816) : val_main_v28 (F := Ideal) U W B C (ix2 s q) = D (gate U) (val U) W B C s.val q := by
  pointwise [val_main_v28, val_main_call1_v2, val_main_call1_v1, val_main_call1_v0, val_main_v27, val_main_v25, val_main_v23_1, val_main_call0_v7, val_main_call0_v6, val_main_call0_cst_1, val_main_v1]
  rw [ref24, ref25]
  have e : C (ix2 s q) * U (ix2 s ⟨2816 + q.val, by omega⟩) = (((C (ix2 s q)).toReal * (val U (ix2 s q)).toReal : ℝ) : EReal) := by
    rw [EReal.coe_mul, ← hf.hv s q, ← hf.hc s q]; rfl
  rw [D, dif_pos s.isLt, FfnActIdeal.Val.sg, zero_sub]
  refine (congrArg (fun d => d * _ + _ * d * _) e).trans ((dsilu_ref _ _).trans ((dsilu_kernel _ _).symm.trans (congrArg (· * _) e.symm)))

/-- The bias's gradient. -/
theorem ref32 (q : Fin 2816) : val_main_v30 (F := Ideal) U W B C (ix2 (0 : Fin 1) q) = dbias U W B C (ix2 (0 : Fin 1) q) := by
  pointwise [val_main_v30, val_main_v29, val_main_cst_2]
  rw [dbias, Finset.sum_range]
  exact Finset.sum_congr rfl fun s _ => (ref30 U W B C hf s q).trans (if_neg (by omega)).symm

/-- A tap's term. -/
theorem term (s : Fin 2048) (q : Fin 2816) (j : ℕ) (hj : j < 3) (r : Fin 2050) (hr : r.val = s.val + j) :
    val_main_v3 (F := Ideal) U (ix2 r q) * val_main_v28 (F := Ideal) U W B C (ix2 s q) = T (gate U) (val U) W B C j s.val q := by
  rw [ref5, ref30 U W B C hf, FfnActIdeal.Val.T, if_pos hj, mul_comm, hr, add_right_comm]

/-- The taps' gradient. -/
theorem ref55 (j : Fin 3) (q : Fin 2816) : val_main_v53 (F := Ideal) U W B C (ix2 j q) = dtap U W B C (ix2 j q) := by
  match j with
  | 0 =>
    pointwise [val_main_v53, val_main_v52, val_main_v49, val_main_v48, val_main_v47, val_main_v44, val_main_v43, val_main_v40, val_main_v39, val_main_v38, val_main_v36, val_main_v33, val_main_v32, val_main_v31, val_main_v5, val_main_v11, val_main_v16, val_main_cst_3, val_main_cst_4, val_main_cst_6, val_main_cst_7, val_main_cst_9, val_main_cst_10]
    rw [dtap, Finset.sum_range]
    exact Finset.sum_congr rfl fun s _ => term U W B C hf s q 0 (by omega) _ (by simp)
  | 1 =>
    pointwise [val_main_v53, val_main_v52, val_main_v49, val_main_v48, val_main_v47, val_main_v44, val_main_v43, val_main_v40, val_main_v39, val_main_v38, val_main_v36, val_main_v33, val_main_v32, val_main_v31, val_main_v5, val_main_v11, val_main_v16, val_main_cst_3, val_main_cst_4, val_main_cst_6, val_main_cst_7, val_main_cst_9, val_main_cst_10]
    rw [dtap, Finset.sum_range]
    exact Finset.sum_congr rfl fun s _ => term U W B C hf s q 1 (by omega) _ (by simp; omega)
  | 2 =>
    pointwise [val_main_v53, val_main_v52, val_main_v49, val_main_v48, val_main_v47, val_main_v44, val_main_v43, val_main_v40, val_main_v39, val_main_v38, val_main_v36, val_main_v33, val_main_v32, val_main_v31, val_main_v5, val_main_v11, val_main_v16, val_main_cst_3, val_main_cst_4, val_main_cst_6, val_main_cst_7, val_main_cst_9, val_main_cst_10]
    rw [dtap, Finset.sum_range]
    exact Finset.sum_congr rfl fun s _ => term U W B C hf s q 2 (by omega) _ (by simp; omega)

/-- The gate's gradient. -/
theorem ref60 (s : Fin 2048) (q : Fin 2816) : val_main_v58 (F := Ideal) U W B C (ix2 s q) = dgate U W B C (ix2 s q) := by
  pointwise [val_main_v58, val_main_v57, val_main_v55, val_main_v54, val_main_v51, val_main_v50, val_main_v46, val_main_v45, val_main_v42, val_main_v41, val_main_v37, val_main_v35, val_main_v34, val_main_cst_5, val_main_cst_8, val_main_cst_11]
  rw [dgate]
  pointwise [val_main_v17, val_main_v12, val_main_v6]
  rw [mul_comm (W (ix2 2 q)), mul_comm (W (ix2 1 q)), mul_comm (W (ix2 0 q))]
  refine congr (congrArg HAdd.hAdd (congr (congrArg HAdd.hAdd ?_) ?_)) ?_
  · exact congrArg (· * _) (ref30 U W B C hf s q)
  · by_cases h : s.val + 1 < 2048
    · rw [dif_pos (by omega), ref30 U W B C hf]
      exact congrArg (fun r => D (gate U) (val U) W B C r q * _) (by show 2 + s.val - 1 = s.val + 1; omega)
    · rw [dif_neg (by omega)]
      exact (show D (gate U) (val U) W B C (s.val + 1) q * W (ix2 1 q) = 0 by rw [D, dif_neg h, zero_mul]).symm
  · by_cases h : s.val + 2 < 2048
    · rw [dif_pos (by omega), ref30 U W B C hf]
      exact congrArg (fun r => D (gate U) (val U) W B C r q * _) (by show 2 + s.val = s.val + 2; omega)
    · rw [dif_neg (by omega)]
      exact (show D (gate U) (val U) W B C (s.val + 2) q * W (ix2 0 q) = 0 by rw [D, dif_neg h, zero_mul]).symm

end Cert.FfnRef

end
-- ==== Proof.FfnAlg.lean ====
/- The gate's backward kernel and its reference leave the same gradients. -/
module

public import proofs.«01_k».proof.Proof.FfnTop
public import proofs.«01_k».proof.Proof.FfnRef
public import proofs.«01_k».proof.Proof.Gen.Pre_ffn_finite

@[expose] public section

set_option maxRecDepth 16384

noncomputable section

namespace Cert.FfnAlg

open Idealize.ShloMosaic Idealize.ShloMosaic.TcCoe Idealize.SL.Sem
open Cert.Reals Cert.FfnArr Cert.FfnRef Cert.FfnActIdeal Cert.FfnActIdeal.Gen Cert.FfnActIdeal.Frm

/-- The precondition says the value and the incoming gradient are real numbers. -/
theorem fin_of_pre (m : (ℓ : Loc nD τ sig) → Buf (Elt Ideal) ℓ) (h : Cert.Pre_FfnActIdeal_ffn_finite m) (c : Dev nD) : Fin' (U m c) (C m c) := by
  have hA : ∀ (s : Fin 2048) (q : Fin 2816), _ := fun s q => congrFun (h c) (ix2 s q)
  unfold Cert.Pre_ffn_finite.fn at hA
  pointwise [] at hA
  simp only [andi_one] at hA
  exact ⟨fun s q => real_of_abs_lt (hA s q).1, fun s q => real_of_abs_lt (hA s q).2⟩

/-- The four results after the kernel's run. -/
theorem post (m : (ℓ : Loc nD τ sig) → Buf (Elt Ideal) ℓ) (r : PUnit × MemSt nD τ sig (Elt Ideal)) (h : Pipeline.FramePost cfgs (dats m) 0 (V m) r) (c : Dev nD) :
    r.2.mem ((c : Thread nD τ).loc main_v0_0) = dgate (U m c) (W m c) (B m c) (C m c) ∧ r.2.mem ((c : Thread nD τ).loc main_v0_1) = dval (U m c) (W m c) (B m c) (C m c)
    ∧ r.2.mem ((c : Thread nD τ).loc main_v0_2) = dtap (U m c) (W m c) (B m c) (C m c) ∧ r.2.mem ((c : Thread nD τ).loc main_v0_3) = dbias (U m c) (W m c) (B m c) (C m c) :=
  ⟨((h c).1 5).trans (arr5 m c), ((h c).1 6).trans (arr6 m c), ((h c).1 7).trans (arr7 m c), ((h c).1 8).trans (arr8 m c)⟩

/-- The kernel and the differentiated forward lines leave the same gradients of the gate, the value, the taps and the bias. -/
theorem algebraic : Cert.algebraic_FfnActIdeal_FfnActRefIdeal_pre_ffn_finite := fun m ρ m' ρ' hp hag =>
  ⟨fun c => dgate (U m c) (W m c) (B m c) (C m c), fun c => dval (U m c) (W m c) (B m c) (C m c), fun c => dtap (U m c) (W m c) (B m c) (C m c), fun c => dbias (U m c) (W m c) (B m c) (C m c),
    (θ_run _ _ _).mono (fun _ h c => by
      have p := post m _ h.1 c
      exact ⟨p.1, p.2.1, p.2.2.1, p.2.2.2, h.2 c⟩)
      (θ_run_and (run_main m ρ) (frame_of m ρ (dats m) (A_eq m) (run_main m ρ))),
    (θ_run _ _ _).mono (fun _ h c => by
      have hf := fin_of_pre m hp c
      refine ⟨(h c).1.trans ?_, (h c).2.1.trans ?_, (h c).2.2.1.trans ?_, (h c).2.2.2.1.trans ?_, (h c).2.2.2.2⟩
      · rw [Cert.FfnActRefIdeal.Read.val_main_v58_eq, (hag c).1, (hag c).2.1, (hag c).2.2.1, (hag c).2.2.2]
        funext j; idx_vars j
        exact ref60 _ (W m c) (B m c) (C m c) hf j0 j1
      · rw [Cert.FfnActRefIdeal.Read.val_main_v59_eq, (hag c).1, (hag c).2.1, (hag c).2.2.1, (hag c).2.2.2]
        funext j; idx_vars j
        exact ref61 _ (W m c) (B m c) (C m c) j0 j1
      · rw [Cert.FfnActRefIdeal.Read.val_main_v53_eq, (hag c).1, (hag c).2.1, (hag c).2.2.1, (hag c).2.2.2]
        funext j; idx_vars j
        exact ref55 _ (W m c) (B m c) (C m c) hf j0 j1
      · rw [Cert.FfnActRefIdeal.Read.val_main_v30_eq, (hag c).1, (hag c).2.1, (hag c).2.2.1, (hag c).2.2.2]
        funext j; idx_vars j
        obtain rfl : j0 = 0 := Subsingleton.elim _ _
        exact ref32 _ (W m c) (B m c) (C m c) hf j1)
      (Cert.FfnActRefIdeal.Value.run m' ρ')⟩

end Cert.FfnAlg

end
-- ==== Proof.GluRun.lean ====
module

public import proofs.«01_k».proof.Proof.Gen.GluConvIdeal.Loops
public import proofs.«01_k».proof.Proof.Gen.GluConvIdeal.Frame
public import Idealize.ShloMosaic.Lib.WordCmp

@[expose] public section

set_option maxRecDepth 16384

noncomputable section

namespace Cert.GluConvIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.GluConvIdeal.Gen

variable {F : FTy → Type} [FloatOps F]

local notation "𝕄G" => MT nD τ sig Unit (Elt F) ℕ (UR sig nD τ) ℕ

set_option maxHeartbeats 16000000 in
/-- The body at any grid point: the pieces it leaves in each of its four results, from the blocks it reads and what the
buffers it fills happen to hold, with the proof that it runs to its end leaving them. -/
noncomputable def runF (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S31x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S31x128 .f32) (harg7 : arg7.IsWhole) (arg8 : Memref sig .tc .vmem S1x128 .f32) (harg8 : arg8.IsWhole) (arg9 : Memref sig .tc .vmem S2080x128 .f32) (harg9 : arg9.IsWhole) (arg10 : Memref sig .tc .vmem S2080x128 .f32) (harg10 : arg10.IsWhole) (arg11 : Memref sig .tc .vmem S256x128 .f32) (harg11 : arg11.IsWhole) (x1 : Vec F S2048x128 .f32) (x2 : Vec F S2048x128 .f32) (x3 : Vec F S31x128 .f32) (x4 : Vec F S2048x128 .f32) (f5 : BufTy.Contents (Elt F) arg5.view.ty) (f6 : BufTy.Contents (Elt F) arg6.view.ty) (f9 : BufTy.Contents (Elt F) arg9.view.ty) (f10 : BufTy.Contents (Elt F) arg10.view.ty) (f11 : BufTy.Contents (Elt F) arg11.view.ty) :
    Σ' (L5 : List (View.Piece (Elt F) S2048x128 .bf16)) (L6 : List (View.Piece (Elt F) S2048x128 .bf16)) (L7 : List (View.Piece (Elt F) S31x128 .f32)), { L8 : List (View.Piece (Elt F) S1x128 .f32) //
      ∀ (E : Set ℕ) (K : PUnit → sProp 𝕄G),
        iprop(owns (c : Thread nD τ) arg1 fullShare x1 ∗ owns (c : Thread nD τ) arg2 fullShare x2 ∗ owns (c : Thread nD τ) arg3 fullShare x3 ∗ owns (c : Thread nD τ) arg4 fullShare x4 ∗ (arg5.view.loc (c : Thread nD τ) ↦[arg5.view.set]{fullShare} f5) ∗ (arg6.view.loc (c : Thread nD τ) ↦[arg6.view.set]{fullShare} f6) ∗ (∃ d, owns (c : Thread nD τ) arg7 fullShare d) ∗ (∃ d, owns (c : Thread nD τ) arg8 fullShare d) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (iprop(owns (c : Thread nD τ) arg1 fullShare x1 ∗ owns (c : Thread nD τ) arg2 fullShare x2 ∗ owns (c : Thread nD τ) arg3 fullShare x3 ∗ owns (c : Thread nD τ) arg4 fullShare x4 ∗ (∃ f, (arg5.view.loc (c : Thread nD τ) ↦[arg5.view.set]{fullShare} (arg5.view.writes (Elt F) f L5))) ∗ (∃ f, (arg6.view.loc (c : Thread nD τ) ↦[arg6.view.set]{fullShare} (arg6.view.writes (Elt F) f L6))) ∗ (∃ f, (arg7.view.loc (c : Thread nD τ) ↦[arg7.view.set]{fullShare} (arg7.view.writes (Elt F) f L7))) ∗ (∃ f, (arg8.view.loc (c : Thread nD τ) ↦[arg8.view.set]{fullShare} (arg8.view.writes (Elt F) f L8))) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f))) -∗ K ⟨⟩))
          ⊢ wp frame (wpE (defs₀ (F := F)) Variants.none c none) E (cc0_glu_conv_bwd i arg1 harg1 arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0_glu_conv_bwd_eq_skeleton]; unfold cc0_glu_conv_bwd_skel
    simp only [k0_part19_eq_skeleton]; unfold k0_part19_skel
    simp only [k0_part14_eq_skeleton, k0_part15_eq_skeleton, k0_part16_eq_skeleton, k0_part17_eq_skeleton, k0_part18_eq_skeleton]
    unfold owns
    iintro ⟨⟨%g1, %hg1, H1⟩, ⟨%g2, %hg2, H2⟩, ⟨%g3, %hg3, H3⟩, ⟨%g4, %hg4, H4⟩, H5, H6, ⟨%d7, %g7, -, H7⟩, ⟨%d8, %g8, -, H8⟩, H9, H10, H11, Hk⟩
    obtain rfl := harg1.eq_unread hg1; obtain rfl := harg2.eq_unread hg2; obtain rfl := harg3.eq_unread hg3; obtain rfl := harg4.eq_unread hg4
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    iexists _; iexact H11

end Cert.GluConvIdeal.Run

end
-- ==== Proof.GluOut.lean ====
module

public import proofs.«01_k».proof.Proof.Gen.GluConvIdeal.Loops
public import proofs.«01_k».proof.Proof.GluRun
public import Idealize.ShloMosaic.Lib.WordCmp

@[expose] public section

set_option maxRecDepth 16384

noncomputable section

namespace Cert.GluConvIdeal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.GluConvIdeal.Gen

open Cert.GluConvIdeal.Run

variable {F : FTy → Type} [FloatOps F]

local notation "𝕄G" => MT nD τ sig Unit (Elt F) ℕ (UR sig nD τ) ℕ

/-- A trip of the second loop writes the same whatever the buffers it fills held before. -/
theorem trip_same (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S31x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S31x128 .f32) (harg7 : arg7.IsWhole) (arg8 : Memref sig .tc .vmem S1x128 .f32) (harg8 : arg8.IsWhole) (arg9 : Memref sig .tc .vmem S2080x128 .f32) (harg9 : arg9.IsWhole) (arg10 : Memref sig .tc .vmem S2080x128 .f32) (harg10 : arg10.IsWhole) (arg11 : Memref sig .tc .vmem S256x128 .f32) (harg11 : arg11.IsWhole) (X1 : BufTy.Contents (Elt F) arg1.view.ty) (X2 : BufTy.Contents (Elt F) arg2.view.ty) (X3 : BufTy.Contents (Elt F) arg3.view.ty) (X9 : BufTy.Contents (Elt F) arg9.view.ty) (X10 : BufTy.Contents (Elt F) arg10.view.ty) (k : Fin k0_t2_loop.trips) (G5 : BufTy.Contents (Elt F) arg5.view.ty) (G5' : BufTy.Contents (Elt F) arg5.view.ty) (G6 : BufTy.Contents (Elt F) arg6.view.ty) (G6' : BufTy.Contents (Elt F) arg6.view.ty) (G11 : BufTy.Contents (Elt F) arg11.view.ty) :
    tripL_k0_t2 (F := F) Variants.none c none i arg1 harg1 arg2 harg2 arg3 harg3 arg4 harg4 arg5 harg5 arg6 harg6 arg7 harg7 arg8 harg8 arg9 harg9 arg10 harg10 arg11 harg11 X1 X2 X3 X9 X10 k G5 G6 G11
      = tripL_k0_t2 (F := F) Variants.none c none i arg1 harg1 arg2 harg2 arg3 harg3 arg4 harg4 arg5 harg5 arg6 harg6 arg7 harg7 arg8 harg8 arg9 harg9 arg10 harg10 arg11 harg11 X1 X2 X3 X9 X10 k G5' G6' G11 := by
  unfold tripL_k0_t2 trip_k0_t2; rfl

/-- So does the loop. -/
theorem loop_same (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S31x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S31x128 .f32) (harg7 : arg7.IsWhole) (arg8 : Memref sig .tc .vmem S1x128 .f32) (harg8 : arg8.IsWhole) (arg9 : Memref sig .tc .vmem S2080x128 .f32) (harg9 : arg9.IsWhole) (arg10 : Memref sig .tc .vmem S2080x128 .f32) (harg10 : arg10.IsWhole) (arg11 : Memref sig .tc .vmem S256x128 .f32) (harg11 : arg11.IsWhole) (X1 : BufTy.Contents (Elt F) arg1.view.ty) (X2 : BufTy.Contents (Elt F) arg2.view.ty) (X3 : BufTy.Contents (Elt F) arg3.view.ty) (X9 : BufTy.Contents (Elt F) arg9.view.ty) (X10 : BufTy.Contents (Elt F) arg10.view.ty) (G5 : BufTy.Contents (Elt F) arg5.view.ty) (G5' : BufTy.Contents (Elt F) arg5.view.ty) (G6 : BufTy.Contents (Elt F) arg6.view.ty) (G6' : BufTy.Contents (Elt F) arg6.view.ty) (G11 : BufTy.Contents (Elt F) arg11.view.ty) (k : ℕ) :
    pb_k0_t2 (F := F) Variants.none c none i arg1 harg1 arg2 harg2 arg3 harg3 arg4 harg4 arg5 harg5 arg6 harg6 arg7 harg7 arg8 harg8 arg9 harg9 arg10 harg10 arg11 harg11 X1 X2 X3 X9 X10 G5 G6 G11 k
      = pb_k0_t2 (F := F) Variants.none c none i arg1 harg1 arg2 harg2 arg3 harg3 arg4 harg4 arg5 harg5 arg6 harg6 arg7 harg7 arg8 harg8 arg9 harg9 arg10 harg10 arg11 harg11 X1 X2 X3 X9 X10 G5' G6' G11 k := by
  induction k with
  | zero => rfl
  | succ k ih =>
    rw [pb_k0_t2.eq_2, pb_k0_t2.eq_2, ih]
    unfold pb_k0_t2Step
    by_cases h : k < k0_t2_loop.trips
    · rw [dif_pos h, dif_pos h, trip_same c i arg1 harg1 arg2 harg2 arg3 harg3 arg4 harg4 arg5 harg5 arg6 harg6 arg7 harg7 arg8 harg8 arg9 harg9 arg10 harg10 arg11 harg11 X1 X2 X3 X9 X10 ⟨k, h⟩ (arg5.view.writes (Elt F) G5 _) (arg5.view.writes (Elt F) G5' _)
        (arg6.view.writes (Elt F) G6 _) (arg6.view.writes (Elt F) G6' _)]
    · rw [dif_neg h, dif_neg h]

/-- What the first loop writes: the gated values and the incoming gradient. -/
def pads (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S31x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S31x128 .f32) (harg7 : arg7.IsWhole) (arg8 : Memref sig .tc .vmem S1x128 .f32) (harg8 : arg8.IsWhole) (arg9 : Memref sig .tc .vmem S2080x128 .f32) (harg9 : arg9.IsWhole) (arg10 : Memref sig .tc .vmem S2080x128 .f32) (harg10 : arg10.IsWhole) (arg11 : Memref sig .tc .vmem S256x128 .f32) (harg11 : arg11.IsWhole) (x1 : Vec F S2048x128 .f32) (x2 : Vec F S2048x128 .f32) (x3 : Vec F S31x128 .f32) (x4 : Vec F S2048x128 .f32) : List (View.Piece (Elt F) S2080x128 .f32) × List (View.Piece (Elt F) S2080x128 .f32) :=
  pb_k0_t1 (F := F) Variants.none c none i arg1 harg1 arg2 harg2 arg3 harg3 arg4 harg4 arg5 harg5 arg6 harg6 arg7 harg7 arg8 harg8 arg9 harg9 arg10 harg10 arg11 harg11 (harg1.unread x1) (harg2.unread x2) (harg4.unread x4) (Scf.trips k0_t1_loop.lb k0_t1_loop.ub k0_t1_loop.st)

/-- The gated values under 32 rows of zeros. -/
def S9 (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S31x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S31x128 .f32) (harg7 : arg7.IsWhole) (arg8 : Memref sig .tc .vmem S1x128 .f32) (harg8 : arg8.IsWhole) (arg9 : Memref sig .tc .vmem S2080x128 .f32) (harg9 : arg9.IsWhole) (arg10 : Memref sig .tc .vmem S2080x128 .f32) (harg10 : arg10.IsWhole) (arg11 : Memref sig .tc .vmem S256x128 .f32) (harg11 : arg11.IsWhole) (x1 : Vec F S2048x128 .f32) (x2 : Vec F S2048x128 .f32) (x3 : Vec F S31x128 .f32) (x4 : Vec F S2048x128 .f32) : BufTy.Contents (Elt F) arg9.view.ty :=
  arg9.view.writes (Elt F) arg9.view.junk ((pads c i arg1 harg1 arg2 harg2 arg3 harg3 arg4 harg4 arg5 harg5 arg6 harg6 arg7 harg7 arg8 harg8 arg9 harg9 arg10 harg10 arg11 harg11 x1 x2 x3 x4).1 ++ [⟨Rect.unit ![0, 0] S32x128.size inb_S2080x128_S32x128_0_0, k0_pay119⟩])

/-- The incoming gradient above 32 rows of zeros. -/
def S10 (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S31x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S31x128 .f32) (harg7 : arg7.IsWhole) (arg8 : Memref sig .tc .vmem S1x128 .f32) (harg8 : arg8.IsWhole) (arg9 : Memref sig .tc .vmem S2080x128 .f32) (harg9 : arg9.IsWhole) (arg10 : Memref sig .tc .vmem S2080x128 .f32) (harg10 : arg10.IsWhole) (arg11 : Memref sig .tc .vmem S256x128 .f32) (harg11 : arg11.IsWhole) (x1 : Vec F S2048x128 .f32) (x2 : Vec F S2048x128 .f32) (x3 : Vec F S31x128 .f32) (x4 : Vec F S2048x128 .f32) : BufTy.Contents (Elt F) arg10.view.ty :=
  arg10.view.writes (Elt F) arg10.view.junk ((pads c i arg1 harg1 arg2 harg2 arg3 harg3 arg4 harg4 arg5 harg5 arg6 harg6 arg7 harg7 arg8 harg8 arg9 harg9 arg10 harg10 arg11 harg11 x1 x2 x3 x4).2 ++ [⟨Rect.unit ![2048, 0] S32x128.size inb_S2080x128_S32x128_2048_0, k0_pay120⟩])

/-- What the second loop writes: the gradients of the value and of the gate, the sums. -/
def mid (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S31x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S31x128 .f32) (harg7 : arg7.IsWhole) (arg8 : Memref sig .tc .vmem S1x128 .f32) (harg8 : arg8.IsWhole) (arg9 : Memref sig .tc .vmem S2080x128 .f32) (harg9 : arg9.IsWhole) (arg10 : Memref sig .tc .vmem S2080x128 .f32) (harg10 : arg10.IsWhole) (arg11 : Memref sig .tc .vmem S256x128 .f32) (harg11 : arg11.IsWhole) (x1 : Vec F S2048x128 .f32) (x2 : Vec F S2048x128 .f32) (x3 : Vec F S31x128 .f32) (x4 : Vec F S2048x128 .f32) : List (View.Piece (Elt F) S2048x128 .bf16) × List (View.Piece (Elt F) S2048x128 .bf16) × List (View.Piece (Elt F) S256x128 .f32) :=
  pb_k0_t2 (F := F) Variants.none c none i arg1 harg1 arg2 harg2 arg3 harg3 arg4 harg4 arg5 harg5 arg6 harg6 arg7 harg7 arg8 harg8 arg9 harg9 arg10 harg10 arg11 harg11 (harg1.unread x1) (harg2.unread x2) (harg3.unread x3) (S9 c i arg1 harg1 arg2 harg2 arg3 harg3 arg4 harg4 arg5 harg5 arg6 harg6 arg7 harg7 arg8 harg8 arg9 harg9 arg10 harg10 arg11 harg11 x1 x2 x3 x4) (S10 c i arg1 harg1 arg2 harg2 arg3 harg3 arg4 harg4 arg5 harg5 arg6 harg6 arg7 harg7 arg8 harg8 arg9 harg9 arg10 harg10 arg11 harg11 x1 x2 x3 x4) arg5.view.junk arg6.view.junk
    (arg11.view.writes (Elt F) arg11.view.junk [⟨Rect.unit ![0, 0] S256x128.size inb_S256x128_S256x128_0_0, k0_pay121⟩]) (Scf.trips k0_t2_loop.lb k0_t2_loop.ub k0_t2_loop.st)

/-- Eight rows of the sums. -/
def part (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S31x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S31x128 .f32) (harg7 : arg7.IsWhole) (arg8 : Memref sig .tc .vmem S1x128 .f32) (harg8 : arg8.IsWhole) (arg9 : Memref sig .tc .vmem S2080x128 .f32) (harg9 : arg9.IsWhole) (arg10 : Memref sig .tc .vmem S2080x128 .f32) (harg10 : arg10.IsWhole) (arg11 : Memref sig .tc .vmem S256x128 .f32) (harg11 : arg11.IsWhole) (x1 : Vec F S2048x128 .f32) (x2 : Vec F S2048x128 .f32) (x3 : Vec F S31x128 .f32) (x4 : Vec F S2048x128 .f32) (B : LoadRect S256x128) : B.shape.Idx → Elt F .f32 :=
  arg11.view.readCov ((mid c i arg1 harg1 arg2 harg2 arg3 harg3 arg4 harg4 arg5 harg5 arg6 harg6 arg7 harg7 arg8 harg8 arg9 harg9 arg10 harg10 arg11 harg11 x1 x2 x3 x4).2.2 ++ [⟨Rect.unit ![0, 0] S256x128.size inb_S256x128_S256x128_0_0, k0_pay121⟩]) B

/-- One row of the taps. -/
theorem row_in (k : Fin 31) : ∀ a, (![k.val, 0] : Fin S31x128.rank → ℕ) a + S1x128.size a ≤ S31x128.size a := by
  revert k; decide

/-- Eight rows of the sums. -/
theorem fold_in (k : Fin 32) : ∀ a, (![8 * k.val, 0] : Fin S256x128.rank → ℕ) a + S8x128.size a ≤ S256x128.size a := by
  revert k; decide

/-- The eight rows of the sums that belong to tap `k`, the bias's at 31. -/
def fold (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S31x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S31x128 .f32) (harg7 : arg7.IsWhole) (arg8 : Memref sig .tc .vmem S1x128 .f32) (harg8 : arg8.IsWhole) (arg9 : Memref sig .tc .vmem S2080x128 .f32) (harg9 : arg9.IsWhole) (arg10 : Memref sig .tc .vmem S2080x128 .f32) (harg10 : arg10.IsWhole) (arg11 : Memref sig .tc .vmem S256x128 .f32) (harg11 : arg11.IsWhole) (x1 : Vec F S2048x128 .f32) (x2 : Vec F S2048x128 .f32) (x3 : Vec F S31x128 .f32) (x4 : Vec F S2048x128 .f32) (k : Fin 32) : Vec F S8x128 .f32 :=
  part c i arg1 harg1 arg2 harg2 arg3 harg3 arg4 harg4 arg5 harg5 arg6 harg6 arg7 harg7 arg8 harg8 arg9 harg9 arg10 harg10 arg11 harg11 x1 x2 x3 x4 (Rect.unit (s := S256x128) ![8 * k.val, 0] S8x128.size (fold_in k)).toLoadRect

/-- The rows of the taps' gradient, the last one first. -/
def taps (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S31x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S31x128 .f32) (harg7 : arg7.IsWhole) (arg8 : Memref sig .tc .vmem S1x128 .f32) (harg8 : arg8.IsWhole) (arg9 : Memref sig .tc .vmem S2080x128 .f32) (harg9 : arg9.IsWhole) (arg10 : Memref sig .tc .vmem S2080x128 .f32) (harg10 : arg10.IsWhole) (arg11 : Memref sig .tc .vmem S256x128 .f32) (harg11 : arg11.IsWhole) (x1 : Vec F S2048x128 .f32) (x2 : Vec F S2048x128 .f32) (x3 : Vec F S31x128 .f32) (x4 : Vec F S2048x128 .f32) : List (View.Piece (Elt F) S31x128 .f32) :=
  (List.finRange 31).reverse.map fun k => ⟨Rect.unit (s := S31x128) ![k.val, 0] S1x128.size (row_in k), k0_pay124 (fold c i arg1 harg1 arg2 harg2 arg3 harg3 arg4 harg4 arg5 harg5 arg6 harg6 arg7 harg7 arg8 harg8 arg9 harg9 arg10 harg10 arg11 harg11 x1 x2 x3 x4 k.castSucc)⟩

/-- The bias's gradient. -/
def bias (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S31x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S31x128 .f32) (harg7 : arg7.IsWhole) (arg8 : Memref sig .tc .vmem S1x128 .f32) (harg8 : arg8.IsWhole) (arg9 : Memref sig .tc .vmem S2080x128 .f32) (harg9 : arg9.IsWhole) (arg10 : Memref sig .tc .vmem S2080x128 .f32) (harg10 : arg10.IsWhole) (arg11 : Memref sig .tc .vmem S256x128 .f32) (harg11 : arg11.IsWhole) (x1 : Vec F S2048x128 .f32) (x2 : Vec F S2048x128 .f32) (x3 : Vec F S31x128 .f32) (x4 : Vec F S2048x128 .f32) : List (View.Piece (Elt F) S1x128 .f32) :=
  [⟨Rect.unit (s := S1x128) ![0, 0] S1x128.size inb_S1x128_S1x128_0_0, k0_pay155 (fold c i arg1 harg1 arg2 harg2 arg3 harg3 arg4 harg4 arg5 harg5 arg6 harg6 arg7 harg7 arg8 harg8 arg9 harg9 arg10 harg10 arg11 harg11 x1 x2 x3 x4 31)⟩]

/-- The zeros and the tiles fill the padded values. -/
theorem cover9 (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S31x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S31x128 .f32) (harg7 : arg7.IsWhole) (arg8 : Memref sig .tc .vmem S1x128 .f32) (harg8 : arg8.IsWhole) (arg9 : Memref sig .tc .vmem S2080x128 .f32) (harg9 : arg9.IsWhole) (arg10 : Memref sig .tc .vmem S2080x128 .f32) (harg10 : arg10.IsWhole) (arg11 : Memref sig .tc .vmem S256x128 .f32) (harg11 : arg11.IsWhole) (x1 : Vec F S2048x128 .f32) (x2 : Vec F S2048x128 .f32) (x3 : Vec F S31x128 .f32) (x4 : Vec F S2048x128 .f32) : ∀ y, ∃ p ∈ (pads c i arg1 harg1 arg2 harg2 arg3 harg3 arg4 harg4 arg5 harg5 arg6 harg6 arg7 harg7 arg8 harg8 arg9 harg9 arg10 harg10 arg11 harg11 x1 x2 x3 x4).1 ++ ([⟨Rect.unit ![0, 0] S32x128.size inb_S2080x128_S32x128_0_0, k0_pay119⟩] : List (View.Piece (Elt F) S2080x128 .f32)), y ∈ p.1.set :=
  View.cover_of_tiledBy _ ![32, 128] (by sl_kernel_rfl)

theorem eq9 (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S31x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S31x128 .f32) (harg7 : arg7.IsWhole) (arg8 : Memref sig .tc .vmem S1x128 .f32) (harg8 : arg8.IsWhole) (arg9 : Memref sig .tc .vmem S2080x128 .f32) (harg9 : arg9.IsWhole) (arg10 : Memref sig .tc .vmem S2080x128 .f32) (harg10 : arg10.IsWhole) (arg11 : Memref sig .tc .vmem S256x128 .f32) (harg11 : arg11.IsWhole) (x1 : Vec F S2048x128 .f32) (x2 : Vec F S2048x128 .f32) (x3 : Vec F S31x128 .f32) (x4 : Vec F S2048x128 .f32) (f9 : BufTy.Contents (Elt F) arg9.view.ty) :
    arg9.view.writes (Elt F) f9 ((pads c i arg1 harg1 arg2 harg2 arg3 harg3 arg4 harg4 arg5 harg5 arg6 harg6 arg7 harg7 arg8 harg8 arg9 harg9 arg10 harg10 arg11 harg11 x1 x2 x3 x4).1 ++ [⟨Rect.unit ![0, 0] S32x128.size inb_S2080x128_S32x128_0_0, k0_pay119⟩]) = S9 c i arg1 harg1 arg2 harg2 arg3 harg3 arg4 harg4 arg5 harg5 arg6 harg6 arg7 harg7 arg8 harg8 arg9 harg9 arg10 harg10 arg11 harg11 x1 x2 x3 x4 :=
  (harg9.eq_unread rfl).trans ((congrArg harg9.unread (View.read_writes_of_cover _ _ _ _ _ (cover9 c i arg1 harg1 arg2 harg2 arg3 harg3 arg4 harg4 arg5 harg5 arg6 harg6 arg7 harg7 arg8 harg8 arg9 harg9 arg10 harg10 arg11 harg11 x1 x2 x3 x4))).trans (harg9.eq_unread rfl).symm)

/-- The tiles and the zeros fill the padded gradient. -/
theorem cover10 (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S31x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S31x128 .f32) (harg7 : arg7.IsWhole) (arg8 : Memref sig .tc .vmem S1x128 .f32) (harg8 : arg8.IsWhole) (arg9 : Memref sig .tc .vmem S2080x128 .f32) (harg9 : arg9.IsWhole) (arg10 : Memref sig .tc .vmem S2080x128 .f32) (harg10 : arg10.IsWhole) (arg11 : Memref sig .tc .vmem S256x128 .f32) (harg11 : arg11.IsWhole) (x1 : Vec F S2048x128 .f32) (x2 : Vec F S2048x128 .f32) (x3 : Vec F S31x128 .f32) (x4 : Vec F S2048x128 .f32) : ∀ y, ∃ p ∈ (pads c i arg1 harg1 arg2 harg2 arg3 harg3 arg4 harg4 arg5 harg5 arg6 harg6 arg7 harg7 arg8 harg8 arg9 harg9 arg10 harg10 arg11 harg11 x1 x2 x3 x4).2 ++ ([⟨Rect.unit ![2048, 0] S32x128.size inb_S2080x128_S32x128_2048_0, k0_pay120⟩] : List (View.Piece (Elt F) S2080x128 .f32)), y ∈ p.1.set :=
  View.cover_of_tiledBy _ ![32, 128] (by sl_kernel_rfl)

theorem eq10 (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S31x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S31x128 .f32) (harg7 : arg7.IsWhole) (arg8 : Memref sig .tc .vmem S1x128 .f32) (harg8 : arg8.IsWhole) (arg9 : Memref sig .tc .vmem S2080x128 .f32) (harg9 : arg9.IsWhole) (arg10 : Memref sig .tc .vmem S2080x128 .f32) (harg10 : arg10.IsWhole) (arg11 : Memref sig .tc .vmem S256x128 .f32) (harg11 : arg11.IsWhole) (x1 : Vec F S2048x128 .f32) (x2 : Vec F S2048x128 .f32) (x3 : Vec F S31x128 .f32) (x4 : Vec F S2048x128 .f32) (f10 : BufTy.Contents (Elt F) arg10.view.ty) :
    arg10.view.writes (Elt F) f10 ((pads c i arg1 harg1 arg2 harg2 arg3 harg3 arg4 harg4 arg5 harg5 arg6 harg6 arg7 harg7 arg8 harg8 arg9 harg9 arg10 harg10 arg11 harg11 x1 x2 x3 x4).2 ++ [⟨Rect.unit ![2048, 0] S32x128.size inb_S2080x128_S32x128_2048_0, k0_pay120⟩]) = S10 c i arg1 harg1 arg2 harg2 arg3 harg3 arg4 harg4 arg5 harg5 arg6 harg6 arg7 harg7 arg8 harg8 arg9 harg9 arg10 harg10 arg11 harg11 x1 x2 x3 x4 :=
  (harg10.eq_unread rfl).trans ((congrArg harg10.unread (View.read_writes_of_cover _ _ _ _ _ (cover10 c i arg1 harg1 arg2 harg2 arg3 harg3 arg4 harg4 arg5 harg5 arg6 harg6 arg7 harg7 arg8 harg8 arg9 harg9 arg10 harg10 arg11 harg11 x1 x2 x3 x4))).trans (harg10.eq_unread rfl).symm)

/-- Tiles fill the value's gradient. -/
theorem cover5 (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S31x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S31x128 .f32) (harg7 : arg7.IsWhole) (arg8 : Memref sig .tc .vmem S1x128 .f32) (harg8 : arg8.IsWhole) (arg9 : Memref sig .tc .vmem S2080x128 .f32) (harg9 : arg9.IsWhole) (arg10 : Memref sig .tc .vmem S2080x128 .f32) (harg10 : arg10.IsWhole) (arg11 : Memref sig .tc .vmem S256x128 .f32) (harg11 : arg11.IsWhole) (x1 : Vec F S2048x128 .f32) (x2 : Vec F S2048x128 .f32) (x3 : Vec F S31x128 .f32) (x4 : Vec F S2048x128 .f32) : ∀ y, ∃ p ∈ (mid c i arg1 harg1 arg2 harg2 arg3 harg3 arg4 harg4 arg5 harg5 arg6 harg6 arg7 harg7 arg8 harg8 arg9 harg9 arg10 harg10 arg11 harg11 x1 x2 x3 x4).1, y ∈ p.1.set :=
  View.cover_of_tiledL _ S256x128.size (by sl_kernel_rfl)

/-- Tiles fill the gate's gradient. -/
theorem cover6 (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S31x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S31x128 .f32) (harg7 : arg7.IsWhole) (arg8 : Memref sig .tc .vmem S1x128 .f32) (harg8 : arg8.IsWhole) (arg9 : Memref sig .tc .vmem S2080x128 .f32) (harg9 : arg9.IsWhole) (arg10 : Memref sig .tc .vmem S2080x128 .f32) (harg10 : arg10.IsWhole) (arg11 : Memref sig .tc .vmem S256x128 .f32) (harg11 : arg11.IsWhole) (x1 : Vec F S2048x128 .f32) (x2 : Vec F S2048x128 .f32) (x3 : Vec F S31x128 .f32) (x4 : Vec F S2048x128 .f32) : ∀ y, ∃ p ∈ (mid c i arg1 harg1 arg2 harg2 arg3 harg3 arg4 harg4 arg5 harg5 arg6 harg6 arg7 harg7 arg8 harg8 arg9 harg9 arg10 harg10 arg11 harg11 x1 x2 x3 x4).2.1, y ∈ p.1.set :=
  View.cover_of_tiledL _ S256x128.size (by sl_kernel_rfl)

theorem mid_eq (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S31x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S31x128 .f32) (harg7 : arg7.IsWhole) (arg8 : Memref sig .tc .vmem S1x128 .f32) (harg8 : arg8.IsWhole) (arg9 : Memref sig .tc .vmem S2080x128 .f32) (harg9 : arg9.IsWhole) (arg10 : Memref sig .tc .vmem S2080x128 .f32) (harg10 : arg10.IsWhole) (arg11 : Memref sig .tc .vmem S256x128 .f32) (harg11 : arg11.IsWhole) (x1 : Vec F S2048x128 .f32) (x2 : Vec F S2048x128 .f32) (x3 : Vec F S31x128 .f32) (x4 : Vec F S2048x128 .f32) (f5 : BufTy.Contents (Elt F) arg5.view.ty) (f6 : BufTy.Contents (Elt F) arg6.view.ty) (f9 : BufTy.Contents (Elt F) arg9.view.ty) (f10 : BufTy.Contents (Elt F) arg10.view.ty) (f11 : BufTy.Contents (Elt F) arg11.view.ty) (k : ℕ) (hk : k = (Scf.trips k0_t2_loop.lb k0_t2_loop.ub k0_t2_loop.st)) :
    pb_k0_t2 (F := F) Variants.none c none i arg1 harg1 arg2 harg2 arg3 harg3 arg4 harg4 arg5 harg5 arg6 harg6 arg7 harg7 arg8 harg8 arg9 harg9 arg10 harg10 arg11 harg11 (harg1.unread x1) (harg2.unread x2) (harg3.unread x3) (arg9.view.writes (Elt F) f9 ((pads c i arg1 harg1 arg2 harg2 arg3 harg3 arg4 harg4 arg5 harg5 arg6 harg6 arg7 harg7 arg8 harg8 arg9 harg9 arg10 harg10 arg11 harg11 x1 x2 x3 x4).1 ++ [⟨Rect.unit ![0, 0] S32x128.size inb_S2080x128_S32x128_0_0, k0_pay119⟩]))
      (arg10.view.writes (Elt F) f10 ((pads c i arg1 harg1 arg2 harg2 arg3 harg3 arg4 harg4 arg5 harg5 arg6 harg6 arg7 harg7 arg8 harg8 arg9 harg9 arg10 harg10 arg11 harg11 x1 x2 x3 x4).2 ++ [⟨Rect.unit ![2048, 0] S32x128.size inb_S2080x128_S32x128_2048_0, k0_pay120⟩])) f5 f6 (arg11.view.writes (Elt F) arg11.view.junk [⟨Rect.unit ![0, 0] S256x128.size inb_S256x128_S256x128_0_0, k0_pay121⟩]) k = mid c i arg1 harg1 arg2 harg2 arg3 harg3 arg4 harg4 arg5 harg5 arg6 harg6 arg7 harg7 arg8 harg8 arg9 harg9 arg10 harg10 arg11 harg11 x1 x2 x3 x4 := by
  subst hk; rw [eq9, eq10]; exact loop_same ..

theorem run5 (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S31x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S31x128 .f32) (harg7 : arg7.IsWhole) (arg8 : Memref sig .tc .vmem S1x128 .f32) (harg8 : arg8.IsWhole) (arg9 : Memref sig .tc .vmem S2080x128 .f32) (harg9 : arg9.IsWhole) (arg10 : Memref sig .tc .vmem S2080x128 .f32) (harg10 : arg10.IsWhole) (arg11 : Memref sig .tc .vmem S256x128 .f32) (harg11 : arg11.IsWhole) (x1 : Vec F S2048x128 .f32) (x2 : Vec F S2048x128 .f32) (x3 : Vec F S31x128 .f32) (x4 : Vec F S2048x128 .f32) (f5 : BufTy.Contents (Elt F) arg5.view.ty) (f6 : BufTy.Contents (Elt F) arg6.view.ty) (f9 : BufTy.Contents (Elt F) arg9.view.ty) (f10 : BufTy.Contents (Elt F) arg10.view.ty) (f11 : BufTy.Contents (Elt F) arg11.view.ty) : (runF c i arg1 harg1 arg2 harg2 arg3 harg3 arg4 harg4 arg5 harg5 arg6 harg6 arg7 harg7 arg8 harg8 arg9 harg9 arg10 harg10 arg11 harg11 x1 x2 x3 x4 f5 f6 f9 f10 f11).1 = (mid c i arg1 harg1 arg2 harg2 arg3 harg3 arg4 harg4 arg5 harg5 arg6 harg6 arg7 harg7 arg8 harg8 arg9 harg9 arg10 harg10 arg11 harg11 x1 x2 x3 x4).1 := by
  unfold runF; dsimp only
  sl_unfold_words
  have h := mid_eq c i arg1 harg1 arg2 harg2 arg3 harg3 arg4 harg4 arg5 harg5 arg6 harg6 arg7 harg7 arg8 harg8 arg9 harg9 arg10 harg10 arg11 harg11 x1 x2 x3 x4 f5 f6 f9 f10 f11 _ rfl
  unfold pads at h
  rw [h]

theorem run6 (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S31x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S31x128 .f32) (harg7 : arg7.IsWhole) (arg8 : Memref sig .tc .vmem S1x128 .f32) (harg8 : arg8.IsWhole) (arg9 : Memref sig .tc .vmem S2080x128 .f32) (harg9 : arg9.IsWhole) (arg10 : Memref sig .tc .vmem S2080x128 .f32) (harg10 : arg10.IsWhole) (arg11 : Memref sig .tc .vmem S256x128 .f32) (harg11 : arg11.IsWhole) (x1 : Vec F S2048x128 .f32) (x2 : Vec F S2048x128 .f32) (x3 : Vec F S31x128 .f32) (x4 : Vec F S2048x128 .f32) (f5 : BufTy.Contents (Elt F) arg5.view.ty) (f6 : BufTy.Contents (Elt F) arg6.view.ty) (f9 : BufTy.Contents (Elt F) arg9.view.ty) (f10 : BufTy.Contents (Elt F) arg10.view.ty) (f11 : BufTy.Contents (Elt F) arg11.view.ty) : (runF c i arg1 harg1 arg2 harg2 arg3 harg3 arg4 harg4 arg5 harg5 arg6 harg6 arg7 harg7 arg8 harg8 arg9 harg9 arg10 harg10 arg11 harg11 x1 x2 x3 x4 f5 f6 f9 f10 f11).2.1 = (mid c i arg1 harg1 arg2 harg2 arg3 harg3 arg4 harg4 arg5 harg5 arg6 harg6 arg7 harg7 arg8 harg8 arg9 harg9 arg10 harg10 arg11 harg11 x1 x2 x3 x4).2.1 := by
  unfold runF; dsimp only
  sl_unfold_words
  have h := mid_eq c i arg1 harg1 arg2 harg2 arg3 harg3 arg4 harg4 arg5 harg5 arg6 harg6 arg7 harg7 arg8 harg8 arg9 harg9 arg10 harg10 arg11 harg11 x1 x2 x3 x4 f5 f6 f9 f10 f11 _ rfl
  unfold pads at h
  rw [h]

/-- Rows fill the taps' gradient. -/
theorem cover7 (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S31x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S31x128 .f32) (harg7 : arg7.IsWhole) (arg8 : Memref sig .tc .vmem S1x128 .f32) (harg8 : arg8.IsWhole) (arg9 : Memref sig .tc .vmem S2080x128 .f32) (harg9 : arg9.IsWhole) (arg10 : Memref sig .tc .vmem S2080x128 .f32) (harg10 : arg10.IsWhole) (arg11 : Memref sig .tc .vmem S256x128 .f32) (harg11 : arg11.IsWhole) (x1 : Vec F S2048x128 .f32) (x2 : Vec F S2048x128 .f32) (x3 : Vec F S31x128 .f32) (x4 : Vec F S2048x128 .f32) : ∀ y, ∃ p ∈ taps c i arg1 harg1 arg2 harg2 arg3 harg3 arg4 harg4 arg5 harg5 arg6 harg6 arg7 harg7 arg8 harg8 arg9 harg9 arg10 harg10 arg11 harg11 x1 x2 x3 x4, y ∈ p.1.set :=
  View.cover_of_tiledL _ S1x128.size (by sl_kernel_rfl)

/-- One row fills the bias's gradient. -/
theorem cover8 (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S31x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S31x128 .f32) (harg7 : arg7.IsWhole) (arg8 : Memref sig .tc .vmem S1x128 .f32) (harg8 : arg8.IsWhole) (arg9 : Memref sig .tc .vmem S2080x128 .f32) (harg9 : arg9.IsWhole) (arg10 : Memref sig .tc .vmem S2080x128 .f32) (harg10 : arg10.IsWhole) (arg11 : Memref sig .tc .vmem S256x128 .f32) (harg11 : arg11.IsWhole) (x1 : Vec F S2048x128 .f32) (x2 : Vec F S2048x128 .f32) (x3 : Vec F S31x128 .f32) (x4 : Vec F S2048x128 .f32) : ∀ y, ∃ p ∈ bias c i arg1 harg1 arg2 harg2 arg3 harg3 arg4 harg4 arg5 harg5 arg6 harg6 arg7 harg7 arg8 harg8 arg9 harg9 arg10 harg10 arg11 harg11 x1 x2 x3 x4, y ∈ p.1.set :=
  View.cover_of_tiledL _ S1x128.size (by sl_kernel_rfl)

theorem run7 (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S31x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S31x128 .f32) (harg7 : arg7.IsWhole) (arg8 : Memref sig .tc .vmem S1x128 .f32) (harg8 : arg8.IsWhole) (arg9 : Memref sig .tc .vmem S2080x128 .f32) (harg9 : arg9.IsWhole) (arg10 : Memref sig .tc .vmem S2080x128 .f32) (harg10 : arg10.IsWhole) (arg11 : Memref sig .tc .vmem S256x128 .f32) (harg11 : arg11.IsWhole) (x1 : Vec F S2048x128 .f32) (x2 : Vec F S2048x128 .f32) (x3 : Vec F S31x128 .f32) (x4 : Vec F S2048x128 .f32) (f5 : BufTy.Contents (Elt F) arg5.view.ty) (f6 : BufTy.Contents (Elt F) arg6.view.ty) (f9 : BufTy.Contents (Elt F) arg9.view.ty) (f10 : BufTy.Contents (Elt F) arg10.view.ty) (f11 : BufTy.Contents (Elt F) arg11.view.ty) : (runF c i arg1 harg1 arg2 harg2 arg3 harg3 arg4 harg4 arg5 harg5 arg6 harg6 arg7 harg7 arg8 harg8 arg9 harg9 arg10 harg10 arg11 harg11 x1 x2 x3 x4 f5 f6 f9 f10 f11).2.2.1 = taps c i arg1 harg1 arg2 harg2 arg3 harg3 arg4 harg4 arg5 harg5 arg6 harg6 arg7 harg7 arg8 harg8 arg9 harg9 arg10 harg10 arg11 harg11 x1 x2 x3 x4 := by
  unfold runF; dsimp only
  sl_unfold_words
  have h := mid_eq c i arg1 harg1 arg2 harg2 arg3 harg3 arg4 harg4 arg5 harg5 arg6 harg6 arg7 harg7 arg8 harg8 arg9 harg9 arg10 harg10 arg11 harg11 x1 x2 x3 x4 f5 f6 f9 f10 f11 _ rfl
  unfold pads at h
  rw [h]; rfl

theorem run8 (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S31x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S31x128 .f32) (harg7 : arg7.IsWhole) (arg8 : Memref sig .tc .vmem S1x128 .f32) (harg8 : arg8.IsWhole) (arg9 : Memref sig .tc .vmem S2080x128 .f32) (harg9 : arg9.IsWhole) (arg10 : Memref sig .tc .vmem S2080x128 .f32) (harg10 : arg10.IsWhole) (arg11 : Memref sig .tc .vmem S256x128 .f32) (harg11 : arg11.IsWhole) (x1 : Vec F S2048x128 .f32) (x2 : Vec F S2048x128 .f32) (x3 : Vec F S31x128 .f32) (x4 : Vec F S2048x128 .f32) (f5 : BufTy.Contents (Elt F) arg5.view.ty) (f6 : BufTy.Contents (Elt F) arg6.view.ty) (f9 : BufTy.Contents (Elt F) arg9.view.ty) (f10 : BufTy.Contents (Elt F) arg10.view.ty) (f11 : BufTy.Contents (Elt F) arg11.view.ty) : (runF c i arg1 harg1 arg2 harg2 arg3 harg3 arg4 harg4 arg5 harg5 arg6 harg6 arg7 harg7 arg8 harg8 arg9 harg9 arg10 harg10 arg11 harg11 x1 x2 x3 x4 f5 f6 f9 f10 f11).2.2.2.1 = bias c i arg1 harg1 arg2 harg2 arg3 harg3 arg4 harg4 arg5 harg5 arg6 harg6 arg7 harg7 arg8 harg8 arg9 harg9 arg10 harg10 arg11 harg11 x1 x2 x3 x4 := by
  unfold runF; dsimp only
  sl_unfold_words
  have h := mid_eq c i arg1 harg1 arg2 harg2 arg3 harg3 arg4 harg4 arg5 harg5 arg6 harg6 arg7 harg7 arg8 harg8 arg9 harg9 arg10 harg10 arg11 harg11 x1 x2 x3 x4 f5 f6 f9 f10 f11 _ rfl
  unfold pads at h
  rw [h]; rfl

end Cert.GluConvIdeal.Out

end
-- ==== Proof.GluFrm.lean ====
module

public import proofs.«01_k».proof.Proof.Gen.GluConvIdeal.Loops
public import proofs.«01_k».proof.Proof.GluOut
public import Idealize.ShloMosaic.Lib.Claim
public import Idealize.ShloMosaic.Lib.WordCmp

@[expose] public section

set_option maxRecDepth 16384

noncomputable section

namespace Cert.GluConvIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.GluConvIdeal.Gen

open Cert.GluConvIdeal.Run
open Cert.GluConvIdeal.Out
open Idealize.ShloMosaic.Pipeline (Dat Cfg Window BodyObligation cellOf)

variable {F : FTy → Type} [FloatOps F]

local notation "𝕄G" => MT nD τ sig Unit (Elt F) ℕ (UR sig nD τ) ℕ

variable (m : (ℓ : Loc nD τ sig) → Buf (Elt F) ℓ) (ρ : Dev nD → PrngReg)

/-- One staging buffer of the value's gradient, through which its contents are stated. -/
abbrev VO4 : View sig .tc .vmem S2048x128 .bf16 := (Memref.whole cc0_stg4_0 : Memref sig .tc .vmem S2048x128 .bf16).view
/-- One staging buffer of the gate's gradient, through which its contents are stated. -/
abbrev VO5 : View sig .tc .vmem S2048x128 .bf16 := (Memref.whole cc0_stg5_0 : Memref sig .tc .vmem S2048x128 .bf16).view
/-- One staging buffer of the taps's gradient, through which its contents are stated. -/
abbrev VO6 : View sig .tc .vmem S31x128 .f32 := (Memref.whole cc0_stg6_0 : Memref sig .tc .vmem S31x128 .f32).view
/-- One staging buffer of the bias's gradient, through which its contents are stated. -/
abbrev VO7 : View sig .tc .vmem S1x128 .f32 := (Memref.whole cc0_stg7_0 : Memref sig .tc .vmem S1x128 .f32).view
abbrev ms0 (t : Fin cfg0.N) : Memref sig .tc .vmem S2048x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S31x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x128 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S2048x128 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S31x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x128 .f32 := win0_7.stage (cfg0.slots t 7)
abbrev hs7 (t : Fin cfg0.N) : (ms7 t).IsWhole := hstage0_7 ((cfg0.slots t 7).cast nbuf0_7)

/-- What point `t` leaves in the value's gradient. -/
def out4 (c : Dev nD) (t : Fin cfg0.N) : Vec F S2048x128 .bf16 :=
  VO4.read (Elt F) (VO4.writes (Elt F) VO4.junk ((mid (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t)).1))

/-- What point `t` leaves in the gate's gradient. -/
def out5 (c : Dev nD) (t : Fin cfg0.N) : Vec F S2048x128 .bf16 :=
  VO5.read (Elt F) (VO5.writes (Elt F) VO5.junk ((mid (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t)).2.1))

/-- What point `t` leaves in the taps's gradient. -/
def out6 (c : Dev nD) (t : Fin cfg0.N) : Vec F S31x128 .f32 :=
  VO6.read (Elt F) (VO6.writes (Elt F) VO6.junk (taps (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t)))

/-- What point `t` leaves in the bias's gradient. -/
def out7 (c : Dev nD) (t : Fin cfg0.N) : Vec F S1x128 .f32 :=
  VO7.read (Elt F) (VO7.writes (Elt F) VO7.junk (bias (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t)))

/-- What each staging buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 m c t
    | ⟨5, _⟩ => out5 m c t
    | ⟨6, _⟩ => out6 m c t
    | ⟨7, _⟩ => out7 m c t
    | ⟨n + 8, h⟩ => absurd (show n + 8 < 8 from h) (by omega)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = out4 m c t := by dsimp only [dats]
theorem after5 (c : Dev nD) (t : Fin cfg0.N) : (dats m 0 c).after 5 t = out5 m c t := by dsimp only [dats]
theorem after6 (c : Dev nD) (t : Fin cfg0.N) : (dats m 0 c).after 6 t = out6 m c t := by dsimp only [dats]
theorem after7 (c : Dev nD) (t : Fin cfg0.N) : (dats m 0 c).after 7 t = out7 m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- What the body is called with at point `t`. -/
def bodyPre (c : Dev nD) (t : Fin cfg0.N) : sProp 𝕄G :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- What it returns. -/
def bodyPost (c : Dev nD) (t : Fin cfg0.N) : sProp 𝕄G :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t))

/-- A scratch buffer held whole, in its two spellings. -/
theorem whole_pt (c : Dev nD) (b : Ref sig .tc) (f : Buf (Elt F) ((c : Thread nD τ).loc b)) :
    (iprop((Memref.whole b).view.loc (c : Thread nD τ) ↦[(Memref.whole b).view.set]{fullShare} f) : sProp 𝕄G)
      = iprop(((c : Thread nD τ).loc b) ↦{fullShare} f) := by
  rw [show (Memref.whole b).view.set = Finset.univ from View.set_whole b]

/-- A buffer held at what it reads is held at some contents. -/
theorem held (c : Dev nD) (a : Memref sig .tc .vmem S2048x128 .bf16) (d : Vec F S2048x128 .bf16) :
    (owns (c : Thread nD τ) a fullShare d : sProp 𝕄G) ⊢ iprop(∃ f, (a.view.loc (c : Thread nD τ) ↦[a.view.set]{fullShare} f)) := by
  unfold owns
  iintro ⟨%f, -, H⟩
  iexists f; iexact H

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0, after1, after2, after3, after4, after5, after6, after7]
  unfold Pipeline.ΦA; rw [scopedRest0_eq]
  iintro ⟨⟨⟨⟨%f9, G9⟩, ⟨%f10, G10⟩, ⟨%f11, G11⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  ihave G9 := (Entails.of_eq (whole_pt c cc0_scratch0 f9).symm) $$ G9
  ihave G10 := (Entails.of_eq (whole_pt c cc0_scratch1 f10).symm) $$ G10
  ihave G11 := (Entails.of_eq (whole_pt c cc0_scratch2 f11).symm) $$ G11
  ihave H4 := (held c (ms4 t) _) $$ H4
  icases H4 with ⟨%f5, H4⟩
  ihave H5 := (held c (ms5 t) _) $$ H5
  icases H5 with ⟨%f6, H5⟩
  iapply ((runF (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) f5 f6 f9 f10 f11).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [G9]; · iexact G9
  isplitl [G10]; · iexact G10
  isplitl [G11]; · iexact G11
  iintro ⟨H0, H1, H2, H3, ⟨%e4, H4⟩, ⟨%e5, H5⟩, ⟨%e6, H6⟩, ⟨%e7, H7⟩, ⟨%e9, G9⟩, ⟨%e10, G10⟩, ⟨%e11, G11⟩⟩
  isplitl [G9 G10 G11 Hr]
  · isplitl [G9 G10 G11]
    · isplitl [G9]; · iexists _; iapply (Entails.of_eq (whole_pt c cc0_scratch0 e9)); iexact G9
      isplitl [G10]; · iexists _; iapply (Entails.of_eq (whole_pt c cc0_scratch1 e10)); iexact G10
      iexists _; iapply (Entails.of_eq (whole_pt c cc0_scratch2 e11)); iexact G11
    iexact Hr
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; unfold out4; rw [run5]; exact View.read_writes_of_cover _ _ _ _ _ (cover5 _ _ _ _ _ _ _ _ _ _ _ _ _ _ _ _ _ _ _ _ _ _ _ _ _ _ _ _)
  isplitl [H5]
  · unfold owns; iexists _; isplitr
    swap; · iexact H5
    ipureintro; unfold out5; rw [run6]; exact View.read_writes_of_cover _ _ _ _ _ (cover6 _ _ _ _ _ _ _ _ _ _ _ _ _ _ _ _ _ _ _ _ _ _ _ _ _ _ _ _)
  isplitl [H6]
  · unfold owns; iexists _; isplitr
    swap; · iexact H6
    ipureintro; unfold out6; rw [run7]; exact View.read_writes_of_cover _ _ _ _ _ (cover7 _ _ _ _ _ _ _ _ _ _ _ _ _ _ _ _ _ _ _ _ _ _ _ _ _ _ _ _)
  unfold owns; iexists _; isplitr
  swap; · iexact H7
  ipureintro; unfold out7; rw [run8]; exact View.read_writes_of_cover _ _ _ _ _ (cover8 _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The program runs to its end, with every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The program ends with its arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.GluConvIdeal.Frm

end
-- ==== Proof.GluTop.lean ====
/- The frames of the gated convolution's gradient. -/
module

public import proofs.«01_k».proof.Defs
public import proofs.«01_k».proof.Proof.Gen.GluConv
public import proofs.«01_k».proof.Proof.Gen.GluConvRefIdeal
public import proofs.«01_k».proof.Proof.Gen.GluConvRefIdeal.Run
public import proofs.«01_k».proof.Proof.GluFrm

@[expose] public section

set_option maxRecDepth 65536

noncomputable section

namespace Cert.GluTop

open Idealize.ShloMosaic Idealize.ShloMosaic.TcCoe Idealize.SL.Sem

/-- The two programs' texts are the same. -/
theorem frame_bits (m : (ℓ : Loc Cert.GluConv.nD Cert.GluConv.τ Cert.GluConv.sig) → Buf (Elt Bits) ℓ) (g : Dev Cert.GluConv.nD → PrngReg) :
    θ_run (Cert.GluConv.defs (F := Bits)) (onTc (τ := Cert.GluConv.τ) (Cert.GluConv.main (F := Bits))) ⟨m, fun _ => 0, g⟩ (fun r => (∀ c : Dev Cert.GluConv.nD,
      r.2.mem ((c.tc : Thread Cert.GluConv.nD Cert.GluConv.τ).loc Cert.GluConv.main_arg0) = m ((c.tc : Thread Cert.GluConv.nD Cert.GluConv.τ).loc Cert.GluConv.main_arg0)
      ∧ r.2.mem ((c.tc : Thread Cert.GluConv.nD Cert.GluConv.τ).loc Cert.GluConv.main_arg1) = m ((c.tc : Thread Cert.GluConv.nD Cert.GluConv.τ).loc Cert.GluConv.main_arg1)
      ∧ r.2.mem ((c.tc : Thread Cert.GluConv.nD Cert.GluConv.τ).loc Cert.GluConv.main_arg2) = m ((c.tc : Thread Cert.GluConv.nD Cert.GluConv.τ).loc Cert.GluConv.main_arg2))
      ∧ r.2.sem = fun _ => 0) :=
  Eq.mp (by sl_kernel_rfl) (Cert.GluConvIdeal.Frm.frame (F := Bits) m g)

/-- The reference ends with its arguments unchanged; it declares no semaphore. -/
theorem frame_ref : Cert.quiescent_GluConvRefIdeal := fun m ρ _ =>
  (θ_run Cert.GluConvRefIdeal.defs _ _).mono (fun r h => And.intro (fun c => (h c).2.2.2.2) (Idealize.ShloMosaic.sem_eq_zero_of_no_sems (by decide) r.2))
    (Cert.GluConvRefIdeal.Value.run (F := Ideal) m ρ)

/-- The kernel, its ideal reading and the reference end with their arguments unchanged. -/
theorem frames : Cert.quiescent_GluConv ∧ Cert.quiescent_GluConvIdeal ∧ Cert.quiescent_GluConvRefIdeal :=
  ⟨fun m ρ _ => frame_bits m ρ, fun m ρ _ => Cert.GluConvIdeal.Frm.frame m ρ, frame_ref⟩

end Cert.GluTop

end
-- ==== Proof.GluFun.lean ====
/- The gradients of the gated convolution, column by column. -/
module

public import proofs.«01_k».proof.Proof.Rows

@[expose] public section

noncomputable section

namespace Cert.GluFun

open Idealize.ShloMosaic

/-- Arrays added one after another, at an entry. -/
theorem fold_at {s : Shape} {m : ℕ} (p : Fin m → FVec Ideal s .f32) (i : s.Idx) (L : List (Fin m)) (z : FVec Ideal s .f32) :
    L.foldl (fun x k => addf x (p k)) z i = z i + (L.map fun k => p k i).sum := by
  induction L generalizing z with
  | nil => exact (add_zero _).symm
  | cons k L ih => exact (ih _).trans (add_assoc _ _ _)

/-- The logistic function. -/
def sg (x : EReal) : EReal := Ideal.div 1 (1 + Ideal.exp (0 - x))

variable {n : ℕ} (a b : Vec Ideal (⟨2, ![2048, n]⟩ : Shape) .f32) (w : Vec Ideal (⟨2, ![31, n]⟩ : Shape) .f32) (d : Vec Ideal (⟨2, ![2048, n]⟩ : Shape) .f32)

/-- The gated values under 32 rows of zeros. -/
def G (s : ℕ) (q : Fin n) : EReal :=
  if h : 32 ≤ s ∧ s < 2080 then a (ix2 (⟨s - 32, by omega⟩ : Fin 2048) q) * sg (b (ix2 (⟨s - 32, by omega⟩ : Fin 2048) q)) else 0
/-- The incoming gradient above 32 rows of zeros. -/
def E (s : ℕ) (q : Fin n) : EReal := if h : s < 2048 then d (ix2 (⟨s, h⟩ : Fin 2048) q) else 0
/-- The gradient at the gated values. -/
def A (s : ℕ) (q : Fin n) : EReal := ∑ k : Fin 31, w (ix2 k q) * E d (s + (30 - k.val)) q
/-- What is summed over the rows: the 31 taps' terms, then the bias's. -/
def T (j s : ℕ) (q : Fin n) : EReal := if j < 31 then E d s q * G a b (s + (j + 2)) q else E d s q

/-- The gradients at the value, at the gate, at the taps and at the bias. -/
def dval : Vec Ideal (⟨2, ![2048, n]⟩ : Shape) .bf16 := fun j => A w d (j 0).val (j 1) * sg (b j)
def dgate : Vec Ideal (⟨2, ![2048, n]⟩ : Shape) .bf16 := fun j => A w d (j 0).val (j 1) * a j * sg (b j) * (1 - sg (b j))
def dtap : Vec Ideal (⟨2, ![31, n]⟩ : Shape) .f32 := fun j => ∑ s ∈ Finset.range 2048, T a b d (j 0).val s (j 1)
def dbias : Vec Ideal (⟨2, ![1, n]⟩ : Shape) .f32 := fun j => ∑ s ∈ Finset.range 2048, T a b d 31 s (j 1)

variable {a b w d} {n' : ℕ} {a' b' : Vec Ideal (⟨2, ![2048, n']⟩ : Shape) .f32} {w' : Vec Ideal (⟨2, ![31, n']⟩ : Shape) .f32} {d' : Vec Ideal (⟨2, ![2048, n']⟩ : Shape) .f32}
  {q : Fin n} {q' : Fin n'} (ha : ∀ s, a (ix2 s q) = a' (ix2 s q')) (hb : ∀ s, b (ix2 s q) = b' (ix2 s q')) (hw : ∀ j, w (ix2 j q) = w' (ix2 j q')) (hd : ∀ s, d (ix2 s q) = d' (ix2 s q'))
include hd
/-- Each reads one column. -/
theorem E_col (s : ℕ) : E d s q = E d' s q' := by simp only [E, hd]
include hw in
theorem A_col (s : ℕ) : A w d s q = A w' d' s q' := by simp only [A, hw, E_col hd]
include ha hb
omit hd in
theorem G_col (s : ℕ) : G a b s q = G a' b' s q' := by simp only [G, ha, hb]
theorem T_col (j s : ℕ) : T a b d j s q = T a' b' d' j s q' := by simp only [T, G_col ha hb, E_col hd]

end Cert.GluFun

end
-- ==== Proof.GluVal.lean ====
/- What the two loops of the gated convolution's backward leave, entry by entry. -/
module

public import proofs.«01_k».proof.Proof.GluOut
public import proofs.«01_k».proof.Proof.GluFun
public import Idealize.ShloMosaic.Lib.Pipeline.ValueKit.Acc

@[expose] public section

set_option maxRecDepth 16384

noncomputable section

namespace Cert.GluConvIdeal.Val

open Idealize.ShloMosaic Idealize.ShloMosaic.TcCoe Idealize.ShloMosaic.Tactic
open Cert.GluConvIdeal.Gen Cert.GluConvIdeal.Out Cert.Rows Cert.GluFun

/-- The buffers of one point. -/
structure Bufs where
  a1 : Memref sig .tc .vmem S2048x128 .f32
  h1 : a1.IsWhole
  a2 : Memref sig .tc .vmem S2048x128 .f32
  h2 : a2.IsWhole
  a3 : Memref sig .tc .vmem S31x128 .f32
  h3 : a3.IsWhole
  a4 : Memref sig .tc .vmem S2048x128 .f32
  h4 : a4.IsWhole
  a5 : Memref sig .tc .vmem S2048x128 .bf16
  h5 : a5.IsWhole
  a6 : Memref sig .tc .vmem S2048x128 .bf16
  h6 : a6.IsWhole
  a7 : Memref sig .tc .vmem S31x128 .f32
  h7 : a7.IsWhole
  a8 : Memref sig .tc .vmem S1x128 .f32
  h8 : a8.IsWhole
  a9 : Memref sig .tc .vmem S2080x128 .f32
  h9 : a9.IsWhole
  a10 : Memref sig .tc .vmem S2080x128 .f32
  h10 : a10.IsWhole
  a11 : Memref sig .tc .vmem S256x128 .f32
  h11 : a11.IsWhole

theorem off1 (k : Fin k0_t1_loop.trips) : k0_off1 k = ![256 * k.val, 0] := by revert k; decide +kernel
theorem off2 (k : Fin k0_t1_loop.trips) : k0_off2 k = ![32 + 256 * k.val, 0] := by revert k; decide +kernel
theorem off3 (k : Fin k0_t1_loop.trips) : k0_off3 k = ![256 * k.val, 0] := by revert k; decide +kernel
theorem off4 (k : Fin k0_t2_loop.trips) : k0_off4 k = ![256 * k.val, 0] := by revert k; decide +kernel
theorem off5 (k : Fin k0_t2_loop.trips) : k0_off5 k = ![256 * k.val, 0] := by revert k; decide +kernel
theorem trips1 : k0_t1_loop.trips = 8 := by decide +kernel
theorem trips2 : k0_t2_loop.trips = 8 := by decide +kernel

/-- A window's rows, `b` rows further on. -/
def rot (v : Vec Ideal S288x128 .f32) (b : ℕ) : FVec Ideal S288x128 .f32 :=
  if b = 0 then v else dynamicRotate 0 (BitVec.ofNat 32 (288 - b)) none v rotates_S288x128_d0
theorem tap_in (k : Fin 33) : S288x128.Slices ![8 * (k.val / 8), 0] S256x128 := by revert k; decide +kernel
/-- The tile `k` rows into the window. -/
def tap (v : Vec Ideal S288x128 .f32) (k : Fin 33) : FVec Ideal S256x128 .f32 :=
  extractStridedSlice S256x128 ![8 * (k.val / 8), 0] (rot v (k.val % 8)) (tap_in k)
/-- The taps' sum over a window. -/
def acc (W : Fin 31 → Vec Ideal S1x128 .f32) (v : Vec Ideal S288x128 .f32) : FVec Ideal S256x128 .f32 :=
  (List.finRange 31).foldl (fun x k => addf x (mulf (broadcastTo S256x128 (W k) broadcasts_S1x128_S256x128) (tap v ⟨30 - k.val, by omega⟩))) (broadcast S256x128 (Scalar.ofBits .f32 0x00000000#32))
/-- What a trip leaves in eight rows of the sums. -/
def q8 (j : Fin 32) (d : FVec Ideal S256x128 .f32) (v : Vec Ideal S288x128 .f32) (p : Vec Ideal S8x128 .f32) : FVec Ideal S8x128 .f32 :=
  shapeCast S8x128 (addf p (multiReduction .add [0] S8x128 (shapeCast S32x8x128 (if h : j.val < 31 then mulf d (tap v ⟨j.val + 2, by omega⟩) else d) shapeCasts_S256x128_S32x8x128)
    0x00000000#32 reduces_S32x8x128_S8x128 (.inl rfl) rfl)) shapeCasts_S8x128_S8x128

variable (c : Dev nD) (i : grid0.Coords) (B : Bufs)

/-- A trip of the first loop. -/
theorem trip1 (X1 : BufTy.Contents (Elt Ideal) B.a1.view.ty) (X2 : BufTy.Contents (Elt Ideal) B.a2.view.ty) (X4 : BufTy.Contents (Elt Ideal) B.a4.view.ty) (k : Fin k0_t1_loop.trips) :
    tripL_k0_t1 (F := Ideal) Variants.none c none i B.a1 B.h1 B.a2 B.h2 B.a3 B.h3 B.a4 B.h4 B.a5 B.h5 B.a6 B.h6 B.a7 B.h7 B.a8 B.h8 B.a9 B.h9 B.a10 B.h10 B.a11 B.h11 X1 X2 X4 k
      = ([⟨Rect.unit (s := S2080x128) (k0_off2 k) ![256, 128] (k0_off2_inb k),
            k0_pay122 (B.a1.view.readAt (Elt Ideal) (Rect.unit (s := S2048x128) (k0_off1 k) ![256, 128] (k0_off1_inb k)).toLoadRect X1)
              (B.a2.view.readAt (Elt Ideal) (Rect.unit (s := S2048x128) (k0_off1 k) ![256, 128] (k0_off1_inb k)).toLoadRect X2)⟩],
        [⟨Rect.unit (s := S2080x128) (k0_off3 k) ![256, 128] (k0_off3_inb k),
            k0_pay123 (B.a4.view.readAt (Elt Ideal) (Rect.unit (s := S2048x128) (k0_off1 k) ![256, 128] (k0_off1_inb k)).toLoadRect X4)⟩]) := by
  unfold tripL_k0_t1 trip_k0_t1; rfl

/-- A trip of the second loop. -/
theorem trip2 (X1 : BufTy.Contents (Elt Ideal) B.a1.view.ty) (X2 : BufTy.Contents (Elt Ideal) B.a2.view.ty) (X3 : BufTy.Contents (Elt Ideal) B.a3.view.ty) (X9 : BufTy.Contents (Elt Ideal) B.a9.view.ty) (X10 : BufTy.Contents (Elt Ideal) B.a10.view.ty) (k : Fin k0_t2_loop.trips)
    (G5 : BufTy.Contents (Elt Ideal) B.a5.view.ty) (G6 : BufTy.Contents (Elt Ideal) B.a6.view.ty) (G11 : BufTy.Contents (Elt Ideal) B.a11.view.ty)
    (W : Fin 31 → Vec Ideal S1x128 .f32) (v145 v333 : Vec Ideal S288x128 .f32) (v310 v312 : Vec Ideal S256x128 .f32)
    (hW : W = fun j => B.a3.view.readAt (Elt Ideal) (Rect.unit (s := S31x128) ![j.val, 0] S1x128.size (row_in j)).toLoadRect X3)
    (h145 : v145 = B.a10.view.readAt (Elt Ideal) (Rect.unit (s := S2080x128) (k0_off4 k) ![288, 128] (k0_off4_inb k)).toLoadRect X10)
    (h310 : v310 = B.a1.view.readAt (Elt Ideal) (Rect.unit (s := S2048x128) (k0_off5 k) ![256, 128] (k0_off5_inb k)).toLoadRect X1)
    (h312 : v312 = B.a2.view.readAt (Elt Ideal) (Rect.unit (s := S2048x128) (k0_off5 k) ![256, 128] (k0_off5_inb k)).toLoadRect X2)
    (h333 : v333 = B.a9.view.readAt (Elt Ideal) (Rect.unit (s := S2080x128) (k0_off4 k) ![288, 128] (k0_off4_inb k)).toLoadRect X9) :
    tripL_k0_t2 (F := Ideal) Variants.none c none i B.a1 B.h1 B.a2 B.h2 B.a3 B.h3 B.a4 B.h4 B.a5 B.h5 B.a6 B.h6 B.a7 B.h7 B.a8 B.h8 B.a9 B.h9 B.a10 B.h10 B.a11 B.h11 X1 X2 X3 X9 X10 k G5 G6 G11
      = ([⟨Rect.unit (s := S2048x128) (k0_off5 k) ![256, 128] (k0_off5_inb k), k0_pay43 (acc W v145) v312⟩],
        [⟨Rect.unit (s := S2048x128) (k0_off5 k) ![256, 128] (k0_off5_inb k), k0_pay44 (acc W v145) v310 v312⟩],
        (List.finRange 32).reverse.map fun j => ⟨Rect.unit (s := S256x128) ![8 * j.val, 0] S8x128.size (fold_in j),
          q8 j (tap v145 0) v333 (B.a11.view.readAt (Elt Ideal) (Rect.unit (s := S256x128) ![8 * j.val, 0] S8x128.size (fold_in j)).toLoadRect G11)⟩) := by
  subst hW h145 h310 h312 h333
  unfold tripL_k0_t2 trip_k0_t2; dsimp only
  sl_unfold_words
  rfl

/-- The rotated window. -/
theorem rot_at (v : Vec Ideal S288x128 .f32) (b : ℕ) (hb : b < 8) (s t : Fin 288) (q : Fin 128) (h : t.val = s.val + b) : rot v b (ix2 s q) = v (ix2 t q) := by
  have e : ∀ u : Fin 288, u.val = t.val → v (ix2 u q) = v (ix2 t q) := fun u hu => congrArg (fun u => v (ix2 u q)) (Fin.ext hu)
  interval_cases b <;> unfold rot <;> pointwise [] <;> exact e _ (by first | omega | (simp; omega))

theorem tap_at (v : Vec Ideal S288x128 .f32) (k : Fin 33) (r : Fin 256) (q : Fin 128) : tap v k (ix2 r q) = v (ix2 (⟨r.val + k.val, by omega⟩ : Fin 288) q) := by
  unfold tap
  pointwise []
  exact rot_at v _ (by omega) _ _ q (by show r.val + k.val = (8 * (k.val / 8) + r.val) + k.val % 8; omega)

section
variable {x1 x2 : Vec Ideal S2048x128 .f32} {x3 : Vec Ideal S31x128 .f32} {x4 : Vec Ideal S2048x128 .f32} {W : Fin 31 → Vec Ideal S1x128 .f32} {v145 v333 : Vec Ideal S288x128 .f32} {b : ℕ}
  (hW : ∀ j q, W j (ix2 0 q) = x3 (ix2 j q)) (h145 : ∀ (r : Fin 288) q, v145 (ix2 r q) = E x4 (b + r.val) q) (h333 : ∀ (r : Fin 288) q, v333 (ix2 r q) = G x1 x2 (b + r.val) q)
include hW h145 in
/-- The taps' sum over a window. -/
theorem acc_at (r : Fin 256) (q : Fin 128) : acc W v145 (ix2 r q) = A x3 x4 (b + r.val) q := by
  refine (fold_at _ _ _ _).trans ?_
  rw [← Fin.sum_univ_def]
  pointwise []
  refine Finset.sum_congr rfl fun k _ => ?_
  rw [tap_at, hW, h145, add_assoc]

include h145 h333 in
theorem q8_at (j : Fin 32) (p : Vec Ideal S8x128 .f32) (r : Fin 8) (q : Fin 128) :
    q8 j (tap v145 0) v333 p (ix2 r q) = p (ix2 r q) + ∑ x : Fin 32, GluFun.T x1 x2 x4 j.val (b + (8 * x.val + r.val)) q := by
  unfold q8
  by_cases h : j.val < 31
  · rw [dif_pos h]
    pointwise []
    refine congrArg _ (Finset.sum_congr rfl fun x _ => ?_)
    rw [tap_at, tap_at, h145, h333, GluFun.T, if_pos h]
    show E x4 (b + ((x.val * 8 + r.val) + 0)) q * G x1 x2 (b + ((x.val * 8 + r.val) + (j.val + 2))) q = _
    rw [show b + ((x.val * 8 + r.val) + 0) = b + (8 * x.val + r.val) by omega, show b + ((x.val * 8 + r.val) + (j.val + 2)) = b + (8 * x.val + r.val) + (j.val + 2) by omega]
  · rw [dif_neg h]
    pointwise []
    refine congrArg _ (Finset.sum_congr rfl fun x _ => ?_)
    rw [tap_at, h145, GluFun.T, if_neg h]
    show E x4 (b + ((x.val * 8 + r.val) + 0)) q = _
    rw [show b + ((x.val * 8 + r.val) + 0) = b + (8 * x.val + r.val) by omega]
end

variable (x1 x2 : Vec Ideal S2048x128 .f32) (x3 : Vec Ideal S31x128 .f32) (x4 : Vec Ideal S2048x128 .f32)

/-- The first loop's pieces after `k` trips. -/
abbrev N (k : ℕ) : List (View.Piece (Elt Ideal) S2080x128 .f32) × List (View.Piece (Elt Ideal) S2080x128 .f32) :=
  pb_k0_t1 (F := Ideal) Variants.none c none i B.a1 B.h1 B.a2 B.h2 B.a3 B.h3 B.a4 B.h4 B.a5 B.h5 B.a6 B.h6 B.a7 B.h7 B.a8 B.h8 B.a9 B.h9 B.a10 B.h10 B.a11 B.h11 (B.h1.unread x1) (B.h2.unread x2) (B.h4.unread x4) k

/-- What each trip adds. -/
theorem N_succ (k : ℕ) (hk : k < 8) : ∃ (k' : Fin k0_t1_loop.trips) (_ : k'.val = k) (y9 y10 : Vec Ideal S256x128 .f32),
    (∀ (r : Fin 256) q, y9 (ix2 r q) = G x1 x2 (32 + 256 * k + r.val) q) ∧ (∀ (r : Fin 256) q, y10 (ix2 r q) = E x4 (256 * k + r.val) q)
    ∧ N c i B x1 x2 x4 (k + 1) = (⟨Rect.unit (s := S2080x128) (k0_off2 k') ![256, 128] (k0_off2_inb k'), y9⟩ :: (N c i B x1 x2 x4 k).1,
        ⟨Rect.unit (s := S2080x128) (k0_off3 k') ![256, 128] (k0_off3_inb k'), y10⟩ :: (N c i B x1 x2 x4 k).2) := by
  have hk' : k < k0_t1_loop.trips := by rw [trips1]; exact hk
  refine ⟨⟨k, hk'⟩, rfl, k0_pay122 (B.a1.view.readAt (Elt Ideal) (Rect.unit (s := S2048x128) (k0_off1 ⟨k, hk'⟩) ![256, 128] (k0_off1_inb ⟨k, hk'⟩)).toLoadRect (B.h1.unread x1))
      (B.a2.view.readAt (Elt Ideal) (Rect.unit (s := S2048x128) (k0_off1 ⟨k, hk'⟩) ![256, 128] (k0_off1_inb ⟨k, hk'⟩)).toLoadRect (B.h2.unread x2)),
    k0_pay123 (B.a4.view.readAt (Elt Ideal) (Rect.unit (s := S2048x128) (k0_off1 ⟨k, hk'⟩) ![256, 128] (k0_off1_inb ⟨k, hk'⟩)).toLoadRect (B.h4.unread x4)),
    fun r q => ?_, fun r q => ?_, (pb_k0_t1_succ (F := Ideal) Variants.none c none i B.a1 B.h1 B.a2 B.h2 B.a3 B.h3 B.a4 B.h4 B.a5 B.h5 B.a6 B.h6 B.a7 B.h7 B.a8 B.h8 B.a9 B.h9 B.a10 B.h10 B.a11 B.h11 _ _ _ ⟨k, hk'⟩).trans ?_⟩
  rotate_right
  · rw [trip1 c i B _ _ _ ⟨k, hk'⟩]; rfl
  · pointwise [k0_pay122]
    rw [rows_at B.a1.view _ (off1 _) _ r q (⟨256 * k + r.val, by omega⟩ : Fin 2048) rfl, rows_at B.a2.view _ (off1 _) _ r q (⟨256 * k + r.val, by omega⟩ : Fin 2048) rfl,
      B.h1.read_unread, B.h2.read_unread, G, dif_pos (by omega)]
    have e : (⟨256 * k + r.val, by omega⟩ : Fin 2048) = ⟨32 + 256 * k + r.val - 32, by omega⟩ := Fin.ext (by show 256 * k + r.val = 32 + 256 * k + r.val - 32; omega)
    exact congrArg (fun s : Fin 2048 => x1 (ix2 s q) * sg (x2 (ix2 s q))) e
  · pointwise [k0_pay123]
    rw [rows_at B.a4.view _ (off1 _) _ r q (⟨256 * k + r.val, by omega⟩ : Fin 2048) rfl, B.h4.read_unread, E, dif_pos (by omega)]

/-- The padded values after `k` trips. -/
theorem pad9 (k : ℕ) (hk : k ≤ 8) (f : BufTy.Contents (Elt Ideal) B.a9.view.ty) (s : Fin 2080) (q : Fin 128) (hs : s.val < 32 + 256 * k) :
    B.a9.view.read (Elt Ideal) (B.a9.view.writes (Elt Ideal) f ((N c i B x1 x2 x4 k).1 ++ [⟨Rect.unit ![0, 0] S32x128.size inb_S2080x128_S32x128_0_0, k0_pay119 (F := Ideal)⟩])) (ix2 s q)
      = G x1 x2 s.val q := by
  induction k with
  | zero =>
    refine (rows_in B.a9.view f (o := ![0, 0]) (r := 0) (n := 32) rfl _ _ [] s q ⟨s.val, by omega⟩ (by simp)).trans ?_
    rw [G, dif_neg (by omega)]
    pointwise [k0_pay119]
  | succ k ih =>
    obtain ⟨k', rfl, y9, y10, h9, h10, h⟩ := N_succ c i B x1 x2 x4 k (by omega)
    rw [h, List.cons_append]
    by_cases hlt : s.val < 32 + 256 * k'.val
    · exact (rows_out B.a9.view f (off2 _) _ _ _ s q (.inl hlt)).trans (ih (by omega) hlt)
    · refine (rows_in B.a9.view f (off2 _) _ _ _ s q ⟨s.val - (32 + 256 * k'.val), by omega⟩ (by simp; omega)).trans ((h9 _ q).trans (congrArg (G x1 x2 · q) ?_))
      show 32 + 256 * k'.val + (s.val - (32 + 256 * k'.val)) = s.val; omega

/-- The padded gradient after `k` trips. -/
theorem pad10 (k : ℕ) (hk : k ≤ 8) (f : BufTy.Contents (Elt Ideal) B.a10.view.ty) (s : Fin 2080) (q : Fin 128) (hs : s.val < 256 * k ∨ 2048 ≤ s.val) :
    B.a10.view.read (Elt Ideal) (B.a10.view.writes (Elt Ideal) f ((N c i B x1 x2 x4 k).2 ++ [⟨Rect.unit ![2048, 0] S32x128.size inb_S2080x128_S32x128_2048_0, k0_pay120 (F := Ideal)⟩])) (ix2 s q)
      = E x4 s.val q := by
  induction k with
  | zero =>
    refine (rows_in B.a10.view f (o := ![2048, 0]) (r := 2048) (n := 32) rfl _ _ [] s q ⟨s.val - 2048, by omega⟩ (by simp; omega)).trans ?_
    rw [E, dif_neg (by omega)]
    pointwise [k0_pay120]
  | succ k ih =>
    obtain ⟨k', rfl, y9, y10, h9, h10, h⟩ := N_succ c i B x1 x2 x4 k (by omega)
    rw [h, List.cons_append]
    by_cases hlt : 256 * k'.val ≤ s.val ∧ s.val < 256 * k'.val + 256
    · refine (rows_in B.a10.view f (off3 _) _ _ _ s q ⟨s.val - 256 * k'.val, by omega⟩ (by simp; omega)).trans ((h10 _ q).trans (congrArg (E x4 · q) ?_))
      show 256 * k'.val + (s.val - 256 * k'.val) = s.val; omega
    · exact (rows_out B.a10.view f (off3 _) _ _ _ s q (by omega)).trans (ih (by omega) (by omega))

/-- The second loop's pieces after `k` trips. -/
abbrev M (k : ℕ) : List (View.Piece (Elt Ideal) S2048x128 .bf16) × List (View.Piece (Elt Ideal) S2048x128 .bf16) × List (View.Piece (Elt Ideal) S256x128 .f32) :=
  pb_k0_t2 (F := Ideal) Variants.none c none i B.a1 B.h1 B.a2 B.h2 B.a3 B.h3 B.a4 B.h4 B.a5 B.h5 B.a6 B.h6 B.a7 B.h7 B.a8 B.h8 B.a9 B.h9 B.a10 B.h10 B.a11 B.h11 (B.h1.unread x1) (B.h2.unread x2) (B.h3.unread x3) (S9 c i B.a1 B.h1 B.a2 B.h2 B.a3 B.h3 B.a4 B.h4 B.a5 B.h5 B.a6 B.h6 B.a7 B.h7 B.a8 B.h8 B.a9 B.h9 B.a10 B.h10 B.a11 B.h11 x1 x2 x3 x4) (S10 c i B.a1 B.h1 B.a2 B.h2 B.a3 B.h3 B.a4 B.h4 B.a5 B.h5 B.a6 B.h6 B.a7 B.h7 B.a8 B.h8 B.a9 B.h9 B.a10 B.h10 B.a11 B.h11 x1 x2 x3 x4) B.a5.view.junk B.a6.view.junk
    (B.a11.view.writes (Elt Ideal) B.a11.view.junk [⟨Rect.unit ![0, 0] S256x128.size inb_S256x128_S256x128_0_0, k0_pay121 (F := Ideal)⟩]) k

/-- What each trip adds. -/
theorem M_succ (k : ℕ) (hk : k < 8) : ∃ (k' : Fin k0_t2_loop.trips) (_ : k'.val = k) (W : Fin 31 → Vec Ideal S1x128 .f32) (v145 v333 : Vec Ideal S288x128 .f32) (v310 v312 : Vec Ideal S256x128 .f32)
    (G11 : BufTy.Contents (Elt Ideal) B.a11.view.ty)
    (_ : G11 = B.a11.view.writes (Elt Ideal) B.a11.view.junk ((M c i B x1 x2 x3 x4 k).2.2 ++ [⟨Rect.unit ![0, 0] S256x128.size inb_S256x128_S256x128_0_0, k0_pay121 (F := Ideal)⟩])),
    (∀ j q, W j (ix2 0 q) = x3 (ix2 j q)) ∧ (∀ (r : Fin 288) q, v145 (ix2 r q) = E x4 (256 * k + r.val) q) ∧ (∀ (r : Fin 288) q, v333 (ix2 r q) = G x1 x2 (256 * k + r.val) q)
    ∧ (∀ (r : Fin 256) q, v310 (ix2 r q) = x1 (ix2 (⟨256 * k + r.val, by omega⟩ : Fin 2048) q)) ∧ (∀ (r : Fin 256) q, v312 (ix2 r q) = x2 (ix2 (⟨256 * k + r.val, by omega⟩ : Fin 2048) q))
    ∧ M c i B x1 x2 x3 x4 (k + 1)
      = (⟨Rect.unit (s := S2048x128) (k0_off5 k') ![256, 128] (k0_off5_inb k'), k0_pay43 (acc W v145) v312⟩ :: (M c i B x1 x2 x3 x4 k).1,
        ⟨Rect.unit (s := S2048x128) (k0_off5 k') ![256, 128] (k0_off5_inb k'), k0_pay44 (acc W v145) v310 v312⟩ :: (M c i B x1 x2 x3 x4 k).2.1,
        ((List.finRange 32).reverse.map fun j => ⟨Rect.unit (s := S256x128) ![8 * j.val, 0] S8x128.size (fold_in j),
          q8 j (tap v145 0) v333 (B.a11.view.readAt (Elt Ideal) (Rect.unit (s := S256x128) ![8 * j.val, 0] S8x128.size (fold_in j)).toLoadRect G11)⟩) ++ (M c i B x1 x2 x3 x4 k).2.2) := by
  have hk' : k < k0_t2_loop.trips := by rw [trips2]; exact hk
  refine ⟨⟨k, hk'⟩, rfl, fun j => B.a3.view.readAt (Elt Ideal) (Rect.unit (s := S31x128) ![j.val, 0] S1x128.size (row_in j)).toLoadRect (B.h3.unread x3),
    B.a10.view.readAt (Elt Ideal) (Rect.unit (s := S2080x128) (k0_off4 ⟨k, hk'⟩) ![288, 128] (k0_off4_inb ⟨k, hk'⟩)).toLoadRect (S10 c i B.a1 B.h1 B.a2 B.h2 B.a3 B.h3 B.a4 B.h4 B.a5 B.h5 B.a6 B.h6 B.a7 B.h7 B.a8 B.h8 B.a9 B.h9 B.a10 B.h10 B.a11 B.h11 x1 x2 x3 x4),
    B.a9.view.readAt (Elt Ideal) (Rect.unit (s := S2080x128) (k0_off4 ⟨k, hk'⟩) ![288, 128] (k0_off4_inb ⟨k, hk'⟩)).toLoadRect (S9 c i B.a1 B.h1 B.a2 B.h2 B.a3 B.h3 B.a4 B.h4 B.a5 B.h5 B.a6 B.h6 B.a7 B.h7 B.a8 B.h8 B.a9 B.h9 B.a10 B.h10 B.a11 B.h11 x1 x2 x3 x4),
    B.a1.view.readAt (Elt Ideal) (Rect.unit (s := S2048x128) (k0_off5 ⟨k, hk'⟩) ![256, 128] (k0_off5_inb ⟨k, hk'⟩)).toLoadRect (B.h1.unread x1),
    B.a2.view.readAt (Elt Ideal) (Rect.unit (s := S2048x128) (k0_off5 ⟨k, hk'⟩) ![256, 128] (k0_off5_inb ⟨k, hk'⟩)).toLoadRect (B.h2.unread x2),
    _, rfl, fun j q => ?_, fun r q => ?_, fun r q => ?_, fun r q => ?_, fun r q => ?_,
    (pb_k0_t2_succ (F := Ideal) Variants.none c none i B.a1 B.h1 B.a2 B.h2 B.a3 B.h3 B.a4 B.h4 B.a5 B.h5 B.a6 B.h6 B.a7 B.h7 B.a8 B.h8 B.a9 B.h9 B.a10 B.h10 B.a11 B.h11 _ _ _ _ _ _ _ _ ⟨k, hk'⟩).trans ?_⟩
  rotate_right
  · rw [trip2 c i B _ _ _ _ _ ⟨k, hk'⟩ _ _ _ _ _ _ _ _ rfl rfl rfl rfl rfl]
    simp only [View.writes_append, List.cons_append, List.nil_append]
  · exact (rows_at B.a3.view _ (r := j.val) rfl _ 0 q j rfl).trans (congrFun (B.h3.read_unread x3) _)
  · exact (rows_at B.a10.view _ (off4 _) _ r q (⟨256 * k + r.val, by omega⟩ : Fin 2080) rfl).trans (pad10 c i B x1 x2 x4 8 le_rfl _ _ q (by omega))
  · exact (rows_at B.a9.view _ (off4 _) _ r q (⟨256 * k + r.val, by omega⟩ : Fin 2080) rfl).trans (pad9 c i B x1 x2 x4 8 le_rfl _ _ q (by simp only; omega))
  · exact (rows_at B.a1.view _ (off5 _) _ r q (⟨256 * k + r.val, by omega⟩ : Fin 2048) rfl).trans (congrFun (B.h1.read_unread x1) _)
  · exact (rows_at B.a2.view _ (off5 _) _ r q (⟨256 * k + r.val, by omega⟩ : Fin 2048) rfl).trans (congrFun (B.h2.read_unread x2) _)

/-- The value's gradient after `k` trips. -/
theorem mid5 (k : ℕ) (hk : k ≤ 8) (v : View sig .tc .vmem S2048x128 .bf16) (f : v.ty.Contents (Elt Ideal)) (s : Fin 2048) (q : Fin 128) (hs : s.val < 256 * k) :
    v.read (Elt Ideal) (v.writes (Elt Ideal) f (M c i B x1 x2 x3 x4 k).1) (ix2 s q) = dval x2 x3 x4 (ix2 s q) := by
  induction k with
  | zero => omega
  | succ k ih =>
    obtain ⟨k', rfl, W, v145, v333, v310, v312, G11, hG, hW, h145, h333, h310, h312, h⟩ := M_succ c i B x1 x2 x3 x4 k (by omega)
    rw [h]; dsimp only
    by_cases hlt : s.val < 256 * k'.val
    · exact (rows_out v f (off5 _) _ _ _ s q (.inl hlt)).trans (ih (by omega) hlt)
    · refine (rows_in v f (off5 _) _ _ _ s q ⟨s.val - 256 * k'.val, by omega⟩ (by simp; omega)).trans ?_
      pointwise [k0_pay43, k0_pay42]
      rw [acc_at hW h145, h312]
      have e : 256 * k'.val + (s.val - 256 * k'.val) = s.val := by omega
      simp only [e]; rfl

/-- The gate's gradient after `k` trips. -/
theorem mid6 (k : ℕ) (hk : k ≤ 8) (v : View sig .tc .vmem S2048x128 .bf16) (f : v.ty.Contents (Elt Ideal)) (s : Fin 2048) (q : Fin 128) (hs : s.val < 256 * k) :
    v.read (Elt Ideal) (v.writes (Elt Ideal) f (M c i B x1 x2 x3 x4 k).2.1) (ix2 s q) = dgate x1 x2 x3 x4 (ix2 s q) := by
  induction k with
  | zero => omega
  | succ k ih =>
    obtain ⟨k', rfl, W, v145, v333, v310, v312, G11, hG, hW, h145, h333, h310, h312, h⟩ := M_succ c i B x1 x2 x3 x4 k (by omega)
    rw [h]; dsimp only
    by_cases hlt : s.val < 256 * k'.val
    · exact (rows_out v f (off5 _) _ _ _ s q (.inl hlt)).trans (ih (by omega) hlt)
    · refine (rows_in v f (off5 _) _ _ _ s q ⟨s.val - 256 * k'.val, by omega⟩ (by simp; omega)).trans ?_
      pointwise [k0_pay44, k0_pay42]
      rw [acc_at hW h145, h310, h312]
      have e : 256 * k'.val + (s.val - 256 * k'.val) = s.val := by omega
      simp only [e]; rfl

/-- The sums after `k` trips. -/
theorem mid11 (k : ℕ) (hk : k ≤ 8) (j : Fin 32) (r : Fin 8) (s : Fin 256) (q : Fin 128) (hs : s.val = 8 * j.val + r.val) :
    B.a11.view.read (Elt Ideal) (B.a11.view.writes (Elt Ideal) B.a11.view.junk ((M c i B x1 x2 x3 x4 k).2.2 ++ [⟨Rect.unit ![0, 0] S256x128.size inb_S256x128_S256x128_0_0, k0_pay121 (F := Ideal)⟩])) (ix2 s q)
      = ∑ p ∈ Finset.range (32 * k), GluFun.T x1 x2 x4 j.val (8 * p + r.val) q := by
  induction k with
  | zero =>
    refine (rows_in B.a11.view _ (o := ![0, 0]) (r := 0) (n := 256) rfl _ _ [] s q s (by simp)).trans ?_
    pointwise [k0_pay121]
    rfl
  | succ k ih =>
    obtain ⟨k', rfl, W, v145, v333, v310, v312, G11, hG, hW, h145, h333, h310, h312, h⟩ := M_succ c i B x1 x2 x3 x4 k (by omega)
    rw [h]; dsimp only
    have ih' := ih (by omega)
    rw [← hG] at ih'
    rw [List.append_assoc]
    refine (rows_map B.a11.view _ (n := 8) _ (fun j : Fin 32 => 8 * j.val) fold_in _ j s q r hs (fun l hl => ?_) _ (by simp)).trans ?_
    · have : l.val ≠ j.val := fun e => hl (Fin.ext e)
      omega
    · refine (q8_at h145 h333 j _ r q).trans ?_
      rw [rows_at B.a11.view G11 (r := 8 * j.val) rfl _ r q s hs, ih', show 32 * (k'.val + 1) = 32 * k'.val + 32 by omega, Finset.sum_range_add,
        Finset.sum_range (fun x => GluFun.T x1 x2 x4 j.val (8 * (32 * k'.val + x) + r.val) q)]
      exact congrArg _ (Finset.sum_congr rfl fun x _ => congrArg (GluFun.T x1 x2 x4 j.val · q) (by omega))

/-- Eight rows of the sums, added. -/
theorem fold_sum (j : Fin 32) (q : Fin 128) : ∑ r : Fin 8, fold c i B.a1 B.h1 B.a2 B.h2 B.a3 B.h3 B.a4 B.h4 B.a5 B.h5 B.a6 B.h6 B.a7 B.h7 B.a8 B.h8 B.a9 B.h9 B.a10 B.h10 B.a11 B.h11 x1 x2 x3 x4 j (ix2 r q) = ∑ s ∈ Finset.range 2048, GluFun.T x1 x2 x4 j.val s q := by
  have h : ∀ r : Fin 8, fold c i B.a1 B.h1 B.a2 B.h2 B.a3 B.h3 B.a4 B.h4 B.a5 B.h5 B.a6 B.h6 B.a7 B.h7 B.a8 B.h8 B.a9 B.h9 B.a10 B.h10 B.a11 B.h11 x1 x2 x3 x4 j (ix2 r q) = ∑ p : Fin 256, GluFun.T x1 x2 x4 j.val (8 * p.val + r.val) q := fun r =>
    ((rows_at B.a11.view _ (r := 8 * j.val) rfl _ r q (⟨8 * j.val + r.val, by omega⟩ : Fin 256) rfl).trans (mid11 c i B x1 x2 x3 x4 8 le_rfl j r ⟨8 * j.val + r.val, by omega⟩ q rfl)).trans (Finset.sum_range _)
  rw [Finset.sum_congr rfl fun r _ => h r, Finset.sum_comm, Finset.sum_range]
  exact Fin.sum_mul_add_congr (F := fun (p : Fin 256) (r : Fin 8) => GluFun.T x1 x2 x4 j.val (8 * p.val + r.val) q) (f := fun l : Fin 2048 => GluFun.T x1 x2 x4 j.val l.val q)
    (fun p r hl => congrArg (GluFun.T x1 x2 x4 j.val · q) (show 8 * p.val + r.val = p.val * 8 + r.val by omega)) (by omega)

end Cert.GluConvIdeal.Val

end
-- ==== Proof.GluRef.lean ====
/- What the gated convolution's backward reference returns, entry by entry. -/
module

public import proofs.«01_k».proof.Proof.GluFun
public import proofs.«01_k».proof.Proof.Gen.GluConvRefIdeal.Read
public import Idealize.ShloMosaic.Lib.KernelVsHost
public import Idealize.ShloMosaic.Lib.Tactic

@[expose] public section

set_option maxRecDepth 16384

noncomputable section

namespace Cert.GluRef

open Idealize.ShloMosaic Idealize.ShloMosaic.TcCoe Idealize.ShloMosaic.Tactic Cert.GluFun Cert.GluConvRefIdeal Cert.GluConvRefIdeal.Gen Cert.GluConvRefIdeal.Read

theorem sl1 (k : Fin 31) : S2078x512.Slices ![k.val, 0] S2048x512 := by revert k; decide +kernel
theorem sl2 (k : Fin 31) : S31x512.Slices ![k.val, 0] S1x512 := by revert k; decide +kernel
theorem pd1 (k : Fin 31) : S1x512.Pads ![k.val, 0] ![30 - k.val, 0] ![0, 0] S31x512 := by revert k; decide +kernel
theorem pd2 (k : Fin 31) : S2048x512.Pads ![k.val, 0] ![30 - k.val, 0] ![0, 0] S2078x512 := by revert k; decide +kernel

section
variable (g : FVec Ideal S2078x512 .f32) (w : FVec Ideal S31x512 .f32) (d : FVec Ideal S2048x512 .f32)
/-- Tap `k`'s gradient, in its row. -/
def pw (k : Fin 31) : FVec Ideal S31x512 .f32 :=
  pad S31x512 ![k.val, 0] ![30 - k.val, 0] ![0, 0] (shapeCast S1x512 (Host.reduceAdd (mulf (extractStridedSlice S2048x512 ![k.val, 0] g (sl1 k)) d) (constant S_ .f32 0x00000000#32) reducesTo_S2048x512_S512_d0 h_S_) shapeCasts_S512_S1x512)
    (constant S_ .f32 0x00000000#32) (pd1 k) h_S_
/-- What tap `k` adds to the gradient at the padded values. -/
def pu (k : Fin 31) : FVec Ideal S2078x512 .f32 :=
  pad S2078x512 ![k.val, 0] ![30 - k.val, 0] ![0, 0] (mulf d (broadcastInDim S2048x512 ![0, 1] bcast_S1x512_S2048x512_0_1 (extractStridedSlice S1x512 ![k.val, 0] w (sl2 k))))
    (constant S_ .f32 0x00000000#32) (pd2 k) h_S_
end

/-- The taps' arrays added up, the last tap's first. -/
def tot {s : Shape} (p : Fin 31 → FVec Ideal s .f32) : FVec Ideal s .f32 :=
  (List.finRange 30).reverse.foldl (fun x k => addf x (p k.castSucc)) (p 30)

theorem tot_at {s : Shape} (p : Fin 31 → FVec Ideal s .f32) (i : s.Idx) : tot p i = ∑ k, p k i := by
  refine (fold_at (fun k : Fin 30 => p k.castSucc) i _ _).trans ?_
  rw [List.map_reverse, List.sum_reverse, ← Fin.sum_univ_def, Fin.sum_univ_castSucc (n := 30), add_comm]; rfl

variable (U : FVec Ideal S2048x2560 .f32) (W : FVec Ideal S31x512 .f32) (C : FVec Ideal S2048x512 .f32)

theorem v451 : val_main_v451 (F := Ideal) U C = tot (pw (val_main_v14 (F := Ideal) U) (val_main_v174 (F := Ideal) C)) := by sl_kernel_rfl
theorem v453 : val_main_v453 (F := Ideal) W C = tot (pu W (val_main_v174 (F := Ideal) C)) := by sl_kernel_rfl

/-- The two halves of the projection the call reads: the value and the gate. -/
def val (U : Vec Ideal S2048x2560 .f32) : Vec Ideal S2048x512 .f32 := fun j => U (ix2 (j 0) (⟨1536 + (j 1).val, by have := (j 1).isLt; change (j 1).val < 512 at this; omega⟩ : Fin 2560))
def gate (U : Vec Ideal S2048x2560 .f32) : Vec Ideal S2048x512 .f32 := fun j => U (ix2 (j 0) (⟨2048 + (j 1).val, by have := (j 1).isLt; change (j 1).val < 512 at this; omega⟩ : Fin 2560))

/-- The gate's logistic function. -/
theorem ref8 (s : Fin 2048) (q : Fin 512) : val_main_v8 (F := Ideal) U (ix2 s q) = sg (gate U (ix2 s q)) := by
  pointwise [val_main_v8, val_main_v7, val_main_cst_1, val_main_v6, val_main_v5, val_main_cst_0, val_main_v4, val_main_v3, val_main_v1]
  rw [sg, zero_sub]; rfl

theorem ref174 (s : Fin 2048) (q : Fin 512) : val_main_v174 (F := Ideal) C (ix2 s q) = C (ix2 s q) := by
  pointwise [val_main_v174]

/-- The gated values after 30 rows of zeros. -/
theorem ref14 (s : Fin 2078) (q : Fin 512) : val_main_v14 (F := Ideal) U (ix2 s q) = G (val U) (gate U) (s.val + 2) q := by
  pointwise [val_main_v14, val_main_v13, val_main_cst_3, val_main_v12, val_main_v0]
  unfold G
  by_cases h : s.val < 30
  · rw [dif_pos h, dif_neg (by omega)]
  · rw [dif_neg h, dif_pos (by omega)]
    rw [ref8]
    have e : (⟨s.val - 30, by omega⟩ : Fin 2048) = ⟨s.val + 2 - 32, by omega⟩ := Fin.ext (by show s.val - 30 = s.val + 2 - 32; omega)
    exact congrArg (fun r : Fin 2048 => val U (ix2 r q) * sg (gate U (ix2 r q))) e

/-- Tap `k`'s row. -/
theorem pw_at (g : FVec Ideal S2078x512 .f32) (d : FVec Ideal S2048x512 .f32) (k j : Fin 31) (q : Fin 512) :
    pw g d k (ix2 j q) = if k = j then ∑ s : Fin 2048, g (ix2 (⟨k.val + s.val, by omega⟩ : Fin 2078) q) * d (ix2 s q) else 0 := by
  pointwise [pw]
  by_cases h : k = j
  · subst h; rw [if_pos rfl, dif_pos (by omega)]
  · have : k.val ≠ j.val := fun e => h (Fin.ext e)
    rw [if_neg h, dif_neg (by omega)]
theorem pu_at (d : FVec Ideal S2048x512 .f32) (k : Fin 31) (s : Fin 2078) (q : Fin 512) :
    pu W d k (ix2 s q) = if h : k.val ≤ s.val ∧ s.val - k.val < 2048 then d (ix2 (⟨s.val - k.val, h.2⟩ : Fin 2048) q) * W (ix2 k q) else 0 := by
  pointwise [pu]

/-- The gradient at the gated values. -/
theorem ref455 (s : Fin 2048) (q : Fin 512) : val_main_v455 (F := Ideal) W C (ix2 s q) = A W C s.val q := by
  pointwise [val_main_v455]
  rw [v453, tot_at, A]
  refine Finset.sum_congr rfl fun k _ => ?_
  rw [pu_at, E]
  by_cases h : s.val + (30 - k.val) < 2048
  · rw [dif_pos h, dif_pos (by simp only; omega), ref174, mul_comm]
    have e : (⟨30 + s.val - k.val, by omega⟩ : Fin 2048) = ⟨s.val + (30 - k.val), h⟩ := Fin.ext (by show 30 + s.val - k.val = s.val + (30 - k.val); omega)
    exact congrArg (fun r : Fin 2048 => W (ix2 k q) * C (ix2 r q)) e
  · rw [dif_neg h, dif_neg (by simp only; omega), mul_zero]

/-- The value's gradient. -/
theorem ref459 (s : Fin 2048) (q : Fin 512) : val_main_v459 (F := Ideal) U W C (ix2 s q) = dval (gate U) W C (ix2 s q) := by
  pointwise [val_main_v459, val_main_v457]
  rw [ref455, ref8]; rfl

/-- The gate's gradient. -/
theorem ref460 (s : Fin 2048) (q : Fin 512) : val_main_v460 (F := Ideal) U W C (ix2 s q) = dgate (val U) (gate U) W C (ix2 s q) := by
  pointwise [val_main_v460, val_main_v458, val_main_v456, val_main_v11, val_main_v10, val_main_v9, val_main_cst_2, val_main_v0]
  rw [ref455, ref8, ← mul_assoc, mul_comm _ (A W C s.val q)]; rfl

/-- The bias's gradient. -/
theorem ref176 (q : Fin 512) : val_main_v176 (F := Ideal) C (ix2 (0 : Fin 1) q) = dbias (val U) (gate U) C (ix2 (0 : Fin 1) q) := by
  pointwise [val_main_v176, val_main_v175, val_main_cst_6]
  rw [dbias, Finset.sum_range]
  exact Finset.sum_congr rfl fun s _ => (show GluFun.T (val U) (gate U) C 31 s.val q = C (ix2 s q) from (if_neg (lt_irrefl 31)).trans (dif_pos s.isLt)).symm

/-- The taps' gradient. -/
theorem ref451 (j : Fin 31) (q : Fin 512) : val_main_v451 (F := Ideal) U C (ix2 j q) = dtap (val U) (gate U) C (ix2 j q) := by
  rw [v451, tot_at]
  simp only [pw_at]
  rw [Finset.sum_ite_eq' Finset.univ j, if_pos (Finset.mem_univ _), dtap, Finset.sum_range]
  refine Finset.sum_congr rfl fun s _ => ?_
  rw [ref14, ref174, mul_comm]
  refine ((if_pos j.isLt).trans ?_).symm
  exact congr (congrArg HMul.hMul (dif_pos s.isLt)) (congrArg (G (val U) (gate U) · q) (by show s.val + (j.val + 2) = j.val + s.val + 2; omega))

end Cert.GluRef

end
-- ==== Proof.GluArr.lean ====
/- The arrays the gated convolution's backward leaves, entry by entry. -/
module

public import proofs.«01_k».proof.Proof.GluVal
public import proofs.«01_k».proof.Proof.GluFrm
public import proofs.«01_k».proof.Proof.GluRef
public import Idealize.ShloMosaic.Lib.Pipeline.ValueKit

@[expose] public section

set_option maxRecDepth 16384

noncomputable section

namespace Cert.GluArr

open Idealize.ShloMosaic Idealize.ShloMosaic.TcCoe Idealize.SL.Sem
open Cert.GluConvIdeal Cert.GluConvIdeal.Gen Cert.GluConvIdeal.Run Cert.GluConvIdeal.Out Cert.GluConvIdeal.Frm Cert.GluConvIdeal.Val Cert.GluFun Cert.Rows
open Idealize.ShloMosaic.Pipeline (Dat)
open Cert.GluRef (val gate)

variable (m : (ℓ : Loc nD τ sig) → Buf (Elt Ideal) ℓ) (c : Dev nD)

/-- The projection, the taps and the incoming gradient, on device `c`. -/
abbrev U : Vec Ideal S2048x2560 .f32 := m ((c : Thread nD τ).loc main_arg0)
abbrev W : Vec Ideal S31x512 .f32 := m ((c : Thread nD τ).loc main_arg1)
abbrev C : Vec Ideal S2048x512 .f32 := m ((c : Thread nD τ).loc main_arg2)

/-- The column of the arrays that column `q` of point `t`'s block is. -/
def col (t : Fin cfg0.N) (q : Fin 128) : Fin 512 := ⟨t.val * 128 + q.val, by have hN : cfg0.N = 4 := N_0; have := t.isLt; omega⟩

theorem idx : ∀ t : Fin cfg0.N,
    win0_0.index t = ![0, 12 + t.val] ∧ win0_1.index t = ![0, 16 + t.val] ∧ win0_2.index t = ![0, t.val] ∧ win0_3.index t = ![0, t.val]
    ∧ win0_4.index t = ![0, t.val] ∧ win0_5.index t = ![0, t.val] ∧ win0_6.index t = ![0, t.val] ∧ win0_7.index t = ![0, t.val] :=
  (by decide +kernel : ∀ t : Fin grid0.N, _)

theorem blk0 (t : Fin cfg0.N) (q : Fin 128) (s : Fin 2048) : iblk m c 0 t (ix2 s q) = val (U m c) (ix2 s (col t q)) := by
  blk_ext [iblk, V, idx t, val, col]
theorem blk1 (t : Fin cfg0.N) (q : Fin 128) (s : Fin 2048) : iblk m c 1 t (ix2 s q) = gate (U m c) (ix2 s (col t q)) := by
  blk_ext [iblk, V, idx t, gate, col]
theorem blk2 (t : Fin cfg0.N) (q : Fin 128) (s : Fin 31) : iblk m c 2 t (ix2 s q) = W m c (ix2 s (col t q)) := by
  blk_ext [iblk, V, idx t, col]
theorem blk3 (t : Fin cfg0.N) (q : Fin 128) (s : Fin 2048) : iblk m c 3 t (ix2 s q) = C m c (ix2 s (col t q)) := by
  blk_ext [iblk, V, idx t, col]

theorem emb4 (t : Fin cfg0.N) (s : Fin 2048) (q : Fin 128) : ((cfg0.win 4).blk t).view.emb (ix2 s q : S2048x128.Idx) = (ix2 s (col t q) : S2048x512.Idx) := by
  blk_ext [idx t, col]
theorem emb5 (t : Fin cfg0.N) (s : Fin 2048) (q : Fin 128) : ((cfg0.win 5).blk t).view.emb (ix2 s q : S2048x128.Idx) = (ix2 s (col t q) : S2048x512.Idx) := by
  blk_ext [idx t, col]
theorem emb6 (t : Fin cfg0.N) (s : Fin 31) (q : Fin 128) : ((cfg0.win 6).blk t).view.emb (ix2 s q : S31x128.Idx) = (ix2 s (col t q) : S31x512.Idx) := by
  blk_ext [idx t, col]
theorem emb7 (t : Fin cfg0.N) (s : Fin 1) (q : Fin 128) : ((cfg0.win 7).blk t).view.emb (ix2 s q : S1x128.Idx) = (ix2 s (col t q) : S1x512.Idx) := by
  blk_ext [idx t, col]

/-- The buffers of a point. -/
abbrev bufs (t : Fin cfg0.N) : Bufs :=
  ⟨ms0 t, hs0 t, ms1 t, hs1 t, ms2 t, hs2 t, ms3 t, hs3 t, ms4 t, hs4 t, ms5 t, hs5 t, ms6 t, hs6 t, ms7 t, hs7 t, Memref.whole cc0_scratch0, Memref.isWhole_whole _, Memref.whole cc0_scratch1, Memref.isWhole_whole _,
    Memref.whole cc0_scratch2, Memref.isWhole_whole _⟩

theorem outv4 (t : Fin cfg0.N) (s : Fin 2048) (q : Fin 128) : out4 m c t (ix2 s q) = dval (gate (U m c)) (W m c) (C m c) (ix2 s (col t q)) := by
  refine (mid5 c (grid0.coords t) (bufs t) (iblk m c 0 t) (iblk m c 1 t) (iblk m c 2 t) (iblk m c 3 t) 8 le_rfl VO4 _ s q (by omega)).trans ?_
  show A _ _ s.val q * sg _ = _
  rw [A_col (blk2 m c t q) (blk3 m c t q), blk1]; rfl

theorem outv5 (t : Fin cfg0.N) (s : Fin 2048) (q : Fin 128) : out5 m c t (ix2 s q) = dgate (val (U m c)) (gate (U m c)) (W m c) (C m c) (ix2 s (col t q)) := by
  refine (mid6 c (grid0.coords t) (bufs t) (iblk m c 0 t) (iblk m c 1 t) (iblk m c 2 t) (iblk m c 3 t) 8 le_rfl VO5 _ s q (by omega)).trans ?_
  show A _ _ s.val q * _ * sg _ * (1 - sg _) = _
  rw [A_col (blk2 m c t q) (blk3 m c t q), blk0, blk1]; rfl

theorem tap_sum (t : Fin cfg0.N) (j : Fin 32) (q : Fin 128) :
    ∑ r : Fin 8, fold c (grid0.coords t) (bufs t).a1 (bufs t).h1 (bufs t).a2 (bufs t).h2 (bufs t).a3 (bufs t).h3 (bufs t).a4 (bufs t).h4 (bufs t).a5 (bufs t).h5 (bufs t).a6 (bufs t).h6
        (bufs t).a7 (bufs t).h7 (bufs t).a8 (bufs t).h8 (bufs t).a9 (bufs t).h9 (bufs t).a10 (bufs t).h10 (bufs t).a11 (bufs t).h11 (iblk m c 0 t) (iblk m c 1 t) (iblk m c 2 t) (iblk m c 3 t) j (ix2 r q)
      = ∑ s ∈ Finset.range 2048, GluFun.T (val (U m c)) (gate (U m c)) (C m c) j.val s (col t q) :=
  (fold_sum c (grid0.coords t) (bufs t) _ _ _ _ j q).trans (Finset.sum_congr rfl fun s _ => T_col (blk0 m c t q) (blk1 m c t q) (blk3 m c t q) j.val s)

theorem outv7 (t : Fin cfg0.N) (q : Fin 128) : out7 m c t (ix2 (0 : Fin 1) q) = dbias (val (U m c)) (gate (U m c)) (C m c) (ix2 (0 : Fin 1) (col t q)) := by
  unfold out7 bias
  refine (rows_in VO7 _ (r := 0) rfl _ _ _ (0 : Fin 1) q (0 : Fin 1) rfl).trans ?_
  pointwise [k0_pay155]
  exact tap_sum m c t 31 q

theorem outv6 (t : Fin cfg0.N) (j : Fin 31) (q : Fin 128) : out6 m c t (ix2 j q) = dtap (val (U m c)) (gate (U m c)) (C m c) (ix2 j (col t q)) := by
  unfold out6 taps
  rw [← List.append_nil (List.map _ _)]
  refine (rows_map VO6 _ (n := 1) _ (fun k : Fin 31 => k.val) row_in _ j j q (0 : Fin 1) rfl (fun k hk => ?_) _ (by simp)).trans ?_
  · have : k.val ≠ j.val := fun e => hk (Fin.ext e)
    omega
  pointwise [k0_pay124]
  exact tap_sum m c t j.castSucc q

theorem arr4 : (dats m 0 c).arrAt 4 cfg0.N = dval (gate (U m c)) (W m c) (C m c) := by
  refine (dats m 0 c).arrAt_eq_of_covers 4 _ (by decide +kernel) fun t _ y => ?_
  blk_simp
  idx_vars y
  rw [after4, emb4]
  exact outv4 m c t _ _
theorem arr5 : (dats m 0 c).arrAt 5 cfg0.N = dgate (val (U m c)) (gate (U m c)) (W m c) (C m c) := by
  refine (dats m 0 c).arrAt_eq_of_covers 5 _ (by decide +kernel) fun t _ y => ?_
  blk_simp
  idx_vars y
  rw [after5, emb5]
  exact outv5 m c t _ _
theorem arr6 : (dats m 0 c).arrAt 6 cfg0.N = dtap (val (U m c)) (gate (U m c)) (C m c) := by
  refine (dats m 0 c).arrAt_eq_of_covers 6 _ (by decide +kernel) fun t _ y => ?_
  blk_simp
  idx_vars y
  rw [after6, emb6]
  exact outv6 m c t _ _
theorem arr7 : (dats m 0 c).arrAt 7 cfg0.N = dbias (val (U m c)) (gate (U m c)) (C m c) := by
  refine (dats m 0 c).arrAt_eq_of_covers 7 _ (by decide +kernel) fun t _ y => ?_
  blk_simp
  idx_vars y
  obtain rfl : y0 = 0 := Subsingleton.elim _ _
  rw [after7, emb7]
  exact outv7 m c t _

end Cert.GluArr

end
-- ==== Proof.GluAlg.lean ====
/- The gated convolution's backward kernel and its reference leave the same gradients. -/
module

public import proofs.«01_k».proof.Proof.GluTop
public import proofs.«01_k».proof.Proof.GluArr

@[expose] public section

set_option maxRecDepth 16384

noncomputable section

namespace Cert.GluAlg

open Idealize.ShloMosaic Idealize.ShloMosaic.TcCoe Idealize.SL.Sem
open Cert.GluArr Cert.GluFun Cert.GluRef Cert.GluConvIdeal Cert.GluConvIdeal.Gen Cert.GluConvIdeal.Frm

/-- The four results after the kernel's run. -/
theorem post (m : (ℓ : Loc nD τ sig) → Buf (Elt Ideal) ℓ) (r : PUnit × MemSt nD τ sig (Elt Ideal)) (h : Pipeline.FramePost cfgs (dats m) 0 (V m) r) (c : Dev nD) :
    r.2.mem ((c : Thread nD τ).loc main_v0_0) = dval (gate (U m c)) (W m c) (C m c) ∧ r.2.mem ((c : Thread nD τ).loc main_v0_1) = dgate (val (U m c)) (gate (U m c)) (W m c) (C m c)
    ∧ r.2.mem ((c : Thread nD τ).loc main_v0_2) = dtap (val (U m c)) (gate (U m c)) (C m c) ∧ r.2.mem ((c : Thread nD τ).loc main_v0_3) = dbias (val (U m c)) (gate (U m c)) (C m c) :=
  ⟨((h c).1 4).trans (arr4 m c), ((h c).1 5).trans (arr5 m c), ((h c).1 6).trans (arr6 m c), ((h c).1 7).trans (arr7 m c)⟩

/-- The kernel and the differentiated forward lines leave the same gradients of the value, the gate, the taps and the bias. -/
theorem algebraic : Cert.algebraic_GluConvIdeal_GluConvRefIdeal := fun m ρ m' ρ' _ hag =>
  ⟨fun c => dval (gate (U m c)) (W m c) (C m c), fun c => dgate (val (U m c)) (gate (U m c)) (W m c) (C m c), fun c => dtap (val (U m c)) (gate (U m c)) (C m c), fun c => dbias (val (U m c)) (gate (U m c)) (C m c),
    (θ_run _ _ _).mono (fun _ h c => by
      have p := post m _ h.1 c
      exact ⟨p.1, p.2.1, p.2.2.1, p.2.2.2, h.2 c⟩)
      (θ_run_and (run_main m ρ) (frame_of m ρ (dats m) (A_eq m) (run_main m ρ))),
    (θ_run _ _ _).mono (fun _ h c => by
      have e0 : StableHlo.launchContents m' c (Proc.tc.devRef Cert.GluConvRefIdeal.main_arg0) = U m c := (hag c).1
      have e1 : StableHlo.launchContents m' c (Proc.tc.devRef Cert.GluConvRefIdeal.main_arg1) = W m c := (hag c).2.1
      have e2 : StableHlo.launchContents m' c (Proc.tc.devRef Cert.GluConvRefIdeal.main_arg2) = C m c := (hag c).2.2
      refine ⟨(h c).1.trans ?_, (h c).2.1.trans ?_, (h c).2.2.1.trans ?_, (h c).2.2.2.1.trans ?_, (h c).2.2.2.2⟩
      · rw [Cert.GluConvRefIdeal.Read.val_main_v459_eq, e0, e1, e2]
        funext j; idx_vars j
        exact ref459 _ (W m c) (C m c) j0 j1
      · rw [Cert.GluConvRefIdeal.Read.val_main_v460_eq, e0, e1, e2]
        funext j; idx_vars j
        exact ref460 _ (W m c) (C m c) j0 j1
      · rw [Cert.GluConvRefIdeal.Read.val_main_v451_eq, e0, e2]
        funext j; idx_vars j
        exact ref451 _ (C m c) j0 j1
      · rw [Cert.GluConvRefIdeal.Read.val_main_v176_eq, e2]
        funext j; idx_vars j
        obtain rfl : j0 = 0 := Subsingleton.elim _ _
        exact ref176 (U m c) (C m c) j1)
      (Cert.GluConvRefIdeal.Value.run m' ρ')⟩

end Cert.GluAlg

end
-- ==== Proof.LnFwdTop.lean ====
/- The claims about the layernorm-and-silu forward kernel: they hold of every argument, finite or not. -/
module

public import proofs.«01_k».proof.Defs
public import proofs.«01_k».proof.Proof.Reals
public import proofs.«01_k».proof.Proof.Gen.LnFwd.Frame
public import proofs.«01_k».proof.Proof.Gen.LnFwdIdeal.Value
public import proofs.«01_k».proof.Proof.Gen.LnFwdRefIdeal.Read
public import Idealize.ShloMosaic.Lib.Pipeline.ValueKit

@[expose] public section

set_option maxRecDepth 16384

noncomputable section

namespace Cert.LnFwdTop

open Idealize.ShloMosaic Idealize.ShloMosaic.TcCoe Idealize.SL.Sem Cert.LnFwdIdeal Cert.LnFwdIdeal.Gen Cert.LnFwdRefIdeal.Read
open Idealize.ShloMosaic.Pipeline (Dat)

theorem hz : (![0, 0] : Fin 2 → Nat) = fun _ => 0 := funext fun a => by fin_cases a <;> rfl

variable (m : (ℓ : Loc nD τ sig) → Buf (Elt Ideal) ℓ) (c : Dev nD)

/-- The activation before the norm, the scale and the shift, on device `c`. -/
abbrev X : Vec Ideal S2048x512 .f32 := m ((c : Thread nD τ).loc main_arg0)
abbrev G : Vec Ideal S1x512 .f32 := m ((c : Thread nD τ).loc main_arg1)
abbrev B : Vec Ideal S1x512 .f32 := m ((c : Thread nD τ).loc main_arg2)

/-- The row of the arrays that row `r` of point `t`'s block is. -/
def row (t : Fin cfg0.N) (r : Fin 512) : Fin 2048 := ⟨t.val * 512 + r.val, by have hN : cfg0.N = 4 := N_0; have := t.isLt; omega⟩

theorem idx : ∀ t : Fin cfg0.N, win0_0.index t = ![t.val, 0] ∧ win0_1.index t = ![0, 0] ∧ win0_2.index t = ![0, 0]
    ∧ win0_3.index t = ![t.val, 0] ∧ win0_4.index t = ![0, t.val] :=
  (by decide +kernel : ∀ t : Fin grid0.N, _)

theorem blk0 (t : Fin cfg0.N) (r l : Fin 512) : iblk m c 0 t (ix2 r l) = X m c (ix2 (row t r) l) := by
  blk_ext [iblk, V, idx t, row]
theorem blk1 (t : Fin cfg0.N) (l : Fin 512) : iblk m c 1 t (ix2 (0 : Fin 1) l) = G m c (ix2 (0 : Fin 1) l) := by
  blk_ext [iblk, V, idx t]
theorem blk2 (t : Fin cfg0.N) (l : Fin 512) : iblk m c 2 t (ix2 (0 : Fin 1) l) = B m c (ix2 (0 : Fin 1) l) := by
  blk_ext [iblk, V, idx t]
theorem emb3 (t : Fin cfg0.N) (r l : Fin 512) : ((cfg0.win 3).blk t).view.emb (ix2 r l : S512x512.Idx) = (ix2 (row t r) l : S2048x512.Idx) := by
  blk_ext [idx t, row]
theorem emb4 (t : Fin cfg0.N) (l r : Fin 512) : ((cfg0.win 4).blk t).view.emb (ix2 l r : S512x512.Idx) = (ix2 l (row t r) : S512x2048.Idx) := by
  blk_ext [idx t, row]

/-- A block's rows are the reference's rows. -/
theorem pay (t : Fin cfg0.N) (r l : Fin 512) : k0_pay1 (F := Ideal) (iblk m c 0 t) (iblk m c 1 t) (iblk m c 2 t) (ix2 r l)
    = val_main_v20 (F := Ideal) (X m c) (G m c) (B m c) (ix2 (row t r) l) := by
  pointwise [k0_pay1, val_main_v20, val_main_call0_v5, val_main_call0_cst_0, val_main_call0_v4, val_main_call0_v3, val_main_call0_cst, val_main_call0_v2, val_main_call0_v1, val_main_call0_v0,
    val_main_v19, val_main_v18, val_main_v17, val_main_v16, val_main_v15, val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, val_main_cst_2, val_main_cst_3]
  simp only [blk0, blk1, blk2, zero_sub]

theorem out3 (x0 : Vec Ideal S512x512 .f32) (x1 x2 : Vec Ideal S1x512 .f32) : out0_3 x0 x1 x2 = k0_pay2 x0 x1 x2 := by
  unfold out0_3
  rw [View.canon_unit_zero hz]
  simp only [View.ld_unit_zero (S := S512x512) hz, View.ld_unit_zero (S := S1x512) hz]

theorem out4 (x0 : Vec Ideal S512x512 .f32) (x1 x2 : Vec Ideal S1x512 .f32) : out0_4 x0 x1 x2 = k0_pay3 x0 x1 x2 := by
  unfold out0_4
  rw [View.canon_unit_zero hz]
  simp only [View.ld_unit_zero (S := S512x512) hz, View.ld_unit_zero (S := S1x512) hz]

theorem arr3 : (dats m 0 c).arrAt 3 cfg0.N = val_main_v21 (F := Ideal) (X m c) (G m c) (B m c) := by
  refine (dats m 0 c).arrAt_eq_of_covers 3 _ (by decide +kernel) fun t _ y => ?_
  blk_simp
  idx_vars y
  rw [after0_3, out3, emb3]
  pointwise [k0_pay2, val_main_v21]
  exact pay m c t y0 y1

theorem arr4 : (dats m 0 c).arrAt 4 cfg0.N = val_main_v22 (F := Ideal) (X m c) (G m c) (B m c) := by
  refine (dats m 0 c).arrAt_eq_of_covers 4 _ (by decide +kernel) fun t _ y => ?_
  blk_simp
  idx_vars y
  rw [after0_4, out4, emb4]
  pointwise [k0_pay3, val_main_v22, val_main_v21]
  exact pay m c t y1 y0

/-- The kernel and the reference's layernorm and silu leave the same activation and its transpose. -/
theorem algebraic : Cert.algebraic_LnFwdIdeal_LnFwdRefIdeal := fun m ρ m' ρ' _ hag =>
  ⟨fun c => val_main_v21 (F := Ideal) (X m c) (G m c) (B m c), fun c => val_main_v22 (F := Ideal) (X m c) (G m c) (B m c),
    (θ_run _ _ _).mono (fun _ h c => ⟨(h c).1.trans (arr3 m c), (h c).2.1.trans (arr4 m c), (h c).2.2⟩) (Cert.LnFwdIdeal.Value.run_blocks m ρ),
    (θ_run _ _ _).mono (fun _ h c => by
      refine ⟨(h c).1.trans ?_, (h c).2.1.trans ?_, (h c).2.2⟩
      · rw [val_main_v21_eq, (hag c).1, (hag c).2.1, (hag c).2.2]
      · rw [val_main_v22_eq, (hag c).1, (hag c).2.1, (hag c).2.2])
      (Cert.LnFwdRefIdeal.Value.run m' ρ')⟩

/-- The reference ends with its arguments unchanged; it declares no semaphore. -/
theorem frame_ref : Cert.quiescent_LnFwdRefIdeal := fun m ρ _ =>
  (θ_run Cert.LnFwdRefIdeal.defs _ _).mono (fun r h => And.intro (fun c => (h c).2.2) (Idealize.ShloMosaic.sem_eq_zero_of_no_sems (by decide) r.2))
    (Cert.LnFwdRefIdeal.Value.run (F := Ideal) m ρ)

end Cert.LnFwdTop

end
-- ==== Proof.NormUpTop.lean ====
/- The claims about the root-mean-square norm with its product: they hold of every argument, finite or not. -/
module

public import proofs.«01_k».proof.Defs
public import proofs.«01_k».proof.Proof.Gen.NormUp.Frame
public import proofs.«01_k».proof.Proof.Gen.NormUpIdeal.Value
public import proofs.«01_k».proof.Proof.Gen.NormUpRefIdeal.Read
public import Idealize.ShloMosaic.Lib.Pipeline.ValueKit

@[expose] public section

set_option maxRecDepth 16384

noncomputable section

namespace Cert.NormUpTop

open Idealize.ShloMosaic Idealize.ShloMosaic.TcCoe Idealize.SL.Sem Cert.NormUpIdeal Cert.NormUpIdeal.Gen Cert.NormUpRefIdeal.Read
open Idealize.ShloMosaic.Pipeline (Dat)

theorem hz : (![0, 0] : Fin 2 → Nat) = fun _ => 0 := funext fun a => by fin_cases a <;> rfl

variable (m : (ℓ : Loc nD τ sig) → Buf (Elt Ideal) ℓ) (c : Dev nD)

/-- The rows, the norm's scale and the weight, on device `c`. -/
abbrev X : Vec Ideal S2048x1024 .f32 := m ((c : Thread nD τ).loc main_arg0)
abbrev G : Vec Ideal S1x1024 .f32 := m ((c : Thread nD τ).loc main_arg1)
abbrev W : Vec Ideal S1024x5632 .bf16 := m ((c : Thread nD τ).loc main_arg2)

/-- The row of the arrays that row `r` of point `t`'s block is. -/
def row (t : Fin cfg0.N) (r : Fin 256) : Fin 2048 := ⟨t.val * 256 + r.val, by have hN : cfg0.N = 8 := N_0; have := t.isLt; omega⟩

theorem idx : ∀ t : Fin cfg0.N, win0_0.index t = ![t.val, 0] ∧ win0_1.index t = ![0, 0] ∧ win0_2.index t = ![0, 0]
    ∧ win0_3.index t = ![0, t.val] ∧ win0_4.index t = ![t.val, 0] :=
  (by decide +kernel : ∀ t : Fin grid0.N, _)

theorem blk0 (t : Fin cfg0.N) (r : Fin 256) (l : Fin 1024) : iblk m c 0 t (ix2 r l) = X m c (ix2 (row t r) l) := by
  blk_ext [iblk, V, idx t, row]
theorem blk1 (t : Fin cfg0.N) (l : Fin 1024) : iblk m c 1 t (ix2 (0 : Fin 1) l) = G m c (ix2 (0 : Fin 1) l) := by
  blk_ext [iblk, V, idx t]
theorem blk2 (t : Fin cfg0.N) (k : Fin 1024) (l : Fin 5632) : iblk m c 2 t (ix2 k l) = W m c (ix2 k l) := by
  blk_ext [iblk, V, idx t]
theorem emb3 (t : Fin cfg0.N) (l : Fin 1024) (r : Fin 256) : ((cfg0.win 3).blk t).view.emb (ix2 l r : S1024x256.Idx) = (ix2 l (row t r) : S1024x2048.Idx) := by
  blk_ext [idx t, row]
theorem emb4 (t : Fin cfg0.N) (r : Fin 256) (l : Fin 5632) : ((cfg0.win 4).blk t).view.emb (ix2 r l : S256x5632.Idx) = (ix2 (row t r) l : S2048x5632.Idx) := by
  blk_ext [idx t, row]

theorem out3 (x0 : Vec Ideal S256x1024 .f32) (x1 : Vec Ideal S1x1024 .f32) (x2 : Vec Ideal S1024x5632 .bf16) : out0_3 x0 x1 x2 = k0_pay2 x0 x1 := by
  unfold out0_3
  rw [View.canon_unit_zero hz]
  simp only [View.ld_unit_zero (S := S256x1024) hz, View.ld_unit_zero (S := S1x1024) hz]

theorem out4 (x0 : Vec Ideal S256x1024 .f32) (x1 : Vec Ideal S1x1024 .f32) (x2 : Vec Ideal S1024x5632 .bf16) : out0_4 x0 x1 x2 = k0_pay3 x0 x1 x2 := by
  unfold out0_4
  rw [View.canon_unit_zero hz]
  simp only [View.ld_unit_zero (S := S256x1024) hz, View.ld_unit_zero (S := S1x1024) hz, View.ld_unit_zero (S := S1024x5632) hz]

/-- The transposed normed rows. -/
theorem arr3 : (dats m 0 c).arrAt 3 cfg0.N = val_main_v13 (F := Ideal) (X m c) (G m c) := by
  refine (dats m 0 c).arrAt_eq_of_covers 3 _ (by decide +kernel) fun t _ y => ?_
  blk_simp
  idx_vars y
  rw [after0_3, out3, emb3]
  pointwise [k0_pay2, k0_pay1, val_main_v13, val_main_v12, val_main_v11, val_main_v10, val_main_v9, val_main_v8, val_main_v7, val_main_v6, val_main_v5, val_main_v4, val_main_v3, val_main_v2, val_main_v1,
    val_main_v0, val_main_cst, val_main_cst_0, val_main_cst_1]
  simp only [blk0, blk1]

/-- The normed rows' product with the weight. -/
theorem arr4 : (dats m 0 c).arrAt 4 cfg0.N = val_main_v27 (F := Ideal) (X m c) (G m c) (W m c) := by
  refine (dats m 0 c).arrAt_eq_of_covers 4 _ (by decide +kernel) fun t _ y => ?_
  blk_simp
  idx_vars y
  rw [after0_4, out4, emb4]
  pointwise [k0_pay3, k0_pay1, val_main_v27, val_main_v26, val_main_v25, val_main_v24, val_main_v23, val_main_v22, val_main_v21, val_main_v20, val_main_v19, val_main_v18, val_main_v17, val_main_v16, val_main_v15,
    val_main_v14, val_main_cst_2, val_main_cst_3, val_main_cst_4]
  simp only [blk0, blk1, blk2]

/-- The kernel and the reference's norm and product leave the same two arrays. -/
theorem algebraic : Cert.algebraic_NormUpIdeal_NormUpRefIdeal := fun m ρ m' ρ' _ hag =>
  ⟨fun c => val_main_v13 (F := Ideal) (X m c) (G m c), fun c => val_main_v27 (F := Ideal) (X m c) (G m c) (W m c),
    (θ_run _ _ _).mono (fun _ h c => ⟨(h c).1.trans (arr3 m c), (h c).2.1.trans (arr4 m c), (h c).2.2⟩) (Cert.NormUpIdeal.Value.run_blocks m ρ),
    (θ_run _ _ _).mono (fun _ h c => by
      refine ⟨(h c).1.trans ?_, (h c).2.1.trans ?_, (h c).2.2⟩
      · rw [val_main_v13_eq, (hag c).1, (hag c).2.1]
      · rw [val_main_v27_eq, (hag c).1, (hag c).2.1, (hag c).2.2])
      (Cert.NormUpRefIdeal.Value.run m' ρ')⟩

/-- The reference ends with its arguments unchanged; it declares no semaphore. -/
theorem frame_ref : Cert.quiescent_NormUpRefIdeal := fun m ρ _ =>
  (θ_run Cert.NormUpRefIdeal.defs _ _).mono (fun r h => And.intro (fun c => (h c).2.2) (Idealize.ShloMosaic.sem_eq_zero_of_no_sems (by decide) r.2))
    (Cert.NormUpRefIdeal.Value.run (F := Ideal) m ρ)

end Cert.NormUpTop

end
-- ==== Proof.FfnFwdFrm.lean ====
/- The gated unit's forward kernel: its run on any buffers, what it leaves, and its frame. -/
module

public import proofs.«01_k».proof.Proof.Gen.FfnFwdIdeal.Loops
public import proofs.«01_k».proof.Proof.Gen.FfnFwdIdeal.Frame.Runs
public import Idealize.ShloMosaic.Lib.Claim
public import Idealize.ShloMosaic.Lib.WordCmp

@[expose] public section

set_option maxRecDepth 16384

noncomputable section

namespace Cert.FfnFwdIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfnFwdIdeal.Gen
open Idealize.ShloMosaic.Pipeline (Dat Cfg Window BodyObligation cellOf)

variable {F : FTy → Type} [FloatOps F]

local notation "𝕄G" => MT nD τ sig Unit (Elt F) ℕ (UR sig nD τ) ℕ

section run
variable (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S3x256 .f32) (harg3 : arg3.IsWhole) (arg4 : Memref sig .tc .vmem S1x256 .f32) (harg4 : arg4.IsWhole) (arg5 : Memref sig .tc .vmem S2048x256 .bf16) (harg5 : arg5.IsWhole) (arg6 : Memref sig .tc .vmem S2056x256 .f32) (harg6 : arg6.IsWhole)
  (x1 : Vec F S2048x256 .f32) (x2 : Vec F S2048x256 .f32) (x3 : Vec F S3x256 .f32) (x4 : Vec F S1x256 .f32)

set_option maxHeartbeats 4000000 in
/-- The body at any grid point: the pieces it leaves in its result, from the blocks it reads and what the scratch buffer
happens to hold, with the proof that it runs to its end leaving them. -/
def runF (f6 : BufTy.Contents (Elt F) arg6.view.ty) :
    { L5 : List (View.Piece (Elt F) S2048x256 .bf16) //
      ∀ (E : Set ℕ) (K : PUnit → sProp 𝕄G),
        iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (arg6.view.loc (c : Thread nD τ) ↦[arg6.view.set]{fullShare} f6)
            ∗ (iprop(owns (c : Thread nD τ) arg1 fullShare x1 ∗ owns (c : Thread nD τ) arg2 fullShare x2 ∗ owns (c : Thread nD τ) arg3 fullShare x3 ∗ owns (c : Thread nD τ) arg4 fullShare x4 ∗ (∃ f, arg5.view.loc (c : Thread nD τ) ↦[arg5.view.set]{fullShare} arg5.view.writes (Elt F) f L5) ∗ (∃ f, arg6.view.loc (c : Thread nD τ) ↦[arg6.view.set]{fullShare} f)) -∗ K ⟨⟩))
          ⊢ wp frame (wpE (defs₀ (F := F)) Variants.none c none) E (cc0_ffn_act_fwd i arg1 harg1 arg2 harg2 arg3 harg3 arg4 harg4 arg5 harg5 arg6 harg6) K } := by
  refine ⟨?_, fun E K => ?run⟩
  case run =>
    simp only [cc0_ffn_act_fwd_eq_skeleton]; unfold cc0_ffn_act_fwd_skel
    unfold owns
    iintro ⟨⟨%g1, %hg1, H1⟩, ⟨%g2, %hg2, H2⟩, ⟨%g3, %hg3, H3⟩, ⟨%g4, %hg4, H4⟩, ⟨%d5, %g5, -, H5⟩, H6, Hk⟩
    obtain rfl := harg1.eq_unread hg1; obtain rfl := harg2.eq_unread hg2; obtain rfl := harg3.eq_unread hg3; obtain rfl := harg4.eq_unread hg4
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _; iexact H6

/-- What is written into the scratch buffer: rows of zeros, then the first loop's tiles. -/
def pads : List (View.Piece (Elt F) S2056x256 .f32) :=
  pb_k0_t1 (F := F) Variants.none c none i arg1 harg1 arg2 harg2 arg3 harg3 arg4 harg4 arg5 harg5 arg6 harg6 (harg1.unread x1) (Scf.trips k0_t1_loop.lb k0_t1_loop.ub k0_t1_loop.st) ++ [⟨Rect.unit ![0, 0] S8x256.size inb_S2056x256_S8x256_0_0, k0_pay1⟩]

/-- The scratch buffer after the first loop. -/
def S6 : BufTy.Contents (Elt F) arg6.view.ty :=
  arg6.view.writes (Elt F) arg6.view.junk (pads c i arg1 harg1 arg2 harg2 arg3 harg3 arg4 harg4 arg5 harg5 arg6 harg6 x1)

/-- What the second loop writes: the result. -/
def fin : List (View.Piece (Elt F) S2048x256 .bf16) :=
  pb_k0_t2 (F := F) Variants.none c none i arg1 harg1 arg2 harg2 arg3 harg3 arg4 harg4 arg5 harg5 arg6 harg6 (harg2.unread x2) (harg3.unread x3) (harg4.unread x4) (S6 c i arg1 harg1 arg2 harg2 arg3 harg3 arg4 harg4 arg5 harg5 arg6 harg6 x1)
    (Scf.trips k0_t2_loop.lb k0_t2_loop.ub k0_t2_loop.st)

/-- The zeros and the tiles fill the scratch buffer. -/
theorem cover6 : ∀ y, ∃ p ∈ pads c i arg1 harg1 arg2 harg2 arg3 harg3 arg4 harg4 arg5 harg5 arg6 harg6 x1, y ∈ p.1.set :=
  View.cover_of_tiledBy _ ![8, 256] (by sl_kernel_rfl)

theorem eq6 (f6 : BufTy.Contents (Elt F) arg6.view.ty) :
    arg6.view.writes (Elt F) f6 (pads c i arg1 harg1 arg2 harg2 arg3 harg3 arg4 harg4 arg5 harg5 arg6 harg6 x1) = S6 c i arg1 harg1 arg2 harg2 arg3 harg3 arg4 harg4 arg5 harg5 arg6 harg6 x1 :=
  (harg6.eq_unread rfl).trans ((congrArg harg6.unread (View.read_writes_of_cover _ _ _ _ _ (cover6 c i arg1 harg1 arg2 harg2 arg3 harg3 arg4 harg4 arg5 harg5 arg6 harg6 x1))).trans (harg6.eq_unread rfl).symm)

/-- Tiles fill the result. -/
theorem cover5 : ∀ y, ∃ p ∈ fin c i arg1 harg1 arg2 harg2 arg3 harg3 arg4 harg4 arg5 harg5 arg6 harg6 x1 x2 x3 x4, y ∈ p.1.set :=
  View.cover_of_tiledL _ S256x256.size (by sl_kernel_rfl)

/-- The run's pieces do not depend on what the scratch buffer held. -/
theorem run5 (f6 : BufTy.Contents (Elt F) arg6.view.ty) :
    (runF c i arg1 harg1 arg2 harg2 arg3 harg3 arg4 harg4 arg5 harg5 arg6 harg6 x1 x2 x3 x4 f6).1 = fin c i arg1 harg1 arg2 harg2 arg3 harg3 arg4 harg4 arg5 harg5 arg6 harg6 x1 x2 x3 x4 := by
  unfold runF; dsimp only
  sl_unfold_words
  have h := eq6 c i arg1 harg1 arg2 harg2 arg3 harg3 arg4 harg4 arg5 harg5 arg6 harg6 x1 f6
  unfold pads at h
  rw [h]; rfl

end run

variable (m : (ℓ : Loc nD τ sig) → Buf (Elt F) ℓ) (ρ : Dev nD → PrngReg)

/-- What point `t` leaves in the result. -/
def out4 (c : Dev nD) (t : Fin cfg0.N) : Vec F S2048x256 .bf16 :=
  VO0_4.read (Elt F) (VO0_4.writes (Elt F) VO0_4.junk (fin (F := F) c (grid0.coords t) (ms0_0 t) (hs0_0 t) (ms0_1 t) (hs0_1 t) (ms0_2 t) (hs0_2 t) (ms0_3 t) (hs0_3 t) (ms0_4 t) (hs0_4 t) (Memref.whole cc0_scratch0) (Memref.isWhole_whole _) (iblk m c 0 t) (iblk m c 1 t) (iblk m c 2 t) (iblk m c 3 t)))

/-- What each staging buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = out4 m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- What the body is called with at point `t`. -/
def bodyPre (c : Dev nD) (t : Fin cfg0.N) : sProp 𝕄G :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- What it returns. -/
def bodyPost (c : Dev nD) (t : Fin cfg0.N) : sProp 𝕄G :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The scratch buffer held whole, in its two spellings. -/
theorem whole_pt (c : Dev nD) (b : Ref sig .tc) (f : Buf (Elt F) ((c : Thread nD τ).loc b)) :
    (iprop((Memref.whole b).view.loc (c : Thread nD τ) ↦[(Memref.whole b).view.set]{fullShare} f) : sProp 𝕄G)
      = iprop(((c : Thread nD τ).loc b) ↦{fullShare} f) := by
  rw [show (Memref.whole b).view.set = Finset.univ from View.set_whole b]

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0, after1, after2, after3, after4]
  unfold Pipeline.ΦA; rw [scopedRest0_eq]
  iintro ⟨⟨⟨%f6, G6⟩, Hr⟩, Ho, ⟨%d0, H0⟩, ⟨%d1, H1⟩, ⟨%d2, H2⟩, ⟨%d3, H3⟩, ⟨%d4, H4⟩⟩
  ihave G6 := (Entails.of_eq (whole_pt c cc0_scratch0 f6).symm) $$ G6
  iapply ((runF (F := F) c (grid0.coords t) (ms0_0 t) (hs0_0 t) (ms0_1 t) (hs0_1 t) (ms0_2 t) (hs0_2 t) (ms0_3 t) (hs0_3 t) (ms0_4 t) (hs0_4 t) (Memref.whole cc0_scratch0) (Memref.isWhole_whole _) (iblk m c 0 t) (iblk m c 1 t) (iblk m c 2 t) (iblk m c 3 t) f6).2 Set.univ _)
  isplitl [H0]; · iexact H0
  isplitl [H1]; · iexact H1
  isplitl [H2]; · iexact H2
  isplitl [H3]; · iexact H3
  isplitl [H4]; · iexists _; iexact H4
  isplitl [G6]; · iexact G6
  iintro ⟨H0, H1, H2, H3, ⟨%e4, H4⟩, ⟨%e6, G6⟩⟩
  isplitl [G6 Hr]
  · isplitl [G6]
    · iexists _; iapply (Entails.of_eq (whole_pt c cc0_scratch0 e6)); iexact G6
    iexact Hr
  isplitl [Ho]; · iexact Ho
  isplitl [H0]; · iexact H0
  isplitl [H1]; · iexact H1
  isplitl [H2]; · iexact H2
  isplitl [H3]; · iexact H3
  unfold owns; iexists _; isplitr
  swap; · iexact H4
  ipureintro; unfold out4; rw [run5]; exact View.read_writes_of_cover _ _ _ _ _ (cover5 _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The program runs to its end, with every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The program ends with its arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.FfnFwdIdeal.Frm

end
-- ==== Proof.FfnFwdVal.lean ====
/- What the gated unit's forward kernel leaves, entry by entry. -/
module

public import proofs.«01_k».proof.Proof.FfnArr
public import proofs.«01_k».proof.Proof.FfnFwdFrm

@[expose] public section

set_option maxRecDepth 16384

noncomputable section

namespace Cert.FfnFwdIdeal.Val

open Idealize.ShloMosaic Idealize.ShloMosaic.TcCoe Idealize.ShloMosaic.Tactic
open Cert.FfnFwdIdeal.Gen Cert.FfnFwdIdeal.Frm Cert.Rows
open Cert.FfnActIdeal.Val (P Z sg)

/-- The buffers of one point. -/
structure Bufs where
  a1 : Memref sig .tc .vmem S2048x256 .f32
  h1 : a1.IsWhole
  a2 : Memref sig .tc .vmem S2048x256 .f32
  h2 : a2.IsWhole
  a3 : Memref sig .tc .vmem S3x256 .f32
  h3 : a3.IsWhole
  a4 : Memref sig .tc .vmem S1x256 .f32
  h4 : a4.IsWhole
  a5 : Memref sig .tc .vmem S2048x256 .bf16
  h5 : a5.IsWhole
  a6 : Memref sig .tc .vmem S2056x256 .f32
  h6 : a6.IsWhole

theorem off1 (k : Fin k0_t1_loop.trips) : k0_off1 k = ![256 * k.val, 0] := by revert k; decide +kernel
theorem off2 (k : Fin k0_t1_loop.trips) : k0_off2 k = ![8 + 256 * k.val, 0] := by revert k; decide +kernel
theorem off3 (k : Fin k0_t2_loop.trips) : k0_off3 k = ![256 * k.val, 0] := by revert k; decide +kernel
theorem off4 (k : Fin k0_t2_loop.trips) : k0_off4 k = ![256 * k.val, 0] := by revert k; decide +kernel
theorem trips1 : k0_t1_loop.trips = 8 := by decide +kernel
theorem trips2 : k0_t2_loop.trips = 8 := by decide +kernel

/-- The gated unit's result. -/
def O {n : ℕ} (x1 x2 : Vec Ideal (⟨2, ![2048, n]⟩ : Shape) .f32) (x3 : Vec Ideal (⟨2, ![3, n]⟩ : Shape) .f32) (x4 : Vec Ideal (⟨2, ![1, n]⟩ : Shape) .f32) : Vec Ideal (⟨2, ![2048, n]⟩ : Shape) .bf16 :=
  fun j => Z x1 x3 x4 (j 0).val (j 1) * sg (Z x1 x3 x4 (j 0).val (j 1)) * x2 j

variable (c : Dev nD) (i : grid0.Coords) (B : Bufs)

/-- A trip of the first loop. -/
theorem trip1 (X1 : BufTy.Contents (Elt Ideal) B.a1.view.ty) (k : Fin k0_t1_loop.trips) :
    tripL_k0_t1 (F := Ideal) Variants.none c none i B.a1 B.h1 B.a2 B.h2 B.a3 B.h3 B.a4 B.h4 B.a5 B.h5 B.a6 B.h6 X1 k
      = [⟨Rect.unit (s := S2056x256) (k0_off2 k) ![256, 256] (k0_off2_inb k),
          k0_pay2 (B.a1.view.readAt (Elt Ideal) (Rect.unit (s := S2048x256) (k0_off1 k) ![256, 256] (k0_off1_inb k)).toLoadRect X1)⟩] := by
  unfold tripL_k0_t1 trip_k0_t1; rfl

/-- A trip of the second loop. -/
theorem trip2 (X2 : BufTy.Contents (Elt Ideal) B.a2.view.ty) (X3 : BufTy.Contents (Elt Ideal) B.a3.view.ty) (X4 : BufTy.Contents (Elt Ideal) B.a4.view.ty) (X6 : BufTy.Contents (Elt Ideal) B.a6.view.ty) (k : Fin k0_t2_loop.trips) :
    tripL_k0_t2 (F := Ideal) Variants.none c none i B.a1 B.h1 B.a2 B.h2 B.a3 B.h3 B.a4 B.h4 B.a5 B.h5 B.a6 B.h6 X2 X3 X4 X6 k
      = [⟨Rect.unit (s := S2048x256) (k0_off4 k) ![256, 256] (k0_off4_inb k),
          k0_pay3 (B.a6.view.readAt (Elt Ideal) (Rect.unit (s := S2056x256) (k0_off3 k) ![264, 256] (k0_off3_inb k)).toLoadRect X6)
            (B.a4.view.readAt (Elt Ideal) (Rect.unit (s := S1x256) ![0, 0] ![1, 256] inb_S1x256_S1x256_0_0).toLoadRect X4)
            (B.a3.view.readAt (Elt Ideal) (Rect.unit (s := S3x256) ![0, 0] ![1, 256] inb_S3x256_S1x256_0_0).toLoadRect X3)
            (B.a3.view.readAt (Elt Ideal) (Rect.unit (s := S3x256) ![1, 0] ![1, 256] inb_S3x256_S1x256_1_0).toLoadRect X3)
            (B.a3.view.readAt (Elt Ideal) (Rect.unit (s := S3x256) ![2, 0] ![1, 256] inb_S3x256_S1x256_2_0).toLoadRect X3)
            (B.a2.view.readAt (Elt Ideal) (Rect.unit (s := S2048x256) (k0_off4 k) ![256, 256] (k0_off4_inb k)).toLoadRect X2)⟩] := by
  unfold tripL_k0_t2 trip_k0_t2; rfl

/-- What is stored of a window. -/
theorem pay3_at {x1 x2 : Vec Ideal S2048x256 .f32} {x3 : Vec Ideal S3x256 .f32} {x4 : Vec Ideal S1x256 .f32} {v9 : Vec Ideal S264x256 .f32} {v15 v16 v21 v25 : Vec Ideal S1x256 .f32} {v38 : Vec Ideal S256x256 .f32} {b : ℕ}
    (h9 : ∀ (r : Fin 264) q, v9 (ix2 r q) = P x1 (b + r.val) q) (h15 : ∀ q, v15 (ix2 0 q) = x4 (ix2 0 q)) (h16 : ∀ q, v16 (ix2 0 q) = x3 (ix2 0 q))
    (h21 : ∀ q, v21 (ix2 0 q) = x3 (ix2 1 q)) (h25 : ∀ q, v25 (ix2 0 q) = x3 (ix2 2 q)) (r q : Fin 256) (s : Fin 2048) (hs : s.val = b + r.val)
    (h38 : v38 (ix2 r q) = x2 (ix2 s q)) :
    k0_pay3 (F := Ideal) v9 v15 v16 v21 v25 v38 (ix2 r q) = O x1 x2 x3 x4 (ix2 s q) := by
  pointwise [k0_pay3]
  rw [O, ← h38]
  simp only [h9, h15, h16, h21, h25, show b + (r.val + 264 - 258) % 264 = s.val + 6 by omega, show b + (r.val + 264 - 257) % 264 = s.val + 7 by omega, show b + (8 + r.val) = s.val + 8 by omega]
  rfl

variable (x1 x2 : Vec Ideal S2048x256 .f32) (x3 : Vec Ideal S3x256 .f32) (x4 : Vec Ideal S1x256 .f32)

/-- The padded gate after `k` trips of the first loop. -/
theorem pad6 (k : ℕ) (hk : k ≤ 8) (f : BufTy.Contents (Elt Ideal) B.a6.view.ty) (s : Fin 2056) (q : Fin 256) (hs : s.val < 8 + 256 * k) :
    B.a6.view.read (Elt Ideal) (B.a6.view.writes (Elt Ideal) f
      (pb_k0_t1 (F := Ideal) Variants.none c none i B.a1 B.h1 B.a2 B.h2 B.a3 B.h3 B.a4 B.h4 B.a5 B.h5 B.a6 B.h6 (B.h1.unread x1) k ++ [⟨Rect.unit ![0, 0] S8x256.size inb_S2056x256_S8x256_0_0, k0_pay1 (F := Ideal)⟩])) (ix2 s q)
      = P x1 s.val q := by
  induction k with
  | zero =>
    refine (rows_in B.a6.view f (o := ![0, 0]) (r := 0) (n := 8) rfl _ _ [] s q ⟨s.val, by omega⟩ (by simp)).trans ?_
    rw [P, dif_neg (by omega)]
    pointwise [k0_pay1]
  | succ k ih =>
    have hk' : k < k0_t1_loop.trips := by rw [trips1]; omega
    rw [pb_k0_t1_succ (F := Ideal) Variants.none c none i B.a1 B.h1 B.a2 B.h2 B.a3 B.h3 B.a4 B.h4 B.a5 B.h5 B.a6 B.h6 (B.h1.unread x1) ⟨k, hk'⟩, trip1 c i B _ ⟨k, hk'⟩,
      List.cons_append, List.nil_append, List.cons_append]
    by_cases h : s.val < 8 + 256 * k
    · exact (rows_out B.a6.view f (off2 _) _ _ _ s q (.inl h)).trans (ih (by omega) h)
    · refine (rows_in B.a6.view f (off2 _) _ _ _ s q ⟨s.val - (8 + 256 * k), by omega⟩ (by simp; omega)).trans ?_
      pointwise [k0_pay2]
      refine (rows_at B.a1.view _ (off1 _) _ _ _ (⟨s.val - 8, by omega⟩ : Fin 2048) (by simp; omega)).trans ?_
      rw [B.h1.read_unread, P, dif_pos (by omega)]

/-- The result after `k` trips of the second loop. -/
theorem out_at (k : ℕ) (hk : k ≤ 8) (v : View sig .tc .vmem S2048x256 .bf16) (f : v.ty.Contents (Elt Ideal)) (s : Fin 2048) (q : Fin 256) (hs : s.val < 256 * k) :
    v.read (Elt Ideal) (v.writes (Elt Ideal) f
      (pb_k0_t2 (F := Ideal) Variants.none c none i B.a1 B.h1 B.a2 B.h2 B.a3 B.h3 B.a4 B.h4 B.a5 B.h5 B.a6 B.h6 (B.h2.unread x2) (B.h3.unread x3) (B.h4.unread x4)
        (S6 c i B.a1 B.h1 B.a2 B.h2 B.a3 B.h3 B.a4 B.h4 B.a5 B.h5 B.a6 B.h6 x1) k)) (ix2 s q)
      = O x1 x2 x3 x4 (ix2 s q) := by
  induction k with
  | zero => omega
  | succ k ih =>
    have hk' : k < k0_t2_loop.trips := by rw [trips2]; omega
    rw [pb_k0_t2_succ (F := Ideal) Variants.none c none i B.a1 B.h1 B.a2 B.h2 B.a3 B.h3 B.a4 B.h4 B.a5 B.h5 B.a6 B.h6 _ _ _ _ ⟨k, hk'⟩, trip2 c i B _ _ _ _ ⟨k, hk'⟩,
      List.cons_append, List.nil_append]
    by_cases h : s.val < 256 * k
    · exact (rows_out v f (off4 _) _ _ _ s q (.inl h)).trans (ih (by omega) h)
    · refine (rows_in v f (off4 _) _ _ _ s q ⟨s.val - 256 * k, by omega⟩ (by simp; omega)).trans ?_
      refine pay3_at (b := 256 * k) (fun r q => ?_) (fun q => ?_) (fun q => ?_) (fun q => ?_) (fun q => ?_) _ q s (by simp; omega) ?_
      · exact (rows_at B.a6.view _ (off3 _) _ r q (⟨256 * k + r.val, by omega⟩ : Fin 2056) rfl).trans (pad6 c i B x1 8 le_rfl _ _ q (by simp only; omega))
      · exact (rows_at B.a4.view _ (r := 0) rfl _ 0 q 0 rfl).trans (congrFun (B.h4.read_unread x4) _)
      · exact (rows_at B.a3.view _ (r := 0) rfl _ 0 q 0 rfl).trans (congrFun (B.h3.read_unread x3) _)
      · exact (rows_at B.a3.view _ (r := 1) rfl _ 0 q 1 rfl).trans (congrFun (B.h3.read_unread x3) _)
      · exact (rows_at B.a3.view _ (r := 2) rfl _ 0 q 2 rfl).trans (congrFun (B.h3.read_unread x3) _)
      · exact (rows_at B.a2.view _ (off4 _) _ _ q s (by simp; omega)).trans (congrFun (B.h2.read_unread x2) _)

end Cert.FfnFwdIdeal.Val

end
-- ==== Proof.FfnFwdTop.lean ====
/- The claims about the gated unit's forward kernel: they hold of every argument, finite or not. -/
module

public import proofs.«01_k».proof.Defs
public import proofs.«01_k».proof.Proof.FfnArr
public import proofs.«01_k».proof.Proof.FfnFwdVal
public import proofs.«01_k».proof.Proof.Gen.FfnFwd
public import proofs.«01_k».proof.Proof.Gen.FfnFwdRefIdeal.Read
public import Idealize.ShloMosaic.Lib.KernelVsHost
public import Idealize.ShloMosaic.Lib.Pipeline.ValueKit

@[expose] public section

set_option maxRecDepth 65536

noncomputable section

namespace Cert.FfnFwdTop

open Idealize.ShloMosaic Idealize.ShloMosaic.TcCoe Idealize.ShloMosaic.Tactic Idealize.SL.Sem
open Cert.FfnFwdIdeal Cert.FfnFwdIdeal.Gen Cert.FfnFwdIdeal.Frm Cert.FfnFwdIdeal.Val Cert.FfnFwdRefIdeal.Read
open Cert.FfnActIdeal.Val (P Z sg Z_col)
open Cert.FfnArr (gate val)
open Idealize.ShloMosaic.Pipeline (Dat)

variable (m : (ℓ : Loc nD τ sig) → Buf (Elt Ideal) ℓ) (c : Dev nD)

/-- The projection, the taps and the bias, on device `c`. -/
abbrev U : Vec Ideal S2048x5632 .f32 := m ((c : Thread nD τ).loc main_arg0)
abbrev W : Vec Ideal S3x2816 .f32 := m ((c : Thread nD τ).loc main_arg1)
abbrev B : Vec Ideal S1x2816 .f32 := m ((c : Thread nD τ).loc main_arg2)

/-- The column of the arrays that column `q` of point `t`'s block is. -/
def col (t : Fin cfg0.N) (q : Fin 256) : Fin 2816 := ⟨t.val * 256 + q.val, by have hN : cfg0.N = 11 := N_0; have := t.isLt; omega⟩

theorem idx : ∀ t : Fin cfg0.N, win0_0.index t = ![0, t.val] ∧ win0_1.index t = ![0, 11 + t.val] ∧ win0_2.index t = ![0, t.val]
    ∧ win0_3.index t = ![0, t.val] ∧ win0_4.index t = ![0, t.val] :=
  (by decide +kernel : ∀ t : Fin grid0.N, _)

theorem blk0 (t : Fin cfg0.N) (q : Fin 256) (s : Fin 2048) : iblk m c 0 t (ix2 s q) = gate (U m c) (ix2 s (col t q)) := by
  blk_ext [iblk, V, idx t, gate, col]
theorem blk1 (t : Fin cfg0.N) (q : Fin 256) (s : Fin 2048) : iblk m c 1 t (ix2 s q) = val (U m c) (ix2 s (col t q)) := by
  blk_ext [iblk, V, idx t, val, col]
theorem blk2 (t : Fin cfg0.N) (q : Fin 256) (s : Fin 3) : iblk m c 2 t (ix2 s q) = W m c (ix2 s (col t q)) := by
  blk_ext [iblk, V, idx t, col]
theorem blk3 (t : Fin cfg0.N) (q : Fin 256) : iblk m c 3 t (ix2 0 q) = B m c (ix2 0 (col t q)) := by
  blk_ext [iblk, V, idx t, col]
theorem emb4 (t : Fin cfg0.N) (s : Fin 2048) (q : Fin 256) : ((cfg0.win 4).blk t).view.emb (ix2 s q : S2048x256.Idx) = (ix2 s (col t q) : S2048x2816.Idx) := by
  blk_ext [idx t, col]

/-- The buffers of point `t`. -/
abbrev bufs (t : Fin cfg0.N) : Bufs := ⟨ms0_0 t, hs0_0 t, ms0_1 t, hs0_1 t, ms0_2 t, hs0_2 t, ms0_3 t, hs0_3 t, ms0_4 t, hs0_4 t, Memref.whole cc0_scratch0, Memref.isWhole_whole _⟩

/-- A point's block of the result. -/
theorem outv (t : Fin cfg0.N) (s : Fin 2048) (q : Fin 256) : Frm.out4 m c t (ix2 s q) = O (gate (U m c)) (val (U m c)) (W m c) (B m c) (ix2 s (col t q)) := by
  refine (out_at c (grid0.coords t) (bufs t) (iblk m c 0 t) (iblk m c 1 t) (iblk m c 2 t) (iblk m c 3 t) 8 le_rfl VO0_4 _ s q (by omega)).trans ?_
  have h := Z_col (blk0 m c t q) (blk2 m c t q) (blk3 m c t q)
  simp only [O]
  exact congr (congrArg HMul.hMul (by rw [show (ix2 s q : S2048x256.Idx) 1 = q from rfl, h]; rfl)) (blk1 m c t q s)

theorem arr4 : (Frm.dats m 0 c).arrAt 4 cfg0.N = O (gate (U m c)) (val (U m c)) (W m c) (B m c) := by
  refine (Frm.dats m 0 c).arrAt_eq_of_covers 4 _ (by decide +kernel) fun t _ y => ?_
  blk_simp
  idx_vars y
  rw [Frm.after4, emb4]
  exact outv m c t _ _

section
variable (U : FVec Ideal S2048x5632 .f32) (W : FVec Ideal S3x2816 .f32) (B : FVec Ideal S1x2816 .f32)

/-- The gate after two rows of zeros. -/
theorem ref_pad (s : Fin 2050) (q : Fin 2816) : val_main_v3 (F := Ideal) U (ix2 s q) = P (gate U) (s.val + 6) q := by
  pointwise [val_main_v3, val_main_v2, val_main_cst, val_main_v0]
  unfold P gate
  by_cases h : s.val < 2
  · rw [dif_pos h, dif_neg (by omega)]
  · rw [dif_neg h, dif_pos (by omega)]
    exact congrArg (fun r : Fin 2048 => U (ix2 r (⟨q.val, by omega⟩ : Fin 5632))) (Fin.ext (by show s.val - 2 = s.val + 6 - 8; omega))

/-- The convolution's result. -/
theorem ref_conv (s : Fin 2048) (q : Fin 2816) : val_main_v21 (F := Ideal) U W B (ix2 s q) = Z (gate U) W B s.val q := by
  pointwise [val_main_v21, val_main_v20, val_main_v19, val_main_v18, val_main_v17, val_main_v16, val_main_v15, val_main_v14, val_main_v13, val_main_v12, val_main_v11, val_main_v10, val_main_v9, val_main_v8, val_main_cst_0, val_main_v7, val_main_v6, val_main_v5, val_main_v4]
  rw [ref_pad, ref_pad, ref_pad, Z, mul_comm _ (W (ix2 0 q)), mul_comm _ (W (ix2 1 q)), mul_comm _ (W (ix2 2 q)), add_comm _ (B (ix2 0 q)), ← add_assoc, ← add_assoc]
  simp only [show s.val + 6 = s.val + 6 from rfl, show 1 + s.val + 6 = s.val + 7 by omega, show 2 + s.val + 6 = s.val + 8 by omega]

/-- The reference's result. -/
theorem ref_out (s : Fin 2048) (q : Fin 2816) : val_main_v24 (F := Ideal) U W B (ix2 s q) = O (gate U) (val U) W B (ix2 s q) := by
  pointwise [val_main_v24, val_main_v23, val_main_v22, val_main_call0_v5, val_main_call0_v4, val_main_call0_v3, val_main_call0_v2, val_main_call0_v1, val_main_call0_v0, val_main_call0_cst, val_main_call0_cst_0, val_main_v1]
  rw [ref_conv, O]
  simp only [sg, zero_sub]
  rfl
end

/-- The kernel and the reference's forward lines leave the same array. -/
theorem algebraic : Cert.algebraic_FfnFwdIdeal_FfnFwdRefIdeal := fun m ρ m' ρ' _ hag =>
  ⟨fun c => O (gate (U m c)) (val (U m c)) (W m c) (B m c),
    (θ_run _ _ _).mono (fun _ h c => ⟨((h.1 c).1 4).trans (arr4 m c), h.2 c⟩)
      (θ_run_and (Frm.run_main m ρ) (frame_of m ρ (Frm.dats m) (Frm.A_eq m) (Frm.run_main m ρ))),
    (θ_run _ _ _).mono (fun _ h c => by
      refine ⟨(h c).1.trans ?_, (h c).2⟩
      rw [val_main_v24_eq, (hag c).1, (hag c).2.1, (hag c).2.2]
      funext j; idx_vars j
      exact ref_out (U m c) (W m c) (B m c) j0 j1)
      (Cert.FfnFwdRefIdeal.Value.run m' ρ')⟩

/-- The two programs' texts are the same. -/
theorem frame_bits (m : (ℓ : Loc Cert.FfnFwd.nD Cert.FfnFwd.τ Cert.FfnFwd.sig) → Buf (Elt Bits) ℓ) (g : Dev Cert.FfnFwd.nD → PrngReg) :
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2))
      ∧ r.2.sem = fun _ => 0) :=
  Eq.mp (by sl_kernel_rfl) (Frm.frame (F := Bits) m g)

/-- The reference ends with its arguments unchanged; it declares no semaphore. -/
theorem frame_ref : Cert.quiescent_FfnFwdRefIdeal := fun m ρ _ =>
  (θ_run Cert.FfnFwdRefIdeal.defs _ _).mono (fun r h => And.intro (fun c => (h c).2) (Idealize.ShloMosaic.sem_eq_zero_of_no_sems (by decide) r.2))
    (Cert.FfnFwdRefIdeal.Value.run (F := Ideal) m ρ)

/-- The kernel, its ideal reading and the reference end with their arguments unchanged. -/
theorem frames : Cert.quiescent_FfnFwd ∧ Cert.quiescent_FfnFwdIdeal ∧ Cert.quiescent_FfnFwdRefIdeal :=
  ⟨fun m ρ _ => frame_bits m ρ, fun m ρ _ => Frm.frame m ρ, frame_ref⟩

end Cert.FfnFwdTop

end
-- ==== Proof.GluFwdFrm.lean ====
/- The gated convolution's forward kernel: its run on any buffers, what it leaves, and its frame. -/
module

public import proofs.«01_k».proof.Proof.Gen.GluFwdIdeal.Loops
public import proofs.«01_k».proof.Proof.Gen.GluFwdIdeal.Frame.Runs
public import Idealize.ShloMosaic.Lib.Claim
public import Idealize.ShloMosaic.Lib.WordCmp

@[expose] public section

set_option maxRecDepth 16384

noncomputable section

namespace Cert.GluFwdIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.GluFwdIdeal.Gen
open Idealize.ShloMosaic.Pipeline (Dat Cfg Window BodyObligation cellOf)

variable {F : FTy → Type} [FloatOps F]

local notation "𝕄G" => MT nD τ sig Unit (Elt F) ℕ (UR sig nD τ) ℕ

section run
variable (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S31x128 .f32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2080x128 .f32) (harg6 : arg6.IsWhole)
  (x1 : Vec F S2048x128 .f32) (x2 : Vec F S2048x128 .f32) (x3 : Vec F S31x128 .f32) (x4 : Vec F S1x128 .f32)

set_option maxHeartbeats 4000000 in
/-- The body at any grid point: the pieces it leaves in its result, from the blocks it reads and what the scratch buffer
happens to hold, with the proof that it runs to its end leaving them. -/
def runF (f6 : BufTy.Contents (Elt F) arg6.view.ty) :
    { L5 : List (View.Piece (Elt F) S2048x128 .f32) //
      ∀ (E : Set ℕ) (K : PUnit → sProp 𝕄G),
        iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (arg6.view.loc (c : Thread nD τ) ↦[arg6.view.set]{fullShare} f6)
            ∗ (iprop(owns (c : Thread nD τ) arg1 fullShare x1 ∗ owns (c : Thread nD τ) arg2 fullShare x2 ∗ owns (c : Thread nD τ) arg3 fullShare x3 ∗ owns (c : Thread nD τ) arg4 fullShare x4 ∗ (∃ f, arg5.view.loc (c : Thread nD τ) ↦[arg5.view.set]{fullShare} arg5.view.writes (Elt F) f L5) ∗ (∃ f, arg6.view.loc (c : Thread nD τ) ↦[arg6.view.set]{fullShare} f)) -∗ K ⟨⟩))
          ⊢ wp frame (wpE (defs₀ (F := F)) Variants.none c none) E (cc0_glu_conv_fwd i arg1 harg1 arg2 harg2 arg3 harg3 arg4 harg4 arg5 harg5 arg6 harg6) K } := by
  refine ⟨?_, fun E K => ?run⟩
  case run =>
    simp only [cc0_glu_conv_fwd_eq_skeleton]; unfold cc0_glu_conv_fwd_skel
    unfold owns
    iintro ⟨⟨%g1, %hg1, H1⟩, ⟨%g2, %hg2, H2⟩, ⟨%g3, %hg3, H3⟩, ⟨%g4, %hg4, H4⟩, ⟨%d5, %g5, -, H5⟩, H6, Hk⟩
    obtain rfl := harg1.eq_unread hg1; obtain rfl := harg2.eq_unread hg2; obtain rfl := harg3.eq_unread hg3; obtain rfl := harg4.eq_unread hg4
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _; iexact H6

/-- What is written into the scratch buffer: rows of zeros, then the first loop's tiles. -/
def pads : List (View.Piece (Elt F) S2080x128 .f32) :=
  pb_k0_t1 (F := F) Variants.none c none i arg1 harg1 arg2 harg2 arg3 harg3 arg4 harg4 arg5 harg5 arg6 harg6 (harg1.unread x1) (harg2.unread x2) (Scf.trips k0_t1_loop.lb k0_t1_loop.ub k0_t1_loop.st) ++ [⟨Rect.unit ![0, 0] S32x128.size inb_S2080x128_S32x128_0_0, k0_pay1⟩]

/-- The scratch buffer after the first loop. -/
def S6 : BufTy.Contents (Elt F) arg6.view.ty :=
  arg6.view.writes (Elt F) arg6.view.junk (pads c i arg1 harg1 arg2 harg2 arg3 harg3 arg4 harg4 arg5 harg5 arg6 harg6 x1 x2)

/-- What the second loop writes: the result. -/
def fin : List (View.Piece (Elt F) S2048x128 .f32) :=
  pb_k0_t2 (F := F) Variants.none c none i arg1 harg1 arg2 harg2 arg3 harg3 arg4 harg4 arg5 harg5 arg6 harg6 (harg3.unread x3) (harg4.unread x4) (S6 c i arg1 harg1 arg2 harg2 arg3 harg3 arg4 harg4 arg5 harg5 arg6 harg6 x1 x2)
    (Scf.trips k0_t2_loop.lb k0_t2_loop.ub k0_t2_loop.st)

/-- The zeros and the tiles fill the scratch buffer. -/
theorem cover6 : ∀ y, ∃ p ∈ pads c i arg1 harg1 arg2 harg2 arg3 harg3 arg4 harg4 arg5 harg5 arg6 harg6 x1 x2, y ∈ p.1.set :=
  View.cover_of_tiledBy _ ![32, 128] (by sl_kernel_rfl)

theorem eq6 (f6 : BufTy.Contents (Elt F) arg6.view.ty) :
    arg6.view.writes (Elt F) f6 (pads c i arg1 harg1 arg2 harg2 arg3 harg3 arg4 harg4 arg5 harg5 arg6 harg6 x1 x2) = S6 c i arg1 harg1 arg2 harg2 arg3 harg3 arg4 harg4 arg5 harg5 arg6 harg6 x1 x2 :=
  (harg6.eq_unread rfl).trans ((congrArg harg6.unread (View.read_writes_of_cover _ _ _ _ _ (cover6 c i arg1 harg1 arg2 harg2 arg3 harg3 arg4 harg4 arg5 harg5 arg6 harg6 x1 x2))).trans (harg6.eq_unread rfl).symm)

/-- Tiles fill the result. -/
theorem cover5 : ∀ y, ∃ p ∈ fin c i arg1 harg1 arg2 harg2 arg3 harg3 arg4 harg4 arg5 harg5 arg6 harg6 x1 x2 x3 x4, y ∈ p.1.set :=
  View.cover_of_tiledL _ S256x128.size (by sl_kernel_rfl)

/-- The run's pieces do not depend on what the scratch buffer held. -/
theorem run5 (f6 : BufTy.Contents (Elt F) arg6.view.ty) :
    (runF c i arg1 harg1 arg2 harg2 arg3 harg3 arg4 harg4 arg5 harg5 arg6 harg6 x1 x2 x3 x4 f6).1 = fin c i arg1 harg1 arg2 harg2 arg3 harg3 arg4 harg4 arg5 harg5 arg6 harg6 x1 x2 x3 x4 := by
  unfold runF; dsimp only
  sl_unfold_words
  have h := eq6 c i arg1 harg1 arg2 harg2 arg3 harg3 arg4 harg4 arg5 harg5 arg6 harg6 x1 x2 f6
  unfold pads at h
  rw [h]; rfl

end run

variable (m : (ℓ : Loc nD τ sig) → Buf (Elt F) ℓ) (ρ : Dev nD → PrngReg)

/-- What point `t` leaves in the result. -/
def out4 (c : Dev nD) (t : Fin cfg0.N) : Vec F S2048x128 .f32 :=
  VO0_4.read (Elt F) (VO0_4.writes (Elt F) VO0_4.junk (fin (F := F) c (grid0.coords t) (ms0_0 t) (hs0_0 t) (ms0_1 t) (hs0_1 t) (ms0_2 t) (hs0_2 t) (ms0_3 t) (hs0_3 t) (ms0_4 t) (hs0_4 t) (Memref.whole cc0_scratch0) (Memref.isWhole_whole _) (iblk m c 0 t) (iblk m c 1 t) (iblk m c 2 t) (iblk m c 3 t)))

/-- What each staging buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = out4 m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- What the body is called with at point `t`. -/
def bodyPre (c : Dev nD) (t : Fin cfg0.N) : sProp 𝕄G :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- What it returns. -/
def bodyPost (c : Dev nD) (t : Fin cfg0.N) : sProp 𝕄G :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The scratch buffer held whole, in its two spellings. -/
theorem whole_pt (c : Dev nD) (b : Ref sig .tc) (f : Buf (Elt F) ((c : Thread nD τ).loc b)) :
    (iprop((Memref.whole b).view.loc (c : Thread nD τ) ↦[(Memref.whole b).view.set]{fullShare} f) : sProp 𝕄G)
      = iprop(((c : Thread nD τ).loc b) ↦{fullShare} f) := by
  rw [show (Memref.whole b).view.set = Finset.univ from View.set_whole b]

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0, after1, after2, after3, after4]
  unfold Pipeline.ΦA; rw [scopedRest0_eq]
  iintro ⟨⟨⟨%f6, G6⟩, Hr⟩, Ho, ⟨%d0, H0⟩, ⟨%d1, H1⟩, ⟨%d2, H2⟩, ⟨%d3, H3⟩, ⟨%d4, H4⟩⟩
  ihave G6 := (Entails.of_eq (whole_pt c cc0_scratch0 f6).symm) $$ G6
  iapply ((runF (F := F) c (grid0.coords t) (ms0_0 t) (hs0_0 t) (ms0_1 t) (hs0_1 t) (ms0_2 t) (hs0_2 t) (ms0_3 t) (hs0_3 t) (ms0_4 t) (hs0_4 t) (Memref.whole cc0_scratch0) (Memref.isWhole_whole _) (iblk m c 0 t) (iblk m c 1 t) (iblk m c 2 t) (iblk m c 3 t) f6).2 Set.univ _)
  isplitl [H0]; · iexact H0
  isplitl [H1]; · iexact H1
  isplitl [H2]; · iexact H2
  isplitl [H3]; · iexact H3
  isplitl [H4]; · iexists _; iexact H4
  isplitl [G6]; · iexact G6
  iintro ⟨H0, H1, H2, H3, ⟨%e4, H4⟩, ⟨%e6, G6⟩⟩
  isplitl [G6 Hr]
  · isplitl [G6]
    · iexists _; iapply (Entails.of_eq (whole_pt c cc0_scratch0 e6)); iexact G6
    iexact Hr
  isplitl [Ho]; · iexact Ho
  isplitl [H0]; · iexact H0
  isplitl [H1]; · iexact H1
  isplitl [H2]; · iexact H2
  isplitl [H3]; · iexact H3
  unfold owns; iexists _; isplitr
  swap; · iexact H4
  ipureintro; unfold out4; rw [run5]; exact View.read_writes_of_cover _ _ _ _ _ (cover5 _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The program runs to its end, with every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The program ends with its arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.GluFwdIdeal.Frm

end
-- ==== Proof.GluFwdVal.lean ====
/- What the gated convolution's forward kernel leaves, entry by entry. -/
module

public import proofs.«01_k».proof.Proof.GluFun
public import proofs.«01_k».proof.Proof.GluFwdFrm
public import Idealize.ShloMosaic.Lib.Pipeline.ValueKit.Acc

@[expose] public section

set_option maxRecDepth 16384

noncomputable section

namespace Cert.GluFwdIdeal.Val

open Idealize.ShloMosaic Idealize.ShloMosaic.TcCoe Idealize.ShloMosaic.Tactic
open Cert.GluFwdIdeal.Gen Cert.GluFwdIdeal.Frm Cert.Rows
open Cert.GluFun (G G_col sg fold_at)

/-- The buffers of one point. -/
structure Bufs where
  a1 : Memref sig .tc .vmem S2048x128 .f32
  h1 : a1.IsWhole
  a2 : Memref sig .tc .vmem S2048x128 .f32
  h2 : a2.IsWhole
  a3 : Memref sig .tc .vmem S31x128 .f32
  h3 : a3.IsWhole
  a4 : Memref sig .tc .vmem S1x128 .f32
  h4 : a4.IsWhole
  a5 : Memref sig .tc .vmem S2048x128 .f32
  h5 : a5.IsWhole
  a6 : Memref sig .tc .vmem S2080x128 .f32
  h6 : a6.IsWhole

theorem off1 (k : Fin k0_t1_loop.trips) : k0_off1 k = ![256 * k.val, 0] := by revert k; decide +kernel
theorem off2 (k : Fin k0_t1_loop.trips) : k0_off2 k = ![32 + 256 * k.val, 0] := by revert k; decide +kernel
theorem off3 (k : Fin k0_t2_loop.trips) : k0_off3 k = ![256 * k.val, 0] := by revert k; decide +kernel
theorem off4 (k : Fin k0_t2_loop.trips) : k0_off4 k = ![256 * k.val, 0] := by revert k; decide +kernel
theorem trips1 : k0_t1_loop.trips = 8 := by decide +kernel
theorem trips2 : k0_t2_loop.trips = 8 := by decide +kernel
theorem row_in (k : Fin 31) : ∀ a, (![k.val, 0] : Fin S31x128.rank → ℕ) a + S1x128.size a ≤ S31x128.size a := by
  revert k; decide +kernel

/-- The convolution's result: the bias and the taps' terms. -/
def O {n : ℕ} (a b : Vec Ideal (⟨2, ![2048, n]⟩ : Shape) .f32) (w : Vec Ideal (⟨2, ![31, n]⟩ : Shape) .f32) (z : Vec Ideal (⟨2, ![1, n]⟩ : Shape) .f32) : Vec Ideal (⟨2, ![2048, n]⟩ : Shape) .f32 :=
  fun j => z (ix2 0 (j 1)) + ∑ k : Fin 31, w (ix2 k (j 1)) * G a b ((j 0).val + (k.val + 2)) (j 1)

/-- A window's rows, `b` rows further on. -/
def rot (v : Vec Ideal S288x128 .f32) (b : ℕ) : FVec Ideal S288x128 .f32 :=
  if b = 0 then v else dynamicRotate 0 (BitVec.ofNat 32 (288 - b)) none v rotates_S288x128_d0
theorem tap_in (k : Fin 33) : S288x128.Slices ![8 * (k.val / 8), 0] S256x128 := by revert k; decide +kernel
/-- The tile `k` rows into the window. -/
def tap (v : Vec Ideal S288x128 .f32) (k : Fin 33) : FVec Ideal S256x128 .f32 :=
  extractStridedSlice S256x128 ![8 * (k.val / 8), 0] (rot v (k.val % 8)) (tap_in k)
/-- The bias and the taps' terms over a window. -/
def acc (z : Vec Ideal S1x128 .f32) (W : Fin 31 → Vec Ideal S1x128 .f32) (v : Vec Ideal S288x128 .f32) : FVec Ideal S256x128 .f32 :=
  (List.finRange 31).foldl (fun x k => addf x (mulf (broadcastTo S256x128 (W k) broadcasts_S1x128_S256x128) (tap v ⟨k.val + 2, by omega⟩)))
    (broadcastTo S256x128 (shapeCast S1x128 z shapeCasts_S1x128_S1x128) broadcasts_S1x128_S256x128)

variable (c : Dev nD) (i : grid0.Coords) (B : Bufs)

/-- A trip of the first loop. -/
theorem trip1 (X1 : BufTy.Contents (Elt Ideal) B.a1.view.ty) (X2 : BufTy.Contents (Elt Ideal) B.a2.view.ty) (k : Fin k0_t1_loop.trips) :
    tripL_k0_t1 (F := Ideal) Variants.none c none i B.a1 B.h1 B.a2 B.h2 B.a3 B.h3 B.a4 B.h4 B.a5 B.h5 B.a6 B.h6 X1 X2 k
      = [⟨Rect.unit (s := S2080x128) (k0_off2 k) ![256, 128] (k0_off2_inb k),
          k0_pay2 (B.a1.view.readAt (Elt Ideal) (Rect.unit (s := S2048x128) (k0_off1 k) ![256, 128] (k0_off1_inb k)).toLoadRect X1)
            (B.a2.view.readAt (Elt Ideal) (Rect.unit (s := S2048x128) (k0_off1 k) ![256, 128] (k0_off1_inb k)).toLoadRect X2)⟩] := by
  unfold tripL_k0_t1 trip_k0_t1; rfl

/-- A trip of the second loop. -/
theorem trip2 (X3 : BufTy.Contents (Elt Ideal) B.a3.view.ty) (X4 : BufTy.Contents (Elt Ideal) B.a4.view.ty) (X6 : BufTy.Contents (Elt Ideal) B.a6.view.ty) (k : Fin k0_t2_loop.trips) :
    tripL_k0_t2 (F := Ideal) Variants.none c none i B.a1 B.h1 B.a2 B.h2 B.a3 B.h3 B.a4 B.h4 B.a5 B.h5 B.a6 B.h6 X3 X4 X6 k
      = [⟨Rect.unit (s := S2048x128) (k0_off4 k) ![256, 128] (k0_off4_inb k),
          acc (B.a4.view.readAt (Elt Ideal) (Rect.unit (s := S1x128) ![0, 0] ![1, 128] inb_S1x128_S1x128_0_0).toLoadRect X4)
            (fun j => B.a3.view.readAt (Elt Ideal) (Rect.unit (s := S31x128) ![j.val, 0] S1x128.size (row_in j)).toLoadRect X3)
            (B.a6.view.readAt (Elt Ideal) (Rect.unit (s := S2080x128) (k0_off3 k) ![288, 128] (k0_off3_inb k)).toLoadRect X6)⟩] := by
  unfold tripL_k0_t2 trip_k0_t2; dsimp only
  sl_unfold_words
  rfl

/-- The rotated window. -/
theorem rot_at (v : Vec Ideal S288x128 .f32) (b : ℕ) (hb : b < 8) (s t : Fin 288) (q : Fin 128) (h : t.val = s.val + b) : rot v b (ix2 s q) = v (ix2 t q) := by
  have e : ∀ u : Fin 288, u.val = t.val → v (ix2 u q) = v (ix2 t q) := fun u hu => congrArg (fun u => v (ix2 u q)) (Fin.ext hu)
  interval_cases b <;> unfold rot <;> pointwise [] <;> exact e _ (by first | omega | (simp; omega))

theorem tap_at (v : Vec Ideal S288x128 .f32) (k : Fin 33) (r : Fin 256) (q : Fin 128) : tap v k (ix2 r q) = v (ix2 (⟨r.val + k.val, by omega⟩ : Fin 288) q) := by
  unfold tap
  pointwise []
  exact rot_at v _ (by omega) _ _ q (by show r.val + k.val = (8 * (k.val / 8) + r.val) + k.val % 8; omega)

/-- The result of a window. -/
theorem acc_at {x1 x2 : Vec Ideal S2048x128 .f32} {x3 : Vec Ideal S31x128 .f32} {x4 : Vec Ideal S1x128 .f32} {z : Vec Ideal S1x128 .f32} {W : Fin 31 → Vec Ideal S1x128 .f32} {v : Vec Ideal S288x128 .f32} {b : ℕ}
    (hz : ∀ q, z (ix2 0 q) = x4 (ix2 0 q)) (hW : ∀ j q, W j (ix2 0 q) = x3 (ix2 j q)) (hv : ∀ (r : Fin 288) q, v (ix2 r q) = G x1 x2 (b + r.val) q)
    (r : Fin 256) (q : Fin 128) (s : Fin 2048) (hs : s.val = b + r.val) : acc z W v (ix2 r q) = O x1 x2 x3 x4 (ix2 s q) := by
  refine (fold_at _ _ _ _).trans ?_
  rw [← Fin.sum_univ_def]
  pointwise []
  refine congr (congrArg HAdd.hAdd (hz q)) (Finset.sum_congr rfl fun k _ => ?_)
  rw [tap_at, hW, hv]
  exact congrArg (fun u => x3 (ix2 k q) * G x1 x2 u q) (by show b + (r.val + (k.val + 2)) = s.val + (k.val + 2); omega)

variable (x1 x2 : Vec Ideal S2048x128 .f32) (x3 : Vec Ideal S31x128 .f32) (x4 : Vec Ideal S1x128 .f32)

/-- The padded values after `k` trips of the first loop. -/
theorem pad6 (k : ℕ) (hk : k ≤ 8) (f : BufTy.Contents (Elt Ideal) B.a6.view.ty) (s : Fin 2080) (q : Fin 128) (hs : s.val < 32 + 256 * k) :
    B.a6.view.read (Elt Ideal) (B.a6.view.writes (Elt Ideal) f
      (pb_k0_t1 (F := Ideal) Variants.none c none i B.a1 B.h1 B.a2 B.h2 B.a3 B.h3 B.a4 B.h4 B.a5 B.h5 B.a6 B.h6 (B.h1.unread x1) (B.h2.unread x2) k ++ [⟨Rect.unit ![0, 0] S32x128.size inb_S2080x128_S32x128_0_0, k0_pay1 (F := Ideal)⟩])) (ix2 s q)
      = G x1 x2 s.val q := by
  induction k with
  | zero =>
    refine (rows_in B.a6.view f (o := ![0, 0]) (r := 0) (n := 32) rfl _ _ [] s q ⟨s.val, by omega⟩ (by simp)).trans ?_
    rw [G, dif_neg (by omega)]
    pointwise [k0_pay1]
  | succ k ih =>
    have hk' : k < k0_t1_loop.trips := by rw [trips1]; omega
    rw [pb_k0_t1_succ (F := Ideal) Variants.none c none i B.a1 B.h1 B.a2 B.h2 B.a3 B.h3 B.a4 B.h4 B.a5 B.h5 B.a6 B.h6 _ _ ⟨k, hk'⟩, trip1 c i B _ _ ⟨k, hk'⟩,
      List.cons_append, List.nil_append, List.cons_append]
    by_cases h : s.val < 32 + 256 * k
    · exact (rows_out B.a6.view f (off2 _) _ _ _ s q (.inl h)).trans (ih (by omega) h)
    · refine (rows_in B.a6.view f (off2 _) _ _ _ s q ⟨s.val - (32 + 256 * k), by omega⟩ (by simp; omega)).trans ?_
      pointwise [k0_pay2]
      rw [rows_at B.a1.view _ (off1 _) _ _ q (⟨s.val - 32, by omega⟩ : Fin 2048) (by simp; omega), rows_at B.a2.view _ (off1 _) _ _ q (⟨s.val - 32, by omega⟩ : Fin 2048) (by simp; omega),
        B.h1.read_unread, B.h2.read_unread, G, dif_pos (by omega), sg]

/-- The result after `k` trips of the second loop. -/
theorem out_at (k : ℕ) (hk : k ≤ 8) (v : View sig .tc .vmem S2048x128 .f32) (f : v.ty.Contents (Elt Ideal)) (s : Fin 2048) (q : Fin 128) (hs : s.val < 256 * k) :
    v.read (Elt Ideal) (v.writes (Elt Ideal) f
      (pb_k0_t2 (F := Ideal) Variants.none c none i B.a1 B.h1 B.a2 B.h2 B.a3 B.h3 B.a4 B.h4 B.a5 B.h5 B.a6 B.h6 (B.h3.unread x3) (B.h4.unread x4)
        (S6 c i B.a1 B.h1 B.a2 B.h2 B.a3 B.h3 B.a4 B.h4 B.a5 B.h5 B.a6 B.h6 x1 x2) k)) (ix2 s q)
      = O x1 x2 x3 x4 (ix2 s q) := by
  induction k with
  | zero => omega
  | succ k ih =>
    have hk' : k < k0_t2_loop.trips := by rw [trips2]; omega
    rw [pb_k0_t2_succ (F := Ideal) Variants.none c none i B.a1 B.h1 B.a2 B.h2 B.a3 B.h3 B.a4 B.h4 B.a5 B.h5 B.a6 B.h6 _ _ _ ⟨k, hk'⟩, trip2 c i B _ _ _ ⟨k, hk'⟩,
      List.cons_append, List.nil_append]
    by_cases h : s.val < 256 * k
    · exact (rows_out v f (off4 _) _ _ _ s q (.inl h)).trans (ih (by omega) h)
    · refine (rows_in v f (off4 _) _ _ _ s q ⟨s.val - 256 * k, by omega⟩ (by simp; omega)).trans ?_
      refine acc_at (b := 256 * k) (fun q => ?_) (fun j q => ?_) (fun r q => ?_) _ q s (by simp; omega)
      · exact (rows_at B.a4.view _ (r := 0) rfl _ 0 q 0 rfl).trans (congrFun (B.h4.read_unread x4) _)
      · exact (rows_at B.a3.view _ (r := j.val) rfl _ 0 q j rfl).trans (congrFun (B.h3.read_unread x3) _)
      · exact (rows_at B.a6.view _ (off3 _) _ r q (⟨256 * k + r.val, by omega⟩ : Fin 2080) rfl).trans (pad6 c i B x1 x2 8 le_rfl _ _ q (by simp only; omega))

end Cert.GluFwdIdeal.Val

end
-- ==== Proof.GluFwdTop.lean ====
/- The claims about the gated convolution's forward kernel: they hold of every argument, finite or not. -/
module

public import proofs.«01_k».proof.Defs
public import proofs.«01_k».proof.Proof.GluRef
public import proofs.«01_k».proof.Proof.GluFwdVal
public import proofs.«01_k».proof.Proof.Gen.GluFwd
public import proofs.«01_k».proof.Proof.Gen.GluFwdRefIdeal.Read
public import Idealize.ShloMosaic.Lib.KernelVsHost
public import Idealize.ShloMosaic.Lib.Pipeline.ValueKit

@[expose] public section

set_option maxRecDepth 65536

noncomputable section

namespace Cert.GluFwdTop

open Idealize.ShloMosaic Idealize.ShloMosaic.TcCoe Idealize.ShloMosaic.Tactic Idealize.SL.Sem
open Cert.GluFwdIdeal Cert.GluFwdIdeal.Gen Cert.GluFwdIdeal.Frm Cert.GluFwdIdeal.Val Cert.GluFwdRefIdeal.Read
open Cert.GluFun (G G_col sg fold_at)
open Cert.GluRef (gate val)
open Idealize.ShloMosaic.Pipeline (Dat)

variable (m : (ℓ : Loc nD τ sig) → Buf (Elt Ideal) ℓ) (c : Dev nD)

/-- The projection, the taps and the bias, on device `c`. -/
abbrev U : Vec Ideal S2048x2560 .f32 := m ((c : Thread nD τ).loc main_arg0)
abbrev W : Vec Ideal S31x512 .f32 := m ((c : Thread nD τ).loc main_arg1)
abbrev B : Vec Ideal S1x512 .f32 := m ((c : Thread nD τ).loc main_arg2)

/-- The column of the arrays that column `q` of point `t`'s block is. -/
def col (t : Fin cfg0.N) (q : Fin 128) : Fin 512 := ⟨t.val * 128 + q.val, by have hN : cfg0.N = 4 := N_0; have := t.isLt; omega⟩

theorem idx : ∀ t : Fin cfg0.N, win0_0.index t = ![0, 12 + t.val] ∧ win0_1.index t = ![0, 16 + t.val] ∧ win0_2.index t = ![0, t.val]
    ∧ win0_3.index t = ![0, t.val] ∧ win0_4.index t = ![0, t.val] :=
  (by decide +kernel : ∀ t : Fin grid0.N, _)

theorem blk0 (t : Fin cfg0.N) (q : Fin 128) (s : Fin 2048) : iblk m c 0 t (ix2 s q) = val (U m c) (ix2 s (col t q)) := by
  blk_ext [iblk, V, idx t, val, col]
theorem blk1 (t : Fin cfg0.N) (q : Fin 128) (s : Fin 2048) : iblk m c 1 t (ix2 s q) = gate (U m c) (ix2 s (col t q)) := by
  blk_ext [iblk, V, idx t, gate, col]
theorem blk2 (t : Fin cfg0.N) (q : Fin 128) (s : Fin 31) : iblk m c 2 t (ix2 s q) = W m c (ix2 s (col t q)) := by
  blk_ext [iblk, V, idx t, col]
theorem blk3 (t : Fin cfg0.N) (q : Fin 128) : iblk m c 3 t (ix2 0 q) = B m c (ix2 0 (col t q)) := by
  blk_ext [iblk, V, idx t, col]
theorem emb4 (t : Fin cfg0.N) (s : Fin 2048) (q : Fin 128) : ((cfg0.win 4).blk t).view.emb (ix2 s q : S2048x128.Idx) = (ix2 s (col t q) : S2048x512.Idx) := by
  blk_ext [idx t, col]

/-- The buffers of point `t`. -/
abbrev bufs (t : Fin cfg0.N) : Bufs := ⟨ms0_0 t, hs0_0 t, ms0_1 t, hs0_1 t, ms0_2 t, hs0_2 t, ms0_3 t, hs0_3 t, ms0_4 t, hs0_4 t, Memref.whole cc0_scratch0, Memref.isWhole_whole _⟩

/-- A point's block of the result. -/
theorem outv (t : Fin cfg0.N) (s : Fin 2048) (q : Fin 128) : Frm.out4 m c t (ix2 s q) = O (val (U m c)) (gate (U m c)) (W m c) (B m c) (ix2 s (col t q)) := by
  refine (out_at c (grid0.coords t) (bufs t) (iblk m c 0 t) (iblk m c 1 t) (iblk m c 2 t) (iblk m c 3 t) 8 le_rfl VO0_4 _ s q (by omega)).trans ?_
  refine congrArg₂ (fun a b : EReal => a + b) (blk3 m c t q) (Finset.sum_congr rfl fun k _ => ?_)
  exact congrArg₂ (fun a b : EReal => a * b) (blk2 m c t q k) (G_col (blk0 m c t q) (blk1 m c t q) _)

theorem arr4 : (Frm.dats m 0 c).arrAt 4 cfg0.N = O (val (U m c)) (gate (U m c)) (W m c) (B m c) := by
  refine (Frm.dats m 0 c).arrAt_eq_of_covers 4 _ (by decide +kernel) fun t _ y => ?_
  blk_simp
  idx_vars y
  rw [Frm.after4, emb4]
  exact outv m c t _ _

section
variable (U : FVec Ideal S2048x2560 .f32) (W : FVec Ideal S31x512 .f32) (B : FVec Ideal S1x512 .f32)

theorem sl1 (k : Fin 31) : Cert.GluFwdRefIdeal.S2078x512.Slices ![k.val, 0] S2048x512 := by revert k; decide +kernel
theorem sl2 (k : Fin 31) : S31x512.Slices ![k.val, 0] S1x512 := by revert k; decide +kernel

/-- Tap `k`'s coefficients. -/
def row (k : Fin 31) : FVec Ideal S1x512 .f32 := extractStridedSlice S1x512 ![k.val, 0] W (sl2 k)

/-- Tap `k`'s coefficients without their first axis. -/
def flat (k : Fin 31) : FVec Ideal Cert.GluFwdRefIdeal.S512 .f32 := shapeCast _ (row W k) Cert.GluFwdRefIdeal.Gen.shapeCasts_S1x512_S512

theorem flat_at (k : Fin 31) (i : Cert.GluFwdRefIdeal.S512.Idx) : flat W k i = W (ix2 k (i 0)) := by
  unfold flat
  refine (shapeCast_apply (row W k) Cert.GluFwdRefIdeal.Gen.shapeCasts_S1x512_S512 i (ix2 0 (i 0)) ?_).trans ?_
  · rw [Shape.rowMajor_val_two, Shape.rowMajor_val_one]
    show 0 * 512 + (i 0).val = (i 0).val
    omega
  · pointwise [row]

/-- Tap `k`'s term. -/
def term (g : FVec Ideal Cert.GluFwdRefIdeal.S2078x512 .f32) (k : Fin 31) : FVec Ideal S2048x512 .f32 :=
  mulf (extractStridedSlice S2048x512 ![k.val, 0] g (sl1 k)) (broadcastInDim S2048x512 ![0, 1] Cert.GluFwdRefIdeal.Gen.bcast_S1x512_S2048x512_0_1 (broadcastInDim S1x512 ![1] Cert.GluFwdRefIdeal.Gen.bcast_S512_S1x512_1 (flat W k)))

/-- The terms added one after another. -/
theorem ref_sum : val_main_v228 (F := Ideal) U W = (List.finRange 31).foldl (fun x k => addf x (term W (val_main_v10 (F := Ideal) U) k)) (val_main_v17 (F := Ideal)) := by sl_kernel_rfl

/-- The gated values after 30 rows of zeros. -/
theorem ref_pad (s : Fin 2078) (q : Fin 512) : val_main_v10 (F := Ideal) U (ix2 s q) = G (val U) (gate U) (s.val + 2) q := by
  pointwise [val_main_v10, val_main_v9, val_main_cst_1, val_main_v8, val_main_v7, val_main_v6, val_main_cst_0, val_main_v5, val_main_v4, val_main_cst, val_main_v3, val_main_v2, val_main_v1, val_main_v0]
  unfold G sg val gate
  by_cases h : s.val < 30
  · rw [dif_pos h, dif_neg (by omega)]
  · rw [dif_neg h, dif_pos (by omega)]
    simp only [zero_sub, show s.val + 2 - 32 = s.val - 30 by omega]
    rfl

/-- The reference's result. -/
theorem ref_out (s : Fin 2048) (q : Fin 512) : val_main_v230 (F := Ideal) U W B (ix2 s q) = O (val U) (gate U) W B (ix2 s q) := by
  pointwise [val_main_v230, val_main_v229]
  rw [ref_sum]
  refine (congrArg (· + _) (fold_at _ _ _ _)).trans ?_
  rw [← Fin.sum_univ_def]
  pointwise [term, val_main_v17, val_main_cst_2]
  rw [O, add_comm]
  refine congrArg _ (Finset.sum_congr rfl fun k _ => ?_)
  rw [ref_pad, flat_at, mul_comm]
  exact congrArg (fun u => W (ix2 k q) * G (val U) (gate U) u q) (by show k.val + s.val + 2 = s.val + (k.val + 2); omega)
end

/-- The kernel and the reference's forward lines leave the same array. -/
theorem algebraic : Cert.algebraic_GluFwdIdeal_GluFwdRefIdeal := fun m ρ m' ρ' _ hag =>
  ⟨fun c => O (val (U m c)) (gate (U m c)) (W m c) (B m c),
    (θ_run _ _ _).mono (fun _ h c => ⟨((h.1 c).1 4).trans (arr4 m c), h.2 c⟩)
      (θ_run_and (Frm.run_main m ρ) (frame_of m ρ (Frm.dats m) (Frm.A_eq m) (Frm.run_main m ρ))),
    (θ_run _ _ _).mono (fun _ h c => by
      have e0 : StableHlo.launchContents m' c (Proc.tc.devRef Cert.GluFwdRefIdeal.main_arg0) = U m c := (hag c).1
      have e1 : StableHlo.launchContents m' c (Proc.tc.devRef Cert.GluFwdRefIdeal.main_arg1) = W m c := (hag c).2.1
      have e2 : StableHlo.launchContents m' c (Proc.tc.devRef Cert.GluFwdRefIdeal.main_arg2) = B m c := (hag c).2.2
      refine ⟨(h c).1.trans ?_, (h c).2⟩
      rw [val_main_v230_eq, e0, e1, e2]
      funext j; idx_vars j
      exact ref_out (U m c) (W m c) (B m c) j0 j1)
      (Cert.GluFwdRefIdeal.Value.run m' ρ')⟩

/-- The two programs' texts are the same. -/
theorem frame_bits (m : (ℓ : Loc Cert.GluFwd.nD Cert.GluFwd.τ Cert.GluFwd.sig) → Buf (Elt Bits) ℓ) (g : Dev Cert.GluFwd.nD → PrngReg) :
    θ_run (Cert.GluFwd.defs (F := Bits)) (onTc (τ := Cert.GluFwd.τ) (Cert.GluFwd.main (F := Bits))) ⟨m, fun _ => 0, g⟩ (fun r => (∀ c : Dev Cert.GluFwd.nD,
      r.2.mem ((c.tc : Thread Cert.GluFwd.nD Cert.GluFwd.τ).loc Cert.GluFwd.main_arg0) = m ((c.tc : Thread Cert.GluFwd.nD Cert.GluFwd.τ).loc Cert.GluFwd.main_arg0)
      ∧ r.2.mem ((c.tc : Thread Cert.GluFwd.nD Cert.GluFwd.τ).loc Cert.GluFwd.main_arg1) = m ((c.tc : Thread Cert.GluFwd.nD Cert.GluFwd.τ).loc Cert.GluFwd.main_arg1)
      ∧ r.2.mem ((c.tc : Thread Cert.GluFwd.nD Cert.GluFwd.τ).loc Cert.GluFwd.main_arg2) = m ((c.tc : Thread Cert.GluFwd.nD Cert.GluFwd.τ).loc Cert.GluFwd.main_arg2))
      ∧ r.2.sem = fun _ => 0) :=
  Eq.mp (by sl_kernel_rfl) (Frm.frame (F := Bits) m g)

/-- The reference ends with its arguments unchanged; it declares no semaphore. -/
theorem frame_ref : Cert.quiescent_GluFwdRefIdeal := fun m ρ _ =>
  (θ_run Cert.GluFwdRefIdeal.defs _ _).mono (fun r h => And.intro (fun c => (h c).2) (Idealize.ShloMosaic.sem_eq_zero_of_no_sems (by decide) r.2))
    (Cert.GluFwdRefIdeal.Value.run (F := Ideal) m ρ)

/-- The kernel, its ideal reading and the reference end with their arguments unchanged. -/
theorem frames : Cert.quiescent_GluFwd ∧ Cert.quiescent_GluFwdIdeal ∧ Cert.quiescent_GluFwdRefIdeal :=
  ⟨fun m ρ _ => frame_bits m ρ, fun m ρ _ => Frm.frame m ρ, frame_ref⟩

end Cert.GluFwdTop

end
-- ==== Proof.MatTop.lean ====
/- The claims about the plain products, with a residual and with a transposed weight: they hold of every argument, finite or not. -/
module

public import proofs.«01_k».proof.Defs
public import proofs.«01_k».proof.Proof.Gen.MatRes.Frame
public import proofs.«01_k».proof.Proof.Gen.MatResIdeal.Value
public import proofs.«01_k».proof.Proof.Gen.MatResRefIdeal.Read
public import proofs.«01_k».proof.Proof.Gen.MatNt.Frame
public import proofs.«01_k».proof.Proof.Gen.MatNtIdeal.Value
public import proofs.«01_k».proof.Proof.Gen.MatNtRefIdeal.Read
public import Idealize.ShloMosaic.Lib.Pipeline.ValueKit

@[expose] public section

set_option maxRecDepth 16384

noncomputable section

namespace Cert.MatTop

open Idealize.ShloMosaic Idealize.ShloMosaic.TcCoe Idealize.SL.Sem
open Idealize.ShloMosaic.Pipeline (Dat)

theorem hz : (![0, 0] : Fin 2 → Nat) = fun _ => 0 := funext fun a => by fin_cases a <;> rfl

section
open Cert.MatResIdeal Cert.MatResIdeal.Gen Cert.MatResRefIdeal.Read

variable (m : (ℓ : Loc nD τ sig) → Buf (Elt Ideal) ℓ) (c : Dev nD)

/-- The rows, the weight and the residual, on device `c`. -/
abbrev X : Vec Ideal S2048x2816 .bf16 := m ((c : Thread nD τ).loc main_arg0)
abbrev W : Vec Ideal S2816x1024 .bf16 := m ((c : Thread nD τ).loc main_arg1)
abbrev R : Vec Ideal S2048x1024 .f32 := m ((c : Thread nD τ).loc main_arg2)

/-- The row of the arrays that row `r` of point `t`'s block is. -/
def row (t : Fin cfg0.N) (r : Fin 512) : Fin 2048 := ⟨t.val * 512 + r.val, by have hN : cfg0.N = 4 := N_0; have := t.isLt; omega⟩

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem blk0 (t : Fin cfg0.N) (r : Fin 512) (l : Fin 2816) : iblk m c 0 t (ix2 r l) = X m c (ix2 (row t r) l) := by
  blk_ext [iblk, V, idx t, row]
theorem blk1 (t : Fin cfg0.N) (k : Fin 2816) (l : Fin 1024) : iblk m c 1 t (ix2 k l) = W m c (ix2 k l) := by
  blk_ext [iblk, V, idx t]
theorem blk2 (t : Fin cfg0.N) (r : Fin 512) (l : Fin 1024) : iblk m c 2 t (ix2 r l) = R m c (ix2 (row t r) l) := by
  blk_ext [iblk, V, idx t, row]
theorem emb3 (t : Fin cfg0.N) (r : Fin 512) (l : Fin 1024) : ((cfg0.win 3).blk t).view.emb (ix2 r l : S512x1024.Idx) = (ix2 (row t r) l : S2048x1024.Idx) := by
  blk_ext [idx t, row]

theorem out3 (x0 : Vec Ideal S512x2816 .bf16) (x1 : Vec Ideal S2816x1024 .bf16) (x2 : Vec Ideal S512x1024 .f32) : out0_3 x0 x1 x2 = k0_pay1 x2 x0 x1 := by
  unfold out0_3
  rw [View.canon_unit_zero hz]
  simp only [View.ld_unit_zero (S := S512x2816) hz, View.ld_unit_zero (S := S2816x1024) hz, View.ld_unit_zero (S := S512x1024) hz]

/-- The residual and the product. -/
theorem arr3 : (dats m 0 c).arrAt 3 cfg0.N = val_main_v3 (F := Ideal) (X m c) (W m c) (R m c) := by
  refine (dats m 0 c).arrAt_eq_of_covers 3 _ (by decide +kernel) fun t _ y => ?_
  blk_simp
  idx_vars y
  rw [after0_3, out3, emb3]
  pointwise [k0_pay1, val_main_v3, val_main_v2, val_main_v1, val_main_v0]
  simp only [blk0, blk1, blk2]

/-- The kernel and the reference leave the same array. -/
theorem algebraic_res : Cert.algebraic_MatResIdeal_MatResRefIdeal := fun m ρ m' ρ' _ hag =>
  ⟨fun c => val_main_v3 (F := Ideal) (X m c) (W m c) (R m c),
    (θ_run _ _ _).mono (fun _ h c => ⟨(h c).1.trans (arr3 m c), (h c).2⟩) (Cert.MatResIdeal.Value.run_blocks m ρ),
    (θ_run _ _ _).mono (fun _ h c => by
      refine ⟨(h c).1.trans ?_, (h c).2⟩
      rw [val_main_v3_eq, (hag c).1, (hag c).2.1, (hag c).2.2])
      (Cert.MatResRefIdeal.Value.run m' ρ')⟩

/-- The reference ends with its arguments unchanged; it declares no semaphore. -/
theorem frame_ref_res : Cert.quiescent_MatResRefIdeal := fun m ρ _ =>
  (θ_run Cert.MatResRefIdeal.defs _ _).mono (fun r h => And.intro (fun c => (h c).2) (Idealize.ShloMosaic.sem_eq_zero_of_no_sems (by decide) r.2))
    (Cert.MatResRefIdeal.Value.run (F := Ideal) m ρ)
end

section
open Cert.MatNtIdeal Cert.MatNtIdeal.Gen Cert.MatNtRefIdeal.Read

variable (m : (ℓ : Loc nD τ sig) → Buf (Elt Ideal) ℓ) (c : Dev nD)

/-- The rows and the weight, on device `c`. -/
abbrev Y : Vec Ideal S2048x1024 .f32 := m ((c : Thread nD τ).loc main_arg0)
abbrev U : Vec Ideal S2816x1024 .bf16 := m ((c : Thread nD τ).loc main_arg1)

/-- The row of the arrays that row `r` of point `t`'s block is. -/
def nrow (t : Fin cfg0.N) (r : Fin 512) : Fin 2048 := ⟨t.val * 512 + r.val, by have hN : cfg0.N = 4 := N_0; have := t.isLt; omega⟩

theorem nidx : ∀ t : Fin cfg0.N, win0_0.index t = ![t.val, 0] ∧ win0_1.index t = ![0, 0] ∧ win0_2.index t = ![t.val, 0] :=
  (by decide +kernel : ∀ t : Fin grid0.N, _)

theorem nblk0 (t : Fin cfg0.N) (r : Fin 512) (l : Fin 1024) : iblk m c 0 t (ix2 r l) = Y m c (ix2 (nrow t r) l) := by
  blk_ext [iblk, V, nidx t, nrow]
theorem nblk1 (t : Fin cfg0.N) (k : Fin 2816) (l : Fin 1024) : iblk m c 1 t (ix2 k l) = U m c (ix2 k l) := by
  blk_ext [iblk, V, nidx t]
theorem nemb (t : Fin cfg0.N) (r : Fin 512) (l : Fin 2816) : ((cfg0.win 2).blk t).view.emb (ix2 r l : S512x2816.Idx) = (ix2 (nrow t r) l : S2048x2816.Idx) := by
  blk_ext [nidx t, nrow]

theorem nout (x0 : Vec Ideal S512x1024 .f32) (x1 : Vec Ideal S2816x1024 .bf16) : out0_2 x0 x1 = k0_pay1 x0 x1 := by
  unfold out0_2
  rw [View.canon_unit_zero hz]
  simp only [View.ld_unit_zero (S := S512x1024) hz, View.ld_unit_zero (S := S2816x1024) hz]

/-- The product with the weight's transpose. -/
theorem narr : (dats m 0 c).arrAt 2 cfg0.N = val_main_v3 (F := Ideal) (Y m c) (U m c) := by
  refine (dats m 0 c).arrAt_eq_of_covers 2 _ (by decide +kernel) fun t _ y => ?_
  blk_simp
  idx_vars y
  rw [after0_2, nout, nemb]
  pointwise [k0_pay1, val_main_v3, val_main_v2, val_main_v1, val_main_v0]
  simp only [nblk0, nblk1]

/-- The kernel and the reference leave the same array. -/
theorem algebraic_nt : Cert.algebraic_MatNtIdeal_MatNtRefIdeal := fun m ρ m' ρ' _ hag =>
  ⟨fun c => val_main_v3 (F := Ideal) (Y m c) (U m c),
    (θ_run _ _ _).mono (fun _ h c => ⟨(h c).1.trans (narr m c), (h c).2⟩) (Cert.MatNtIdeal.Value.run_blocks m ρ),
    (θ_run _ _ _).mono (fun _ h c => by
      refine ⟨(h c).1.trans ?_, (h c).2⟩
      rw [val_main_v3_eq, (hag c).1, (hag c).2])
      (Cert.MatNtRefIdeal.Value.run m' ρ')⟩

/-- The reference ends with its arguments unchanged; it declares no semaphore. -/
theorem frame_ref_nt : Cert.quiescent_MatNtRefIdeal := fun m ρ _ =>
  (θ_run Cert.MatNtRefIdeal.defs _ _).mono (fun r h => And.intro (fun c => (h c).2) (Idealize.ShloMosaic.sem_eq_zero_of_no_sems (by decide) r.2))
    (Cert.MatNtRefIdeal.Value.run (F := Ideal) m ρ)
end

end Cert.MatTop

end
-- ==== Proof.AdamTop.lean ====
/- The claims about the optimiser's update of a small weight: they hold of every argument, finite or not. -/
module

public import proofs.«01_k».proof.Defs
public import proofs.«01_k».proof.Proof.Gen.AdamW.Frame
public import proofs.«01_k».proof.Proof.Gen.AdamWIdeal.Value
public import proofs.«01_k».proof.Proof.Gen.AdamWRefIdeal.Read
public import Idealize.ShloMosaic.Lib.Pipeline.ValueKit

@[expose] public section

set_option maxRecDepth 16384

noncomputable section

namespace Cert.AdamTop

open Idealize.ShloMosaic Idealize.ShloMosaic.TcCoe Idealize.SL.Sem Cert.AdamWIdeal Cert.AdamWIdeal.Gen Cert.AdamWRefIdeal.Read
open Idealize.ShloMosaic.Pipeline (Dat)

theorem hz : (![0, 0] : Fin 2 → Nat) = fun _ => 0 := funext fun a => by fin_cases a <;> rfl

variable (m : (ℓ : Loc nD τ sig) → Buf (Elt Ideal) ℓ) (c : Dev nD)

/-- The weight, its gradient and its two moments, on device `c`. -/
abbrev W : Vec Ideal S4x2816 .f32 := m ((c : Thread nD τ).loc main_arg0)
abbrev G : Vec Ideal S4x2816 .f32 := m ((c : Thread nD τ).loc main_arg1)
abbrev M : Vec Ideal S4x2816 .f32 := m ((c : Thread nD τ).loc main_arg2)
abbrev Q : Vec Ideal S4x2816 .f32 := m ((c : Thread nD τ).loc main_arg3)

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

theorem blk0 (t : Fin cfg0.N) (r : Fin 4) (l : Fin 2816) : iblk m c 0 t (ix2 r l) = W m c (ix2 r l) := by blk_ext [iblk, V, idx t]
theorem blk1 (t : Fin cfg0.N) (r : Fin 4) (l : Fin 2816) : iblk m c 1 t (ix2 r l) = G m c (ix2 r l) := by blk_ext [iblk, V, idx t]
theorem blk2 (t : Fin cfg0.N) (r : Fin 4) (l : Fin 2816) : iblk m c 2 t (ix2 r l) = M m c (ix2 r l) := by blk_ext [iblk, V, idx t]
theorem blk3 (t : Fin cfg0.N) (r : Fin 4) (l : Fin 2816) : iblk m c 3 t (ix2 r l) = Q m c (ix2 r l) := by blk_ext [iblk, V, idx t]
theorem emb4 (t : Fin cfg0.N) (r : Fin 4) (l : Fin 2816) : ((cfg0.win 4).blk t).view.emb (ix2 r l : S4x2816.Idx) = (ix2 r l : S4x2816.Idx) := by blk_ext [idx t]
theorem emb5 (t : Fin cfg0.N) (r : Fin 4) (l : Fin 2816) : ((cfg0.win 5).blk t).view.emb (ix2 r l : S4x2816.Idx) = (ix2 r l : S4x2816.Idx) := by blk_ext [idx t]
theorem emb6 (t : Fin cfg0.N) (r : Fin 4) (l : Fin 2816) : ((cfg0.win 6).blk t).view.emb (ix2 r l : S4x2816.Idx) = (ix2 r l : S4x2816.Idx) := by blk_ext [idx t]

section
variable (x0 x1 x2 x3 : Vec Ideal S4x2816 .f32)
theorem out4 : out0_4 x0 x1 x2 x3 = k0_pay3 x0 x1 x2 x3 := by
  unfold out0_4
  rw [View.canon_unit_zero hz]
  simp only [View.ld_unit_zero (S := S4x2816) hz]
theorem out5 : out0_5 x0 x1 x2 x3 = k0_pay1 x1 x2 := by
  unfold out0_5
  rw [View.canon_unit_zero hz]
  simp only [View.ld_unit_zero (S := S4x2816) hz]
theorem out6 : out0_6 x0 x1 x2 x3 = k0_pay2 x1 x3 := by
  unfold out0_6
  rw [View.canon_unit_zero hz]
  simp only [View.ld_unit_zero (S := S4x2816) hz]
end

/-- The step. -/
theorem arr4 : (dats m 0 c).arrAt 4 cfg0.N = val_main_v23 (F := Ideal) (W m c) (G m c) (M m c) (Q m c) := by
  refine (dats m 0 c).arrAt_eq_of_covers 4 _ (by decide +kernel) fun t _ y => ?_
  blk_simp
  idx_vars y
  rw [after0_4, out4, emb4]
  pointwise [k0_pay3, k0_pay2, k0_pay1, val_main_v23, val_main_v22, val_main_v21, val_main_v20, val_main_v19, val_main_v18, val_main_v17, val_main_v16, val_main_v15, val_main_v14, val_main_v13, val_main_v12,
    val_main_v11, val_main_v10, val_main_v9, val_main_v8, val_main_v7, val_main_v6, val_main_v5, val_main_v4, val_main_v3, val_main_v2, val_main_v1, val_main_v0,
    val_main_cst, val_main_cst_0, val_main_cst_1, val_main_cst_2, val_main_cst_3, val_main_cst_4, val_main_cst_5, val_main_cst_6, val_main_cst_7]
  simp only [blk0, blk1, blk2, blk3]

/-- The first moment. -/
theorem arr5 : (dats m 0 c).arrAt 5 cfg0.N = val_main_v4 (F := Ideal) (G m c) (M m c) := by
  refine (dats m 0 c).arrAt_eq_of_covers 5 _ (by decide +kernel) fun t _ y => ?_
  blk_simp
  idx_vars y
  rw [after0_5, out5, emb5]
  pointwise [k0_pay1, val_main_v4, val_main_v3, val_main_v2, val_main_v1, val_main_v0, val_main_cst, val_main_cst_0]
  simp only [blk1, blk2]

/-- The second moment. -/
theorem arr6 : (dats m 0 c).arrAt 6 cfg0.N = val_main_v10 (F := Ideal) (G m c) (Q m c) := by
  refine (dats m 0 c).arrAt_eq_of_covers 6 _ (by decide +kernel) fun t _ y => ?_
  blk_simp
  idx_vars y
  rw [after0_6, out6, emb6]
  pointwise [k0_pay2, val_main_v10, val_main_v9, val_main_v8, val_main_v7, val_main_v6, val_main_v5, val_main_cst_1, val_main_cst_2]
  simp only [blk1, blk3]

/-- The kernel and the reference's update leave the same three arrays. -/
theorem algebraic : Cert.algebraic_AdamWIdeal_AdamWRefIdeal := fun m ρ m' ρ' _ hag =>
  ⟨fun c => val_main_v23 (F := Ideal) (W m c) (G m c) (M m c) (Q m c), fun c => val_main_v4 (F := Ideal) (G m c) (M m c), fun c => val_main_v10 (F := Ideal) (G m c) (Q m c),
    (θ_run _ _ _).mono (fun _ h c => ⟨(h c).1.trans (arr4 m c), (h c).2.1.trans (arr5 m c), (h c).2.2.1.trans (arr6 m c), (h c).2.2.2⟩) (Cert.AdamWIdeal.Value.run_blocks m ρ),
    (θ_run _ _ _).mono (fun _ h c => by
      refine ⟨(h c).1.trans ?_, (h c).2.1.trans ?_, (h c).2.2.1.trans ?_, (h c).2.2.2⟩
      · rw [val_main_v23_eq, (hag c).1, (hag c).2.1, (hag c).2.2.1, (hag c).2.2.2]
      · rw [val_main_v4_eq, (hag c).2.1, (hag c).2.2.1]
      · rw [val_main_v10_eq, (hag c).2.1, (hag c).2.2.2])
      (Cert.AdamWRefIdeal.Value.run m' ρ')⟩

/-- The reference ends with its arguments unchanged; it declares no semaphore. -/
theorem frame_ref : Cert.quiescent_AdamWRefIdeal := fun m ρ _ =>
  (θ_run Cert.AdamWRefIdeal.defs _ _).mono (fun r h => And.intro (fun c => (h c).2.2.2) (Idealize.ShloMosaic.sem_eq_zero_of_no_sems (by decide) r.2))
    (Cert.AdamWRefIdeal.Value.run (F := Ideal) m ρ)

end Cert.AdamTop

end
-- ==== Proof.lean ====
module

public import proofs.«01_k».proof.Proof.LnTop
public import proofs.«01_k».proof.Proof.AttnTop
public import proofs.«01_k».proof.Proof.AttnAlg
public import proofs.«01_k».proof.Proof.RmsTop
public import proofs.«01_k».proof.Proof.LossTop
public import proofs.«01_k».proof.Proof.FfnTop
public import proofs.«01_k».proof.Proof.FfnAlg
public import proofs.«01_k».proof.Proof.GluTop
public import proofs.«01_k».proof.Proof.GluAlg
public import proofs.«01_k».proof.Proof.LnFwdTop
public import proofs.«01_k».proof.Proof.NormUpTop
public import proofs.«01_k».proof.Proof.FfnFwdTop
public import proofs.«01_k».proof.Proof.GluFwdTop
public import proofs.«01_k».proof.Proof.MatTop
public import proofs.«01_k».proof.Proof.AdamTop
public import proofs.«01_k».proof.Proof.Gen.AttnBwd
public import proofs.«01_k».proof.Proof.Gen.AttnBwd.Skeleton
public import proofs.«01_k».proof.Proof.Gen.AttnBwd.Loops
public import proofs.«01_k».proof.Proof.Gen.AttnBwd.Launch
public import proofs.«01_k».proof.Proof.Gen.AttnBwd.Points
public import proofs.«01_k».proof.Proof.Gen.AttnBwd.Frame
public import proofs.«01_k».proof.Proof.Gen.AttnBwdIdeal
public import proofs.«01_k».proof.Proof.Gen.AttnBwdIdeal.Skeleton
public import proofs.«01_k».proof.Proof.Gen.AttnBwdIdeal.Loops
public import proofs.«01_k».proof.Proof.Gen.AttnBwdIdeal.Launch
public import proofs.«01_k».proof.Proof.Gen.AttnBwdIdeal.Points
public import proofs.«01_k».proof.Proof.Gen.AttnBwdIdeal.Frame
public import proofs.«01_k».proof.Proof.Gen.AttnBwdRefIdeal
public import proofs.«01_k».proof.Proof.Gen.AttnBwdRefIdeal.Run
public import proofs.«01_k».proof.Proof.Gen.AttnBwdRefIdeal.Read
public import proofs.«01_k».proof.Proof.Gen.LnSilu
public import proofs.«01_k».proof.Proof.Gen.LnSilu.Skeleton
public import proofs.«01_k».proof.Proof.Gen.LnSilu.Launch
public import proofs.«01_k».proof.Proof.Gen.LnSilu.Points
public import proofs.«01_k».proof.Proof.Gen.LnSilu.Frame
public import proofs.«01_k».proof.Proof.Gen.LnSiluIdeal
public import proofs.«01_k».proof.Proof.Gen.LnSiluIdeal.Skeleton
public import proofs.«01_k».proof.Proof.Gen.LnSiluIdeal.Launch
public import proofs.«01_k».proof.Proof.Gen.LnSiluIdeal.Points
public import proofs.«01_k».proof.Proof.Gen.LnSiluIdeal.Frame
public import proofs.«01_k».proof.Proof.Gen.LnSiluIdeal.Value
public import proofs.«01_k».proof.Proof.Gen.LnSiluRefIdeal
public import proofs.«01_k».proof.Proof.Gen.LnSiluRefIdeal.Run
public import proofs.«01_k».proof.Proof.Gen.LnSiluRefIdeal.Read
public import proofs.«01_k».proof.Proof.Gen.Pre_attn_finite
public import proofs.«01_k».proof.Proof.Gen.Pre_ln_silu_finite
public import proofs.«01_k».proof.Proof.Gen.Rms2
public import proofs.«01_k».proof.Proof.Gen.Rms2.Skeleton
public import proofs.«01_k».proof.Proof.Gen.Rms2.Launch
public import proofs.«01_k».proof.Proof.Gen.Rms2.Points
public import proofs.«01_k».proof.Proof.Gen.Rms2.Frame
public import proofs.«01_k».proof.Proof.Gen.Rms2Ideal
public import proofs.«01_k».proof.Proof.Gen.Rms2Ideal.Skeleton
public import proofs.«01_k».proof.Proof.Gen.Rms2Ideal.Launch
public import proofs.«01_k».proof.Proof.Gen.Rms2Ideal.Points
public import proofs.«01_k».proof.Proof.Gen.Rms2Ideal.Frame
public import proofs.«01_k».proof.Proof.Gen.Rms2Ideal.Value
public import proofs.«01_k».proof.Proof.Gen.Rms2RefIdeal
public import proofs.«01_k».proof.Proof.Gen.Rms2RefIdeal.Run
public import proofs.«01_k».proof.Proof.Gen.Rms2RefIdeal.Read
public import proofs.«01_k».proof.Proof.Gen.Rms5
public import proofs.«01_k».proof.Proof.Gen.Rms5.Skeleton
public import proofs.«01_k».proof.Proof.Gen.Rms5.Launch
public import proofs.«01_k».proof.Proof.Gen.Rms5.Points
public import proofs.«01_k».proof.Proof.Gen.Rms5.Frame
public import proofs.«01_k».proof.Proof.Gen.Rms5Ideal
public import proofs.«01_k».proof.Proof.Gen.Rms5Ideal.Skeleton
public import proofs.«01_k».proof.Proof.Gen.Rms5Ideal.Launch
public import proofs.«01_k».proof.Proof.Gen.Rms5Ideal.Points
public import proofs.«01_k».proof.Proof.Gen.Rms5Ideal.Frame
public import proofs.«01_k».proof.Proof.Gen.Rms5Ideal.Value
public import proofs.«01_k».proof.Proof.Gen.Rms5RefIdeal
public import proofs.«01_k».proof.Proof.Gen.Rms5RefIdeal.Run
public import proofs.«01_k».proof.Proof.Gen.Rms5RefIdeal.Read
public import proofs.«01_k».proof.Proof.Gen.LossGrad
public import proofs.«01_k».proof.Proof.Gen.LossGrad.Skeleton
public import proofs.«01_k».proof.Proof.Gen.LossGrad.Launch
public import proofs.«01_k».proof.Proof.Gen.LossGrad.Points
public import proofs.«01_k».proof.Proof.Gen.LossGrad.Frame
public import proofs.«01_k».proof.Proof.Gen.LossGradIdeal
public import proofs.«01_k».proof.Proof.Gen.LossGradIdeal.Skeleton
public import proofs.«01_k».proof.Proof.Gen.LossGradIdeal.Launch
public import proofs.«01_k».proof.Proof.Gen.LossGradIdeal.Points
public import proofs.«01_k».proof.Proof.Gen.LossGradIdeal.Frame
public import proofs.«01_k».proof.Proof.Gen.LossGradRefIdeal
public import proofs.«01_k».proof.Proof.Gen.LossGradRefIdeal.Run
public import proofs.«01_k».proof.Proof.Gen.LossGradRefIdeal.Read
public import proofs.«01_k».proof.Proof.Gen.Pre_rms2_finite
public import proofs.«01_k».proof.Proof.Gen.Pre_rms5_finite
public import proofs.«01_k».proof.Proof.Gen.Pre_ffn_finite
public import proofs.«01_k».proof.Proof.Gen.LossGradIdeal.Value
public import proofs.«01_k».proof.Proof.Gen.FfnAct
public import proofs.«01_k».proof.Proof.Gen.FfnAct.Skeleton
public import proofs.«01_k».proof.Proof.Gen.FfnAct.Loops
public import proofs.«01_k».proof.Proof.Gen.FfnAct.Launch
public import proofs.«01_k».proof.Proof.Gen.FfnAct.Points
public import proofs.«01_k».proof.Proof.Gen.FfnAct.Frame
public import proofs.«01_k».proof.Proof.Gen.FfnActIdeal
public import proofs.«01_k».proof.Proof.Gen.FfnActIdeal.Skeleton
public import proofs.«01_k».proof.Proof.Gen.FfnActIdeal.Loops
public import proofs.«01_k».proof.Proof.Gen.FfnActIdeal.Launch
public import proofs.«01_k».proof.Proof.Gen.FfnActIdeal.Points
public import proofs.«01_k».proof.Proof.Gen.FfnActIdeal.Frame
public import proofs.«01_k».proof.Proof.Gen.FfnActRefIdeal
public import proofs.«01_k».proof.Proof.Gen.FfnActRefIdeal.Run
public import proofs.«01_k».proof.Proof.Gen.FfnActRefIdeal.Read
public import proofs.«01_k».proof.Proof.Gen.GluConv
public import proofs.«01_k».proof.Proof.Gen.GluConv.Skeleton
public import proofs.«01_k».proof.Proof.Gen.GluConv.Loops
public import proofs.«01_k».proof.Proof.Gen.GluConv.Launch
public import proofs.«01_k».proof.Proof.Gen.GluConv.Points
public import proofs.«01_k».proof.Proof.Gen.GluConv.Frame
public import proofs.«01_k».proof.Proof.Gen.GluConvIdeal
public import proofs.«01_k».proof.Proof.Gen.GluConvIdeal.Skeleton
public import proofs.«01_k».proof.Proof.Gen.GluConvIdeal.Loops
public import proofs.«01_k».proof.Proof.Gen.GluConvIdeal.Launch
public import proofs.«01_k».proof.Proof.Gen.GluConvIdeal.Points
public import proofs.«01_k».proof.Proof.Gen.GluConvIdeal.Frame
public import proofs.«01_k».proof.Proof.Gen.GluConvRefIdeal
public import proofs.«01_k».proof.Proof.Gen.GluConvRefIdeal.Run
public import proofs.«01_k».proof.Proof.Gen.GluConvRefIdeal.Read
public import proofs.«01_k».proof.Proof.Gen.LnFwd
public import proofs.«01_k».proof.Proof.Gen.LnFwd.Skeleton
public import proofs.«01_k».proof.Proof.Gen.LnFwd.Launch
public import proofs.«01_k».proof.Proof.Gen.LnFwd.Points
public import proofs.«01_k».proof.Proof.Gen.LnFwd.Frame
public import proofs.«01_k».proof.Proof.Gen.LnFwdIdeal
public import proofs.«01_k».proof.Proof.Gen.LnFwdIdeal.Skeleton
public import proofs.«01_k».proof.Proof.Gen.LnFwdIdeal.Launch
public import proofs.«01_k».proof.Proof.Gen.LnFwdIdeal.Points
public import proofs.«01_k».proof.Proof.Gen.LnFwdIdeal.Frame
public import proofs.«01_k».proof.Proof.Gen.LnFwdIdeal.Value
public import proofs.«01_k».proof.Proof.Gen.LnFwdRefIdeal
public import proofs.«01_k».proof.Proof.Gen.LnFwdRefIdeal.Run
public import proofs.«01_k».proof.Proof.Gen.LnFwdRefIdeal.Read
public import proofs.«01_k».proof.Proof.Gen.NormUp
public import proofs.«01_k».proof.Proof.Gen.NormUp.Skeleton
public import proofs.«01_k».proof.Proof.Gen.NormUp.Launch
public import proofs.«01_k».proof.Proof.Gen.NormUp.Points
public import proofs.«01_k».proof.Proof.Gen.NormUp.Frame
public import proofs.«01_k».proof.Proof.Gen.NormUpIdeal
public import proofs.«01_k».proof.Proof.Gen.NormUpIdeal.Skeleton
public import proofs.«01_k».proof.Proof.Gen.NormUpIdeal.Launch
public import proofs.«01_k».proof.Proof.Gen.NormUpIdeal.Points
public import proofs.«01_k».proof.Proof.Gen.NormUpIdeal.Frame
public import proofs.«01_k».proof.Proof.Gen.NormUpIdeal.Value
public import proofs.«01_k».proof.Proof.Gen.NormUpRefIdeal
public import proofs.«01_k».proof.Proof.Gen.NormUpRefIdeal.Run
public import proofs.«01_k».proof.Proof.Gen.NormUpRefIdeal.Read
public import proofs.«01_k».proof.Proof.Gen.FfnFwd
public import proofs.«01_k».proof.Proof.Gen.FfnFwd.Skeleton
public import proofs.«01_k».proof.Proof.Gen.FfnFwd.Loops
public import proofs.«01_k».proof.Proof.Gen.FfnFwd.Launch
public import proofs.«01_k».proof.Proof.Gen.FfnFwd.Points
public import proofs.«01_k».proof.Proof.Gen.FfnFwdIdeal
public import proofs.«01_k».proof.Proof.Gen.FfnFwdIdeal.Skeleton
public import proofs.«01_k».proof.Proof.Gen.FfnFwdIdeal.Loops
public import proofs.«01_k».proof.Proof.Gen.FfnFwdIdeal.Launch
public import proofs.«01_k».proof.Proof.Gen.FfnFwdIdeal.Points
public import proofs.«01_k».proof.Proof.Gen.FfnFwdRefIdeal
public import proofs.«01_k».proof.Proof.Gen.FfnFwdRefIdeal.Run
public import proofs.«01_k».proof.Proof.Gen.FfnFwdRefIdeal.Read
public import proofs.«01_k».proof.Proof.Gen.GluFwd
public import proofs.«01_k».proof.Proof.Gen.GluFwd.Skeleton
public import proofs.«01_k».proof.Proof.Gen.GluFwd.Loops
public import proofs.«01_k».proof.Proof.Gen.GluFwd.Launch
public import proofs.«01_k».proof.Proof.Gen.GluFwd.Points
public import proofs.«01_k».proof.Proof.Gen.GluFwdIdeal
public import proofs.«01_k».proof.Proof.Gen.GluFwdIdeal.Skeleton
public import proofs.«01_k».proof.Proof.Gen.GluFwdIdeal.Loops
public import proofs.«01_k».proof.Proof.Gen.GluFwdIdeal.Launch
public import proofs.«01_k».proof.Proof.Gen.GluFwdIdeal.Points
public import proofs.«01_k».proof.Proof.Gen.GluFwdRefIdeal
public import proofs.«01_k».proof.Proof.Gen.GluFwdRefIdeal.Run
public import proofs.«01_k».proof.Proof.Gen.GluFwdRefIdeal.Read
public import proofs.«01_k».proof.Proof.Gen.MatRes
public import proofs.«01_k».proof.Proof.Gen.MatRes.Skeleton
public import proofs.«01_k».proof.Proof.Gen.MatRes.Launch
public import proofs.«01_k».proof.Proof.Gen.MatRes.Points
public import proofs.«01_k».proof.Proof.Gen.MatRes.Frame
public import proofs.«01_k».proof.Proof.Gen.MatResIdeal
public import proofs.«01_k».proof.Proof.Gen.MatResIdeal.Skeleton
public import proofs.«01_k».proof.Proof.Gen.MatResIdeal.Launch
public import proofs.«01_k».proof.Proof.Gen.MatResIdeal.Points
public import proofs.«01_k».proof.Proof.Gen.MatResIdeal.Frame
public import proofs.«01_k».proof.Proof.Gen.MatResIdeal.Value
public import proofs.«01_k».proof.Proof.Gen.MatResRefIdeal
public import proofs.«01_k».proof.Proof.Gen.MatResRefIdeal.Run
public import proofs.«01_k».proof.Proof.Gen.MatResRefIdeal.Read
public import proofs.«01_k».proof.Proof.Gen.MatNt
public import proofs.«01_k».proof.Proof.Gen.MatNt.Skeleton
public import proofs.«01_k».proof.Proof.Gen.MatNt.Launch
public import proofs.«01_k».proof.Proof.Gen.MatNt.Points
public import proofs.«01_k».proof.Proof.Gen.MatNt.Frame
public import proofs.«01_k».proof.Proof.Gen.MatNtIdeal
public import proofs.«01_k».proof.Proof.Gen.MatNtIdeal.Skeleton
public import proofs.«01_k».proof.Proof.Gen.MatNtIdeal.Launch
public import proofs.«01_k».proof.Proof.Gen.MatNtIdeal.Points
public import proofs.«01_k».proof.Proof.Gen.MatNtIdeal.Frame
public import proofs.«01_k».proof.Proof.Gen.MatNtIdeal.Value
public import proofs.«01_k».proof.Proof.Gen.MatNtRefIdeal
public import proofs.«01_k».proof.Proof.Gen.MatNtRefIdeal.Run
public import proofs.«01_k».proof.Proof.Gen.MatNtRefIdeal.Read
public import proofs.«01_k».proof.Proof.Gen.AdamW
public import proofs.«01_k».proof.Proof.Gen.AdamW.Skeleton
public import proofs.«01_k».proof.Proof.Gen.AdamW.Launch
public import proofs.«01_k».proof.Proof.Gen.AdamW.Points
public import proofs.«01_k».proof.Proof.Gen.AdamW.Frame
public import proofs.«01_k».proof.Proof.Gen.AdamWIdeal
public import proofs.«01_k».proof.Proof.Gen.AdamWIdeal.Skeleton
public import proofs.«01_k».proof.Proof.Gen.AdamWIdeal.Launch
public import proofs.«01_k».proof.Proof.Gen.AdamWIdeal.Points
public import proofs.«01_k».proof.Proof.Gen.AdamWIdeal.Frame
public import proofs.«01_k».proof.Proof.Gen.AdamWIdeal.Value
public import proofs.«01_k».proof.Proof.Gen.AdamWRefIdeal
public import proofs.«01_k».proof.Proof.Gen.AdamWRefIdeal.Run
public import proofs.«01_k».proof.Proof.Gen.AdamWRefIdeal.Read

@[expose] public section

noncomputable section

namespace Cert.Proof

theorem claim : Cert.Claim :=
  ⟨Cert.AttnBwd.Gen.facts, Cert.AttnBwdIdeal.Gen.facts, Cert.AttnBwdRefIdeal.Gen.facts, Cert.LnSilu.Gen.facts, Cert.LnSiluIdeal.Gen.facts, Cert.LnSiluRefIdeal.Gen.facts,
    Cert.Rms2.Gen.facts, Cert.Rms2Ideal.Gen.facts, Cert.Rms2RefIdeal.Gen.facts, Cert.Rms5.Gen.facts, Cert.Rms5Ideal.Gen.facts, Cert.Rms5RefIdeal.Gen.facts,
    Cert.LossGrad.Gen.facts, Cert.LossGradIdeal.Gen.facts, Cert.LossGradRefIdeal.Gen.facts, Cert.FfnAct.Gen.facts, Cert.FfnActIdeal.Gen.facts, Cert.FfnActRefIdeal.Gen.facts,
    Cert.GluConv.Gen.facts, Cert.GluConvIdeal.Gen.facts, Cert.GluConvRefIdeal.Gen.facts,
    Cert.LnFwd.Gen.facts, Cert.LnFwdIdeal.Gen.facts, Cert.LnFwdRefIdeal.Gen.facts, Cert.NormUp.Gen.facts, Cert.NormUpIdeal.Gen.facts, Cert.NormUpRefIdeal.Gen.facts,
    Cert.FfnFwd.Gen.facts, Cert.FfnFwdIdeal.Gen.facts, Cert.FfnFwdRefIdeal.Gen.facts, Cert.GluFwd.Gen.facts, Cert.GluFwdIdeal.Gen.facts, Cert.GluFwdRefIdeal.Gen.facts,
    Cert.MatRes.Gen.facts, Cert.MatResIdeal.Gen.facts, Cert.MatResRefIdeal.Gen.facts, Cert.MatNt.Gen.facts, Cert.MatNtIdeal.Gen.facts, Cert.MatNtRefIdeal.Gen.facts,
    Cert.AdamW.Gen.facts, Cert.AdamWIdeal.Gen.facts, Cert.AdamWRefIdeal.Gen.facts,
    Cert.Pre_attn_finite.Gen.facts, Cert.Pre_ln_silu_finite.Gen.facts, Cert.Pre_rms2_finite.Gen.facts, Cert.Pre_rms5_finite.Gen.facts, Cert.Pre_ffn_finite.Gen.facts,
    Cert.AttnTop.frames.1, Cert.AttnTop.frames.2.1, fun m ρ _ => Cert.AttnTop.frames.2.1 m ρ trivial, Cert.AttnTop.frames.2.2, fun m ρ _ => Cert.AttnTop.frames.2.2 m ρ trivial,
    Cert.LnTop.frames.1, Cert.LnTop.frames.2.1, Cert.LnTop.frames.2.2.1, Cert.LnTop.frames.2.2.2.1, Cert.LnTop.frames.2.2.2.2,
    fun m ρ _ => Cert.Rms2.Gen.frame m ρ, fun m ρ _ => Cert.Rms2Ideal.Gen.frame m ρ, fun m ρ _ => Cert.Rms2Ideal.Gen.frame m ρ,
    Cert.Rms2Top.frame_ref, fun m ρ _ => Cert.Rms2Top.frame_ref m ρ trivial,
    fun m ρ _ => Cert.Rms5.Gen.frame m ρ, fun m ρ _ => Cert.Rms5Ideal.Gen.frame m ρ, fun m ρ _ => Cert.Rms5Ideal.Gen.frame m ρ,
    Cert.Rms5Top.frame_ref, fun m ρ _ => Cert.Rms5Top.frame_ref m ρ trivial,
    fun m ρ _ => Cert.LossGrad.Gen.frame m ρ, fun m ρ _ => Cert.LossGradIdeal.Gen.frame m ρ, Cert.LossTop.frame_ref,
    Cert.FfnTop.frames.1, Cert.FfnTop.frames.2.1, fun m ρ _ => Cert.FfnTop.frames.2.1 m ρ trivial, Cert.FfnTop.frames.2.2, fun m ρ _ => Cert.FfnTop.frames.2.2 m ρ trivial,
    Cert.GluTop.frames.1, Cert.GluTop.frames.2.1, Cert.GluTop.frames.2.2,
    fun m ρ _ => Cert.LnFwd.Gen.frame m ρ, fun m ρ _ => Cert.LnFwdIdeal.Gen.frame m ρ, Cert.LnFwdTop.frame_ref,
    fun m ρ _ => Cert.NormUp.Gen.frame m ρ, fun m ρ _ => Cert.NormUpIdeal.Gen.frame m ρ, Cert.NormUpTop.frame_ref,
    Cert.FfnFwdTop.frames.1, Cert.FfnFwdTop.frames.2.1, Cert.FfnFwdTop.frames.2.2, Cert.GluFwdTop.frames.1, Cert.GluFwdTop.frames.2.1, Cert.GluFwdTop.frames.2.2,
    fun m ρ _ => Cert.MatRes.Gen.frame m ρ, fun m ρ _ => Cert.MatResIdeal.Gen.frame m ρ, Cert.MatTop.frame_ref_res,
    fun m ρ _ => Cert.MatNt.Gen.frame m ρ, fun m ρ _ => Cert.MatNtIdeal.Gen.frame m ρ, Cert.MatTop.frame_ref_nt,
    fun m ρ _ => Cert.AdamW.Gen.frame m ρ, fun m ρ _ => Cert.AdamWIdeal.Gen.frame m ρ, Cert.AdamTop.frame_ref,
    trivial, Cert.AttnAlg.algebraic, trivial, Cert.LnTop.algebraic, trivial, Cert.Rms2Top.algebraic, trivial, Cert.Rms5Top.algebraic, trivial, Cert.LossTop.algebraic, trivial, Cert.FfnAlg.algebraic, trivial, Cert.GluAlg.algebraic,
    trivial, Cert.LnFwdTop.algebraic, trivial, Cert.NormUpTop.algebraic, trivial, Cert.FfnFwdTop.algebraic, trivial, Cert.GluFwdTop.algebraic,
    trivial, Cert.MatTop.algebraic_res, trivial, Cert.MatTop.algebraic_nt, trivial, Cert.AdamTop.algebraic⟩

end Cert.Proof

end
